-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_targets_in_vocab [hPre_targets_in_vocab : Cert.Pre_targets_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_targets_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_targets_in_vocab [hPre_targets_in_vocab : Cert.Pre_targets_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_targets_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Front [hPre_tokens_in_vocab : Cert.Pre_tokens_in_vocab.Facts] (m : (ℓ : Loc Cert.Front.nD Cert.Front.τ Cert.Front.sig) → Buf (Elt Bits) ℓ) : Prop :=
  ∀ c : Dev Cert.Front.nD,
    (Cert.Pre_tokens_in_vocab.fn (F := Bits) (m ((c.tc : Thread Cert.Front.nD Cert.Front.τ).loc Cert.Front.main_arg0)) (m ((c.tc : Thread Cert.Front.nD Cert.Front.τ).loc Cert.Front.main_arg1)) (m ((c.tc : Thread Cert.Front.nD Cert.Front.τ).loc Cert.Front.main_arg2)) (m ((c.tc : Thread Cert.Front.nD Cert.Front.τ).loc Cert.Front.main_arg3)) (m ((c.tc : Thread Cert.Front.nD Cert.Front.τ).loc Cert.Front.main_arg4)) (m ((c.tc : Thread Cert.Front.nD Cert.Front.τ).loc Cert.Front.main_arg5)) (m ((c.tc : Thread Cert.Front.nD Cert.Front.τ).loc Cert.Front.main_arg6)) (m ((c.tc : Thread Cert.Front.nD Cert.Front.τ).loc Cert.Front.main_arg7)) (m ((c.tc : Thread Cert.Front.nD Cert.Front.τ).loc Cert.Front.main_arg8))) = (fun _ => 1#1)

def Pre_FrontIdeal [hPre_tokens_in_vocab : Cert.Pre_tokens_in_vocab.Facts] (m : (ℓ : Loc Cert.FrontIdeal.nD Cert.FrontIdeal.τ Cert.FrontIdeal.sig) → Buf (Elt Ideal) ℓ) : Prop :=
  ∀ c : Dev Cert.FrontIdeal.nD,
    (Cert.Pre_tokens_in_vocab.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6)) (m ((c.tc : Thread Cert.FrontIdeal.nD Cert.FrontIdeal.τ).loc Cert.FrontIdeal.main_arg7)) (m ((c.tc : Thread Cert.FrontIdeal.nD Cert.FrontIdeal.τ).loc Cert.FrontIdeal.main_arg8))) = (fun _ => 1#1)

def Pre_FrontIdeal_tokens_in_vocab_and_norms_bounded [hPre_tokens_in_vocab_and_norms_bounded : Cert.Pre_tokens_in_vocab_and_norms_bounded.Facts] (m : (ℓ : Loc Cert.FrontIdeal.nD Cert.FrontIdeal.τ Cert.FrontIdeal.sig) → Buf (Elt Ideal) ℓ) : Prop :=
  ∀ c : Dev Cert.FrontIdeal.nD,
    (Cert.Pre_tokens_in_vocab_and_norms_bounded.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6)) (m ((c.tc : Thread Cert.FrontIdeal.nD Cert.FrontIdeal.τ).loc Cert.FrontIdeal.main_arg7)) (m ((c.tc : Thread Cert.FrontIdeal.nD Cert.FrontIdeal.τ).loc Cert.FrontIdeal.main_arg8))) = (fun _ => 1#1)

def Pre_FrontReferenceIdeal (m : (ℓ : Loc Cert.FrontReferenceIdeal.nD Cert.FrontReferenceIdeal.τ Cert.FrontReferenceIdeal.sig) → Buf (Elt Ideal) ℓ) : Prop :=
  True

def Pre_FrontReferenceIdeal_tokens_in_vocab_and_norms_bounded [hPre_tokens_in_vocab_and_norms_bounded : Cert.Pre_tokens_in_vocab_and_norms_bounded.Facts] (m : (ℓ : Loc Cert.FrontReferenceIdeal.nD Cert.FrontReferenceIdeal.τ Cert.FrontReferenceIdeal.sig) → Buf (Elt Ideal) ℓ) : Prop :=
  ∀ c : Dev Cert.FrontReferenceIdeal.nD,
    (Cert.Pre_tokens_in_vocab_and_norms_bounded.fn (F := Ideal) (m ((c.tc : Thread Cert.FrontReferenceIdeal.nD Cert.FrontReferenceIdeal.τ).loc Cert.FrontReferenceIdeal.main_arg0)) (m ((c.tc : Thread Cert.FrontReferenceIdeal.nD Cert.FrontReferenceIdeal.τ).loc Cert.FrontReferenceIdeal.main_arg1)) (m ((c.tc : Thread Cert.FrontReferenceIdeal.nD Cert.FrontReferenceIdeal.τ).loc Cert.FrontReferenceIdeal.main_arg2)) (m ((c.tc : Thread Cert.FrontReferenceIdeal.nD Cert.FrontReferenceIdeal.τ).loc Cert.FrontReferenceIdeal.main_arg3)) (m ((c.tc : Thread Cert.FrontReferenceIdeal.nD Cert.FrontReferenceIdeal.τ).loc Cert.FrontReferenceIdeal.main_arg4)) (m ((c.tc : Thread Cert.FrontReferenceIdeal.nD Cert.FrontReferenceIdeal.τ).loc Cert.FrontReferenceIdeal.main_arg5)) (m ((c.tc : Thread Cert.FrontReferenceIdeal.nD Cert.FrontReferenceIdeal.τ).loc Cert.FrontReferenceIdeal.main_arg6)) (m ((c.tc : Thread Cert.FrontReferenceIdeal.nD Cert.FrontReferenceIdeal.τ).loc Cert.FrontReferenceIdeal.main_arg7)) (m ((c.tc : Thread Cert.FrontReferenceIdeal.nD Cert.FrontReferenceIdeal.τ).loc Cert.FrontReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_targets_in_vocab [hKernelIdeal : Cert.KernelIdeal.Facts] [hPre_targets_in_vocab : Cert.Pre_targets_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_targets_in_vocab m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_targets_in_vocab [hReferenceIdeal : Cert.ReferenceIdeal.Facts] [hPre_targets_in_vocab : Cert.Pre_targets_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_targets_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Front [hFront : Cert.Front.Facts] [hPre_tokens_in_vocab : Cert.Pre_tokens_in_vocab.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5)
      ∧ r.2.mem ((c.tc : Thread Cert.Front.nD Cert.Front.τ).loc Cert.Front.main_arg6) = m ((c.tc : Thread Cert.Front.nD Cert.Front.τ).loc Cert.Front.main_arg6)
      ∧ r.2.mem ((c.tc : Thread Cert.Front.nD Cert.Front.τ).loc Cert.Front.main_arg7) = m ((c.tc : Thread Cert.Front.nD Cert.Front.τ).loc Cert.Front.main_arg7)
      ∧ r.2.mem ((c.tc : Thread Cert.Front.nD Cert.Front.τ).loc Cert.Front.main_arg8) = m ((c.tc : Thread Cert.Front.nD Cert.Front.τ).loc Cert.Front.main_arg8))
      ∧ r.2.sem = fun _ => 0)

def quiescent_FrontIdeal [hFrontIdeal : Cert.FrontIdeal.Facts] [hPre_tokens_in_vocab : Cert.Pre_tokens_in_vocab.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
      ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8))
      ∧ r.2.sem = fun _ => 0)

def quiescent_FrontIdeal_pre_tokens_in_vocab_and_norms_bounded [hFrontIdeal : Cert.FrontIdeal.Facts] [hPre_tokens_in_vocab_and_norms_bounded : Cert.Pre_tokens_in_vocab_and_norms_bounded.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal_tokens_in_vocab_and_norms_bounded m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
      ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8))
      ∧ r.2.sem = fun _ => 0)

def quiescent_FrontReferenceIdeal [hFrontReferenceIdeal : Cert.FrontReferenceIdeal.Facts] : Prop :=
  ∀ (m : (ℓ : Loc Cert.FrontReferenceIdeal.nD Cert.FrontReferenceIdeal.τ Cert.FrontReferenceIdeal.sig) → Buf (Elt Ideal) ℓ) (g : Dev Cert.FrontReferenceIdeal.nD → PrngReg), Pre_FrontReferenceIdeal m →
    θ_run (Cert.FrontReferenceIdeal.defs (F := Ideal)) (onTc (τ := Cert.FrontReferenceIdeal.τ) (Cert.FrontReferenceIdeal.main (F := Ideal))) ⟨m, fun _ => 0, g⟩ (fun r => (∀ c : Dev Cert.FrontReferenceIdeal.nD,
      r.2.mem ((c.tc : Thread Cert.FrontReferenceIdeal.nD Cert.FrontReferenceIdeal.τ).loc Cert.FrontReferenceIdeal.main_arg0) = m ((c.tc : Thread Cert.FrontReferenceIdeal.nD Cert.FrontReferenceIdeal.τ).loc Cert.FrontReferenceIdeal.main_arg0)
      ∧ r.2.mem ((c.tc : Thread Cert.FrontReferenceIdeal.nD Cert.FrontReferenceIdeal.τ).loc Cert.FrontReferenceIdeal.main_arg1) = m ((c.tc : Thread Cert.FrontReferenceIdeal.nD Cert.FrontReferenceIdeal.τ).loc Cert.FrontReferenceIdeal.main_arg1)
      ∧ r.2.mem ((c.tc : Thread Cert.FrontReferenceIdeal.nD Cert.FrontReferenceIdeal.τ).loc Cert.FrontReferenceIdeal.main_arg2) = m ((c.tc : Thread Cert.FrontReferenceIdeal.nD Cert.FrontReferenceIdeal.τ).loc Cert.FrontReferenceIdeal.main_arg2)
      ∧ r.2.mem ((c.tc : Thread Cert.FrontReferenceIdeal.nD Cert.FrontReferenceIdeal.τ).loc Cert.FrontReferenceIdeal.main_arg3) = m ((c.tc : Thread Cert.FrontReferenceIdeal.nD Cert.FrontReferenceIdeal.τ).loc Cert.FrontReferenceIdeal.main_arg3)
      ∧ r.2.mem ((c.tc : Thread Cert.FrontReferenceIdeal.nD Cert.FrontReferenceIdeal.τ).loc Cert.FrontReferenceIdeal.main_arg4) = m ((c.tc : Thread Cert.FrontReferenceIdeal.nD Cert.FrontReferenceIdeal.τ).loc Cert.FrontReferenceIdeal.main_arg4)
      ∧ r.2.mem ((c.tc : Thread Cert.FrontReferenceIdeal.nD Cert.FrontReferenceIdeal.τ).loc Cert.FrontReferenceIdeal.main_arg5) = m ((c.tc : Thread Cert.FrontReferenceIdeal.nD Cert.FrontReferenceIdeal.τ).loc Cert.FrontReferenceIdeal.main_arg5)
      ∧ r.2.mem ((c.tc : Thread Cert.FrontReferenceIdeal.nD Cert.FrontReferenceIdeal.τ).loc Cert.FrontReferenceIdeal.main_arg6) = m ((c.tc : Thread Cert.FrontReferenceIdeal.nD Cert.FrontReferenceIdeal.τ).loc Cert.FrontReferenceIdeal.main_arg6)
      ∧ r.2.mem ((c.tc : Thread Cert.FrontReferenceIdeal.nD Cert.FrontReferenceIdeal.τ).loc Cert.FrontReferenceIdeal.main_arg7) = m ((c.tc : Thread Cert.FrontReferenceIdeal.nD Cert.FrontReferenceIdeal.τ).loc Cert.FrontReferenceIdeal.main_arg7)
      ∧ r.2.mem ((c.tc : Thread Cert.FrontReferenceIdeal.nD Cert.FrontReferenceIdeal.τ).loc Cert.FrontReferenceIdeal.main_arg8) = m ((c.tc : Thread Cert.FrontReferenceIdeal.nD Cert.FrontReferenceIdeal.τ).loc Cert.FrontReferenceIdeal.main_arg8))
      ∧ r.2.sem = fun _ => 0)

def quiescent_FrontReferenceIdeal_pre_tokens_in_vocab_and_norms_bounded [hFrontReferenceIdeal : Cert.FrontReferenceIdeal.Facts] [hPre_tokens_in_vocab_and_norms_bounded : Cert.Pre_tokens_in_vocab_and_norms_bounded.Facts] : Prop :=
  ∀ (m : (ℓ : Loc Cert.FrontReferenceIdeal.nD Cert.FrontReferenceIdeal.τ Cert.FrontReferenceIdeal.sig) → Buf (Elt Ideal) ℓ) (g : Dev Cert.FrontReferenceIdeal.nD → PrngReg), Pre_FrontReferenceIdeal_tokens_in_vocab_and_norms_bounded m →
    θ_run (Cert.FrontReferenceIdeal.defs (F := Ideal)) (onTc (τ := Cert.FrontReferenceIdeal.τ) (Cert.FrontReferenceIdeal.main (F := Ideal))) ⟨m, fun _ => 0, g⟩ (fun r => (∀ c : Dev Cert.FrontReferenceIdeal.nD,
      r.2.mem ((c.tc : Thread Cert.FrontReferenceIdeal.nD Cert.FrontReferenceIdeal.τ).loc Cert.FrontReferenceIdeal.main_arg0) = m ((c.tc : Thread Cert.FrontReferenceIdeal.nD Cert.FrontReferenceIdeal.τ).loc Cert.FrontReferenceIdeal.main_arg0)
      ∧ r.2.mem ((c.tc : Thread Cert.FrontReferenceIdeal.nD Cert.FrontReferenceIdeal.τ).loc Cert.FrontReferenceIdeal.main_arg1) = m ((c.tc : Thread Cert.FrontReferenceIdeal.nD Cert.FrontReferenceIdeal.τ).loc Cert.FrontReferenceIdeal.main_arg1)
      ∧ r.2.mem ((c.tc : Thread Cert.FrontReferenceIdeal.nD Cert.FrontReferenceIdeal.τ).loc Cert.FrontReferenceIdeal.main_arg2) = m ((c.tc : Thread Cert.FrontReferenceIdeal.nD Cert.FrontReferenceIdeal.τ).loc Cert.FrontReferenceIdeal.main_arg2)
      ∧ r.2.mem ((c.tc : Thread Cert.FrontReferenceIdeal.nD Cert.FrontReferenceIdeal.τ).loc Cert.FrontReferenceIdeal.main_arg3) = m ((c.tc : Thread Cert.FrontReferenceIdeal.nD Cert.FrontReferenceIdeal.τ).loc Cert.FrontReferenceIdeal.main_arg3)
      ∧ r.2.mem ((c.tc : Thread Cert.FrontReferenceIdeal.nD Cert.FrontReferenceIdeal.τ).loc Cert.FrontReferenceIdeal.main_arg4) = m ((c.tc : Thread Cert.FrontReferenceIdeal.nD Cert.FrontReferenceIdeal.τ).loc Cert.FrontReferenceIdeal.main_arg4)
      ∧ r.2.mem ((c.tc : Thread Cert.FrontReferenceIdeal.nD Cert.FrontReferenceIdeal.τ).loc Cert.FrontReferenceIdeal.main_arg5) = m ((c.tc : Thread Cert.FrontReferenceIdeal.nD Cert.FrontReferenceIdeal.τ).loc Cert.FrontReferenceIdeal.main_arg5)
      ∧ r.2.mem ((c.tc : Thread Cert.FrontReferenceIdeal.nD Cert.FrontReferenceIdeal.τ).loc Cert.FrontReferenceIdeal.main_arg6) = m ((c.tc : Thread Cert.FrontReferenceIdeal.nD Cert.FrontReferenceIdeal.τ).loc Cert.FrontReferenceIdeal.main_arg6)
      ∧ r.2.mem ((c.tc : Thread Cert.FrontReferenceIdeal.nD Cert.FrontReferenceIdeal.τ).loc Cert.FrontReferenceIdeal.main_arg7) = m ((c.tc : Thread Cert.FrontReferenceIdeal.nD Cert.FrontReferenceIdeal.τ).loc Cert.FrontReferenceIdeal.main_arg7)
      ∧ r.2.mem ((c.tc : Thread Cert.FrontReferenceIdeal.nD Cert.FrontReferenceIdeal.τ).loc Cert.FrontReferenceIdeal.main_arg8) = m ((c.tc : Thread Cert.FrontReferenceIdeal.nD Cert.FrontReferenceIdeal.τ).loc Cert.FrontReferenceIdeal.main_arg8))
      ∧ r.2.sem = fun _ => 0)

def preserves_Kernel_KernelIdeal : Prop :=
  True

def algebraic_KernelIdeal_ReferenceIdeal_pre_targets_in_vocab [hKernelIdeal : Cert.KernelIdeal.Facts] [hReferenceIdeal : Cert.ReferenceIdeal.Facts] [hPre_targets_in_vocab : Cert.Pre_targets_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_targets_in_vocab m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Front_FrontIdeal : Prop :=
  True

def algebraic_FrontIdeal_FrontReferenceIdeal_pre_tokens_in_vocab_and_norms_bounded [hFrontIdeal : Cert.FrontIdeal.Facts] [hFrontReferenceIdeal : Cert.FrontReferenceIdeal.Facts] [hPre_tokens_in_vocab_and_norms_bounded : Cert.Pre_tokens_in_vocab_and_norms_bounded.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontReferenceIdeal.nD Cert.FrontReferenceIdeal.τ Cert.FrontReferenceIdeal.sig) → Buf (Elt Ideal) ℓ) (g' : Dev Cert.FrontReferenceIdeal.nD → PrngReg), Pre_FrontIdeal_tokens_in_vocab_and_norms_bounded m →
    (∀ c : Dev Cert.FrontIdeal.nD,
      m' ((c.tc : Thread Cert.FrontReferenceIdeal.nD Cert.FrontReferenceIdeal.τ).loc Cert.FrontReferenceIdeal.main_arg0) = m ((c.tc : Thread Cert.FrontIdeal.nD Cert.FrontIdeal.τ).loc Cert.FrontIdeal.main_arg0)
      ∧ m' ((c.tc : Thread Cert.FrontReferenceIdeal.nD Cert.FrontReferenceIdeal.τ).loc Cert.FrontReferenceIdeal.main_arg1) = m ((c.tc : Thread Cert.FrontIdeal.nD Cert.FrontIdeal.τ).loc Cert.FrontIdeal.main_arg1)
      ∧ m' ((c.tc : Thread Cert.FrontReferenceIdeal.nD Cert.FrontReferenceIdeal.τ).loc Cert.FrontReferenceIdeal.main_arg2) = m ((c.tc : Thread Cert.FrontIdeal.nD Cert.FrontIdeal.τ).loc Cert.FrontIdeal.main_arg2)
      ∧ m' ((c.tc : Thread Cert.FrontReferenceIdeal.nD Cert.FrontReferenceIdeal.τ).loc Cert.FrontReferenceIdeal.main_arg3) = m ((c.tc : Thread Cert.FrontIdeal.nD Cert.FrontIdeal.τ).loc Cert.FrontIdeal.main_arg3)
      ∧ m' ((c.tc : Thread Cert.FrontReferenceIdeal.nD Cert.FrontReferenceIdeal.τ).loc Cert.FrontReferenceIdeal.main_arg4) = m ((c.tc : Thread Cert.FrontIdeal.nD Cert.FrontIdeal.τ).loc Cert.FrontIdeal.main_arg4)
      ∧ m' ((c.tc : Thread Cert.FrontReferenceIdeal.nD Cert.FrontReferenceIdeal.τ).loc Cert.FrontReferenceIdeal.main_arg5) = m ((c.tc : Thread Cert.FrontIdeal.nD Cert.FrontIdeal.τ).loc Cert.FrontIdeal.main_arg5)
      ∧ m' ((c.tc : Thread Cert.FrontReferenceIdeal.nD Cert.FrontReferenceIdeal.τ).loc Cert.FrontReferenceIdeal.main_arg6) = m ((c.tc : Thread Cert.FrontIdeal.nD Cert.FrontIdeal.τ).loc Cert.FrontIdeal.main_arg6)
      ∧ m' ((c.tc : Thread Cert.FrontReferenceIdeal.nD Cert.FrontReferenceIdeal.τ).loc Cert.FrontReferenceIdeal.main_arg7) = m ((c.tc : Thread Cert.FrontIdeal.nD Cert.FrontIdeal.τ).loc Cert.FrontIdeal.main_arg7)
      ∧ m' ((c.tc : Thread Cert.FrontReferenceIdeal.nD Cert.FrontReferenceIdeal.τ).loc Cert.FrontReferenceIdeal.main_arg8) = m ((c.tc : Thread Cert.FrontIdeal.nD Cert.FrontIdeal.τ).loc Cert.FrontIdeal.main_arg8)) →
    ∃ (v0 : (c : Dev Cert.FrontIdeal.nD) → Buf (Elt Ideal) ((c.tc : Thread Cert.FrontIdeal.nD Cert.FrontIdeal.τ).loc Cert.FrontIdeal.main_v7_0)) (v1 : (c : Dev Cert.FrontIdeal.nD) → Buf (Elt Ideal) ((c.tc : Thread Cert.FrontIdeal.nD Cert.FrontIdeal.τ).loc Cert.FrontIdeal.main_v7_1)) (v2 : (c : Dev Cert.FrontIdeal.nD) → Buf (Elt Ideal) ((c.tc : Thread Cert.FrontIdeal.nD Cert.FrontIdeal.τ).loc Cert.FrontIdeal.main_v7_2)) (v3 : (c : Dev Cert.FrontIdeal.nD) → Buf (Elt Ideal) ((c.tc : Thread Cert.FrontIdeal.nD Cert.FrontIdeal.τ).loc Cert.FrontIdeal.main_v7_3)) (v4 : (c : Dev Cert.FrontIdeal.nD) → Buf (Elt Ideal) ((c.tc : Thread Cert.FrontIdeal.nD Cert.FrontIdeal.τ).loc Cert.FrontIdeal.main_v7_4)) (v5 : (c : Dev Cert.FrontIdeal.nD) → Buf (Elt Ideal) ((c.tc : Thread Cert.FrontIdeal.nD Cert.FrontIdeal.τ).loc Cert.FrontIdeal.main_v7_5)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v7_0) = v0 c
          ∧ r.2.mem ((c.tc : Thread Cert.FrontIdeal.nD Cert.FrontIdeal.τ).loc Cert.FrontIdeal.main_v7_1) = v1 c
          ∧ r.2.mem ((c.tc : Thread Cert.FrontIdeal.nD Cert.FrontIdeal.τ).loc Cert.FrontIdeal.main_v7_2) = v2 c
          ∧ r.2.mem ((c.tc : Thread Cert.FrontIdeal.nD Cert.FrontIdeal.τ).loc Cert.FrontIdeal.main_v7_3) = v3 c
          ∧ r.2.mem ((c.tc : Thread Cert.FrontIdeal.nD Cert.FrontIdeal.τ).loc Cert.FrontIdeal.main_v7_4) = v4 c
          ∧ r.2.mem ((c.tc : Thread Cert.FrontIdeal.nD Cert.FrontIdeal.τ).loc Cert.FrontIdeal.main_v7_5) = v5 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
          ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
          ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
          ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
          ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8))
      ∧ θ_run (Cert.FrontReferenceIdeal.defs (F := Ideal)) (onTc (τ := Cert.FrontReferenceIdeal.τ) (Cert.FrontReferenceIdeal.main (F := Ideal))) ⟨m', fun _ => 0, g'⟩ (fun r => ∀ c : Dev Cert.FrontReferenceIdeal.nD,
          r.2.mem ((c.tc : Thread Cert.FrontReferenceIdeal.nD Cert.FrontReferenceIdeal.τ).loc Cert.FrontReferenceIdeal.main_v20_0) = v0 c
          ∧ r.2.mem ((c.tc : Thread Cert.FrontReferenceIdeal.nD Cert.FrontReferenceIdeal.τ).loc Cert.FrontReferenceIdeal.main_v20_1) = v1 c
          ∧ r.2.mem ((c.tc : Thread Cert.FrontReferenceIdeal.nD Cert.FrontReferenceIdeal.τ).loc Cert.FrontReferenceIdeal.main_v20_2) = v2 c
          ∧ r.2.mem ((c.tc : Thread Cert.FrontReferenceIdeal.nD Cert.FrontReferenceIdeal.τ).loc Cert.FrontReferenceIdeal.main_v20_3) = v3 c
          ∧ r.2.mem ((c.tc : Thread Cert.FrontReferenceIdeal.nD Cert.FrontReferenceIdeal.τ).loc Cert.FrontReferenceIdeal.main_v20_4) = v4 c
          ∧ r.2.mem ((c.tc : Thread Cert.FrontReferenceIdeal.nD Cert.FrontReferenceIdeal.τ).loc Cert.FrontReferenceIdeal.main_v20_5) = v5 c
          ∧ r.2.mem ((c.tc : Thread Cert.FrontReferenceIdeal.nD Cert.FrontReferenceIdeal.τ).loc Cert.FrontReferenceIdeal.main_arg0) = m' ((c.tc : Thread Cert.FrontReferenceIdeal.nD Cert.FrontReferenceIdeal.τ).loc Cert.FrontReferenceIdeal.main_arg0)
          ∧ r.2.mem ((c.tc : Thread Cert.FrontReferenceIdeal.nD Cert.FrontReferenceIdeal.τ).loc Cert.FrontReferenceIdeal.main_arg1) = m' ((c.tc : Thread Cert.FrontReferenceIdeal.nD Cert.FrontReferenceIdeal.τ).loc Cert.FrontReferenceIdeal.main_arg1)
          ∧ r.2.mem ((c.tc : Thread Cert.FrontReferenceIdeal.nD Cert.FrontReferenceIdeal.τ).loc Cert.FrontReferenceIdeal.main_arg2) = m' ((c.tc : Thread Cert.FrontReferenceIdeal.nD Cert.FrontReferenceIdeal.τ).loc Cert.FrontReferenceIdeal.main_arg2)
          ∧ r.2.mem ((c.tc : Thread Cert.FrontReferenceIdeal.nD Cert.FrontReferenceIdeal.τ).loc Cert.FrontReferenceIdeal.main_arg3) = m' ((c.tc : Thread Cert.FrontReferenceIdeal.nD Cert.FrontReferenceIdeal.τ).loc Cert.FrontReferenceIdeal.main_arg3)
          ∧ r.2.mem ((c.tc : Thread Cert.FrontReferenceIdeal.nD Cert.FrontReferenceIdeal.τ).loc Cert.FrontReferenceIdeal.main_arg4) = m' ((c.tc : Thread Cert.FrontReferenceIdeal.nD Cert.FrontReferenceIdeal.τ).loc Cert.FrontReferenceIdeal.main_arg4)
          ∧ r.2.mem ((c.tc : Thread Cert.FrontReferenceIdeal.nD Cert.FrontReferenceIdeal.τ).loc Cert.FrontReferenceIdeal.main_arg5) = m' ((c.tc : Thread Cert.FrontReferenceIdeal.nD Cert.FrontReferenceIdeal.τ).loc Cert.FrontReferenceIdeal.main_arg5)
          ∧ r.2.mem ((c.tc : Thread Cert.FrontReferenceIdeal.nD Cert.FrontReferenceIdeal.τ).loc Cert.FrontReferenceIdeal.main_arg6) = m' ((c.tc : Thread Cert.FrontReferenceIdeal.nD Cert.FrontReferenceIdeal.τ).loc Cert.FrontReferenceIdeal.main_arg6)
          ∧ r.2.mem ((c.tc : Thread Cert.FrontReferenceIdeal.nD Cert.FrontReferenceIdeal.τ).loc Cert.FrontReferenceIdeal.main_arg7) = m' ((c.tc : Thread Cert.FrontReferenceIdeal.nD Cert.FrontReferenceIdeal.τ).loc Cert.FrontReferenceIdeal.main_arg7)
          ∧ r.2.mem ((c.tc : Thread Cert.FrontReferenceIdeal.nD Cert.FrontReferenceIdeal.τ).loc Cert.FrontReferenceIdeal.main_arg8) = m' ((c.tc : Thread Cert.FrontReferenceIdeal.nD Cert.FrontReferenceIdeal.τ).loc Cert.FrontReferenceIdeal.main_arg8))

def Claim : Prop :=
  ∃ (hKernel : Cert.Kernel.Facts) (hKernelIdeal : Cert.KernelIdeal.Facts) (hReferenceIdeal : Cert.ReferenceIdeal.Facts) (hFront : Cert.Front.Facts) (hFrontIdeal : Cert.FrontIdeal.Facts) (hFrontReferenceIdeal : Cert.FrontReferenceIdeal.Facts) (hPre_targets_in_vocab : Cert.Pre_targets_in_vocab.Facts) (hPre_tokens_in_vocab : Cert.Pre_tokens_in_vocab.Facts) (hPre_tokens_in_vocab_and_norms_bounded : Cert.Pre_tokens_in_vocab_and_norms_bounded.Facts),
    quiescent_Kernel (hKernel := hKernel)
    ∧ quiescent_KernelIdeal (hKernelIdeal := hKernelIdeal)
    ∧ quiescent_KernelIdeal_pre_targets_in_vocab (hKernelIdeal := hKernelIdeal) (hPre_targets_in_vocab := hPre_targets_in_vocab)
    ∧ quiescent_ReferenceIdeal (hReferenceIdeal := hReferenceIdeal)
    ∧ quiescent_ReferenceIdeal_pre_targets_in_vocab (hReferenceIdeal := hReferenceIdeal) (hPre_targets_in_vocab := hPre_targets_in_vocab)
    ∧ quiescent_Front (hFront := hFront) (hPre_tokens_in_vocab := hPre_tokens_in_vocab)
    ∧ quiescent_FrontIdeal (hFrontIdeal := hFrontIdeal) (hPre_tokens_in_vocab := hPre_tokens_in_vocab)
    ∧ quiescent_FrontIdeal_pre_tokens_in_vocab_and_norms_bounded (hFrontIdeal := hFrontIdeal) (hPre_tokens_in_vocab_and_norms_bounded := hPre_tokens_in_vocab_and_norms_bounded)
    ∧ quiescent_FrontReferenceIdeal (hFrontReferenceIdeal := hFrontReferenceIdeal)
    ∧ quiescent_FrontReferenceIdeal_pre_tokens_in_vocab_and_norms_bounded (hFrontReferenceIdeal := hFrontReferenceIdeal) (hPre_tokens_in_vocab_and_norms_bounded := hPre_tokens_in_vocab_and_norms_bounded)
    ∧ preserves_Kernel_KernelIdeal
    ∧ algebraic_KernelIdeal_ReferenceIdeal_pre_targets_in_vocab (hKernelIdeal := hKernelIdeal) (hReferenceIdeal := hReferenceIdeal) (hPre_targets_in_vocab := hPre_targets_in_vocab)
    ∧ preserves_Front_FrontIdeal
    ∧ algebraic_FrontIdeal_FrontReferenceIdeal_pre_tokens_in_vocab_and_norms_bounded (hFrontIdeal := hFrontIdeal) (hFrontReferenceIdeal := hFrontReferenceIdeal) (hPre_tokens_in_vocab_and_norms_bounded := hPre_tokens_in_vocab_and_norms_bounded)
-- ==== Pre_targets_in_vocab.lean ====
abbrev S2x129 : Shape := ⟨2, ![2, 129]⟩
abbrev S256x2560 : Shape := ⟨2, ![256, 2560]⟩
abbrev S151936x2560 : Shape := ⟨2, ![151936, 2560]⟩
abbrev S1187x20 : Shape := ⟨2, ![1187, 20]⟩
abbrev S2x128 : Shape := ⟨2, ![2, 128]⟩
abbrev S_ : Shape := ⟨0, ![]⟩

class Facts : Prop where
  slices_S2x129_S2x128_0_1 : S2x129.Slices ![0, 1] S2x128
  bcast_S_S2x128 : S_.BroadcastsInDim S2x128 (![] : Fin 0 → Fin S2x128.rank)

variable [Facts]

def fn {F : FTy → Type} [FloatOps F] (main_arg0 : IVec S2x129 32) (main_arg1 : FVec F S256x2560 .bf16) (main_arg2 : FVec F S151936x2560 .fp8e4m3) (main_arg3 : FVec F S1187x20 .f32) : IVec S2x128 1 :=
  let main_v0 : IVec S2x128 32 := (extractStridedSlice S2x128 ![0, 1] · slices_S2x129_S2x128_0_1) main_arg0
  let main_c : IVec S_ 32 := constantI S_ 32 0#32
  let main_v1 : IVec S2x128 32 := broadcastInDim S2x128 ![] bcast_S_S2x128 main_c
  let main_v2 : IVec S2x128 1 := cmpi .sge main_v0 main_v1
  let main_v3 : IVec S2x128 32 := (extractStridedSlice S2x128 ![0, 1] · slices_S2x129_S2x128_0_1) main_arg0
  let main_c_0 : IVec S_ 32 := constantI S_ 32 151936#32
  let main_v4 : IVec S2x128 32 := broadcastInDim S2x128 ![] bcast_S_S2x128 main_c_0
  let main_v5 : IVec S2x128 1 := cmpi .slt main_v3 main_v4
  let main_v6 : IVec S2x128 1 := andi main_v2 main_v5
  main_v6
-- ==== Pre_tokens_in_vocab.lean ====
abbrev S2x128x2560 : Shape := ⟨3, ![2, 128, 2560]⟩
abbrev S2x129 : Shape := ⟨2, ![2, 129]⟩
abbrev S151936x2560 : Shape := ⟨2, ![151936, 2560]⟩
abbrev S151936x20 : Shape := ⟨2, ![151936, 20]⟩
abbrev S2560 : Shape := ⟨1, ![2560]⟩
abbrev S5120x2560 : Shape := ⟨2, ![5120, 2560]⟩
abbrev S40x20 : Shape := ⟨2, ![40, 20]⟩
abbrev S2x128 : Shape := ⟨2, ![2, 128]⟩
abbrev S_ : Shape := ⟨0, ![]⟩

class Facts : Prop where
  slices_S2x129_S2x128_0_0 : S2x129.Slices ![0, 0] S2x128
  bcast_S_S2x128 : S_.BroadcastsInDim S2x128 (![] : Fin 0 → Fin S2x128.rank)

variable [Facts]

def fn {F : FTy → Type} [FloatOps F] (main_arg0 : FVec F S2x128x2560 .bf16) (main_arg1 : IVec S2x129 32) (main_arg2 : IVec S151936x2560 8) (main_arg3 : FVec F S151936x20 .f32) (main_arg4 : FVec F S2560 .f32) (main_arg5 : FVec F S2560 .f32) (main_arg6 : FVec F S2560 .f32) (main_arg7 : FVec F S5120x2560 .fp8e4m3) (main_arg8 : FVec F S40x20 .f32) : IVec S2x128 1 :=
  let main_v0 : IVec S2x128 32 := (extractStridedSlice S2x128 ![0, 0] · slices_S2x129_S2x128_0_0) main_arg1
  let main_c : IVec S_ 32 := constantI S_ 32 0#32
  let main_v1 : IVec S2x128 32 := broadcastInDim S2x128 ![] bcast_S_S2x128 main_c
  let main_v2 : IVec S2x128 1 := cmpi .sge main_v0 main_v1
  let main_v3 : IVec S2x128 32 := (extractStridedSlice S2x128 ![0, 0] · slices_S2x129_S2x128_0_0) main_arg1
  let main_c_0 : IVec S_ 32 := constantI S_ 32 151936#32
  let main_v4 : IVec S2x128 32 := broadcastInDim S2x128 ![] bcast_S_S2x128 main_c_0
  let main_v5 : IVec S2x128 1 := cmpi .slt main_v3 main_v4
  let main_v6 : IVec S2x128 1 := andi main_v2 main_v5
  main_v6
-- ==== Pre_tokens_in_vocab_and_norms_bounded.lean ====
abbrev S2x128x2560 : Shape := ⟨3, ![2, 128, 2560]⟩
abbrev S2x129 : Shape := ⟨2, ![2, 129]⟩
abbrev S151936x2560 : Shape := ⟨2, ![151936, 2560]⟩
abbrev S151936x20 : Shape := ⟨2, ![151936, 20]⟩
abbrev S2560 : Shape := ⟨1, ![2560]⟩
abbrev S5120x2560 : Shape := ⟨2, ![5120, 2560]⟩
abbrev S40x20 : Shape := ⟨2, ![40, 20]⟩
abbrev S2x128 : Shape := ⟨2, ![2, 128]⟩
abbrev S_ : Shape := ⟨0, ![]⟩

class Facts : Prop where
  slices_S2x129_S2x128_0_0 : S2x129.Slices ![0, 0] S2x128
  bcast_S_S2x128 : S_.BroadcastsInDim S2x128 (![] : Fin 0 → Fin S2x128.rank)
  bcast_S_S2560 : S_.BroadcastsInDim S2560 (![] : Fin 0 → Fin S2560.rank)
  reducesTo_S2560_S_d0 : S2560.ReducesTo [0] S_
  h_S_ : 0 < S_.numel

variable [Facts]

def fn_part1 {F : FTy → Type} [FloatOps F] (main_arg6 : FVec F S2560 .f32) (main_v12 : IVec S2x128 1) (main_v17 : IVec S2x128 1) : IVec S2x128 1 :=
  let main_v18 : IVec S2x128 1 := andi main_v12 main_v17
  let main_v19 : FVec F S2560 .f32 := Host.absf main_arg6
  let main_cst_4 : FVec F S_ .f32 := constant S_ .f32 0x71800000#32
  let main_v20 : FVec F S2560 .f32 := broadcastInDim S2560 ![] bcast_S_S2560 main_cst_4
  let main_v21 : IVec S2560 1 := cmpf .ole main_v19 main_v20
  let main_c_5 : IVec S_ 1 := constantI S_ 1 1#1
  let main_v22 : IVec S_ 1 := (fun x v => Host.reduce IntOp.andi x v reducesTo_S2560_S_d0 h_S_) main_v21 main_c_5
  let main_v23 : IVec S2x128 1 := broadcastInDim S2x128 ![] bcast_S_S2x128 main_v22
  let main_v24 : IVec S2x128 1 := andi main_v18 main_v23
  main_v24

def fn {F : FTy → Type} [FloatOps F] (main_arg0 : FVec F S2x128x2560 .bf16) (main_arg1 : IVec S2x129 32) (main_arg2 : IVec S151936x2560 8) (main_arg3 : FVec F S151936x20 .f32) (main_arg4 : FVec F S2560 .f32) (main_arg5 : FVec F S2560 .f32) (main_arg6 : FVec F S2560 .f32) (main_arg7 : FVec F S5120x2560 .fp8e4m3) (main_arg8 : FVec F S40x20 .f32) : IVec S2x128 1 :=
  let main_v0 : IVec S2x128 32 := (extractStridedSlice S2x128 ![0, 0] · slices_S2x129_S2x128_0_0) main_arg1
  let main_c : IVec S_ 32 := constantI S_ 32 0#32
  let main_v1 : IVec S2x128 32 := broadcastInDim S2x128 ![] bcast_S_S2x128 main_c
  let main_v2 : IVec S2x128 1 := cmpi .sge main_v0 main_v1
  let main_v3 : IVec S2x128 32 := (extractStridedSlice S2x128 ![0, 0] · slices_S2x129_S2x128_0_0) main_arg1
  let main_c_0 : IVec S_ 32 := constantI S_ 32 151936#32
  let main_v4 : IVec S2x128 32 := broadcastInDim S2x128 ![] bcast_S_S2x128 main_c_0
  let main_v5 : IVec S2x128 1 := cmpi .slt main_v3 main_v4
  let main_v6 : IVec S2x128 1 := andi main_v2 main_v5
  let main_v7 : FVec F S2560 .f32 := Host.absf main_arg4
  let main_cst : FVec F S_ .f32 := constant S_ .f32 0x71800000#32
  let main_v8 : FVec F S2560 .f32 := broadcastInDim S2560 ![] bcast_S_S2560 main_cst
  let main_v9 : IVec S2560 1 := cmpf .ole main_v7 main_v8
  let main_c_1 : IVec S_ 1 := constantI S_ 1 1#1
  let main_v10 : IVec S_ 1 := (fun x v => Host.reduce IntOp.andi x v reducesTo_S2560_S_d0 h_S_) main_v9 main_c_1
  let main_v11 : IVec S2x128 1 := broadcastInDim S2x128 ![] bcast_S_S2x128 main_v10
  let main_v12 : IVec S2x128 1 := andi main_v6 main_v11
  let main_v13 : FVec F S2560 .f32 := Host.absf main_arg5
  let main_cst_2 : FVec F S_ .f32 := constant S_ .f32 0x71800000#32
  let main_v14 : FVec F S2560 .f32 := broadcastInDim S2560 ![] bcast_S_S2560 main_cst_2
  let main_v15 : IVec S2560 1 := cmpf .ole main_v13 main_v14
  let main_c_3 : IVec S_ 1 := constantI S_ 1 1#1
  let main_v16 : IVec S_ 1 := (fun x v => Host.reduce IntOp.andi x v reducesTo_S2560_S_d0 h_S_) main_v15 main_c_3
  let main_v17 : IVec S2x128 1 := broadcastInDim S2x128 ![] bcast_S_S2x128 main_v16
  fn_part1 (F := F) main_arg6 main_v12 main_v17
-- ==== Kernel.lean ====
abbrev S2x129 : Shape := ⟨2, ![2, 129]⟩
abbrev S256x2560 : Shape := ⟨2, ![256, 2560]⟩
abbrev S151936x2560 : Shape := ⟨2, ![151936, 2560]⟩
abbrev S1187x20 : Shape := ⟨2, ![1187, 20]⟩
abbrev S2x128 : Shape := ⟨2, ![2, 128]⟩
abbrev S2048x2560 : Shape := ⟨2, ![2048, 2560]⟩
abbrev S16x20 : Shape := ⟨2, ![16, 20]⟩
abbrev S8x256 : Shape := ⟨2, ![8, 256]⟩
abbrev S1x1 : Shape := ⟨2, ![1, 1]⟩
abbrev S128x128 : Shape := ⟨2, ![128, 128]⟩
abbrev S2048x256 : Shape := ⟨2, ![2048, 256]⟩
abbrev S1x128 : Shape := ⟨2, ![1, 128]⟩
abbrev S1x256 : Shape := ⟨2, ![1, 256]⟩
abbrev S256x8x256 : Shape := ⟨3, ![256, 8, 256]⟩
abbrev S1x8x256 : Shape := ⟨3, ![1, 8, 256]⟩
abbrev S256 : Shape := ⟨1, ![256]⟩

abbrev nBuf : Space → Nat
  | .hbm => 5
  | .vmem => 11
  | .smem => 0
  | _ => 0

abbrev bufTy : (tb : Table) → Fin (tcTables nBuf tb) → BufTy
  | .hbm, ⟨0, _⟩ => ⟨S2x129, .i32⟩
  | .hbm, ⟨1, _⟩ => ⟨S256x2560, .bf16⟩
  | .hbm, ⟨2, _⟩ => ⟨S151936x2560, .fp8e4m3⟩
  | .hbm, ⟨3, _⟩ => ⟨S1187x20, .f32⟩
  | .hbm, ⟨4, _⟩ => ⟨S2x128, .f32⟩
  | .local _ .vmem, ⟨0, _⟩ => ⟨S2x129, .i32⟩
  | .local _ .vmem, ⟨1, _⟩ => ⟨S256x2560, .bf16⟩
  | .local _ .vmem, ⟨2, _⟩ => ⟨S2048x2560, .fp8e4m3⟩
  | .local _ .vmem, ⟨3, _⟩ => ⟨S2048x2560, .fp8e4m3⟩
  | .local _ .vmem, ⟨4, _⟩ => ⟨S16x20, .f32⟩
  | .local _ .vmem, ⟨5, _⟩ => ⟨S16x20, .f32⟩
  | .local _ .vmem, ⟨6, _⟩ => ⟨S2x128, .f32⟩
  | .local _ .vmem, ⟨7, _⟩ => ⟨S2048x2560, .bf16⟩
  | .local _ .vmem, ⟨8, _⟩ => ⟨S8x256, .f32⟩
  | .local _ .vmem, ⟨9, _⟩ => ⟨S8x256, .f32⟩
  | .local _ .vmem, ⟨10, _⟩ => ⟨S8x256, .f32⟩
  | _, _ => ⟨S2x129, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![75], ![false]⟩

def k0_cond2 (i : grid0.Coords) : BitVec 1 :=
  let arg0 : BitVec 32 := BitVec.ofNat 32 (i 0).val
  let c74_i32 : BitVec 32 := 74#32
  let v2928 : BitVec 1 := Scalar.cmpi .eq arg0 c74_i32
  let v2929 : BitVec 32 := Scalar.extui v2928
  let c0_i32_1907 : BitVec 32 := 0#32
  let v2930 : BitVec 1 := Scalar.cmpi .ne v2929 c0_i32_1907
  v2930

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x129 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x2560 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x20 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S2x129 : Shape := ⟨2, ![2, 129]⟩
abbrev S256x2560 : Shape := ⟨2, ![256, 2560]⟩
abbrev S151936x2560 : Shape := ⟨2, ![151936, 2560]⟩
abbrev S1187x20 : Shape := ⟨2, ![1187, 20]⟩
abbrev S1187x128x20x128 : Shape := ⟨4, ![1187, 128, 20, 128]⟩
abbrev S1187x1x20x1 : Shape := ⟨4, ![1187, 1, 20, 1]⟩
abbrev S256x151936 : Shape := ⟨2, ![256, 151936]⟩
abbrev S_ : Shape := ⟨0, ![]⟩
abbrev S256 : Shape := ⟨1, ![256]⟩
abbrev S256x1 : Shape := ⟨2, ![256, 1]⟩
abbrev S2x128 : Shape := ⟨2, ![2, 128]⟩

abbrev nBuf : Space → Nat
  | .hbm => 43
  | .vmem => 2
  | .smem => 0
  | _ => 0

abbrev bufTy : (tb : Table) → Fin (tcTables nBuf tb) → BufTy
  | .hbm, ⟨0, _⟩ => ⟨S2x129, .i32⟩
  | .hbm, ⟨1, _⟩ => ⟨S256x2560, .bf16⟩
  | .hbm, ⟨2, _⟩ => ⟨S151936x2560, .fp8e4m3⟩
  | .hbm, ⟨3, _⟩ => ⟨S1187x20, .f32⟩
  | .hbm, ⟨4, _⟩ => ⟨S151936x2560, .bf16⟩
  | .hbm, ⟨5, _⟩ => ⟨S1187x128x20x128, .bf16⟩
  | .hbm, ⟨6, _⟩ => ⟨S1187x20, .bf16⟩
  | .hbm, ⟨7, _⟩ => ⟨S1187x1x20x1, .bf16⟩
  | .hbm, ⟨8, _⟩ => ⟨S1187x128x20x128, .bf16⟩
  | .hbm, ⟨9, _⟩ => ⟨S1187x128x20x128, .bf16⟩
  | .hbm, ⟨10, _⟩ => ⟨S151936x2560, .bf16⟩
  | .hbm, ⟨11, _⟩ => ⟨S256x151936, .f32⟩
  | .hbm, ⟨12, _⟩ => ⟨S_, .f32⟩
  | .hbm, ⟨13, _⟩ => ⟨S256, .f32⟩
  | .hbm, ⟨14, _⟩ => ⟨S256x1, .f32⟩
  | .hbm, ⟨15, _⟩ => ⟨S256x151936, .f32⟩
  | .hbm, ⟨16, _⟩ => ⟨S256x151936, .f32⟩
  | .hbm, ⟨17, _⟩ => ⟨S256x151936, .f32⟩
  | .hbm, ⟨18, _⟩ => ⟨S_, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S2x128, .i32⟩
  | .hbm, ⟨23, _⟩ => ⟨S256, .i32⟩
  | .hbm, ⟨24, _⟩ => ⟨S256x2560, .f32⟩
  | .hbm, ⟨25, _⟩ => ⟨S_, .i32⟩
  | .hbm, ⟨26, _⟩ => ⟨S256, .i32⟩
  | .hbm, ⟨27, _⟩ => ⟨S256, .i1⟩
  | .hbm, ⟨28, _⟩ => ⟨S_, .i32⟩
  | .hbm, ⟨29, _⟩ => ⟨S256, .i32⟩
  | .hbm, ⟨30, _⟩ => ⟨S256, .i32⟩
  | .hbm, ⟨31, _⟩ => ⟨S256, .i32⟩
  | .hbm, ⟨32, _⟩ => ⟨S256x1, .i32⟩
  | .hbm, ⟨33, _⟩ => ⟨S256x2560, .bf16⟩
  | .hbm, ⟨34, _⟩ => ⟨S256x2560, .f32⟩
  | .hbm, ⟨35, _⟩ => ⟨S256x2560, .f32⟩
  | .hbm, ⟨36, _⟩ => ⟨S_, .f32⟩
  | .hbm, ⟨37, _⟩ => ⟨S256, .f32⟩
  | .hbm, ⟨38, _⟩ => ⟨S256, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S2x128, .f32⟩
  | .local _ .vmem, ⟨0, _⟩ => ⟨S151936x2560, .fp8e4m3⟩
  | .local _ .vmem, ⟨1, _⟩ => ⟨S151936x2560, .bf16⟩
  | _, _ => ⟨S2x129, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_v20 : Ref sig .tc := ⟨.hbm, 27, rfl⟩
abbrev main_c_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S151936x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S151936x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Front.lean ====
abbrev S2x128x2560 : Shape := ⟨3, ![2, 128, 2560]⟩
abbrev S2x129 : Shape := ⟨2, ![2, 129]⟩
abbrev S151936x2560 : Shape := ⟨2, ![151936, 2560]⟩
abbrev S151936x20 : Shape := ⟨2, ![151936, 20]⟩
abbrev S2560 : Shape := ⟨1, ![2560]⟩
abbrev S5120x2560 : Shape := ⟨2, ![5120, 2560]⟩
abbrev S40x20 : Shape := ⟨2, ![40, 20]⟩
abbrev S37984x4x2560 : Shape := ⟨3, ![37984, 4, 2560]⟩
abbrev S37984x2560x4 : Shape := ⟨3, ![37984, 2560, 4]⟩
abbrev S37984x2560 : Shape := ⟨2, ![37984, 2560]⟩
abbrev S256x2560 : Shape := ⟨2, ![256, 2560]⟩
abbrev S1x2560 : Shape := ⟨2, ![1, 2560]⟩
abbrev S256x5120 : Shape := ⟨2, ![256, 5120]⟩
abbrev S256x40 : Shape := ⟨2, ![256, 40]⟩
abbrev S256x20 : Shape := ⟨2, ![256, 20]⟩
abbrev S5120x256 : Shape := ⟨2, ![5120, 256]⟩
abbrev S10x256x256 : Shape := ⟨3, ![10, 256, 256]⟩
abbrev S2 : Shape := ⟨1, ![2]⟩
abbrev S1x1 : Shape := ⟨2, ![1, 1]⟩
abbrev S1 : Shape := ⟨1, ![1]⟩
abbrev S_ : Shape := ⟨0, ![]⟩
abbrev S1x20 : Shape := ⟨2, ![1, 20]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S1x256 : Shape := ⟨2, ![1, 256]⟩
abbrev S256x256 : Shape := ⟨2, ![256, 256]⟩
abbrev S128x128 : Shape := ⟨2, ![128, 128]⟩
abbrev S128x256 : Shape := ⟨2, ![128, 256]⟩
abbrev S1x256x256 : Shape := ⟨3, ![1, 256, 256]⟩
abbrev S1x256x128 : Shape := ⟨3, ![1, 256, 128]⟩

abbrev nBuf : Space → Nat
  | .hbm => 22
  | .vmem => 17
  | .smem => 2
  | _ => 0

abbrev bufTy : (tb : Table) → Fin (tcTables nBuf tb) → BufTy
  | .hbm, ⟨0, _⟩ => ⟨S2x128x2560, .bf16⟩
  | .hbm, ⟨1, _⟩ => ⟨S2x129, .i32⟩
  | .hbm, ⟨2, _⟩ => ⟨S151936x2560, .i8⟩
  | .hbm, ⟨3, _⟩ => ⟨S151936x20, .f32⟩
  | .hbm, ⟨4, _⟩ => ⟨S2560, .f32⟩
  | .hbm, ⟨5, _⟩ => ⟨S2560, .f32⟩
  | .hbm, ⟨6, _⟩ => ⟨S2560, .f32⟩
  | .hbm, ⟨7, _⟩ => ⟨S5120x2560, .fp8e4m3⟩
  | .hbm, ⟨8, _⟩ => ⟨S40x20, .f32⟩
  | .hbm, ⟨9, _⟩ => ⟨S37984x4x2560, .i8⟩
  | .hbm, ⟨10, _⟩ => ⟨S37984x2560x4, .i8⟩
  | .hbm, ⟨11, _⟩ => ⟨S37984x2560, .i32⟩
  | .hbm, ⟨12, _⟩ => ⟨S256x2560, .bf16⟩
  | .hbm, ⟨13, _⟩ => ⟨S1x2560, .f32⟩
  | .hbm, ⟨14, _⟩ => ⟨S1x2560, .f32⟩
  | .hbm, ⟨15, _⟩ => ⟨S1x2560, .f32⟩
  | .hbm, ⟨16, _⟩ => ⟨S256x2560, .bf16⟩
  | .hbm, ⟨17, _⟩ => ⟨S256x5120, .fp8e4m3⟩
  | .hbm, ⟨18, _⟩ => ⟨S256x40, .f32⟩
  | .hbm, ⟨19, _⟩ => ⟨S256x2560, .fp8e4m3⟩
  | .hbm, ⟨20, _⟩ => ⟨S256x20, .f32⟩
  | .hbm, ⟨21, _⟩ => ⟨S256x2560, .bf16⟩
  | .local _ .vmem, ⟨0, _⟩ => ⟨S2x129, .i32⟩
  | .local _ .vmem, ⟨1, _⟩ => ⟨S256x2560, .bf16⟩
  | .local _ .vmem, ⟨2, _⟩ => ⟨S1x2560, .f32⟩
  | .local _ .vmem, ⟨3, _⟩ => ⟨S1x2560, .f32⟩
  | .local _ .vmem, ⟨4, _⟩ => ⟨S1x2560, .f32⟩
  | .local _ .vmem, ⟨5, _⟩ => ⟨S5120x256, .fp8e4m3⟩
  | .local _ .vmem, ⟨6, _⟩ => ⟨S5120x256, .fp8e4m3⟩
  | .local _ .vmem, ⟨7, _⟩ => ⟨S256x2560, .bf16⟩
  | .local _ .vmem, ⟨8, _⟩ => ⟨S256x5120, .fp8e4m3⟩
  | .local _ .vmem, ⟨9, _⟩ => ⟨S256x40, .f32⟩
  | .local _ .vmem, ⟨10, _⟩ => ⟨S256x2560, .fp8e4m3⟩
  | .local _ .vmem, ⟨11, _⟩ => ⟨S256x20, .f32⟩
  | .local _ .vmem, ⟨12, _⟩ => ⟨S256x2560, .bf16⟩
  | .local _ .vmem, ⟨13, _⟩ => ⟨S256x2560, .i32⟩
  | .local _ .vmem, ⟨14, _⟩ => ⟨S256x20, .f32⟩
  | .local _ .vmem, ⟨15, _⟩ => ⟨S256x5120, .bf16⟩
  | .local _ .vmem, ⟨16, _⟩ => ⟨S10x256x256, .f32⟩
  | .local _ .smem, ⟨0, _⟩ => ⟨S2x129, .i32⟩
  | .local _ .smem, ⟨1, _⟩ => ⟨S40x20, .f32⟩
  | _, _ => ⟨S2x128x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev main_v7_5 : Ref sig .tc := ⟨.hbm, 21, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_stg0_0 : Ref sig .tc := ⟨.smem, 0, rfl⟩
abbrev cc0_stg7_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_325 : BitVec 32 := 0#32
  let c256_i32 : BitVec 32 := 256#32
  let v773 : BitVec 32 := Scalar.addi c0_i32_325 c256_i32
  let c1_i32_326 : BitVec 32 := 1#32
  ⟨c0_i32_325, v773, c1_i32_326⟩
def k0_off1 (k0_t1 : Fin k0_t1_loop.trips) : Fin 2 → Nat :=
  let c0_i32_1726 : BitVec 32 := 0#32
  let c0_i32_325 : BitVec 32 := 0#32
  let c1_i32_326 : BitVec 32 := 1#32
  let arg22 : BitVec 32 := Scf.iv c0_i32_325 c1_i32_326 k0_t1
  let c1_i32_1725 : BitVec 32 := 1#32
  let v3840 : BitVec 32 := Scalar.muli arg22 c1_i32_1725
  let v3841 : BitVec 32 := Scalar.addi c0_i32_1726 v3840
  let c0_i32_1727 : BitVec 32 := 0#32
  let v3843 : BitVec 1 := Scalar.cmpi .sgt v3841 c0_i32_1727
  let v3844 : BitVec 32 := Scalar.extui v3843
  let c0_i32_1728 : BitVec 32 := 0#32
  let v3845 : BitVec 1 := Scalar.cmpi .slt v3841 c0_i32_1728
  let v3846 : BitVec 32 := Scalar.extui v3845
  let v3847 : BitVec 32 := Scalar.subi v3844 v3846
  let c128_i32 : BitVec 32 := 128#32
  let c0_i32_1729 : BitVec 32 := 0#32
  let v3848 : BitVec 1 := Scalar.cmpi .sgt c128_i32 c0_i32_1729
  let v3849 : BitVec 32 := Scalar.extui v3848
  let c0_i32_1730 : BitVec 32 := 0#32
  let v3850 : BitVec 1 := Scalar.cmpi .slt c128_i32 c0_i32_1730
  let v3851 : BitVec 32 := Scalar.extui v3850
  let v3852 : BitVec 32 := Scalar.subi v3849 v3851
  let v3853 : BitVec 1 := Scalar.cmpi .ne v3847 v3852
  let v3854 : BitVec 32 := Scalar.remsi v3841 c128_i32
  let c0_i32_1731 : BitVec 32 := 0#32
  let v3855 : BitVec 1 := Scalar.cmpi .ne v3854 c0_i32_1731
  let v3856 : BitVec 1 := Scalar.andi v3853 v3855
  let v3842 : BitVec 32 := Scalar.divsi v3841 c128_i32
  let c1_i32_1732 : BitVec 32 := 1#32
  let v3857 : BitVec 32 := Scalar.subi v3842 c1_i32_1732
  let v3858 : BitVec 32 := Scalar.select v3856 v3857 v3842
  let v3869 : Index := Scalar.indexCast v3858
  let c128_i32_1733 : BitVec 32 := 128#32
  let c0_i32_1734 : BitVec 32 := 0#32
  let v3859 : BitVec 1 := Scalar.cmpi .eq c128_i32_1733 c0_i32_1734
  let c1_i32_1735 : BitVec 32 := 1#32
  let v3860 : BitVec 32 := Scalar.select v3859 c1_i32_1735 c128_i32_1733
  let v3861 : BitVec 32 := Scalar.remsi v3841 v3860
  let c0_i32_1737 : BitVec 32 := 0#32
  let v3863 : BitVec 1 := Scalar.cmpi .slt v3861 c0_i32_1737
  let c0_i32_1738 : BitVec 32 := 0#32
  let v3864 : BitVec 1 := Scalar.cmpi .slt v3860 c0_i32_1738
  let v3865 : BitVec 1 := Scalar.xori v3863 v3864
  let c0_i32_1736 : BitVec 32 := 0#32
  let v3862 : BitVec 1 := Scalar.cmpi .ne v3861 c0_i32_1736
  let v3866 : BitVec 1 := Scalar.andi v3865 v3862
  let v3867 : BitVec 32 := Scalar.addi v3861 v3860
  let v3868 : BitVec 32 := Scalar.select v3866 v3867 v3861
  let v3870 : Index := Scalar.indexCast v3868
  ![v3869.toNat, v3870.toNat]
def k0_off2 (k0_t1 : Fin k0_t1_loop.trips) : Fin 2 → Nat :=
  let c0_i32_1726 : BitVec 32 := 0#32
  let c0_i32_325 : BitVec 32 := 0#32
  let c1_i32_326 : BitVec 32 := 1#32
  let arg22 : BitVec 32 := Scf.iv c0_i32_325 c1_i32_326 k0_t1
  let c1_i32_1725 : BitVec 32 := 1#32
  let v3840 : BitVec 32 := Scalar.muli arg22 c1_i32_1725
  let v3841 : BitVec 32 := Scalar.addi c0_i32_1726 v3840
  let c0_i32_1747 : BitVec 32 := 0#32
  ![v3841.toNat, 0]
def k0_off3 (v3871 : BitVec 32) : Fin 2 → Nat :=
  let c0_i32_1740 : BitVec 32 := 0#32
  let v3873 : BitVec 1 := Scalar.cmpi .sgt v3871 c0_i32_1740
  let v3874 : BitVec 32 := Scalar.extui v3873
  let c0_i32_1741 : BitVec 32 := 0#32
  let v3875 : BitVec 1 := Scalar.cmpi .slt v3871 c0_i32_1741
  let v3876 : BitVec 32 := Scalar.extui v3875
  let v3877 : BitVec 32 := Scalar.subi v3874 v3876
  let c4_i32_1739 : BitVec 32 := 4#32
  let c0_i32_1742 : BitVec 32 := 0#32
  let v3878 : BitVec 1 := Scalar.cmpi .sgt c4_i32_1739 c0_i32_1742
  let v3879 : BitVec 32 := Scalar.extui v3878
  let c0_i32_1743 : BitVec 32 := 0#32
  let v3880 : BitVec 1 := Scalar.cmpi .slt c4_i32_1739 c0_i32_1743
  let v3881 : BitVec 32 := Scalar.extui v3880
  let v3882 : BitVec 32 := Scalar.subi v3879 v3881
  let v3883 : BitVec 1 := Scalar.cmpi .ne v3877 v3882
  let v3884 : BitVec 32 := Scalar.remsi v3871 c4_i32_1739
  let c0_i32_1744 : BitVec 32 := 0#32
  let v3885 : BitVec 1 := Scalar.cmpi .ne v3884 c0_i32_1744
  let v3886 : BitVec 1 := Scalar.andi v3883 v3885
  let v3872 : BitVec 32 := Scalar.divsi v3871 c4_i32_1739
  let c1_i32_1745 : BitVec 32 := 1#32
  let v3887 : BitVec 32 := Scalar.subi v3872 c1_i32_1745
  let v3888 : BitVec 32 := Scalar.select v3886 v3887 v3872
  let c0_i32_1748 : BitVec 32 := 0#32
  ![v3888.toNat, 0]

def k0_off4 (k0_t1 : Fin k0_t1_loop.trips) : Fin 2 → Nat :=
  let c0_i32_1726 : BitVec 32 := 0#32
  let c0_i32_325 : BitVec 32 := 0#32
  let c1_i32_326 : BitVec 32 := 1#32
  let arg22 : BitVec 32 := Scf.iv c0_i32_325 c1_i32_326 k0_t1
  let c1_i32_1725 : BitVec 32 := 1#32
  let v3840 : BitVec 32 := Scalar.muli arg22 c1_i32_1725
  let v3841 : BitVec 32 := Scalar.addi c0_i32_1726 v3840
  let c0_i32_1750 : BitVec 32 := 0#32
  ![v3841.toNat, 0]
def k0_off5 (v3871 : BitVec 32) : Fin 2 → Nat :=
  let c0_i32_1751 : BitVec 32 := 0#32
  ![v3871.toNat, 0]

def k0_chk1 (i : grid0.Coords) (v3871 : BitVec 32) : Prop :=
  (∀ (k0_h1 : k0_cond1 i = 1#1), ∀ a, (k0_off3 v3871) a + S1x2560.size a ≤ S37984x2560.size a) ∧
  (∀ (k0_h1 : k0_cond1 i = 1#1), ∀ a, (k0_off5 v3871) a + S1x20.size a ≤ S151936x20.size a)
theorem k0_off3_inb : ∀ (i : grid0.Coords) (v3871 : BitVec 32) (k0_hw1 : k0_chk1 i v3871), ∀ (k0_h1 : k0_cond1 i = 1#1), ∀ a, (k0_off3 v3871) a + S1x2560.size a ≤ S37984x2560.size a := fun i v3871 k0_hw1 k0_h1 => k0_hw1.1 k0_h1
theorem k0_off5_inb : ∀ (i : grid0.Coords) (v3871 : BitVec 32) (k0_hw1 : k0_chk1 i v3871), ∀ (k0_h1 : k0_cond1 i = 1#1), ∀ a, (k0_off5 v3871) a + S1x20.size a ≤ S151936x20.size a := fun i v3871 k0_hw1 k0_h1 => k0_hw1.2 k0_h1

@[reducible] def k0_t2_loop : Scf.Loop 32 :=
  let c0_i32_929 : BitVec 32 := 0#32
  let c256_i32_930 : BitVec 32 := 256#32
  let v2142 : BitVec 32 := Scalar.addi c0_i32_929 c256_i32_930
  let c1_i32_931 : BitVec 32 := 1#32
  ⟨c0_i32_929, v2142, c1_i32_931⟩
def k0_off6 (k0_t2 : Fin k0_t2_loop.trips) : Fin 2 → Nat :=
  let c0_i32_1726 : BitVec 32 := 0#32
  let c0_i32_929 : BitVec 32 := 0#32
  let c1_i32_931 : BitVec 32 := 1#32
  let arg22 : BitVec 32 := Scf.iv c0_i32_929 c1_i32_931 k0_t2
  let c1_i32_1725 : BitVec 32 := 1#32
  let v3840 : BitVec 32 := Scalar.muli arg22 c1_i32_1725
  let v3841 : BitVec 32 := Scalar.addi c0_i32_1726 v3840
  let c0_i32_1727 : BitVec 32 := 0#32
  let v3843 : BitVec 1 := Scalar.cmpi .sgt v3841 c0_i32_1727
  let v3844 : BitVec 32 := Scalar.extui v3843
  let c0_i32_1728 : BitVec 32 := 0#32
  let v3845 : BitVec 1 := Scalar.cmpi .slt v3841 c0_i32_1728
  let v3846 : BitVec 32 := Scalar.extui v3845
  let v3847 : BitVec 32 := Scalar.subi v3844 v3846
  let c128_i32 : BitVec 32 := 128#32
  let c0_i32_1729 : BitVec 32 := 0#32
  let v3848 : BitVec 1 := Scalar.cmpi .sgt c128_i32 c0_i32_1729
  let v3849 : BitVec 32 := Scalar.extui v3848
  let c0_i32_1730 : BitVec 32 := 0#32
  let v3850 : BitVec 1 := Scalar.cmpi .slt c128_i32 c0_i32_1730
  let v3851 : BitVec 32 := Scalar.extui v3850
  let v3852 : BitVec 32 := Scalar.subi v3849 v3851
  let v3853 : BitVec 1 := Scalar.cmpi .ne v3847 v3852
  let v3854 : BitVec 32 := Scalar.remsi v3841 c128_i32
  let c0_i32_1731 : BitVec 32 := 0#32
  let v3855 : BitVec 1 := Scalar.cmpi .ne v3854 c0_i32_1731
  let v3856 : BitVec 1 := Scalar.andi v3853 v3855
  let v3842 : BitVec 32 := Scalar.divsi v3841 c128_i32
  let c1_i32_1732 : BitVec 32 := 1#32
  let v3857 : BitVec 32 := Scalar.subi v3842 c1_i32_1732
  let v3858 : BitVec 32 := Scalar.select v3856 v3857 v3842
  let v3869 : Index := Scalar.indexCast v3858
  let c128_i32_1733 : BitVec 32 := 128#32
  let c0_i32_1734 : BitVec 32 := 0#32
  let v3859 : BitVec 1 := Scalar.cmpi .eq c128_i32_1733 c0_i32_1734
  let c1_i32_1735 : BitVec 32 := 1#32
  let v3860 : BitVec 32 := Scalar.select v3859 c1_i32_1735 c128_i32_1733
  let v3861 : BitVec 32 := Scalar.remsi v3841 v3860
  let c0_i32_1737 : BitVec 32 := 0#32
  let v3863 : BitVec 1 := Scalar.cmpi .slt v3861 c0_i32_1737
  let c0_i32_1738 : BitVec 32 := 0#32
  let v3864 : BitVec 1 := Scalar.cmpi .slt v3860 c0_i32_1738
  let v3865 : BitVec 1 := Scalar.xori v3863 v3864
  let c0_i32_1736 : BitVec 32 := 0#32
  let v3862 : BitVec 1 := Scalar.cmpi .ne v3861 c0_i32_1736
  let v3866 : BitVec 1 := Scalar.andi v3865 v3862
  let v3867 : BitVec 32 := Scalar.addi v3861 v3860
  let v3868 : BitVec 32 := Scalar.select v3866 v3867 v3861
  let v3870 : Index := Scalar.indexCast v3868
  ![v3869.toNat, v3870.toNat]
def k0_off7 (k0_t2 : Fin k0_t2_loop.trips) : Fin 2 → Nat :=
  let c0_i32_1726 : BitVec 32 := 0#32
  let c0_i32_929 : BitVec 32 := 0#32
  let c1_i32_931 : BitVec 32 := 1#32
  let arg22 : BitVec 32 := Scf.iv c0_i32_929 c1_i32_931 k0_t2
  let c1_i32_1725 : BitVec 32 := 1#32
  let v3840 : BitVec 32 := Scalar.muli arg22 c1_i32_1725
  let v3841 : BitVec 32 := Scalar.addi c0_i32_1726 v3840
  let c0_i32_1747 : BitVec 32 := 0#32
  ![v3841.toNat, 0]
def k0_off8 (v3871 : BitVec 32) : Fin 2 → Nat :=
  let c0_i32_1740 : BitVec 32 := 0#32
  let v3873 : BitVec 1 := Scalar.cmpi .sgt v3871 c0_i32_1740
  let v3874 : BitVec 32 := Scalar.extui v3873
  let c0_i32_1741 : BitVec 32 := 0#32
  let v3875 : BitVec 1 := Scalar.cmpi .slt v3871 c0_i32_1741
  let v3876 : BitVec 32 := Scalar.extui v3875
  let v3877 : BitVec 32 := Scalar.subi v3874 v3876
  let c4_i32_1739 : BitVec 32 := 4#32
  let c0_i32_1742 : BitVec 32 := 0#32
  let v3878 : BitVec 1 := Scalar.cmpi .sgt c4_i32_1739 c0_i32_1742
  let v3879 : BitVec 32 := Scalar.extui v3878
  let c0_i32_1743 : BitVec 32 := 0#32
  let v3880 : BitVec 1 := Scalar.cmpi .slt c4_i32_1739 c0_i32_1743
  let v3881 : BitVec 32 := Scalar.extui v3880
  let v3882 : BitVec 32 := Scalar.subi v3879 v3881
  let v3883 : BitVec 1 := Scalar.cmpi .ne v3877 v3882
  let v3884 : BitVec 32 := Scalar.remsi v3871 c4_i32_1739
  let c0_i32_1744 : BitVec 32 := 0#32
  let v3885 : BitVec 1 := Scalar.cmpi .ne v3884 c0_i32_1744
  let v3886 : BitVec 1 := Scalar.andi v3883 v3885
  let v3872 : BitVec 32 := Scalar.divsi v3871 c4_i32_1739
  let c1_i32_1745 : BitVec 32 := 1#32
  let v3887 : BitVec 32 := Scalar.subi v3872 c1_i32_1745
  let v3888 : BitVec 32 := Scalar.select v3886 v3887 v3872
  let c0_i32_1748 : BitVec 32 := 0#32
  ![v3888.toNat, 0]

def k0_off9 (k0_t2 : Fin k0_t2_loop.trips) : Fin 2 → Nat :=
  let c0_i32_1726 : BitVec 32 := 0#32
  let c0_i32_929 : BitVec 32 := 0#32
  let c1_i32_931 : BitVec 32 := 1#32
  let arg22 : BitVec 32 := Scf.iv c0_i32_929 c1_i32_931 k0_t2
  let c1_i32_1725 : BitVec 32 := 1#32
  let v3840 : BitVec 32 := Scalar.muli arg22 c1_i32_1725
  let v3841 : BitVec 32 := Scalar.addi c0_i32_1726 v3840
  let c0_i32_1750 : BitVec 32 := 0#32
  ![v3841.toNat, 0]
def k0_off10 (v3871 : BitVec 32) : Fin 2 → Nat :=
  let c0_i32_1751 : BitVec 32 := 0#32
  ![v3871.toNat, 0]

def k0_chk2 (i : grid0.Coords) (v3871 : BitVec 32) : Prop :=
  (∀ (k0_h1 : k0_cond1 i = 1#1), ∀ a, (k0_off8 v3871) a + S1x2560.size a ≤ S37984x2560.size a) ∧
  (∀ (k0_h1 : k0_cond1 i = 1#1), ∀ a, (k0_off10 v3871) a + S1x20.size a ≤ S151936x20.size a)
theorem k0_off8_inb : ∀ (i : grid0.Coords) (v3871 : BitVec 32) (k0_hw2 : k0_chk2 i v3871), ∀ (k0_h1 : k0_cond1 i = 1#1), ∀ a, (k0_off8 v3871) a + S1x2560.size a ≤ S37984x2560.size a := fun i v3871 k0_hw2 k0_h1 => k0_hw2.1 k0_h1
theorem k0_off10_inb : ∀ (i : grid0.Coords) (v3871 : BitVec 32) (k0_hw2 : k0_chk2 i v3871), ∀ (k0_h1 : k0_cond1 i = 1#1), ∀ a, (k0_off10 v3871) a + S1x20.size a ≤ S151936x20.size a := fun i v3871 k0_hw2 k0_h1 => k0_hw2.2 k0_h1

def k0_off11 (i : grid0.Coords) (c0_i32_1 : BitVec 32) : Fin 2 → Nat :=
  let c0 : Index := 0#32
  let arg0 : BitVec 32 := BitVec.ofNat 32 (i 0).val
  let c2_i32 : BitVec 32 := 2#32
  let v3 : BitVec 32 := Scalar.muli arg0 c2_i32
  let v4 : BitVec 32 := Scalar.addi v3 c0_i32_1
  let v5 : Index := Scalar.indexCast v4
  ![0, v5.toNat]
def k0_off12 (i : grid0.Coords) (c0_i32_8 : BitVec 32) : Fin 2 → Nat :=
  let c1 : Index := 1#32
  let arg0 : BitVec 32 := BitVec.ofNat 32 (i 0).val
  let c2_i32_7 : BitVec 32 := 2#32
  let v22 : BitVec 32 := Scalar.muli arg0 c2_i32_7
  let v23 : BitVec 32 := Scalar.addi v22 c0_i32_8
  let v24 : Index := Scalar.indexCast v23
  ![1, v24.toNat]
def k0_off13 (i : grid0.Coords) (c0_i32_17 : BitVec 32) : Fin 2 → Nat :=
  let c2 : Index := 2#32
  let arg0 : BitVec 32 := BitVec.ofNat 32 (i 0).val
  let c2_i32_16 : BitVec 32 := 2#32
  let v41 : BitVec 32 := Scalar.muli arg0 c2_i32_16
  let v42 : BitVec 32 := Scalar.addi v41 c0_i32_17
  let v43 : Index := Scalar.indexCast v42
  ![2, v43.toNat]
def k0_off14 (i : grid0.Coords) (c0_i32_25 : BitVec 32) : Fin 2 → Nat :=
  let c3 : Index := 3#32
  let arg0 : BitVec 32 := BitVec.ofNat 32 (i 0).val
  let c2_i32_24 : BitVec 32 := 2#32
  let v60 : BitVec 32 := Scalar.muli arg0 c2_i32_24
  let v61 : BitVec 32 := Scalar.addi v60 c0_i32_25
  let v62 : Index := Scalar.indexCast v61
  ![3, v62.toNat]
def k0_off15 (i : grid0.Coords) (c0_i32_33 : BitVec 32) : Fin 2 → Nat :=
  let c4 : Index := 4#32
  let arg0 : BitVec 32 := BitVec.ofNat 32 (i 0).val
  let c2_i32_32 : BitVec 32 := 2#32
  let v79 : BitVec 32 := Scalar.muli arg0 c2_i32_32
  let v80 : BitVec 32 := Scalar.addi v79 c0_i32_33
  let v81 : Index := Scalar.indexCast v80
  ![4, v81.toNat]
def k0_off16 (i : grid0.Coords) (c0_i32_41 : BitVec 32) : Fin 2 → Nat :=
  let c5 : Index := 5#32
  let arg0 : BitVec 32 := BitVec.ofNat 32 (i 0).val
  let c2_i32_40 : BitVec 32 := 2#32
  let v98 : BitVec 32 := Scalar.muli arg0 c2_i32_40
  let v99 : BitVec 32 := Scalar.addi v98 c0_i32_41
  let v100 : Index := Scalar.indexCast v99
  ![5, v100.toNat]
def k0_off17 (i : grid0.Coords) (c0_i32_49 : BitVec 32) : Fin 2 → Nat :=
  let c6 : Index := 6#32
  let arg0 : BitVec 32 := BitVec.ofNat 32 (i 0).val
  let c2_i32_48 : BitVec 32 := 2#32
  let v117 : BitVec 32 := Scalar.muli arg0 c2_i32_48
  let v118 : BitVec 32 := Scalar.addi v117 c0_i32_49
  let v119 : Index := Scalar.indexCast v118
  ![6, v119.toNat]
def k0_off18 (i : grid0.Coords) (c0_i32_57 : BitVec 32) : Fin 2 → Nat :=
  let c7 : Index := 7#32
  let arg0 : BitVec 32 := BitVec.ofNat 32 (i 0).val
  let c2_i32_56 : BitVec 32 := 2#32
  let v136 : BitVec 32 := Scalar.muli arg0 c2_i32_56
  let v137 : BitVec 32 := Scalar.addi v136 c0_i32_57
  let v138 : Index := Scalar.indexCast v137
  ![7, v138.toNat]
def k0_off19 (i : grid0.Coords) (c0_i32_65 : BitVec 32) : Fin 2 → Nat :=
  let c8 : Index := 8#32
  let arg0 : BitVec 32 := BitVec.ofNat 32 (i 0).val
  let c2_i32_64 : BitVec 32 := 2#32
  let v155 : BitVec 32 := Scalar.muli arg0 c2_i32_64
  let v156 : BitVec 32 := Scalar.addi v155 c0_i32_65
  let v157 : Index := Scalar.indexCast v156
  ![8, v157.toNat]
def k0_off20 (i : grid0.Coords) (c0_i32_73 : BitVec 32) : Fin 2 → Nat :=
  let c9 : Index := 9#32
  let arg0 : BitVec 32 := BitVec.ofNat 32 (i 0).val
  let c2_i32_72 : BitVec 32 := 2#32
  let v174 : BitVec 32 := Scalar.muli arg0 c2_i32_72
  let v175 : BitVec 32 := Scalar.addi v174 c0_i32_73
  let v176 : Index := Scalar.indexCast v175
  ![9, v176.toNat]
def k0_off21 (i : grid0.Coords) (c0_i32_81 : BitVec 32) : Fin 2 → Nat :=
  let c10 : Index := 10#32
  let arg0 : BitVec 32 := BitVec.ofNat 32 (i 0).val
  let c2_i32_80 : BitVec 32 := 2#32
  let v193 : BitVec 32 := Scalar.muli arg0 c2_i32_80
  let v194 : BitVec 32 := Scalar.addi v193 c0_i32_81
  let v195 : Index := Scalar.indexCast v194
  ![10, v195.toNat]
def k0_off22 (i : grid0.Coords) (c0_i32_89 : BitVec 32) : Fin 2 → Nat :=
  let c11 : Index := 11#32
  let arg0 : BitVec 32 := BitVec.ofNat 32 (i 0).val
  let c2_i32_88 : BitVec 32 := 2#32
  let v212 : BitVec 32 := Scalar.muli arg0 c2_i32_88
  let v213 : BitVec 32 := Scalar.addi v212 c0_i32_89
  let v214 : Index := Scalar.indexCast v213
  ![11, v214.toNat]
def k0_off23 (i : grid0.Coords) (c0_i32_97 : BitVec 32) : Fin 2 → Nat :=
  let c12 : Index := 12#32
  let arg0 : BitVec 32 := BitVec.ofNat 32 (i 0).val
  let c2_i32_96 : BitVec 32 := 2#32
  let v231 : BitVec 32 := Scalar.muli arg0 c2_i32_96
  let v232 : BitVec 32 := Scalar.addi v231 c0_i32_97
  let v233 : Index := Scalar.indexCast v232
  ![12, v233.toNat]
def k0_off24 (i : grid0.Coords) (c0_i32_105 : BitVec 32) : Fin 2 → Nat :=
  let c13 : Index := 13#32
  let arg0 : BitVec 32 := BitVec.ofNat 32 (i 0).val
  let c2_i32_104 : BitVec 32 := 2#32
  let v250 : BitVec 32 := Scalar.muli arg0 c2_i32_104
  let v251 : BitVec 32 := Scalar.addi v250 c0_i32_105
  let v252 : Index := Scalar.indexCast v251
  ![13, v252.toNat]
def k0_off25 (i : grid0.Coords) (c0_i32_113 : BitVec 32) : Fin 2 → Nat :=
  let c14 : Index := 14#32
  let arg0 : BitVec 32 := BitVec.ofNat 32 (i 0).val
  let c2_i32_112 : BitVec 32 := 2#32
  let v269 : BitVec 32 := Scalar.muli arg0 c2_i32_112
  let v270 : BitVec 32 := Scalar.addi v269 c0_i32_113
  let v271 : Index := Scalar.indexCast v270
  ![14, v271.toNat]
def k0_off26 (i : grid0.Coords) (c0_i32_121 : BitVec 32) : Fin 2 → Nat :=
  let c15 : Index := 15#32
  let arg0 : BitVec 32 := BitVec.ofNat 32 (i 0).val
  let c2_i32_120 : BitVec 32 := 2#32
  let v288 : BitVec 32 := Scalar.muli arg0 c2_i32_120
  let v289 : BitVec 32 := Scalar.addi v288 c0_i32_121
  let v290 : Index := Scalar.indexCast v289
  ![15, v290.toNat]
def k0_off27 (i : grid0.Coords) (c0_i32_129 : BitVec 32) : Fin 2 → Nat :=
  let c16 : Index := 16#32
  let arg0 : BitVec 32 := BitVec.ofNat 32 (i 0).val
  let c2_i32_128 : BitVec 32 := 2#32
  let v307 : BitVec 32 := Scalar.muli arg0 c2_i32_128
  let v308 : BitVec 32 := Scalar.addi v307 c0_i32_129
  let v309 : Index := Scalar.indexCast v308
  ![16, v309.toNat]
def k0_off28 (i : grid0.Coords) (c0_i32_137 : BitVec 32) : Fin 2 → Nat :=
  let c17 : Index := 17#32
  let arg0 : BitVec 32 := BitVec.ofNat 32 (i 0).val
  let c2_i32_136 : BitVec 32 := 2#32
  let v326 : BitVec 32 := Scalar.muli arg0 c2_i32_136
  let v327 : BitVec 32 := Scalar.addi v326 c0_i32_137
  let v328 : Index := Scalar.indexCast v327
  ![17, v328.toNat]
def k0_off29 (i : grid0.Coords) (c0_i32_145 : BitVec 32) : Fin 2 → Nat :=
  let c18 : Index := 18#32
  let arg0 : BitVec 32 := BitVec.ofNat 32 (i 0).val
  let c2_i32_144 : BitVec 32 := 2#32
  let v345 : BitVec 32 := Scalar.muli arg0 c2_i32_144
  let v346 : BitVec 32 := Scalar.addi v345 c0_i32_145
  let v347 : Index := Scalar.indexCast v346
  ![18, v347.toNat]
def k0_off30 (i : grid0.Coords) (c0_i32_153 : BitVec 32) : Fin 2 → Nat :=
  let c19 : Index := 19#32
  let arg0 : BitVec 32 := BitVec.ofNat 32 (i 0).val
  let c2_i32_152 : BitVec 32 := 2#32
  let v364 : BitVec 32 := Scalar.muli arg0 c2_i32_152
  let v365 : BitVec 32 := Scalar.addi v364 c0_i32_153
  let v366 : Index := Scalar.indexCast v365
  ![19, v366.toNat]
def k0_off31 (i : grid0.Coords) (c0_i32_161 : BitVec 32) : Fin 2 → Nat :=
  let c20 : Index := 20#32
  let arg0 : BitVec 32 := BitVec.ofNat 32 (i 0).val
  let c2_i32_160 : BitVec 32 := 2#32
  let v383 : BitVec 32 := Scalar.muli arg0 c2_i32_160
  let v384 : BitVec 32 := Scalar.addi v383 c0_i32_161
  let v385 : Index := Scalar.indexCast v384
  ![20, v385.toNat]
def k0_off32 (i : grid0.Coords) (c0_i32_169 : BitVec 32) : Fin 2 → Nat :=
  let c21 : Index := 21#32
  let arg0 : BitVec 32 := BitVec.ofNat 32 (i 0).val
  let c2_i32_168 : BitVec 32 := 2#32
  let v402 : BitVec 32 := Scalar.muli arg0 c2_i32_168
  let v403 : BitVec 32 := Scalar.addi v402 c0_i32_169
  let v404 : Index := Scalar.indexCast v403
  ![21, v404.toNat]
def k0_off33 (i : grid0.Coords) (c0_i32_177 : BitVec 32) : Fin 2 → Nat :=
  let c22 : Index := 22#32
  let arg0 : BitVec 32 := BitVec.ofNat 32 (i 0).val
  let c2_i32_176 : BitVec 32 := 2#32
  let v421 : BitVec 32 := Scalar.muli arg0 c2_i32_176
  let v422 : BitVec 32 := Scalar.addi v421 c0_i32_177
  let v423 : Index := Scalar.indexCast v422
  ![22, v423.toNat]
def k0_off34 (i : grid0.Coords) (c0_i32_185 : BitVec 32) : Fin 2 → Nat :=
  let c23 : Index := 23#32
  let arg0 : BitVec 32 := BitVec.ofNat 32 (i 0).val
  let c2_i32_184 : BitVec 32 := 2#32
  let v440 : BitVec 32 := Scalar.muli arg0 c2_i32_184
  let v441 : BitVec 32 := Scalar.addi v440 c0_i32_185
  let v442 : Index := Scalar.indexCast v441
  ![23, v442.toNat]
def k0_off35 (i : grid0.Coords) (c0_i32_193 : BitVec 32) : Fin 2 → Nat :=
  let c24 : Index := 24#32
  let arg0 : BitVec 32 := BitVec.ofNat 32 (i 0).val
  let c2_i32_192 : BitVec 32 := 2#32
  let v459 : BitVec 32 := Scalar.muli arg0 c2_i32_192
  let v460 : BitVec 32 := Scalar.addi v459 c0_i32_193
  let v461 : Index := Scalar.indexCast v460
  ![24, v461.toNat]
def k0_off36 (i : grid0.Coords) (c0_i32_201 : BitVec 32) : Fin 2 → Nat :=
  let c25 : Index := 25#32
  let arg0 : BitVec 32 := BitVec.ofNat 32 (i 0).val
  let c2_i32_200 : BitVec 32 := 2#32
  let v478 : BitVec 32 := Scalar.muli arg0 c2_i32_200
  let v479 : BitVec 32 := Scalar.addi v478 c0_i32_201
  let v480 : Index := Scalar.indexCast v479
  ![25, v480.toNat]
def k0_off37 (i : grid0.Coords) (c0_i32_209 : BitVec 32) : Fin 2 → Nat :=
  let c26 : Index := 26#32
  let arg0 : BitVec 32 := BitVec.ofNat 32 (i 0).val
  let c2_i32_208 : BitVec 32 := 2#32
  let v497 : BitVec 32 := Scalar.muli arg0 c2_i32_208
  let v498 : BitVec 32 := Scalar.addi v497 c0_i32_209
  let v499 : Index := Scalar.indexCast v498
  ![26, v499.toNat]
def k0_off38 (i : grid0.Coords) (c0_i32_217 : BitVec 32) : Fin 2 → Nat :=
  let c27 : Index := 27#32
  let arg0 : BitVec 32 := BitVec.ofNat 32 (i 0).val
  let c2_i32_216 : BitVec 32 := 2#32
  let v516 : BitVec 32 := Scalar.muli arg0 c2_i32_216
  let v517 : BitVec 32 := Scalar.addi v516 c0_i32_217
  let v518 : Index := Scalar.indexCast v517
  ![27, v518.toNat]
def k0_off39 (i : grid0.Coords) (c0_i32_225 : BitVec 32) : Fin 2 → Nat :=
  let c28 : Index := 28#32
  let arg0 : BitVec 32 := BitVec.ofNat 32 (i 0).val
  let c2_i32_224 : BitVec 32 := 2#32
  let v535 : BitVec 32 := Scalar.muli arg0 c2_i32_224
  let v536 : BitVec 32 := Scalar.addi v535 c0_i32_225
  let v537 : Index := Scalar.indexCast v536
  ![28, v537.toNat]
def k0_off40 (i : grid0.Coords) (c0_i32_233 : BitVec 32) : Fin 2 → Nat :=
  let c29 : Index := 29#32
  let arg0 : BitVec 32 := BitVec.ofNat 32 (i 0).val
  let c2_i32_232 : BitVec 32 := 2#32
  let v554 : BitVec 32 := Scalar.muli arg0 c2_i32_232
  let v555 : BitVec 32 := Scalar.addi v554 c0_i32_233
  let v556 : Index := Scalar.indexCast v555
  ![29, v556.toNat]
def k0_off41 (i : grid0.Coords) (c0_i32_241 : BitVec 32) : Fin 2 → Nat :=
  let c30 : Index := 30#32
  let arg0 : BitVec 32 := BitVec.ofNat 32 (i 0).val
  let c2_i32_240 : BitVec 32 := 2#32
  let v573 : BitVec 32 := Scalar.muli arg0 c2_i32_240
  let v574 : BitVec 32 := Scalar.addi v573 c0_i32_241
  let v575 : Index := Scalar.indexCast v574
  ![30, v575.toNat]
def k0_off42 (i : grid0.Coords) (c0_i32_249 : BitVec 32) : Fin 2 → Nat :=
  let c31 : Index := 31#32
  let arg0 : BitVec 32 := BitVec.ofNat 32 (i 0).val
  let c2_i32_248 : BitVec 32 := 2#32
  let v592 : BitVec 32 := Scalar.muli arg0 c2_i32_248
  let v593 : BitVec 32 := Scalar.addi v592 c0_i32_249
  let v594 : Index := Scalar.indexCast v593
  ![31, v594.toNat]
def k0_off43 (i : grid0.Coords) (c0_i32_257 : BitVec 32) : Fin 2 → Nat :=
  let c32 : Index := 32#32
  let arg0 : BitVec 32 := BitVec.ofNat 32 (i 0).val
  let c2_i32_256 : BitVec 32 := 2#32
  let v611 : BitVec 32 := Scalar.muli arg0 c2_i32_256
  let v612 : BitVec 32 := Scalar.addi v611 c0_i32_257
  let v613 : Index := Scalar.indexCast v612
  ![32, v613.toNat]
def k0_off44 (i : grid0.Coords) (c0_i32_265 : BitVec 32) : Fin 2 → Nat :=
  let c33 : Index := 33#32
  let arg0 : BitVec 32 := BitVec.ofNat 32 (i 0).val
  let c2_i32_264 : BitVec 32 := 2#32
  let v630 : BitVec 32 := Scalar.muli arg0 c2_i32_264
  let v631 : BitVec 32 := Scalar.addi v630 c0_i32_265
  let v632 : Index := Scalar.indexCast v631
  ![33, v632.toNat]
def k0_off45 (i : grid0.Coords) (c0_i32_273 : BitVec 32) : Fin 2 → Nat :=
  let c34 : Index := 34#32
  let arg0 : BitVec 32 := BitVec.ofNat 32 (i 0).val
  let c2_i32_272 : BitVec 32 := 2#32
  let v649 : BitVec 32 := Scalar.muli arg0 c2_i32_272
  let v650 : BitVec 32 := Scalar.addi v649 c0_i32_273
  let v651 : Index := Scalar.indexCast v650
  ![34, v651.toNat]
def k0_off46 (i : grid0.Coords) (c0_i32_281 : BitVec 32) : Fin 2 → Nat :=
  let c35 : Index := 35#32
  let arg0 : BitVec 32 := BitVec.ofNat 32 (i 0).val
  let c2_i32_280 : BitVec 32 := 2#32
  let v668 : BitVec 32 := Scalar.muli arg0 c2_i32_280
  let v669 : BitVec 32 := Scalar.addi v668 c0_i32_281
  let v670 : Index := Scalar.indexCast v669
  ![35, v670.toNat]
def k0_off47 (i : grid0.Coords) (c0_i32_289 : BitVec 32) : Fin 2 → Nat :=
  let c36 : Index := 36#32
  let arg0 : BitVec 32 := BitVec.ofNat 32 (i 0).val
  let c2_i32_288 : BitVec 32 := 2#32
  let v687 : BitVec 32 := Scalar.muli arg0 c2_i32_288
  let v688 : BitVec 32 := Scalar.addi v687 c0_i32_289
  let v689 : Index := Scalar.indexCast v688
  ![36, v689.toNat]
def k0_off48 (i : grid0.Coords) (c0_i32_297 : BitVec 32) : Fin 2 → Nat :=
  let c37 : Index := 37#32
  let arg0 : BitVec 32 := BitVec.ofNat 32 (i 0).val
  let c2_i32_296 : BitVec 32 := 2#32
  let v706 : BitVec 32 := Scalar.muli arg0 c2_i32_296
  let v707 : BitVec 32 := Scalar.addi v706 c0_i32_297
  let v708 : Index := Scalar.indexCast v707
  ![37, v708.toNat]
def k0_off49 (i : grid0.Coords) (c0_i32_305 : BitVec 32) : Fin 2 → Nat :=
  let c38 : Index := 38#32
  let arg0 : BitVec 32 := BitVec.ofNat 32 (i 0).val
  let c2_i32_304 : BitVec 32 := 2#32
  let v725 : BitVec 32 := Scalar.muli arg0 c2_i32_304
  let v726 : BitVec 32 := Scalar.addi v725 c0_i32_305
  let v727 : Index := Scalar.indexCast v726
  ![38, v727.toNat]
def k0_off50 (i : grid0.Coords) (c0_i32_313 : BitVec 32) : Fin 2 → Nat :=
  let c39 : Index := 39#32
  let arg0 : BitVec 32 := BitVec.ofNat 32 (i 0).val
  let c2_i32_312 : BitVec 32 := 2#32
  let v744 : BitVec 32 := Scalar.muli arg0 c2_i32_312
  let v745 : BitVec 32 := Scalar.addi v744 c0_i32_313
  let v746 : Index := Scalar.indexCast v745
  ![39, v746.toNat]
def k0_off51 (i : grid0.Coords) : Fin 3 → Nat :=
  let arg0 : BitVec 32 := BitVec.ofNat 32 (i 0).val
  let v766 : Index := Scalar.indexCast arg0
  let c0_322 : Index := 0#32
  let c0_323 : Index := 0#32
  ![v766.toNat, 0, 0]
def k0_cond2 (i : grid0.Coords) : BitVec 1 :=
  let arg0 : BitVec 32 := BitVec.ofNat 32 (i 0).val
  let c9_i32 : BitVec 32 := 9#32
  let v770 : BitVec 1 := Scalar.cmpi .eq arg0 c9_i32
  let v771 : BitVec 32 := Scalar.extui v770
  let c0_i32_324 : BitVec 32 := 0#32
  let v772 : BitVec 1 := Scalar.cmpi .ne v771 c0_i32_324
  v772

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S2x129 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x129 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5120x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .smem S40x20 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x2560 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x5120 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x40 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x2560 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x20 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x2560 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== FrontReferenceIdeal.lean ====
abbrev S2x128x2560 : Shape := ⟨3, ![2, 128, 2560]⟩
abbrev S2x129 : Shape := ⟨2, ![2, 129]⟩
abbrev S151936x2560 : Shape := ⟨2, ![151936, 2560]⟩
abbrev S151936x20 : Shape := ⟨2, ![151936, 20]⟩
abbrev S2560 : Shape := ⟨1, ![2560]⟩
abbrev S5120x2560 : Shape := ⟨2, ![5120, 2560]⟩
abbrev S40x20 : Shape := ⟨2, ![40, 20]⟩
abbrev S2x128 : Shape := ⟨2, ![2, 128]⟩
abbrev S256 : Shape := ⟨1, ![256]⟩
abbrev S256x2560 : Shape := ⟨2, ![256, 2560]⟩
abbrev S_ : Shape := ⟨0, ![]⟩
abbrev S256x1 : Shape := ⟨2, ![256, 1]⟩
abbrev S256x20 : Shape := ⟨2, ![256, 20]⟩
abbrev S1x2560 : Shape := ⟨2, ![1, 2560]⟩
abbrev S256x5120 : Shape := ⟨2, ![256, 5120]⟩
abbrev S256x40 : Shape := ⟨2, ![256, 40]⟩
abbrev S256x20x128 : Shape := ⟨3, ![256, 20, 128]⟩
abbrev S256x20x1 : Shape := ⟨3, ![256, 20, 1]⟩
abbrev S256x40x128 : Shape := ⟨3, ![256, 40, 128]⟩
abbrev S256x40x1 : Shape := ⟨3, ![256, 40, 1]⟩
abbrev S1x1x252 : Shape := ⟨3, ![1, 1, 252]⟩
abbrev S256x40x252 : Shape := ⟨3, ![256, 40, 252]⟩
abbrev S40x128x20x128 : Shape := ⟨4, ![40, 128, 20, 128]⟩
abbrev S40x1x20x1 : Shape := ⟨4, ![40, 1, 20, 1]⟩
abbrev S256x20x252 : Shape := ⟨3, ![256, 20, 252]⟩

abbrev nBuf : Space → Nat
  | .hbm => 39
  | .vmem => 14
  | .smem => 0
  | _ => 0

abbrev bufTy : (tb : Table) → Fin (tcTables nBuf tb) → BufTy
  | .hbm, ⟨0, _⟩ => ⟨S2x128x2560, .bf16⟩
  | .hbm, ⟨1, _⟩ => ⟨S2x129, .i32⟩
  | .hbm, ⟨2, _⟩ => ⟨S151936x2560, .i8⟩
  | .hbm, ⟨3, _⟩ => ⟨S151936x20, .f32⟩
  | .hbm, ⟨4, _⟩ => ⟨S2560, .f32⟩
  | .hbm, ⟨5, _⟩ => ⟨S2560, .f32⟩
  | .hbm, ⟨6, _⟩ => ⟨S2560, .f32⟩
  | .hbm, ⟨7, _⟩ => ⟨S5120x2560, .fp8e4m3⟩
  | .hbm, ⟨8, _⟩ => ⟨S40x20, .f32⟩
  | .hbm, ⟨9, _⟩ => ⟨S2x128, .i32⟩
  | .hbm, ⟨10, _⟩ => ⟨S256, .i32⟩
  | .hbm, ⟨11, _⟩ => ⟨S256x2560, .bf16⟩
  | .hbm, ⟨12, _⟩ => ⟨S_, .i32⟩
  | .hbm, ⟨13, _⟩ => ⟨S256, .i32⟩
  | .hbm, ⟨14, _⟩ => ⟨S256, .i1⟩
  | .hbm, ⟨15, _⟩ => ⟨S_, .i32⟩
  | .hbm, ⟨16, _⟩ => ⟨S256, .i32⟩
  | .hbm, ⟨17, _⟩ => ⟨S256, .i32⟩
  | .hbm, ⟨18, _⟩ => ⟨S256, .i32⟩
  | .hbm, ⟨19, _⟩ => ⟨S256x1, .i32⟩
  | .hbm, ⟨20, _⟩ => ⟨S256x2560, .i8⟩
  | .hbm, ⟨21, _⟩ => ⟨S_, .i32⟩
  | .hbm, ⟨22, _⟩ => ⟨S256, .i32⟩
  | .hbm, ⟨23, _⟩ => ⟨S256, .i1⟩
  | .hbm, ⟨24, _⟩ => ⟨S_, .i32⟩
  | .hbm, ⟨25, _⟩ => ⟨S256, .i32⟩
  | .hbm, ⟨26, _⟩ => ⟨S256, .i32⟩
  | .hbm, ⟨27, _⟩ => ⟨S256, .i32⟩
  | .hbm, ⟨28, _⟩ => ⟨S256x1, .i32⟩
  | .hbm, ⟨29, _⟩ => ⟨S256x20, .f32⟩
  | .hbm, ⟨30, _⟩ => ⟨S1x2560, .f32⟩
  | .hbm, ⟨31, _⟩ => ⟨S1x2560, .f32⟩
  | .hbm, ⟨32, _⟩ => ⟨S1x2560, .f32⟩
  | .hbm, ⟨33, _⟩ => ⟨S256x2560, .bf16⟩
  | .hbm, ⟨34, _⟩ => ⟨S256x5120, .fp8e4m3⟩
  | .hbm, ⟨35, _⟩ => ⟨S256x40, .f32⟩
  | .hbm, ⟨36, _⟩ => ⟨S256x2560, .fp8e4m3⟩
  | .hbm, ⟨37, _⟩ => ⟨S256x20, .f32⟩
  | .hbm, ⟨38, _⟩ => ⟨S256x2560, .bf16⟩
  | .local _ .vmem, ⟨0, _⟩ => ⟨S256x2560, .bf16⟩
  | .local _ .vmem, ⟨1, _⟩ => ⟨S256x2560, .i8⟩
  | .local _ .vmem, ⟨2, _⟩ => ⟨S256x20, .f32⟩
  | .local _ .vmem, ⟨3, _⟩ => ⟨S1x2560, .f32⟩
  | .local _ .vmem, ⟨4, _⟩ => ⟨S1x2560, .f32⟩
  | .local _ .vmem, ⟨5, _⟩ => ⟨S1x2560, .f32⟩
  | .local _ .vmem, ⟨6, _⟩ => ⟨S5120x2560, .fp8e4m3⟩
  | .local _ .vmem, ⟨7, _⟩ => ⟨S40x20, .f32⟩
  | .local _ .vmem, ⟨8, _⟩ => ⟨S256x2560, .bf16⟩
  | .local _ .vmem, ⟨9, _⟩ => ⟨S256x5120, .fp8e4m3⟩
  | .local _ .vmem, ⟨10, _⟩ => ⟨S256x40, .f32⟩
  | .local _ .vmem, ⟨11, _⟩ => ⟨S256x2560, .fp8e4m3⟩
  | .local _ .vmem, ⟨12, _⟩ => ⟨S256x20, .f32⟩
  | .local _ .vmem, ⟨13, _⟩ => ⟨S256x2560, .bf16⟩
  | _, _ => ⟨S2x128x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev main_v20_2 : Ref sig .tc := ⟨.hbm, 35, rfl⟩
abbrev main_v20_3 : Ref sig .tc := ⟨.hbm, 36, rfl⟩
abbrev main_v20_4 : Ref sig .tc := ⟨.hbm, 37, rfl⟩
abbrev main_v20_5 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S256x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2560 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5120x2560 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S40x20 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x2560 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x5120 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x40 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x2560 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x20 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256x2560 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Owns.lean ====
/- Loads and stores of a memref whose contents are named: two rules over `owns`, for any program. -/
module

public import Idealize.ShloMosaic.Lib.Memref
public import Idealize.ShloMosaic.Lib.Tactic

@[expose] public section

noncomputable section

namespace Cert.Owns

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name] {U : Type} [URA U]
variable {Lvl : Type} {Λ : Labels} [Preorder Lvl] {defs : Defs nD τ sig Val Λ}
local notation "𝕄" => MT nD τ sig Ix Val Name U Lvl

variable (𝒱 : Variants) (c : Thread nD τ) (bd : Option 𝒱.V) (E : Set Name)
variable {cs : CoreSpace} {s : Shape} {e : EltTy} {α : Type}

/-- A load through a rectangle of a memref owned at `X` reads `X` there. -/
theorem wp_load {Q : α → sProp 𝕄} {m : Memref sig c.2.kind cs s e} {r : Rect s} {hl : m.view.LoadsAt r}
    {k : (r.shape.Idx → Val e) → Prog (TpuEff nD τ sig Val Λ c.2) α} {q : PosShare TreeShare} {X : s.Idx → Val e} :
    (owns c m q X : sProp 𝕄) ⊢ iprop((owns c m q X -∗ wp frame (wpE defs 𝒱 c bd) E (k (fun x => X (r.emb x))) Q)
      -∗ wp frame (wpE defs 𝒱 c bd) E (.op (.load m r hl) k) Q) := by
  unfold owns
  iintro ⟨%f, %hf, H⟩ Hk
  iapply (Idealize.ShloMosaic.wp_load 𝒱 c bd E (hl := hl) (k := k) (S := m.view.set) (q := q) (f := f) (View.setOn_subset_set _ _)) $$ H
  iintro H
  subst hf
  iapply Hk
  iexists f
  isplitr
  · ipureintro; rfl
  · iexact H

/-- An unmasked store through a rectangle of a memref owned at `X`: it is owned at contents that are the payload on the
    rectangle and `X` elsewhere. -/
theorem wp_store {Q : α → sProp 𝕄} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    (owns c m fullShare X : sProp 𝕄) ⊢ iprop((∀ Y : s.Idx → Val e, ⌜(∀ x, Y (r.emb x) = w x) ∧ ∀ y, y ∉ r.set → Y y = X y⌝
          -∗ owns c m fullShare Y -∗ wp frame (wpE defs 𝒱 c bd) E (k ⟨⟩) Q)
      -∗ wp frame (wpE defs 𝒱 c bd) E (.op (.store m r w Finset.univ hx hm) k) Q) := by
  unfold owns
  iintro ⟨%f, %hf, H⟩ Hk
  iapply (Idealize.ShloMosaic.wp_store 𝒱 c bd E (hx := hx) (hm := hm) (k := k) (w := w) (Mk := Finset.univ) (S := m.view.set) (f := f)
    (by rw [View.setOn_univ, View.set_slice]; exact View.setOn_subset_set _ _)) $$ H
  iintro H
  subst hf
  iapply Hk $$ %(m.view.read Val ((m.access r).write Val f w Finset.univ)) %_ [H]
  · exact ⟨fun x => View.read_slice_write_emb _ _ _ (Finset.mem_univ x), fun y hy =>
      View.read_slice_write_of_not_mem _ _ _ _ (by rwa [Rect.map_emb_univ])⟩
  · iexists _
    isplitr
    · ipureintro; rfl
    · iexact H

/-- The whole of a shape as a rectangle places every index at itself, -/
theorem emb_whole {s : Shape} {off : Fin s.rank → Nat} (h : off = fun _ => 0) (inb : ∀ a, off a + s.size a ≤ s.size a)
    (x : s.Idx) : (Rect.unit (s := s) off s.size inb).emb x = x := by
  subst h
  funext a; apply Fin.ext; show 0 + 1 * (x a : Nat) = x a; omega

/-- so that a load of the whole memref reads its contents, -/
theorem wp_load_whole {Q : α → sProp 𝕄} {m : Memref sig c.2.kind cs s e} {off : Fin s.rank → Nat} (h0 : off = fun _ => 0)
    {inb : ∀ a, off a + s.size a ≤ s.size a} {hl : m.view.LoadsAt (Rect.unit (s := s) off s.size inb).toLoadRect}
    {k : (s.Idx → Val e) → Prog (TpuEff nD τ sig Val Λ c.2) α} {q : PosShare TreeShare} {X : s.Idx → Val e} :
    (owns c m q X : sProp 𝕄) ⊢ iprop((owns c m q X -∗ wp frame (wpE defs 𝒱 c bd) E (k X) Q)
      -∗ wp frame (wpE defs 𝒱 c bd) E (.op (.load m (Rect.unit (s := s) off s.size inb).toLoadRect hl) k) Q) := by
  have h := wp_load (defs := defs) 𝒱 c bd E (Q := Q) (m := m) (r := Rect.unit (s := s) off s.size inb) (hl := hl) (k := k) (q := q) (X := X)
  rwa [show (fun x => X ((Rect.unit (s := s) off s.size inb).emb x)) = X from funext fun x => congrArg X (emb_whole h0 inb x)] at h

/-- and an unmasked store of the whole memref leaves it at the payload. -/
theorem wp_store_whole {Q : α → sProp 𝕄} {m : Memref sig c.2.kind cs s e} {off : Fin s.rank → Nat} (h0 : off = fun _ => 0)
    {inb : ∀ a, off a + s.size a ≤ s.size a} {w : s.Idx → Val e}
    {hx : (m.access (Rect.unit (s := s) off s.size inb)).Stores Finset.univ}
    {hm : (Finset.univ : Finset s.Idx) = Finset.univ ∨ ∀ a, (Rect.unit (s := s) off s.size inb).stride a = 1}
    {k : PUnit → Prog (TpuEff nD τ sig Val Λ c.2) α} {X : s.Idx → Val e} :
    (owns c m fullShare X : sProp 𝕄) ⊢ iprop((owns c m fullShare w -∗ wp frame (wpE defs 𝒱 c bd) E (k ⟨⟩) Q)
      -∗ wp frame (wpE defs 𝒱 c bd) E (.op (.store m (Rect.unit (s := s) off s.size inb) w Finset.univ hx hm) k) Q) := by
  iintro H Hk
  iapply (wp_store 𝒱 c bd E (r := Rect.unit (s := s) off s.size inb) (hx := hx) (hm := hm) (w := w)) $$ H
  iintro %Y %hY H
  have e : Y = w := funext fun x => by
    have := hY.1 x; rw [emb_whole h0] at this; exact this
  subst e
  iapply Hk; iexact H

end Cert.Owns

end
-- ==== Proof.Kernel.Blocks.lean ====
/- The head kernel's body, written with its 320 dequantized blocks as ONE step repeated: `blocks` is the chain of
   them, `updates` what follows (the tile's logits folded into the running maximum, sum and picked logit), `results`
   the last point's store of the loss. `body_first` and `body_later` say that the printed body is that, at the first
   grid point and at a later one. -/
module

public import proofs.«01_k».proof.Proof.Gen.Kernel.Frame
public import proofs.«01_k».proof.Proof.Gen.Kernel.Skeleton
public import Idealize.ShloMosaic.Lib.Pipeline.Regions

@[expose] public section

set_option maxRecDepth 16384

noncomputable section

namespace Cert.Kernel.Head

open Idealize.ShloMosaic Idealize.ShloMosaic.TcCoe
open Idealize.SL Idealize.SL.Sem
open Cert.Kernel Cert.Kernel.Gen

variable {F : FTy → Type} [FloatOps F]

/-- Block `n` (counted along the rows of blocks) has its scale inside the tile's scales. -/
theorem scale_inb {n : Nat} (hn : n < 320) :
    ∀ a, (![n / 20, n % 20] : Fin 2 → Nat) a + S1x1.size a ≤ S16x20.size a := by
  intro a; fin_cases a <;> simp <;> omega

/-- Block `n` lies inside the tile. -/
theorem block_inb {n : Nat} (hn : n < 320) :
    ∀ a, (![128 * (n / 20), 128 * (n % 20)] : Fin 2 → Nat) a + S128x128.size a ≤ S2048x2560.size a := by
  intro a; fin_cases a <;> simp <;> omega

/-- Block `n`'s place in a tile. -/
abbrev blockRect (n : Nat) (hn : n < 320) : Rect S2048x2560 :=
  Rect.unit (s := S2048x2560) ![128 * (n / 20), 128 * (n % 20)] S128x128.size (block_inb hn)

/-- The place of block `n`'s scale. -/
abbrev scaleRect (n : Nat) (hn : n < 320) : Rect S16x20 :=
  Rect.unit (s := S16x20) ![n / 20, n % 20] S1x1.size (scale_inb hn)

/-- A block's rows are whole packed rows. -/
theorem block_packed {n : Nat} (hn : n < 320) : (blockRect n hn).PackedRows (EltTy.packing .bf16) := by
  refine .inr ⟨by decide, rfl, .inl ⟨?_, ?_⟩⟩
  · show 2 ∣ 128 * (n / 20); omega
  · show 2 ∣ 128; omega

/-- Dequantize block `n` into the bf16 tile, then go on with `k`. -/
def stepBlock (arg3 : Memref sig .tc .vmem S2048x2560 .fp8e4m3) (arg4 : Memref sig .tc .vmem S16x20 .f32)
    (arg6 : Memref sig .tc .vmem S2048x2560 .bf16) (harg6 : arg6.IsWhole) (n : Nat) (hn : n < 320)
    (k : Prog (TpuEff nD τ sig (Elt F) Λ₀ .tc) PUnit) : Prog (TpuEff nD τ sig (Elt F) Λ₀ .tc) PUnit := do
  let s : Vec F S1x1 .f32 ← Prog.lift (.load arg4 (scaleRect n hn).toLoadRect (View.loadsAt_vmem h_S1x1))
  let c : Vec F S128x128 .fp8e4m3 ← Prog.lift (.load arg3 (blockRect n hn).toLoadRect (View.loadsAt_vmem h_S128x128))
  let _ : Vec F S128x128 .bf16 ← Prog.lift (.load arg6 (blockRect n hn).toLoadRect (View.loadsAt_vmem h_S128x128))
  Prog.lift (.store arg6 (blockRect n hn) (k0_pay8 s c) Finset.univ
    (View.stores_vmem h_S128x128 (harg6.storeExact_slice rfl _ (block_packed hn)) (fun _ => rfl)) (.inl rfl))
  k

/-- The last `f` of the 320 blocks, then `k`. -/
def blocks (arg3 : Memref sig .tc .vmem S2048x2560 .fp8e4m3) (arg4 : Memref sig .tc .vmem S16x20 .f32)
    (arg6 : Memref sig .tc .vmem S2048x2560 .bf16) (harg6 : arg6.IsWhole)
    (k : Prog (TpuEff nD τ sig (Elt F) Λ₀ .tc) PUnit) (f : Nat) : Prog (TpuEff nD τ sig (Elt F) Λ₀ .tc) PUnit :=
  Nat.rec k (fun f ih => stepBlock arg3 arg4 arg6 harg6 (319 - f) (by omega) ih) f

/-- The last point's store of the two rows of the loss. -/
def results (i : grid0.Coords) (arg5 : Memref sig .tc .vmem S2x128 .f32)
    (arg7 arg8 arg9 : Memref sig .tc .vmem S8x256 .f32) : Prog (TpuEff nD τ sig (Elt F) Λ₀ .tc) PUnit := do
  if k0_h2 : k0_cond2 i = 1#1 then do
    let m : Vec F S8x256 .f32 ← Prog.lift (.load arg7 (Rect.unit (s := S8x256) ![0, 0] S8x256.size inb_S8x256_S8x256_0_0).toLoadRect (View.loadsAt_vmem h_S8x256))
    let l : Vec F S8x256 .f32 ← Prog.lift (.load arg8 (Rect.unit (s := S8x256) ![0, 0] S8x256.size inb_S8x256_S8x256_0_0).toLoadRect (View.loadsAt_vmem h_S8x256))
    let p : Vec F S8x256 .f32 ← Prog.lift (.load arg9 (Rect.unit (s := S8x256) ![0, 0] S8x256.size inb_S8x256_S8x256_0_0).toLoadRect (View.loadsAt_vmem h_S8x256))
    let _ : Vec F S1x128 .f32 ← Prog.lift (.load arg5 (Rect.unit (s := S2x128) ![0, 0] S1x128.size inb_S2x128_S1x128_0_0).toLoadRect (View.loadsAt_vmem h_S1x128))
    Prog.lift (.store arg5 (Rect.unit (s := S2x128) ![0, 0] S1x128.size inb_S2x128_S1x128_0_0) (k0_pay3 m l p) Finset.univ (View.stores_vmem_bits_univ h_S1x128 rfl) (.inl rfl))
    let _ : Vec F S1x128 .f32 ← Prog.lift (.load arg5 (Rect.unit (s := S2x128) ![1, 0] S1x128.size inb_S2x128_S1x128_1_0).toLoadRect (View.loadsAt_vmem h_S1x128))
    Prog.lift (.store arg5 (Rect.unit (s := S2x128) ![1, 0] S1x128.size inb_S2x128_S1x128_1_0) (k0_pay4 m l p) Finset.univ (View.stores_vmem_bits_univ h_S1x128 rfl) (.inl rfl))
    pure ⟨⟩
  else do
    pure ⟨⟩
  pure ⟨⟩

/-- The tile's logits, folded into the running maximum, sum and picked logit. -/
def updates (i : grid0.Coords) (arg1 : Memref sig .tc .vmem S2x129 .i32) (arg2 : Memref sig .tc .vmem S256x2560 .bf16)
    (arg5 : Memref sig .tc .vmem S2x128 .f32) (arg6 : Memref sig .tc .vmem S2048x2560 .bf16)
    (arg7 arg8 arg9 : Memref sig .tc .vmem S8x256 .f32) : Prog (TpuEff nD τ sig (Elt F) Λ₀ .tc) PUnit := do
  let w : Vec F S2048x2560 .bf16 ← Prog.lift (.load arg6 (Rect.unit (s := S2048x2560) ![0, 0] S2048x2560.size inb_S2048x2560_S2048x2560_0_0).toLoadRect (View.loadsAt_vmem h_S2048x2560))
  let y : Vec F S256x2560 .bf16 ← Prog.lift (.load arg2 (Rect.unit (s := S256x2560) ![0, 0] S256x2560.size inb_S256x2560_S256x2560_0_0).toLoadRect (View.loadsAt_vmem h_S256x2560))
  let t0 : Vec F S1x128 .i32 ← Prog.lift (.load arg1 (Rect.unit (s := S2x129) ![0, 1] S1x128.size inb_S2x129_S1x128_0_1).toLoadRect (View.loadsAt_vmem h_S1x128))
  let t1 : Vec F S1x128 .i32 ← Prog.lift (.load arg1 (Rect.unit (s := S2x129) ![1, 1] S1x128.size inb_S2x129_S1x128_1_1).toLoadRect (View.loadsAt_vmem h_S1x128))
  let m : Vec F S8x256 .f32 ← Prog.lift (.load arg7 (Rect.unit (s := S8x256) ![0, 0] S8x256.size inb_S8x256_S8x256_0_0).toLoadRect (View.loadsAt_vmem h_S8x256))
  let l : Vec F S8x256 .f32 ← Prog.lift (.load arg8 (Rect.unit (s := S8x256) ![0, 0] S8x256.size inb_S8x256_S8x256_0_0).toLoadRect (View.loadsAt_vmem h_S8x256))
  let _ : Vec F S8x256 .f32 ← Prog.lift (.load arg8 (Rect.unit (s := S8x256) ![0, 0] S8x256.size inb_S8x256_S8x256_0_0).toLoadRect (View.loadsAt_vmem h_S8x256))
  Prog.lift (.store arg8 (Rect.unit (s := S8x256) ![0, 0] S8x256.size inb_S8x256_S8x256_0_0) (k0_pay418 (k0_pay416 (BitVec.ofNat 32 (i 0).val) w y) m l) Finset.univ (View.stores_vmem_bits_univ h_S8x256 rfl) (.inl rfl))
  let _ : Vec F S8x256 .f32 ← Prog.lift (.load arg7 (Rect.unit (s := S8x256) ![0, 0] S8x256.size inb_S8x256_S8x256_0_0).toLoadRect (View.loadsAt_vmem h_S8x256))
  Prog.lift (.store arg7 (Rect.unit (s := S8x256) ![0, 0] S8x256.size inb_S8x256_S8x256_0_0) (k0_pay419 (k0_pay416 (BitVec.ofNat 32 (i 0).val) w y) m) Finset.univ (View.stores_vmem_bits_univ h_S8x256 rfl) (.inl rfl))
  let p : Vec F S8x256 .f32 ← Prog.lift (.load arg9 (Rect.unit (s := S8x256) ![0, 0] S8x256.size inb_S8x256_S8x256_0_0).toLoadRect (View.loadsAt_vmem h_S8x256))
  let _ : Vec F S8x256 .f32 ← Prog.lift (.load arg9 (Rect.unit (s := S8x256) ![0, 0] S8x256.size inb_S8x256_S8x256_0_0).toLoadRect (View.loadsAt_vmem h_S8x256))
  Prog.lift (.store arg9 (Rect.unit (s := S8x256) ![0, 0] S8x256.size inb_S8x256_S8x256_0_0) (k0_pay1 p (k0_pay420 (k0_pay415 (BitVec.ofNat 32 (i 0).val) w y t0 t1))) Finset.univ (View.stores_vmem_bits_univ h_S8x256 rfl) (.inl rfl))
  results i arg5 arg7 arg8 arg9

/-- The body after the first point's initialization. -/
def rest (i : grid0.Coords) (arg1 : Memref sig .tc .vmem S2x129 .i32) (arg2 : Memref sig .tc .vmem S256x2560 .bf16)
    (arg3 : Memref sig .tc .vmem S2048x2560 .fp8e4m3) (arg4 : Memref sig .tc .vmem S16x20 .f32)
    (arg5 : Memref sig .tc .vmem S2x128 .f32) (arg6 : Memref sig .tc .vmem S2048x2560 .bf16) (harg6 : arg6.IsWhole)
    (arg7 arg8 arg9 : Memref sig .tc .vmem S8x256 .f32) : Prog (TpuEff nD τ sig (Elt F) Λ₀ .tc) PUnit :=
  blocks arg3 arg4 arg6 harg6 (updates i arg1 arg2 arg5 arg6 arg7 arg8 arg9) 320

/-- The first point's body: the running maximum, sum and picked logit start at `-∞`, `0` and `0`. -/
def first (i : grid0.Coords) (arg1 : Memref sig .tc .vmem S2x129 .i32) (arg2 : Memref sig .tc .vmem S256x2560 .bf16)
    (arg3 : Memref sig .tc .vmem S2048x2560 .fp8e4m3) (arg4 : Memref sig .tc .vmem S16x20 .f32)
    (arg5 : Memref sig .tc .vmem S2x128 .f32) (arg6 : Memref sig .tc .vmem S2048x2560 .bf16) (harg6 : arg6.IsWhole)
    (arg7 arg8 arg9 : Memref sig .tc .vmem S8x256 .f32) : Prog (TpuEff nD τ sig (Elt F) Λ₀ .tc) PUnit := do
  let _ : Vec F S8x256 .f32 ← Prog.lift (.load arg7 (Rect.unit (s := S8x256) ![0, 0] S8x256.size inb_S8x256_S8x256_0_0).toLoadRect (View.loadsAt_vmem h_S8x256))
  Prog.lift (.store arg7 (Rect.unit (s := S8x256) ![0, 0] S8x256.size inb_S8x256_S8x256_0_0) (k0_pay5 (F := F)) Finset.univ (View.stores_vmem_bits_univ h_S8x256 rfl) (.inl rfl))
  let _ : Vec F S8x256 .f32 ← Prog.lift (.load arg8 (Rect.unit (s := S8x256) ![0, 0] S8x256.size inb_S8x256_S8x256_0_0).toLoadRect (View.loadsAt_vmem h_S8x256))
  Prog.lift (.store arg8 (Rect.unit (s := S8x256) ![0, 0] S8x256.size inb_S8x256_S8x256_0_0) (k0_pay6 (F := F)) Finset.univ (View.stores_vmem_bits_univ h_S8x256 rfl) (.inl rfl))
  let _ : Vec F S8x256 .f32 ← Prog.lift (.load arg9 (Rect.unit (s := S8x256) ![0, 0] S8x256.size inb_S8x256_S8x256_0_0).toLoadRect (View.loadsAt_vmem h_S8x256))
  Prog.lift (.store arg9 (Rect.unit (s := S8x256) ![0, 0] S8x256.size inb_S8x256_S8x256_0_0) (k0_pay7 (F := F)) Finset.univ (View.stores_vmem_bits_univ h_S8x256 rfl) (.inl rfl))
  rest i arg1 arg2 arg3 arg4 arg5 arg6 harg6 arg7 arg8 arg9

/-- The condition of the body's initialization, as the body writes it. -/
abbrev condFirst (i : grid0.Coords) : BitVec 1 :=
  Scalar.cmpi .ne (Scalar.extui (Scalar.cmpi .eq (BitVec.ofNat 32 (i 0).val) 0#32) : BitVec 32) 0#32

section
variable (i : grid0.Coords) (arg1 : Memref sig .tc .vmem S2x129 .i32) (harg1 : arg1.IsWhole)
  (arg2 : Memref sig .tc .vmem S256x2560 .bf16) (harg2 : arg2.IsWhole)
  (arg3 : Memref sig .tc .vmem S2048x2560 .fp8e4m3) (harg3 : arg3.IsWhole)
  (arg4 : Memref sig .tc .vmem S16x20 .f32) (harg4 : arg4.IsWhole)
  (arg5 : Memref sig .tc .vmem S2x128 .f32) (harg5 : arg5.IsWhole)
  (arg6 : Memref sig .tc .vmem S2048x2560 .bf16) (harg6 : arg6.IsWhole)
  (arg7 : Memref sig .tc .vmem S8x256 .f32) (harg7 : arg7.IsWhole)
  (arg8 : Memref sig .tc .vmem S8x256 .f32) (harg8 : arg8.IsWhole)
  (arg9 : Memref sig .tc .vmem S8x256 .f32) (harg9 : arg9.IsWhole)

/-- At a point where the initialization is not taken the printed body is `rest`. -/
theorem body_later (h : ¬ condFirst i = 1#1) :
    cc0_head (F := F) i arg1 harg1 arg2 harg2 arg3 harg3 arg4 harg4 arg5 harg5 arg6 harg6 arg7 harg7 arg8 harg8 arg9 harg9
      = rest i arg1 arg2 arg3 arg4 arg5 arg6 harg6 arg7 arg8 arg9 := by
  rw [cc0_head_eq_skeleton, cc0_head_skel, k0_part87_eq_skeleton, k0_part87_skel, k0_part1_eq_skeleton, k0_part1_skel]
  dsimp only
  rw [dif_neg h]
  chain_rfl

/-- At a point where it is taken the printed body is `first`. -/
theorem body_first (h : condFirst i = 1#1) :
    cc0_head (F := F) i arg1 harg1 arg2 harg2 arg3 harg3 arg4 harg4 arg5 harg5 arg6 harg6 arg7 harg7 arg8 harg8 arg9 harg9
      = first i arg1 arg2 arg3 arg4 arg5 arg6 harg6 arg7 arg8 arg9 := by
  rw [cc0_head_eq_skeleton, cc0_head_skel, k0_part87_eq_skeleton, k0_part87_skel, k0_part1_eq_skeleton, k0_part1_skel]
  dsimp only
  rw [dif_pos h]
  chain_rfl

end

end Cert.Kernel.Head

end
-- ==== Proof.Kernel.Body.lean ====
/- The head kernel's body as a triple over named contents: what one grid point makes of the running maximum, sum and
   picked logit, given the tile's codes and scales, and (at the last point) of the loss. -/
module

public import proofs.«01_k».proof.Proof.Owns
public import proofs.«01_k».proof.Proof.Kernel.Blocks

@[expose] public section

set_option maxRecDepth 16384

noncomputable section

namespace Cert.Kernel.Head

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

/-! ## What a point computes -/

/-- The block an element of the tile lies in, -/
def blockOf (y : S2048x2560.Idx) : Nat := 20 * ((y 0 : Nat) / 128) + (y 1 : Nat) / 128

theorem blockOf_lt (y : S2048x2560.Idx) : blockOf y < 320 := by
  have h0 : (y 0 : Nat) < 2048 := (y 0).isLt
  have h1 : (y 1 : Nat) < 2560 := (y 1).isLt
  unfold blockOf; omega

/-- and its place in that block. -/
def inBlock (y : S2048x2560.Idx) : S128x128.Idx := fun a => match a with
  | ⟨0, _⟩ => (⟨(y 0 : Nat) % 128, Nat.mod_lt _ (by decide)⟩ : Fin 128)
  | ⟨1, _⟩ => (⟨(y 1 : Nat) % 128, Nat.mod_lt _ (by decide)⟩ : Fin 128)

/-- The dequantized tile of codes `C` with scales `S`. -/
def tile (S : S16x20.Idx → Elt F .f32) (C : S2048x2560.Idx → Elt F .fp8e4m3) : S2048x2560.Idx → Elt F .bf16 :=
  fun y => k0_pay8 (fun x => S ((scaleRect (blockOf y) (blockOf_lt y)).emb x))
    (fun x => C ((blockRect (blockOf y) (blockOf_lt y)).emb x)) (inBlock y)

/-- The two rows of target tokens. -/
def row0 (ids : S2x129.Idx → Elt F .i32) : S1x128.Idx → Elt F .i32 :=
  fun x => ids ((Rect.unit (s := S2x129) ![0, 1] S1x128.size inb_S2x129_S1x128_0_1).emb x)
def row1 (ids : S2x129.Idx → Elt F .i32) : S1x128.Idx → Elt F .i32 :=
  fun x => ids ((Rect.unit (s := S2x129) ![1, 1] S1x128.size inb_S2x129_S1x128_1_1).emb x)

/-- The running maximum after a point. -/
def newM (i : grid0.Coords) (w : S2048x2560.Idx → Elt F .bf16) (y : S256x2560.Idx → Elt F .bf16)
    (m : S8x256.Idx → Elt F .f32) : S8x256.Idx → Elt F .f32 :=
  k0_pay419 (k0_pay416 (BitVec.ofNat 32 (i 0).val) w y) m
/-- The running sum after a point. -/
def newL (i : grid0.Coords) (w : S2048x2560.Idx → Elt F .bf16) (y : S256x2560.Idx → Elt F .bf16)
    (m l : S8x256.Idx → Elt F .f32) : S8x256.Idx → Elt F .f32 :=
  k0_pay418 (k0_pay416 (BitVec.ofNat 32 (i 0).val) w y) m l
/-- The picked logit after a point. -/
def newP (i : grid0.Coords) (ids : S2x129.Idx → Elt F .i32) (w : S2048x2560.Idx → Elt F .bf16)
    (y : S256x2560.Idx → Elt F .bf16) (p : S8x256.Idx → Elt F .f32) : S8x256.Idx → Elt F .f32 :=
  k0_pay1 p (k0_pay420 (k0_pay415 (BitVec.ofNat 32 (i 0).val) w y (row0 ids) (row1 ids)))

/-- The loss the last point stores. -/
def lossOf (m l p : S8x256.Idx → Elt F .f32) : S2x128.Idx → Elt F .f32 :=
  fun x => if (x 0 : Nat) = 0 then k0_pay3 m l p (fun a => match a with | ⟨0, _⟩ => (0 : Fin 1) | ⟨1, _⟩ => x 1)
    else k0_pay4 m l p (fun a => match a with | ⟨0, _⟩ => (0 : Fin 1) | ⟨1, _⟩ => x 1)

/-! ## Rectangles -/

theorem zz : (![0, 0] : Fin 2 → Nat) = fun _ => 0 := funext fun a => by fin_cases a <;> rfl

/-- An element lies in its own block at its own place, -/
theorem emb_inBlock (y : S2048x2560.Idx) : (blockRect (blockOf y) (blockOf_lt y)).emb (inBlock y) = y := by
  have h1 : (y 1 : Nat) < 2560 := (y 1).isLt
  funext a; apply Fin.ext
  fin_cases a
  · show 128 * (blockOf y / 20) + 1 * ((y 0 : Nat) % 128) = (y 0 : Nat)
    unfold blockOf; omega
  · show 128 * (blockOf y % 20) + 1 * ((y 1 : Nat) % 128) = (y 1 : Nat)
    unfold blockOf; omega

/-- and in no other. -/
theorem blockOf_of_mem {n : Nat} (hn : n < 320) {y : S2048x2560.Idx} (h : y ∈ (blockRect n hn).set) : blockOf y = n := by
  rw [Rect.mem_set_unit] at h
  have h0 := h 0; have h1 := h 1
  change 128 * (n / 20) ≤ (y 0 : Nat) ∧ (y 0 : Nat) < 128 * (n / 20) + 128 at h0
  change 128 * (n % 20) ≤ (y 1 : Nat) ∧ (y 1 : Nat) < 128 * (n % 20) + 128 at h1
  unfold blockOf; omega

theorem emb_inBlock_of {n : Nat} (hn : n < 320) {y : S2048x2560.Idx} (h : blockOf y = n) :
    (blockRect n hn).emb (inBlock y) = y := by
  subst h; exact emb_inBlock y

/-- The tile at an element of block `n`. -/
theorem tile_of (S : S16x20.Idx → Elt F .f32) (C : S2048x2560.Idx → Elt F .fp8e4m3) {n : Nat} (hn : n < 320)
    {y : S2048x2560.Idx} (h : blockOf y = n) :
    tile S C y = k0_pay8 (fun x => S ((scaleRect n hn).emb x)) (fun x => C ((blockRect n hn).emb x)) (inBlock y) := by
  subst h; rfl

/-! ## The triples -/

variable (c : Dev nD) (E : Set ℕ)
variable (i : grid0.Coords) {arg1 : Memref sig .tc .vmem S2x129 .i32}
  {arg2 : Memref sig .tc .vmem S256x2560 .bf16} {arg3 : Memref sig .tc .vmem S2048x2560 .fp8e4m3}
  {arg4 : Memref sig .tc .vmem S16x20 .f32} {arg5 : Memref sig .tc .vmem S2x128 .f32}
  {arg6 : Memref sig .tc .vmem S2048x2560 .bf16} (harg6 : arg6.IsWhole)
  {arg7 arg8 arg9 : Memref sig .tc .vmem S8x256 .f32}
variable (ids : S2x129.Idx → Elt F .i32) (y : S256x2560.Idx → Elt F .bf16) (C : S2048x2560.Idx → Elt F .fp8e4m3)
  (S : S16x20.Idx → Elt F .f32) (m l p : S8x256.Idx → Elt F .f32)

/-- The chain of the last `f` blocks, the others being dequantized already: it ends with the whole tile dequantized. -/
theorem wp_blocks (K : PUnit → sProp 𝕄) (k : Prog (TpuEff nD τ sig (Elt F) Λ₀ .tc) PUnit) (f : Nat) (hf : f ≤ 320) :
    ∀ X : S2048x2560.Idx → Elt F .bf16, (∀ z, blockOf z < 320 - f → X z = tile S C z) →
    iprop(owns (c : Thread nD τ) arg3 fullShare C ∗ owns (c : Thread nD τ) arg4 fullShare S ∗ owns (c : Thread nD τ) arg6 fullShare X
      ∗ (iprop(owns (c : Thread nD τ) arg3 fullShare C ∗ owns (c : Thread nD τ) arg4 fullShare S
          ∗ owns (c : Thread nD τ) arg6 fullShare (tile S C)) -∗ wp frame (wpE (defs₀ (F := F)) Variants.none c none) E k K))
      ⊢ wp frame (wpE (defs₀ (F := F)) Variants.none c none) E (blocks arg3 arg4 arg6 harg6 k f) K := by
  induction f with
  | zero =>
    intro X hX
    have e : X = tile S C := funext fun z => hX z (blockOf_lt z)
    subst e
    iintro ⟨H3, H4, H6, Hk⟩
    iapply Hk
    isplitl [H3]; · iexact H3
    isplitl [H4]; · iexact H4
    iexact H6
  | succ f ih =>
    intro X hX
    have hn : 319 - f < 320 := by omega
    change _ ⊢ wp frame (wpE (defs₀ (F := F)) Variants.none c none) E
      (stepBlock arg3 arg4 arg6 harg6 (319 - f) hn (blocks arg3 arg4 arg6 harg6 k f)) K
    unfold stepBlock
    simp only [Prog.lift, Prog.bind_op, Prog.bind_ret]
    iintro ⟨H3, H4, H6, Hk⟩
    iapply (Owns.wp_load Variants.none (c : Thread nD τ) none E (r := scaleRect (319 - f) hn)) $$ H4
    iintro H4
    iapply (Owns.wp_load Variants.none (c : Thread nD τ) none E (r := blockRect (319 - f) hn)) $$ H3
    iintro H3
    iapply (Owns.wp_load Variants.none (c : Thread nD τ) none E (r := blockRect (319 - f) hn)) $$ H6
    iintro H6
    iapply (Owns.wp_store Variants.none (c : Thread nD τ) none E (r := blockRect (319 - f) hn)) $$ H6
    iintro %Y %hY H6
    iapply (ih (by omega) Y (by
      intro z hz
      by_cases hb : blockOf z = 319 - f
      · have e := hY.1 (inBlock z)
        rw [emb_inBlock_of hn hb] at e
        exact e.trans (tile_of S C hn hb).symm
      · rw [hY.2 z (fun hm => hb (blockOf_of_mem hn hm))]
        exact hX z (by omega)))
    isplitl [H3]; · iexact H3
    isplitl [H4]; · iexact H4
    isplitl [H6]; · iexact H6
    iexact Hk

/-- The last point's stores: the loss of the running contents. -/
theorem wp_results_last (K : PUnit → sProp 𝕄) (h : k0_cond2 i = 1#1) (X : S2x128.Idx → Elt F .f32) :
    iprop(owns (c : Thread nD τ) arg5 fullShare X ∗ owns (c : Thread nD τ) arg7 fullShare m ∗ owns (c : Thread nD τ) arg8 fullShare l
      ∗ owns (c : Thread nD τ) arg9 fullShare p
      ∗ (iprop(owns (c : Thread nD τ) arg5 fullShare (lossOf m l p) ∗ owns (c : Thread nD τ) arg7 fullShare m
          ∗ owns (c : Thread nD τ) arg8 fullShare l ∗ owns (c : Thread nD τ) arg9 fullShare p) -∗ K ⟨⟩))
      ⊢ wp frame (wpE (defs₀ (F := F)) Variants.none c none) E (results i arg5 arg7 arg8 arg9) K := by
  unfold results
  rw [dif_pos h]
  simp only [Prog.lift, Prog.bind_op, Prog.bind_ret, Prog.pure_eq_ret]
  iintro ⟨H5, H7, H8, H9, Hk⟩
  iapply (Owns.wp_load_whole Variants.none (c : Thread nD τ) none E zz) $$ H7
  iintro H7
  iapply (Owns.wp_load_whole Variants.none (c : Thread nD τ) none E zz) $$ H8
  iintro H8
  iapply (Owns.wp_load_whole Variants.none (c : Thread nD τ) none E zz) $$ H9
  iintro H9
  iapply (Owns.wp_load Variants.none (c : Thread nD τ) none E) $$ H5
  iintro H5
  iapply (Owns.wp_store Variants.none (c : Thread nD τ) none E) $$ H5
  iintro %Y %hY H5
  iapply (Owns.wp_load Variants.none (c : Thread nD τ) none E) $$ H5
  iintro H5
  iapply (Owns.wp_store Variants.none (c : Thread nD τ) none E) $$ H5
  iintro %Z %hZ H5
  have e : Z = lossOf m l p := by
    funext x
    have h0 : (x 0 : Nat) < 2 := (x 0).isLt
    have h1 : (x 1 : Nat) < 128 := (x 1).isLt
    unfold lossOf
    by_cases hx : (x 0 : Nat) = 0
    · rw [if_pos hx, hZ.2 x (by rw [Rect.mem_set_unit]; intro hc; have := (hc 0).1; change 1 ≤ (x 0 : Nat) at this; omega)]
      rw [← hY.1]
      congr 1
      funext a; apply Fin.ext
      fin_cases a
      · show (x 0 : Nat) = 0 + 1 * 0; omega
      · show (x 1 : Nat) = 0 + 1 * (x 1 : Nat); omega
    · rw [if_neg hx, ← hZ.1]
      congr 1
      funext a; apply Fin.ext
      fin_cases a
      · show (x 0 : Nat) = 1 + 1 * 0; omega
      · show (x 1 : Nat) = 0 + 1 * (x 1 : Nat); omega
  subst e
  sl_step
  iapply Hk
  isplitl [H5]; · iexact H5
  isplitl [H7]; · iexact H7
  isplitl [H8]; · iexact H8
  iexact H9

/-- At every other point nothing is stored. -/
theorem wp_results_other (K : PUnit → sProp 𝕄) (h : ¬ k0_cond2 i = 1#1) :
    K ⟨⟩ ⊢ wp frame (wpE (defs₀ (F := F)) Variants.none c none) E (results i arg5 arg7 arg8 arg9) K := by
  unfold results
  rw [dif_neg h]
  simp only [Prog.bind_ret, Prog.pure_eq_ret]
  iintro Hk
  sl_step
  iexact Hk

/-- The updates of the running contents, before `results`. -/
theorem wp_updates (K : PUnit → sProp 𝕄) (w : S2048x2560.Idx → Elt F .bf16) :
    iprop(owns (c : Thread nD τ) arg1 fullShare ids ∗ owns (c : Thread nD τ) arg2 fullShare y ∗ owns (c : Thread nD τ) arg6 fullShare w
      ∗ owns (c : Thread nD τ) arg7 fullShare m ∗ owns (c : Thread nD τ) arg8 fullShare l ∗ owns (c : Thread nD τ) arg9 fullShare p
      ∗ (iprop(owns (c : Thread nD τ) arg1 fullShare ids ∗ owns (c : Thread nD τ) arg2 fullShare y ∗ owns (c : Thread nD τ) arg6 fullShare w
          ∗ owns (c : Thread nD τ) arg7 fullShare (newM i w y m) ∗ owns (c : Thread nD τ) arg8 fullShare (newL i w y m l)
          ∗ owns (c : Thread nD τ) arg9 fullShare (newP i ids w y p))
          -∗ wp frame (wpE (defs₀ (F := F)) Variants.none c none) E (results i arg5 arg7 arg8 arg9) K))
      ⊢ wp frame (wpE (defs₀ (F := F)) Variants.none c none) E (updates i arg1 arg2 arg5 arg6 arg7 arg8 arg9) K := by
  unfold updates
  simp only [Prog.lift, Prog.bind_op, Prog.bind_ret]
  iintro ⟨H1, H2, H6, H7, H8, H9, Hk⟩
  iapply (Owns.wp_load_whole Variants.none (c : Thread nD τ) none E zz) $$ H6
  iintro H6
  iapply (Owns.wp_load_whole Variants.none (c : Thread nD τ) none E zz) $$ H2
  iintro H2
  iapply (Owns.wp_load Variants.none (c : Thread nD τ) none E) $$ H1
  iintro H1
  iapply (Owns.wp_load Variants.none (c : Thread nD τ) none E) $$ H1
  iintro H1
  iapply (Owns.wp_load_whole Variants.none (c : Thread nD τ) none E zz) $$ H7
  iintro H7
  iapply (Owns.wp_load_whole Variants.none (c : Thread nD τ) none E zz) $$ H8
  iintro H8
  iapply (Owns.wp_load_whole Variants.none (c : Thread nD τ) none E zz) $$ H8
  iintro H8
  iapply (Owns.wp_store_whole Variants.none (c : Thread nD τ) none E zz) $$ H8
  iintro H8
  iapply (Owns.wp_load_whole Variants.none (c : Thread nD τ) none E zz) $$ H7
  iintro H7
  iapply (Owns.wp_store_whole Variants.none (c : Thread nD τ) none E zz) $$ H7
  iintro H7
  iapply (Owns.wp_load_whole Variants.none (c : Thread nD τ) none E zz) $$ H9
  iintro H9
  iapply (Owns.wp_load_whole Variants.none (c : Thread nD τ) none E zz) $$ H9
  iintro H9
  iapply (Owns.wp_store_whole Variants.none (c : Thread nD τ) none E zz) $$ H9
  iintro H9
  iapply Hk
  isplitl [H1]; · iexact H1
  isplitl [H2]; · iexact H2
  isplitl [H6]; · iexact H6
  isplitl [H7]; · iexact H7
  isplitl [H8]; · iexact H8
  iexact H9

/-- What a point holds of the buffers it only reads, and of its dequantized tile. -/
def held (c : Dev nD) (arg1 : Memref sig .tc .vmem S2x129 .i32)
    (arg2 : Memref sig .tc .vmem S256x2560 .bf16) (arg3 : Memref sig .tc .vmem S2048x2560 .fp8e4m3)
    (arg4 : Memref sig .tc .vmem S16x20 .f32) (arg6 : Memref sig .tc .vmem S2048x2560 .bf16)
    (ids : S2x129.Idx → Elt F .i32) (y : S256x2560.Idx → Elt F .bf16) (C : S2048x2560.Idx → Elt F .fp8e4m3)
    (S : S16x20.Idx → Elt F .f32) : sProp 𝕄 :=
  iprop(owns (c : Thread nD τ) arg1 fullShare ids ∗ owns (c : Thread nD τ) arg2 fullShare y ∗ owns (c : Thread nD τ) arg3 fullShare C
      ∗ owns (c : Thread nD τ) arg4 fullShare S ∗ ∃ X, owns (c : Thread nD τ) arg6 fullShare X)

/-- What it holds of the running contents. -/
def running (c : Dev nD) (arg7 arg8 arg9 : Memref sig .tc .vmem S8x256 .f32) (m l p : S8x256.Idx → Elt F .f32) : sProp 𝕄 :=
  iprop(owns (c : Thread nD τ) arg7 fullShare m ∗ owns (c : Thread nD τ) arg8 fullShare l ∗ owns (c : Thread nD τ) arg9 fullShare p)

/-- The body after the first point's initialization, up to `results`. -/
theorem wp_rest (K : PUnit → sProp 𝕄) :
    iprop(held c arg1 arg2 arg3 arg4 arg6 ids y C S ∗ running c arg7 arg8 arg9 m l p
      ∗ (iprop(held c arg1 arg2 arg3 arg4 arg6 ids y C S
          ∗ running c arg7 arg8 arg9 (newM i (tile S C) y m) (newL i (tile S C) y m l) (newP i ids (tile S C) y p))
          -∗ wp frame (wpE (defs₀ (F := F)) Variants.none c none) E (results i arg5 arg7 arg8 arg9) K))
      ⊢ wp frame (wpE (defs₀ (F := F)) Variants.none c none) E (rest i arg1 arg2 arg3 arg4 arg5 arg6 harg6 arg7 arg8 arg9) K := by
  unfold held running rest
  iintro ⟨⟨H1, H2, H3, H4, ⟨%X, H6⟩⟩, ⟨H7, H8, H9⟩, Hk⟩
  iapply (wp_blocks c E harg6 C S K _ 320 (by omega) X (fun z hz => absurd hz (by omega)))
  isplitl [H3]; · iexact H3
  isplitl [H4]; · iexact H4
  isplitl [H6]; · iexact H6
  iintro ⟨H3, H4, H6⟩
  iapply (wp_updates c E i ids y m l p K (tile S C))
  isplitl [H1]; · iexact H1
  isplitl [H2]; · iexact H2
  isplitl [H6]; · iexact H6
  isplitl [H7]; · iexact H7
  isplitl [H8]; · iexact H8
  isplitl [H9]; · iexact H9
  iintro ⟨H1, H2, H6, H7, H8, H9⟩
  iapply Hk
  isplitl [H1 H2 H3 H4 H6]
  · isplitl [H1]; · iexact H1
    isplitl [H2]; · iexact H2
    isplitl [H3]; · iexact H3
    isplitl [H4]; · iexact H4
    iexists _; iexact H6
  · isplitl [H7]; · iexact H7
    isplitl [H8]; · iexact H8
    iexact H9

/-- The first point's body: from any running contents, `rest` at their initial values. -/
theorem wp_first (K : PUnit → sProp 𝕄) :
    iprop(running c arg7 arg8 arg9 m l p
      ∗ (running c arg7 arg8 arg9 (k0_pay5 (F := F)) (k0_pay6 (F := F)) (k0_pay7 (F := F))
          -∗ wp frame (wpE (defs₀ (F := F)) Variants.none c none) E (rest i arg1 arg2 arg3 arg4 arg5 arg6 harg6 arg7 arg8 arg9) K))
      ⊢ wp frame (wpE (defs₀ (F := F)) Variants.none c none) E (first i arg1 arg2 arg3 arg4 arg5 arg6 harg6 arg7 arg8 arg9) K := by
  unfold running first
  simp only [Prog.lift, Prog.bind_op, Prog.bind_ret]
  iintro ⟨⟨H7, H8, H9⟩, Hk⟩
  iapply (Owns.wp_load_whole Variants.none (c : Thread nD τ) none E zz) $$ H7
  iintro H7
  iapply (Owns.wp_store_whole Variants.none (c : Thread nD τ) none E zz) $$ H7
  iintro H7
  iapply (Owns.wp_load_whole Variants.none (c : Thread nD τ) none E zz) $$ H8
  iintro H8
  iapply (Owns.wp_store_whole Variants.none (c : Thread nD τ) none E zz) $$ H8
  iintro H8
  iapply (Owns.wp_load_whole Variants.none (c : Thread nD τ) none E zz) $$ H9
  iintro H9
  iapply (Owns.wp_store_whole Variants.none (c : Thread nD τ) none E zz) $$ H9
  iintro H9
  iapply Hk
  isplitl [H7]; · iexact H7
  isplitl [H8]; · iexact H8
  iexact H9

end Cert.Kernel.Head

end
-- ==== Proof.Kernel.Point.lean ====
/- One grid point of the head kernel: the whole body as a triple at the point's staging buffers, and the proof data of the
   pipeline over any invariant of the running contents. -/
module

public import proofs.«01_k».proof.Proof.Kernel.Body
public import proofs.«01_k».proof.Proof.Gen.Kernel.Frame

@[expose] public section

set_option maxRecDepth 16384

noncomputable section

namespace Cert.Kernel.Head

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)
open Cert.Kernel Cert.Kernel.Gen

variable {F : FTy → Type} [FloatOps F]

local notation "𝕄" => MT nD τ sig Unit (Elt F) ℕ (UR sig nD τ) ℕ

/-! ## Which points are first and last -/

/-- A point's coordinate is its number. -/
theorem coords_val : ∀ t : Fin grid0.N, (grid0.coords t 0).val = t.val := by decide +kernel

theorem condFirst_iff (t : Fin grid0.N) : condFirst (grid0.coords t) = 1#1 ↔ t.val = 0 := by
  have h : ∀ n : Fin 75, (Scalar.cmpi .ne (Scalar.extui (Scalar.cmpi .eq (BitVec.ofNat 32 n.val) 0#32) : BitVec 32) 0#32
      = 1#1) ↔ n.val = 0 := by decide +kernel
  unfold condFirst; rw [coords_val]; exact h ⟨t.val, N_0 ▸ t.isLt⟩

theorem condLast_iff : ∀ t : Fin grid0.N, k0_cond2 (grid0.coords t) = 1#1 ↔ t.val = 74 := by decide +kernel

/-! ## The running contents point by point -/

/-- The three running contents. -/
structure State (F : FTy → Type) where
  /-- the maximum, -/
  m : S8x256.Idx → Elt F .f32
  /-- the sum, -/
  l : S8x256.Idx → Elt F .f32
  /-- the picked logit. -/
  p : S8x256.Idx → Elt F .f32

/-- What the first point initializes them to. -/
def State.init : State F := ⟨k0_pay5 (F := F), k0_pay6 (F := F), k0_pay7 (F := F)⟩

/-- What a point leaves of them. -/
def State.next (i : grid0.Coords) (ids : S2x129.Idx → Elt F .i32) (y : S256x2560.Idx → Elt F .bf16)
    (S : S16x20.Idx → Elt F .f32) (C : S2048x2560.Idx → Elt F .fp8e4m3) (s : State F) : State F :=
  ⟨newM i (tile S C) y s.m, newL i (tile S C) y s.m s.l, newP i ids (tile S C) y s.p⟩

/-- The loss of running contents. -/
def State.loss (s : State F) : S2x128.Idx → Elt F .f32 := lossOf s.m s.l s.p

/-- What point `t` starts from: the initial contents at the first point, what it found at the others. -/
def State.start (t : Fin grid0.N) (s : State F) : State F := if t.val = 0 then State.init else s

/-- The scratch buffers: the tile's at any contents, the running ones at `s`. -/
def scratch (c : Dev nD) (s : State F) : sProp 𝕄 :=
  iprop((∃ X, owns (c : Thread nD τ) (Memref.whole cc0_scratch0) fullShare X)
    ∗ running c (Memref.whole cc0_scratch1) (Memref.whole cc0_scratch2) (Memref.whole cc0_scratch3) s.m s.l s.p)

/-- The staging buffers of a point at given contents. -/
def staged (c : Dev nD) (t : Fin cfg0.N) (ids : S2x129.Idx → Elt F .i32) (y : S256x2560.Idx → Elt F .bf16)
    (C : S2048x2560.Idx → Elt F .fp8e4m3) (S : S16x20.Idx → Elt F .f32) (X : S2x128.Idx → Elt F .f32) : sProp 𝕄 :=
  iprop(owns (c : Thread nD τ) (st0_0 t) fullShare ids ∗ owns (c : Thread nD τ) (st0_1 t) fullShare y
    ∗ owns (c : Thread nD τ) (st0_2 t) fullShare C ∗ owns (c : Thread nD τ) (st0_3 t) fullShare S
    ∗ owns (c : Thread nD τ) (st0_4 t) fullShare X)

/-- A point's body before the results: from the staging buffers and the running contents, it goes on to `results` with the
    running contents updated. -/
theorem wp_start (c : Dev nD) (t : Fin cfg0.N) (ids : S2x129.Idx → Elt F .i32) (y : S256x2560.Idx → Elt F .bf16)
    (C : S2048x2560.Idx → Elt F .fp8e4m3) (S : S16x20.Idx → Elt F .f32) (X : S2x128.Idx → Elt F .f32) (s : State F)
    (K : PUnit → sProp 𝕄) :
    iprop(staged c t ids y C S X ∗ scratch c s
      ∗ (iprop(staged c t ids y C S X ∗ scratch c ((s.start t).next (grid0.coords t) ids y S C))
          -∗ wp frame (wpE (defs₀ (F := F)) Variants.none c none) Set.univ
              (results (grid0.coords t) (st0_4 t) (Memref.whole cc0_scratch1) (Memref.whole cc0_scratch2) (Memref.whole cc0_scratch3)) K))
      ⊢ wp frame (wpE (defs₀ (F := F)) Variants.none c none) Set.univ (bodyAt0 (F := F) t) K := by
  unfold staged scratch
  iintro ⟨⟨H1, H2, H3, H4, H5⟩, ⟨H6, H7⟩, Hk⟩
  by_cases h : t.val = 0
  · have hs : s.start t = State.init := if_pos h
    rw [hs]
    unfold bodyAt0
    rw [body_first (h := (condFirst_iff t).mpr h)]
    iapply (wp_first c Set.univ (grid0.coords t) (Memref.isWhole_whole _) s.m s.l s.p K)
    isplitl [H7]; · iexact H7
    iintro H7
    iapply (wp_rest c Set.univ (grid0.coords t) (Memref.isWhole_whole _) ids y C S _ _ _ K)
    unfold held
    isplitl [H1 H2 H3 H4 H6]
    · isplitl [H1]; · iexact H1
      isplitl [H2]; · iexact H2
      isplitl [H3]; · iexact H3
      isplitl [H4]; · iexact H4
      iexact H6
    isplitl [H7]; · iexact H7
    iintro ⟨⟨H1, H2, H3, H4, H6⟩, H7⟩
    iapply Hk
    isplitl [H1 H2 H3 H4 H5]
    · isplitl [H1]; · iexact H1
      isplitl [H2]; · iexact H2
      isplitl [H3]; · iexact H3
      isplitl [H4]; · iexact H4
      iexact H5
    isplitl [H6]; · iexact H6
    iexact H7
  · have hs : s.start t = s := if_neg h
    rw [hs]
    unfold bodyAt0
    rw [body_later (h := fun hc => h ((condFirst_iff t).mp hc))]
    iapply (wp_rest c Set.univ (grid0.coords t) (Memref.isWhole_whole _) ids y C S _ _ _ K)
    unfold held
    isplitl [H1 H2 H3 H4 H6]
    · isplitl [H1]; · iexact H1
      isplitl [H2]; · iexact H2
      isplitl [H3]; · iexact H3
      isplitl [H4]; · iexact H4
      iexact H6
    isplitl [H7]; · iexact H7
    iintro ⟨⟨H1, H2, H3, H4, H6⟩, H7⟩
    iapply Hk
    isplitl [H1 H2 H3 H4 H5]
    · isplitl [H1]; · iexact H1
      isplitl [H2]; · iexact H2
      isplitl [H3]; · iexact H3
      isplitl [H4]; · iexact H4
      iexact H5
    isplitl [H6]; · iexact H6
    iexact H7

/-- What a point leaves in the result's staging buffer: the loss at the last one, what it found at the others. -/
def leftOut (t : Fin grid0.N) (s : State F) (X : S2x128.Idx → Elt F .f32) : S2x128.Idx → Elt F .f32 :=
  if t.val = 74 then s.loss else X

/-- A point's body: the inputs' staging buffers stay, the running contents are updated, the result is stored at the last
    point. -/
theorem wp_point (c : Dev nD) (t : Fin cfg0.N) (ids : S2x129.Idx → Elt F .i32) (y : S256x2560.Idx → Elt F .bf16)
    (C : S2048x2560.Idx → Elt F .fp8e4m3) (S : S16x20.Idx → Elt F .f32) (X : S2x128.Idx → Elt F .f32) (s : State F)
    (K : PUnit → sProp 𝕄) :
    iprop(staged c t ids y C S X ∗ scratch c s
      ∗ (iprop(staged c t ids y C S (leftOut t ((s.start t).next (grid0.coords t) ids y S C) X)
            ∗ scratch c ((s.start t).next (grid0.coords t) ids y S C)) -∗ K ⟨⟩))
      ⊢ wp frame (wpE (defs₀ (F := F)) Variants.none c none) Set.univ (bodyAt0 (F := F) t) K := by
  iintro ⟨H1, H2, Hk⟩
  iapply (wp_start c t ids y C S X s K)
  isplitl [H1]; · iexact H1
  isplitl [H2]; · iexact H2
  generalize (s.start t).next (grid0.coords t) ids y S C = s'
  iintro ⟨H1, H2⟩
  by_cases h : t.val = 74
  · rw [show leftOut t s' X = s'.loss from if_pos h]
    unfold staged scratch running
    icases H1 with ⟨H1, H3, H4, H5, H6⟩
    icases H2 with ⟨H2, H7, H8, H9⟩
    iapply (wp_results_last c Set.univ (grid0.coords t) s'.m s'.l s'.p K ((condLast_iff t).mpr h) X)
    isplitl [H6]; · iexact H6
    isplitl [H7]; · iexact H7
    isplitl [H8]; · iexact H8
    isplitl [H9]; · iexact H9
    iintro ⟨H6, H7, H8, H9⟩
    iapply Hk
    isplitl [H1 H3 H4 H5 H6]
    · isplitl [H1]; · iexact H1
      isplitl [H3]; · iexact H3
      isplitl [H4]; · iexact H4
      isplitl [H5]; · iexact H5
      iexact H6
    isplitl [H2]; · iexact H2
    isplitl [H7]; · iexact H7
    isplitl [H8]; · iexact H8
    iexact H9
  · rw [show leftOut t s' X = X from if_neg h]
    iapply (wp_results_other c Set.univ (grid0.coords t) K (fun hc => h ((condLast_iff t).mp hc)))
    iapply Hk
    isplitl [H1]; · iexact H1
    iexact H2

/-! ## The proof data -/

variable (m : (ℓ : Loc nD τ sig) → Buf (Elt F) ℓ) (ρ : Dev nD → PrngReg)

/-- The weight window's staging buffer after point `t`'s fetch over contents `d`: the block, and `d` past the array's end. -/
def codesAt (c : Dev nD) (t : Fin cfg0.N) (d : S2048x2560.Idx → Elt F .fp8e4m3) : S2048x2560.Idx → Elt F .fp8e4m3 :=
  win0_2.fill (grid0.coords t) d (iblk m c 2 t)
/-- The scale window's likewise. -/
def scalesAt (c : Dev nD) (t : Fin cfg0.N) (d : S16x20.Idx → Elt F .f32) : S16x20.Idx → Elt F .f32 :=
  win0_3.fill (grid0.coords t) d (iblk m c 3 t)

/-- The invariant of the running contents before point `t`, `R` what is known of them. -/
def inv (R : Nat → State F → Prop) (c : Dev nD) (n : Nat) : sProp 𝕄 :=
  iprop((∃ s, ⌜R n s⌝ ∗ scratch c s) ∗ ∃ r, prngReg c r)

/-- The proof data: the inputs' staging buffers at their blocks, the result's at `out` after the last point, the running
    contents at what `R` says. -/
def dats (R : Dev nD → Nat → State F → Prop) (out : Dev nD → S2x128.Idx → Elt F .f32) (_ : Fin 1) (c : Dev nD) :
    Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => codesAt m c t (fun _ => Scalar.ofBits .fp8e4m3 0#8)
    | ⟨3, _⟩ => scalesAt m c t (fun _ => Scalar.ofBits .f32 0#32)
    | ⟨4, _⟩ => out c
  Φ t := inv (R c) c t.val
  q _ := fullShare
  owed _ := 0

section
variable (R : Dev nD → Nat → State F → Prop) (out : Dev nD → S2x128.Idx → Elt F .f32) (c : Dev nD) (t : Fin cfg0.N)

theorem before_0 (d) : (dats m R out 0 c).before (0 : Fin 5) t d = iblk m c 0 t :=
  before0_0_of m (dats m R out 0 c) rfl (fun _ => rfl) t d
theorem before_1 (d) : (dats m R out 0 c).before (1 : Fin 5) t d = iblk m c 1 t :=
  before0_1_of m (dats m R out 0 c) rfl (fun _ => rfl) t d
theorem before_2 (d) : (dats m R out 0 c).before (2 : Fin 5) t d = codesAt m c t d := by
  unfold Dat.before; rw [if_pos (fetch0_2 t)]; rfl
theorem before_3 (d) : (dats m R out 0 c).before (3 : Fin 5) t d = scalesAt m c t d := by
  unfold Dat.before; rw [if_pos (fetch0_3 t)]; rfl
end

/-- The body's entry in the table at a point is the kernel's body there. -/
theorem defs₀_row (t : Fin cfg0.N) : defs₀ (F := F) .tc cfg0.body (cfg0.bodyArgs t (cfg0.slots t)) = bodyAt0 (F := F) t := by
  unfold defs₀; rw [Defs.onTc_tc]

/-- The windows a run that says nothing of the result forgets: the result's. -/
abbrev onlyResult : Fin 5 → Bool := fun | 0 => false | 1 => false | 2 => false | 3 => false | 4 => true | ⟨_ + 5, h⟩ => absurd h (Nat.not_lt.2 (Nat.le_add_left _ _))

/-- The body obligation with nothing said of the result. -/
theorem body_forget (R : Dev nD → Nat → State F → Prop) (out : Dev nD → S2x128.Idx → Elt F .f32)
    (hR : ∀ c (t : Fin cfg0.N) dC dS s, R c t.val s → R c (t.val + 1) ((s.start t).next (grid0.coords t) (iblk m c 0 t) (iblk m c 1 t)
      (scalesAt m c t dS) (codesAt m c t dC))) (c : Dev nD) :
    BodyObligationLoose (dats m R out 0 c) (defs₀ (F := F)) Variants.none () Set.univ onlyResult := fun t => by
  rw [bigSep_W0, bigSep_W0, defs₀_row]
  rw [show (dats m R out 0 c).Φ t.succ = inv (R c) c (t.val + 1) from rfl,
    show (dats m R out 0 c).Φ t.castSucc = inv (R c) c t.val from rfl,
    show (dats m R out 0 c).owesAt () t.succ = (dats m R out 0 c).owesAt () t.castSucc from rfl]
  unfold inv
  simp only
  iintro ⟨⟨⟨%s, %hs, Hs⟩, Hp⟩, Ho, ⟨%d0, H0⟩, ⟨%d1, H1⟩, ⟨%d2, H2⟩, ⟨%d3, H3⟩, ⟨%X, H4⟩⟩
  rw [before_0 m R out c t d0, before_1 m R out c t d1, before_2 m R out c t d2, before_3 m R out c t d3]
  iapply (wp_point c t (iblk m c 0 t) (iblk m c 1 t) (codesAt m c t d2) (scalesAt m c t d3) X s)
  unfold staged
  isplitl [H0 H1 H2 H3 H4]
  · isplitl [H0]; · iexact H0
    isplitl [H1]; · iexact H1
    isplitl [H2]; · iexact H2
    isplitl [H3]; · iexact H3
    iexact H4
  isplitl [Hs]; · iexact Hs
  iintro ⟨⟨H0, H1, H2, H3, H4⟩, Hs⟩
  isplitl [Hs Hp]
  · isplitl [Hs]
    · iexists _
      isplitr; · ipureintro; exact hR c t d2 d3 s hs
      iexact Hs
    iexact Hp
  isplitl [Ho]; · iexact Ho
  isplitl [H0]; · iexact H0
  isplitl [H1]; · iexact H1
  isplitl [H2]
  · iexists d2
    change _ ⊢ owns (c : Thread nD τ) (st0_2 t) fullShare (win0_2.fill (grid0.coords t) d2 (win0_2.cut (grid0.coords t) (codesAt m c t _)))
    unfold codesAt
    rw [Pipeline.Window.cut_fill]; try iexact H2
  isplitl [H3]
  · iexists d3
    change _ ⊢ owns (c : Thread nD τ) (st0_3 t) fullShare (win0_3.fill (grid0.coords t) d3 (win0_3.cut (grid0.coords t) (scalesAt m c t _)))
    unfold scalesAt
    rw [Pipeline.Window.cut_fill]; try iexact H3
  iexists _; iexact H4

/-- The body obligation with the result's staging buffer named after the last point. -/
theorem body_exact (R : Dev nD → Nat → State F → Prop) (out : Dev nD → S2x128.Idx → Elt F .f32)
    (hR : ∀ c (t : Fin cfg0.N) dC dS s, R c t.val s → R c (t.val + 1) ((s.start t).next (grid0.coords t) (iblk m c 0 t) (iblk m c 1 t)
      (scalesAt m c t dS) (codesAt m c t dC)))
    (hout : ∀ c s, R c 75 s → s.loss = out c) (c : Dev nD) :
    BodyObligationLoose (dats m R out 0 c) (defs₀ (F := F)) Variants.none () Set.univ := fun t => by
  rw [bigSep_W0, bigSep_W0, defs₀_row]
  rw [show (dats m R out 0 c).Φ t.succ = inv (R c) c (t.val + 1) from rfl,
    show (dats m R out 0 c).Φ t.castSucc = inv (R c) c t.val from rfl,
    show (dats m R out 0 c).owesAt () t.succ = (dats m R out 0 c).owesAt () t.castSucc from rfl]
  unfold inv
  simp only
  have hidle : idle0 4 (grid0.coords t) = !decide (t.val = 74) := by
    show (!(k0_cond2 (grid0.coords t) == 1#1)) = _
    by_cases h : t.val = 74
    · rw [(condLast_iff t).mpr h]; simp [h]
    · have := fun hc => h ((condLast_iff t).mp hc)
      simp [h]; exact this
  iintro ⟨⟨⟨%s, %hs, Hs⟩, Hp⟩, Ho, ⟨%d0, H0⟩, ⟨%d1, H1⟩, ⟨%d2, H2⟩, ⟨%d3, H3⟩, ⟨%d4, H4⟩⟩
  rw [before_0 m R out c t d0, before_1 m R out c t d1, before_2 m R out c t d2, before_3 m R out c t d3]
  iapply (wp_point c t (iblk m c 0 t) (iblk m c 1 t) (codesAt m c t d2) (scalesAt m c t d3) ((dats m R out 0 c).before (4 : Fin 5) t d4) s)
  unfold staged
  isplitl [H0 H1 H2 H3 H4]
  · isplitl [H0]; · iexact H0
    isplitl [H1]; · iexact H1
    isplitl [H2]; · iexact H2
    isplitl [H3]; · iexact H3
    iexact H4
  isplitl [Hs]; · iexact Hs
  iintro ⟨⟨H0, H1, H2, H3, H4⟩, Hs⟩
  have hnext := hR c t d2 d3 s hs
  isplitl [Hs Hp]
  · isplitl [Hs]
    · iexists _
      isplitr; · ipureintro; exact hnext
      iexact Hs
    iexact Hp
  isplitl [Ho]; · iexact Ho
  isplitl [H0]; · iexact H0
  isplitl [H1]; · iexact H1
  isplitl [H2]
  · iexists d2
    change _ ⊢ owns (c : Thread nD τ) (st0_2 t) fullShare (win0_2.fill (grid0.coords t) d2 (win0_2.cut (grid0.coords t) (codesAt m c t _)))
    unfold codesAt
    rw [Pipeline.Window.cut_fill]; try iexact H2
  isplitl [H3]
  · iexists d3
    change _ ⊢ owns (c : Thread nD τ) (st0_3 t) fullShare (win0_3.fill (grid0.coords t) d3 (win0_3.cut (grid0.coords t) (scalesAt m c t _)))
    unfold scalesAt
    rw [Pipeline.Window.cut_fill]; try iexact H3
  by_cases h : t.val = 74
  · rw [show leftOut t ((s.start t).next (grid0.coords t) (iblk m c 0 t) (iblk m c 1 t) (scalesAt m c t d3) (codesAt m c t d2))
        ((dats m R out 0 c).before (4 : Fin 5) t d4) = out c from
      (if_pos h).trans (hout c _ (by rw [h] at hnext; exact hnext))]
    rw [show idle0 4 (grid0.coords t) = false from hidle.trans (by rw [h]; rfl)]
    iexact H4
  · rw [show leftOut t ((s.start t).next (grid0.coords t) (iblk m c 0 t) (iblk m c 1 t) (scalesAt m c t d3) (codesAt m c t d2))
        ((dats m R out 0 c).before (4 : Fin 5) t d4) = (dats m R out 0 c).before (4 : Fin 5) t d4 from if_neg h]
    rw [show idle0 4 (grid0.coords t) = true from hidle.trans (by simp [h])]
    rw [show (win0 4).flush t = false from Bool.eq_false_iff.mpr (fun hf => h (by
      have := (flush0_4 t).mp hf; have : t.val < 75 := N_0 ▸ t.isLt; omega))]
    iexists d4; iexact H4

/-! ## The runs -/

theorem run_in (R : Dev nD → Nat → State F → Prop) (h0 : ∀ c s, R c 0 s) (c : Dev nD) :
    Pipeline.ΦA (U := UR sig nD τ) (Val := Elt F) spec0 c ⊢ inv (R c) c 0 := by
  unfold Pipeline.ΦA inv scratch running
  rw [scopedRest0_eq]
  simp only [owns_whole]
  iintro ⟨⟨⟨%X, H6⟩, ⟨%a, H7⟩, ⟨%b, H8⟩, ⟨%d, H9⟩⟩, Hp⟩
  isplitr [Hp]
  · iexists (State.mk a b d)
    isplitr; · ipureintro; exact h0 c _
    isplitl [H6]; · iexists X; iexact H6
    isplitl [H7]; · iexact H7
    isplitl [H8]; · iexact H8
    iexact H9
  · iexact Hp

theorem run_out (R : Dev nD → Nat → State F → Prop) (c : Dev nD) (n : Nat) :
    inv (R c) c n ⊢ Pipeline.ΦA (U := UR sig nD τ) (Val := Elt F) spec0 c := by
  unfold Pipeline.ΦA inv scratch running
  rw [scopedRest0_eq]
  simp only [owns_whole]
  iintro ⟨⟨%s, -, ⟨%X, H6⟩, H7, H8, H9⟩, Hp⟩
  isplitr [Hp]
  · isplitl [H6]; · iexists X; iexact H6
    isplitl [H7]; · iexists _; iexact H7
    isplitl [H8]; · iexists _; iexact H8
    iexists _; iexact H9
  · iexact Hp

set_option backward.isDefEq.respectTransparency.types false in
/-- The run saying nothing of the result: the argument arrays end unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_track_forget cfgs (dats m (fun _ _ _ => True) (fun _ _ => Scalar.ofBits .f32 0#32)) (0 : Fin 1) launch0 defs₀ Variants.none
    onlyResult m ρ main
    (hbody := body_forget m (fun _ _ _ => True) (fun _ _ => Scalar.ofBits .f32 0#32) (fun _ _ _ _ _ _ => trivial))
    (hshare := fun c => (dats m (fun _ _ _ => True) (fun _ _ => Scalar.ofBits .f32 0#32) 0 c).share_full fun _ => rfl)
    (howed := fun _ _ => rfl) (V := V m) (hmain := hmain m Variants.none) (hA := fun _ _ => rfl)
    (hin := fun c => run_in (fun _ _ _ => True) (fun _ _ => trivial) c)
    (hout := fun c => run_out (fun _ _ _ => True) c grid0.N)
    (Q' := _)
    (hQ' := fun r h => ⟨fun c =>
      ⟨by have := (h.1 c).1 0; rw [Pipeline.RDat.ArrAt_in _ 0 rfl] at this; exact this,
       by have := (h.1 c).1 1; rw [Pipeline.RDat.ArrAt_in _ 1 rfl] at this; exact this,
       by have := (h.1 c).1 2; rw [Pipeline.RDat.ArrAt_in _ 2 rfl] at this; exact this,
       by have := (h.1 c).1 3; rw [Pipeline.RDat.ArrAt_in _ 3 rfl] at this; exact this⟩, h.2⟩)

/-- The result array after the last write-back: the loss. -/
theorem final_out (R : Dev nD → Nat → State F → Prop) (out : Dev nD → S2x128.Idx → Elt F .f32) (c : Dev nD) :
    (dats m R out 0 c).arrAt (4 : Fin 5) cfg0.N = out c := by
  have hlt : 74 < cfg0.N := by show 74 < grid0.N; rw [N_0]; decide
  have hw : ((cfg0.win 4).blk ⟨74, hlt⟩).view.read (Elt F) ((dats m R out 0 c).arrAt (4 : Fin 5) cfg0.N) = out c := by
    rw [show cfg0.N = (⟨74, hlt⟩ : Fin cfg0.N).val + 1 from N_0, (dats m R out 0 c).arrAt_succ (4 : Fin 5) ⟨74, hlt⟩,
      if_pos ((flush0_4 _).mpr rfl)]
    exact View.read_write_univ _ _
  have hz : (fun a => (win0_4.index ⟨74, hlt⟩) a * main_v0.ty.shape.size a) = fun _ => 0 :=
    funext fun a => by fin_cases a <;> rfl
  have hr := fun f => Memref.read_access_unit_zero (Elt F) main_v0 hz (fun a => by rw [congrFun hz a]; omega) f
  exact (hr _).symm.trans hw

set_option backward.isDefEq.respectTransparency.types false in
/-- The run naming the result: where every point takes what is known of the running contents to what is known after it,
    the result array ends at the loss of the contents after the last point. -/
theorem run_value (R : Dev nD → Nat → State F → Prop) (out : Dev nD → S2x128.Idx → Elt F .f32) (h0 : ∀ c s, R c 0 s)
    (hR : ∀ c (t : Fin cfg0.N) dC dS s, R c t.val s → R c (t.val + 1) ((s.start t).next (grid0.coords t) (iblk m c 0 t) (iblk m c 1 t)
      (scalesAt m c t dS) (codesAt m c t dC))) (hout : ∀ c s, R c 75 s → s.loss = out c) :
    θ_run defs (onTc (τ := τ) (main (F := F))) ⟨m, fun _ => 0, ρ⟩ (fun r => ∀ c : Dev nD,
      r.2.mem ((c.tc : Thread nD τ).loc main_v0) = out c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_frame_track cfgs (dats m R out) (0 : Fin 1) launch0 defs₀ Variants.none m ρ main
    (hbody := body_exact m R out hR hout)
    (hshare := fun c => (dats m R out 0 c).share_full fun _ => rfl)
    (howed := fun _ _ => rfl) (V := V m) (hmain := hmain m Variants.none) (hA := fun _ _ => rfl)
    (hin := fun c => run_in R h0 c)
    (hout := fun c => run_out R c grid0.N)
    (Q' := _)
    (hQ' := fun r h c =>
      ⟨((h.1 c).1 4).trans (final_out m R out c),
       ((h.1 c).1 0).trans ((dats m R out 0 c).arrAt_in 0 rfl _),
       ((h.1 c).1 1).trans ((dats m R out 0 c).arrAt_in 1 rfl _),
       ((h.1 c).1 2).trans ((dats m R out 0 c).arrAt_in 2 rfl _),
       ((h.1 c).1 3).trans ((dats m R out 0 c).arrAt_in 3 rfl _)⟩)

end Cert.Kernel.Head

end
-- ==== Proof.Online.lean ====
/- A stream of logits reduced piece by piece: sums of exponentials relative to a running maximum, over the extended reals.
   A piece is a finite set of row numbers; the logits are `X : ℕ → EReal`. -/
module

public import Idealize.ShloMosaic.Lib.Pointwise

@[expose] public section

noncomputable section

namespace Cert.Online

open Idealize.ShloMosaic

/-! ## The exponential -/

theorem exp_nonneg (x : EReal) : 0 ≤ Ideal.exp x := by
  induction x with
  | bot => exact le_refl _
  | top => exact le_top
  | coe r => exact EReal.coe_nonneg.mpr (Real.exp_pos r).le

/-- A masked logit contributes nothing, whatever it is taken relative to. -/
theorem exp_bot_sub (m : EReal) : Ideal.exp (⊥ - m) = 0 := by rw [EReal.bot_sub]; rfl

/-- Moving a logit from one maximum to a greater one multiplies its exponential by that of the maxima's difference. -/
theorem exp_merge {x m m' : EReal} (hx : x ≤ m) (hm : m ≤ m') :
    Ideal.exp (x - m) * Ideal.exp (m - m') = Ideal.exp (x - m') := by
  induction m' with
  | bot =>
    obtain rfl := le_bot_iff.mp hm
    obtain rfl := le_bot_iff.mp hx
    simp [exp_bot_sub]
  | top =>
    have h : ∀ z : EReal, Ideal.exp (z - ⊤) = 0 := fun z => by rw [EReal.sub_top]; rfl
    rw [h, h, mul_zero]
  | coe c =>
    induction m with
    | bot =>
      obtain rfl := le_bot_iff.mp hx
      simp [exp_bot_sub]
    | top => exact absurd hm (by simp)
    | coe b =>
      induction x with
      | bot => simp [exp_bot_sub]
      | top => exact absurd hx (by simp)
      | coe a =>
        rw [← EReal.coe_sub, ← EReal.coe_sub, ← EReal.coe_sub]
        change ((Real.exp (a - b) : ℝ) : EReal) * ((Real.exp (b - c) : ℝ) : EReal) = ((Real.exp (a - c) : ℝ) : EReal)
        rw [← EReal.coe_mul, ← Real.exp_add, sub_add_sub_cancel]

/-! ## Sums over pieces -/

variable (X : ℕ → EReal)

/-- The sum of the piece's exponentials relative to `m`. -/
def expSum (A : Finset ℕ) (m : EReal) : EReal := ∑ r ∈ A, Ideal.exp (X r - m)

theorem expSum_nonneg (A : Finset ℕ) (m : EReal) : 0 ≤ expSum X A m := Finset.sum_nonneg fun _ _ => exp_nonneg _

/-- The whole sum moves from a maximum of the piece to a greater one as each of its terms does. -/
theorem expSum_merge (A : Finset ℕ) {m m' : EReal} (hA : ∀ r ∈ A, X r ≤ m) (hm : m ≤ m') :
    expSum X A m * Ideal.exp (m - m') = expSum X A m' := by
  induction A using Finset.induction_on with
  | empty => simp [expSum]
  | insert a A ha ih =>
    have e : ∀ k, expSum X (insert a A) k = Ideal.exp (X a - k) + expSum X A k := fun k => Finset.sum_insert ha
    rw [e, e, EReal.right_distrib_of_nonneg (exp_nonneg _) (expSum_nonneg X A m),
      exp_merge (hA a (Finset.mem_insert_self _ _)) hm, ih fun r hr => hA r (Finset.mem_insert_of_mem hr)]

/-- One step of the stream: the running sum moved to the new maximum plus the new piece's sum is the sum over both. -/
theorem expSum_step {A B : Finset ℕ} (h : Disjoint A B) :
    expSum X A (A.sup X) * Ideal.exp (A.sup X - max (A.sup X) (B.sup X)) + expSum X B (max (A.sup X) (B.sup X))
      = expSum X (A ∪ B) ((A ∪ B).sup X) := by
  rw [Finset.sup_union, expSum_merge X A (fun r hr => Finset.le_sup hr) (le_max_left _ _)]
  exact (Finset.sum_union h).symm

/-! ## The rows of a sublane -/

/-- The rows of sublane `s` in the first `t` blocks of 2048. -/
def rows (t s : ℕ) : Finset ℕ := (Finset.range (2048 * t)).filter fun r => r % 8 = s

/-- The rows of sublane `s` in block `t`. -/
def piece (t s : ℕ) : Finset ℕ := (Finset.univ : Finset (Fin 256)).image fun j => 2048 * t + (j.val * 8 + s)

theorem rows_zero (s : ℕ) : rows 0 s = ∅ := rfl

theorem mem_piece {t s r : ℕ} (hs : s < 8) : r ∈ piece t s ↔ 2048 * t ≤ r ∧ r < 2048 * (t + 1) ∧ r % 8 = s := by
  simp only [piece, Finset.mem_image, Finset.mem_univ, true_and]
  constructor
  · rintro ⟨j, rfl⟩; have := j.isLt; omega
  · rintro ⟨h1, h2, h3⟩; exact ⟨⟨(r - 2048 * t) / 8, by omega⟩, by show 2048 * t + ((r - 2048 * t) / 8 * 8 + s) = r; omega⟩

theorem rows_succ {t s : ℕ} (hs : s < 8) : rows (t + 1) s = rows t s ∪ piece t s := by
  ext r
  simp only [rows, Finset.mem_union, Finset.mem_filter, Finset.mem_range, mem_piece hs]
  omega

theorem rows_disjoint {t s : ℕ} (hs : s < 8) : Disjoint (rows t s) (piece t s) := by
  rw [Finset.disjoint_left]
  intro r
  simp only [rows, Finset.mem_filter, Finset.mem_range, mem_piece hs]
  omega

/-- A sum over a block's rows of one sublane is the sum over its 256 steps. -/
theorem sum_piece (t s : ℕ) (f : ℕ → EReal) : ∑ r ∈ piece t s, f r = ∑ j : Fin 256, f (2048 * t + (j.val * 8 + s)) := by
  unfold piece
  rw [Finset.sum_image]
  intro a _ b _ h
  apply Fin.ext
  dsimp only at h
  omega

/-- The maximum over a block's rows of one sublane, folded over its 256 steps. -/
theorem sup_piece (t s : ℕ) : (piece t s).sup X = Finset.fold max ⊥ (fun j : Fin 256 => X (2048 * t + (j.val * 8 + s))) Finset.univ := by
  unfold piece
  rw [Finset.sup_image]
  rfl

/-! ## All sublanes together -/

/-- Rows split by their sublane. -/
theorem sum_rows (t : ℕ) (f : ℕ → EReal) : ∑ s : Fin 8, ∑ r ∈ rows t s, f r = ∑ r ∈ Finset.range (2048 * t), f r := by
  unfold rows
  rw [Finset.sum_fin_eq_sum_range]
  rw [← Finset.sum_fiberwise_of_maps_to (s := Finset.range (2048 * t)) (t := Finset.range 8) (g := fun r => r % 8)
    (fun r _ => Finset.mem_range.mpr (Nat.mod_lt _ (by decide)))]
  refine Finset.sum_congr rfl fun s hs => ?_
  rw [dif_pos (Finset.mem_range.mp hs)]

/-- The maximum over all rows is that of the sublanes' maxima. -/
theorem sup_rows (t : ℕ) :
    Finset.fold max ⊥ (fun s : Fin 8 => (rows t s).sup X) Finset.univ = (Finset.range (2048 * t)).sup X := by
  change (Finset.univ : Finset (Fin 8)).sup (fun s => (rows t s).sup X) = _
  apply le_antisymm
  · exact Finset.sup_le fun s _ => Finset.sup_mono (Finset.filter_subset _ _)
  · refine Finset.sup_le fun r hr => ?_
    refine le_trans ?_ (Finset.le_sup (f := fun s : Fin 8 => (rows t s).sup X) (Finset.mem_univ ⟨r % 8, Nat.mod_lt _ (by decide)⟩))
    exact Finset.le_sup (f := X) (Finset.mem_filter.mpr ⟨hr, rfl⟩)

/-- The sublanes' sums, each moved to the common maximum, add up to the sum over all rows. -/
theorem expSum_rows (t : ℕ) (m : EReal) (hm : ∀ s : Fin 8, (rows t s).sup X ≤ m) :
    ∑ s : Fin 8, expSum X (rows t s) ((rows t s).sup X) * Ideal.exp ((rows t s).sup X - m)
      = expSum X (Finset.range (2048 * t)) m := by
  unfold expSum
  rw [← sum_rows t]
  refine Finset.sum_congr rfl fun s _ => ?_
  exact expSum_merge X (rows t s) (fun r hr => Finset.le_sup hr) (hm s)

/-! ## Masked rows -/

variable {V n : ℕ} (hV : V ≤ n) (hX : ∀ r, V ≤ r → X r = ⊥)

include hV hX

/-- Rows past the vocabulary leave the maximum as it is, -/
theorem sup_masked : (Finset.range n).sup X = Finset.fold max ⊥ (fun v : Fin V => X v.val) Finset.univ := by
  change _ = (Finset.univ : Finset (Fin V)).sup fun v => X v.val
  apply le_antisymm
  · refine Finset.sup_le fun r _ => ?_
    by_cases h : r < V
    · exact Finset.le_sup (f := fun v : Fin V => X v.val) (Finset.mem_univ ⟨r, h⟩)
    · rw [hX r (by omega)]; exact bot_le
  · exact Finset.sup_le fun v _ => Finset.le_sup (f := X) (Finset.mem_range.mpr (by have := v.isLt; omega))

/-- and the sum. -/
theorem expSum_masked (m : EReal) : expSum X (Finset.range n) m = ∑ v : Fin V, Ideal.exp (X v.val - m) := by
  rw [← Finset.sum_range (fun r => Ideal.exp (X r - m))]
  symm
  apply Finset.sum_subset
  · intro r hr; rw [Finset.mem_range] at *; omega
  · intro r _ hr
    rw [Finset.mem_range] at hr
    rw [hX r (by omega), exp_bot_sub]

end Cert.Online

end
-- ==== Proof.KernelIdeal.Blocks.lean ====
/- The head kernel's body, written with its 320 dequantized blocks as ONE step repeated: `blocks` is the chain of
   them, `updates` what follows (the tile's logits folded into the running maximum, sum and picked logit), `results`
   the last point's store of the loss. `body_first` and `body_later` say that the printed body is that, at the first
   grid point and at a later one. -/
module

public import proofs.«01_k».proof.Proof.Gen.KernelIdeal.Frame
public import proofs.«01_k».proof.Proof.Gen.KernelIdeal.Skeleton
public import Idealize.ShloMosaic.Lib.Pipeline.Regions

@[expose] public section

set_option maxRecDepth 16384

noncomputable section

namespace Cert.KernelIdeal.Head

open Idealize.ShloMosaic Idealize.ShloMosaic.TcCoe
open Idealize.SL Idealize.SL.Sem
open Cert.KernelIdeal Cert.KernelIdeal.Gen

variable {F : FTy → Type} [FloatOps F]

/-- Block `n` (counted along the rows of blocks) has its scale inside the tile's scales. -/
theorem scale_inb {n : Nat} (hn : n < 320) :
    ∀ a, (![n / 20, n % 20] : Fin 2 → Nat) a + S1x1.size a ≤ S16x20.size a := by
  intro a; fin_cases a <;> simp <;> omega

/-- Block `n` lies inside the tile. -/
theorem block_inb {n : Nat} (hn : n < 320) :
    ∀ a, (![128 * (n / 20), 128 * (n % 20)] : Fin 2 → Nat) a + S128x128.size a ≤ S2048x2560.size a := by
  intro a; fin_cases a <;> simp <;> omega

/-- Block `n`'s place in a tile. -/
abbrev blockRect (n : Nat) (hn : n < 320) : Rect S2048x2560 :=
  Rect.unit (s := S2048x2560) ![128 * (n / 20), 128 * (n % 20)] S128x128.size (block_inb hn)

/-- The place of block `n`'s scale. -/
abbrev scaleRect (n : Nat) (hn : n < 320) : Rect S16x20 :=
  Rect.unit (s := S16x20) ![n / 20, n % 20] S1x1.size (scale_inb hn)

/-- A block's rows are whole packed rows. -/
theorem block_packed {n : Nat} (hn : n < 320) : (blockRect n hn).PackedRows (EltTy.packing .bf16) := by
  refine .inr ⟨by decide, rfl, .inl ⟨?_, ?_⟩⟩
  · show 2 ∣ 128 * (n / 20); omega
  · show 2 ∣ 128; omega

/-- Dequantize block `n` into the bf16 tile, then go on with `k`. -/
def stepBlock (arg3 : Memref sig .tc .vmem S2048x2560 .fp8e4m3) (arg4 : Memref sig .tc .vmem S16x20 .f32)
    (arg6 : Memref sig .tc .vmem S2048x2560 .bf16) (harg6 : arg6.IsWhole) (n : Nat) (hn : n < 320)
    (k : Prog (TpuEff nD τ sig (Elt F) Λ₀ .tc) PUnit) : Prog (TpuEff nD τ sig (Elt F) Λ₀ .tc) PUnit := do
  let s : Vec F S1x1 .f32 ← Prog.lift (.load arg4 (scaleRect n hn).toLoadRect (View.loadsAt_vmem h_S1x1))
  let c : Vec F S128x128 .fp8e4m3 ← Prog.lift (.load arg3 (blockRect n hn).toLoadRect (View.loadsAt_vmem h_S128x128))
  let _ : Vec F S128x128 .bf16 ← Prog.lift (.load arg6 (blockRect n hn).toLoadRect (View.loadsAt_vmem h_S128x128))
  Prog.lift (.store arg6 (blockRect n hn) (k0_pay8 s c) Finset.univ
    (View.stores_vmem h_S128x128 (harg6.storeExact_slice rfl _ (block_packed hn)) (fun _ => rfl)) (.inl rfl))
  k

/-- The last `f` of the 320 blocks, then `k`. -/
def blocks (arg3 : Memref sig .tc .vmem S2048x2560 .fp8e4m3) (arg4 : Memref sig .tc .vmem S16x20 .f32)
    (arg6 : Memref sig .tc .vmem S2048x2560 .bf16) (harg6 : arg6.IsWhole)
    (k : Prog (TpuEff nD τ sig (Elt F) Λ₀ .tc) PUnit) (f : Nat) : Prog (TpuEff nD τ sig (Elt F) Λ₀ .tc) PUnit :=
  Nat.rec k (fun f ih => stepBlock arg3 arg4 arg6 harg6 (319 - f) (by omega) ih) f

/-- The last point's store of the two rows of the loss. -/
def results (i : grid0.Coords) (arg5 : Memref sig .tc .vmem S2x128 .f32)
    (arg7 arg8 arg9 : Memref sig .tc .vmem S8x256 .f32) : Prog (TpuEff nD τ sig (Elt F) Λ₀ .tc) PUnit := do
  if k0_h2 : k0_cond2 i = 1#1 then do
    let m : Vec F S8x256 .f32 ← Prog.lift (.load arg7 (Rect.unit (s := S8x256) ![0, 0] S8x256.size inb_S8x256_S8x256_0_0).toLoadRect (View.loadsAt_vmem h_S8x256))
    let l : Vec F S8x256 .f32 ← Prog.lift (.load arg8 (Rect.unit (s := S8x256) ![0, 0] S8x256.size inb_S8x256_S8x256_0_0).toLoadRect (View.loadsAt_vmem h_S8x256))
    let p : Vec F S8x256 .f32 ← Prog.lift (.load arg9 (Rect.unit (s := S8x256) ![0, 0] S8x256.size inb_S8x256_S8x256_0_0).toLoadRect (View.loadsAt_vmem h_S8x256))
    let _ : Vec F S1x128 .f32 ← Prog.lift (.load arg5 (Rect.unit (s := S2x128) ![0, 0] S1x128.size inb_S2x128_S1x128_0_0).toLoadRect (View.loadsAt_vmem h_S1x128))
    Prog.lift (.store arg5 (Rect.unit (s := S2x128) ![0, 0] S1x128.size inb_S2x128_S1x128_0_0) (k0_pay3 m l p) Finset.univ (View.stores_vmem_bits_univ h_S1x128 rfl) (.inl rfl))
    let _ : Vec F S1x128 .f32 ← Prog.lift (.load arg5 (Rect.unit (s := S2x128) ![1, 0] S1x128.size inb_S2x128_S1x128_1_0).toLoadRect (View.loadsAt_vmem h_S1x128))
    Prog.lift (.store arg5 (Rect.unit (s := S2x128) ![1, 0] S1x128.size inb_S2x128_S1x128_1_0) (k0_pay4 m l p) Finset.univ (View.stores_vmem_bits_univ h_S1x128 rfl) (.inl rfl))
    pure ⟨⟩
  else do
    pure ⟨⟩
  pure ⟨⟩

/-- The tile's logits, folded into the running maximum, sum and picked logit. -/
def updates (i : grid0.Coords) (arg1 : Memref sig .tc .vmem S2x129 .i32) (arg2 : Memref sig .tc .vmem S256x2560 .bf16)
    (arg5 : Memref sig .tc .vmem S2x128 .f32) (arg6 : Memref sig .tc .vmem S2048x2560 .bf16)
    (arg7 arg8 arg9 : Memref sig .tc .vmem S8x256 .f32) : Prog (TpuEff nD τ sig (Elt F) Λ₀ .tc) PUnit := do
  let w : Vec F S2048x2560 .bf16 ← Prog.lift (.load arg6 (Rect.unit (s := S2048x2560) ![0, 0] S2048x2560.size inb_S2048x2560_S2048x2560_0_0).toLoadRect (View.loadsAt_vmem h_S2048x2560))
  let y : Vec F S256x2560 .bf16 ← Prog.lift (.load arg2 (Rect.unit (s := S256x2560) ![0, 0] S256x2560.size inb_S256x2560_S256x2560_0_0).toLoadRect (View.loadsAt_vmem h_S256x2560))
  let t0 : Vec F S1x128 .i32 ← Prog.lift (.load arg1 (Rect.unit (s := S2x129) ![0, 1] S1x128.size inb_S2x129_S1x128_0_1).toLoadRect (View.loadsAt_vmem h_S1x128))
  let t1 : Vec F S1x128 .i32 ← Prog.lift (.load arg1 (Rect.unit (s := S2x129) ![1, 1] S1x128.size inb_S2x129_S1x128_1_1).toLoadRect (View.loadsAt_vmem h_S1x128))
  let m : Vec F S8x256 .f32 ← Prog.lift (.load arg7 (Rect.unit (s := S8x256) ![0, 0] S8x256.size inb_S8x256_S8x256_0_0).toLoadRect (View.loadsAt_vmem h_S8x256))
  let l : Vec F S8x256 .f32 ← Prog.lift (.load arg8 (Rect.unit (s := S8x256) ![0, 0] S8x256.size inb_S8x256_S8x256_0_0).toLoadRect (View.loadsAt_vmem h_S8x256))
  let _ : Vec F S8x256 .f32 ← Prog.lift (.load arg8 (Rect.unit (s := S8x256) ![0, 0] S8x256.size inb_S8x256_S8x256_0_0).toLoadRect (View.loadsAt_vmem h_S8x256))
  Prog.lift (.store arg8 (Rect.unit (s := S8x256) ![0, 0] S8x256.size inb_S8x256_S8x256_0_0) (k0_pay418 (k0_pay416 (BitVec.ofNat 32 (i 0).val) w y) m l) Finset.univ (View.stores_vmem_bits_univ h_S8x256 rfl) (.inl rfl))
  let _ : Vec F S8x256 .f32 ← Prog.lift (.load arg7 (Rect.unit (s := S8x256) ![0, 0] S8x256.size inb_S8x256_S8x256_0_0).toLoadRect (View.loadsAt_vmem h_S8x256))
  Prog.lift (.store arg7 (Rect.unit (s := S8x256) ![0, 0] S8x256.size inb_S8x256_S8x256_0_0) (k0_pay419 (k0_pay416 (BitVec.ofNat 32 (i 0).val) w y) m) Finset.univ (View.stores_vmem_bits_univ h_S8x256 rfl) (.inl rfl))
  let p : Vec F S8x256 .f32 ← Prog.lift (.load arg9 (Rect.unit (s := S8x256) ![0, 0] S8x256.size inb_S8x256_S8x256_0_0).toLoadRect (View.loadsAt_vmem h_S8x256))
  let _ : Vec F S8x256 .f32 ← Prog.lift (.load arg9 (Rect.unit (s := S8x256) ![0, 0] S8x256.size inb_S8x256_S8x256_0_0).toLoadRect (View.loadsAt_vmem h_S8x256))
  Prog.lift (.store arg9 (Rect.unit (s := S8x256) ![0, 0] S8x256.size inb_S8x256_S8x256_0_0) (k0_pay1 p (k0_pay420 (k0_pay415 (BitVec.ofNat 32 (i 0).val) w y t0 t1))) Finset.univ (View.stores_vmem_bits_univ h_S8x256 rfl) (.inl rfl))
  results i arg5 arg7 arg8 arg9

/-- The body after the first point's initialization. -/
def rest (i : grid0.Coords) (arg1 : Memref sig .tc .vmem S2x129 .i32) (arg2 : Memref sig .tc .vmem S256x2560 .bf16)
    (arg3 : Memref sig .tc .vmem S2048x2560 .fp8e4m3) (arg4 : Memref sig .tc .vmem S16x20 .f32)
    (arg5 : Memref sig .tc .vmem S2x128 .f32) (arg6 : Memref sig .tc .vmem S2048x2560 .bf16) (harg6 : arg6.IsWhole)
    (arg7 arg8 arg9 : Memref sig .tc .vmem S8x256 .f32) : Prog (TpuEff nD τ sig (Elt F) Λ₀ .tc) PUnit :=
  blocks arg3 arg4 arg6 harg6 (updates i arg1 arg2 arg5 arg6 arg7 arg8 arg9) 320

/-- The first point's body: the running maximum, sum and picked logit start at `-∞`, `0` and `0`. -/
def first (i : grid0.Coords) (arg1 : Memref sig .tc .vmem S2x129 .i32) (arg2 : Memref sig .tc .vmem S256x2560 .bf16)
    (arg3 : Memref sig .tc .vmem S2048x2560 .fp8e4m3) (arg4 : Memref sig .tc .vmem S16x20 .f32)
    (arg5 : Memref sig .tc .vmem S2x128 .f32) (arg6 : Memref sig .tc .vmem S2048x2560 .bf16) (harg6 : arg6.IsWhole)
    (arg7 arg8 arg9 : Memref sig .tc .vmem S8x256 .f32) : Prog (TpuEff nD τ sig (Elt F) Λ₀ .tc) PUnit := do
  let _ : Vec F S8x256 .f32 ← Prog.lift (.load arg7 (Rect.unit (s := S8x256) ![0, 0] S8x256.size inb_S8x256_S8x256_0_0).toLoadRect (View.loadsAt_vmem h_S8x256))
  Prog.lift (.store arg7 (Rect.unit (s := S8x256) ![0, 0] S8x256.size inb_S8x256_S8x256_0_0) (k0_pay5 (F := F)) Finset.univ (View.stores_vmem_bits_univ h_S8x256 rfl) (.inl rfl))
  let _ : Vec F S8x256 .f32 ← Prog.lift (.load arg8 (Rect.unit (s := S8x256) ![0, 0] S8x256.size inb_S8x256_S8x256_0_0).toLoadRect (View.loadsAt_vmem h_S8x256))
  Prog.lift (.store arg8 (Rect.unit (s := S8x256) ![0, 0] S8x256.size inb_S8x256_S8x256_0_0) (k0_pay6 (F := F)) Finset.univ (View.stores_vmem_bits_univ h_S8x256 rfl) (.inl rfl))
  let _ : Vec F S8x256 .f32 ← Prog.lift (.load arg9 (Rect.unit (s := S8x256) ![0, 0] S8x256.size inb_S8x256_S8x256_0_0).toLoadRect (View.loadsAt_vmem h_S8x256))
  Prog.lift (.store arg9 (Rect.unit (s := S8x256) ![0, 0] S8x256.size inb_S8x256_S8x256_0_0) (k0_pay7 (F := F)) Finset.univ (View.stores_vmem_bits_univ h_S8x256 rfl) (.inl rfl))
  rest i arg1 arg2 arg3 arg4 arg5 arg6 harg6 arg7 arg8 arg9

/-- The condition of the body's initialization, as the body writes it. -/
abbrev condFirst (i : grid0.Coords) : BitVec 1 :=
  Scalar.cmpi .ne (Scalar.extui (Scalar.cmpi .eq (BitVec.ofNat 32 (i 0).val) 0#32) : BitVec 32) 0#32

section
variable (i : grid0.Coords) (arg1 : Memref sig .tc .vmem S2x129 .i32) (harg1 : arg1.IsWhole)
  (arg2 : Memref sig .tc .vmem S256x2560 .bf16) (harg2 : arg2.IsWhole)
  (arg3 : Memref sig .tc .vmem S2048x2560 .fp8e4m3) (harg3 : arg3.IsWhole)
  (arg4 : Memref sig .tc .vmem S16x20 .f32) (harg4 : arg4.IsWhole)
  (arg5 : Memref sig .tc .vmem S2x128 .f32) (harg5 : arg5.IsWhole)
  (arg6 : Memref sig .tc .vmem S2048x2560 .bf16) (harg6 : arg6.IsWhole)
  (arg7 : Memref sig .tc .vmem S8x256 .f32) (harg7 : arg7.IsWhole)
  (arg8 : Memref sig .tc .vmem S8x256 .f32) (harg8 : arg8.IsWhole)
  (arg9 : Memref sig .tc .vmem S8x256 .f32) (harg9 : arg9.IsWhole)

/-- At a point where the initialization is not taken the printed body is `rest`. -/
theorem body_later (h : ¬ condFirst i = 1#1) :
    cc0_head (F := F) i arg1 harg1 arg2 harg2 arg3 harg3 arg4 harg4 arg5 harg5 arg6 harg6 arg7 harg7 arg8 harg8 arg9 harg9
      = rest i arg1 arg2 arg3 arg4 arg5 arg6 harg6 arg7 arg8 arg9 := by
  rw [cc0_head_eq_skeleton, cc0_head_skel, k0_part87_eq_skeleton, k0_part87_skel, k0_part1_eq_skeleton, k0_part1_skel]
  dsimp only
  rw [dif_neg h]
  chain_rfl

/-- At a point where it is taken the printed body is `first`. -/
theorem body_first (h : condFirst i = 1#1) :
    cc0_head (F := F) i arg1 harg1 arg2 harg2 arg3 harg3 arg4 harg4 arg5 harg5 arg6 harg6 arg7 harg7 arg8 harg8 arg9 harg9
      = first i arg1 arg2 arg3 arg4 arg5 arg6 harg6 arg7 arg8 arg9 := by
  rw [cc0_head_eq_skeleton, cc0_head_skel, k0_part87_eq_skeleton, k0_part87_skel, k0_part1_eq_skeleton, k0_part1_skel]
  dsimp only
  rw [dif_pos h]
  chain_rfl

end

end Cert.KernelIdeal.Head

end
-- ==== Proof.KernelIdeal.Body.lean ====
/- The head kernel's body as a triple over named contents: what one grid point makes of the running maximum, sum and
   picked logit, given the tile's codes and scales, and (at the last point) of the loss. -/
module

public import proofs.«01_k».proof.Proof.Owns
public import proofs.«01_k».proof.Proof.KernelIdeal.Blocks

@[expose] public section

set_option maxRecDepth 16384

noncomputable section

namespace Cert.KernelIdeal.Head

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-! ## What a point computes -/

/-- The block an element of the tile lies in, -/
def blockOf (y : S2048x2560.Idx) : Nat := 20 * ((y 0 : Nat) / 128) + (y 1 : Nat) / 128

theorem blockOf_lt (y : S2048x2560.Idx) : blockOf y < 320 := by
  have h0 : (y 0 : Nat) < 2048 := (y 0).isLt
  have h1 : (y 1 : Nat) < 2560 := (y 1).isLt
  unfold blockOf; omega

/-- and its place in that block. -/
def inBlock (y : S2048x2560.Idx) : S128x128.Idx := fun a => match a with
  | ⟨0, _⟩ => (⟨(y 0 : Nat) % 128, Nat.mod_lt _ (by decide)⟩ : Fin 128)
  | ⟨1, _⟩ => (⟨(y 1 : Nat) % 128, Nat.mod_lt _ (by decide)⟩ : Fin 128)

/-- The dequantized tile of codes `C` with scales `S`. -/
def tile (S : S16x20.Idx → Elt F .f32) (C : S2048x2560.Idx → Elt F .fp8e4m3) : S2048x2560.Idx → Elt F .bf16 :=
  fun y => k0_pay8 (fun x => S ((scaleRect (blockOf y) (blockOf_lt y)).emb x))
    (fun x => C ((blockRect (blockOf y) (blockOf_lt y)).emb x)) (inBlock y)

/-- The two rows of target tokens. -/
def row0 (ids : S2x129.Idx → Elt F .i32) : S1x128.Idx → Elt F .i32 :=
  fun x => ids ((Rect.unit (s := S2x129) ![0, 1] S1x128.size inb_S2x129_S1x128_0_1).emb x)
def row1 (ids : S2x129.Idx → Elt F .i32) : S1x128.Idx → Elt F .i32 :=
  fun x => ids ((Rect.unit (s := S2x129) ![1, 1] S1x128.size inb_S2x129_S1x128_1_1).emb x)

/-- The running maximum after a point. -/
def newM (i : grid0.Coords) (w : S2048x2560.Idx → Elt F .bf16) (y : S256x2560.Idx → Elt F .bf16)
    (m : S8x256.Idx → Elt F .f32) : S8x256.Idx → Elt F .f32 :=
  k0_pay419 (k0_pay416 (BitVec.ofNat 32 (i 0).val) w y) m
/-- The running sum after a point. -/
def newL (i : grid0.Coords) (w : S2048x2560.Idx → Elt F .bf16) (y : S256x2560.Idx → Elt F .bf16)
    (m l : S8x256.Idx → Elt F .f32) : S8x256.Idx → Elt F .f32 :=
  k0_pay418 (k0_pay416 (BitVec.ofNat 32 (i 0).val) w y) m l
/-- The picked logit after a point. -/
def newP (i : grid0.Coords) (ids : S2x129.Idx → Elt F .i32) (w : S2048x2560.Idx → Elt F .bf16)
    (y : S256x2560.Idx → Elt F .bf16) (p : S8x256.Idx → Elt F .f32) : S8x256.Idx → Elt F .f32 :=
  k0_pay1 p (k0_pay420 (k0_pay415 (BitVec.ofNat 32 (i 0).val) w y (row0 ids) (row1 ids)))

/-- The loss the last point stores. -/
def lossOf (m l p : S8x256.Idx → Elt F .f32) : S2x128.Idx → Elt F .f32 :=
  fun x => if (x 0 : Nat) = 0 then k0_pay3 m l p (fun a => match a with | ⟨0, _⟩ => (0 : Fin 1) | ⟨1, _⟩ => x 1)
    else k0_pay4 m l p (fun a => match a with | ⟨0, _⟩ => (0 : Fin 1) | ⟨1, _⟩ => x 1)

/-! ## Rectangles -/

theorem zz : (![0, 0] : Fin 2 → Nat) = fun _ => 0 := funext fun a => by fin_cases a <;> rfl

/-- An element lies in its own block at its own place, -/
theorem emb_inBlock (y : S2048x2560.Idx) : (blockRect (blockOf y) (blockOf_lt y)).emb (inBlock y) = y := by
  have h1 : (y 1 : Nat) < 2560 := (y 1).isLt
  funext a; apply Fin.ext
  fin_cases a
  · show 128 * (blockOf y / 20) + 1 * ((y 0 : Nat) % 128) = (y 0 : Nat)
    unfold blockOf; omega
  · show 128 * (blockOf y % 20) + 1 * ((y 1 : Nat) % 128) = (y 1 : Nat)
    unfold blockOf; omega

/-- and in no other. -/
theorem blockOf_of_mem {n : Nat} (hn : n < 320) {y : S2048x2560.Idx} (h : y ∈ (blockRect n hn).set) : blockOf y = n := by
  rw [Rect.mem_set_unit] at h
  have h0 := h 0; have h1 := h 1
  change 128 * (n / 20) ≤ (y 0 : Nat) ∧ (y 0 : Nat) < 128 * (n / 20) + 128 at h0
  change 128 * (n % 20) ≤ (y 1 : Nat) ∧ (y 1 : Nat) < 128 * (n % 20) + 128 at h1
  unfold blockOf; omega

theorem emb_inBlock_of {n : Nat} (hn : n < 320) {y : S2048x2560.Idx} (h : blockOf y = n) :
    (blockRect n hn).emb (inBlock y) = y := by
  subst h; exact emb_inBlock y

/-- The tile at an element of block `n`. -/
theorem tile_of (S : S16x20.Idx → Elt F .f32) (C : S2048x2560.Idx → Elt F .fp8e4m3) {n : Nat} (hn : n < 320)
    {y : S2048x2560.Idx} (h : blockOf y = n) :
    tile S C y = k0_pay8 (fun x => S ((scaleRect n hn).emb x)) (fun x => C ((blockRect n hn).emb x)) (inBlock y) := by
  subst h; rfl

/-! ## The triples -/

variable (c : Dev nD) (E : Set ℕ)
variable (i : grid0.Coords) {arg1 : Memref sig .tc .vmem S2x129 .i32}
  {arg2 : Memref sig .tc .vmem S256x2560 .bf16} {arg3 : Memref sig .tc .vmem S2048x2560 .fp8e4m3}
  {arg4 : Memref sig .tc .vmem S16x20 .f32} {arg5 : Memref sig .tc .vmem S2x128 .f32}
  {arg6 : Memref sig .tc .vmem S2048x2560 .bf16} (harg6 : arg6.IsWhole)
  {arg7 arg8 arg9 : Memref sig .tc .vmem S8x256 .f32}
variable (ids : S2x129.Idx → Elt F .i32) (y : S256x2560.Idx → Elt F .bf16) (C : S2048x2560.Idx → Elt F .fp8e4m3)
  (S : S16x20.Idx → Elt F .f32) (m l p : S8x256.Idx → Elt F .f32)

/-- The chain of the last `f` blocks, the others being dequantized already: it ends with the whole tile dequantized. -/
theorem wp_blocks (K : PUnit → sProp 𝕄) (k : Prog (TpuEff nD τ sig (Elt F) Λ₀ .tc) PUnit) (f : Nat) (hf : f ≤ 320) :
    ∀ X : S2048x2560.Idx → Elt F .bf16, (∀ z, blockOf z < 320 - f → X z = tile S C z) →
    iprop(owns (c : Thread nD τ) arg3 fullShare C ∗ owns (c : Thread nD τ) arg4 fullShare S ∗ owns (c : Thread nD τ) arg6 fullShare X
      ∗ (iprop(owns (c : Thread nD τ) arg3 fullShare C ∗ owns (c : Thread nD τ) arg4 fullShare S
          ∗ owns (c : Thread nD τ) arg6 fullShare (tile S C)) -∗ wp frame (wpE (defs₀ (F := F)) Variants.none c none) E k K))
      ⊢ wp frame (wpE (defs₀ (F := F)) Variants.none c none) E (blocks arg3 arg4 arg6 harg6 k f) K := by
  induction f with
  | zero =>
    intro X hX
    have e : X = tile S C := funext fun z => hX z (blockOf_lt z)
    subst e
    iintro ⟨H3, H4, H6, Hk⟩
    iapply Hk
    isplitl [H3]; · iexact H3
    isplitl [H4]; · iexact H4
    iexact H6
  | succ f ih =>
    intro X hX
    have hn : 319 - f < 320 := by omega
    change _ ⊢ wp frame (wpE (defs₀ (F := F)) Variants.none c none) E
      (stepBlock arg3 arg4 arg6 harg6 (319 - f) hn (blocks arg3 arg4 arg6 harg6 k f)) K
    unfold stepBlock
    simp only [Prog.lift, Prog.bind_op, Prog.bind_ret]
    iintro ⟨H3, H4, H6, Hk⟩
    iapply (Owns.wp_load Variants.none (c : Thread nD τ) none E (r := scaleRect (319 - f) hn)) $$ H4
    iintro H4
    iapply (Owns.wp_load Variants.none (c : Thread nD τ) none E (r := blockRect (319 - f) hn)) $$ H3
    iintro H3
    iapply (Owns.wp_load Variants.none (c : Thread nD τ) none E (r := blockRect (319 - f) hn)) $$ H6
    iintro H6
    iapply (Owns.wp_store Variants.none (c : Thread nD τ) none E (r := blockRect (319 - f) hn)) $$ H6
    iintro %Y %hY H6
    iapply (ih (by omega) Y (by
      intro z hz
      by_cases hb : blockOf z = 319 - f
      · have e := hY.1 (inBlock z)
        rw [emb_inBlock_of hn hb] at e
        exact e.trans (tile_of S C hn hb).symm
      · rw [hY.2 z (fun hm => hb (blockOf_of_mem hn hm))]
        exact hX z (by omega)))
    isplitl [H3]; · iexact H3
    isplitl [H4]; · iexact H4
    isplitl [H6]; · iexact H6
    iexact Hk

/-- The last point's stores: the loss of the running contents. -/
theorem wp_results_last (K : PUnit → sProp 𝕄) (h : k0_cond2 i = 1#1) (X : S2x128.Idx → Elt F .f32) :
    iprop(owns (c : Thread nD τ) arg5 fullShare X ∗ owns (c : Thread nD τ) arg7 fullShare m ∗ owns (c : Thread nD τ) arg8 fullShare l
      ∗ owns (c : Thread nD τ) arg9 fullShare p
      ∗ (iprop(owns (c : Thread nD τ) arg5 fullShare (lossOf m l p) ∗ owns (c : Thread nD τ) arg7 fullShare m
          ∗ owns (c : Thread nD τ) arg8 fullShare l ∗ owns (c : Thread nD τ) arg9 fullShare p) -∗ K ⟨⟩))
      ⊢ wp frame (wpE (defs₀ (F := F)) Variants.none c none) E (results i arg5 arg7 arg8 arg9) K := by
  unfold results
  rw [dif_pos h]
  simp only [Prog.lift, Prog.bind_op, Prog.bind_ret, Prog.pure_eq_ret]
  iintro ⟨H5, H7, H8, H9, Hk⟩
  iapply (Owns.wp_load_whole Variants.none (c : Thread nD τ) none E zz) $$ H7
  iintro H7
  iapply (Owns.wp_load_whole Variants.none (c : Thread nD τ) none E zz) $$ H8
  iintro H8
  iapply (Owns.wp_load_whole Variants.none (c : Thread nD τ) none E zz) $$ H9
  iintro H9
  iapply (Owns.wp_load Variants.none (c : Thread nD τ) none E) $$ H5
  iintro H5
  iapply (Owns.wp_store Variants.none (c : Thread nD τ) none E) $$ H5
  iintro %Y %hY H5
  iapply (Owns.wp_load Variants.none (c : Thread nD τ) none E) $$ H5
  iintro H5
  iapply (Owns.wp_store Variants.none (c : Thread nD τ) none E) $$ H5
  iintro %Z %hZ H5
  have e : Z = lossOf m l p := by
    funext x
    have h0 : (x 0 : Nat) < 2 := (x 0).isLt
    have h1 : (x 1 : Nat) < 128 := (x 1).isLt
    unfold lossOf
    by_cases hx : (x 0 : Nat) = 0
    · rw [if_pos hx, hZ.2 x (by rw [Rect.mem_set_unit]; intro hc; have := (hc 0).1; change 1 ≤ (x 0 : Nat) at this; omega)]
      rw [← hY.1]
      congr 1
      funext a; apply Fin.ext
      fin_cases a
      · show (x 0 : Nat) = 0 + 1 * 0; omega
      · show (x 1 : Nat) = 0 + 1 * (x 1 : Nat); omega
    · rw [if_neg hx, ← hZ.1]
      congr 1
      funext a; apply Fin.ext
      fin_cases a
      · show (x 0 : Nat) = 1 + 1 * 0; omega
      · show (x 1 : Nat) = 0 + 1 * (x 1 : Nat); omega
  subst e
  sl_step
  iapply Hk
  isplitl [H5]; · iexact H5
  isplitl [H7]; · iexact H7
  isplitl [H8]; · iexact H8
  iexact H9

/-- At every other point nothing is stored. -/
theorem wp_results_other (K : PUnit → sProp 𝕄) (h : ¬ k0_cond2 i = 1#1) :
    K ⟨⟩ ⊢ wp frame (wpE (defs₀ (F := F)) Variants.none c none) E (results i arg5 arg7 arg8 arg9) K := by
  unfold results
  rw [dif_neg h]
  simp only [Prog.bind_ret, Prog.pure_eq_ret]
  iintro Hk
  sl_step
  iexact Hk

/-- The updates of the running contents, before `results`. -/
theorem wp_updates (K : PUnit → sProp 𝕄) (w : S2048x2560.Idx → Elt F .bf16) :
    iprop(owns (c : Thread nD τ) arg1 fullShare ids ∗ owns (c : Thread nD τ) arg2 fullShare y ∗ owns (c : Thread nD τ) arg6 fullShare w
      ∗ owns (c : Thread nD τ) arg7 fullShare m ∗ owns (c : Thread nD τ) arg8 fullShare l ∗ owns (c : Thread nD τ) arg9 fullShare p
      ∗ (iprop(owns (c : Thread nD τ) arg1 fullShare ids ∗ owns (c : Thread nD τ) arg2 fullShare y ∗ owns (c : Thread nD τ) arg6 fullShare w
          ∗ owns (c : Thread nD τ) arg7 fullShare (newM i w y m) ∗ owns (c : Thread nD τ) arg8 fullShare (newL i w y m l)
          ∗ owns (c : Thread nD τ) arg9 fullShare (newP i ids w y p))
          -∗ wp frame (wpE (defs₀ (F := F)) Variants.none c none) E (results i arg5 arg7 arg8 arg9) K))
      ⊢ wp frame (wpE (defs₀ (F := F)) Variants.none c none) E (updates i arg1 arg2 arg5 arg6 arg7 arg8 arg9) K := by
  unfold updates
  simp only [Prog.lift, Prog.bind_op, Prog.bind_ret]
  iintro ⟨H1, H2, H6, H7, H8, H9, Hk⟩
  iapply (Owns.wp_load_whole Variants.none (c : Thread nD τ) none E zz) $$ H6
  iintro H6
  iapply (Owns.wp_load_whole Variants.none (c : Thread nD τ) none E zz) $$ H2
  iintro H2
  iapply (Owns.wp_load Variants.none (c : Thread nD τ) none E) $$ H1
  iintro H1
  iapply (Owns.wp_load Variants.none (c : Thread nD τ) none E) $$ H1
  iintro H1
  iapply (Owns.wp_load_whole Variants.none (c : Thread nD τ) none E zz) $$ H7
  iintro H7
  iapply (Owns.wp_load_whole Variants.none (c : Thread nD τ) none E zz) $$ H8
  iintro H8
  iapply (Owns.wp_load_whole Variants.none (c : Thread nD τ) none E zz) $$ H8
  iintro H8
  iapply (Owns.wp_store_whole Variants.none (c : Thread nD τ) none E zz) $$ H8
  iintro H8
  iapply (Owns.wp_load_whole Variants.none (c : Thread nD τ) none E zz) $$ H7
  iintro H7
  iapply (Owns.wp_store_whole Variants.none (c : Thread nD τ) none E zz) $$ H7
  iintro H7
  iapply (Owns.wp_load_whole Variants.none (c : Thread nD τ) none E zz) $$ H9
  iintro H9
  iapply (Owns.wp_load_whole Variants.none (c : Thread nD τ) none E zz) $$ H9
  iintro H9
  iapply (Owns.wp_store_whole Variants.none (c : Thread nD τ) none E zz) $$ H9
  iintro H9
  iapply Hk
  isplitl [H1]; · iexact H1
  isplitl [H2]; · iexact H2
  isplitl [H6]; · iexact H6
  isplitl [H7]; · iexact H7
  isplitl [H8]; · iexact H8
  iexact H9

/-- What a point holds of the buffers it only reads, and of its dequantized tile. -/
def held (c : Dev nD) (arg1 : Memref sig .tc .vmem S2x129 .i32)
    (arg2 : Memref sig .tc .vmem S256x2560 .bf16) (arg3 : Memref sig .tc .vmem S2048x2560 .fp8e4m3)
    (arg4 : Memref sig .tc .vmem S16x20 .f32) (arg6 : Memref sig .tc .vmem S2048x2560 .bf16)
    (ids : S2x129.Idx → Elt F .i32) (y : S256x2560.Idx → Elt F .bf16) (C : S2048x2560.Idx → Elt F .fp8e4m3)
    (S : S16x20.Idx → Elt F .f32) : sProp 𝕄 :=
  iprop(owns (c : Thread nD τ) arg1 fullShare ids ∗ owns (c : Thread nD τ) arg2 fullShare y ∗ owns (c : Thread nD τ) arg3 fullShare C
      ∗ owns (c : Thread nD τ) arg4 fullShare S ∗ ∃ X, owns (c : Thread nD τ) arg6 fullShare X)

/-- What it holds of the running contents. -/
def running (c : Dev nD) (arg7 arg8 arg9 : Memref sig .tc .vmem S8x256 .f32) (m l p : S8x256.Idx → Elt F .f32) : sProp 𝕄 :=
  iprop(owns (c : Thread nD τ) arg7 fullShare m ∗ owns (c : Thread nD τ) arg8 fullShare l ∗ owns (c : Thread nD τ) arg9 fullShare p)

/-- The body after the first point's initialization, up to `results`. -/
theorem wp_rest (K : PUnit → sProp 𝕄) :
    iprop(held c arg1 arg2 arg3 arg4 arg6 ids y C S ∗ running c arg7 arg8 arg9 m l p
      ∗ (iprop(held c arg1 arg2 arg3 arg4 arg6 ids y C S
          ∗ running c arg7 arg8 arg9 (newM i (tile S C) y m) (newL i (tile S C) y m l) (newP i ids (tile S C) y p))
          -∗ wp frame (wpE (defs₀ (F := F)) Variants.none c none) E (results i arg5 arg7 arg8 arg9) K))
      ⊢ wp frame (wpE (defs₀ (F := F)) Variants.none c none) E (rest i arg1 arg2 arg3 arg4 arg5 arg6 harg6 arg7 arg8 arg9) K := by
  unfold held running rest
  iintro ⟨⟨H1, H2, H3, H4, ⟨%X, H6⟩⟩, ⟨H7, H8, H9⟩, Hk⟩
  iapply (wp_blocks c E harg6 C S K _ 320 (by omega) X (fun z hz => absurd hz (by omega)))
  isplitl [H3]; · iexact H3
  isplitl [H4]; · iexact H4
  isplitl [H6]; · iexact H6
  iintro ⟨H3, H4, H6⟩
  iapply (wp_updates c E i ids y m l p K (tile S C))
  isplitl [H1]; · iexact H1
  isplitl [H2]; · iexact H2
  isplitl [H6]; · iexact H6
  isplitl [H7]; · iexact H7
  isplitl [H8]; · iexact H8
  isplitl [H9]; · iexact H9
  iintro ⟨H1, H2, H6, H7, H8, H9⟩
  iapply Hk
  isplitl [H1 H2 H3 H4 H6]
  · isplitl [H1]; · iexact H1
    isplitl [H2]; · iexact H2
    isplitl [H3]; · iexact H3
    isplitl [H4]; · iexact H4
    iexists _; iexact H6
  · isplitl [H7]; · iexact H7
    isplitl [H8]; · iexact H8
    iexact H9

/-- The first point's body: from any running contents, `rest` at their initial values. -/
theorem wp_first (K : PUnit → sProp 𝕄) :
    iprop(running c arg7 arg8 arg9 m l p
      ∗ (running c arg7 arg8 arg9 (k0_pay5 (F := F)) (k0_pay6 (F := F)) (k0_pay7 (F := F))
          -∗ wp frame (wpE (defs₀ (F := F)) Variants.none c none) E (rest i arg1 arg2 arg3 arg4 arg5 arg6 harg6 arg7 arg8 arg9) K))
      ⊢ wp frame (wpE (defs₀ (F := F)) Variants.none c none) E (first i arg1 arg2 arg3 arg4 arg5 arg6 harg6 arg7 arg8 arg9) K := by
  unfold running first
  simp only [Prog.lift, Prog.bind_op, Prog.bind_ret]
  iintro ⟨⟨H7, H8, H9⟩, Hk⟩
  iapply (Owns.wp_load_whole Variants.none (c : Thread nD τ) none E zz) $$ H7
  iintro H7
  iapply (Owns.wp_store_whole Variants.none (c : Thread nD τ) none E zz) $$ H7
  iintro H7
  iapply (Owns.wp_load_whole Variants.none (c : Thread nD τ) none E zz) $$ H8
  iintro H8
  iapply (Owns.wp_store_whole Variants.none (c : Thread nD τ) none E zz) $$ H8
  iintro H8
  iapply (Owns.wp_load_whole Variants.none (c : Thread nD τ) none E zz) $$ H9
  iintro H9
  iapply (Owns.wp_store_whole Variants.none (c : Thread nD τ) none E zz) $$ H9
  iintro H9
  iapply Hk
  isplitl [H7]; · iexact H7
  isplitl [H8]; · iexact H8
  iexact H9

end Cert.KernelIdeal.Head

end
-- ==== Proof.Spec.lean ====
/- The loss both programs compute, over the extended reals. -/
module

public import Idealize.ShloMosaic.Lib.Pointwise

@[expose] public section

noncomputable section

namespace Cert.Loss

open Idealize.ShloMosaic

variable (ids : (⟨2, ![2, 129]⟩ : Shape).Idx → BitVec 32) (Y : (⟨2, ![256, 2560]⟩ : Shape).Idx → EReal)
  (C : (⟨2, ![151936, 2560]⟩ : Shape).Idx → EReal) (S : (⟨2, ![1187, 20]⟩ : Shape).Idx → EReal)

/-- The dequantized head: each code times the scale of its 128 × 128 block. -/
def weight (v : Fin 151936) (k : Fin 2560) : EReal :=
  C (ix2 v k) * S (ix2 ⟨v / 128, by omega⟩ ⟨k / 128, by omega⟩)

/-- The logit of vocabulary entry `v` at position `n`. -/
def logit (n : Fin 256) (v : Fin 151936) : EReal := ∑ k : Fin 2560, weight C S v k * Y (ix2 n k)

/-- The greatest logit at position `n`. -/
def top (n : Fin 256) : EReal := Finset.fold max ⊥ (logit Y C S n) Finset.univ

/-- The token position `n` is to predict: the flattened `ids[:, 1:]`. -/
def target (n : Fin 256) : BitVec 32 := ids (ix2 ⟨n / 128, by omega⟩ ⟨n % 128 + 1, by omega⟩)

/-- Every target names a vocabulary entry. -/
def InVocab : Prop := ∀ n : Fin 256, (target ids n).toNat < 151936

/-- The loss at position `n`: log-sum-exp of the logits, less the target's logit, less the logarithm of the vocabulary's size. -/
def loss (h : InVocab ids) (n : Fin 256) : EReal :=
  top Y C S n + Ideal.log (∑ v, Ideal.exp (logit Y C S n v - top Y C S n)) - logit Y C S n ⟨(target ids n).toNat, h n⟩
    - Ideal.ofBits .f32 0x413EE641#32

/-- The result array: position `128 b + s` at row `b`, column `s`. -/
def result (h : InVocab ids) : (⟨2, ![2, 128]⟩ : Shape).Idx → EReal := fun x =>
  loss ids Y C S h ⟨128 * (x 0).val + (x 1).val, by
    have h0 : (x 0).val < 2 := (x 0).isLt
    have h1 : (x 1).val < 128 := (x 1).isLt
    omega⟩

end Cert.Loss

end
-- ==== Proof.KernelIdeal.Read.lean ====
/- The head kernel's operations at the ideal values, read at an index. -/
module

public import proofs.«01_k».proof.Proof.KernelIdeal.Body
public import proofs.«01_k».proof.Proof.Spec

@[expose] public section

set_option maxRecDepth 16384

noncomputable section

namespace Cert.KernelIdeal.Head

open Idealize.ShloMosaic Idealize.ShloMosaic.TcCoe
open Cert.KernelIdeal Cert.KernelIdeal.Gen

/-- The word that starts a maximum is −∞. -/
theorem ofBits_negInf : Ideal.ofBits .f32 0xFF800000#32 = ⊥ := by simp [Ideal.ofBits, Ideal.ieee]

/-- The dequantized tile: each code times its block's scale. -/
theorem tile_apply (S : S16x20.Idx → Elt Ideal .f32) (C : S2048x2560.Idx → Elt Ideal .fp8e4m3) (r : Fin 2048) (k : Fin 2560) :
    tile (F := Ideal) S C (ix2 r k) = C (ix2 r k) * S (ix2 ⟨r / 128, by omega⟩ ⟨k / 128, by omega⟩) := by
  unfold tile
  pointwise [k0_pay8]
  rw [emb_inBlock]
  have e : (scaleRect (blockOf (ix2 r k)) (blockOf_lt _)).emb (ix2 0 0)
      = (ix2 ⟨r / 128, by omega⟩ ⟨k / 128, by omega⟩ : S16x20.Idx) := by
    have hb : blockOf (ix2 r k) = 20 * (r.val / 128) + k.val / 128 := rfl
    have hk := k.isLt
    funext a; apply Fin.ext
    fin_cases a
    · show blockOf (ix2 r k) / 20 + 1 * 0 = r.val / 128
      omega
    · show blockOf (ix2 r k) % 20 + 1 * 0 = k.val / 128
      omega
  rw [e]

/-- The masked logits of a tile: row `r` of tile `a` is kept if its number lies below the vocabulary's size. -/
theorem pay414_apply (a : BitVec 32) (w : S2048x2560.Idx → Elt Ideal .bf16) (y : S256x2560.Idx → Elt Ideal .bf16) (r : Fin 2048) (n : Fin 256) :
    k0_pay414 (F := Ideal) a w y (ix2 r n)
      = Scalar.select (IntOp.cmpi .slt (IntOp.addi (Scalar.muli a 2048#32) (BitVec.ofNat 32 r)) 151936#32)
          (∑ k : Fin 2560, w (ix2 r k) * y (ix2 n k)) (⊥ : EReal) := by
  pointwise [k0_pay414, k0_pay413]
  rw [ofBits_negInf]

/-- The logits kept where the row is the column's target. -/
theorem pay415_apply (a : BitVec 32) (w : S2048x2560.Idx → Elt Ideal .bf16) (y : S256x2560.Idx → Elt Ideal .bf16) (r : Fin 2048) (n : Fin 256)
    (ids : S2x129.Idx → Elt Ideal .i32) :
    k0_pay415 (F := Ideal) a w y (row0 ids) (row1 ids) (ix2 r n)
      = Scalar.select (IntOp.cmpi .eq (IntOp.addi (Scalar.muli a 2048#32) (BitVec.ofNat 32 r)) (Cert.Loss.target ids n))
          (k0_pay414 (F := Ideal) a w y (ix2 r n)) (0 : EReal) := by
  pointwise [k0_pay415, k0_pay413]
  have e : (if h : n.val < 128 then row0 ids (ix2 0 ⟨n.val, h⟩) else row1 ids (ix2 0 ⟨n.val - 128, by omega⟩)) = Cert.Loss.target ids n := by
    unfold row0 row1 Cert.Loss.target
    split
    · congr 1; funext a; apply Fin.ext
      fin_cases a
      · show 0 + 1 * 0 = n.val / 128
        omega
      · show 1 + 1 * n.val = n.val % 128 + 1
        omega
    · congr 1; funext a; apply Fin.ext
      fin_cases a
      · show 1 + 1 * 0 = n.val / 128
        omega
      · show 1 + 1 * (n.val - 128) = n.val % 128 + 1
        omega
  rw [e]

/-- A tile's rows by step and sublane. -/
theorem pay416_apply (a : BitVec 32) (w : S2048x2560.Idx → Elt Ideal .bf16) (y : S256x2560.Idx → Elt Ideal .bf16) (j : Fin 256) (s : Fin 8) (n : Fin 256) :
    k0_pay416 (F := Ideal) a w y (ix3 j s n) = k0_pay414 (F := Ideal) a w y (ix2 ⟨j * 8 + s, by omega⟩ n) := by
  pointwise [k0_pay416]

/-- The new maximum, -/
theorem pay417_apply (L : S256x8x256.Idx → Elt Ideal .f32) (m : S8x256.Idx → Elt Ideal .f32) (s : Fin 8) (n : Fin 256) :
    k0_pay417 (F := Ideal) L m (ix2 s n)
      = max (m (ix2 s n)) (Finset.fold max (⊥ : EReal) (fun j : Fin 256 => L (ix3 j s n)) Finset.univ) := by
  pointwise [k0_pay417]
  rw [ofBits_negInf]

/-- as it is stored, -/
theorem pay419_apply (L : S256x8x256.Idx → Elt Ideal .f32) (m : S8x256.Idx → Elt Ideal .f32) (s : Fin 8) (n : Fin 256) :
    k0_pay419 (F := Ideal) L m (ix2 s n) = k0_pay417 (F := Ideal) L m (ix2 s n) := by
  pointwise [k0_pay419]

/-- the new sum, -/
theorem pay418_apply (L : S256x8x256.Idx → Elt Ideal .f32) (m l : S8x256.Idx → Elt Ideal .f32) (s : Fin 8) (n : Fin 256) :
    k0_pay418 (F := Ideal) L m l (ix2 s n)
      = l (ix2 s n) * Ideal.exp (m (ix2 s n) - k0_pay417 (F := Ideal) L m (ix2 s n))
        + ∑ j : Fin 256, Ideal.exp (L (ix3 j s n) - k0_pay417 (F := Ideal) L m (ix2 s n)) := by
  pointwise [k0_pay418]

/-- and the new picked logit. -/
theorem pay1_apply (p : S8x256.Idx → Elt Ideal .f32) (H : S2048x256.Idx → Elt Ideal .f32) (s : Fin 8) (n : Fin 256) :
    k0_pay1 (F := Ideal) p (k0_pay420 H) (ix2 s n) = p (ix2 s n) + ∑ j : Fin 256, H (ix2 ⟨j * 8 + s, by omega⟩ n) := by
  pointwise [k0_pay1, k0_pay420]

/-- The loss from the running contents. -/
theorem pay2_apply (m l p : S8x256.Idx → Elt Ideal .f32) (n : Fin 256) :
    k0_pay2 (F := Ideal) m l p (ix2 0 n)
      = Finset.fold max (⊥ : EReal) (fun s : Fin 8 => m (ix2 s n)) Finset.univ
        + Ideal.log (∑ s : Fin 8, l (ix2 s n)
            * Ideal.exp (m (ix2 s n) - Finset.fold max (⊥ : EReal) (fun s : Fin 8 => m (ix2 s n)) Finset.univ))
        - ∑ s : Fin 8, p (ix2 s n) - Ideal.ofBits .f32 0x413EE641#32 := by
  pointwise [k0_pay2]
  rw [ofBits_negInf]

/-- Where a result's element comes from. -/
theorem lossOf_apply (m l p : S8x256.Idx → Elt Ideal .f32) (b : Fin 2) (n : Fin 128) :
    lossOf (F := Ideal) m l p (ix2 b n) = k0_pay2 (F := Ideal) m l p (ix2 0 ⟨128 * b + n, by omega⟩) := by
  unfold lossOf
  pointwise [k0_pay3, k0_pay4]
  fin_cases b <;> simp

/-- The initial contents. -/
theorem pay5_apply (x : S8x256.Idx) : k0_pay5 (F := Ideal) x = (⊥ : EReal) := by
  pointwise [k0_pay5]
  rw [ofBits_negInf]
theorem pay6_apply (x : S8x256.Idx) : k0_pay6 (F := Ideal) x = (0 : EReal) := by pointwise [k0_pay6]
theorem pay7_apply (x : S8x256.Idx) : k0_pay7 (F := Ideal) x = (0 : EReal) := by pointwise [k0_pay7]

end Cert.KernelIdeal.Head

end
-- ==== Proof.KernelIdeal.Point.lean ====
/- One grid point of the head kernel: the whole body as a triple at the point's staging buffers, and the proof data of the
   pipeline over any invariant of the running contents. -/
module

public import proofs.«01_k».proof.Proof.KernelIdeal.Body
public import proofs.«01_k».proof.Proof.Gen.KernelIdeal.Frame

@[expose] public section

set_option maxRecDepth 16384

noncomputable section

namespace Cert.KernelIdeal.Head

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)
open Cert.KernelIdeal Cert.KernelIdeal.Gen

variable {F : FTy → Type} [FloatOps F]

local notation "𝕄" => MT nD τ sig Unit (Elt F) ℕ (UR sig nD τ) ℕ

/-! ## Which points are first and last -/

/-- A point's coordinate is its number. -/
theorem coords_val : ∀ t : Fin grid0.N, (grid0.coords t 0).val = t.val := by decide +kernel

theorem condFirst_iff (t : Fin grid0.N) : condFirst (grid0.coords t) = 1#1 ↔ t.val = 0 := by
  have h : ∀ n : Fin 75, (Scalar.cmpi .ne (Scalar.extui (Scalar.cmpi .eq (BitVec.ofNat 32 n.val) 0#32) : BitVec 32) 0#32
      = 1#1) ↔ n.val = 0 := by decide +kernel
  unfold condFirst; rw [coords_val]; exact h ⟨t.val, N_0 ▸ t.isLt⟩

theorem condLast_iff : ∀ t : Fin grid0.N, k0_cond2 (grid0.coords t) = 1#1 ↔ t.val = 74 := by decide +kernel

/-! ## The running contents point by point -/

/-- The three running contents. -/
structure State (F : FTy → Type) where
  /-- the maximum, -/
  m : S8x256.Idx → Elt F .f32
  /-- the sum, -/
  l : S8x256.Idx → Elt F .f32
  /-- the picked logit. -/
  p : S8x256.Idx → Elt F .f32

/-- What the first point initializes them to. -/
def State.init : State F := ⟨k0_pay5 (F := F), k0_pay6 (F := F), k0_pay7 (F := F)⟩

/-- What a point leaves of them. -/
def State.next (i : grid0.Coords) (ids : S2x129.Idx → Elt F .i32) (y : S256x2560.Idx → Elt F .bf16)
    (S : S16x20.Idx → Elt F .f32) (C : S2048x2560.Idx → Elt F .fp8e4m3) (s : State F) : State F :=
  ⟨newM i (tile S C) y s.m, newL i (tile S C) y s.m s.l, newP i ids (tile S C) y s.p⟩

/-- The loss of running contents. -/
def State.loss (s : State F) : S2x128.Idx → Elt F .f32 := lossOf s.m s.l s.p

/-- What point `t` starts from: the initial contents at the first point, what it found at the others. -/
def State.start (t : Fin grid0.N) (s : State F) : State F := if t.val = 0 then State.init else s

/-- The scratch buffers: the tile's at any contents, the running ones at `s`. -/
def scratch (c : Dev nD) (s : State F) : sProp 𝕄 :=
  iprop((∃ X, owns (c : Thread nD τ) (Memref.whole cc0_scratch0) fullShare X)
    ∗ running c (Memref.whole cc0_scratch1) (Memref.whole cc0_scratch2) (Memref.whole cc0_scratch3) s.m s.l s.p)

/-- The staging buffers of a point at given contents. -/
def staged (c : Dev nD) (t : Fin cfg0.N) (ids : S2x129.Idx → Elt F .i32) (y : S256x2560.Idx → Elt F .bf16)
    (C : S2048x2560.Idx → Elt F .fp8e4m3) (S : S16x20.Idx → Elt F .f32) (X : S2x128.Idx → Elt F .f32) : sProp 𝕄 :=
  iprop(owns (c : Thread nD τ) (st0_0 t) fullShare ids ∗ owns (c : Thread nD τ) (st0_1 t) fullShare y
    ∗ owns (c : Thread nD τ) (st0_2 t) fullShare C ∗ owns (c : Thread nD τ) (st0_3 t) fullShare S
    ∗ owns (c : Thread nD τ) (st0_4 t) fullShare X)

/-- A point's body before the results: from the staging buffers and the running contents, it goes on to `results` with the
    running contents updated. -/
theorem wp_start (c : Dev nD) (t : Fin cfg0.N) (ids : S2x129.Idx → Elt F .i32) (y : S256x2560.Idx → Elt F .bf16)
    (C : S2048x2560.Idx → Elt F .fp8e4m3) (S : S16x20.Idx → Elt F .f32) (X : S2x128.Idx → Elt F .f32) (s : State F)
    (K : PUnit → sProp 𝕄) :
    iprop(staged c t ids y C S X ∗ scratch c s
      ∗ (iprop(staged c t ids y C S X ∗ scratch c ((s.start t).next (grid0.coords t) ids y S C))
          -∗ wp frame (wpE (defs₀ (F := F)) Variants.none c none) Set.univ
              (results (grid0.coords t) (st0_4 t) (Memref.whole cc0_scratch1) (Memref.whole cc0_scratch2) (Memref.whole cc0_scratch3)) K))
      ⊢ wp frame (wpE (defs₀ (F := F)) Variants.none c none) Set.univ (bodyAt0 (F := F) t) K := by
  unfold staged scratch
  iintro ⟨⟨H1, H2, H3, H4, H5⟩, ⟨H6, H7⟩, Hk⟩
  by_cases h : t.val = 0
  · have hs : s.start t = State.init := if_pos h
    rw [hs]
    unfold bodyAt0
    rw [body_first (h := (condFirst_iff t).mpr h)]
    iapply (wp_first c Set.univ (grid0.coords t) (Memref.isWhole_whole _) s.m s.l s.p K)
    isplitl [H7]; · iexact H7
    iintro H7
    iapply (wp_rest c Set.univ (grid0.coords t) (Memref.isWhole_whole _) ids y C S _ _ _ K)
    unfold held
    isplitl [H1 H2 H3 H4 H6]
    · isplitl [H1]; · iexact H1
      isplitl [H2]; · iexact H2
      isplitl [H3]; · iexact H3
      isplitl [H4]; · iexact H4
      iexact H6
    isplitl [H7]; · iexact H7
    iintro ⟨⟨H1, H2, H3, H4, H6⟩, H7⟩
    iapply Hk
    isplitl [H1 H2 H3 H4 H5]
    · isplitl [H1]; · iexact H1
      isplitl [H2]; · iexact H2
      isplitl [H3]; · iexact H3
      isplitl [H4]; · iexact H4
      iexact H5
    isplitl [H6]; · iexact H6
    iexact H7
  · have hs : s.start t = s := if_neg h
    rw [hs]
    unfold bodyAt0
    rw [body_later (h := fun hc => h ((condFirst_iff t).mp hc))]
    iapply (wp_rest c Set.univ (grid0.coords t) (Memref.isWhole_whole _) ids y C S _ _ _ K)
    unfold held
    isplitl [H1 H2 H3 H4 H6]
    · isplitl [H1]; · iexact H1
      isplitl [H2]; · iexact H2
      isplitl [H3]; · iexact H3
      isplitl [H4]; · iexact H4
      iexact H6
    isplitl [H7]; · iexact H7
    iintro ⟨⟨H1, H2, H3, H4, H6⟩, H7⟩
    iapply Hk
    isplitl [H1 H2 H3 H4 H5]
    · isplitl [H1]; · iexact H1
      isplitl [H2]; · iexact H2
      isplitl [H3]; · iexact H3
      isplitl [H4]; · iexact H4
      iexact H5
    isplitl [H6]; · iexact H6
    iexact H7

/-- What a point leaves in the result's staging buffer: the loss at the last one, what it found at the others. -/
def leftOut (t : Fin grid0.N) (s : State F) (X : S2x128.Idx → Elt F .f32) : S2x128.Idx → Elt F .f32 :=
  if t.val = 74 then s.loss else X

/-- A point's body: the inputs' staging buffers stay, the running contents are updated, the result is stored at the last
    point. -/
theorem wp_point (c : Dev nD) (t : Fin cfg0.N) (ids : S2x129.Idx → Elt F .i32) (y : S256x2560.Idx → Elt F .bf16)
    (C : S2048x2560.Idx → Elt F .fp8e4m3) (S : S16x20.Idx → Elt F .f32) (X : S2x128.Idx → Elt F .f32) (s : State F)
    (K : PUnit → sProp 𝕄) :
    iprop(staged c t ids y C S X ∗ scratch c s
      ∗ (iprop(staged c t ids y C S (leftOut t ((s.start t).next (grid0.coords t) ids y S C) X)
            ∗ scratch c ((s.start t).next (grid0.coords t) ids y S C)) -∗ K ⟨⟩))
      ⊢ wp frame (wpE (defs₀ (F := F)) Variants.none c none) Set.univ (bodyAt0 (F := F) t) K := by
  iintro ⟨H1, H2, Hk⟩
  iapply (wp_start c t ids y C S X s K)
  isplitl [H1]; · iexact H1
  isplitl [H2]; · iexact H2
  generalize (s.start t).next (grid0.coords t) ids y S C = s'
  iintro ⟨H1, H2⟩
  by_cases h : t.val = 74
  · rw [show leftOut t s' X = s'.loss from if_pos h]
    unfold staged scratch running
    icases H1 with ⟨H1, H3, H4, H5, H6⟩
    icases H2 with ⟨H2, H7, H8, H9⟩
    iapply (wp_results_last c Set.univ (grid0.coords t) s'.m s'.l s'.p K ((condLast_iff t).mpr h) X)
    isplitl [H6]; · iexact H6
    isplitl [H7]; · iexact H7
    isplitl [H8]; · iexact H8
    isplitl [H9]; · iexact H9
    iintro ⟨H6, H7, H8, H9⟩
    iapply Hk
    isplitl [H1 H3 H4 H5 H6]
    · isplitl [H1]; · iexact H1
      isplitl [H3]; · iexact H3
      isplitl [H4]; · iexact H4
      isplitl [H5]; · iexact H5
      iexact H6
    isplitl [H2]; · iexact H2
    isplitl [H7]; · iexact H7
    isplitl [H8]; · iexact H8
    iexact H9
  · rw [show leftOut t s' X = X from if_neg h]
    iapply (wp_results_other c Set.univ (grid0.coords t) K (fun hc => h ((condLast_iff t).mp hc)))
    iapply Hk
    isplitl [H1]; · iexact H1
    iexact H2

/-! ## The proof data -/

variable (m : (ℓ : Loc nD τ sig) → Buf (Elt F) ℓ) (ρ : Dev nD → PrngReg)

/-- The weight window's staging buffer after point `t`'s fetch over contents `d`: the block, and `d` past the array's end. -/
def codesAt (c : Dev nD) (t : Fin cfg0.N) (d : S2048x2560.Idx → Elt F .fp8e4m3) : S2048x2560.Idx → Elt F .fp8e4m3 :=
  win0_2.fill (grid0.coords t) d (iblk m c 2 t)
/-- The scale window's likewise. -/
def scalesAt (c : Dev nD) (t : Fin cfg0.N) (d : S16x20.Idx → Elt F .f32) : S16x20.Idx → Elt F .f32 :=
  win0_3.fill (grid0.coords t) d (iblk m c 3 t)

/-- The invariant of the running contents before point `t`, `R` what is known of them. -/
def inv (R : Nat → State F → Prop) (c : Dev nD) (n : Nat) : sProp 𝕄 :=
  iprop((∃ s, ⌜R n s⌝ ∗ scratch c s) ∗ ∃ r, prngReg c r)

/-- The proof data: the inputs' staging buffers at their blocks, the result's at `out` after the last point, the running
    contents at what `R` says. -/
def dats (R : Dev nD → Nat → State F → Prop) (out : Dev nD → S2x128.Idx → Elt F .f32) (_ : Fin 1) (c : Dev nD) :
    Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => codesAt m c t (fun _ => Scalar.ofBits .fp8e4m3 0#8)
    | ⟨3, _⟩ => scalesAt m c t (fun _ => Scalar.ofBits .f32 0#32)
    | ⟨4, _⟩ => out c
  Φ t := inv (R c) c t.val
  q _ := fullShare
  owed _ := 0

section
variable (R : Dev nD → Nat → State F → Prop) (out : Dev nD → S2x128.Idx → Elt F .f32) (c : Dev nD) (t : Fin cfg0.N)

theorem before_0 (d) : (dats m R out 0 c).before (0 : Fin 5) t d = iblk m c 0 t :=
  before0_0_of m (dats m R out 0 c) rfl (fun _ => rfl) t d
theorem before_1 (d) : (dats m R out 0 c).before (1 : Fin 5) t d = iblk m c 1 t :=
  before0_1_of m (dats m R out 0 c) rfl (fun _ => rfl) t d
theorem before_2 (d) : (dats m R out 0 c).before (2 : Fin 5) t d = codesAt m c t d := by
  unfold Dat.before; rw [if_pos (fetch0_2 t)]; rfl
theorem before_3 (d) : (dats m R out 0 c).before (3 : Fin 5) t d = scalesAt m c t d := by
  unfold Dat.before; rw [if_pos (fetch0_3 t)]; rfl
end

/-- The body's entry in the table at a point is the kernel's body there. -/
theorem defs₀_row (t : Fin cfg0.N) : defs₀ (F := F) .tc cfg0.body (cfg0.bodyArgs t (cfg0.slots t)) = bodyAt0 (F := F) t := by
  unfold defs₀; rw [Defs.onTc_tc]

/-- The windows a run that says nothing of the result forgets: the result's. -/
abbrev onlyResult : Fin 5 → Bool := fun | 0 => false | 1 => false | 2 => false | 3 => false | 4 => true | ⟨_ + 5, h⟩ => absurd h (Nat.not_lt.2 (Nat.le_add_left _ _))

/-- The body obligation with nothing said of the result. -/
theorem body_forget (R : Dev nD → Nat → State F → Prop) (out : Dev nD → S2x128.Idx → Elt F .f32)
    (hR : ∀ c (t : Fin cfg0.N) dC dS s, R c t.val s → R c (t.val + 1) ((s.start t).next (grid0.coords t) (iblk m c 0 t) (iblk m c 1 t)
      (scalesAt m c t dS) (codesAt m c t dC))) (c : Dev nD) :
    BodyObligationLoose (dats m R out 0 c) (defs₀ (F := F)) Variants.none () Set.univ onlyResult := fun t => by
  rw [bigSep_W0, bigSep_W0, defs₀_row]
  rw [show (dats m R out 0 c).Φ t.succ = inv (R c) c (t.val + 1) from rfl,
    show (dats m R out 0 c).Φ t.castSucc = inv (R c) c t.val from rfl,
    show (dats m R out 0 c).owesAt () t.succ = (dats m R out 0 c).owesAt () t.castSucc from rfl]
  unfold inv
  simp only
  iintro ⟨⟨⟨%s, %hs, Hs⟩, Hp⟩, Ho, ⟨%d0, H0⟩, ⟨%d1, H1⟩, ⟨%d2, H2⟩, ⟨%d3, H3⟩, ⟨%X, H4⟩⟩
  rw [before_0 m R out c t d0, before_1 m R out c t d1, before_2 m R out c t d2, before_3 m R out c t d3]
  iapply (wp_point c t (iblk m c 0 t) (iblk m c 1 t) (codesAt m c t d2) (scalesAt m c t d3) X s)
  unfold staged
  isplitl [H0 H1 H2 H3 H4]
  · isplitl [H0]; · iexact H0
    isplitl [H1]; · iexact H1
    isplitl [H2]; · iexact H2
    isplitl [H3]; · iexact H3
    iexact H4
  isplitl [Hs]; · iexact Hs
  iintro ⟨⟨H0, H1, H2, H3, H4⟩, Hs⟩
  isplitl [Hs Hp]
  · isplitl [Hs]
    · iexists _
      isplitr; · ipureintro; exact hR c t d2 d3 s hs
      iexact Hs
    iexact Hp
  isplitl [Ho]; · iexact Ho
  isplitl [H0]; · iexact H0
  isplitl [H1]; · iexact H1
  isplitl [H2]
  · iexists d2
    change _ ⊢ owns (c : Thread nD τ) (st0_2 t) fullShare (win0_2.fill (grid0.coords t) d2 (win0_2.cut (grid0.coords t) (codesAt m c t _)))
    unfold codesAt
    rw [Pipeline.Window.cut_fill]; try iexact H2
  isplitl [H3]
  · iexists d3
    change _ ⊢ owns (c : Thread nD τ) (st0_3 t) fullShare (win0_3.fill (grid0.coords t) d3 (win0_3.cut (grid0.coords t) (scalesAt m c t _)))
    unfold scalesAt
    rw [Pipeline.Window.cut_fill]; try iexact H3
  iexists _; iexact H4

/-- The body obligation with the result's staging buffer named after the last point. -/
theorem body_exact (R : Dev nD → Nat → State F → Prop) (out : Dev nD → S2x128.Idx → Elt F .f32)
    (hR : ∀ c (t : Fin cfg0.N) dC dS s, R c t.val s → R c (t.val + 1) ((s.start t).next (grid0.coords t) (iblk m c 0 t) (iblk m c 1 t)
      (scalesAt m c t dS) (codesAt m c t dC)))
    (hout : ∀ c s, R c 75 s → s.loss = out c) (c : Dev nD) :
    BodyObligationLoose (dats m R out 0 c) (defs₀ (F := F)) Variants.none () Set.univ := fun t => by
  rw [bigSep_W0, bigSep_W0, defs₀_row]
  rw [show (dats m R out 0 c).Φ t.succ = inv (R c) c (t.val + 1) from rfl,
    show (dats m R out 0 c).Φ t.castSucc = inv (R c) c t.val from rfl,
    show (dats m R out 0 c).owesAt () t.succ = (dats m R out 0 c).owesAt () t.castSucc from rfl]
  unfold inv
  simp only
  have hidle : idle0 4 (grid0.coords t) = !decide (t.val = 74) := by
    show (!(k0_cond2 (grid0.coords t) == 1#1)) = _
    by_cases h : t.val = 74
    · rw [(condLast_iff t).mpr h]; simp [h]
    · have := fun hc => h ((condLast_iff t).mp hc)
      simp [h]; exact this
  iintro ⟨⟨⟨%s, %hs, Hs⟩, Hp⟩, Ho, ⟨%d0, H0⟩, ⟨%d1, H1⟩, ⟨%d2, H2⟩, ⟨%d3, H3⟩, ⟨%d4, H4⟩⟩
  rw [before_0 m R out c t d0, before_1 m R out c t d1, before_2 m R out c t d2, before_3 m R out c t d3]
  iapply (wp_point c t (iblk m c 0 t) (iblk m c 1 t) (codesAt m c t d2) (scalesAt m c t d3) ((dats m R out 0 c).before (4 : Fin 5) t d4) s)
  unfold staged
  isplitl [H0 H1 H2 H3 H4]
  · isplitl [H0]; · iexact H0
    isplitl [H1]; · iexact H1
    isplitl [H2]; · iexact H2
    isplitl [H3]; · iexact H3
    iexact H4
  isplitl [Hs]; · iexact Hs
  iintro ⟨⟨H0, H1, H2, H3, H4⟩, Hs⟩
  have hnext := hR c t d2 d3 s hs
  isplitl [Hs Hp]
  · isplitl [Hs]
    · iexists _
      isplitr; · ipureintro; exact hnext
      iexact Hs
    iexact Hp
  isplitl [Ho]; · iexact Ho
  isplitl [H0]; · iexact H0
  isplitl [H1]; · iexact H1
  isplitl [H2]
  · iexists d2
    change _ ⊢ owns (c : Thread nD τ) (st0_2 t) fullShare (win0_2.fill (grid0.coords t) d2 (win0_2.cut (grid0.coords t) (codesAt m c t _)))
    unfold codesAt
    rw [Pipeline.Window.cut_fill]; try iexact H2
  isplitl [H3]
  · iexists d3
    change _ ⊢ owns (c : Thread nD τ) (st0_3 t) fullShare (win0_3.fill (grid0.coords t) d3 (win0_3.cut (grid0.coords t) (scalesAt m c t _)))
    unfold scalesAt
    rw [Pipeline.Window.cut_fill]; try iexact H3
  by_cases h : t.val = 74
  · rw [show leftOut t ((s.start t).next (grid0.coords t) (iblk m c 0 t) (iblk m c 1 t) (scalesAt m c t d3) (codesAt m c t d2))
        ((dats m R out 0 c).before (4 : Fin 5) t d4) = out c from
      (if_pos h).trans (hout c _ (by rw [h] at hnext; exact hnext))]
    rw [show idle0 4 (grid0.coords t) = false from hidle.trans (by rw [h]; rfl)]
    iexact H4
  · rw [show leftOut t ((s.start t).next (grid0.coords t) (iblk m c 0 t) (iblk m c 1 t) (scalesAt m c t d3) (codesAt m c t d2))
        ((dats m R out 0 c).before (4 : Fin 5) t d4) = (dats m R out 0 c).before (4 : Fin 5) t d4 from if_neg h]
    rw [show idle0 4 (grid0.coords t) = true from hidle.trans (by simp [h])]
    rw [show (win0 4).flush t = false from Bool.eq_false_iff.mpr (fun hf => h (by
      have := (flush0_4 t).mp hf; have : t.val < 75 := N_0 ▸ t.isLt; omega))]
    iexists d4; iexact H4

/-! ## The runs -/

theorem run_in (R : Dev nD → Nat → State F → Prop) (h0 : ∀ c s, R c 0 s) (c : Dev nD) :
    Pipeline.ΦA (U := UR sig nD τ) (Val := Elt F) spec0 c ⊢ inv (R c) c 0 := by
  unfold Pipeline.ΦA inv scratch running
  rw [scopedRest0_eq]
  simp only [owns_whole]
  iintro ⟨⟨⟨%X, H6⟩, ⟨%a, H7⟩, ⟨%b, H8⟩, ⟨%d, H9⟩⟩, Hp⟩
  isplitr [Hp]
  · iexists (State.mk a b d)
    isplitr; · ipureintro; exact h0 c _
    isplitl [H6]; · iexists X; iexact H6
    isplitl [H7]; · iexact H7
    isplitl [H8]; · iexact H8
    iexact H9
  · iexact Hp

theorem run_out (R : Dev nD → Nat → State F → Prop) (c : Dev nD) (n : Nat) :
    inv (R c) c n ⊢ Pipeline.ΦA (U := UR sig nD τ) (Val := Elt F) spec0 c := by
  unfold Pipeline.ΦA inv scratch running
  rw [scopedRest0_eq]
  simp only [owns_whole]
  iintro ⟨⟨%s, -, ⟨%X, H6⟩, H7, H8, H9⟩, Hp⟩
  isplitr [Hp]
  · isplitl [H6]; · iexists X; iexact H6
    isplitl [H7]; · iexists _; iexact H7
    isplitl [H8]; · iexists _; iexact H8
    iexists _; iexact H9
  · iexact Hp

set_option backward.isDefEq.respectTransparency.types false in
/-- The run saying nothing of the result: the argument arrays end unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_track_forget cfgs (dats m (fun _ _ _ => True) (fun _ _ => Scalar.ofBits .f32 0#32)) (0 : Fin 1) launch0 defs₀ Variants.none
    onlyResult m ρ main
    (hbody := body_forget m (fun _ _ _ => True) (fun _ _ => Scalar.ofBits .f32 0#32) (fun _ _ _ _ _ _ => trivial))
    (hshare := fun c => (dats m (fun _ _ _ => True) (fun _ _ => Scalar.ofBits .f32 0#32) 0 c).share_full fun _ => rfl)
    (howed := fun _ _ => rfl) (V := V m) (hmain := hmain m Variants.none) (hA := fun _ _ => rfl)
    (hin := fun c => run_in (fun _ _ _ => True) (fun _ _ => trivial) c)
    (hout := fun c => run_out (fun _ _ _ => True) c grid0.N)
    (Q' := _)
    (hQ' := fun r h => ⟨fun c =>
      ⟨by have := (h.1 c).1 0; rw [Pipeline.RDat.ArrAt_in _ 0 rfl] at this; exact this,
       by have := (h.1 c).1 1; rw [Pipeline.RDat.ArrAt_in _ 1 rfl] at this; exact this,
       by have := (h.1 c).1 2; rw [Pipeline.RDat.ArrAt_in _ 2 rfl] at this; exact this,
       by have := (h.1 c).1 3; rw [Pipeline.RDat.ArrAt_in _ 3 rfl] at this; exact this⟩, h.2⟩)

/-- The result array after the last write-back: the loss. -/
theorem final_out (R : Dev nD → Nat → State F → Prop) (out : Dev nD → S2x128.Idx → Elt F .f32) (c : Dev nD) :
    (dats m R out 0 c).arrAt (4 : Fin 5) cfg0.N = out c := by
  have hlt : 74 < cfg0.N := by show 74 < grid0.N; rw [N_0]; decide
  have hw : ((cfg0.win 4).blk ⟨74, hlt⟩).view.read (Elt F) ((dats m R out 0 c).arrAt (4 : Fin 5) cfg0.N) = out c := by
    rw [show cfg0.N = (⟨74, hlt⟩ : Fin cfg0.N).val + 1 from N_0, (dats m R out 0 c).arrAt_succ (4 : Fin 5) ⟨74, hlt⟩,
      if_pos ((flush0_4 _).mpr rfl)]
    exact View.read_write_univ _ _
  have hz : (fun a => (win0_4.index ⟨74, hlt⟩) a * main_v0.ty.shape.size a) = fun _ => 0 :=
    funext fun a => by fin_cases a <;> rfl
  have hr := fun f => Memref.read_access_unit_zero (Elt F) main_v0 hz (fun a => by rw [congrFun hz a]; omega) f
  exact (hr _).symm.trans hw

set_option backward.isDefEq.respectTransparency.types false in
/-- The run naming the result: where every point takes what is known of the running contents to what is known after it,
    the result array ends at the loss of the contents after the last point. -/
theorem run_value (R : Dev nD → Nat → State F → Prop) (out : Dev nD → S2x128.Idx → Elt F .f32) (h0 : ∀ c s, R c 0 s)
    (hR : ∀ c (t : Fin cfg0.N) dC dS s, R c t.val s → R c (t.val + 1) ((s.start t).next (grid0.coords t) (iblk m c 0 t) (iblk m c 1 t)
      (scalesAt m c t dS) (codesAt m c t dC))) (hout : ∀ c s, R c 75 s → s.loss = out c) :
    θ_run defs (onTc (τ := τ) (main (F := F))) ⟨m, fun _ => 0, ρ⟩ (fun r => ∀ c : Dev nD,
      r.2.mem ((c.tc : Thread nD τ).loc main_v0) = out c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_frame_track cfgs (dats m R out) (0 : Fin 1) launch0 defs₀ Variants.none m ρ main
    (hbody := body_exact m R out hR hout)
    (hshare := fun c => (dats m R out 0 c).share_full fun _ => rfl)
    (howed := fun _ _ => rfl) (V := V m) (hmain := hmain m Variants.none) (hA := fun _ _ => rfl)
    (hin := fun c => run_in R h0 c)
    (hout := fun c => run_out R c grid0.N)
    (Q' := _)
    (hQ' := fun r h c =>
      ⟨((h.1 c).1 4).trans (final_out m R out c),
       ((h.1 c).1 0).trans ((dats m R out 0 c).arrAt_in 0 rfl _),
       ((h.1 c).1 1).trans ((dats m R out 0 c).arrAt_in 1 rfl _),
       ((h.1 c).1 2).trans ((dats m R out 0 c).arrAt_in 2 rfl _),
       ((h.1 c).1 3).trans ((dats m R out 0 c).arrAt_in 3 rfl _)⟩)

end Cert.KernelIdeal.Head

end
-- ==== Proof.KernelIdeal.Window.lean ====
/- The head kernel's input windows read at an index: what a point's staging buffers hold of the arrays. -/
module

public import proofs.«01_k».proof.Proof.KernelIdeal.Point
public import Idealize.ShloMosaic.Lib.Pointwise
public import Idealize.ShloMosaic.Lib.Pipeline.ValueKit.Geometry

@[expose] public section

set_option maxRecDepth 16384

noncomputable section

namespace Cert.KernelIdeal.Head

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ) (c : Dev nD)

/-- The rows of the weight window that a point moves. -/
theorem xsize_2 : ∀ t : Fin grid0.N, win0_2.xsize (grid0.coords t) 0 = min 2048 (151936 - 2048 * t.val) ∧ win0_2.xsize (grid0.coords t) 1 = 2560 := by
  decide +kernel
/-- The rows of the scale window that a point moves. -/
theorem xsize_3 : ∀ t : Fin grid0.N, win0_3.xsize (grid0.coords t) 0 = min 16 (1187 - 16 * t.val) ∧ win0_3.xsize (grid0.coords t) 1 = 20 := by
  decide +kernel
/-- Both windows move down one block a point. -/
theorem index_2 : ∀ t : Fin grid0.N, win0_2.index t = ![t.val, 0] := by
  decide +kernel
theorem index_3 : ∀ t : Fin grid0.N, win0_3.index t = ![t.val, 0] := by
  decide +kernel

/-- The weight window at a row of the vocabulary is the array there, whatever the buffer held before. -/
theorem codesAt_apply (t : Fin cfg0.N) (d) (r : Fin 2048) (k : Fin 2560) (h : 2048 * t.val + r.val < 151936) :
    codesAt m c t d (ix2 r k) = m ((c : Thread nD τ).loc main_arg2) (ix2 ⟨2048 * t.val + r.val, h⟩ k) := by
  unfold codesAt Pipeline.Window.fill
  have hm : win0_2.moved (grid0.coords t) (ix2 r k) = true := by
    rw [Pipeline.Window.moved_iff]
    intro a
    fin_cases a
    · refine Nat.lt_of_lt_of_eq ?_ (xsize_2 t).1.symm
      show r.val < _
      omega
    · refine Nat.lt_of_lt_of_eq ?_ (xsize_2 t).2.symm
      exact k.isLt
  rw [dif_pos hm]
  unfold iblk
  refine congrArg (m ((c : Thread nD τ).loc main_arg2)) ?_
  funext a; apply Fin.ext
  have e := index_2 t
  fin_cases a
  · blk_simp [e]
    show t.val * 2048 + r.val = 2048 * t.val + r.val
    omega
  · blk_simp [e]
    rfl

/-- The scale window likewise. -/
theorem scalesAt_apply (t : Fin cfg0.N) (d) (r : Fin 16) (k : Fin 20) (h : 16 * t.val + r.val < 1187) :
    scalesAt m c t d (ix2 r k) = m ((c : Thread nD τ).loc main_arg3) (ix2 ⟨16 * t.val + r.val, h⟩ k) := by
  unfold scalesAt Pipeline.Window.fill
  have hm : win0_3.moved (grid0.coords t) (ix2 r k) = true := by
    rw [Pipeline.Window.moved_iff]
    intro a
    fin_cases a
    · refine Nat.lt_of_lt_of_eq ?_ (xsize_3 t).1.symm
      show r.val < _
      omega
    · refine Nat.lt_of_lt_of_eq ?_ (xsize_3 t).2.symm
      exact k.isLt
  rw [dif_pos hm]
  unfold iblk
  refine congrArg (m ((c : Thread nD τ).loc main_arg3)) ?_
  funext a; apply Fin.ext
  have e := index_3 t
  fin_cases a
  · blk_simp [e]
    show t.val * 16 + r.val = 16 * t.val + r.val
    omega
  · blk_simp [e]
    rfl

/-- The token window is the whole array at every point, -/
theorem iblk_0 (t : Fin cfg0.N) : iblk m c 0 t = m ((c : Thread nD τ).loc main_arg0) := by
  unfold iblk
  funext x
  refine congrArg (m ((c : Thread nD τ).loc main_arg0)) ?_
  funext a; apply Fin.ext
  have e : win0_0.index t = ![0, 0] := rfl
  fin_cases a
  · blk_simp [e]
  · blk_simp [e]

/-- and so is the activations' window. -/
theorem iblk_1 (t : Fin cfg0.N) : iblk m c 1 t = m ((c : Thread nD τ).loc main_arg1) := by
  unfold iblk
  funext x
  refine congrArg (m ((c : Thread nD τ).loc main_arg1)) ?_
  funext a; apply Fin.ext
  have e : win0_1.index t = ![0, 0] := rfl
  fin_cases a
  · blk_simp [e]
  · blk_simp [e]

end Cert.KernelIdeal.Head

end
-- ==== Proof.KernelIdeal.Value.lean ====
/- The head kernel's result at the ideal values: after `t` points the running contents are the maximum, the sum of
   exponentials and the picked logit of each sublane's rows so far, and the last point's loss is the specified one. -/
module

public import proofs.«01_k».proof.Proof.Online
public import proofs.«01_k».proof.Proof.KernelIdeal.Read
public import proofs.«01_k».proof.Proof.KernelIdeal.Window

@[expose] public section

set_option maxRecDepth 16384

noncomputable section

namespace Cert.KernelIdeal.Head

open Idealize.ShloMosaic Idealize.ShloMosaic.TcCoe
open Idealize.SL Idealize.SL.Sem
open Cert.KernelIdeal Cert.KernelIdeal.Gen
open Cert.Online

variable (m : (ℓ : Loc nD τ sig) → Buf (Elt Ideal) ℓ) (ρ : Dev nD → PrngReg) (c : Dev nD)

/-- The argument arrays. -/
abbrev argIds : S2x129.Idx → BitVec 32 := m ((c : Thread nD τ).loc main_arg0)
abbrev argY : S256x2560.Idx → EReal := m ((c : Thread nD τ).loc main_arg1)
abbrev argC : S151936x2560.Idx → EReal := m ((c : Thread nD τ).loc main_arg2)
abbrev argS : S1187x20.Idx → EReal := m ((c : Thread nD τ).loc main_arg3)

/-- The masked logits of column `n` as a stream over row numbers. -/
def masked (n : Fin 256) (r : ℕ) : EReal :=
  if h : r < 151936 then Cert.Loss.logit (argY m c) (argC m c) (argS m c) n ⟨r, h⟩ else ⊥

/-- The masked logit at the target's row, zero at the others. -/
def hit (n : Fin 256) (r : ℕ) : EReal :=
  if BitVec.ofNat 32 r = Cert.Loss.target (argIds m c) n then masked m c n r else 0

/-! ## Row numbers as words -/

/-- A row's number in the kernel is that word. -/
theorem rowWord (t r : ℕ) : IntOp.addi (Scalar.muli (BitVec.ofNat 32 t) 2048#32) (BitVec.ofNat 32 r) = BitVec.ofNat 32 (2048 * t + r) := by
  show BitVec.ofNat 32 t * 2048#32 + BitVec.ofNat 32 r = _
  rw [← BitVec.ofNat_mul, ← BitVec.ofNat_add, Nat.mul_comm]

/-- The signed comparison with the vocabulary's size. -/
theorem slt_vocab {k : ℕ} (hk : k < 2 ^ 31) : IntOp.cmpi .slt (BitVec.ofNat 32 k) 151936#32 = if k < 151936 then 1#1 else 0#1 := by
  have e : (BitVec.ofNat 32 k).toInt = (k : ℤ) := by
    rw [BitVec.toInt_eq_toNat_of_lt (by rw [BitVec.toNat_ofNat]; omega), BitVec.toNat_ofNat]
    omega
  have e' : (151936#32 : BitVec 32).toInt = 151936 := by decide
  show BitVec.ofBool ((BitVec.ofNat 32 k).slt 151936#32) = _
  rw [BitVec.slt_eq_decide, e, e']
  by_cases h : k < 151936
  · rw [if_pos h, decide_eq_true (by omega)]; rfl
  · rw [if_neg h, decide_eq_false (by omega)]; rfl

theorem eq_word (a b : BitVec 32) : IntOp.cmpi .eq a b = if a = b then 1#1 else 0#1 := by
  show BitVec.ofBool (a == b) = _
  by_cases h : a = b
  · subst h; simp
  · rw [if_neg h, beq_eq_false_iff_ne.mpr h]; rfl

/-! ## One point's logits -/

section Point

variable (t : Fin cfg0.N) (dS : S16x20.Idx → Elt Ideal .f32) (dC : S2048x2560.Idx → Elt Ideal .fp8e4m3)

/-- The dequantized tile of a point. -/
abbrev tileAt : S2048x2560.Idx → Elt Ideal .bf16 := tile (F := Ideal) (scalesAt m c t dS) (codesAt m c t dC)

theorem t_lt : t.val < 75 := N_0 ▸ t.isLt

/-- At a row of the vocabulary it is the dequantized head, whatever the buffers held past the arrays' ends. -/
theorem tileAt_apply (r : Fin 2048) (k : Fin 2560) (h : 2048 * t.val + r.val < 151936) :
    tileAt m c t dS dC (ix2 r k) = Cert.Loss.weight (argC m c) (argS m c) ⟨2048 * t.val + r.val, h⟩ k := by
  unfold tileAt
  rw [tile_apply, codesAt_apply m c t dC r k h,
    scalesAt_apply m c t dS ⟨r / 128, by omega⟩ ⟨k / 128, by omega⟩ (by show 16 * t.val + r.val / 128 < 1187; omega)]
  unfold Cert.Loss.weight
  congr 2
  congr 1
  apply Fin.ext
  show 16 * t.val + r.val / 128 = (2048 * t.val + r.val) / 128
  omega

/-- The point's masked logits are its stretch of the stream. -/
theorem logits_apply (r : Fin 2048) (n : Fin 256) :
    k0_pay414 (F := Ideal) (BitVec.ofNat 32 (grid0.coords t 0).val) (tileAt m c t dS dC) (argY m c) (ix2 r n)
      = masked m c n (2048 * t.val + r.val) := by
  have ht := t_lt t
  have hr := r.isLt
  rw [pay414_apply, coords_val, rowWord, slt_vocab (by omega)]
  unfold masked
  by_cases h : 2048 * t.val + r.val < 151936
  · rw [if_pos h, dif_pos h, ValueIdx.select_one]
    unfold Cert.Loss.logit
    refine Finset.sum_congr rfl fun k _ => ?_
    rw [tileAt_apply m c t dS dC r k h]
  · rw [if_neg h, dif_neg h, ValueIdx.select_zero]

/-- The point's picked logits likewise. -/
theorem hits_apply (r : Fin 2048) (n : Fin 256) :
    k0_pay415 (F := Ideal) (BitVec.ofNat 32 (grid0.coords t 0).val) (tileAt m c t dS dC) (argY m c)
      (row0 (argIds m c)) (row1 (argIds m c)) (ix2 r n) = hit m c n (2048 * t.val + r.val) := by
  rw [pay415_apply, logits_apply, coords_val, rowWord, eq_word]
  unfold hit
  by_cases h : BitVec.ofNat 32 (2048 * t.val + r.val) = Cert.Loss.target (argIds m c) n
  · rw [if_pos h, if_pos h, ValueIdx.select_one]
  · rw [if_neg h, if_neg h, ValueIdx.select_zero]

end Point

/-! ## The running contents -/

/-- The running contents after `t` points, in closed form. -/
def Running (t : ℕ) (s : State Ideal) : Prop := ∀ (b : Fin 8) (n : Fin 256),
  s.m (ix2 b n) = (rows t b).sup (masked m c n)
  ∧ s.l (ix2 b n) = expSum (masked m c n) (rows t b) ((rows t b).sup (masked m c n))
  ∧ s.p (ix2 b n) = ∑ r ∈ rows t b, hit m c n r

/-- The initial contents are those after no point. -/
theorem running_init : Running m c 0 (State.init (F := Ideal)) := fun b n =>
  ⟨pay5_apply (ix2 b n), pay6_apply (ix2 b n), pay7_apply (ix2 b n)⟩

/-- A point takes the contents after `t` points to those after `t + 1`. -/
theorem running_next (t : Fin cfg0.N) (dS dC) (s : State Ideal) (h : Running m c t.val s) :
    Running m c (t.val + 1) (s.next (grid0.coords t) (iblk m c 0 t) (iblk m c 1 t) (scalesAt m c t dS) (codesAt m c t dC)) := by
  intro b n
  obtain ⟨hm, hl, hp⟩ := h b n
  have hb : b.val < 8 := b.isLt
  rw [iblk_0, iblk_1]
  have hL : ∀ j : Fin 256, k0_pay416 (F := Ideal) (BitVec.ofNat 32 (grid0.coords t 0).val) (tileAt m c t dS dC) (argY m c) (ix3 j b n)
      = masked m c n (2048 * t.val + (j.val * 8 + b.val)) := fun j => by
    rw [pay416_apply, logits_apply]
  have hM : k0_pay417 (F := Ideal) (k0_pay416 (BitVec.ofNat 32 (grid0.coords t 0).val) (tileAt m c t dS dC) (argY m c)) s.m (ix2 b n)
      = max ((rows t.val b).sup (masked m c n)) ((piece t.val b).sup (masked m c n)) := by
    rw [pay417_apply, hm, sup_piece]
    simp only [hL]
  have hE : ∀ k : EReal, ∑ j : Fin 256, Ideal.exp (k0_pay416 (F := Ideal) (BitVec.ofNat 32 (grid0.coords t 0).val) (tileAt m c t dS dC)
      (argY m c) (ix3 j b n) - k) = expSum (masked m c n) (piece t.val b) k := fun k => by
    unfold expSum
    rw [sum_piece]
    exact Finset.sum_congr rfl fun j _ => by rw [hL]
  have hP : ∑ j : Fin 256, k0_pay415 (F := Ideal) (BitVec.ofNat 32 (grid0.coords t 0).val) (tileAt m c t dS dC) (argY m c)
      (row0 (argIds m c)) (row1 (argIds m c)) (ix2 ⟨j * 8 + b, by omega⟩ n) = ∑ r ∈ piece t.val b, hit m c n r := by
    rw [sum_piece]
    exact Finset.sum_congr rfl fun j _ => hits_apply m c t dS dC ⟨j.val * 8 + b.val, by omega⟩ n
  have e1 : newM (F := Ideal) (grid0.coords t) (tileAt m c t dS dC) (argY m c) s.m (ix2 b n)
      = (rows (t.val + 1) b).sup (masked m c n) := by
    unfold newM
    rw [pay419_apply, hM, rows_succ hb, Finset.sup_union]
  have e2 : newL (F := Ideal) (grid0.coords t) (tileAt m c t dS dC) (argY m c) s.m s.l (ix2 b n)
      = expSum (masked m c n) (rows (t.val + 1) b) ((rows (t.val + 1) b).sup (masked m c n)) := by
    unfold newL
    rw [pay418_apply, hM, hm, hl, hE, rows_succ hb, ← expSum_step _ (rows_disjoint hb)]
  have e3 : newP (F := Ideal) (grid0.coords t) (argIds m c) (tileAt m c t dS dC) (argY m c) s.p (ix2 b n)
      = ∑ r ∈ rows (t.val + 1) b, hit m c n r := by
    unfold newP
    rw [pay1_apply, hP, hp, rows_succ hb, Finset.sum_union (rows_disjoint hb)]
  exact ⟨e1, e2, e3⟩

/-! ## The loss -/

theorem masked_ge (n : Fin 256) (r : ℕ) (h : 151936 ≤ r) : masked m c n r = ⊥ := dif_neg (by omega)

theorem masked_val (n : Fin 256) (v : Fin 151936) :
    masked m c n v.val = Cert.Loss.logit (argY m c) (argC m c) (argS m c) n v := dif_pos v.isLt

/-- Over all rows the picked logits add up to the target's logit. -/
theorem sum_hit (h : Cert.Loss.InVocab (argIds m c)) (n : Fin 256) :
    ∑ r ∈ Finset.range (2048 * 75), hit m c n r
      = Cert.Loss.logit (argY m c) (argC m c) (argS m c) n ⟨(Cert.Loss.target (argIds m c) n).toNat, h n⟩ := by
  have hn := h n
  rw [Finset.sum_eq_single (Cert.Loss.target (argIds m c) n).toNat]
  · unfold hit
    rw [if_pos (by rw [BitVec.ofNat_toNat, BitVec.setWidth_eq])]
    exact masked_val m c n ⟨_, hn⟩
  · intro r hr hne
    rw [Finset.mem_range] at hr
    unfold hit
    refine if_neg fun e => hne ?_
    rw [← e, BitVec.toNat_ofNat]
    omega
  · intro hr
    exact absurd (Finset.mem_range.mpr (by omega)) hr

/-- After all 75 points the loss is the specified one. -/
theorem loss_running (h : Cert.Loss.InVocab (argIds m c)) (s : State Ideal) (hs : Running m c 75 s) :
    s.loss = Cert.Loss.result (argIds m c) (argY m c) (argC m c) (argS m c) h := by
  have hpay : ∀ n : Fin 256, k0_pay2 (F := Ideal) s.m s.l s.p (ix2 0 n) = Cert.Loss.loss (argIds m c) (argY m c) (argC m c) (argS m c) h n := by
    intro n
    have hV : 151936 ≤ 2048 * 75 := by decide
    have hX := masked_ge m c n
    have htop : Finset.fold max (⊥ : EReal) (fun b : Fin 8 => s.m (ix2 b n)) Finset.univ
        = Cert.Loss.top (argY m c) (argC m c) (argS m c) n := by
      simp only [fun b : Fin 8 => (hs b n).1]
      rw [sup_rows, sup_masked _ hV hX]
      simp only [masked_val]
      rfl
    rw [pay2_apply, htop]
    have hle : ∀ b : Fin 8, (rows 75 b).sup (masked m c n) ≤ Cert.Loss.top (argY m c) (argC m c) (argS m c) n := by
      intro b
      rw [← htop]
      simp only [fun b : Fin 8 => (hs b n).1]
      rw [sup_rows]
      exact Finset.sup_mono (Finset.filter_subset _ _)
    have hsum : ∑ b : Fin 8, s.l (ix2 b n) * Ideal.exp (s.m (ix2 b n) - Cert.Loss.top (argY m c) (argC m c) (argS m c) n)
        = ∑ v, Ideal.exp (Cert.Loss.logit (argY m c) (argC m c) (argS m c) n v - Cert.Loss.top (argY m c) (argC m c) (argS m c) n) := by
      simp only [fun b : Fin 8 => (hs b n).1, fun b : Fin 8 => (hs b n).2.1]
      rw [expSum_rows _ 75 _ hle, expSum_masked _ hV hX]
      simp only [masked_val]
    have hpick : ∑ b : Fin 8, s.p (ix2 b n)
        = Cert.Loss.logit (argY m c) (argC m c) (argS m c) n ⟨(Cert.Loss.target (argIds m c) n).toNat, h n⟩ := by
      simp only [fun b : Fin 8 => (hs b n).2.2]
      rw [sum_rows, sum_hit m c h n]
    rw [hsum, hpick]
    rfl
  funext x
  obtain ⟨b, n, rfl⟩ : ∃ (b : Fin 2) (n : Fin 128), x = ix2 b n := ⟨x 0, x 1, eq_ix2 x⟩
  show lossOf (F := Ideal) s.m s.l s.p (ix2 b n) = _
  rw [lossOf_apply, hpay]
  rfl

/-- THE KERNEL'S RUN: from a memory whose targets lie in the vocabulary, every run ends with the specified loss in the result
    and the arguments as they were. -/
theorem run_loss (h : ∀ c : Dev nD, Cert.Loss.InVocab (argIds m c)) :
    θ_run defs (onTc (τ := τ) (main (F := Ideal))) ⟨m, fun _ => 0, ρ⟩ (fun r => ∀ c : Dev nD,
      r.2.mem ((c.tc : Thread nD τ).loc main_v0) = Cert.Loss.result (argIds m c) (argY m c) (argC m c) (argS m c) (h c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_value m ρ (fun c t s => t ≠ 0 → Running m c t s)
    (fun c => Cert.Loss.result (argIds m c) (argY m c) (argC m c) (argS m c) (h c))
    (fun c s h0 => absurd rfl h0)
    (fun c t dC dS s hs _ => running_next m c t dS dC _ (by
      unfold State.start
      by_cases ht : t.val = 0
      · rw [if_pos ht, ht]; exact running_init m c
      · rw [if_neg ht]; exact hs ht))
    (fun c s hs => loss_running m c (h c) s (hs (by decide)))

end Cert.KernelIdeal.Head

end
-- ==== Proof.ReferenceIdeal.Read.lean ====
/- The reference's host line as a few named functions of its arguments, each read at an index, over the extended reals. -/
module

public import proofs.«01_k».proof.Proof.Gen.ReferenceIdeal.Frame
public import proofs.«01_k».proof.Proof.Spec
public import Idealize.ShloMosaic.Lib.StableHlo.ReadAt
public import Idealize.ShloMosaic.Lib.StableHlo.RunRead
public import Idealize.ShloMosaic.Lib.Routing.Ops

@[expose] public section

set_option maxRecDepth 16384

noncomputable section

namespace Cert.ReferenceIdeal.Val

open Idealize.ShloMosaic Idealize.ShloMosaic.TcCoe
open Idealize.SL Idealize.SL.Sem
open Cert.ReferenceIdeal Cert.ReferenceIdeal.Gen

/-- The dequantized head. -/
def head (C : S151936x2560.Idx → Elt Ideal .bf16) (S : S1187x20.Idx → Elt Ideal .f32) : S151936x2560.Idx → Elt Ideal .bf16 :=
  shapeCast S151936x2560
    (mulf (F := Ideal) (φ := .bf16) (shapeCast S1187x128x20x128 C shapeCasts_S151936x2560_S1187x128x20x128)
      (broadcastInDim S1187x128x20x128 ![0, 1, 2, 3] bcast_S1187x1x20x1_S1187x128x20x128_0_1_2_3
        (broadcastInDim S1187x1x20x1 ![0, 2] bcast_S1187x20_S1187x1x20x1_0_2 (truncf (F := Ideal) .bf16 S bitsLt_bf16_f32))))
    shapeCasts_S1187x128x20x128_S151936x2560

/-- The logits of every position. -/
def logits (y : S256x2560.Idx → Elt Ideal .bf16) (W : S151936x2560.Idx → Elt Ideal .bf16) : S256x151936.Idx → Elt Ideal .f32 :=
  Host.dotGeneral (F := Ideal) (φ₁ := .bf16) (φ₂ := .bf16) dot_S256x2560_S151936x2560_S256x151936_1_1_0_0_n_n none y W

/-- The greatest logit of every position. -/
def tops (L : S256x151936.Idx → Elt Ideal .f32) : S256.Idx → Elt Ideal .f32 :=
  Host.reduce (FloatOps.maximumf (F := Ideal) (φ := .f32)) L (constant (F := Ideal) S_ .f32 0xFF800000#32) reducesTo_S256x151936_S256_d1 h_S_

/-- The sum of the exponentials of the logits less the greatest. -/
def sums (L : S256x151936.Idx → Elt Ideal .f32) (M : S256.Idx → Elt Ideal .f32) : S256.Idx → Elt Ideal .f32 :=
  Host.reduceAdd (F := Ideal) (φ := .f32) (Host.exp (F := Ideal) (φ := .f32) (subf (F := Ideal) (φ := .f32) L (broadcastInDim S256x151936 ![0, 1] bcast_S256x1_S256x151936_0_1
    (broadcastInDim S256x1 ![0] bcast_S256_S256x1_0 M)))) (constant (F := Ideal) S_ .f32 0x00000000#32) reducesTo_S256x151936_S256_d1 h_S_

/-- The targets, flattened. -/
def targets (ids : S2x129.Idx → BitVec 32) : S256.Idx → BitVec 32 :=
  shapeCast S256 (extractStridedSlice S2x128 ![0, 1] ids slices_S2x129_S2x128_0_1) shapeCasts_S2x128_S256

/-- The row each position takes of the head, a negative one counted from the end. -/
def rowsOf (t : S256.Idx → BitVec 32) : S256x1.Idx → BitVec 32 :=
  broadcastInDim S256x1 ![0] bcast_S256_S256x1_0
    (select (cmpi .slt t (broadcastInDim S256 ![] bcast_S_S256 (constantI S_ 32 0#32)))
      (addi t (broadcastInDim S256 ![] bcast_S_S256 (constantI S_ 32 151936#32))) t)

/-- The head's rows at the targets. -/
def taken (W : S151936x2560.Idx → Elt Ideal .bf16) (r : S256x1.Idx → BitVec 32) : S256x2560.Idx → Elt Ideal .bf16 :=
  Host.gather gather_S151936x2560_S256x1_S256x2560_1_0_n_n_0_1_12560 W r

/-- The logit of each position's target. -/
def picks (y G : S256x2560.Idx → Elt Ideal .bf16) : S256.Idx → Elt Ideal .f32 :=
  Host.reduceAdd (F := Ideal) (φ := .f32) (mulf (F := Ideal) (φ := .f32) (extf (F := Ideal) .f32 y bitsLt_bf16_f32) (extf (F := Ideal) .f32 G bitsLt_bf16_f32))
    (constant (F := Ideal) S_ .f32 0x00000000#32) reducesTo_S256x2560_S256_d1 h_S_

/-- The loss from the three reductions. -/
def combine (M Z P : S256.Idx → Elt Ideal .f32) : S2x128.Idx → Elt Ideal .f32 :=
  shapeCast S2x128
    (subf (F := Ideal) (φ := .f32) (subf (F := Ideal) (φ := .f32) (addf (F := Ideal) (φ := .f32) M (Host.log (F := Ideal) (φ := .f32) Z)) P)
      (broadcastInDim S256 ![] bcast_S_S256 (constant (F := Ideal) S_ .f32 0x413EE641#32)))
    shapeCasts_S256_S2x128

/-- The whole line. -/
def line (ids : S2x129.Idx → BitVec 32) (y : S256x2560.Idx → Elt Ideal .bf16) (C : S151936x2560.Idx → Elt Ideal .bf16)
    (S : S1187x20.Idx → Elt Ideal .f32) : S2x128.Idx → Elt Ideal .f32 :=
  combine (tops (logits y (head C S))) (sums (logits y (head C S)) (tops (logits y (head C S))))
    (picks y (taken (head C S) (rowsOf (targets ids))))

/-- What the host line leaves in the result buffer is `line` of what it found. -/
theorem after_v32 (X : Valuation τ sig (Elt Ideal)) : StableHlo.after hostOps1 X (Proc.devRef .tc main_v32)
    = line (X (Proc.devRef .tc main_arg0)) (X (Proc.devRef .tc main_arg1)) (X (Proc.devRef .tc main_v0)) (X (Proc.devRef .tc main_arg3)) := by
  after_reads_simp
  rfl

/-- A weight of the dequantized head. -/
theorem head_apply (C : S151936x2560.Idx → Elt Ideal .bf16) (S : S1187x20.Idx → Elt Ideal .f32) (v : Fin 151936) (k : Fin 2560) :
    head C S (ix2 v k) = Cert.Loss.weight C S v k := by
  have hv : (⟨v.val / 128 * 128 + v.val % 128, by omega⟩ : Fin 151936) = v := Fin.ext (by show v.val / 128 * 128 + v.val % 128 = v.val; omega)
  have hk : (⟨k.val / 128 * 128 + k.val % 128, by omega⟩ : Fin 2560) = k := Fin.ext (by show k.val / 128 * 128 + k.val % 128 = k.val; omega)
  unfold Cert.Loss.weight
  pointwise [head]

/-- A logit. -/
theorem logits_apply (y : S256x2560.Idx → Elt Ideal .bf16) (W : S151936x2560.Idx → Elt Ideal .bf16) (n : Fin 256) (v : Fin 151936) :
    logits y W (ix2 n v) = ∑ k : Fin 2560, W (ix2 v k) * y (ix2 n k) := by
  pointwise [logits]
  simp only [mul_comm]

/-- The pattern of minus infinity. -/
theorem ofBits_negInf : Ideal.ofBits .f32 0xFF800000#32 = ⊥ := by simp [Ideal.ofBits, Ideal.ieee]

/-- A greatest logit. -/
theorem tops_apply (L : S256x151936.Idx → Elt Ideal .f32) (n : Fin 256) :
    tops L (ix1 n) = Finset.fold max (⊥ : EReal) (fun v : Fin 151936 => L (ix2 n v)) Finset.univ := by
  unfold tops
  rw [Host.reduce_eq_fold, Shape.ReducesTo.fold_fiber_r2_a1]
  rw [← ofBits_negInf]
  rfl

/-- A sum of exponentials. -/
theorem sums_apply (L : S256x151936.Idx → Elt Ideal .f32) (M : S256.Idx → Elt Ideal .f32) (n : Fin 256) :
    sums L M (ix1 n) = ∑ v : Fin 151936, Ideal.exp (L (ix2 n v) - M (ix1 n)) := by
  pointwise [sums]

/-- A target. -/
theorem targets_apply (ids : S2x129.Idx → BitVec 32) (n : Fin 256) : targets ids (ix1 n) = Cert.Loss.target ids n := by
  have hn : (⟨1 + n.val % 128, by omega⟩ : Fin 129) = ⟨n.val % 128 + 1, by omega⟩ := Fin.ext (Nat.add_comm _ _)
  unfold Cert.Loss.target
  pointwise [targets]
  rw [hn]

/-- A target in the vocabulary is not negative: its row is itself. -/
theorem rowsOf_apply (t : S256.Idx → BitVec 32) (n : Fin 256) (h : (t (ix1 n)).toNat < 151936) : rowsOf t (ix2 n 0) = t (ix1 n) := by
  pointwise [rowsOf]
  have hs : IntOp.cmpi CmpIPredicate.slt (t (ix1 n)) 0#32 = 0#1 := by
    generalize t (ix1 n) = w at h
    show BitVec.ofBool (BitVec.slt w 0#32) = 0#1
    have : BitVec.slt w 0#32 = false := by
      rw [BitVec.slt_eq_decide, decide_eq_false_iff_not, BitVec.toInt_eq_toNat_of_lt (by omega)]
      simp
    rw [this]; rfl
  rw [hs, ValueIdx.select_zero]

/-- A row of the head at an in-range target. -/
theorem taken_apply (W : S151936x2560.Idx → Elt Ideal .bf16) (r : S256x1.Idx → BitVec 32) (n : Fin 256) (k : Fin 2560)
    (h : (r (ix2 n 0)).toNat < 151936) : taken W r (ix2 n k) = W (ix2 ⟨(r (ix2 n 0)).toNat, h⟩ k) := by
  unfold taken
  exact Routing.gather_row gather_S151936x2560_S256x1_S256x2560_1_0_n_n_0_1_12560 rfl rfl rfl rfl rfl W r n k ⟨(r (ix2 n 0)).toNat, h⟩
    (by rw [BitVec.ofNat_toNat, BitVec.setWidth_eq]; rfl) (by decide)

/-- A target's logit. -/
theorem picks_apply (y G : S256x2560.Idx → Elt Ideal .bf16) (n : Fin 256) :
    picks y G (ix1 n) = ∑ k : Fin 2560, G (ix2 n k) * y (ix2 n k) := by
  pointwise [picks]
  simp only [mul_comm]

/-- A loss from the three reductions. -/
theorem combine_apply (M Z P : S256.Idx → Elt Ideal .f32) (b : Fin 2) (s : Fin 128) :
    combine M Z P (ix2 b s) = M (ix1 ⟨128 * b.val + s.val, by omega⟩) + Ideal.log (Z (ix1 ⟨128 * b.val + s.val, by omega⟩))
      - P (ix1 ⟨128 * b.val + s.val, by omega⟩) - Ideal.ofBits .f32 0x413EE641#32 := by
  have hn : (⟨b.val * 128 + s.val, by omega⟩ : Fin 256) = ⟨128 * b.val + s.val, by omega⟩ := Fin.ext (by show b.val * 128 + s.val = 128 * b.val + s.val; omega)
  pointwise [combine]
  rw [hn]

/-- The line computes the specified loss. -/
theorem line_eq (ids : S2x129.Idx → BitVec 32) (y : S256x2560.Idx → Elt Ideal .bf16) (C : S151936x2560.Idx → Elt Ideal .bf16)
    (S : S1187x20.Idx → Elt Ideal .f32) (h : Cert.Loss.InVocab ids) : line ids y C S = Cert.Loss.result ids y C S h := by
  have hL : ∀ n v, logits y (head C S) (ix2 n v) = Cert.Loss.logit y C S n v := fun n v => by
    rw [logits_apply]
    simp only [head_apply]
    rfl
  have hT : ∀ n, tops (logits y (head C S)) (ix1 n) = Cert.Loss.top y C S n := fun n => by
    rw [tops_apply]
    simp only [hL]
    rfl
  have hr : ∀ n, rowsOf (targets ids) (ix2 n 0) = Cert.Loss.target ids n := fun n => by
    rw [rowsOf_apply _ _ (by rw [targets_apply]; exact h n), targets_apply]
  have hg : ∀ n k, taken (head C S) (rowsOf (targets ids)) (ix2 n k) = Cert.Loss.weight C S ⟨(Cert.Loss.target ids n).toNat, h n⟩ k := fun n k => by
    rw [taken_apply _ _ _ _ (by rw [hr]; exact h n), head_apply]
    simp only [hr]
  funext x
  obtain ⟨b, s, rfl⟩ : ∃ (b : Fin 2) (s : Fin 128), x = ix2 b s := ⟨x 0, x 1, eq_ix2 x⟩
  unfold line
  rw [combine_apply, sums_apply, picks_apply, hT]
  simp only [hL, hg]
  rfl

end Cert.ReferenceIdeal.Val

end
-- ==== Proof.ReferenceIdeal.Value.lean ====
/- What the reference leaves in its result, over the extended reals: the specified loss. -/
module

public import proofs.«01_k».proof.Proof.ReferenceIdeal.Read
public import Idealize.ShloMosaic.Lib.Pipeline.ValueKit.Geometry

@[expose] public section

set_option maxRecDepth 16384

noncomputable section

namespace Cert.ReferenceIdeal.Val

open Idealize.ShloMosaic Idealize.ShloMosaic.TcCoe Idealize.ShloMosaic.Pipeline
open Idealize.SL Idealize.SL.Sem
open Cert.ReferenceIdeal Cert.ReferenceIdeal.Gen

variable (m : (ℓ : Loc nD τ sig) → Buf (Elt Ideal) ℓ) (ρ : Dev nD → PrngReg)

/-- The codes as the region's one point sees them. -/
theorem iblk_codes (c : Dev nD) (t : Fin cfg0.N) : iblk m c 0 t = m ((c : Thread nD τ).loc main_arg2) := by
  have hz : (fun a => (win0_0.index t) a * main_arg2.ty.shape.size a) = fun _ => 0 := funext fun a => Nat.zero_mul _
  exact Memref.read_access_unit_zero (Elt Ideal) main_arg2 hz (fun a => by rw [congrFun hz a]; omega) _

/-- The region's output is the codes, a change of format being the identity. -/
theorem out_codes (x : S151936x2560.Idx → Elt Ideal .fp8e4m3) : out0_1 x = x := by
  have hz : (![0, 0] : Fin 2 → Nat) = fun _ => 0 := funext fun a => by fin_cases a <;> rfl
  unfold out0_1
  rw [View.canon_cons_unit_zero hz, View.ld_unit_zero hz]
  rfl

/-- The output array after the region: the codes. -/
theorem arr_codes (c : Dev nD) : (dats m 0 c).arrAt (1 : Fin 2) cfg0.N = m ((c : Thread nD τ).loc main_arg2) := by
  have hlt : 0 < cfg0.N := by show 0 < grid0.N; decide
  have hw : ((cfg0.win 1).blk ⟨0, hlt⟩).view.read (Elt Ideal) ((dats m 0 c).arrAt (1 : Fin 2) cfg0.N) = m ((c : Thread nD τ).loc main_arg2) := by
    rw [show cfg0.N = (⟨0, hlt⟩ : Fin cfg0.N).val + 1 from rfl, (dats m 0 c).arrAt_succ (1 : Fin 2) ⟨0, hlt⟩,
      if_pos (flush0_1 _)]
    refine (View.read_write_univ _ _).trans ?_
    show (dats m 0 c).after 1 ⟨0, hlt⟩ = _
    rw [after0_1, iblk_codes, out_codes]
  have hz : (fun a => (win0_1.index ⟨0, hlt⟩) a * main_v0.ty.shape.size a) = fun _ => 0 :=
    funext fun a => Nat.zero_mul _
  have hr := fun f => Memref.read_access_unit_zero (Elt Ideal) main_v0 hz (fun a => by rw [congrFun hz a]; omega) f
  exact (hr _).symm.trans hw

/-- The result buffer after the host line. -/
theorem tail_v32 (c : Dev nD) (h : Cert.Loss.InVocab (m ((c : Thread nD τ).loc main_arg0))) :
    Pipeline.afterTail₀ cfgs (dats m) 0 (V0 m) [hostOps1] c main_v32
      = Cert.Loss.result (m ((c : Thread nD τ).loc main_arg0)) (m ((c : Thread nD τ).loc main_arg1))
          (m ((c : Thread nD τ).loc main_arg2)) (m ((c : Thread nD τ).loc main_arg3)) h := by
  unfold Pipeline.afterTail₀
  rw [show ([hostOps1] : List (List (HloOp τ sig (Elt Ideal)))).flatten = hostOps1 from List.append_nil _, after_v32,
    Pipeline.withArrays_of_ne _ c (V0 m c) _ main_arg0 (by exact (by decide : ∀ w, Pipeline.arrRef spec0 w ≠ main_arg0)),
    Pipeline.withArrays_of_ne _ c (V0 m c) _ main_arg1 (by exact (by decide : ∀ w, Pipeline.arrRef spec0 w ≠ main_arg1)),
    Pipeline.withArrays_of_ne _ c (V0 m c) _ main_arg3 (by exact (by decide : ∀ w, Pipeline.arrRef spec0 w ≠ main_arg3))]
  have e := Pipeline.withArrays_arr spec0 (by decide) c (V0 m c) (fun w => (dats m 0 c).arrAt w cfg0.N) 1
  have e' : Pipeline.withArrays spec0 c (V0 m c) (fun w => (dats m 0 c).arrAt w cfg0.N) (Proc.devRef .tc main_v0)
      = m ((c : Thread nD τ).loc main_arg2) := e.trans (arr_codes m c)
  rw [e']
  exact line_eq _ _ _ _ h

/-- THE REFERENCE'S RUN: from a memory whose targets lie in the vocabulary, every run ends with the specified loss in the
    result and the arguments as they were. -/
theorem run_loss (h : ∀ c : Dev nD, Cert.Loss.InVocab (m ((c : Thread nD τ).loc main_arg0))) :
    θ_run defs (onTc (τ := τ) (main (F := Ideal))) ⟨m, fun _ => 0, ρ⟩ (fun r => ∀ c : Dev nD,
      r.2.mem ((c.tc : Thread nD τ).loc main_v32) = Cert.Loss.result (m ((c : Thread nD τ).loc main_arg0)) (m ((c : Thread nD τ).loc main_arg1))
          (m ((c : Thread nD τ).loc main_arg2)) (m ((c : Thread nD τ).loc main_arg3)) (h c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h' c => ⟨((h'.1 c).2 main_v32 (Pipeline.mem_restRefs_of main_v32 (by decide) (by decide))).trans
    (tail_v32 m c (h c)), h'.2 c⟩) (θ_run_and (run_main m ρ) (unchanged m ρ))

end Cert.ReferenceIdeal.Val

end
-- ==== Proof.Targets.lean ====
/- What the claim's precondition says of the targets. -/
module

public import proofs.«01_k».proof.Pre_targets_in_vocab
public import proofs.«01_k».proof.Proof.Spec
public import Idealize.ShloMosaic.Lib.ReduceAll

@[expose] public section

noncomputable section

namespace Cert.Pre_targets_in_vocab

open Idealize.ShloMosaic

/-- The two shape facts the precondition cites. -/
theorem facts : Facts := ⟨by decide, by decide⟩

/-- A word neither negative nor at least the vocabulary's size, as signed numbers, is below it as a natural number. -/
theorem small (w : BitVec 32) (h : IntOp.andi (IntOp.cmpi .sge w 0#32) (IntOp.cmpi .slt w 151936#32) = 1#1) : w.toNat < 151936 := by
  have h' : BitVec.ofBool (BitVec.sle 0#32 w) &&& BitVec.ofBool (BitVec.slt w 151936#32) = 1#1 := h
  rw [BitVec.sle_eq_decide, BitVec.slt_eq_decide] at h'
  by_cases h0 : (0#32).toInt ≤ w.toInt
  · by_cases h1 : w.toInt < (151936#32).toInt
    · have e0 : (0#32).toInt = 0 := rfl
      have e1 : (151936#32).toInt = 151936 := rfl
      rw [e0, BitVec.toInt_eq_toNat_cond] at h0
      rw [e1, BitVec.toInt_eq_toNat_cond] at h1
      have hw := w.isLt
      split at h1 <;> omega
    · rw [decide_eq_false h1] at h'
      simp at h'
  · rw [decide_eq_false h0] at h'
    simp at h'

/-- Where the precondition is all ones, every target is in the vocabulary. -/
theorem inVocab [Facts] (ids : IVec S2x129 32) (y : FVec Ideal S256x2560 .bf16) (C : FVec Ideal S151936x2560 .fp8e4m3) (S : FVec Ideal S1187x20 .f32)
    (h : fn (F := Ideal) ids y C S = fun _ => 1#1) : Cert.Loss.InVocab ids := by
  intro n
  have hn : n.val % 128 + 1 < 129 := by omega
  have e := congrFun h (ix2 ⟨n.val / 128, by omega⟩ ⟨n.val % 128, by omega⟩)
  revert e
  pointwise [fn]
  intro e
  have hx : (⟨1 + n.val % 128, by omega⟩ : Fin 129) = ⟨n.val % 128 + 1, by omega⟩ := Fin.ext (Nat.add_comm _ _)
  rw [hx] at e
  exact small _ e

end Cert.Pre_targets_in_vocab

end
-- ==== Proof.Tokens.lean ====
/- What the front's precondition says of the tokens. -/
module

public import proofs.«01_k».proof.Pre_tokens_in_vocab
public import proofs.«01_k».proof.Proof.Targets

@[expose] public section

noncomputable section

namespace Cert.Pre_tokens_in_vocab

open Idealize.ShloMosaic

/-- The two shape facts the precondition cites. -/
theorem facts : Facts := ⟨by decide, by decide⟩

/-- Where the precondition is all ones, every token the front looks up is in the vocabulary. -/
theorem inVocab [Facts] {F : FTy → Type} [FloatOps F] (hidden : FVec F S2x128x2560 .bf16) (ids : IVec S2x129 32) (E : IVec S151936x2560 8)
    (S : FVec F S151936x20 .f32) (nh ne nf : FVec F S2560 .f32) (W : FVec F S5120x2560 .fp8e4m3) (T : FVec F S40x20 .f32)
    (h : fn hidden ids E S nh ne nf W T = fun _ => 1#1) (x : S2x129.Idx) (hx : (x 1).val < 128) : (ids x).toNat < 151936 := by
  have e := congrFun h (ix2 ⟨(x 0).val, (x 0).isLt⟩ ⟨(x 1).val, hx⟩)
  revert e
  pointwise [fn]
  exact fun e => Cert.Pre_targets_in_vocab.small _ e

end Cert.Pre_tokens_in_vocab

end
-- ==== Proof.Front.Blocks.lean ====
/- The front kernel's body written with its repeated steps as recursions: the sums of squares over a row's groups, the
   normalized and quantized groups, the dequantized blocks of a projection tile. `body_first`, `body_middle` and
   `body_last` say that the printed body is that, at the first grid point, between, and at the last one. -/
module

public import proofs.«01_k».proof.Proof.Gen.Front.Frame
public import proofs.«01_k».proof.Proof.Gen.Front.Skeleton
public import Idealize.ShloMosaic.Lib.Pipeline.Regions

@[expose] public section

set_option maxRecDepth 16384

noncomputable section

namespace Cert.Front.Layer

open Idealize.ShloMosaic Idealize.ShloMosaic.TcCoe
open Idealize.SL Idealize.SL.Sem
open Cert.Front Cert.Front.Gen

variable {F : FTy → Type} [FloatOps F]

/-- The kernel's operands. -/
structure Args where
  a1 : Memref sig .tc .smem S2x129 .i32
  h1 : a1.IsWhole
  a2 : Memref sig .tc .vmem S2x129 .i32
  h2 : a2.IsWhole
  a3 : Memref sig .tc .vmem S256x2560 .bf16
  h3 : a3.IsWhole
  a4 : Memref sig .tc .vmem S1x2560 .f32
  h4 : a4.IsWhole
  a5 : Memref sig .tc .vmem S1x2560 .f32
  h5 : a5.IsWhole
  a6 : Memref sig .tc .vmem S1x2560 .f32
  h6 : a6.IsWhole
  a7 : Memref sig .tc .hbm S37984x2560 .i32
  h7 : a7.IsWhole
  a8 : Memref sig .tc .hbm S151936x20 .f32
  h8 : a8.IsWhole
  a9 : Memref sig .tc .vmem S5120x256 .fp8e4m3
  h9 : a9.IsWhole
  a10 : Memref sig .tc .smem S40x20 .f32
  h10 : a10.IsWhole
  a11 : Memref sig .tc .vmem S256x2560 .bf16
  h11 : a11.IsWhole
  a12 : Memref sig .tc .vmem S256x5120 .fp8e4m3
  h12 : a12.IsWhole
  a13 : Memref sig .tc .vmem S256x40 .f32
  h13 : a13.IsWhole
  a14 : Memref sig .tc .vmem S256x2560 .fp8e4m3
  h14 : a14.IsWhole
  a15 : Memref sig .tc .vmem S256x20 .f32
  h15 : a15.IsWhole
  a16 : Memref sig .tc .vmem S256x2560 .bf16
  h16 : a16.IsWhole
  a17 : Memref sig .tc .vmem S256x2560 .i32
  h17 : a17.IsWhole
  a18 : Memref sig .tc .vmem S256x20 .f32
  h18 : a18.IsWhole
  a19 : Memref sig .tc .vmem S256x5120 .bf16
  h19 : a19.IsWhole
  a20 : Memref sig .tc .vmem S10x256x256 .f32
  h20 : a20.IsWhole
  a21 : DmaSems sig S2

/-- A chain of the kernel's operations. -/
abbrev P (F : FTy → Type) [FloatOps F] := Prog (TpuEff nD τ sig (Elt F) Λ₀ .tc) PUnit

/-! ## Places -/

theorem row_inb {g : Nat} (hg : g < 20) : ∀ a, (![0, 128 * g] : Fin 2 → Nat) a + S256x128.size a ≤ S256x2560.size a := by
  intro a; fin_cases a <;> simp <;> omega
theorem xrow_inb {g : Nat} (hg : g < 40) : ∀ a, (![0, 128 * g] : Fin 2 → Nat) a + S256x128.size a ≤ S256x5120.size a := by
  intro a; fin_cases a <;> simp <;> omega
theorem wt_inb {g : Nat} (hg : g < 20) : ∀ a, (![0, 128 * g] : Fin 2 → Nat) a + S1x128.size a ≤ S1x2560.size a := by
  intro a; fin_cases a <;> simp <;> omega
theorem col_inb {g : Nat} (hg : g < 20) : ∀ a, (![0, g] : Fin 2 → Nat) a + S256x1.size a ≤ S256x20.size a := by
  intro a; fin_cases a <;> simp <;> omega
theorem xcol_inb {g : Nat} (hg : g < 40) : ∀ a, (![0, g] : Fin 2 → Nat) a + S256x1.size a ≤ S256x40.size a := by
  intro a; fin_cases a <;> simp <;> omega
theorem proj_inb {g : Nat} (hg : g < 20) : ∀ a, (![g / 2, 0, 128 * (g % 2)] : Fin 3 → Nat) a + S1x256x128.size a ≤ S10x256x256.size a := by
  intro a; fin_cases a <;> simp <;> omega
theorem block_inb {n m : Nat} (hn : n < 40) (hm : m < 2) : ∀ a, (![128 * n, 128 * m] : Fin 2 → Nat) a + S128x128.size a ≤ S5120x256.size a := by
  intro a; fin_cases a <;> simp <;> omega

/-- Group `g` of a row of 2560. -/
abbrev rowRect (g : Nat) (hg : g < 20) : Rect S256x2560 := Rect.unit (s := S256x2560) ![0, 128 * g] S256x128.size (row_inb hg)
/-- Group `g` of a row of 5120. -/
abbrev xrowRect (g : Nat) (hg : g < 40) : Rect S256x5120 := Rect.unit (s := S256x5120) ![0, 128 * g] S256x128.size (xrow_inb hg)
/-- Group `g` of a norm's weights. -/
abbrev wtRect (g : Nat) (hg : g < 20) : Rect S1x2560 := Rect.unit (s := S1x2560) ![0, 128 * g] S1x128.size (wt_inb hg)
/-- Column `g` of 20 scales. -/
abbrev colRect (g : Nat) (hg : g < 20) : Rect S256x20 := Rect.unit (s := S256x20) ![0, g] S256x1.size (col_inb hg)
/-- Column `g` of 40 scales. -/
abbrev xcolRect (g : Nat) (hg : g < 40) : Rect S256x40 := Rect.unit (s := S256x40) ![0, g] S256x1.size (xcol_inb hg)
/-- Group `g` of the projection. -/
abbrev projRect (g : Nat) (hg : g < 20) : Rect S10x256x256 := Rect.unit (s := S10x256x256) ![g / 2, 0, 128 * (g % 2)] S1x256x128.size (proj_inb hg)
/-- Block `(n, m)` of a tile of the weights. -/
abbrev blockRect (n m : Nat) (hn : n < 40) (hm : m < 2) : Rect S5120x256 := Rect.unit (s := S5120x256) ![128 * n, 128 * m] S128x128.size (block_inb hn hm)

/-- The column of the scale of a tile's block. -/
abbrev scaleCol (i : grid0.Coords) (c : BitVec 32) : Nat :=
  (Scalar.indexCast (Scalar.addi (Scalar.muli (BitVec.ofNat 32 (i 0).val) 2#32) c) : Index).toNat
theorem scale_inb (i : grid0.Coords) {n : Nat} (hn : n < 40) (r : Fin 2) :
    ∀ a, (![n, scaleCol i (BitVec.ofNat 32 r.val)] : Fin 2 → Nat) a + S1x1.size a ≤ S40x20.size a := by
  intro a
  have h := k0_off11_inb i r
  fin_cases a
  · show n + 1 ≤ 40; omega
  · exact h 1
/-- The place of the scale of a tile's block. -/
abbrev scaleRect (i : grid0.Coords) (n : Nat) (hn : n < 40) (r : Fin 2) : Rect S40x20 :=
  Rect.unit (s := S40x20) ![n, scaleCol i (BitVec.ofNat 32 r.val)] S1x1.size (scale_inb i hn r)
/-- The tile a grid point computes. -/
abbrev tileRect (i : grid0.Coords) : Rect S10x256x256 := Rect.unit (s := S10x256x256) (k0_off51 i) S1x256x256.size (k0_off51_inb i)

theorem xrow_packed8 {g : Nat} (hg : g < 40) : (xrowRect g hg).PackedRows (EltTy.packing .fp8e4m3) := by
  refine .inr ⟨by decide, rfl, .inl ⟨?_, ?_⟩⟩
  · show 4 ∣ 0; omega
  · show 4 ∣ 256; omega
theorem xrow_packed16 {g : Nat} (hg : g < 40) : (xrowRect g hg).PackedRows (EltTy.packing .bf16) := by
  refine .inr ⟨by decide, rfl, .inl ⟨?_, ?_⟩⟩
  · show 2 ∣ 0; omega
  · show 2 ∣ 256; omega
theorem row_packed8 {g : Nat} (hg : g < 20) : (rowRect g hg).PackedRows (EltTy.packing .fp8e4m3) := by
  refine .inr ⟨by decide, rfl, .inl ⟨?_, ?_⟩⟩
  · show 4 ∣ 0; omega
  · show 4 ∣ 256; omega
theorem row_packed16 {g : Nat} (hg : g < 20) : (rowRect g hg).PackedRows (EltTy.packing .bf16) := by
  refine .inr ⟨by decide, rfl, .inl ⟨?_, ?_⟩⟩
  · show 2 ∣ 0; omega
  · show 2 ∣ 256; omega

/-! ## What is computed of one group -/

/-- A loaded group of the hidden state, widened. -/
def wide (x : Vec F S256x128 .bf16) : FVec F S256x128 .f32 :=
  extf .f32 (shapeCast S256x128 (x : FVec F S256x128 .bf16) shapeCasts_S256x128_S256x128) bitsLt_bf16_f32
/-- A loaded group of the projection, as a matrix. -/
def flat (p : Vec F S1x256x128 .f32) : FVec F S256x128 .f32 := shapeCast S256x128 p shapeCasts_S1x256x128_S256x128
/-- The sum of squares before the first group. -/
def zero : FVec F S256x128 .f32 := broadcast S256x128 (Scalar.ofBits .f32 0x00000000#32 : F .f32)
/-- From the sums of squares by lane to the factor a row is normalized with. -/
def factor (acc : FVec F S256x128 .f32) : FVec F S256x1 .f32 :=
  rsqrt (addf (divf (shapeCast S256x1 (multiReduction .add [1] S256 acc 0x00000000#32 reduces_S256x128_S256 (.inl rfl) rfl) shapeCasts_S256_S256x1)
    (broadcast S256x1 (Scalar.ofBits .f32 0x45200000#32 : F .f32))) (broadcast S256x1 (Scalar.ofBits .f32 0x358637BD#32 : F .f32)))
/-- A group normalized: times its row's factor and the norm's weights. -/
def normed (x : FVec F S256x128 .f32) (r : FVec F S256x1 .f32) (w : Vec F S1x128 .f32) : FVec F S256x128 .f32 :=
  mulf (mulf x (broadcastTo S256x128 r broadcasts_S256x1_S256x128))
    (broadcastTo S256x128 (shapeCast S1x128 (w : FVec F S1x128 .f32) shapeCasts_S1x128_S1x128) broadcasts_S1x128_S256x128)
/-- The scale of a group's rows. -/
def scaleOf (x : FVec F S256x128 .f32) : FVec F S256x1 .f32 := k0_pay21 x
/-- The codes of a group. -/
def codesOf (x : FVec F S256x128 .f32) : FVec F S256x128 .fp8e4m3 := k0_pay22 x
/-- The group its codes and scales stand for. -/
def deqOf (x : FVec F S256x128 .f32) : FVec F S256x128 .bf16 :=
  mulf (extf .bf16 (codesOf x) bitsLt_fp8e4m3_bf16) (broadcastTo S256x128 (truncf .bf16 (scaleOf x) bitsLt_bf16_f32) broadcasts_S256x1_S256x128)
/-- The same, as the projection's operand is stored. -/
def deqX (x : FVec F S256x128 .f32) : FVec F S256x128 .bf16 := shapeCast S256x128 (deqOf x) shapeCasts_S256x128_S256x128

/-! ## The first point's work -/

/-- Store what is made of group `n` of the projection's operand, then go on with `k`. -/
def emitX (A : Args) (n : Nat) (hn : n < 40) (x : FVec F S256x128 .f32) (k : P F) : P F := do
  let _ : Vec F S256x128 .fp8e4m3 ← Prog.lift (.load A.a12 (xrowRect n hn).toLoadRect (View.loadsAt_vmem h_S256x128))
  Prog.lift (.store A.a12 (xrowRect n hn) (codesOf x) Finset.univ (View.stores_vmem h_S256x128 (A.h12.storeExact_slice rfl _ (xrow_packed8 hn)) (fun _ => rfl)) (.inl rfl))
  let _ : Vec F S256x128 .bf16 ← Prog.lift (.load A.a19 (xrowRect n hn).toLoadRect (View.loadsAt_vmem h_S256x128))
  Prog.lift (.store A.a19 (xrowRect n hn) (deqX x) Finset.univ (View.stores_vmem h_S256x128 (A.h19.storeExact_slice rfl _ (xrow_packed16 hn)) (fun _ => rfl)) (.inl rfl))
  let _ : Vec F S256x1 .f32 ← Prog.lift (.load A.a13 (xcolRect n hn).toLoadRect (View.loadsAt_vmem h_S256x1))
  Prog.lift (.store A.a13 (xcolRect n hn) (scaleOf x) Finset.univ (View.stores_vmem_bits_univ h_S256x1 rfl) (.inl rfl))
  k

/-- The squares of the last `f` groups of the hidden state, summed onto what is handed in; then `k` of the sum. -/
def sumH (A : Args) (k : FVec F S256x128 .f32 → P F) (f : Nat) : FVec F S256x128 .f32 → P F :=
  Nat.rec k (fun f ih acc => do
    let x : Vec F S256x128 .bf16 ← Prog.lift (.load A.a3 (rowRect (19 - f) (by omega)).toLoadRect (View.loadsAt_vmem h_S256x128))
    let y : Vec F S256x128 .bf16 ← Prog.lift (.load A.a3 (rowRect (19 - f) (by omega)).toLoadRect (View.loadsAt_vmem h_S256x128))
    ih (addf acc (mulf (wide x) (wide y)))) f

/-- The last `f` groups of the hidden state, normalized and quantized; then `k`. -/
def groupsH (A : Args) (r : FVec F S256x1 .f32) (k : P F) (f : Nat) : P F :=
  Nat.rec k (fun f ih => do
    let x : Vec F S256x128 .bf16 ← Prog.lift (.load A.a3 (rowRect (19 - f) (by omega)).toLoadRect (View.loadsAt_vmem h_S256x128))
    let w : Vec F S1x128 .f32 ← Prog.lift (.load A.a4 (wtRect (19 - f) (by omega)).toLoadRect (View.loadsAt_vmem h_S1x128))
    emitX A (19 - f) (by omega) (normed (wide x) r w) ih) f

/-- The squares of the last `f` groups of the embedding rows. -/
def sumE (A : Args) (sh : IVec S256x128 32) (k : FVec F S256x128 .f32 → P F) (f : Nat) : FVec F S256x128 .f32 → P F :=
  Nat.rec k (fun f ih acc => do
    let x : Vec F S256x128 .i32 ← Prog.lift (.load A.a17 (rowRect (19 - f) (by omega)).toLoadRect (View.loadsAt_vmem h_S256x128))
    let s : Vec F S256x1 .f32 ← Prog.lift (.load A.a18 (colRect (19 - f) (by omega)).toLoadRect (View.loadsAt_vmem h_S256x1))
    let y : Vec F S256x128 .i32 ← Prog.lift (.load A.a17 (rowRect (19 - f) (by omega)).toLoadRect (View.loadsAt_vmem h_S256x128))
    let u : Vec F S256x1 .f32 ← Prog.lift (.load A.a18 (colRect (19 - f) (by omega)).toLoadRect (View.loadsAt_vmem h_S256x1))
    ih (addf acc (mulf (k0_pay151 sh x s) (k0_pay151 sh y u)))) f

/-- The last `f` groups of the embedding rows, normalized and quantized; then `k`. -/
def groupsE (A : Args) (sh : IVec S256x128 32) (r : FVec F S256x1 .f32) (k : P F) (f : Nat) : P F :=
  Nat.rec k (fun f ih => do
    let x : Vec F S256x128 .i32 ← Prog.lift (.load A.a17 (rowRect (19 - f) (by omega)).toLoadRect (View.loadsAt_vmem h_S256x128))
    let s : Vec F S256x1 .f32 ← Prog.lift (.load A.a18 (colRect (19 - f) (by omega)).toLoadRect (View.loadsAt_vmem h_S256x1))
    let w : Vec F S1x128 .f32 ← Prog.lift (.load A.a5 (wtRect (19 - f) (by omega)).toLoadRect (View.loadsAt_vmem h_S1x128))
    emitX A (20 + (19 - f)) (by omega) (normed (k0_pay151 sh x s) r w) ih) f

/-! ## The projection tile -/

/-- The tile's dequantized weights, from its blocks. -/
theorem blocks_concat (l : List (FVec F S128x256 .bf16)) (hl : l.length = 40) :
    Shape.Concatenates ((l.map fun b => (⟨S128x256, b⟩ : (s : Shape) × (s.Idx → F .bf16))).map (·.1)) S5120x256 0 := by
  have h : (l.map fun b => (⟨S128x256, b⟩ : (s : Shape) × (s.Idx → F .bf16))).map (·.1) = List.replicate 40 S128x256 := by
    rw [List.map_map, ← hl]; exact List.map_const' ..
  rw [h]; exact concatenates_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S5120x256_d0

/-- The last `f` rows of blocks of the tile, dequantized onto the list handed in; then `k` of all of them. -/
def weights (A : Args) (i : grid0.Coords) (k : (l : List (FVec F S128x256 .bf16)) → l.length + 0 = 40 → P F) (f : Nat) (hf : f ≤ 40) :
    (l : List (FVec F S128x256 .bf16)) → l.length + f = 40 → P F :=
  Nat.rec (motive := fun f => f ≤ 40 → (l : List (FVec F S128x256 .bf16)) → l.length + f = 40 → P F) (fun _ => k) (fun f ih hf l hl => do
    let s0 : Elt F .f32 ← smemLoad A.a10 (scaleRect i (39 - f) (by omega) 0) numel1_S1x1 rfl
    let c0 : Vec F S128x128 .fp8e4m3 ← Prog.lift (.load A.a9 (blockRect (39 - f) 0 (by omega) (by omega)).toLoadRect (View.loadsAt_vmem h_S128x128))
    let s1 : Elt F .f32 ← smemLoad A.a10 (scaleRect i (39 - f) (by omega) 1) numel1_S1x1 rfl
    let c1 : Vec F S128x128 .fp8e4m3 ← Prog.lift (.load A.a9 (blockRect (39 - f) 1 (by omega) (by omega)).toLoadRect (View.loadsAt_vmem h_S128x128))
    ih (by omega) (l ++ [k0_pay496 s0 c0 s1 c1]) (by simp; omega)) f hf

/-- The tile's product, stored; then `k`. -/
def product (A : Args) (i : grid0.Coords) (k : P F) (l : List (FVec F S128x256 .bf16)) (hl : l.length + 0 = 40) : P F := do
  let x : Vec F S256x5120 .bf16 ← Prog.lift (.load A.a19 (Rect.unit (s := S256x5120) ![0, 0] S256x5120.size inb_S256x5120_S256x5120_0_0).toLoadRect (View.loadsAt_vmem h_S256x5120))
  let _ : Vec F S1x256x256 .f32 ← Prog.lift (.load A.a20 (tileRect i).toLoadRect (View.loadsAt_vmem h_S1x256x256))
  Prog.lift (.store A.a20 (tileRect i)
    (k0_pay558 (concatenate S5120x256 0 (l.map fun b => (⟨S128x256, b⟩ : (s : Shape) × (s.Idx → F .bf16))) (blocks_concat l hl)) x)
    Finset.univ (View.stores_vmem_bits_univ h_S1x256x256 rfl) (.inl rfl))
  k

/-- A tile's work, then `k`. -/
def tile (A : Args) (i : grid0.Coords) (k : P F) : P F := weights A i (product A i k) 40 (le_refl _) [] rfl

/-! ## The last point's work -/

/-- Store what is made of group `n` of the normalized projection, then go on with `k`. -/
def emitY (A : Args) (n : Nat) (hn : n < 20) (x : FVec F S256x128 .f32) (k : P F) : P F := do
  let _ : Vec F S256x128 .fp8e4m3 ← Prog.lift (.load A.a14 (rowRect n hn).toLoadRect (View.loadsAt_vmem h_S256x128))
  Prog.lift (.store A.a14 (rowRect n hn) (codesOf x) Finset.univ (View.stores_vmem h_S256x128 (A.h14.storeExact_slice rfl _ (row_packed8 hn)) (fun _ => rfl)) (.inl rfl))
  let _ : Vec F S256x128 .bf16 ← Prog.lift (.load A.a16 (rowRect n hn).toLoadRect (View.loadsAt_vmem h_S256x128))
  Prog.lift (.store A.a16 (rowRect n hn) (deqOf x) Finset.univ (View.stores_vmem h_S256x128 (A.h16.storeExact_slice rfl _ (row_packed16 hn)) (fun _ => rfl)) (.inl rfl))
  let _ : Vec F S256x1 .f32 ← Prog.lift (.load A.a15 (colRect n hn).toLoadRect (View.loadsAt_vmem h_S256x1))
  Prog.lift (.store A.a15 (colRect n hn) (scaleOf x) Finset.univ (View.stores_vmem_bits_univ h_S256x1 rfl) (.inl rfl))
  k

/-- The squares of the last `f` groups of the projection. -/
def sumY (A : Args) (k : FVec F S256x128 .f32 → P F) (f : Nat) : FVec F S256x128 .f32 → P F :=
  Nat.rec k (fun f ih acc => do
    let x : Vec F S1x256x128 .f32 ← Prog.lift (.load A.a20 (projRect (19 - f) (by omega)).toLoadRect (View.loadsAt_vmem h_S1x256x128))
    let y : Vec F S1x256x128 .f32 ← Prog.lift (.load A.a20 (projRect (19 - f) (by omega)).toLoadRect (View.loadsAt_vmem h_S1x256x128))
    ih (addf acc (mulf (flat x) (flat y)))) f

/-- The last `f` groups of the projection: stored, normalized and quantized; then `k`. -/
def groupsY (A : Args) (r : FVec F S256x1 .f32) (k : P F) (f : Nat) : P F :=
  Nat.rec k (fun f ih => do
    let x : Vec F S1x256x128 .f32 ← Prog.lift (.load A.a20 (projRect (19 - f) (by omega)).toLoadRect (View.loadsAt_vmem h_S1x256x128))
    let _ : Vec F S256x128 .bf16 ← Prog.lift (.load A.a11 (rowRect (19 - f) (by omega)).toLoadRect (View.loadsAt_vmem h_S256x128))
    Prog.lift (.store A.a11 (rowRect (19 - f) (by omega)) (truncf .bf16 (flat x) bitsLt_bf16_f32) Finset.univ
      (View.stores_vmem h_S256x128 (A.h11.storeExact_slice rfl _ (row_packed16 (by omega))) (fun _ => rfl)) (.inl rfl))
    let w : Vec F S1x128 .f32 ← Prog.lift (.load A.a6 (wtRect (19 - f) (by omega)).toLoadRect (View.loadsAt_vmem h_S1x128))
    emitY A (19 - f) (by omega) (normed (flat x) r w) ih) f

/-- The last point's work. -/
def final (A : Args) : P F := sumY A (fun acc => groupsY A (factor acc) (pure ⟨⟩) 20) 20 zero

/-! ## The body -/

/-- The loop that starts the transfers of the embedding rows. -/
def issue (A : Args) (i : grid0.Coords) (h : k0_cond1 i = 1#1) : P F :=
  Scf.Loop.for k0_t1_loop (k0_t1_ok i h) ⟨⟩ (k0_t1_body i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 h)

/-- The loop that waits for them. -/
def drain (A : Args) (i : grid0.Coords) (h : k0_cond1 i = 1#1) : P F :=
  Scf.Loop.for k0_t2_loop (k0_t2_ok i h) ⟨⟩ (k0_t2_body i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 h 0#32 256#32)

/-- The first point's quantization of the embedding rows, then `k`. -/
def embed (A : Args) (k : P F) : P F := do
  let t0 : Vec F S1x128 .i32 ← Prog.lift (.load A.a2 (Rect.unit (s := S2x129) ![0, 0] S1x128.size inb_S2x129_S1x128_0_0).toLoadRect (View.loadsAt_vmem h_S1x128))
  let t1 : Vec F S1x128 .i32 ← Prog.lift (.load A.a2 (Rect.unit (s := S2x129) ![1, 0] S1x128.size inb_S2x129_S1x128_1_0).toLoadRect (View.loadsAt_vmem h_S1x128))
  sumE A (k0_pay147 t0 t1) (fun acc => groupsE A (k0_pay147 t0 t1) (factor acc) k 20) 20 zero

/-- The first point's quantization of the hidden state, then `k`. -/
def hide (A : Args) (k : P F) : P F := sumH A (fun acc => groupsH A (factor acc) k 20) 20 zero

/-- The first point's work. -/
def first (A : Args) (i : grid0.Coords) (h : k0_cond1 i = 1#1) : P F := do
  issue A i h
  hide A (do
    drain A i h
    embed A (tile A i (pure ⟨⟩)))

section
variable (A : Args) (i : grid0.Coords)

/-- Between the first point and the last the printed body is a tile's work. -/
theorem body_middle (h1 : ¬ k0_cond1 i = 1#1) (h2 : ¬ k0_cond2 i = 1#1) :
    cc0_front (F := F) i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 = tile A i (pure ⟨⟩) := by
  rw [cc0_front_eq_skeleton, cc0_front_skel, k0_part134_eq_skeleton, k0_part134_skel, k0_part115_eq_skeleton, k0_part115_skel]
  dsimp only
  simp only [dif_neg h1, dif_neg h2]
  chain_rfl

/-- At the last point it is a tile's work, then the projection's. -/
theorem body_last (h1 : ¬ k0_cond1 i = 1#1) (h2 : k0_cond2 i = 1#1) :
    cc0_front (F := F) i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 = tile A i (final A) := by
  rw [cc0_front_eq_skeleton, cc0_front_skel, k0_part134_eq_skeleton, k0_part134_skel, k0_part115_eq_skeleton, k0_part115_skel]
  dsimp only
  simp only [dif_neg h1, dif_pos h2]
  chain_rfl

/-- At the first point it is the operand's quantization, then a tile's work. -/
theorem body_first (h1 : k0_cond1 i = 1#1) (h2 : ¬ k0_cond2 i = 1#1) :
    cc0_front (F := F) i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 = first A i h1 := by
  rw [cc0_front_eq_skeleton, cc0_front_skel, k0_part134_eq_skeleton, k0_part134_skel, k0_part115_eq_skeleton, k0_part115_skel]
  dsimp only
  simp only [dif_pos h1, dif_neg h2]
  simp only [k0_part79_eq_skeleton, k0_part79_skel, k0_part3_eq_skeleton, k0_part3_skel, k0_part37_eq_skeleton, k0_part37_skel, bind_assoc]
  chain_rfl

end

end Cert.Front.Layer

end
-- ==== Proof.Front.Rows.lean ====
/- The embedding rows: the loop that starts the 256 transfers of code rows and the 256 of scale rows, and the loop that
   waits for them. After both, the row buffers hold the rows of the two tables that the ids name. -/
module

public import proofs.«01_k».proof.Proof.Front.Blocks
public import proofs.«01_k».proof.Proof.Owns
public import Idealize.ShloMosaic.Lib.Batch
public import Idealize.ShloMosaic.Lib.Ring
public import Idealize.ShloMosaic.Lib.Pipeline.Frame

@[expose] public section

set_option maxRecDepth 16384

noncomputable section

namespace Cert.Front.Layer

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Front Cert.Front.Gen

variable {F : FTy → Type} [FloatOps F]

local notation "𝕄" => MT nD τ sig Unit (Elt F) ℕ (Pipeline.UD sig nD τ) ℕ

/-! ## A table lent to transfers of its rows -/

theorem swap3 (P Q R : sProp 𝕄) : iprop(P ∗ Q ∗ R) = iprop(Q ∗ P ∗ R) := by
  have one : ∀ P Q R : sProp 𝕄, iprop(P ∗ Q ∗ R) ⊢ iprop(Q ∗ P ∗ R) := fun P Q R => by
    iintro ⟨H1, H2, H3⟩; isplitl [H2]; · iexact H2
    isplitl [H1] <;> iassumption
  exact Idealize.SL.BI.Entails.antisymm (one _ _ _) (one _ _ _)

section Lend

variable (c : Dev nD) {st : Shape} {e : EltTy} {sp : Space} (tbl : Memref sig .tc sp st e) {n : Nat} (R : Fin n → Rect st)
  (q : PosShare TreeShare) (f : Buf (Elt F) (tbl.view.loc (c : Thread nD τ)))

/-- What stays behind of a table when each of `n` transfers holds its row at a token of its own. -/
def behind : sProp 𝕄 :=
  iprop((tbl.view.loc (c : Thread nD τ) ↦[tbl.view.set]{Transfers.shareDrop q n} f)
    ∗ bigSep Finset.univ fun t : Fin n => tbl.view.loc (c : Thread nD τ) ↦[tbl.view.set \ (tbl.view.slice (R t)).set]{Transfers.shareTokN q t} f)

/-- A table is its rows at their tokens and what stays behind. -/
theorem lend : (tbl.view.loc (c : Thread nD τ) ↦[tbl.view.set]{q} f : sProp 𝕄)
    = iprop((bigSep Finset.univ fun t : Fin n => tbl.view.loc (c : Thread nD τ) ↦[(tbl.view.slice (R t)).set]{Transfers.shareTokN q t} f)
        ∗ behind c tbl R q f) := by
  have h0 := Transfers.pointsTo_toks_range (Ix := Unit) (Name := ℕ) (U := Pipeline.UD sig nD τ) (Lvl := ℕ)
    (ℓ := tbl.view.loc (c : Thread nD τ)) (S := tbl.view.set) (f := f) q n
  have h1 := Idealize.SL.BI.Entails.antisymm h0.1 h0.2
  have h2 : BI.bigSep (Finset.range n) (fun i => (tbl.view.loc (c : Thread nD τ) ↦[tbl.view.set]{Transfers.shareTokN q i} f : sProp 𝕄))
      = BI.bigSep Finset.univ (fun t : Fin n => (tbl.view.loc (c : Thread nD τ) ↦[tbl.view.set]{Transfers.shareTokN q t} f : sProp 𝕄)) := by
    have := Ring.bigSep_rangeSet_eq_range (NB := n) (lo := 0) (hi := n)
      (Φ := fun t : Fin n => (tbl.view.loc (c : Thread nD τ) ↦[tbl.view.set]{Transfers.shareTokN q t} f : sProp 𝕄)) le_rfl
      (fun i => (tbl.view.loc (c : Thread nD τ) ↦[tbl.view.set]{Transfers.shareTokN q i} f : sProp 𝕄))
      (fun k h => by simp only [Nat.zero_add])
    rw [Ring.rangeSet_univ] at this
    rw [this, Nat.sub_zero]
  have h3 : BI.bigSep Finset.univ (fun t : Fin n => (tbl.view.loc (c : Thread nD τ) ↦[tbl.view.set]{Transfers.shareTokN q t} f : sProp 𝕄))
      = iprop(BI.bigSep Finset.univ (fun t : Fin n => (tbl.view.loc (c : Thread nD τ) ↦[(tbl.view.slice (R t)).set]{Transfers.shareTokN q t} f : sProp 𝕄))
        ∗ BI.bigSep Finset.univ (fun t : Fin n => (tbl.view.loc (c : Thread nD τ) ↦[tbl.view.set \ (tbl.view.slice (R t)).set]{Transfers.shareTokN q t} f : sProp 𝕄))) := by
    refine Eq.trans (BI.bigSep_congr fun t _ => ?_) (BI.bigSep_sep _ _ _)
    have := pointsTo_split_subset (Ix := Unit) (Name := ℕ) (U := Pipeline.UD sig nD τ) (Lvl := ℕ) (ℓ := tbl.view.loc (c : Thread nD τ))
      (q := Transfers.shareTokN q t) (f := f) (View.set_slice_subset (v := tbl.view) (R t))
    exact Idealize.SL.BI.Entails.antisymm this.1 this.2
  unfold behind
  rw [h1, h2, h3]
  exact swap3 _ _ _

/-- A buffer is its rows, when the rows are disjoint and make it up. -/
theorem rows_split (hd : ∀ t t', t ≠ t' → Disjoint (R t).set (R t').set) (hc : Finset.univ.biUnion (fun t => (R t).set) = Finset.univ) :
    (tbl.view.loc (c : Thread nD τ) ↦[tbl.view.set]{q} f : sProp 𝕄)
      = bigSep Finset.univ fun t : Fin n => tbl.view.loc (c : Thread nD τ) ↦[(tbl.view.slice (R t)).set]{q} f := by
  classical
  refine Ring.pointsTo_sub_blocks (ℓ := tbl.view.loc (c : Thread nD τ)) (fun t => (tbl.view.slice (R t)).set) (fun t t' h => ?_) tbl.view.set ?_ f
  · rw [View.set_slice, View.set_slice]; exact (Finset.disjoint_map _).mpr (hd t t' h)
  · ext y
    simp only [Finset.mem_biUnion, Finset.mem_univ, true_and]
    constructor
    · rintro ⟨t, ht⟩; exact View.set_slice_subset _ _ ht
    · intro hy
      obtain ⟨x, -, rfl⟩ := Finset.mem_map.mp hy
      have hx : x ∈ Finset.univ.biUnion (fun t => (R t).set) := hc ▸ Finset.mem_univ x
      obtain ⟨t, -, ht⟩ := Finset.mem_biUnion.mp hx
      exact ⟨t, by rw [View.set_slice]; exact Finset.mem_map_of_mem _ ht⟩

end Lend

/-- What a transfer of a row leaves on the row's elements is what the whole buffer holds there, once it holds every row. -/
theorem landed (c : Dev nD) {sd : Shape} {e : EltTy} {sp : Space} (m : Memref sig .tc sp sd e) (r : Rect sd)
    (f : Buf (Elt F) (m.view.loc (c : Thread nD τ))) (w : r.shape.Idx → Elt F e) (X : sd.Idx → Elt F e) (h : ∀ x, X (r.emb x) = w x) :
    ((m.view.loc (c : Thread nD τ)) ↦[(m.view.slice r).set]{fullShare} ((m.view.slice r).write (Elt F) f w Finset.univ) : sProp 𝕄)
      = (m.view.loc (c : Thread nD τ)) ↦[(m.view.slice r).set]{fullShare} (m.view.write (Elt F) f X Finset.univ) := by
  refine pointsTo_congr fun y hy => ?_
  obtain ⟨x, -, rfl⟩ := Finset.mem_map.mp hy
  refine (View.write_emb_of_mem (v := m.view.slice r) f w (Finset.mem_univ x)).trans ?_
  rw [show (m.view.slice r).emb x = m.view.emb (r.emb x) from rfl, View.write_emb_of_mem (v := m.view) f X (Finset.mem_univ _), h]

/-! ## Where the loops read and write -/

theorem trips1 : k0_t1_loop.trips = 256 := by decide +kernel
theorem trips2 : k0_t2_loop.trips = 256 := by decide +kernel

theorem off2_eq : ∀ t : Fin k0_t1_loop.trips, k0_off2 t = ![t.val, 0] := by decide +kernel
theorem off4_eq : ∀ t : Fin k0_t1_loop.trips, k0_off4 t = ![t.val, 0] := by decide +kernel
theorem off1_eq : ∀ t : Fin k0_t1_loop.trips, k0_off1 t = ![t.val / 128, t.val % 128] := by decide +kernel
theorem off6_eq : ∀ t : Fin k0_t2_loop.trips, k0_off6 t = ![t.val / 128, t.val % 128] := by decide +kernel

section Loops

variable (c : Dev nD) (A : Args) (i : grid0.Coords) (h : k0_cond1 i = 1#1) (I : S2x129.Idx → Elt F .i32)

/-- The id the trip `t` of the first loop reads, -/
def word (t : Fin k0_t1_loop.trips) : BitVec 32 :=
  I ((Rect.unit (s := S2x129) (k0_off1 t) S1x1.size (k0_off1_inb i t h)).emb (Shape.Idx.first (numel1_S1x1.symm ▸ Nat.one_pos)))

/-- and of the second. -/
def word2 (t : Fin k0_t2_loop.trips) : BitVec 32 :=
  I ((Rect.unit (s := S2x129) (k0_off6 t) S1x1.size (k0_off6_inb i t h)).emb (Shape.Idx.first (numel1_S1x1.symm ▸ Nat.one_pos)))

variable (hv : ∀ t, k0_chk1 i (word i h I t))

/-- The row of the code table a trip copies, -/
def src7 (t : Fin k0_t1_loop.trips) : Rect S37984x2560 :=
  Rect.unit (s := S37984x2560) (k0_off3 (word i h I t)) S1x2560.size (k0_off3_inb i (word i h I t) (hv t) h)
/-- of the scale table, -/
def src8 (t : Fin k0_t1_loop.trips) : Rect S151936x20 :=
  Rect.unit (s := S151936x20) (k0_off5 (word i h I t)) S1x20.size (k0_off5_inb i (word i h I t) (hv t) h)
/-- and where to. -/
def dst7 (t : Fin k0_t1_loop.trips) : Rect S256x2560 := Rect.unit (s := S256x2560) (k0_off2 t) S1x2560.size (k0_off2_inb i t h)
def dst8 (t : Fin k0_t1_loop.trips) : Rect S256x20 := Rect.unit (s := S256x20) (k0_off4 t) S1x20.size (k0_off4_inb i t h)

/-- The trip that fills a row. -/
def tripOf {n : Nat} (x : Fin 256) : Fin k0_t1_loop.trips := ⟨x.val, by rw [trips1]; exact x.isLt⟩

/-- A place in a row. -/
def lane7 (x : S256x2560.Idx) : S1x2560.Idx := fun a => ⟨![0, (x 1).val] a, by
  fin_cases a
  · exact Nat.one_pos
  · exact (x 1).isLt⟩
def lane8 (x : S256x20.Idx) : S1x20.Idx := fun a => ⟨![0, (x 1).val] a, by
  fin_cases a
  · exact Nat.one_pos
  · exact (x 1).isLt⟩

/-- The rows of the code table, -/
def rows7 (T : S37984x2560.Idx → Elt F .i32) : S256x2560.Idx → Elt F .i32 := fun x => T ((src7 i h I hv (tripOf (n := 0) (x 0))).emb (lane7 x))
/-- and of the scale table. -/
def rows8 (T : S151936x20.Idx → Elt F .f32) : S256x20.Idx → Elt F .f32 := fun x => T ((src8 i h I hv (tripOf (n := 0) (x 0))).emb (lane8 x))

theorem rows7_emb (T : S37984x2560.Idx → Elt F .i32) (t : Fin k0_t1_loop.trips) (x : S1x2560.Idx) :
    rows7 i h I hv T ((dst7 i h t).emb x) = T ((src7 i h I hv t).emb x) := by
  have e0 : tripOf (n := 0) ((dst7 i h t).emb x 0) = t := Fin.ext (by
    show k0_off2 t 0 + 1 * (x 0).val = t.val
    have : (x 0).val < 1 := (x 0).isLt
    rw [off2_eq]; show t.val + 1 * (x 0).val = _; omega)
  have e1 : lane7 ((dst7 i h t).emb x) = x := funext fun a => Fin.ext (by
    fin_cases a
    · have : (x 0).val < 1 := (x 0).isLt
      show 0 = (x 0).val; omega
    · show k0_off2 t 1 + 1 * (x 1).val = (x 1).val
      rw [off2_eq]; show 0 + 1 * (x 1).val = _; omega)
  unfold rows7; rw [e0, e1]

theorem rows8_emb (T : S151936x20.Idx → Elt F .f32) (t : Fin k0_t1_loop.trips) (x : S1x20.Idx) :
    rows8 i h I hv T ((dst8 i h t).emb x) = T ((src8 i h I hv t).emb x) := by
  have e0 : tripOf (n := 0) ((dst8 i h t).emb x 0) = t := Fin.ext (by
    show k0_off4 t 0 + 1 * (x 0).val = t.val
    have : (x 0).val < 1 := (x 0).isLt
    rw [off4_eq]; show t.val + 1 * (x 0).val = _; omega)
  have e1 : lane8 ((dst8 i h t).emb x) = x := funext fun a => Fin.ext (by
    fin_cases a
    · have : (x 0).val < 1 := (x 0).isLt
      show 0 = (x 0).val; omega
    · show k0_off4 t 1 + 1 * (x 1).val = (x 1).val
      rw [off4_eq]; show 0 + 1 * (x 1).val = _; omega)
  unfold rows8; rw [e0, e1]

/-- The two semaphores. -/
abbrev sem7 : SemLoc sig := .dma ((A.a21.slice (Rect.unit (s := S2) ![0] S1.size inb_S2_S1_0)).squeeze S_ squeezes_S1_S_).sem
abbrev sem8 : SemLoc sig := .dma ((A.a21.slice (Rect.unit (s := S2) ![1] S1.size inb_S2_S1_1)).squeeze S_ squeezes_S1_S_).sem

variable (q7 q8 : PosShare TreeShare) (f7 : Buf (Elt F) (A.a7.view.loc (c : Thread nD τ))) (f8 : Buf (Elt F) (A.a8.view.loc (c : Thread nD τ)))
  (g7 : Buf (Elt F) (A.a17.view.loc (c : Thread nD τ))) (g8 : Buf (Elt F) (A.a18.view.loc (c : Thread nD τ)))

/-- What a transfer of a code row delivers: the row, and the table's row back; -/
def got7 (t : Fin k0_t1_loop.trips) : sProp 𝕄 :=
  iprop((A.a17.view.loc (c : Thread nD τ) ↦[(A.a17.view.slice (dst7 i h t)).set]{fullShare}
      (A.a17.view.write (Elt F) g7 (rows7 i h I hv (A.a7.view.read (Elt F) f7)) Finset.univ))
    ∗ (A.a7.view.loc (c : Thread nD τ) ↦[(A.a7.view.slice (src7 i h I hv t)).set]{Transfers.shareTokN q7 t} f7))
/-- and of a scale row. -/
def got8 (t : Fin k0_t1_loop.trips) : sProp 𝕄 :=
  iprop((A.a18.view.loc (c : Thread nD τ) ↦[(A.a18.view.slice (dst8 i h t)).set]{fullShare}
      (A.a18.view.write (Elt F) g8 (rows8 i h I hv (A.a8.view.read (Elt F) f8)) Finset.univ))
    ∗ (A.a8.view.loc (c : Thread nD τ) ↦[(A.a8.view.slice (src8 i h I hv t)).set]{Transfers.shareTokN q8 t} f8))

instance (t) : Storable (upEmb : UEmb _ 𝕄) (got7 c A i h I hv q7 f7 g7 t) := by unfold got7; infer_instance
instance (t) : Storable (upEmb : UEmb _ 𝕄) (got8 c A i h I hv q8 f8 g8 t) := by unfold got8; infer_instance

/-- What the trip that starts them gives up. -/
def give (t : Fin k0_t1_loop.trips) : sProp 𝕄 :=
  iprop((A.a7.view.loc (c : Thread nD τ) ↦[(A.a7.view.slice (src7 i h I hv t)).set]{Transfers.shareTokN q7 t} f7)
    ∗ (A.a17.view.loc (c : Thread nD τ) ↦[(A.a17.view.slice (dst7 i h t)).set]{fullShare} g7)
    ∗ (A.a8.view.loc (c : Thread nD τ) ↦[(A.a8.view.slice (src8 i h I hv t)).set]{Transfers.shareTokN q8 t} f8)
    ∗ (A.a18.view.loc (c : Thread nD τ) ↦[(A.a18.view.slice (dst8 i h t)).set]{fullShare} g8))

/-- The credit of one row's transfer. -/
abbrev amt7 : Nat := A.a17.view.ref.dmaCredit S1x2560 .i32
abbrev amt8 : Nat := A.a18.view.ref.dmaCredit S1x20 .f32

theorem amt7_eq (A : Args) (i : grid0.Coords) (h : k0_cond1 i = 1#1) (t : Fin k0_t1_loop.trips) :
    (A.a17.slice (dst7 i h t) (fun _ => rfl)).view.amount (sem7 A) = amt7 A := rfl

theorem deliver7 (t : Fin k0_t1_loop.trips) :
    iprop((A.a17.view.loc (c : Thread nD τ) ↦[(A.a17.view.slice (dst7 i h t)).set]{fullShare}
        ((A.a17.view.slice (dst7 i h t)).write (Elt F) g7 (ReadAs.same.apply ((A.a7.view.slice (src7 i h I hv t)).read (Elt F) f7)) Finset.univ))
      ∗ (A.a7.view.loc (c : Thread nD τ) ↦[(A.a7.view.slice (src7 i h I hv t)).set]{Transfers.shareTokN q7 t} f7))
      ⊢ got7 c A i h I hv q7 f7 g7 t := by
  unfold got7
  exact Laws.sep_mono_left (Entails.of_eq (landed c A.a17 (dst7 i h t) g7 _ (rows7 i h I hv (A.a7.view.read (Elt F) f7)) (fun x => rows7_emb i h I hv _ t x)))

theorem amt8_eq (A : Args) (i : grid0.Coords) (h : k0_cond1 i = 1#1) (t : Fin k0_t1_loop.trips) :
    (A.a18.slice (dst8 i h t) (fun _ => rfl)).view.amount (sem8 A) = amt8 A := rfl

theorem deliver8 (t : Fin k0_t1_loop.trips) :
    iprop((A.a18.view.loc (c : Thread nD τ) ↦[(A.a18.view.slice (dst8 i h t)).set]{fullShare}
        ((A.a18.view.slice (dst8 i h t)).write (Elt F) g8 (ReadAs.same.apply ((A.a8.view.slice (src8 i h I hv t)).read (Elt F) f8)) Finset.univ))
      ∗ (A.a8.view.loc (c : Thread nD τ) ↦[(A.a8.view.slice (src8 i h I hv t)).set]{Transfers.shareTokN q8 t} f8))
      ⊢ got8 c A i h I hv q8 f8 g8 t := by
  unfold got8
  exact Laws.sep_mono_left (Entails.of_eq (landed c A.a18 (dst8 i h t) g8 _ (rows8 i h I hv (A.a8.view.read (Elt F) f8)) (fun x => rows8_emb i h I hv _ t x)))

/-- The two batches with `k` transfers started on each and `u` waited for. -/
def batches (k u : Nat) : sProp 𝕄 :=
  iprop(Transfers.Batch countersEmb (c : Thread nD τ) (sem7 A) () (amt7 A) (got7 c A i h I hv q7 f7 g7) k (u * amt7 A)
    ∗ Transfers.Batch countersEmb (c : Thread nD τ) (sem8 A) () (amt8 A) (got8 c A i h I hv q8 f8 g8) k (u * amt8 A))

/-- Before trip `k` of the first loop. -/
def issueInv (q1 : PosShare TreeShare) (k : Nat) (_ : Unit) : sProp 𝕄 :=
  iprop(owns (c : Thread nD τ) A.a1 q1 I ∗ batches c A i h I hv q7 q8 f7 f8 g7 g8 k 0
    ∗ bigSep (Transfers.pending k) (give c A i h I hv q7 q8 f7 f8 g7 g8))

theorem issue_step (q1 : PosShare TreeShare) (k : Fin k0_t1_loop.trips) (acc : Unit) :
    issueInv c A i h I hv q7 q8 f7 f8 g7 g8 q1 k acc ⊢ wp frame (wpE defs₀ Variants.none (c : Thread nD τ) none) Set.univ
      (k0_t1_body (F := F) i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 h k acc)
      (issueInv c A i h I hv q7 q8 f7 f8 g7 g8 q1 (k.val + 1)) := by
  unfold issueInv batches
  rw [Transfers.bigSep_pending_step _ k.val k.isLt]
  simp only [k0_t1_body, k0_part1_eq_skeleton, k0_part1_skel, smemLoad, smemLoadElt, Prog.lift, Prog.bind_op, Prog.bind_ret, bind_assoc]
  iintro ⟨H1, ⟨HB7, HB8⟩, Hg, Hp⟩
  unfold give
  icases Hg with ⟨Hs7, Hd7, Hs8, Hd8⟩
  iapply (Owns.wp_load Variants.none (c : Thread nD τ) none Set.univ (r := Rect.unit (s := S2x129) (k0_off1 k) S1x1.size (k0_off1_inb i k h))) $$ H1
  iintro H1
  iapply (wp_assume Variants.none (c : Thread nD τ) none Set.univ (hv k))
  iapply (Transfers.wp_dmaBatch countersEmb Variants.none (c : Thread nD τ) none
    (src := A.a7.slice (src7 i h I hv k) (fun _ => rfl)) (dst := A.a17.slice (dst7 i h k) (fun _ => rfl)) (via := .same) (sm := sem7 A)
    (D := got7 c A i h I hv q7 f7 g7) (fd := g7) (fs := f7) (q := Transfers.shareTokN q7 k) (Sd := (A.a17.view.slice (dst7 i h k)).set) (j := k.val) (u := 0 * amt7 A)
    () (amt7 A) (amt7_eq A i h k) (Finset.Subset.refl _) k.isLt (by rw [Nat.zero_mul]; exact Nat.zero_le _)
    (deliver7 c A i h I hv q7 f7 g7 k)) $$ [Hs7 Hd7 HB7]
  · isplitl [Hs7]; · iexact Hs7
    isplitl [Hd7] <;> iassumption
  iintro HB7
  iapply (Transfers.wp_dmaBatch countersEmb Variants.none (c : Thread nD τ) none
    (src := A.a8.slice (src8 i h I hv k) (fun _ => rfl)) (dst := A.a18.slice (dst8 i h k) (fun _ => rfl)) (via := .same) (sm := sem8 A)
    (D := got8 c A i h I hv q8 f8 g8) (fd := g8) (fs := f8) (q := Transfers.shareTokN q8 k) (Sd := (A.a18.view.slice (dst8 i h k)).set) (j := k.val) (u := 0 * amt8 A)
    () (amt8 A) (amt8_eq A i h k) (Finset.Subset.refl _) k.isLt (by rw [Nat.zero_mul]; exact Nat.zero_le _)
    (deliver8 c A i h I hv q8 f8 g8 k)) $$ [Hs8 Hd8 HB8]
  · isplitl [Hs8]; · iexact Hs8
    isplitl [Hd8] <;> iassumption
  iintro HB8
  sl_step
  isplitl [H1]; · iexact H1
  isplitl [HB7 HB8]
  · isplitl [HB7] <;> iassumption
  iexact Hp

/-- Before trip `k` of the second loop. -/
def drainInv (q1 : PosShare TreeShare) (k : Nat) (_ : Unit) : sProp 𝕄 :=
  iprop(owns (c : Thread nD τ) A.a1 q1 I ∗ batches c A i h I hv q7 q8 f7 f8 g7 g8 k0_t1_loop.trips k ∗ ∃ W, owes (c : Thread nD τ) 0 W)

theorem drain_step (hv2 : ∀ t, k0_chk2 i (word2 i h I t)) (q1 : PosShare TreeShare) (k : Fin k0_t2_loop.trips) (acc : Unit) :
    drainInv c A i h I hv q7 q8 f7 f8 g7 g8 q1 k acc ⊢ wp frame (wpE defs₀ Variants.none (c : Thread nD τ) none) Set.univ
      (k0_t2_body (F := F) i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 h 0#32 256#32 k acc)
      (drainInv c A i h I hv q7 q8 f7 f8 g7 g8 q1 (k.val + 1)) := by
  have hk : k.val < 256 := trips2 ▸ k.isLt
  unfold drainInv batches
  simp only [k0_t2_body, k0_part2_eq_skeleton, k0_part2_skel, smemLoad, smemLoadElt, Prog.lift, Prog.bind_op, Prog.bind_ret, bind_assoc]
  iintro ⟨H1, ⟨HB7, HB8⟩, ⟨%W, HO⟩⟩
  iapply (Owns.wp_load Variants.none (c : Thread nD τ) none Set.univ (r := Rect.unit (s := S2x129) (k0_off6 k) S1x1.size (k0_off6_inb i k h))) $$ H1
  iintro H1
  iapply (wp_assume Variants.none (c : Thread nD τ) none Set.univ (hv2 k))
  iapply (Transfers.wp_waitBatchMul countersEmb Variants.none (c : Thread nD τ) none
    (srcw := A.a7.slice (Rect.unit (s := S37984x2560) (k0_off8 (word2 i h I k)) S1x2560.size (k0_off8_inb i (word2 i h I k) (hv2 k) h)) (fun _ => rfl))
    (dstw := A.a17.slice (Rect.unit (s := S256x2560) (k0_off7 k) S1x2560.size (k0_off7_inb i k h)) (fun _ => rfl))
    (N := amt7 A) (D := got7 c A i h I hv q7 f7 g7) (j := k0_t1_loop.trips) (u := k.val * amt7 A)
    () 1 (Nat.one_mul _).symm (by have h1 := trips1; rw [Nat.one_mul, Nat.mul_comm, ← Nat.mul_succ]; exact Nat.mul_le_mul_left _ (by omega))) $$ [HB7 HO]
  · isplitl [HB7] <;> iassumption
  iintro ⟨HB7, HO⟩
  iapply (Transfers.wp_waitBatchMul countersEmb Variants.none (c : Thread nD τ) none
    (srcw := A.a8.slice (Rect.unit (s := S151936x20) (k0_off10 (word2 i h I k)) S1x20.size (k0_off10_inb i (word2 i h I k) (hv2 k) h)) (fun _ => rfl))
    (dstw := A.a18.slice (Rect.unit (s := S256x20) (k0_off9 k) S1x20.size (k0_off9_inb i k h)) (fun _ => rfl))
    (N := amt8 A) (D := got8 c A i h I hv q8 f8 g8) (j := k0_t1_loop.trips) (u := k.val * amt8 A)
    () 1 (Nat.one_mul _).symm (by have h1 := trips1; rw [Nat.one_mul, Nat.mul_comm, ← Nat.mul_succ]; exact Nat.mul_le_mul_left _ (by omega))) $$ [HB8 HO]
  · isplitl [HB8] <;> iassumption
  iintro ⟨HB8, HO⟩
  rw [Nat.one_mul, Nat.one_mul, ← Nat.succ_mul, ← Nat.succ_mul]
  sl_step
  isplitl [H1]; · iexact H1
  isplitl [HB7 HB8]
  · isplitl [HB7] <;> iassumption
  iexists _; iexact HO

theorem dst7_disjoint (t t') (ht : t ≠ t') : Disjoint (dst7 i h t).set (dst7 i h t').set :=
  Ring.lead_disjoint (s := S256x2560) (0 : Fin 2) 1 k0_off2 S1x2560.size (fun t => k0_off2_inb i t h)
    (fun t => by rw [off2_eq]; exact (Nat.one_mul _).symm) rfl t t' ht
theorem dst8_disjoint (t t') (ht : t ≠ t') : Disjoint (dst8 i h t).set (dst8 i h t').set :=
  Ring.lead_disjoint (s := S256x20) (0 : Fin 2) 1 k0_off4 S1x20.size (fun t => k0_off4_inb i t h)
    (fun t => by rw [off4_eq]; exact (Nat.one_mul _).symm) rfl t t' ht
theorem dst7_cover : Finset.univ.biUnion (fun t => (dst7 i h t).set) = Finset.univ :=
  Ring.lead_cover (s := S256x2560) (0 : Fin 2) 1 k0_off2 S1x2560.size (fun t => k0_off2_inb i t h)
    (fun t => by rw [off2_eq]; exact (Nat.one_mul _).symm) (fun t a ha => by rw [off2_eq]; fin_cases a <;> simp_all) rfl
    (fun a ha => by fin_cases a <;> simp_all) (by rw [trips1]; rfl)
theorem dst8_cover : Finset.univ.biUnion (fun t => (dst8 i h t).set) = Finset.univ :=
  Ring.lead_cover (s := S256x20) (0 : Fin 2) 1 k0_off4 S1x20.size (fun t => k0_off4_inb i t h)
    (fun t => by rw [off4_eq]; exact (Nat.one_mul _).symm) (fun t a ha => by rw [off4_eq]; fin_cases a <;> simp_all) rfl
    (fun a ha => by fin_cases a <;> simp_all) (by rw [trips1]; rfl)

theorem all_sep {n : Nat} (Φ Ψ : Fin n → sProp 𝕄) :
    bigSep Finset.univ (fun t => iprop(Φ t ∗ Ψ t)) = iprop(bigSep Finset.univ Φ ∗ bigSep Finset.univ Ψ) := BI.bigSep_sep _ _ _

/-- What the first loop leaves: everything in flight, and what stays behind of the tables. -/
def flying : sProp 𝕄 :=
  iprop(batches c A i h I hv q7 q8 f7 f8 g7 g8 k0_t1_loop.trips 0 ∗ behind c A.a7 (src7 i h I hv) q7 f7 ∗ behind c A.a8 (src8 i h I hv) q8 f8)

/-- All the deliveries of the rows: the buffer written, the table's rows back. -/
theorem collected7 : bigSep Finset.univ (got7 c A i h I hv q7 f7 g7)
    ⊢ iprop((A.a17.view.loc (c : Thread nD τ) ↦[A.a17.view.set]{fullShare} A.a17.view.write (Elt F) g7 (rows7 i h I hv (A.a7.view.read (Elt F) f7)) Finset.univ)
      ∗ bigSep Finset.univ (fun t => (A.a7.view.loc (c : Thread nD τ) ↦[(A.a7.view.slice (src7 i h I hv t)).set]{Transfers.shareTokN q7 t.val} f7))) := by
  rw [rows_split c A.a17 (dst7 i h) fullShare _ (dst7_disjoint i h) (dst7_cover i h)]
  exact Entails.of_eq (all_sep
    (fun t => (A.a17.view.loc (c : Thread nD τ) ↦[(A.a17.view.slice (dst7 i h t)).set]{fullShare} A.a17.view.write (Elt F) g7 (rows7 i h I hv (A.a7.view.read (Elt F) f7)) Finset.univ))
    (fun t => (A.a7.view.loc (c : Thread nD τ) ↦[(A.a7.view.slice (src7 i h I hv t)).set]{Transfers.shareTokN q7 t.val} f7)))
/-- All the deliveries of the scales: the buffer written, the table's rows back. -/
theorem collected8 : bigSep Finset.univ (got8 c A i h I hv q8 f8 g8)
    ⊢ iprop((A.a18.view.loc (c : Thread nD τ) ↦[A.a18.view.set]{fullShare} A.a18.view.write (Elt F) g8 (rows8 i h I hv (A.a8.view.read (Elt F) f8)) Finset.univ)
      ∗ bigSep Finset.univ (fun t => (A.a8.view.loc (c : Thread nD τ) ↦[(A.a8.view.slice (src8 i h I hv t)).set]{Transfers.shareTokN q8 t.val} f8))) := by
  rw [rows_split c A.a18 (dst8 i h) fullShare _ (dst8_disjoint i h) (dst8_cover i h)]
  exact Entails.of_eq (all_sep
    (fun t => (A.a18.view.loc (c : Thread nD τ) ↦[(A.a18.view.slice (dst8 i h t)).set]{fullShare} A.a18.view.write (Elt F) g8 (rows8 i h I hv (A.a8.view.read (Elt F) f8)) Finset.univ))
    (fun t => (A.a8.view.loc (c : Thread nD τ) ↦[(A.a8.view.slice (src8 i h I hv t)).set]{Transfers.shareTokN q8 t.val} f8)))

/-- The loop that starts the transfers, -/
theorem wp_issue {Q : PUnit → sProp 𝕄} (q1 : PosShare TreeShare) (k : P F) :
    iprop((semVal ((c : Thread nD τ), sem7 A) 0 ∗ semVal ((c : Thread nD τ), sem8 A) 0) ∗ owns (c : Thread nD τ) A.a1 q1 I
      ∗ (A.a7.view.loc (c : Thread nD τ) ↦[A.a7.view.set]{q7} f7) ∗ (A.a8.view.loc (c : Thread nD τ) ↦[A.a8.view.set]{q8} f8)
      ∗ (A.a17.view.loc (c : Thread nD τ) ↦[A.a17.view.set]{fullShare} g7) ∗ (A.a18.view.loc (c : Thread nD τ) ↦[A.a18.view.set]{fullShare} g8))
    ⊢ iprop((owns (c : Thread nD τ) A.a1 q1 I -∗ flying c A i h I hv q7 q8 f7 f8 g7 g8 -∗ wp frame (wpE defs₀ Variants.none (c : Thread nD τ) none) Set.univ k Q)
      -∗ wp frame (wpE defs₀ Variants.none (c : Thread nD τ) none) Set.univ (issue A i h >>= fun _ => k) Q) := by
  rw [lend c A.a7 (src7 i h I hv) q7 f7, lend c A.a8 (src8 i h I hv) q8 f8,
    rows_split c A.a17 (dst7 i h) fullShare g7 (dst7_disjoint i h) (dst7_cover i h),
    rows_split c A.a18 (dst8 i h) fullShare g8 (dst8_disjoint i h) (dst8_cover i h)]
  iintro ⟨⟨Hv7, Hv8⟩, H1, ⟨Hs7, Hr7⟩, ⟨Hs8, Hr8⟩, Hd7, Hd8⟩ Hk
  imod (Transfers.batch_alloc' countersEmb (c : Thread nD τ) () (amt7 A) (got7 c A i h I hv q7 f7 g7) (sm := sem7 A) (E := Set.univ)) $$ Hv7 with HB7
  imod (Transfers.batch_alloc' countersEmb (c : Thread nD τ) () (amt8 A) (got8 c A i h I hv q8 f8 g8) (sm := sem8 A) (E := Set.univ)) $$ Hv8 with HB8
  unfold issue
  iapply (Scf.wp_for_bind frame (wpE defs₀ Variants.none (c : Thread nD τ) none) Set.univ _ _ _ _ _ _ (issueInv c A i h I hv q7 q8 f7 f8 g7 g8 q1)
    (issue_step c A i h I hv q7 q8 f7 f8 g7 g8 q1)) $$ [H1 HB7 HB8 Hs7 Hs8 Hd7 Hd8]
  · unfold issueInv batches
    isplitl [H1]; · iexact H1
    isplitl [HB7 HB8]
    · rw [Nat.zero_mul, Nat.zero_mul]; isplitl [HB7] <;> iassumption
    rw [Transfers.pending_zero]
    unfold give
    rw [all_sep, all_sep, all_sep]
    isplitl [Hs7]; · iexact Hs7
    isplitl [Hd7]; · iexact Hd7
    isplitl [Hs8] <;> iassumption
  iintro %acc HL
  unfold issueInv flying
  icases HL with ⟨H1, HB, -⟩
  iapply Hk $$ H1
  isplitl [HB]; · iexact HB
  isplitl [Hr7] <;> iassumption

/-- and the one that waits for them: the row buffers hold the rows, the tables and the semaphores are back. -/
theorem wp_drain {Q : PUnit → sProp 𝕄} (hv2 : ∀ t, k0_chk2 i (word2 i h I t)) (q1 : PosShare TreeShare) (k : P F) :
    iprop(owns (c : Thread nD τ) A.a1 q1 I ∗ flying c A i h I hv q7 q8 f7 f8 g7 g8 ∗ ∃ W, owes (c : Thread nD τ) 0 W)
    ⊢ iprop((owns (c : Thread nD τ) A.a1 q1 I
        -∗ (semVal ((c : Thread nD τ), sem7 A) 0 ∗ semVal ((c : Thread nD τ), sem8 A) 0)
        -∗ (A.a7.view.loc (c : Thread nD τ) ↦[A.a7.view.set]{q7} f7) -∗ (A.a8.view.loc (c : Thread nD τ) ↦[A.a8.view.set]{q8} f8)
        -∗ owns (c : Thread nD τ) A.a17 fullShare (rows7 i h I hv (A.a7.view.read (Elt F) f7))
        -∗ owns (c : Thread nD τ) A.a18 fullShare (rows8 i h I hv (A.a8.view.read (Elt F) f8))
        -∗ (∃ W, owes (c : Thread nD τ) 0 W)
        -∗ wp frame (wpE defs₀ Variants.none (c : Thread nD τ) none) Set.univ k Q)
      -∗ wp frame (wpE defs₀ Variants.none (c : Thread nD τ) none) Set.univ (drain A i h >>= fun _ => k) Q) := by
  iintro ⟨H1, Hf, HO⟩ Hk
  unfold flying
  icases Hf with ⟨HB, Hr7, Hr8⟩
  unfold drain
  iapply (Scf.wp_for_bind frame (wpE defs₀ Variants.none (c : Thread nD τ) none) Set.univ _ _ _ _ _ _ (drainInv c A i h I hv q7 q8 f7 f8 g7 g8 q1)
    (drain_step c A i h I hv q7 q8 f7 f8 g7 g8 hv2 q1)) $$ [H1 HB HO]
  · unfold drainInv
    isplitl [H1]; · iexact H1
    isplitl [HB] <;> iassumption
  iintro %acc HL
  unfold drainInv batches
  rw [show Scf.trips k0_t2_loop.lb k0_t2_loop.ub k0_t2_loop.st = k0_t1_loop.trips from trips2.trans trips1.symm,
    Nat.mul_comm _ (amt7 A), Nat.mul_comm _ (amt8 A)]
  icases HL with ⟨H1, ⟨HB7, HB8⟩, HO⟩
  imod (Transfers.batch_collect' countersEmb (c : Thread nD τ) (sm := sem7 A) (ι := ()) (N := amt7 A)
    (View.amount_pos (A.a17.slice (dst7 i h ⟨0, by rw [trips1]; decide⟩) (fun _ => rfl)).view (sem7 A) (show 0 < S1x2560.numel by decide)) (D := got7 c A i h I hv q7 f7 g7)) $$ HB7 with ⟨HD7, Hv7⟩
  imod (Transfers.batch_collect' countersEmb (c : Thread nD τ) (sm := sem8 A) (ι := ()) (N := amt8 A)
    (View.amount_pos (A.a18.slice (dst8 i h ⟨0, by rw [trips1]; decide⟩) (fun _ => rfl)).view (sem8 A) (show 0 < S1x20.numel by decide)) (D := got8 c A i h I hv q8 f8 g8)) $$ HB8 with ⟨HD8, Hv8⟩
  ihave HD7 := (collected7 c A i h I hv q7 f7 g7) $$ HD7
  ihave HD8 := (collected8 c A i h I hv q8 f8 g8) $$ HD8
  icases HD7 with ⟨Hd7, Hs7⟩
  icases HD8 with ⟨Hd8, Hs8⟩
  iapply Hk $$ H1 [Hv7 Hv8] [Hs7 Hr7] [Hs8 Hr8] [Hd7] [Hd8] HO
  · isplitl [Hv7] <;> iassumption
  · rw [lend c A.a7 (src7 i h I hv) q7 f7]; isplitl [Hs7]
    · iexact Hs7
    · iexact Hr7
  · rw [lend c A.a8 (src8 i h I hv) q8 f8]; isplitl [Hs8]
    · iexact Hs8
    · iexact Hr8
  · unfold owns; iexists A.a17.view.write (Elt F) g7 (rows7 i h I hv (A.a7.view.read (Elt F) f7)) Finset.univ; isplitr
    · ipureintro; exact View.read_write_univ (v := A.a17.view) (Val := Elt F) g7 (rows7 i h I hv (A.a7.view.read (Elt F) f7))
    · iexact Hd7
  · unfold owns; iexists A.a18.view.write (Elt F) g8 (rows8 i h I hv (A.a8.view.read (Elt F) f8)) Finset.univ; isplitr
    · ipureintro; exact View.read_write_univ (v := A.a18.view) (Val := Elt F) g8 (rows8 i h I hv (A.a8.view.read (Elt F) f8))
    · iexact Hd8

end Loops

end Cert.Front.Layer

end
-- ==== Proof.Front.Body.lean ====
/- The front kernel's body as a triple: from the buffers it is handed, whatever the ones it writes hold, each grid point runs
   to its end, leaves the ones it reads as they were and hands all of them back. -/
module

public import proofs.«01_k».proof.Proof.Front.Rows

@[expose] public section

set_option maxRecDepth 16384

noncomputable section

namespace Cert.Front.Layer

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Front Cert.Front.Gen

variable {F : FTy → Type} [FloatOps F]

local notation "𝕄" => MT nD τ sig Unit (Elt F) ℕ (Pipeline.UD sig nD τ) ℕ

/-! ## Buffers at any contents -/

section Hold
variable (c : Dev nD) {cs : CoreSpace} {s : Shape} {e : EltTy}

/-- A buffer owned, whatever it holds. -/
def hold (m : Memref sig .tc cs s e) : sProp 𝕄 := iprop(∃ X, owns (c : Thread nD τ) m fullShare X)

/-- A load of it goes on whatever it reads, -/
theorem wp_load_hold {Q : PUnit → sProp 𝕄} {m : Memref sig .tc cs s e} {r : Rect s} {hl : m.view.LoadsAt r}
    {k : (r.shape.Idx → Elt F e) → P F} :
    (hold c m : sProp 𝕄) ⊢ iprop((∀ v, hold c m -∗ wp frame (wpE (defs₀ (F := F)) Variants.none (c : Thread nD τ) none) Set.univ (k v) Q) -∗ wp frame (wpE (defs₀ (F := F)) Variants.none (c : Thread nD τ) none) Set.univ (.op (.load m r hl) k) Q) := by
  unfold hold
  iintro ⟨%X, H⟩ Hk
  iapply (Owns.wp_load Variants.none (c : Thread nD τ) none Set.univ (r := r)) $$ H
  iintro H
  iapply Hk $$ %_
  iexists X; iexact H

/-- and a store into it hands it back. -/
theorem wp_store_hold {Q : PUnit → sProp 𝕄} {m : Memref sig .tc cs s e} {r : Rect s} {w : r.shape.Idx → Elt F e}
    {hx : (m.access r).Stores Finset.univ} {hm : Finset.univ = Finset.univ ∨ ∀ a, r.stride a = 1} {k : PUnit → P F} :
    (hold c m : sProp 𝕄) ⊢ iprop((hold c m -∗ wp frame (wpE (defs₀ (F := F)) Variants.none (c : Thread nD τ) none) Set.univ (k ⟨⟩) Q) -∗ wp frame (wpE (defs₀ (F := F)) Variants.none (c : Thread nD τ) none) Set.univ (.op (.store m r w Finset.univ hx hm) k) Q) := by
  unfold hold
  iintro ⟨%X, H⟩ Hk
  iapply (Owns.wp_store Variants.none (c : Thread nD τ) none Set.univ (r := r) (hx := hx) (hm := hm) (w := w)) $$ H
  iintro %Y %hY H
  iapply Hk
  iexists Y; iexact H

end Hold

/-! ## The repeated steps -/

section Steps
variable (c : Dev nD) (A : Args)

/-- The buffers the first point writes its groups to, -/
def outX : sProp 𝕄 := iprop(hold c A.a12 ∗ hold c A.a13 ∗ hold c A.a19)
/-- and the last one. -/
def outY : sProp 𝕄 := iprop(hold c A.a14 ∗ hold c A.a15 ∗ hold c A.a16)

theorem wp_emitX (K : PUnit.{1} → sProp 𝕄) (n : Nat) (hn : n < 40) (x : FVec F S256x128 .f32) (k : P F) :
    iprop(outX c A ∗ (outX c A -∗ wp frame (wpE (defs₀ (F := F)) Variants.none (c : Thread nD τ) none) Set.univ k K)) ⊢ wp frame (wpE (defs₀ (F := F)) Variants.none (c : Thread nD τ) none) Set.univ (emitX A n hn x k) K := by
  unfold emitX outX
  simp only [Prog.lift, Prog.bind_op, Prog.bind_ret]
  iintro ⟨⟨H12, H13, H19⟩, Hk⟩
  iapply (wp_load_hold c) $$ H12
  iintro %v H12
  iapply (wp_store_hold c) $$ H12
  iintro H12
  iapply (wp_load_hold c) $$ H19
  iintro %v H19
  iapply (wp_store_hold c) $$ H19
  iintro H19
  iapply (wp_load_hold c) $$ H13
  iintro %v H13
  iapply (wp_store_hold c) $$ H13
  iintro H13
  iapply Hk
  isplitl [H12]; · iexact H12
  isplitl [H13]; · iexact H13
  iexact H19

theorem wp_emitY (K : PUnit.{1} → sProp 𝕄) (n : Nat) (hn : n < 20) (x : FVec F S256x128 .f32) (k : P F) :
    iprop(outY c A ∗ (outY c A -∗ wp frame (wpE (defs₀ (F := F)) Variants.none (c : Thread nD τ) none) Set.univ k K)) ⊢ wp frame (wpE (defs₀ (F := F)) Variants.none (c : Thread nD τ) none) Set.univ (emitY A n hn x k) K := by
  unfold emitY outY
  simp only [Prog.lift, Prog.bind_op, Prog.bind_ret]
  iintro ⟨⟨H14, H15, H16⟩, Hk⟩
  iapply (wp_load_hold c) $$ H14
  iintro %v H14
  iapply (wp_store_hold c) $$ H14
  iintro H14
  iapply (wp_load_hold c) $$ H16
  iintro %v H16
  iapply (wp_store_hold c) $$ H16
  iintro H16
  iapply (wp_load_hold c) $$ H15
  iintro %v H15
  iapply (wp_store_hold c) $$ H15
  iintro H15
  iapply Hk
  isplitl [H14]; · iexact H14
  isplitl [H15]; · iexact H15
  iexact H16

theorem wp_sumH (K : PUnit.{1} → sProp 𝕄) (X3 : S256x2560.Idx → Elt F .bf16) (k : FVec F S256x128 .f32 → P F) (f : Nat) : ∀ acc,
    iprop(iprop(owns (c : Thread nD τ) A.a3 fullShare X3) ∗ (∀ acc, iprop(owns (c : Thread nD τ) A.a3 fullShare X3) -∗ wp frame (wpE (defs₀ (F := F)) Variants.none (c : Thread nD τ) none) Set.univ (k acc) K)) ⊢ wp frame (wpE (defs₀ (F := F)) Variants.none (c : Thread nD τ) none) Set.univ (sumH A k f acc) K := by
  induction f with
  | zero =>
    intro acc
    iintro ⟨H, Hk⟩
    iapply Hk $$ %acc
    iexact H
  | succ f ih =>
    intro acc
    unfold sumH
    simp only [Prog.lift, Prog.bind_op, Prog.bind_ret]
    iintro ⟨H3, Hk⟩
    iapply (Owns.wp_load Variants.none (c : Thread nD τ) none Set.univ) $$ H3
    iintro H3
    iapply (Owns.wp_load Variants.none (c : Thread nD τ) none Set.univ) $$ H3
    iintro H3
    iapply (ih _)
    isplitr [Hk]
    · iexact H3
    · iexact Hk

theorem wp_groupsH (K : PUnit.{1} → sProp 𝕄) (X3 : S256x2560.Idx → Elt F .bf16) (X4 : S1x2560.Idx → Elt F .f32) (r : FVec F S256x1 .f32) (k : P F) (f : Nat) :
    iprop(iprop(owns (c : Thread nD τ) A.a3 fullShare X3 ∗ owns (c : Thread nD τ) A.a4 fullShare X4 ∗ outX c A) ∗ (iprop(owns (c : Thread nD τ) A.a3 fullShare X3 ∗ owns (c : Thread nD τ) A.a4 fullShare X4 ∗ outX c A) -∗ wp frame (wpE (defs₀ (F := F)) Variants.none (c : Thread nD τ) none) Set.univ k K)) ⊢ wp frame (wpE (defs₀ (F := F)) Variants.none (c : Thread nD τ) none) Set.univ (groupsH A r k f) K := by
  induction f with
  | zero =>
    iintro ⟨H, Hk⟩
    iapply Hk
    iexact H
  | succ f ih =>
    unfold groupsH
    simp only [Prog.lift, Prog.bind_op, Prog.bind_ret]
    iintro ⟨⟨H3, H4, HO⟩, Hk⟩
    iapply (Owns.wp_load Variants.none (c : Thread nD τ) none Set.univ) $$ H3
    iintro H3
    iapply (Owns.wp_load Variants.none (c : Thread nD τ) none Set.univ) $$ H4
    iintro H4
    iapply (wp_emitX c A K)
    isplitl [HO]; · iexact HO
    iintro HO
    iapply ih
    isplitr [Hk]
    · isplitl [H3]; · iexact H3
      isplitl [H4]; · iexact H4
      iexact HO
    · iexact Hk

theorem wp_sumE (K : PUnit.{1} → sProp 𝕄) (sh : IVec S256x128 32) (k : FVec F S256x128 .f32 → P F) (f : Nat) : ∀ acc,
    iprop(iprop(hold c A.a17 ∗ hold c A.a18) ∗ (∀ acc, iprop(hold c A.a17 ∗ hold c A.a18) -∗ wp frame (wpE (defs₀ (F := F)) Variants.none (c : Thread nD τ) none) Set.univ (k acc) K)) ⊢ wp frame (wpE (defs₀ (F := F)) Variants.none (c : Thread nD τ) none) Set.univ (sumE A sh k f acc) K := by
  induction f with
  | zero =>
    intro acc
    iintro ⟨H, Hk⟩
    iapply Hk $$ %acc
    iexact H
  | succ f ih =>
    intro acc
    unfold sumE
    simp only [Prog.lift, Prog.bind_op, Prog.bind_ret]
    iintro ⟨⟨H17, H18⟩, Hk⟩
    iapply (wp_load_hold c) $$ H17
    iintro %v H17
    iapply (wp_load_hold c) $$ H18
    iintro %v H18
    iapply (wp_load_hold c) $$ H17
    iintro %v H17
    iapply (wp_load_hold c) $$ H18
    iintro %v H18
    iapply (ih _)
    isplitr [Hk]
    · isplitl [H17]; · iexact H17
      iexact H18
    · iexact Hk

theorem wp_groupsE (K : PUnit.{1} → sProp 𝕄) (X5 : S1x2560.Idx → Elt F .f32) (sh : IVec S256x128 32) (r : FVec F S256x1 .f32) (k : P F) (f : Nat) :
    iprop(iprop(hold c A.a17 ∗ hold c A.a18 ∗ owns (c : Thread nD τ) A.a5 fullShare X5 ∗ outX c A) ∗ (iprop(hold c A.a17 ∗ hold c A.a18 ∗ owns (c : Thread nD τ) A.a5 fullShare X5 ∗ outX c A) -∗ wp frame (wpE (defs₀ (F := F)) Variants.none (c : Thread nD τ) none) Set.univ k K)) ⊢ wp frame (wpE (defs₀ (F := F)) Variants.none (c : Thread nD τ) none) Set.univ (groupsE A sh r k f) K := by
  induction f with
  | zero =>
    iintro ⟨H, Hk⟩
    iapply Hk
    iexact H
  | succ f ih =>
    unfold groupsE
    simp only [Prog.lift, Prog.bind_op, Prog.bind_ret]
    iintro ⟨⟨H17, H18, H5, HO⟩, Hk⟩
    iapply (wp_load_hold c) $$ H17
    iintro %v H17
    iapply (wp_load_hold c) $$ H18
    iintro %v H18
    iapply (Owns.wp_load Variants.none (c : Thread nD τ) none Set.univ) $$ H5
    iintro H5
    iapply (wp_emitX c A K)
    isplitl [HO]; · iexact HO
    iintro HO
    iapply ih
    isplitr [Hk]
    · isplitl [H17]; · iexact H17
      isplitl [H18]; · iexact H18
      isplitl [H5]; · iexact H5
      iexact HO
    · iexact Hk

theorem wp_sumY (K : PUnit.{1} → sProp 𝕄) (k : FVec F S256x128 .f32 → P F) (f : Nat) : ∀ acc,
    iprop(iprop(hold c A.a20) ∗ (∀ acc, iprop(hold c A.a20) -∗ wp frame (wpE (defs₀ (F := F)) Variants.none (c : Thread nD τ) none) Set.univ (k acc) K)) ⊢ wp frame (wpE (defs₀ (F := F)) Variants.none (c : Thread nD τ) none) Set.univ (sumY A k f acc) K := by
  induction f with
  | zero =>
    intro acc
    iintro ⟨H, Hk⟩
    iapply Hk $$ %acc
    iexact H
  | succ f ih =>
    intro acc
    unfold sumY
    simp only [Prog.lift, Prog.bind_op, Prog.bind_ret]
    iintro ⟨H20, Hk⟩
    iapply (wp_load_hold c) $$ H20
    iintro %v H20
    iapply (wp_load_hold c) $$ H20
    iintro %v H20
    iapply (ih _)
    isplitr [Hk]
    · iexact H20
    · iexact Hk

theorem wp_groupsY (K : PUnit.{1} → sProp 𝕄) (X6 : S1x2560.Idx → Elt F .f32) (r : FVec F S256x1 .f32) (k : P F) (f : Nat) :
    iprop(iprop(hold c A.a20 ∗ hold c A.a11 ∗ owns (c : Thread nD τ) A.a6 fullShare X6 ∗ outY c A) ∗ (iprop(hold c A.a20 ∗ hold c A.a11 ∗ owns (c : Thread nD τ) A.a6 fullShare X6 ∗ outY c A) -∗ wp frame (wpE (defs₀ (F := F)) Variants.none (c : Thread nD τ) none) Set.univ k K)) ⊢ wp frame (wpE (defs₀ (F := F)) Variants.none (c : Thread nD τ) none) Set.univ (groupsY A r k f) K := by
  induction f with
  | zero =>
    iintro ⟨H, Hk⟩
    iapply Hk
    iexact H
  | succ f ih =>
    unfold groupsY
    simp only [Prog.lift, Prog.bind_op, Prog.bind_ret]
    iintro ⟨⟨H20, H11, H6, HO⟩, Hk⟩
    iapply (wp_load_hold c) $$ H20
    iintro %v H20
    iapply (wp_load_hold c) $$ H11
    iintro %v H11
    iapply (wp_store_hold c) $$ H11
    iintro H11
    iapply (Owns.wp_load Variants.none (c : Thread nD τ) none Set.univ) $$ H6
    iintro H6
    iapply (wp_emitY c A K)
    isplitl [HO]; · iexact HO
    iintro HO
    iapply ih
    isplitr [Hk]
    · isplitl [H20]; · iexact H20
      isplitl [H11]; · iexact H11
      isplitl [H6]; · iexact H6
      iexact HO
    · iexact Hk

theorem wp_weights (K : PUnit.{1} → sProp 𝕄) (X9 : S5120x256.Idx → Elt F .fp8e4m3) (X10 : S40x20.Idx → Elt F .f32) (i : grid0.Coords) (k : (l : List (FVec F S128x256 .bf16)) → l.length + 0 = 40 → P F) (f : Nat) (hf : f ≤ 40) : ∀ l hl,
    iprop(iprop(owns (c : Thread nD τ) A.a9 fullShare X9 ∗ owns (c : Thread nD τ) A.a10 fullShare X10) ∗ (∀ l, ∀ hl, iprop(owns (c : Thread nD τ) A.a9 fullShare X9 ∗ owns (c : Thread nD τ) A.a10 fullShare X10) -∗ wp frame (wpE (defs₀ (F := F)) Variants.none (c : Thread nD τ) none) Set.univ (k l hl) K)) ⊢ wp frame (wpE (defs₀ (F := F)) Variants.none (c : Thread nD τ) none) Set.univ (weights A i k f hf l hl) K := by
  induction f with
  | zero =>
    intro l hl
    iintro ⟨H, Hk⟩
    iapply Hk $$ %l %hl
    iexact H
  | succ f ih =>
    intro l hl
    unfold weights
    simp only [smemLoad, smemLoadElt, Prog.lift, Prog.bind_op, Prog.bind_ret, bind_assoc]
    iintro ⟨⟨H9, H10⟩, Hk⟩
    iapply (Owns.wp_load Variants.none (c : Thread nD τ) none Set.univ) $$ H10
    iintro H10
    iapply (Owns.wp_load Variants.none (c : Thread nD τ) none Set.univ) $$ H9
    iintro H9
    iapply (Owns.wp_load Variants.none (c : Thread nD τ) none Set.univ) $$ H10
    iintro H10
    iapply (Owns.wp_load Variants.none (c : Thread nD τ) none Set.univ) $$ H9
    iintro H9
    iapply (ih (by omega) _ _)
    isplitr [Hk]
    · isplitl [H9]; · iexact H9
      iexact H10
    · iexact Hk

/-- A tile's work. -/
theorem wp_tile (K : PUnit.{1} → sProp 𝕄) (X9 : S5120x256.Idx → Elt F .fp8e4m3) (X10 : S40x20.Idx → Elt F .f32) (i : grid0.Coords) (k : P F) :
    iprop(iprop(owns (c : Thread nD τ) A.a9 fullShare X9 ∗ owns (c : Thread nD τ) A.a10 fullShare X10 ∗ hold c A.a19 ∗ hold c A.a20) ∗ (iprop(owns (c : Thread nD τ) A.a9 fullShare X9 ∗ owns (c : Thread nD τ) A.a10 fullShare X10 ∗ hold c A.a19 ∗ hold c A.a20) -∗ wp frame (wpE (defs₀ (F := F)) Variants.none (c : Thread nD τ) none) Set.univ k K)) ⊢ wp frame (wpE (defs₀ (F := F)) Variants.none (c : Thread nD τ) none) Set.univ (tile A i k) K := by
  unfold tile
  iintro ⟨⟨H9, H10, H19, H20⟩, Hk⟩
  iapply (wp_weights c A K X9 X10 i _ 40 (le_refl _) [] rfl)
  isplitl [H9 H10]
  · isplitl [H9]; · iexact H9
    iexact H10
  iintro %l %hl ⟨H9, H10⟩
  unfold product
  simp only [Prog.lift, Prog.bind_op, Prog.bind_ret]
  iapply (wp_load_hold c) $$ H19
  iintro %v H19
  iapply (wp_load_hold c) $$ H20
  iintro %v H20
  iapply (wp_store_hold c) $$ H20
  iintro H20
  iapply Hk
  isplitl [H9]; · iexact H9
  isplitl [H10]; · iexact H10
  isplitl [H19]; · iexact H19
  iexact H20

/-- The last point's work on the projection. -/
theorem wp_final (K : PUnit.{1} → sProp 𝕄) (X6 : S1x2560.Idx → Elt F .f32) :
    iprop(iprop(hold c A.a20 ∗ hold c A.a11 ∗ owns (c : Thread nD τ) A.a6 fullShare X6 ∗ outY c A) ∗ (iprop(hold c A.a20 ∗ hold c A.a11 ∗ owns (c : Thread nD τ) A.a6 fullShare X6 ∗ outY c A) -∗ K ⟨⟩)) ⊢ wp frame (wpE (defs₀ (F := F)) Variants.none (c : Thread nD τ) none) Set.univ (final A) K := by
  unfold final
  iintro ⟨⟨H20, H11, H6, HO⟩, Hk⟩
  iapply (wp_sumY c A K _ 20 _)
  isplitl [H20]; · iexact H20
  iintro %acc H20
  iapply (wp_groupsY c A K X6 _ _ 20)
  isplitr [Hk]
  · isplitl [H20]; · iexact H20
    isplitl [H11]; · iexact H11
    isplitl [H6]; · iexact H6
    iexact HO
  iintro H
  sl_step
  iapply Hk
  iexact H

/-- The hidden state's quantization. -/
theorem wp_hide (K : PUnit.{1} → sProp 𝕄) (X3 : S256x2560.Idx → Elt F .bf16) (X4 : S1x2560.Idx → Elt F .f32) (k : P F) : iprop(iprop(owns (c : Thread nD τ) A.a3 fullShare X3 ∗ owns (c : Thread nD τ) A.a4 fullShare X4 ∗ outX c A) ∗ (iprop(owns (c : Thread nD τ) A.a3 fullShare X3 ∗ owns (c : Thread nD τ) A.a4 fullShare X4 ∗ outX c A) -∗ wp frame (wpE (defs₀ (F := F)) Variants.none (c : Thread nD τ) none) Set.univ k K)) ⊢ wp frame (wpE (defs₀ (F := F)) Variants.none (c : Thread nD τ) none) Set.univ (hide A k) K := by
  unfold hide
  iintro ⟨⟨H3, H4, HO⟩, Hk⟩
  iapply (wp_sumH c A K X3 _ 20 _)
  isplitl [H3]; · iexact H3
  iintro %acc H3
  iapply (wp_groupsH c A K X3 X4 _ _ 20)
  isplitr [Hk]
  · isplitl [H3]; · iexact H3
    isplitl [H4]; · iexact H4
    iexact HO
  iexact Hk

/-- The embedding rows' quantization. -/
theorem wp_embed (K : PUnit.{1} → sProp 𝕄) (X2 : S2x129.Idx → Elt F .i32) (X5 : S1x2560.Idx → Elt F .f32) (k : P F) : iprop(iprop(owns (c : Thread nD τ) A.a2 fullShare X2 ∗ hold c A.a17 ∗ hold c A.a18 ∗ owns (c : Thread nD τ) A.a5 fullShare X5 ∗ outX c A) ∗ (iprop(owns (c : Thread nD τ) A.a2 fullShare X2 ∗ hold c A.a17 ∗ hold c A.a18 ∗ owns (c : Thread nD τ) A.a5 fullShare X5 ∗ outX c A) -∗ wp frame (wpE (defs₀ (F := F)) Variants.none (c : Thread nD τ) none) Set.univ k K)) ⊢ wp frame (wpE (defs₀ (F := F)) Variants.none (c : Thread nD τ) none) Set.univ (embed A k) K := by
  unfold embed
  simp only [Prog.lift, Prog.bind_op, Prog.bind_ret]
  iintro ⟨⟨H2, H17, H18, H5, HO⟩, Hk⟩
  iapply (Owns.wp_load Variants.none (c : Thread nD τ) none Set.univ) $$ H2
  iintro H2
  iapply (Owns.wp_load Variants.none (c : Thread nD τ) none Set.univ) $$ H2
  iintro H2
  iapply (wp_sumE c A K _ _ 20 _)
  isplitl [H17 H18]
  · isplitl [H17]; · iexact H17
    iexact H18
  iintro %acc ⟨H17, H18⟩
  iapply (wp_groupsE c A K X5 _ _ _ 20)
  isplitr [Hk H2]
  · isplitl [H17]; · iexact H17
    isplitl [H18]; · iexact H18
    isplitl [H5]; · iexact H5
    iexact HO
  iintro ⟨H17, H18, H5, HO⟩
  iapply Hk
  isplitl [H2]; · iexact H2
  isplitl [H17]; · iexact H17
  isplitl [H18]; · iexact H18
  isplitl [H5]; · iexact H5
  iexact HO

end Steps

/-! ## The first point -/

section First
variable (c : Dev nD) (A : Args) (q7 q8 : PosShare TreeShare)
  (f7 : Buf (Elt F) (A.a7.view.loc (c : Thread nD τ))) (f8 : Buf (Elt F) (A.a8.view.loc (c : Thread nD τ)))

/-- An owned buffer at what its elements hold. -/
theorem hold_open {cs : CoreSpace} {s : Shape} {e : EltTy} (m : Memref sig .tc cs s e) :
    (hold c m : sProp 𝕄) ⊢ iprop(∃ f, m.view.loc (c : Thread nD τ) ↦[m.view.set]{fullShare} f) := by
  unfold hold owns
  iintro ⟨%X, %f, -, H⟩
  iexists f; iexact H

/-- What the kernel addresses itself: the two tables, and its two semaphores at zero. -/
def own : sProp 𝕄 :=
  iprop(((A.a7.view.loc (c : Thread nD τ) ↦[A.a7.view.set]{q7} f7) ∗ (A.a8.view.loc (c : Thread nD τ) ↦[A.a8.view.set]{q8} f8))
    ∗ (semVal ((c : Thread nD τ), sem7 A) 0 ∗ semVal ((c : Thread nD τ), sem8 A) 0))

/-- The first point: the embedding rows brought in while the hidden state is quantized, then quantized; a tile's work. -/
theorem wp_first (K : PUnit.{1} → sProp 𝕄) (i : grid0.Coords) (h : k0_cond1 i = 1#1) (X1 : S2x129.Idx → Elt F .i32)
    (hv : ∀ t, k0_chk1 i (word i h X1 t)) (hv2 : ∀ t, k0_chk2 i (word2 i h X1 t))
    (X2 : S2x129.Idx → Elt F .i32) (X3 : S256x2560.Idx → Elt F .bf16) (X4 X5 : S1x2560.Idx → Elt F .f32)
    (X9 : S5120x256.Idx → Elt F .fp8e4m3) (X10 : S40x20.Idx → Elt F .f32) :
    iprop(iprop(owns (c : Thread nD τ) A.a1 fullShare X1 ∗ owns (c : Thread nD τ) A.a2 fullShare X2 ∗ owns (c : Thread nD τ) A.a3 fullShare X3
      ∗ owns (c : Thread nD τ) A.a4 fullShare X4 ∗ owns (c : Thread nD τ) A.a5 fullShare X5 ∗ owns (c : Thread nD τ) A.a9 fullShare X9
      ∗ owns (c : Thread nD τ) A.a10 fullShare X10 ∗ outX c A ∗ hold c A.a17 ∗ hold c A.a18 ∗ hold c A.a20
      ∗ own c A q7 q8 f7 f8 ∗ ∃ W, owes (c : Thread nD τ) 0 W)
      ∗ (iprop(owns (c : Thread nD τ) A.a1 fullShare X1 ∗ owns (c : Thread nD τ) A.a2 fullShare X2 ∗ owns (c : Thread nD τ) A.a3 fullShare X3
      ∗ owns (c : Thread nD τ) A.a4 fullShare X4 ∗ owns (c : Thread nD τ) A.a5 fullShare X5 ∗ owns (c : Thread nD τ) A.a9 fullShare X9
      ∗ owns (c : Thread nD τ) A.a10 fullShare X10 ∗ outX c A ∗ hold c A.a17 ∗ hold c A.a18 ∗ hold c A.a20
      ∗ own c A q7 q8 f7 f8 ∗ ∃ W, owes (c : Thread nD τ) 0 W) -∗ K ⟨⟩)) ⊢ wp frame (wpE (defs₀ (F := F)) Variants.none (c : Thread nD τ) none) Set.univ (first A i h) K := by
  unfold own first
  iintro ⟨⟨H1, H2, H3, H4, H5, H9, H10, HX, H17, H18, H20, ⟨⟨H7, H8⟩, HS⟩, HO⟩, Hk⟩
  ihave H17 := (hold_open c A.a17) $$ H17
  ihave H18 := (hold_open c A.a18) $$ H18
  icases H17 with ⟨%g7, H17⟩
  icases H18 with ⟨%g8, H18⟩
  iapply (wp_issue c A i h X1 hv q7 q8 f7 f8 g7 g8 fullShare) $$ [H1 H7 H8 H17 H18 HS]
  · isplitl [HS]; · iexact HS
    isplitl [H1]; · iexact H1
    isplitl [H7]; · iexact H7
    isplitl [H8]; · iexact H8
    isplitl [H17]; · iexact H17
    iexact H18
  iintro H1 Hf
  iapply (wp_hide c A K X3 X4)
  isplitl [H3 H4 HX]
  · isplitl [H3]; · iexact H3
    isplitl [H4]; · iexact H4
    iexact HX
  iintro ⟨H3, H4, HX⟩
  iapply (wp_drain c A i h X1 hv q7 q8 f7 f8 g7 g8 hv2 fullShare) $$ [H1 Hf HO]
  · isplitl [H1]; · iexact H1
    isplitl [Hf]; · iexact Hf
    iexact HO
  iintro H1 HS H7 H8 H17 H18 HO
  iapply (wp_embed c A K X2 X5)
  isplitl [H2 H5 H17 H18 HX]
  · isplitl [H2]; · iexact H2
    isplitl [H17]; · unfold hold; iexists _; iexact H17
    isplitl [H18]; · unfold hold; iexists _; iexact H18
    isplitl [H5]; · iexact H5
    iexact HX
  iintro ⟨H2, H17, H18, H5, HX⟩
  unfold outX
  icases HX with ⟨H12, H13, H19⟩
  iapply (wp_tile c A K X9 X10 i)
  isplitl [H9 H10 H19 H20]
  · isplitl [H9]; · iexact H9
    isplitl [H10]; · iexact H10
    isplitl [H19]; · iexact H19
    iexact H20
  iintro ⟨H9, H10, H19, H20⟩
  sl_step
  iapply Hk
  isplitl [H1]; · iexact H1
  isplitl [H2]; · iexact H2
  isplitl [H3]; · iexact H3
  isplitl [H4]; · iexact H4
  isplitl [H5]; · iexact H5
  isplitl [H9]; · iexact H9
  isplitl [H10]; · iexact H10
  isplitl [H12 H13 H19]
  · isplitl [H12]; · iexact H12
    isplitl [H13]; · iexact H13
    iexact H19
  isplitl [H17]; · iexact H17
  isplitl [H18]; · iexact H18
  isplitl [H20]; · iexact H20
  isplitr [HO]
  · isplitr [HS]
    · isplitl [H7]; · iexact H7
      iexact H8
    · iexact HS
  · iexact HO

end First

end Cert.Front.Layer

end
-- ==== Proof.Front.Words.lean ====
/- The rows the front kernel asks its tables for: of a token inside the vocabulary, the code row of its quarter and the scale row
   of its own number, both inside their tables. -/
module

public import proofs.«01_k».proof.Proof.Front.Rows

@[expose] public section

set_option maxRecDepth 16384

noncomputable section

namespace Cert.Front.Layer

open Idealize.ShloMosaic Idealize.ShloMosaic.TcCoe
open Cert.Front Cert.Front.Gen

/-- The kernel's rounded-down quarter of a nonnegative word is the quarter. -/
theorem quarter (w : BitVec 32) (hw : w.toNat < 151936) : k0_off3 w 0 = w.toNat / 4 := by
  by_cases h0 : w = 0#32
  · subst h0; decide
  · have hm : w.msb = false := by
      rw [BitVec.msb_eq_false_iff_two_mul_lt]; omega
    have h0' : w.toNat ≠ 0 := fun e => h0 (BitVec.eq_of_toNat_eq (by simpa using e))
    have hi : w.toInt = w.toNat := BitVec.toInt_eq_toNat_of_msb hm
    have e1 : Scalar.cmpi .sgt w 0#32 = 1#1 := by
      show BitVec.ofBool (BitVec.slt 0#32 w) = 1#1
      rw [BitVec.slt_eq_decide, hi]
      have : (0#32).toInt = 0 := rfl
      rw [this, decide_eq_true (by omega)]; rfl
    have e2 : Scalar.cmpi .slt w 0#32 = 0#1 := by
      show BitVec.ofBool (BitVec.slt w 0#32) = 0#1
      rw [BitVec.slt_eq_decide, hi]
      have : (0#32).toInt = 0 := rfl
      rw [this, decide_eq_false (by omega)]; rfl
    have e3 : (Scalar.divsi w 4#32).toNat = w.toNat / 4 := by
      show (IntOp.divsi .scalar w 4#32).toNat = _
      unfold IntOp.divsi
      rw [if_neg (show ¬ IntOp.SDivCorner w 4#32 by rintro (e | ⟨_, e⟩) <;> exact absurd e (by decide)), BitVec.sdiv_eq, hm]
      rfl
    have key : k0_off3 w 0 = (Scalar.select (Scalar.andi (Scalar.cmpi .ne (Scalar.subi (Scalar.extui (Scalar.cmpi .sgt w 0#32) : BitVec 32) (Scalar.extui (Scalar.cmpi .slt w 0#32) : BitVec 32)) 1#32)
        (Scalar.cmpi .ne (Scalar.remsi w 4#32) 0#32)) (Scalar.subi (Scalar.divsi w 4#32) 1#32) (Scalar.divsi w 4#32)).toNat := rfl
    rw [key, e1, e2, ← e3]
    have e4 : (Scalar.cmpi .ne (Scalar.subi (Scalar.extui (1#1) : BitVec 32) (Scalar.extui (0#1) : BitVec 32)) 1#32) = 0#1 := by decide
    rw [e4]
    have e5 : ∀ x : BitVec 1, Scalar.andi 0#1 x = 0#1 := by decide
    rw [e5]; rfl

/-- A token inside the vocabulary passes the first loop's check, -/
theorem chk1_of (i : grid0.Coords) (w : BitVec 32) (hw : w.toNat < 151936) : k0_chk1 i w := by
  refine ⟨fun _ a => ?_, fun _ a => ?_⟩
  · match a with
    | ⟨0, _⟩ => show k0_off3 w 0 + 1 ≤ 37984; rw [quarter w hw]; omega
    | ⟨1, _⟩ => exact Nat.le_of_eq rfl
  · match a with
    | ⟨0, _⟩ => show w.toNat + 1 ≤ 151936; omega
    | ⟨1, _⟩ => exact Nat.le_of_eq rfl
/-- and the second's. -/
theorem chk2_of (i : grid0.Coords) (w : BitVec 32) (hw : w.toNat < 151936) : k0_chk2 i w := chk1_of i w hw

variable {F : FTy → Type} [FloatOps F]

/-- Of token words all inside the vocabulary where the kernel reads them, every trip's passes. -/
theorem chks (i : grid0.Coords) (h : k0_cond1 i = 1#1) (I : S2x129.Idx → Elt F .i32)
    (hI : ∀ x : S2x129.Idx, (x 1).val < 128 → BitVec.toNat (I x) < 151936) :
    (∀ t, k0_chk1 i (word i h I t)) ∧ (∀ t, k0_chk2 i (word2 i h I t)) := by
  refine ⟨fun t => chk1_of i _ (hI _ ?_), fun t => chk2_of i _ (hI _ ?_)⟩
  · show k0_off1 t 1 + 1 * 0 < 128
    rw [off1_eq]; show t.val % 128 + 1 * 0 < 128; omega
  · show k0_off6 t 1 + 1 * 0 < 128
    rw [off6_eq]; show t.val % 128 + 1 * 0 < 128; omega

end Cert.Front.Layer

end
-- ==== Proof.Front.Point.lean ====
/- One grid point of the front kernel as a triple at the point's staging buffers, the proof data of its pipeline, and the run:
   from token numbers inside the vocabulary it ends with the argument arrays unchanged and every counter at zero. -/
module

public import proofs.«01_k».proof.Proof.Front.Body
public import proofs.«01_k».proof.Proof.Front.Words
public import proofs.«01_k».proof.Proof.Gen.Front.Frame

@[expose] public section

set_option maxRecDepth 16384

noncomputable section

namespace Cert.Front.Layer

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)
open Cert.Front Cert.Front.Gen

variable {F : FTy → Type} [FloatOps F]

local notation "𝕄" => MT nD τ sig Unit (Elt F) ℕ (Pipeline.UD sig nD τ) ℕ

/-! ## Which points are first and last -/

theorem cond1_iff : ∀ t : Fin grid0.N, k0_cond1 (grid0.coords t) = 1#1 ↔ t.val = 0 := by decide +kernel
theorem cond2_iff : ∀ t : Fin grid0.N, k0_cond2 (grid0.coords t) = 1#1 ↔ t.val = 9 := by decide +kernel

/-! ## One point -/

/-- The operands at a point. -/
abbrev argsAt (t : Fin cfg0.N) : Args where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := Memref.whole main_v2
  h7 := Memref.isWhole_whole _
  a8 := Memref.whole main_arg3
  h8 := Memref.isWhole_whole _
  a9 := win0_6.stage (cfg0.slots t 6)
  h9 := hstage0_6 ((cfg0.slots t 6).cast nbuf0_6)
  a10 := win0_7.stage (cfg0.slots t 7)
  h10 := hstage0_7 ((cfg0.slots t 7).cast nbuf0_7)
  a11 := win0_8.stage (cfg0.slots t 8)
  h11 := hstage0_8 ((cfg0.slots t 8).cast nbuf0_8)
  a12 := win0_9.stage (cfg0.slots t 9)
  h12 := hstage0_9 ((cfg0.slots t 9).cast nbuf0_9)
  a13 := win0_10.stage (cfg0.slots t 10)
  h13 := hstage0_10 ((cfg0.slots t 10).cast nbuf0_10)
  a14 := win0_11.stage (cfg0.slots t 11)
  h14 := hstage0_11 ((cfg0.slots t 11).cast nbuf0_11)
  a15 := win0_12.stage (cfg0.slots t 12)
  h15 := hstage0_12 ((cfg0.slots t 12).cast nbuf0_12)
  a16 := win0_13.stage (cfg0.slots t 13)
  h16 := hstage0_13 ((cfg0.slots t 13).cast nbuf0_13)
  a17 := Memref.whole cc0_scratch0
  h17 := Memref.isWhole_whole _
  a18 := Memref.whole cc0_scratch1
  h18 := Memref.isWhole_whole _
  a19 := Memref.whole cc0_scratch2
  h19 := Memref.isWhole_whole _
  a20 := Memref.whole cc0_scratch3
  h20 := Memref.isWhole_whole _
  a21 := cc0_scratch4

/-- What a point finds: the inputs' buffers at their contents, -/
def ins (c : Dev nD) (A : Args) (X1 X2 : S2x129.Idx → Elt F .i32) (X3 : S256x2560.Idx → Elt F .bf16) (X4 X5 X6 : S1x2560.Idx → Elt F .f32)
    (X9 : S5120x256.Idx → Elt F .fp8e4m3) (X10 : S40x20.Idx → Elt F .f32) : sProp 𝕄 :=
  iprop(owns (c : Thread nD τ) A.a1 fullShare X1 ∗ owns (c : Thread nD τ) A.a2 fullShare X2 ∗ owns (c : Thread nD τ) A.a3 fullShare X3 ∗ owns (c : Thread nD τ) A.a4 fullShare X4 ∗ owns (c : Thread nD τ) A.a5 fullShare X5 ∗ owns (c : Thread nD τ) A.a6 fullShare X6 ∗ owns (c : Thread nD τ) A.a9 fullShare X9 ∗ owns (c : Thread nD τ) A.a10 fullShare X10)
/-- the results' and the scratch buffers at any, -/
def outs (c : Dev nD) (A : Args) : sProp 𝕄 :=
  iprop(hold (F := F) c A.a11 ∗ hold (F := F) c A.a12 ∗ hold (F := F) c A.a13 ∗ hold (F := F) c A.a14 ∗ hold (F := F) c A.a15 ∗ hold (F := F) c A.a16 ∗ hold (F := F) c A.a17 ∗ hold (F := F) c A.a18 ∗ hold (F := F) c A.a19 ∗ hold (F := F) c A.a20)
/-- and the two tables, the transfers' semaphores and the thread's debts, none. -/
def rest (c : Dev nD) (A : Args) (q7 q8 : PosShare TreeShare) (f7 : Buf (Elt F) (A.a7.view.loc (c : Thread nD τ)))
    (f8 : Buf (Elt F) (A.a8.view.loc (c : Thread nD τ))) : sProp 𝕄 :=
  iprop(own c A q7 q8 f7 f8 ∗ ∃ W, owes (c : Thread nD τ) 0 W)

/-- A point's body hands back what it found, the inputs' buffers unchanged. -/
theorem wp_point (c : Dev nD) (t : Fin cfg0.N) (q7 q8 : PosShare TreeShare) (f7 : Buf (Elt F) ((argsAt t).a7.view.loc (c : Thread nD τ)))
    (f8 : Buf (Elt F) ((argsAt t).a8.view.loc (c : Thread nD τ))) (X1 X2 : S2x129.Idx → Elt F .i32) (X3 : S256x2560.Idx → Elt F .bf16)
    (X4 X5 X6 : S1x2560.Idx → Elt F .f32) (X9 : S5120x256.Idx → Elt F .fp8e4m3) (X10 : S40x20.Idx → Elt F .f32)
    (hI : ∀ x : S2x129.Idx, (x 1).val < 128 → BitVec.toNat (X1 x) < 151936) (K : PUnit.{1} → sProp 𝕄) :
    iprop(iprop(ins c (argsAt t) X1 X2 X3 X4 X5 X6 X9 X10 ∗ outs c (argsAt t) ∗ rest c (argsAt t) q7 q8 f7 f8)
      ∗ (iprop(ins c (argsAt t) X1 X2 X3 X4 X5 X6 X9 X10 ∗ outs c (argsAt t) ∗ rest c (argsAt t) q7 q8 f7 f8) -∗ K ⟨⟩))
      ⊢ wp frame (wpE (defs₀ (F := F)) Variants.none (c : Thread nD τ) none) Set.univ (bodyAt0 (F := F) t) K := by
  by_cases h1 : t.val = 0
  · have hc1 := (cond1_iff t).mpr h1
    have hc2 : ¬ k0_cond2 (grid0.coords t) = 1#1 := fun h => by have := (cond2_iff t).mp h; omega
    obtain ⟨hv, hv2⟩ := chks (grid0.coords t) hc1 X1 hI
    rw [show bodyAt0 (F := F) t = first (argsAt t) (grid0.coords t) hc1 from body_first (argsAt t) (grid0.coords t) hc1 hc2]
    unfold ins outs rest
    iintro ⟨⟨⟨H1, H2, H3, H4, H5, H6, H9, H10⟩, ⟨H11, H12, H13, H14, H15, H16, H17, H18, H19, H20⟩, Ho, Hw⟩, Hk⟩
    iapply (wp_first c (argsAt t) q7 q8 f7 f8 K (grid0.coords t) hc1 X1 hv hv2 X2 X3 X4 X5 X9 X10)
    unfold outX
    isplitl [H1 H2 H3 H4 H5 H9 H10 H12 H13 H19 H17 H18 H20 Ho Hw]
    · isplitl [H1]
      · iexact H1
      isplitl [H2]
      · iexact H2
      isplitl [H3]
      · iexact H3
      isplitl [H4]
      · iexact H4
      isplitl [H5]
      · iexact H5
      isplitl [H9]
      · iexact H9
      isplitl [H10]
      · iexact H10
      isplitl [H12 H13 H19]
      · isplitl [H12]
        · iexact H12
        isplitl [H13]
        · iexact H13
        iexact H19
      isplitl [H17]
      · iexact H17
      isplitl [H18]
      · iexact H18
      isplitl [H20]
      · iexact H20
      isplitl [Ho]
      · iexact Ho
      iexact Hw
    iintro ⟨H1, H2, H3, H4, H5, H9, H10, ⟨H12, H13, H19⟩, H17, H18, H20, Ho, Hw⟩
    iapply Hk
    isplitl [H1 H2 H3 H4 H5 H6 H9 H10]
    · isplitl [H1]
      · iexact H1
      isplitl [H2]
      · iexact H2
      isplitl [H3]
      · iexact H3
      isplitl [H4]
      · iexact H4
      isplitl [H5]
      · iexact H5
      isplitl [H6]
      · iexact H6
      isplitl [H9]
      · iexact H9
      iexact H10
    isplitl [H11 H12 H13 H14 H15 H16 H17 H18 H19 H20]
    · isplitl [H11]
      · iexact H11
      isplitl [H12]
      · iexact H12
      isplitl [H13]
      · iexact H13
      isplitl [H14]
      · iexact H14
      isplitl [H15]
      · iexact H15
      isplitl [H16]
      · iexact H16
      isplitl [H17]
      · iexact H17
      isplitl [H18]
      · iexact H18
      isplitl [H19]
      · iexact H19
      iexact H20
    isplitl [Ho]
    · iexact Ho
    iexact Hw
  · have hc1 : ¬ k0_cond1 (grid0.coords t) = 1#1 := fun h => h1 ((cond1_iff t).mp h)
    by_cases h2 : t.val = 9
    · have hc2 := (cond2_iff t).mpr h2
      rw [show bodyAt0 (F := F) t = tile (argsAt t) (grid0.coords t) (final (argsAt t)) from body_last (argsAt t) (grid0.coords t) hc1 hc2]
      unfold ins outs rest
      iintro ⟨⟨⟨H1, H2, H3, H4, H5, H6, H9, H10⟩, ⟨H11, H12, H13, H14, H15, H16, H17, H18, H19, H20⟩, Ho, Hw⟩, Hk⟩
      iapply (wp_tile c (argsAt t) K X9 X10 (grid0.coords t) (final (argsAt t)))
      isplitl [H9 H10 H19 H20]
      · isplitl [H9]
        · iexact H9
        isplitl [H10]
        · iexact H10
        isplitl [H19]
        · iexact H19
        iexact H20
      iintro ⟨H9, H10, H19, H20⟩
      iapply (wp_final c (argsAt t) K X6)
      unfold outY
      isplitl [H20 H11 H6 H14 H15 H16]
      · isplitl [H20]
        · iexact H20
        isplitl [H11]
        · iexact H11
        isplitl [H6]
        · iexact H6
        isplitl [H14]
        · iexact H14
        isplitl [H15]
        · iexact H15
        iexact H16
      iintro ⟨H20, H11, H6, ⟨H14, H15, H16⟩⟩
      iapply Hk
      isplitl [H1 H2 H3 H4 H5 H6 H9 H10]
      · isplitl [H1]
        · iexact H1
        isplitl [H2]
        · iexact H2
        isplitl [H3]
        · iexact H3
        isplitl [H4]
        · iexact H4
        isplitl [H5]
        · iexact H5
        isplitl [H6]
        · iexact H6
        isplitl [H9]
        · iexact H9
        iexact H10
      isplitl [H11 H12 H13 H14 H15 H16 H17 H18 H19 H20]
      · isplitl [H11]
        · iexact H11
        isplitl [H12]
        · iexact H12
        isplitl [H13]
        · iexact H13
        isplitl [H14]
        · iexact H14
        isplitl [H15]
        · iexact H15
        isplitl [H16]
        · iexact H16
        isplitl [H17]
        · iexact H17
        isplitl [H18]
        · iexact H18
        isplitl [H19]
        · iexact H19
        iexact H20
      isplitl [Ho]
      · iexact Ho
      iexact Hw
    · have hc2 : ¬ k0_cond2 (grid0.coords t) = 1#1 := fun h => h2 ((cond2_iff t).mp h)
      rw [show bodyAt0 (F := F) t = tile (argsAt t) (grid0.coords t) (pure ⟨⟩) from body_middle (argsAt t) (grid0.coords t) hc1 hc2]
      unfold ins outs rest
      iintro ⟨⟨⟨H1, H2, H3, H4, H5, H6, H9, H10⟩, ⟨H11, H12, H13, H14, H15, H16, H17, H18, H19, H20⟩, Ho, Hw⟩, Hk⟩
      iapply (wp_tile c (argsAt t) K X9 X10 (grid0.coords t) (pure ⟨⟩))
      isplitl [H9 H10 H19 H20]
      · isplitl [H9]
        · iexact H9
        isplitl [H10]
        · iexact H10
        isplitl [H19]
        · iexact H19
        iexact H20
      iintro ⟨H9, H10, H19, H20⟩
      sl_step
      iapply Hk
      isplitl [H1 H2 H3 H4 H5 H6 H9 H10]
      · isplitl [H1]
        · iexact H1
        isplitl [H2]
        · iexact H2
        isplitl [H3]
        · iexact H3
        isplitl [H4]
        · iexact H4
        isplitl [H5]
        · iexact H5
        isplitl [H6]
        · iexact H6
        isplitl [H9]
        · iexact H9
        iexact H10
      isplitl [H11 H12 H13 H14 H15 H16 H17 H18 H19 H20]
      · isplitl [H11]
        · iexact H11
        isplitl [H12]
        · iexact H12
        isplitl [H13]
        · iexact H13
        isplitl [H14]
        · iexact H14
        isplitl [H15]
        · iexact H15
        isplitl [H16]
        · iexact H16
        isplitl [H17]
        · iexact H17
        isplitl [H18]
        · iexact H18
        isplitl [H19]
        · iexact H19
        iexact H20
      isplitl [Ho]
      · iexact Ho
      iexact Hw

/-! ## The proof data -/

variable (m : (ℓ : Loc nD τ sig) → Buf (Elt F) ℓ) (ρ : Dev nD → PrngReg)

/-- The transfers' semaphores. -/
abbrev osem : Fin 2 → SemLoc sig :=
  fun | 0 => .dma ((cc0_scratch4.slice (Rect.unit (s := S2) ![0] S1.size inb_S2_S1_0)).squeeze S_ squeezes_S1_S_).sem | 1 => .dma ((cc0_scratch4.slice (Rect.unit (s := S2) ![1] S1.size inb_S2_S1_1)).squeeze S_ squeezes_S1_S_).sem

/-- The tables the body reads by itself. -/
abbrev tables : Finset (Ref sig .tc) := {main_v2, main_arg3}

theorem tables_rest : tables ⊆ Pipeline.restRefs sig spec0 := by decide

theorem osem_own : Pipeline.OwnSemFacts spec0 osem := by decide

/-- The proof data: the inputs' staging buffers at their blocks; between points the scratch buffers at any contents, the tables
    and the semaphores at zero. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => fun _ => Scalar.ofBits .bf16 0#16
    | ⟨9, _⟩ => fun _ => Scalar.ofBits .fp8e4m3 0#8
    | ⟨10, _⟩ => fun _ => Scalar.ofBits .f32 0#32
    | ⟨11, _⟩ => fun _ => Scalar.ofBits .fp8e4m3 0#8
    | ⟨12, _⟩ => fun _ => Scalar.ofBits .f32 0#32
    | ⟨13, _⟩ => fun _ => Scalar.ofBits .bf16 0#16
  Φ _ := Pipeline.ΦD osem spec0 tables (V m) c
  q w := Pipeline.shareOf spec0 w
  owed _ := 0

section
variable (c : Dev nD) (t : Fin cfg0.N)

/-! An input's staging buffer holds its block at every point. -/

theorem before_0 (d) : (dats m 0 c).before (0 : Fin 14) t d = iblk m c 0 t :=
  ((dats m 0 c).before_in_eq_fetched 0 rfl (fun _ => rfl) (fun _ _ _ => rfl) (fun t => rfl) t d).trans rfl
theorem before_1 (d) : (dats m 0 c).before (1 : Fin 14) t d = iblk m c 1 t :=
  ((dats m 0 c).before_in_eq_fetched 1 rfl (fun _ => rfl) (fun _ _ _ => rfl) (fun t => rfl) t d).trans rfl
theorem before_2 (d) : (dats m 0 c).before (2 : Fin 14) t d = iblk m c 2 t :=
  ((dats m 0 c).before_in_eq_fetched 2 rfl (fun _ => rfl) (fun _ _ _ => rfl) (fun t => rfl) t d).trans rfl
theorem before_3 (d) : (dats m 0 c).before (3 : Fin 14) t d = iblk m c 3 t :=
  ((dats m 0 c).before_in_eq_fetched 3 rfl (fun _ => rfl) (fun _ _ _ => rfl) (fun t => rfl) t d).trans rfl
theorem before_4 (d) : (dats m 0 c).before (4 : Fin 14) t d = iblk m c 4 t :=
  ((dats m 0 c).before_in_eq_fetched 4 rfl (fun _ => rfl) (fun _ _ _ => rfl) (fun t => rfl) t d).trans rfl
theorem before_5 (d) : (dats m 0 c).before (5 : Fin 14) t d = iblk m c 5 t :=
  ((dats m 0 c).before_in_eq_fetched 5 rfl (fun _ => rfl) (fun _ _ _ => rfl) (fun t => rfl) t d).trans rfl
theorem before_6 (d) : (dats m 0 c).before (6 : Fin 14) t d = iblk m c 6 t :=
  ((dats m 0 c).before_in_eq_fetched 6 rfl (fun _ => rfl) (fun _ _ _ => rfl) (fun t => rfl) t d).trans rfl
theorem before_7 (d) : (dats m 0 c).before (7 : Fin 14) t d = iblk m c 7 t :=
  ((dats m 0 c).before_in_eq_fetched 7 rfl (fun _ => rfl) (fun _ _ _ => rfl) (fun t => rfl) t d).trans rfl
end

set_option maxHeartbeats 800000 in
/-- The host operations before the region. -/
theorem hmain' (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's entry in the table at a point is the kernel's body there. -/
theorem defs₀_row (t : Fin cfg0.N) : defs₀ (F := F) .tc cfg0.body (cfg0.bodyArgs t (cfg0.slots t)) = bodyAt0 (F := F) t := by
  unfold defs₀; rw [Defs.onTc_tc]

/-- Nothing is said of the results. -/
abbrev results : Fin 14 → Bool := fun | 0 => false | 1 => false | 2 => false | 3 => false | 4 => false | 5 => false | 6 => false | 7 => false | 8 => true | 9 => true | 10 => true | 11 => true | 12 => true | 13 => true | ⟨_ + 14, h⟩ => absurd h (Nat.not_lt.2 (Nat.le_add_left _ _))

/-- What is kept between points, in the form the body takes it. -/
theorem kept_eq (c : Dev nD) (t : Fin cfg0.N) : (Pipeline.ΦD osem spec0 tables (V m) c : sProp 𝕄)
    = iprop((hold c (argsAt t).a17 ∗ hold c (argsAt t).a18 ∗ hold c (argsAt t).a19 ∗ hold c (argsAt t).a20) ∗ (∃ r, prngReg c r)
      ∗ (semVal ((c : Thread nD τ), sem7 (argsAt t)) 0 ∗ semVal ((c : Thread nD τ), sem8 (argsAt t)) 0)
      ∗ (((c : Thread nD τ).loc main_v2 ↦{fullShare} V m c main_v2) ∗ ((c : Thread nD τ).loc main_arg3 ↦{fullShare} V m c main_arg3))) := by
  rw [Pipeline.ΦD_eq, scopedRest0_eq]
  unfold hold Pipeline.ownSems0
  simp only [owns_whole]
  rw [bigSep_univ_eq_bigSepL [(0 : Fin 2), (1 : Fin 2)] (by decide) (by decide),
    bigSep_eq_bigSepL_of_eq [main_v2, main_arg3] (by decide) (by decide)]
  rfl

/-- The tables and the semaphores as the body takes them. -/
theorem own_eq (c : Dev nD) (t : Fin cfg0.N) (f7 : Buf (Elt F) ((c : Thread nD τ).loc main_v2)) (f8 : Buf (Elt F) ((c : Thread nD τ).loc main_arg3)) :
    (own c (argsAt t) fullShare fullShare f7 f8 : sProp 𝕄)
      = iprop((((c : Thread nD τ).loc main_v2 ↦{fullShare} f7) ∗ ((c : Thread nD τ).loc main_arg3 ↦{fullShare} f8))
        ∗ (semVal ((c : Thread nD τ), sem7 (argsAt t)) 0 ∗ semVal ((c : Thread nD τ), sem8 (argsAt t)) 0)) := by
  unfold own
  simp only [Memref.view_whole, View.set_whole]

/-- The body obligation, of token numbers inside the vocabulary. -/
theorem body_forget (c : Dev nD) (hI : ∀ (t : Fin cfg0.N) (x : S2x129.Idx), (x 1).val < 128 → BitVec.toNat (iblk m c 0 t x) < 151936) :
    BodyObligationLoose (dats m 0 c) (defs₀ (F := F)) Variants.none () Set.univ results := fun t => by
  rw [bigSep_W0, bigSep_W0, defs₀_row]
  rw [show (dats m 0 c).Φ t.succ = Pipeline.ΦD osem spec0 tables (V m) c from rfl,
    show (dats m 0 c).Φ t.castSucc = Pipeline.ΦD osem spec0 tables (V m) c from rfl, kept_eq m c t]
  simp only
  iintro ⟨⟨⟨H14, H15, H16, H17⟩, Hp, Hs, Ht⟩, ⟨%W, %hW, Hw⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  rw [before_0 m c t d0, before_1 m c t d1, before_2 m c t d2, before_3 m c t d3, before_4 m c t d4, before_5 m c t d5, before_6 m c t d6, before_7 m c t d7]
  iapply (wp_point c t fullShare fullShare (V m c main_v2) (V m c main_arg3) (iblk m c 0 t) (iblk m c 1 t) (iblk m c 2 t) (iblk m c 3 t)
    (iblk m c 4 t) (iblk m c 5 t) (iblk m c 6 t) (iblk m c 7 t) (hI t))
  unfold ins outs rest
  rw [own_eq c t]
  isplitl [H0 H1 H2 H3 H4 H5 H6 H7 H8 H9 H10 H11 H12 H13 H14 H15 H16 H17 Hs Ht Hw]
  · isplitl [H0 H1 H2 H3 H4 H5 H6 H7]
    · isplitl [H0]
      · iexact H0
      isplitl [H1]
      · iexact H1
      isplitl [H2]
      · iexact H2
      isplitl [H3]
      · iexact H3
      isplitl [H4]
      · iexact H4
      isplitl [H5]
      · iexact H5
      isplitl [H6]
      · iexact H6
      iexact H7
    isplitl [H8 H9 H10 H11 H12 H13 H14 H15 H16 H17]
    · isplitl [H8]
      · unfold hold; iexists _; iexact H8
      isplitl [H9]
      · unfold hold; iexists _; iexact H9
      isplitl [H10]
      · unfold hold; iexists _; iexact H10
      isplitl [H11]
      · unfold hold; iexists _; iexact H11
      isplitl [H12]
      · unfold hold; iexists _; iexact H12
      isplitl [H13]
      · unfold hold; iexists _; iexact H13
      isplitl [H14]
      · iexact H14
      isplitl [H15]
      · iexact H15
      isplitl [H16]
      · iexact H16
      iexact H17
    isplitl [Hs Ht]
    · isplitl [Ht]
      · iexact Ht
      iexact Hs
    iexists W; iexact Hw
  iintro ⟨⟨H0, H1, H2, H3, H4, H5, H6, H7⟩, ⟨H8, H9, H10, H11, H12, H13, H14, H15, H16, H17⟩, ⟨Ht, Hs⟩, ⟨%W2, Hw⟩⟩
  isplitl [H14 H15 H16 H17 Hp Hs Ht]
  · isplitl [H14 H15 H16 H17]
    · isplitl [H14]
      · iexact H14
      isplitl [H15]
      · iexact H15
      isplitl [H16]
      · iexact H16
      iexact H17
    isplitl [Hp]
    · iexact Hp
    isplitl [Hs]
    · iexact Hs
    iexact Ht
  isplitl [Hw]
  · iexists W2
    isplitr
    · ipureintro; exact Set.subset_union_of_subset_left (Set.subset_univ _) _
    iexact Hw
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · unfold hold; iexact H8
  isplitl [H9]
  · unfold hold; iexact H9
  isplitl [H10]
  · unfold hold; iexact H10
  isplitl [H11]
  · unfold hold; iexact H11
  isplitl [H12]
  · unfold hold; iexact H12
  unfold hold; iexact H13

/-! ## The run -/

/-- The token numbers a point reads are the argument's. -/
theorem iblk_ids (c : Dev nD) (t : Fin cfg0.N) : iblk m c 0 t = m ((c : Thread nD τ).loc main_arg1) := by
  rw [← V_main_arg1 m c]
  unfold iblk
  have hz : (fun a => (win0_0.index t) a * main_arg1.ty.shape.size a) = fun _ => 0 :=
    funext fun a => by fin_cases a <;> rfl
  exact Memref.read_access_unit_zero (Elt F) main_arg1 hz (fun a => by rw [congrFun hz a]; omega) (V m c main_arg1)

set_option backward.isDefEq.respectTransparency.types false in
/-- From token numbers inside the vocabulary where the kernel reads them, the argument arrays end unchanged and every counter at
    zero. -/
theorem run_frame (hI : ∀ (c : Dev nD) (x : S2x129.Idx), (x 1).val < 128 → BitVec.toNat (m ((c : Thread nD τ).loc main_arg1) x) < 151936) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  Pipeline.θ_run_frame_dma_forget_shared cfgs (dats m) (0 : Fin 1) launch₀0 osem defs₀ Variants.none
    results osem_own tables tables_rest m ρ main
    (hbody := fun c => body_forget m c fun t x hx => by rw [iblk_ids]; exact hI c x hx)
    (hq := fun _ _ _ => rfl) (howed := fun _ _ => rfl) (V := V m) (hmain := hmain' m Variants.none) (hA := fun _ _ => rfl)
    (hin := fun _ => .rfl) (hout := fun _ => .rfl)
    (Q' := _)
    (hQ' := fun r h => ⟨fun c =>
      ⟨((h.1 c).2 main_arg0 (Pipeline.mem_restRefs_of main_arg0 (by decide) (by decide))).trans (V_main_arg0 m c),
       by have := (h.1 c).1 0; rw [Pipeline.RDat.ArrAt_in _ 0 rfl] at this; exact this.trans (V_main_arg1 m c),
       ((h.1 c).2 main_arg2 (Pipeline.mem_restRefs_of main_arg2 (by decide) (by decide))).trans (V_main_arg2 m c),
       ((h.1 c).2 main_arg3 (Pipeline.mem_restRefs_of main_arg3 (by decide) (by decide))).trans (V_main_arg3 m c),
       ((h.1 c).2 main_arg4 (Pipeline.mem_restRefs_of main_arg4 (by decide) (by decide))).trans (V_main_arg4 m c),
       ((h.1 c).2 main_arg5 (Pipeline.mem_restRefs_of main_arg5 (by decide) (by decide))).trans (V_main_arg5 m c),
       ((h.1 c).2 main_arg6 (Pipeline.mem_restRefs_of main_arg6 (by decide) (by decide))).trans (V_main_arg6 m c),
       by have := (h.1 c).1 6; rw [Pipeline.RDat.ArrAt_in _ 6 rfl] at this; exact this.trans (V_main_arg7 m c),
       by have := (h.1 c).1 7; rw [Pipeline.RDat.ArrAt_in _ 7 rfl] at this; exact this.trans (V_main_arg8 m c)⟩, h.2⟩)

end Cert.Front.Layer

end
-- ==== Proof.FrontIdeal.Blocks.lean ====
/- The front kernel's body written with its repeated steps as recursions: the sums of squares over a row's groups, the
   normalized and quantized groups, the dequantized blocks of a projection tile. `body_first`, `body_middle` and
   `body_last` say that the printed body is that, at the first grid point, between, and at the last one. -/
module

public import proofs.«01_k».proof.Proof.Gen.FrontIdeal.Frame
public import proofs.«01_k».proof.Proof.Gen.FrontIdeal.Skeleton
public import Idealize.ShloMosaic.Lib.Pipeline.Regions

@[expose] public section

set_option maxRecDepth 16384

noncomputable section

namespace Cert.FrontIdeal.Layer

open Idealize.ShloMosaic Idealize.ShloMosaic.TcCoe
open Idealize.SL Idealize.SL.Sem
open Cert.FrontIdeal Cert.FrontIdeal.Gen

variable {F : FTy → Type} [FloatOps F]

/-- The kernel's operands. -/
structure Args where
  a1 : Memref sig .tc .smem S2x129 .i32
  h1 : a1.IsWhole
  a2 : Memref sig .tc .vmem S2x129 .i32
  h2 : a2.IsWhole
  a3 : Memref sig .tc .vmem S256x2560 .bf16
  h3 : a3.IsWhole
  a4 : Memref sig .tc .vmem S1x2560 .f32
  h4 : a4.IsWhole
  a5 : Memref sig .tc .vmem S1x2560 .f32
  h5 : a5.IsWhole
  a6 : Memref sig .tc .vmem S1x2560 .f32
  h6 : a6.IsWhole
  a7 : Memref sig .tc .hbm S37984x2560 .i32
  h7 : a7.IsWhole
  a8 : Memref sig .tc .hbm S151936x20 .f32
  h8 : a8.IsWhole
  a9 : Memref sig .tc .vmem S5120x256 .fp8e4m3
  h9 : a9.IsWhole
  a10 : Memref sig .tc .smem S40x20 .f32
  h10 : a10.IsWhole
  a11 : Memref sig .tc .vmem S256x2560 .bf16
  h11 : a11.IsWhole
  a12 : Memref sig .tc .vmem S256x5120 .fp8e4m3
  h12 : a12.IsWhole
  a13 : Memref sig .tc .vmem S256x40 .f32
  h13 : a13.IsWhole
  a14 : Memref sig .tc .vmem S256x2560 .fp8e4m3
  h14 : a14.IsWhole
  a15 : Memref sig .tc .vmem S256x20 .f32
  h15 : a15.IsWhole
  a16 : Memref sig .tc .vmem S256x2560 .bf16
  h16 : a16.IsWhole
  a17 : Memref sig .tc .vmem S256x2560 .i32
  h17 : a17.IsWhole
  a18 : Memref sig .tc .vmem S256x20 .f32
  h18 : a18.IsWhole
  a19 : Memref sig .tc .vmem S256x5120 .bf16
  h19 : a19.IsWhole
  a20 : Memref sig .tc .vmem S10x256x256 .f32
  h20 : a20.IsWhole
  a21 : DmaSems sig S2

/-- A chain of the kernel's operations. -/
abbrev P (F : FTy → Type) [FloatOps F] := Prog (TpuEff nD τ sig (Elt F) Λ₀ .tc) PUnit

/-! ## Places -/

theorem row_inb {g : Nat} (hg : g < 20) : ∀ a, (![0, 128 * g] : Fin 2 → Nat) a + S256x128.size a ≤ S256x2560.size a := by
  intro a; fin_cases a <;> simp <;> omega
theorem xrow_inb {g : Nat} (hg : g < 40) : ∀ a, (![0, 128 * g] : Fin 2 → Nat) a + S256x128.size a ≤ S256x5120.size a := by
  intro a; fin_cases a <;> simp <;> omega
theorem wt_inb {g : Nat} (hg : g < 20) : ∀ a, (![0, 128 * g] : Fin 2 → Nat) a + S1x128.size a ≤ S1x2560.size a := by
  intro a; fin_cases a <;> simp <;> omega
theorem col_inb {g : Nat} (hg : g < 20) : ∀ a, (![0, g] : Fin 2 → Nat) a + S256x1.size a ≤ S256x20.size a := by
  intro a; fin_cases a <;> simp <;> omega
theorem xcol_inb {g : Nat} (hg : g < 40) : ∀ a, (![0, g] : Fin 2 → Nat) a + S256x1.size a ≤ S256x40.size a := by
  intro a; fin_cases a <;> simp <;> omega
theorem proj_inb {g : Nat} (hg : g < 20) : ∀ a, (![g / 2, 0, 128 * (g % 2)] : Fin 3 → Nat) a + S1x256x128.size a ≤ S10x256x256.size a := by
  intro a; fin_cases a <;> simp <;> omega
theorem block_inb {n m : Nat} (hn : n < 40) (hm : m < 2) : ∀ a, (![128 * n, 128 * m] : Fin 2 → Nat) a + S128x128.size a ≤ S5120x256.size a := by
  intro a; fin_cases a <;> simp <;> omega

/-- Group `g` of a row of 2560. -/
abbrev rowRect (g : Nat) (hg : g < 20) : Rect S256x2560 := Rect.unit (s := S256x2560) ![0, 128 * g] S256x128.size (row_inb hg)
/-- Group `g` of a row of 5120. -/
abbrev xrowRect (g : Nat) (hg : g < 40) : Rect S256x5120 := Rect.unit (s := S256x5120) ![0, 128 * g] S256x128.size (xrow_inb hg)
/-- Group `g` of a norm's weights. -/
abbrev wtRect (g : Nat) (hg : g < 20) : Rect S1x2560 := Rect.unit (s := S1x2560) ![0, 128 * g] S1x128.size (wt_inb hg)
/-- Column `g` of 20 scales. -/
abbrev colRect (g : Nat) (hg : g < 20) : Rect S256x20 := Rect.unit (s := S256x20) ![0, g] S256x1.size (col_inb hg)
/-- Column `g` of 40 scales. -/
abbrev xcolRect (g : Nat) (hg : g < 40) : Rect S256x40 := Rect.unit (s := S256x40) ![0, g] S256x1.size (xcol_inb hg)
/-- Group `g` of the projection. -/
abbrev projRect (g : Nat) (hg : g < 20) : Rect S10x256x256 := Rect.unit (s := S10x256x256) ![g / 2, 0, 128 * (g % 2)] S1x256x128.size (proj_inb hg)
/-- Block `(n, m)` of a tile of the weights. -/
abbrev blockRect (n m : Nat) (hn : n < 40) (hm : m < 2) : Rect S5120x256 := Rect.unit (s := S5120x256) ![128 * n, 128 * m] S128x128.size (block_inb hn hm)

/-- The column of the scale of a tile's block. -/
abbrev scaleCol (i : grid0.Coords) (c : BitVec 32) : Nat :=
  (Scalar.indexCast (Scalar.addi (Scalar.muli (BitVec.ofNat 32 (i 0).val) 2#32) c) : Index).toNat
theorem scale_inb (i : grid0.Coords) {n : Nat} (hn : n < 40) (r : Fin 2) :
    ∀ a, (![n, scaleCol i (BitVec.ofNat 32 r.val)] : Fin 2 → Nat) a + S1x1.size a ≤ S40x20.size a := by
  intro a
  have h := k0_off11_inb i r
  fin_cases a
  · show n + 1 ≤ 40; omega
  · exact h 1
/-- The place of the scale of a tile's block. -/
abbrev scaleRect (i : grid0.Coords) (n : Nat) (hn : n < 40) (r : Fin 2) : Rect S40x20 :=
  Rect.unit (s := S40x20) ![n, scaleCol i (BitVec.ofNat 32 r.val)] S1x1.size (scale_inb i hn r)
/-- The tile a grid point computes. -/
abbrev tileRect (i : grid0.Coords) : Rect S10x256x256 := Rect.unit (s := S10x256x256) (k0_off51 i) S1x256x256.size (k0_off51_inb i)

theorem xrow_packed8 {g : Nat} (hg : g < 40) : (xrowRect g hg).PackedRows (EltTy.packing .fp8e4m3) := by
  refine .inr ⟨by decide, rfl, .inl ⟨?_, ?_⟩⟩
  · show 4 ∣ 0; omega
  · show 4 ∣ 256; omega
theorem xrow_packed16 {g : Nat} (hg : g < 40) : (xrowRect g hg).PackedRows (EltTy.packing .bf16) := by
  refine .inr ⟨by decide, rfl, .inl ⟨?_, ?_⟩⟩
  · show 2 ∣ 0; omega
  · show 2 ∣ 256; omega
theorem row_packed8 {g : Nat} (hg : g < 20) : (rowRect g hg).PackedRows (EltTy.packing .fp8e4m3) := by
  refine .inr ⟨by decide, rfl, .inl ⟨?_, ?_⟩⟩
  · show 4 ∣ 0; omega
  · show 4 ∣ 256; omega
theorem row_packed16 {g : Nat} (hg : g < 20) : (rowRect g hg).PackedRows (EltTy.packing .bf16) := by
  refine .inr ⟨by decide, rfl, .inl ⟨?_, ?_⟩⟩
  · show 2 ∣ 0; omega
  · show 2 ∣ 256; omega

/-! ## What is computed of one group -/

/-- A loaded group of the hidden state, widened. -/
def wide (x : Vec F S256x128 .bf16) : FVec F S256x128 .f32 :=
  extf .f32 (shapeCast S256x128 (x : FVec F S256x128 .bf16) shapeCasts_S256x128_S256x128) bitsLt_bf16_f32
/-- A loaded group of the projection, as a matrix. -/
def flat (p : Vec F S1x256x128 .f32) : FVec F S256x128 .f32 := shapeCast S256x128 p shapeCasts_S1x256x128_S256x128
/-- The sum of squares before the first group. -/
def zero : FVec F S256x128 .f32 := broadcast S256x128 (Scalar.ofBits .f32 0x00000000#32 : F .f32)
/-- From the sums of squares by lane to the factor a row is normalized with. -/
def factor (acc : FVec F S256x128 .f32) : FVec F S256x1 .f32 :=
  rsqrt (addf (divf (shapeCast S256x1 (multiReduction .add [1] S256 acc 0x00000000#32 reduces_S256x128_S256 (.inl rfl) rfl) shapeCasts_S256_S256x1)
    (broadcast S256x1 (Scalar.ofBits .f32 0x45200000#32 : F .f32))) (broadcast S256x1 (Scalar.ofBits .f32 0x358637BD#32 : F .f32)))
/-- A group normalized: times its row's factor and the norm's weights. -/
def normed (x : FVec F S256x128 .f32) (r : FVec F S256x1 .f32) (w : Vec F S1x128 .f32) : FVec F S256x128 .f32 :=
  mulf (mulf x (broadcastTo S256x128 r broadcasts_S256x1_S256x128))
    (broadcastTo S256x128 (shapeCast S1x128 (w : FVec F S1x128 .f32) shapeCasts_S1x128_S1x128) broadcasts_S1x128_S256x128)
/-- The scale of a group's rows. -/
def scaleOf (x : FVec F S256x128 .f32) : FVec F S256x1 .f32 := k0_pay21 x
/-- The codes of a group. -/
def codesOf (x : FVec F S256x128 .f32) : FVec F S256x128 .fp8e4m3 := k0_pay22 x
/-- The group its codes and scales stand for. -/
def deqOf (x : FVec F S256x128 .f32) : FVec F S256x128 .bf16 :=
  mulf (extf .bf16 (codesOf x) bitsLt_fp8e4m3_bf16) (broadcastTo S256x128 (truncf .bf16 (scaleOf x) bitsLt_bf16_f32) broadcasts_S256x1_S256x128)
/-- The same, as the projection's operand is stored. -/
def deqX (x : FVec F S256x128 .f32) : FVec F S256x128 .bf16 := shapeCast S256x128 (deqOf x) shapeCasts_S256x128_S256x128

/-! ## The first point's work -/

/-- Store what is made of group `n` of the projection's operand, then go on with `k`. -/
def emitX (A : Args) (n : Nat) (hn : n < 40) (x : FVec F S256x128 .f32) (k : P F) : P F := do
  let _ : Vec F S256x128 .fp8e4m3 ← Prog.lift (.load A.a12 (xrowRect n hn).toLoadRect (View.loadsAt_vmem h_S256x128))
  Prog.lift (.store A.a12 (xrowRect n hn) (codesOf x) Finset.univ (View.stores_vmem h_S256x128 (A.h12.storeExact_slice rfl _ (xrow_packed8 hn)) (fun _ => rfl)) (.inl rfl))
  let _ : Vec F S256x128 .bf16 ← Prog.lift (.load A.a19 (xrowRect n hn).toLoadRect (View.loadsAt_vmem h_S256x128))
  Prog.lift (.store A.a19 (xrowRect n hn) (deqX x) Finset.univ (View.stores_vmem h_S256x128 (A.h19.storeExact_slice rfl _ (xrow_packed16 hn)) (fun _ => rfl)) (.inl rfl))
  let _ : Vec F S256x1 .f32 ← Prog.lift (.load A.a13 (xcolRect n hn).toLoadRect (View.loadsAt_vmem h_S256x1))
  Prog.lift (.store A.a13 (xcolRect n hn) (scaleOf x) Finset.univ (View.stores_vmem_bits_univ h_S256x1 rfl) (.inl rfl))
  k

/-- The squares of the last `f` groups of the hidden state, summed onto what is handed in; then `k` of the sum. -/
def sumH (A : Args) (k : FVec F S256x128 .f32 → P F) (f : Nat) : FVec F S256x128 .f32 → P F :=
  Nat.rec k (fun f ih acc => do
    let x : Vec F S256x128 .bf16 ← Prog.lift (.load A.a3 (rowRect (19 - f) (by omega)).toLoadRect (View.loadsAt_vmem h_S256x128))
    let y : Vec F S256x128 .bf16 ← Prog.lift (.load A.a3 (rowRect (19 - f) (by omega)).toLoadRect (View.loadsAt_vmem h_S256x128))
    ih (addf acc (mulf (wide x) (wide y)))) f

/-- The last `f` groups of the hidden state, normalized and quantized; then `k`. -/
def groupsH (A : Args) (r : FVec F S256x1 .f32) (k : P F) (f : Nat) : P F :=
  Nat.rec k (fun f ih => do
    let x : Vec F S256x128 .bf16 ← Prog.lift (.load A.a3 (rowRect (19 - f) (by omega)).toLoadRect (View.loadsAt_vmem h_S256x128))
    let w : Vec F S1x128 .f32 ← Prog.lift (.load A.a4 (wtRect (19 - f) (by omega)).toLoadRect (View.loadsAt_vmem h_S1x128))
    emitX A (19 - f) (by omega) (normed (wide x) r w) ih) f

/-- The squares of the last `f` groups of the embedding rows. -/
def sumE (A : Args) (sh : IVec S256x128 32) (k : FVec F S256x128 .f32 → P F) (f : Nat) : FVec F S256x128 .f32 → P F :=
  Nat.rec k (fun f ih acc => do
    let x : Vec F S256x128 .i32 ← Prog.lift (.load A.a17 (rowRect (19 - f) (by omega)).toLoadRect (View.loadsAt_vmem h_S256x128))
    let s : Vec F S256x1 .f32 ← Prog.lift (.load A.a18 (colRect (19 - f) (by omega)).toLoadRect (View.loadsAt_vmem h_S256x1))
    let y : Vec F S256x128 .i32 ← Prog.lift (.load A.a17 (rowRect (19 - f) (by omega)).toLoadRect (View.loadsAt_vmem h_S256x128))
    let u : Vec F S256x1 .f32 ← Prog.lift (.load A.a18 (colRect (19 - f) (by omega)).toLoadRect (View.loadsAt_vmem h_S256x1))
    ih (addf acc (mulf (k0_pay151 sh x s) (k0_pay151 sh y u)))) f

/-- The last `f` groups of the embedding rows, normalized and quantized; then `k`. -/
def groupsE (A : Args) (sh : IVec S256x128 32) (r : FVec F S256x1 .f32) (k : P F) (f : Nat) : P F :=
  Nat.rec k (fun f ih => do
    let x : Vec F S256x128 .i32 ← Prog.lift (.load A.a17 (rowRect (19 - f) (by omega)).toLoadRect (View.loadsAt_vmem h_S256x128))
    let s : Vec F S256x1 .f32 ← Prog.lift (.load A.a18 (colRect (19 - f) (by omega)).toLoadRect (View.loadsAt_vmem h_S256x1))
    let w : Vec F S1x128 .f32 ← Prog.lift (.load A.a5 (wtRect (19 - f) (by omega)).toLoadRect (View.loadsAt_vmem h_S1x128))
    emitX A (20 + (19 - f)) (by omega) (normed (k0_pay151 sh x s) r w) ih) f

/-! ## The projection tile -/

/-- The tile's dequantized weights, from its blocks. -/
theorem blocks_concat (l : List (FVec F S128x256 .bf16)) (hl : l.length = 40) :
    Shape.Concatenates ((l.map fun b => (⟨S128x256, b⟩ : (s : Shape) × (s.Idx → F .bf16))).map (·.1)) S5120x256 0 := by
  have h : (l.map fun b => (⟨S128x256, b⟩ : (s : Shape) × (s.Idx → F .bf16))).map (·.1) = List.replicate 40 S128x256 := by
    rw [List.map_map, ← hl]; exact List.map_const' ..
  rw [h]; exact concatenates_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S5120x256_d0

/-- The last `f` rows of blocks of the tile, dequantized onto the list handed in; then `k` of all of them. -/
def weights (A : Args) (i : grid0.Coords) (k : (l : List (FVec F S128x256 .bf16)) → l.length + 0 = 40 → P F) (f : Nat) (hf : f ≤ 40) :
    (l : List (FVec F S128x256 .bf16)) → l.length + f = 40 → P F :=
  Nat.rec (motive := fun f => f ≤ 40 → (l : List (FVec F S128x256 .bf16)) → l.length + f = 40 → P F) (fun _ => k) (fun f ih hf l hl => do
    let s0 : Elt F .f32 ← smemLoad A.a10 (scaleRect i (39 - f) (by omega) 0) numel1_S1x1 rfl
    let c0 : Vec F S128x128 .fp8e4m3 ← Prog.lift (.load A.a9 (blockRect (39 - f) 0 (by omega) (by omega)).toLoadRect (View.loadsAt_vmem h_S128x128))
    let s1 : Elt F .f32 ← smemLoad A.a10 (scaleRect i (39 - f) (by omega) 1) numel1_S1x1 rfl
    let c1 : Vec F S128x128 .fp8e4m3 ← Prog.lift (.load A.a9 (blockRect (39 - f) 1 (by omega) (by omega)).toLoadRect (View.loadsAt_vmem h_S128x128))
    ih (by omega) (l ++ [k0_pay496 s0 c0 s1 c1]) (by simp; omega)) f hf

/-- The tile's product, stored; then `k`. -/
def product (A : Args) (i : grid0.Coords) (k : P F) (l : List (FVec F S128x256 .bf16)) (hl : l.length + 0 = 40) : P F := do
  let x : Vec F S256x5120 .bf16 ← Prog.lift (.load A.a19 (Rect.unit (s := S256x5120) ![0, 0] S256x5120.size inb_S256x5120_S256x5120_0_0).toLoadRect (View.loadsAt_vmem h_S256x5120))
  let _ : Vec F S1x256x256 .f32 ← Prog.lift (.load A.a20 (tileRect i).toLoadRect (View.loadsAt_vmem h_S1x256x256))
  Prog.lift (.store A.a20 (tileRect i)
    (k0_pay558 (concatenate S5120x256 0 (l.map fun b => (⟨S128x256, b⟩ : (s : Shape) × (s.Idx → F .bf16))) (blocks_concat l hl)) x)
    Finset.univ (View.stores_vmem_bits_univ h_S1x256x256 rfl) (.inl rfl))
  k

/-- A tile's work, then `k`. -/
def tile (A : Args) (i : grid0.Coords) (k : P F) : P F := weights A i (product A i k) 40 (le_refl _) [] rfl

/-! ## The last point's work -/

/-- Store what is made of group `n` of the normalized projection, then go on with `k`. -/
def emitY (A : Args) (n : Nat) (hn : n < 20) (x : FVec F S256x128 .f32) (k : P F) : P F := do
  let _ : Vec F S256x128 .fp8e4m3 ← Prog.lift (.load A.a14 (rowRect n hn).toLoadRect (View.loadsAt_vmem h_S256x128))
  Prog.lift (.store A.a14 (rowRect n hn) (codesOf x) Finset.univ (View.stores_vmem h_S256x128 (A.h14.storeExact_slice rfl _ (row_packed8 hn)) (fun _ => rfl)) (.inl rfl))
  let _ : Vec F S256x128 .bf16 ← Prog.lift (.load A.a16 (rowRect n hn).toLoadRect (View.loadsAt_vmem h_S256x128))
  Prog.lift (.store A.a16 (rowRect n hn) (deqOf x) Finset.univ (View.stores_vmem h_S256x128 (A.h16.storeExact_slice rfl _ (row_packed16 hn)) (fun _ => rfl)) (.inl rfl))
  let _ : Vec F S256x1 .f32 ← Prog.lift (.load A.a15 (colRect n hn).toLoadRect (View.loadsAt_vmem h_S256x1))
  Prog.lift (.store A.a15 (colRect n hn) (scaleOf x) Finset.univ (View.stores_vmem_bits_univ h_S256x1 rfl) (.inl rfl))
  k

/-- The squares of the last `f` groups of the projection. -/
def sumY (A : Args) (k : FVec F S256x128 .f32 → P F) (f : Nat) : FVec F S256x128 .f32 → P F :=
  Nat.rec k (fun f ih acc => do
    let x : Vec F S1x256x128 .f32 ← Prog.lift (.load A.a20 (projRect (19 - f) (by omega)).toLoadRect (View.loadsAt_vmem h_S1x256x128))
    let y : Vec F S1x256x128 .f32 ← Prog.lift (.load A.a20 (projRect (19 - f) (by omega)).toLoadRect (View.loadsAt_vmem h_S1x256x128))
    ih (addf acc (mulf (flat x) (flat y)))) f

/-- The last `f` groups of the projection: stored, normalized and quantized; then `k`. -/
def groupsY (A : Args) (r : FVec F S256x1 .f32) (k : P F) (f : Nat) : P F :=
  Nat.rec k (fun f ih => do
    let x : Vec F S1x256x128 .f32 ← Prog.lift (.load A.a20 (projRect (19 - f) (by omega)).toLoadRect (View.loadsAt_vmem h_S1x256x128))
    let _ : Vec F S256x128 .bf16 ← Prog.lift (.load A.a11 (rowRect (19 - f) (by omega)).toLoadRect (View.loadsAt_vmem h_S256x128))
    Prog.lift (.store A.a11 (rowRect (19 - f) (by omega)) (truncf .bf16 (flat x) bitsLt_bf16_f32) Finset.univ
      (View.stores_vmem h_S256x128 (A.h11.storeExact_slice rfl _ (row_packed16 (by omega))) (fun _ => rfl)) (.inl rfl))
    let w : Vec F S1x128 .f32 ← Prog.lift (.load A.a6 (wtRect (19 - f) (by omega)).toLoadRect (View.loadsAt_vmem h_S1x128))
    emitY A (19 - f) (by omega) (normed (flat x) r w) ih) f

/-- The last point's work. -/
def final (A : Args) : P F := sumY A (fun acc => groupsY A (factor acc) (pure ⟨⟩) 20) 20 zero

/-! ## The body -/

/-- The loop that starts the transfers of the embedding rows. -/
def issue (A : Args) (i : grid0.Coords) (h : k0_cond1 i = 1#1) : P F :=
  Scf.Loop.for k0_t1_loop (k0_t1_ok i h) ⟨⟩ (k0_t1_body i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 h)

/-- The loop that waits for them. -/
def drain (A : Args) (i : grid0.Coords) (h : k0_cond1 i = 1#1) : P F :=
  Scf.Loop.for k0_t2_loop (k0_t2_ok i h) ⟨⟩ (k0_t2_body i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 h 0#32 256#32)

/-- The first point's quantization of the embedding rows, then `k`. -/
def embed (A : Args) (k : P F) : P F := do
  let t0 : Vec F S1x128 .i32 ← Prog.lift (.load A.a2 (Rect.unit (s := S2x129) ![0, 0] S1x128.size inb_S2x129_S1x128_0_0).toLoadRect (View.loadsAt_vmem h_S1x128))
  let t1 : Vec F S1x128 .i32 ← Prog.lift (.load A.a2 (Rect.unit (s := S2x129) ![1, 0] S1x128.size inb_S2x129_S1x128_1_0).toLoadRect (View.loadsAt_vmem h_S1x128))
  sumE A (k0_pay147 t0 t1) (fun acc => groupsE A (k0_pay147 t0 t1) (factor acc) k 20) 20 zero

/-- The first point's quantization of the hidden state, then `k`. -/
def hide (A : Args) (k : P F) : P F := sumH A (fun acc => groupsH A (factor acc) k 20) 20 zero

/-- The first point's work. -/
def first (A : Args) (i : grid0.Coords) (h : k0_cond1 i = 1#1) : P F := do
  issue A i h
  hide A (do
    drain A i h
    embed A (tile A i (pure ⟨⟩)))

section
variable (A : Args) (i : grid0.Coords)

/-- Between the first point and the last the printed body is a tile's work. -/
theorem body_middle (h1 : ¬ k0_cond1 i = 1#1) (h2 : ¬ k0_cond2 i = 1#1) :
    cc0_front (F := F) i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 = tile A i (pure ⟨⟩) := by
  rw [cc0_front_eq_skeleton, cc0_front_skel, k0_part134_eq_skeleton, k0_part134_skel, k0_part115_eq_skeleton, k0_part115_skel]
  dsimp only
  simp only [dif_neg h1, dif_neg h2]
  chain_rfl

/-- At the last point it is a tile's work, then the projection's. -/
theorem body_last (h1 : ¬ k0_cond1 i = 1#1) (h2 : k0_cond2 i = 1#1) :
    cc0_front (F := F) i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 = tile A i (final A) := by
  rw [cc0_front_eq_skeleton, cc0_front_skel, k0_part134_eq_skeleton, k0_part134_skel, k0_part115_eq_skeleton, k0_part115_skel]
  dsimp only
  simp only [dif_neg h1, dif_pos h2]
  chain_rfl

/-- At the first point it is the operand's quantization, then a tile's work. -/
theorem body_first (h1 : k0_cond1 i = 1#1) (h2 : ¬ k0_cond2 i = 1#1) :
    cc0_front (F := F) i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 = first A i h1 := by
  rw [cc0_front_eq_skeleton, cc0_front_skel, k0_part134_eq_skeleton, k0_part134_skel, k0_part115_eq_skeleton, k0_part115_skel]
  dsimp only
  simp only [dif_pos h1, dif_neg h2]
  simp only [k0_part79_eq_skeleton, k0_part79_skel, k0_part3_eq_skeleton, k0_part3_skel, k0_part37_eq_skeleton, k0_part37_skel, bind_assoc]
  chain_rfl

end

end Cert.FrontIdeal.Layer

end
-- ==== Proof.FrontIdeal.Rows.lean ====
/- The embedding rows: the loop that starts the 256 transfers of code rows and the 256 of scale rows, and the loop that
   waits for them. After both, the row buffers hold the rows of the two tables that the ids name. -/
module

public import proofs.«01_k».proof.Proof.FrontIdeal.Blocks
public import proofs.«01_k».proof.Proof.Owns
public import Idealize.ShloMosaic.Lib.Batch
public import Idealize.ShloMosaic.Lib.Ring
public import Idealize.ShloMosaic.Lib.Pipeline.Frame

@[expose] public section

set_option maxRecDepth 16384

noncomputable section

namespace Cert.FrontIdeal.Layer

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.FrontIdeal Cert.FrontIdeal.Gen

variable {F : FTy → Type} [FloatOps F]

local notation "𝕄" => MT nD τ sig Unit (Elt F) ℕ (Pipeline.UD sig nD τ) ℕ

/-! ## A table lent to transfers of its rows -/

theorem swap3 (P Q R : sProp 𝕄) : iprop(P ∗ Q ∗ R) = iprop(Q ∗ P ∗ R) := by
  have one : ∀ P Q R : sProp 𝕄, iprop(P ∗ Q ∗ R) ⊢ iprop(Q ∗ P ∗ R) := fun P Q R => by
    iintro ⟨H1, H2, H3⟩; isplitl [H2]; · iexact H2
    isplitl [H1] <;> iassumption
  exact Idealize.SL.BI.Entails.antisymm (one _ _ _) (one _ _ _)

section Lend

variable (c : Dev nD) {st : Shape} {e : EltTy} {sp : Space} (tbl : Memref sig .tc sp st e) {n : Nat} (R : Fin n → Rect st)
  (q : PosShare TreeShare) (f : Buf (Elt F) (tbl.view.loc (c : Thread nD τ)))

/-- What stays behind of a table when each of `n` transfers holds its row at a token of its own. -/
def behind : sProp 𝕄 :=
  iprop((tbl.view.loc (c : Thread nD τ) ↦[tbl.view.set]{Transfers.shareDrop q n} f)
    ∗ bigSep Finset.univ fun t : Fin n => tbl.view.loc (c : Thread nD τ) ↦[tbl.view.set \ (tbl.view.slice (R t)).set]{Transfers.shareTokN q t} f)

/-- A table is its rows at their tokens and what stays behind. -/
theorem lend : (tbl.view.loc (c : Thread nD τ) ↦[tbl.view.set]{q} f : sProp 𝕄)
    = iprop((bigSep Finset.univ fun t : Fin n => tbl.view.loc (c : Thread nD τ) ↦[(tbl.view.slice (R t)).set]{Transfers.shareTokN q t} f)
        ∗ behind c tbl R q f) := by
  have h0 := Transfers.pointsTo_toks_range (Ix := Unit) (Name := ℕ) (U := Pipeline.UD sig nD τ) (Lvl := ℕ)
    (ℓ := tbl.view.loc (c : Thread nD τ)) (S := tbl.view.set) (f := f) q n
  have h1 := Idealize.SL.BI.Entails.antisymm h0.1 h0.2
  have h2 : BI.bigSep (Finset.range n) (fun i => (tbl.view.loc (c : Thread nD τ) ↦[tbl.view.set]{Transfers.shareTokN q i} f : sProp 𝕄))
      = BI.bigSep Finset.univ (fun t : Fin n => (tbl.view.loc (c : Thread nD τ) ↦[tbl.view.set]{Transfers.shareTokN q t} f : sProp 𝕄)) := by
    have := Ring.bigSep_rangeSet_eq_range (NB := n) (lo := 0) (hi := n)
      (Φ := fun t : Fin n => (tbl.view.loc (c : Thread nD τ) ↦[tbl.view.set]{Transfers.shareTokN q t} f : sProp 𝕄)) le_rfl
      (fun i => (tbl.view.loc (c : Thread nD τ) ↦[tbl.view.set]{Transfers.shareTokN q i} f : sProp 𝕄))
      (fun k h => by simp only [Nat.zero_add])
    rw [Ring.rangeSet_univ] at this
    rw [this, Nat.sub_zero]
  have h3 : BI.bigSep Finset.univ (fun t : Fin n => (tbl.view.loc (c : Thread nD τ) ↦[tbl.view.set]{Transfers.shareTokN q t} f : sProp 𝕄))
      = iprop(BI.bigSep Finset.univ (fun t : Fin n => (tbl.view.loc (c : Thread nD τ) ↦[(tbl.view.slice (R t)).set]{Transfers.shareTokN q t} f : sProp 𝕄))
        ∗ BI.bigSep Finset.univ (fun t : Fin n => (tbl.view.loc (c : Thread nD τ) ↦[tbl.view.set \ (tbl.view.slice (R t)).set]{Transfers.shareTokN q t} f : sProp 𝕄))) := by
    refine Eq.trans (BI.bigSep_congr fun t _ => ?_) (BI.bigSep_sep _ _ _)
    have := pointsTo_split_subset (Ix := Unit) (Name := ℕ) (U := Pipeline.UD sig nD τ) (Lvl := ℕ) (ℓ := tbl.view.loc (c : Thread nD τ))
      (q := Transfers.shareTokN q t) (f := f) (View.set_slice_subset (v := tbl.view) (R t))
    exact Idealize.SL.BI.Entails.antisymm this.1 this.2
  unfold behind
  rw [h1, h2, h3]
  exact swap3 _ _ _

/-- A buffer is its rows, when the rows are disjoint and make it up. -/
theorem rows_split (hd : ∀ t t', t ≠ t' → Disjoint (R t).set (R t').set) (hc : Finset.univ.biUnion (fun t => (R t).set) = Finset.univ) :
    (tbl.view.loc (c : Thread nD τ) ↦[tbl.view.set]{q} f : sProp 𝕄)
      = bigSep Finset.univ fun t : Fin n => tbl.view.loc (c : Thread nD τ) ↦[(tbl.view.slice (R t)).set]{q} f := by
  classical
  refine Ring.pointsTo_sub_blocks (ℓ := tbl.view.loc (c : Thread nD τ)) (fun t => (tbl.view.slice (R t)).set) (fun t t' h => ?_) tbl.view.set ?_ f
  · rw [View.set_slice, View.set_slice]; exact (Finset.disjoint_map _).mpr (hd t t' h)
  · ext y
    simp only [Finset.mem_biUnion, Finset.mem_univ, true_and]
    constructor
    · rintro ⟨t, ht⟩; exact View.set_slice_subset _ _ ht
    · intro hy
      obtain ⟨x, -, rfl⟩ := Finset.mem_map.mp hy
      have hx : x ∈ Finset.univ.biUnion (fun t => (R t).set) := hc ▸ Finset.mem_univ x
      obtain ⟨t, -, ht⟩ := Finset.mem_biUnion.mp hx
      exact ⟨t, by rw [View.set_slice]; exact Finset.mem_map_of_mem _ ht⟩

end Lend

/-- What a transfer of a row leaves on the row's elements is what the whole buffer holds there, once it holds every row. -/
theorem landed (c : Dev nD) {sd : Shape} {e : EltTy} {sp : Space} (m : Memref sig .tc sp sd e) (r : Rect sd)
    (f : Buf (Elt F) (m.view.loc (c : Thread nD τ))) (w : r.shape.Idx → Elt F e) (X : sd.Idx → Elt F e) (h : ∀ x, X (r.emb x) = w x) :
    ((m.view.loc (c : Thread nD τ)) ↦[(m.view.slice r).set]{fullShare} ((m.view.slice r).write (Elt F) f w Finset.univ) : sProp 𝕄)
      = (m.view.loc (c : Thread nD τ)) ↦[(m.view.slice r).set]{fullShare} (m.view.write (Elt F) f X Finset.univ) := by
  refine pointsTo_congr fun y hy => ?_
  obtain ⟨x, -, rfl⟩ := Finset.mem_map.mp hy
  refine (View.write_emb_of_mem (v := m.view.slice r) f w (Finset.mem_univ x)).trans ?_
  rw [show (m.view.slice r).emb x = m.view.emb (r.emb x) from rfl, View.write_emb_of_mem (v := m.view) f X (Finset.mem_univ _), h]

/-! ## Where the loops read and write -/

theorem trips1 : k0_t1_loop.trips = 256 := by decide +kernel
theorem trips2 : k0_t2_loop.trips = 256 := by decide +kernel

theorem off2_eq : ∀ t : Fin k0_t1_loop.trips, k0_off2 t = ![t.val, 0] := by decide +kernel
theorem off4_eq : ∀ t : Fin k0_t1_loop.trips, k0_off4 t = ![t.val, 0] := by decide +kernel
theorem off1_eq : ∀ t : Fin k0_t1_loop.trips, k0_off1 t = ![t.val / 128, t.val % 128] := by decide +kernel
theorem off6_eq : ∀ t : Fin k0_t2_loop.trips, k0_off6 t = ![t.val / 128, t.val % 128] := by decide +kernel

section Loops

variable (c : Dev nD) (A : Args) (i : grid0.Coords) (h : k0_cond1 i = 1#1) (I : S2x129.Idx → Elt F .i32)

/-- The id the trip `t` of the first loop reads, -/
def word (t : Fin k0_t1_loop.trips) : BitVec 32 :=
  I ((Rect.unit (s := S2x129) (k0_off1 t) S1x1.size (k0_off1_inb i t h)).emb (Shape.Idx.first (numel1_S1x1.symm ▸ Nat.one_pos)))

/-- and of the second. -/
def word2 (t : Fin k0_t2_loop.trips) : BitVec 32 :=
  I ((Rect.unit (s := S2x129) (k0_off6 t) S1x1.size (k0_off6_inb i t h)).emb (Shape.Idx.first (numel1_S1x1.symm ▸ Nat.one_pos)))

variable (hv : ∀ t, k0_chk1 i (word i h I t))

/-- The row of the code table a trip copies, -/
def src7 (t : Fin k0_t1_loop.trips) : Rect S37984x2560 :=
  Rect.unit (s := S37984x2560) (k0_off3 (word i h I t)) S1x2560.size (k0_off3_inb i (word i h I t) (hv t) h)
/-- of the scale table, -/
def src8 (t : Fin k0_t1_loop.trips) : Rect S151936x20 :=
  Rect.unit (s := S151936x20) (k0_off5 (word i h I t)) S1x20.size (k0_off5_inb i (word i h I t) (hv t) h)
/-- and where to. -/
def dst7 (t : Fin k0_t1_loop.trips) : Rect S256x2560 := Rect.unit (s := S256x2560) (k0_off2 t) S1x2560.size (k0_off2_inb i t h)
def dst8 (t : Fin k0_t1_loop.trips) : Rect S256x20 := Rect.unit (s := S256x20) (k0_off4 t) S1x20.size (k0_off4_inb i t h)

/-- The trip that fills a row. -/
def tripOf {n : Nat} (x : Fin 256) : Fin k0_t1_loop.trips := ⟨x.val, by rw [trips1]; exact x.isLt⟩

/-- A place in a row. -/
def lane7 (x : S256x2560.Idx) : S1x2560.Idx := fun a => ⟨![0, (x 1).val] a, by
  fin_cases a
  · exact Nat.one_pos
  · exact (x 1).isLt⟩
def lane8 (x : S256x20.Idx) : S1x20.Idx := fun a => ⟨![0, (x 1).val] a, by
  fin_cases a
  · exact Nat.one_pos
  · exact (x 1).isLt⟩

/-- The rows of the code table, -/
def rows7 (T : S37984x2560.Idx → Elt F .i32) : S256x2560.Idx → Elt F .i32 := fun x => T ((src7 i h I hv (tripOf (n := 0) (x 0))).emb (lane7 x))
/-- and of the scale table. -/
def rows8 (T : S151936x20.Idx → Elt F .f32) : S256x20.Idx → Elt F .f32 := fun x => T ((src8 i h I hv (tripOf (n := 0) (x 0))).emb (lane8 x))

theorem rows7_emb (T : S37984x2560.Idx → Elt F .i32) (t : Fin k0_t1_loop.trips) (x : S1x2560.Idx) :
    rows7 i h I hv T ((dst7 i h t).emb x) = T ((src7 i h I hv t).emb x) := by
  have e0 : tripOf (n := 0) ((dst7 i h t).emb x 0) = t := Fin.ext (by
    show k0_off2 t 0 + 1 * (x 0).val = t.val
    have : (x 0).val < 1 := (x 0).isLt
    rw [off2_eq]; show t.val + 1 * (x 0).val = _; omega)
  have e1 : lane7 ((dst7 i h t).emb x) = x := funext fun a => Fin.ext (by
    fin_cases a
    · have : (x 0).val < 1 := (x 0).isLt
      show 0 = (x 0).val; omega
    · show k0_off2 t 1 + 1 * (x 1).val = (x 1).val
      rw [off2_eq]; show 0 + 1 * (x 1).val = _; omega)
  unfold rows7; rw [e0, e1]

theorem rows8_emb (T : S151936x20.Idx → Elt F .f32) (t : Fin k0_t1_loop.trips) (x : S1x20.Idx) :
    rows8 i h I hv T ((dst8 i h t).emb x) = T ((src8 i h I hv t).emb x) := by
  have e0 : tripOf (n := 0) ((dst8 i h t).emb x 0) = t := Fin.ext (by
    show k0_off4 t 0 + 1 * (x 0).val = t.val
    have : (x 0).val < 1 := (x 0).isLt
    rw [off4_eq]; show t.val + 1 * (x 0).val = _; omega)
  have e1 : lane8 ((dst8 i h t).emb x) = x := funext fun a => Fin.ext (by
    fin_cases a
    · have : (x 0).val < 1 := (x 0).isLt
      show 0 = (x 0).val; omega
    · show k0_off4 t 1 + 1 * (x 1).val = (x 1).val
      rw [off4_eq]; show 0 + 1 * (x 1).val = _; omega)
  unfold rows8; rw [e0, e1]

/-- The two semaphores. -/
abbrev sem7 : SemLoc sig := .dma ((A.a21.slice (Rect.unit (s := S2) ![0] S1.size inb_S2_S1_0)).squeeze S_ squeezes_S1_S_).sem
abbrev sem8 : SemLoc sig := .dma ((A.a21.slice (Rect.unit (s := S2) ![1] S1.size inb_S2_S1_1)).squeeze S_ squeezes_S1_S_).sem

variable (q7 q8 : PosShare TreeShare) (f7 : Buf (Elt F) (A.a7.view.loc (c : Thread nD τ))) (f8 : Buf (Elt F) (A.a8.view.loc (c : Thread nD τ)))
  (g7 : Buf (Elt F) (A.a17.view.loc (c : Thread nD τ))) (g8 : Buf (Elt F) (A.a18.view.loc (c : Thread nD τ)))

/-- What a transfer of a code row delivers: the row, and the table's row back; -/
def got7 (t : Fin k0_t1_loop.trips) : sProp 𝕄 :=
  iprop((A.a17.view.loc (c : Thread nD τ) ↦[(A.a17.view.slice (dst7 i h t)).set]{fullShare}
      (A.a17.view.write (Elt F) g7 (rows7 i h I hv (A.a7.view.read (Elt F) f7)) Finset.univ))
    ∗ (A.a7.view.loc (c : Thread nD τ) ↦[(A.a7.view.slice (src7 i h I hv t)).set]{Transfers.shareTokN q7 t} f7))
/-- and of a scale row. -/
def got8 (t : Fin k0_t1_loop.trips) : sProp 𝕄 :=
  iprop((A.a18.view.loc (c : Thread nD τ) ↦[(A.a18.view.slice (dst8 i h t)).set]{fullShare}
      (A.a18.view.write (Elt F) g8 (rows8 i h I hv (A.a8.view.read (Elt F) f8)) Finset.univ))
    ∗ (A.a8.view.loc (c : Thread nD τ) ↦[(A.a8.view.slice (src8 i h I hv t)).set]{Transfers.shareTokN q8 t} f8))

instance (t) : Storable (upEmb : UEmb _ 𝕄) (got7 c A i h I hv q7 f7 g7 t) := by unfold got7; infer_instance
instance (t) : Storable (upEmb : UEmb _ 𝕄) (got8 c A i h I hv q8 f8 g8 t) := by unfold got8; infer_instance

/-- What the trip that starts them gives up. -/
def give (t : Fin k0_t1_loop.trips) : sProp 𝕄 :=
  iprop((A.a7.view.loc (c : Thread nD τ) ↦[(A.a7.view.slice (src7 i h I hv t)).set]{Transfers.shareTokN q7 t} f7)
    ∗ (A.a17.view.loc (c : Thread nD τ) ↦[(A.a17.view.slice (dst7 i h t)).set]{fullShare} g7)
    ∗ (A.a8.view.loc (c : Thread nD τ) ↦[(A.a8.view.slice (src8 i h I hv t)).set]{Transfers.shareTokN q8 t} f8)
    ∗ (A.a18.view.loc (c : Thread nD τ) ↦[(A.a18.view.slice (dst8 i h t)).set]{fullShare} g8))

/-- The credit of one row's transfer. -/
abbrev amt7 : Nat := A.a17.view.ref.dmaCredit S1x2560 .i32
abbrev amt8 : Nat := A.a18.view.ref.dmaCredit S1x20 .f32

theorem amt7_eq (A : Args) (i : grid0.Coords) (h : k0_cond1 i = 1#1) (t : Fin k0_t1_loop.trips) :
    (A.a17.slice (dst7 i h t) (fun _ => rfl)).view.amount (sem7 A) = amt7 A := rfl

theorem deliver7 (t : Fin k0_t1_loop.trips) :
    iprop((A.a17.view.loc (c : Thread nD τ) ↦[(A.a17.view.slice (dst7 i h t)).set]{fullShare}
        ((A.a17.view.slice (dst7 i h t)).write (Elt F) g7 (ReadAs.same.apply ((A.a7.view.slice (src7 i h I hv t)).read (Elt F) f7)) Finset.univ))
      ∗ (A.a7.view.loc (c : Thread nD τ) ↦[(A.a7.view.slice (src7 i h I hv t)).set]{Transfers.shareTokN q7 t} f7))
      ⊢ got7 c A i h I hv q7 f7 g7 t := by
  unfold got7
  exact Laws.sep_mono_left (Entails.of_eq (landed c A.a17 (dst7 i h t) g7 _ (rows7 i h I hv (A.a7.view.read (Elt F) f7)) (fun x => rows7_emb i h I hv _ t x)))

theorem amt8_eq (A : Args) (i : grid0.Coords) (h : k0_cond1 i = 1#1) (t : Fin k0_t1_loop.trips) :
    (A.a18.slice (dst8 i h t) (fun _ => rfl)).view.amount (sem8 A) = amt8 A := rfl

theorem deliver8 (t : Fin k0_t1_loop.trips) :
    iprop((A.a18.view.loc (c : Thread nD τ) ↦[(A.a18.view.slice (dst8 i h t)).set]{fullShare}
        ((A.a18.view.slice (dst8 i h t)).write (Elt F) g8 (ReadAs.same.apply ((A.a8.view.slice (src8 i h I hv t)).read (Elt F) f8)) Finset.univ))
      ∗ (A.a8.view.loc (c : Thread nD τ) ↦[(A.a8.view.slice (src8 i h I hv t)).set]{Transfers.shareTokN q8 t} f8))
      ⊢ got8 c A i h I hv q8 f8 g8 t := by
  unfold got8
  exact Laws.sep_mono_left (Entails.of_eq (landed c A.a18 (dst8 i h t) g8 _ (rows8 i h I hv (A.a8.view.read (Elt F) f8)) (fun x => rows8_emb i h I hv _ t x)))

/-- The two batches with `k` transfers started on each and `u` waited for. -/
def batches (k u : Nat) : sProp 𝕄 :=
  iprop(Transfers.Batch countersEmb (c : Thread nD τ) (sem7 A) () (amt7 A) (got7 c A i h I hv q7 f7 g7) k (u * amt7 A)
    ∗ Transfers.Batch countersEmb (c : Thread nD τ) (sem8 A) () (amt8 A) (got8 c A i h I hv q8 f8 g8) k (u * amt8 A))

/-- Before trip `k` of the first loop. -/
def issueInv (q1 : PosShare TreeShare) (k : Nat) (_ : Unit) : sProp 𝕄 :=
  iprop(owns (c : Thread nD τ) A.a1 q1 I ∗ batches c A i h I hv q7 q8 f7 f8 g7 g8 k 0
    ∗ bigSep (Transfers.pending k) (give c A i h I hv q7 q8 f7 f8 g7 g8))

theorem issue_step (q1 : PosShare TreeShare) (k : Fin k0_t1_loop.trips) (acc : Unit) :
    issueInv c A i h I hv q7 q8 f7 f8 g7 g8 q1 k acc ⊢ wp frame (wpE defs₀ Variants.none (c : Thread nD τ) none) Set.univ
      (k0_t1_body (F := F) i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 h k acc)
      (issueInv c A i h I hv q7 q8 f7 f8 g7 g8 q1 (k.val + 1)) := by
  unfold issueInv batches
  rw [Transfers.bigSep_pending_step _ k.val k.isLt]
  simp only [k0_t1_body, k0_part1_eq_skeleton, k0_part1_skel, smemLoad, smemLoadElt, Prog.lift, Prog.bind_op, Prog.bind_ret, bind_assoc]
  iintro ⟨H1, ⟨HB7, HB8⟩, Hg, Hp⟩
  unfold give
  icases Hg with ⟨Hs7, Hd7, Hs8, Hd8⟩
  iapply (Owns.wp_load Variants.none (c : Thread nD τ) none Set.univ (r := Rect.unit (s := S2x129) (k0_off1 k) S1x1.size (k0_off1_inb i k h))) $$ H1
  iintro H1
  iapply (wp_assume Variants.none (c : Thread nD τ) none Set.univ (hv k))
  iapply (Transfers.wp_dmaBatch countersEmb Variants.none (c : Thread nD τ) none
    (src := A.a7.slice (src7 i h I hv k) (fun _ => rfl)) (dst := A.a17.slice (dst7 i h k) (fun _ => rfl)) (via := .same) (sm := sem7 A)
    (D := got7 c A i h I hv q7 f7 g7) (fd := g7) (fs := f7) (q := Transfers.shareTokN q7 k) (Sd := (A.a17.view.slice (dst7 i h k)).set) (j := k.val) (u := 0 * amt7 A)
    () (amt7 A) (amt7_eq A i h k) (Finset.Subset.refl _) k.isLt (by rw [Nat.zero_mul]; exact Nat.zero_le _)
    (deliver7 c A i h I hv q7 f7 g7 k)) $$ [Hs7 Hd7 HB7]
  · isplitl [Hs7]; · iexact Hs7
    isplitl [Hd7] <;> iassumption
  iintro HB7
  iapply (Transfers.wp_dmaBatch countersEmb Variants.none (c : Thread nD τ) none
    (src := A.a8.slice (src8 i h I hv k) (fun _ => rfl)) (dst := A.a18.slice (dst8 i h k) (fun _ => rfl)) (via := .same) (sm := sem8 A)
    (D := got8 c A i h I hv q8 f8 g8) (fd := g8) (fs := f8) (q := Transfers.shareTokN q8 k) (Sd := (A.a18.view.slice (dst8 i h k)).set) (j := k.val) (u := 0 * amt8 A)
    () (amt8 A) (amt8_eq A i h k) (Finset.Subset.refl _) k.isLt (by rw [Nat.zero_mul]; exact Nat.zero_le _)
    (deliver8 c A i h I hv q8 f8 g8 k)) $$ [Hs8 Hd8 HB8]
  · isplitl [Hs8]; · iexact Hs8
    isplitl [Hd8] <;> iassumption
  iintro HB8
  sl_step
  isplitl [H1]; · iexact H1
  isplitl [HB7 HB8]
  · isplitl [HB7] <;> iassumption
  iexact Hp

/-- Before trip `k` of the second loop. -/
def drainInv (q1 : PosShare TreeShare) (k : Nat) (_ : Unit) : sProp 𝕄 :=
  iprop(owns (c : Thread nD τ) A.a1 q1 I ∗ batches c A i h I hv q7 q8 f7 f8 g7 g8 k0_t1_loop.trips k ∗ ∃ W, owes (c : Thread nD τ) 0 W)

theorem drain_step (hv2 : ∀ t, k0_chk2 i (word2 i h I t)) (q1 : PosShare TreeShare) (k : Fin k0_t2_loop.trips) (acc : Unit) :
    drainInv c A i h I hv q7 q8 f7 f8 g7 g8 q1 k acc ⊢ wp frame (wpE defs₀ Variants.none (c : Thread nD τ) none) Set.univ
      (k0_t2_body (F := F) i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 h 0#32 256#32 k acc)
      (drainInv c A i h I hv q7 q8 f7 f8 g7 g8 q1 (k.val + 1)) := by
  have hk : k.val < 256 := trips2 ▸ k.isLt
  unfold drainInv batches
  simp only [k0_t2_body, k0_part2_eq_skeleton, k0_part2_skel, smemLoad, smemLoadElt, Prog.lift, Prog.bind_op, Prog.bind_ret, bind_assoc]
  iintro ⟨H1, ⟨HB7, HB8⟩, ⟨%W, HO⟩⟩
  iapply (Owns.wp_load Variants.none (c : Thread nD τ) none Set.univ (r := Rect.unit (s := S2x129) (k0_off6 k) S1x1.size (k0_off6_inb i k h))) $$ H1
  iintro H1
  iapply (wp_assume Variants.none (c : Thread nD τ) none Set.univ (hv2 k))
  iapply (Transfers.wp_waitBatchMul countersEmb Variants.none (c : Thread nD τ) none
    (srcw := A.a7.slice (Rect.unit (s := S37984x2560) (k0_off8 (word2 i h I k)) S1x2560.size (k0_off8_inb i (word2 i h I k) (hv2 k) h)) (fun _ => rfl))
    (dstw := A.a17.slice (Rect.unit (s := S256x2560) (k0_off7 k) S1x2560.size (k0_off7_inb i k h)) (fun _ => rfl))
    (N := amt7 A) (D := got7 c A i h I hv q7 f7 g7) (j := k0_t1_loop.trips) (u := k.val * amt7 A)
    () 1 (Nat.one_mul _).symm (by have h1 := trips1; rw [Nat.one_mul, Nat.mul_comm, ← Nat.mul_succ]; exact Nat.mul_le_mul_left _ (by omega))) $$ [HB7 HO]
  · isplitl [HB7] <;> iassumption
  iintro ⟨HB7, HO⟩
  iapply (Transfers.wp_waitBatchMul countersEmb Variants.none (c : Thread nD τ) none
    (srcw := A.a8.slice (Rect.unit (s := S151936x20) (k0_off10 (word2 i h I k)) S1x20.size (k0_off10_inb i (word2 i h I k) (hv2 k) h)) (fun _ => rfl))
    (dstw := A.a18.slice (Rect.unit (s := S256x20) (k0_off9 k) S1x20.size (k0_off9_inb i k h)) (fun _ => rfl))
    (N := amt8 A) (D := got8 c A i h I hv q8 f8 g8) (j := k0_t1_loop.trips) (u := k.val * amt8 A)
    () 1 (Nat.one_mul _).symm (by have h1 := trips1; rw [Nat.one_mul, Nat.mul_comm, ← Nat.mul_succ]; exact Nat.mul_le_mul_left _ (by omega))) $$ [HB8 HO]
  · isplitl [HB8] <;> iassumption
  iintro ⟨HB8, HO⟩
  rw [Nat.one_mul, Nat.one_mul, ← Nat.succ_mul, ← Nat.succ_mul]
  sl_step
  isplitl [H1]; · iexact H1
  isplitl [HB7 HB8]
  · isplitl [HB7] <;> iassumption
  iexists _; iexact HO

theorem dst7_disjoint (t t') (ht : t ≠ t') : Disjoint (dst7 i h t).set (dst7 i h t').set :=
  Ring.lead_disjoint (s := S256x2560) (0 : Fin 2) 1 k0_off2 S1x2560.size (fun t => k0_off2_inb i t h)
    (fun t => by rw [off2_eq]; exact (Nat.one_mul _).symm) rfl t t' ht
theorem dst8_disjoint (t t') (ht : t ≠ t') : Disjoint (dst8 i h t).set (dst8 i h t').set :=
  Ring.lead_disjoint (s := S256x20) (0 : Fin 2) 1 k0_off4 S1x20.size (fun t => k0_off4_inb i t h)
    (fun t => by rw [off4_eq]; exact (Nat.one_mul _).symm) rfl t t' ht
theorem dst7_cover : Finset.univ.biUnion (fun t => (dst7 i h t).set) = Finset.univ :=
  Ring.lead_cover (s := S256x2560) (0 : Fin 2) 1 k0_off2 S1x2560.size (fun t => k0_off2_inb i t h)
    (fun t => by rw [off2_eq]; exact (Nat.one_mul _).symm) (fun t a ha => by rw [off2_eq]; fin_cases a <;> simp_all) rfl
    (fun a ha => by fin_cases a <;> simp_all) (by rw [trips1]; rfl)
theorem dst8_cover : Finset.univ.biUnion (fun t => (dst8 i h t).set) = Finset.univ :=
  Ring.lead_cover (s := S256x20) (0 : Fin 2) 1 k0_off4 S1x20.size (fun t => k0_off4_inb i t h)
    (fun t => by rw [off4_eq]; exact (Nat.one_mul _).symm) (fun t a ha => by rw [off4_eq]; fin_cases a <;> simp_all) rfl
    (fun a ha => by fin_cases a <;> simp_all) (by rw [trips1]; rfl)

theorem all_sep {n : Nat} (Φ Ψ : Fin n → sProp 𝕄) :
    bigSep Finset.univ (fun t => iprop(Φ t ∗ Ψ t)) = iprop(bigSep Finset.univ Φ ∗ bigSep Finset.univ Ψ) := BI.bigSep_sep _ _ _

/-- What the first loop leaves: everything in flight, and what stays behind of the tables. -/
def flying : sProp 𝕄 :=
  iprop(batches c A i h I hv q7 q8 f7 f8 g7 g8 k0_t1_loop.trips 0 ∗ behind c A.a7 (src7 i h I hv) q7 f7 ∗ behind c A.a8 (src8 i h I hv) q8 f8)

/-- All the deliveries of the rows: the buffer written, the table's rows back. -/
theorem collected7 : bigSep Finset.univ (got7 c A i h I hv q7 f7 g7)
    ⊢ iprop((A.a17.view.loc (c : Thread nD τ) ↦[A.a17.view.set]{fullShare} A.a17.view.write (Elt F) g7 (rows7 i h I hv (A.a7.view.read (Elt F) f7)) Finset.univ)
      ∗ bigSep Finset.univ (fun t => (A.a7.view.loc (c : Thread nD τ) ↦[(A.a7.view.slice (src7 i h I hv t)).set]{Transfers.shareTokN q7 t.val} f7))) := by
  rw [rows_split c A.a17 (dst7 i h) fullShare _ (dst7_disjoint i h) (dst7_cover i h)]
  exact Entails.of_eq (all_sep
    (fun t => (A.a17.view.loc (c : Thread nD τ) ↦[(A.a17.view.slice (dst7 i h t)).set]{fullShare} A.a17.view.write (Elt F) g7 (rows7 i h I hv (A.a7.view.read (Elt F) f7)) Finset.univ))
    (fun t => (A.a7.view.loc (c : Thread nD τ) ↦[(A.a7.view.slice (src7 i h I hv t)).set]{Transfers.shareTokN q7 t.val} f7)))
/-- All the deliveries of the scales: the buffer written, the table's rows back. -/
theorem collected8 : bigSep Finset.univ (got8 c A i h I hv q8 f8 g8)
    ⊢ iprop((A.a18.view.loc (c : Thread nD τ) ↦[A.a18.view.set]{fullShare} A.a18.view.write (Elt F) g8 (rows8 i h I hv (A.a8.view.read (Elt F) f8)) Finset.univ)
      ∗ bigSep Finset.univ (fun t => (A.a8.view.loc (c : Thread nD τ) ↦[(A.a8.view.slice (src8 i h I hv t)).set]{Transfers.shareTokN q8 t.val} f8))) := by
  rw [rows_split c A.a18 (dst8 i h) fullShare _ (dst8_disjoint i h) (dst8_cover i h)]
  exact Entails.of_eq (all_sep
    (fun t => (A.a18.view.loc (c : Thread nD τ) ↦[(A.a18.view.slice (dst8 i h t)).set]{fullShare} A.a18.view.write (Elt F) g8 (rows8 i h I hv (A.a8.view.read (Elt F) f8)) Finset.univ))
    (fun t => (A.a8.view.loc (c : Thread nD τ) ↦[(A.a8.view.slice (src8 i h I hv t)).set]{Transfers.shareTokN q8 t.val} f8)))

/-- The loop that starts the transfers, -/
theorem wp_issue {Q : PUnit → sProp 𝕄} (q1 : PosShare TreeShare) (k : P F) :
    iprop((semVal ((c : Thread nD τ), sem7 A) 0 ∗ semVal ((c : Thread nD τ), sem8 A) 0) ∗ owns (c : Thread nD τ) A.a1 q1 I
      ∗ (A.a7.view.loc (c : Thread nD τ) ↦[A.a7.view.set]{q7} f7) ∗ (A.a8.view.loc (c : Thread nD τ) ↦[A.a8.view.set]{q8} f8)
      ∗ (A.a17.view.loc (c : Thread nD τ) ↦[A.a17.view.set]{fullShare} g7) ∗ (A.a18.view.loc (c : Thread nD τ) ↦[A.a18.view.set]{fullShare} g8))
    ⊢ iprop((owns (c : Thread nD τ) A.a1 q1 I -∗ flying c A i h I hv q7 q8 f7 f8 g7 g8 -∗ wp frame (wpE defs₀ Variants.none (c : Thread nD τ) none) Set.univ k Q)
      -∗ wp frame (wpE defs₀ Variants.none (c : Thread nD τ) none) Set.univ (issue A i h >>= fun _ => k) Q) := by
  rw [lend c A.a7 (src7 i h I hv) q7 f7, lend c A.a8 (src8 i h I hv) q8 f8,
    rows_split c A.a17 (dst7 i h) fullShare g7 (dst7_disjoint i h) (dst7_cover i h),
    rows_split c A.a18 (dst8 i h) fullShare g8 (dst8_disjoint i h) (dst8_cover i h)]
  iintro ⟨⟨Hv7, Hv8⟩, H1, ⟨Hs7, Hr7⟩, ⟨Hs8, Hr8⟩, Hd7, Hd8⟩ Hk
  imod (Transfers.batch_alloc' countersEmb (c : Thread nD τ) () (amt7 A) (got7 c A i h I hv q7 f7 g7) (sm := sem7 A) (E := Set.univ)) $$ Hv7 with HB7
  imod (Transfers.batch_alloc' countersEmb (c : Thread nD τ) () (amt8 A) (got8 c A i h I hv q8 f8 g8) (sm := sem8 A) (E := Set.univ)) $$ Hv8 with HB8
  unfold issue
  iapply (Scf.wp_for_bind frame (wpE defs₀ Variants.none (c : Thread nD τ) none) Set.univ _ _ _ _ _ _ (issueInv c A i h I hv q7 q8 f7 f8 g7 g8 q1)
    (issue_step c A i h I hv q7 q8 f7 f8 g7 g8 q1)) $$ [H1 HB7 HB8 Hs7 Hs8 Hd7 Hd8]
  · unfold issueInv batches
    isplitl [H1]; · iexact H1
    isplitl [HB7 HB8]
    · rw [Nat.zero_mul, Nat.zero_mul]; isplitl [HB7] <;> iassumption
    rw [Transfers.pending_zero]
    unfold give
    rw [all_sep, all_sep, all_sep]
    isplitl [Hs7]; · iexact Hs7
    isplitl [Hd7]; · iexact Hd7
    isplitl [Hs8] <;> iassumption
  iintro %acc HL
  unfold issueInv flying
  icases HL with ⟨H1, HB, -⟩
  iapply Hk $$ H1
  isplitl [HB]; · iexact HB
  isplitl [Hr7] <;> iassumption

/-- and the one that waits for them: the row buffers hold the rows, the tables and the semaphores are back. -/
theorem wp_drain {Q : PUnit → sProp 𝕄} (hv2 : ∀ t, k0_chk2 i (word2 i h I t)) (q1 : PosShare TreeShare) (k : P F) :
    iprop(owns (c : Thread nD τ) A.a1 q1 I ∗ flying c A i h I hv q7 q8 f7 f8 g7 g8 ∗ ∃ W, owes (c : Thread nD τ) 0 W)
    ⊢ iprop((owns (c : Thread nD τ) A.a1 q1 I
        -∗ (semVal ((c : Thread nD τ), sem7 A) 0 ∗ semVal ((c : Thread nD τ), sem8 A) 0)
        -∗ (A.a7.view.loc (c : Thread nD τ) ↦[A.a7.view.set]{q7} f7) -∗ (A.a8.view.loc (c : Thread nD τ) ↦[A.a8.view.set]{q8} f8)
        -∗ owns (c : Thread nD τ) A.a17 fullShare (rows7 i h I hv (A.a7.view.read (Elt F) f7))
        -∗ owns (c : Thread nD τ) A.a18 fullShare (rows8 i h I hv (A.a8.view.read (Elt F) f8))
        -∗ (∃ W, owes (c : Thread nD τ) 0 W)
        -∗ wp frame (wpE defs₀ Variants.none (c : Thread nD τ) none) Set.univ k Q)
      -∗ wp frame (wpE defs₀ Variants.none (c : Thread nD τ) none) Set.univ (drain A i h >>= fun _ => k) Q) := by
  iintro ⟨H1, Hf, HO⟩ Hk
  unfold flying
  icases Hf with ⟨HB, Hr7, Hr8⟩
  unfold drain
  iapply (Scf.wp_for_bind frame (wpE defs₀ Variants.none (c : Thread nD τ) none) Set.univ _ _ _ _ _ _ (drainInv c A i h I hv q7 q8 f7 f8 g7 g8 q1)
    (drain_step c A i h I hv q7 q8 f7 f8 g7 g8 hv2 q1)) $$ [H1 HB HO]
  · unfold drainInv
    isplitl [H1]; · iexact H1
    isplitl [HB] <;> iassumption
  iintro %acc HL
  unfold drainInv batches
  rw [show Scf.trips k0_t2_loop.lb k0_t2_loop.ub k0_t2_loop.st = k0_t1_loop.trips from trips2.trans trips1.symm,
    Nat.mul_comm _ (amt7 A), Nat.mul_comm _ (amt8 A)]
  icases HL with ⟨H1, ⟨HB7, HB8⟩, HO⟩
  imod (Transfers.batch_collect' countersEmb (c : Thread nD τ) (sm := sem7 A) (ι := ()) (N := amt7 A)
    (View.amount_pos (A.a17.slice (dst7 i h ⟨0, by rw [trips1]; decide⟩) (fun _ => rfl)).view (sem7 A) (show 0 < S1x2560.numel by decide)) (D := got7 c A i h I hv q7 f7 g7)) $$ HB7 with ⟨HD7, Hv7⟩
  imod (Transfers.batch_collect' countersEmb (c : Thread nD τ) (sm := sem8 A) (ι := ()) (N := amt8 A)
    (View.amount_pos (A.a18.slice (dst8 i h ⟨0, by rw [trips1]; decide⟩) (fun _ => rfl)).view (sem8 A) (show 0 < S1x20.numel by decide)) (D := got8 c A i h I hv q8 f8 g8)) $$ HB8 with ⟨HD8, Hv8⟩
  ihave HD7 := (collected7 c A i h I hv q7 f7 g7) $$ HD7
  ihave HD8 := (collected8 c A i h I hv q8 f8 g8) $$ HD8
  icases HD7 with ⟨Hd7, Hs7⟩
  icases HD8 with ⟨Hd8, Hs8⟩
  iapply Hk $$ H1 [Hv7 Hv8] [Hs7 Hr7] [Hs8 Hr8] [Hd7] [Hd8] HO
  · isplitl [Hv7] <;> iassumption
  · rw [lend c A.a7 (src7 i h I hv) q7 f7]; isplitl [Hs7]
    · iexact Hs7
    · iexact Hr7
  · rw [lend c A.a8 (src8 i h I hv) q8 f8]; isplitl [Hs8]
    · iexact Hs8
    · iexact Hr8
  · unfold owns; iexists A.a17.view.write (Elt F) g7 (rows7 i h I hv (A.a7.view.read (Elt F) f7)) Finset.univ; isplitr
    · ipureintro; exact View.read_write_univ (v := A.a17.view) (Val := Elt F) g7 (rows7 i h I hv (A.a7.view.read (Elt F) f7))
    · iexact Hd7
  · unfold owns; iexists A.a18.view.write (Elt F) g8 (rows8 i h I hv (A.a8.view.read (Elt F) f8)) Finset.univ; isplitr
    · ipureintro; exact View.read_write_univ (v := A.a18.view) (Val := Elt F) g8 (rows8 i h I hv (A.a8.view.read (Elt F) f8))
    · iexact Hd8

end Loops

end Cert.FrontIdeal.Layer

end
-- ==== Proof.FrontIdeal.Body.lean ====
/- The front kernel's body as a triple: from the buffers it is handed, whatever the ones it writes hold, each grid point runs
   to its end, leaves the ones it reads as they were and hands all of them back. -/
module

public import proofs.«01_k».proof.Proof.FrontIdeal.Rows

@[expose] public section

set_option maxRecDepth 16384

noncomputable section

namespace Cert.FrontIdeal.Layer

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.FrontIdeal Cert.FrontIdeal.Gen

variable {F : FTy → Type} [FloatOps F]

local notation "𝕄" => MT nD τ sig Unit (Elt F) ℕ (Pipeline.UD sig nD τ) ℕ

/-! ## Buffers at any contents -/

section Hold
variable (c : Dev nD) {cs : CoreSpace} {s : Shape} {e : EltTy}

/-- A buffer owned, whatever it holds. -/
def hold (m : Memref sig .tc cs s e) : sProp 𝕄 := iprop(∃ X, owns (c : Thread nD τ) m fullShare X)

/-- A load of it goes on whatever it reads, -/
theorem wp_load_hold {Q : PUnit → sProp 𝕄} {m : Memref sig .tc cs s e} {r : Rect s} {hl : m.view.LoadsAt r}
    {k : (r.shape.Idx → Elt F e) → P F} :
    (hold c m : sProp 𝕄) ⊢ iprop((∀ v, hold c m -∗ wp frame (wpE (defs₀ (F := F)) Variants.none (c : Thread nD τ) none) Set.univ (k v) Q) -∗ wp frame (wpE (defs₀ (F := F)) Variants.none (c : Thread nD τ) none) Set.univ (.op (.load m r hl) k) Q) := by
  unfold hold
  iintro ⟨%X, H⟩ Hk
  iapply (Owns.wp_load Variants.none (c : Thread nD τ) none Set.univ (r := r)) $$ H
  iintro H
  iapply Hk $$ %_
  iexists X; iexact H

/-- and a store into it hands it back. -/
theorem wp_store_hold {Q : PUnit → sProp 𝕄} {m : Memref sig .tc cs s e} {r : Rect s} {w : r.shape.Idx → Elt F e}
    {hx : (m.access r).Stores Finset.univ} {hm : Finset.univ = Finset.univ ∨ ∀ a, r.stride a = 1} {k : PUnit → P F} :
    (hold c m : sProp 𝕄) ⊢ iprop((hold c m -∗ wp frame (wpE (defs₀ (F := F)) Variants.none (c : Thread nD τ) none) Set.univ (k ⟨⟩) Q) -∗ wp frame (wpE (defs₀ (F := F)) Variants.none (c : Thread nD τ) none) Set.univ (.op (.store m r w Finset.univ hx hm) k) Q) := by
  unfold hold
  iintro ⟨%X, H⟩ Hk
  iapply (Owns.wp_store Variants.none (c : Thread nD τ) none Set.univ (r := r) (hx := hx) (hm := hm) (w := w)) $$ H
  iintro %Y %hY H
  iapply Hk
  iexists Y; iexact H

end Hold

/-! ## The repeated steps -/

section Steps
variable (c : Dev nD) (A : Args)

/-- The buffers the first point writes its groups to, -/
def outX : sProp 𝕄 := iprop(hold c A.a12 ∗ hold c A.a13 ∗ hold c A.a19)
/-- and the last one. -/
def outY : sProp 𝕄 := iprop(hold c A.a14 ∗ hold c A.a15 ∗ hold c A.a16)

theorem wp_emitX (K : PUnit.{1} → sProp 𝕄) (n : Nat) (hn : n < 40) (x : FVec F S256x128 .f32) (k : P F) :
    iprop(outX c A ∗ (outX c A -∗ wp frame (wpE (defs₀ (F := F)) Variants.none (c : Thread nD τ) none) Set.univ k K)) ⊢ wp frame (wpE (defs₀ (F := F)) Variants.none (c : Thread nD τ) none) Set.univ (emitX A n hn x k) K := by
  unfold emitX outX
  simp only [Prog.lift, Prog.bind_op, Prog.bind_ret]
  iintro ⟨⟨H12, H13, H19⟩, Hk⟩
  iapply (wp_load_hold c) $$ H12
  iintro %v H12
  iapply (wp_store_hold c) $$ H12
  iintro H12
  iapply (wp_load_hold c) $$ H19
  iintro %v H19
  iapply (wp_store_hold c) $$ H19
  iintro H19
  iapply (wp_load_hold c) $$ H13
  iintro %v H13
  iapply (wp_store_hold c) $$ H13
  iintro H13
  iapply Hk
  isplitl [H12]; · iexact H12
  isplitl [H13]; · iexact H13
  iexact H19

theorem wp_emitY (K : PUnit.{1} → sProp 𝕄) (n : Nat) (hn : n < 20) (x : FVec F S256x128 .f32) (k : P F) :
    iprop(outY c A ∗ (outY c A -∗ wp frame (wpE (defs₀ (F := F)) Variants.none (c : Thread nD τ) none) Set.univ k K)) ⊢ wp frame (wpE (defs₀ (F := F)) Variants.none (c : Thread nD τ) none) Set.univ (emitY A n hn x k) K := by
  unfold emitY outY
  simp only [Prog.lift, Prog.bind_op, Prog.bind_ret]
  iintro ⟨⟨H14, H15, H16⟩, Hk⟩
  iapply (wp_load_hold c) $$ H14
  iintro %v H14
  iapply (wp_store_hold c) $$ H14
  iintro H14
  iapply (wp_load_hold c) $$ H16
  iintro %v H16
  iapply (wp_store_hold c) $$ H16
  iintro H16
  iapply (wp_load_hold c) $$ H15
  iintro %v H15
  iapply (wp_store_hold c) $$ H15
  iintro H15
  iapply Hk
  isplitl [H14]; · iexact H14
  isplitl [H15]; · iexact H15
  iexact H16

theorem wp_sumH (K : PUnit.{1} → sProp 𝕄) (X3 : S256x2560.Idx → Elt F .bf16) (k : FVec F S256x128 .f32 → P F) (f : Nat) : ∀ acc,
    iprop(iprop(owns (c : Thread nD τ) A.a3 fullShare X3) ∗ (∀ acc, iprop(owns (c : Thread nD τ) A.a3 fullShare X3) -∗ wp frame (wpE (defs₀ (F := F)) Variants.none (c : Thread nD τ) none) Set.univ (k acc) K)) ⊢ wp frame (wpE (defs₀ (F := F)) Variants.none (c : Thread nD τ) none) Set.univ (sumH A k f acc) K := by
  induction f with
  | zero =>
    intro acc
    iintro ⟨H, Hk⟩
    iapply Hk $$ %acc
    iexact H
  | succ f ih =>
    intro acc
    unfold sumH
    simp only [Prog.lift, Prog.bind_op, Prog.bind_ret]
    iintro ⟨H3, Hk⟩
    iapply (Owns.wp_load Variants.none (c : Thread nD τ) none Set.univ) $$ H3
    iintro H3
    iapply (Owns.wp_load Variants.none (c : Thread nD τ) none Set.univ) $$ H3
    iintro H3
    iapply (ih _)
    isplitr [Hk]
    · iexact H3
    · iexact Hk

theorem wp_groupsH (K : PUnit.{1} → sProp 𝕄) (X3 : S256x2560.Idx → Elt F .bf16) (X4 : S1x2560.Idx → Elt F .f32) (r : FVec F S256x1 .f32) (k : P F) (f : Nat) :
    iprop(iprop(owns (c : Thread nD τ) A.a3 fullShare X3 ∗ owns (c : Thread nD τ) A.a4 fullShare X4 ∗ outX c A) ∗ (iprop(owns (c : Thread nD τ) A.a3 fullShare X3 ∗ owns (c : Thread nD τ) A.a4 fullShare X4 ∗ outX c A) -∗ wp frame (wpE (defs₀ (F := F)) Variants.none (c : Thread nD τ) none) Set.univ k K)) ⊢ wp frame (wpE (defs₀ (F := F)) Variants.none (c : Thread nD τ) none) Set.univ (groupsH A r k f) K := by
  induction f with
  | zero =>
    iintro ⟨H, Hk⟩
    iapply Hk
    iexact H
  | succ f ih =>
    unfold groupsH
    simp only [Prog.lift, Prog.bind_op, Prog.bind_ret]
    iintro ⟨⟨H3, H4, HO⟩, Hk⟩
    iapply (Owns.wp_load Variants.none (c : Thread nD τ) none Set.univ) $$ H3
    iintro H3
    iapply (Owns.wp_load Variants.none (c : Thread nD τ) none Set.univ) $$ H4
    iintro H4
    iapply (wp_emitX c A K)
    isplitl [HO]; · iexact HO
    iintro HO
    iapply ih
    isplitr [Hk]
    · isplitl [H3]; · iexact H3
      isplitl [H4]; · iexact H4
      iexact HO
    · iexact Hk

theorem wp_sumE (K : PUnit.{1} → sProp 𝕄) (sh : IVec S256x128 32) (k : FVec F S256x128 .f32 → P F) (f : Nat) : ∀ acc,
    iprop(iprop(hold c A.a17 ∗ hold c A.a18) ∗ (∀ acc, iprop(hold c A.a17 ∗ hold c A.a18) -∗ wp frame (wpE (defs₀ (F := F)) Variants.none (c : Thread nD τ) none) Set.univ (k acc) K)) ⊢ wp frame (wpE (defs₀ (F := F)) Variants.none (c : Thread nD τ) none) Set.univ (sumE A sh k f acc) K := by
  induction f with
  | zero =>
    intro acc
    iintro ⟨H, Hk⟩
    iapply Hk $$ %acc
    iexact H
  | succ f ih =>
    intro acc
    unfold sumE
    simp only [Prog.lift, Prog.bind_op, Prog.bind_ret]
    iintro ⟨⟨H17, H18⟩, Hk⟩
    iapply (wp_load_hold c) $$ H17
    iintro %v H17
    iapply (wp_load_hold c) $$ H18
    iintro %v H18
    iapply (wp_load_hold c) $$ H17
    iintro %v H17
    iapply (wp_load_hold c) $$ H18
    iintro %v H18
    iapply (ih _)
    isplitr [Hk]
    · isplitl [H17]; · iexact H17
      iexact H18
    · iexact Hk

theorem wp_groupsE (K : PUnit.{1} → sProp 𝕄) (X5 : S1x2560.Idx → Elt F .f32) (sh : IVec S256x128 32) (r : FVec F S256x1 .f32) (k : P F) (f : Nat) :
    iprop(iprop(hold c A.a17 ∗ hold c A.a18 ∗ owns (c : Thread nD τ) A.a5 fullShare X5 ∗ outX c A) ∗ (iprop(hold c A.a17 ∗ hold c A.a18 ∗ owns (c : Thread nD τ) A.a5 fullShare X5 ∗ outX c A) -∗ wp frame (wpE (defs₀ (F := F)) Variants.none (c : Thread nD τ) none) Set.univ k K)) ⊢ wp frame (wpE (defs₀ (F := F)) Variants.none (c : Thread nD τ) none) Set.univ (groupsE A sh r k f) K := by
  induction f with
  | zero =>
    iintro ⟨H, Hk⟩
    iapply Hk
    iexact H
  | succ f ih =>
    unfold groupsE
    simp only [Prog.lift, Prog.bind_op, Prog.bind_ret]
    iintro ⟨⟨H17, H18, H5, HO⟩, Hk⟩
    iapply (wp_load_hold c) $$ H17
    iintro %v H17
    iapply (wp_load_hold c) $$ H18
    iintro %v H18
    iapply (Owns.wp_load Variants.none (c : Thread nD τ) none Set.univ) $$ H5
    iintro H5
    iapply (wp_emitX c A K)
    isplitl [HO]; · iexact HO
    iintro HO
    iapply ih
    isplitr [Hk]
    · isplitl [H17]; · iexact H17
      isplitl [H18]; · iexact H18
      isplitl [H5]; · iexact H5
      iexact HO
    · iexact Hk

theorem wp_sumY (K : PUnit.{1} → sProp 𝕄) (k : FVec F S256x128 .f32 → P F) (f : Nat) : ∀ acc,
    iprop(iprop(hold c A.a20) ∗ (∀ acc, iprop(hold c A.a20) -∗ wp frame (wpE (defs₀ (F := F)) Variants.none (c : Thread nD τ) none) Set.univ (k acc) K)) ⊢ wp frame (wpE (defs₀ (F := F)) Variants.none (c : Thread nD τ) none) Set.univ (sumY A k f acc) K := by
  induction f with
  | zero =>
    intro acc
    iintro ⟨H, Hk⟩
    iapply Hk $$ %acc
    iexact H
  | succ f ih =>
    intro acc
    unfold sumY
    simp only [Prog.lift, Prog.bind_op, Prog.bind_ret]
    iintro ⟨H20, Hk⟩
    iapply (wp_load_hold c) $$ H20
    iintro %v H20
    iapply (wp_load_hold c) $$ H20
    iintro %v H20
    iapply (ih _)
    isplitr [Hk]
    · iexact H20
    · iexact Hk

theorem wp_groupsY (K : PUnit.{1} → sProp 𝕄) (X6 : S1x2560.Idx → Elt F .f32) (r : FVec F S256x1 .f32) (k : P F) (f : Nat) :
    iprop(iprop(hold c A.a20 ∗ hold c A.a11 ∗ owns (c : Thread nD τ) A.a6 fullShare X6 ∗ outY c A) ∗ (iprop(hold c A.a20 ∗ hold c A.a11 ∗ owns (c : Thread nD τ) A.a6 fullShare X6 ∗ outY c A) -∗ wp frame (wpE (defs₀ (F := F)) Variants.none (c : Thread nD τ) none) Set.univ k K)) ⊢ wp frame (wpE (defs₀ (F := F)) Variants.none (c : Thread nD τ) none) Set.univ (groupsY A r k f) K := by
  induction f with
  | zero =>
    iintro ⟨H, Hk⟩
    iapply Hk
    iexact H
  | succ f ih =>
    unfold groupsY
    simp only [Prog.lift, Prog.bind_op, Prog.bind_ret]
    iintro ⟨⟨H20, H11, H6, HO⟩, Hk⟩
    iapply (wp_load_hold c) $$ H20
    iintro %v H20
    iapply (wp_load_hold c) $$ H11
    iintro %v H11
    iapply (wp_store_hold c) $$ H11
    iintro H11
    iapply (Owns.wp_load Variants.none (c : Thread nD τ) none Set.univ) $$ H6
    iintro H6
    iapply (wp_emitY c A K)
    isplitl [HO]; · iexact HO
    iintro HO
    iapply ih
    isplitr [Hk]
    · isplitl [H20]; · iexact H20
      isplitl [H11]; · iexact H11
      isplitl [H6]; · iexact H6
      iexact HO
    · iexact Hk

theorem wp_weights (K : PUnit.{1} → sProp 𝕄) (X9 : S5120x256.Idx → Elt F .fp8e4m3) (X10 : S40x20.Idx → Elt F .f32) (i : grid0.Coords) (k : (l : List (FVec F S128x256 .bf16)) → l.length + 0 = 40 → P F) (f : Nat) (hf : f ≤ 40) : ∀ l hl,
    iprop(iprop(owns (c : Thread nD τ) A.a9 fullShare X9 ∗ owns (c : Thread nD τ) A.a10 fullShare X10) ∗ (∀ l, ∀ hl, iprop(owns (c : Thread nD τ) A.a9 fullShare X9 ∗ owns (c : Thread nD τ) A.a10 fullShare X10) -∗ wp frame (wpE (defs₀ (F := F)) Variants.none (c : Thread nD τ) none) Set.univ (k l hl) K)) ⊢ wp frame (wpE (defs₀ (F := F)) Variants.none (c : Thread nD τ) none) Set.univ (weights A i k f hf l hl) K := by
  induction f with
  | zero =>
    intro l hl
    iintro ⟨H, Hk⟩
    iapply Hk $$ %l %hl
    iexact H
  | succ f ih =>
    intro l hl
    unfold weights
    simp only [smemLoad, smemLoadElt, Prog.lift, Prog.bind_op, Prog.bind_ret, bind_assoc]
    iintro ⟨⟨H9, H10⟩, Hk⟩
    iapply (Owns.wp_load Variants.none (c : Thread nD τ) none Set.univ) $$ H10
    iintro H10
    iapply (Owns.wp_load Variants.none (c : Thread nD τ) none Set.univ) $$ H9
    iintro H9
    iapply (Owns.wp_load Variants.none (c : Thread nD τ) none Set.univ) $$ H10
    iintro H10
    iapply (Owns.wp_load Variants.none (c : Thread nD τ) none Set.univ) $$ H9
    iintro H9
    iapply (ih (by omega) _ _)
    isplitr [Hk]
    · isplitl [H9]; · iexact H9
      iexact H10
    · iexact Hk

/-- A tile's work. -/
theorem wp_tile (K : PUnit.{1} → sProp 𝕄) (X9 : S5120x256.Idx → Elt F .fp8e4m3) (X10 : S40x20.Idx → Elt F .f32) (i : grid0.Coords) (k : P F) :
    iprop(iprop(owns (c : Thread nD τ) A.a9 fullShare X9 ∗ owns (c : Thread nD τ) A.a10 fullShare X10 ∗ hold c A.a19 ∗ hold c A.a20) ∗ (iprop(owns (c : Thread nD τ) A.a9 fullShare X9 ∗ owns (c : Thread nD τ) A.a10 fullShare X10 ∗ hold c A.a19 ∗ hold c A.a20) -∗ wp frame (wpE (defs₀ (F := F)) Variants.none (c : Thread nD τ) none) Set.univ k K)) ⊢ wp frame (wpE (defs₀ (F := F)) Variants.none (c : Thread nD τ) none) Set.univ (tile A i k) K := by
  unfold tile
  iintro ⟨⟨H9, H10, H19, H20⟩, Hk⟩
  iapply (wp_weights c A K X9 X10 i _ 40 (le_refl _) [] rfl)
  isplitl [H9 H10]
  · isplitl [H9]; · iexact H9
    iexact H10
  iintro %l %hl ⟨H9, H10⟩
  unfold product
  simp only [Prog.lift, Prog.bind_op, Prog.bind_ret]
  iapply (wp_load_hold c) $$ H19
  iintro %v H19
  iapply (wp_load_hold c) $$ H20
  iintro %v H20
  iapply (wp_store_hold c) $$ H20
  iintro H20
  iapply Hk
  isplitl [H9]; · iexact H9
  isplitl [H10]; · iexact H10
  isplitl [H19]; · iexact H19
  iexact H20

/-- The last point's work on the projection. -/
theorem wp_final (K : PUnit.{1} → sProp 𝕄) (X6 : S1x2560.Idx → Elt F .f32) :
    iprop(iprop(hold c A.a20 ∗ hold c A.a11 ∗ owns (c : Thread nD τ) A.a6 fullShare X6 ∗ outY c A) ∗ (iprop(hold c A.a20 ∗ hold c A.a11 ∗ owns (c : Thread nD τ) A.a6 fullShare X6 ∗ outY c A) -∗ K ⟨⟩)) ⊢ wp frame (wpE (defs₀ (F := F)) Variants.none (c : Thread nD τ) none) Set.univ (final A) K := by
  unfold final
  iintro ⟨⟨H20, H11, H6, HO⟩, Hk⟩
  iapply (wp_sumY c A K _ 20 _)
  isplitl [H20]; · iexact H20
  iintro %acc H20
  iapply (wp_groupsY c A K X6 _ _ 20)
  isplitr [Hk]
  · isplitl [H20]; · iexact H20
    isplitl [H11]; · iexact H11
    isplitl [H6]; · iexact H6
    iexact HO
  iintro H
  sl_step
  iapply Hk
  iexact H

/-- The hidden state's quantization. -/
theorem wp_hide (K : PUnit.{1} → sProp 𝕄) (X3 : S256x2560.Idx → Elt F .bf16) (X4 : S1x2560.Idx → Elt F .f32) (k : P F) : iprop(iprop(owns (c : Thread nD τ) A.a3 fullShare X3 ∗ owns (c : Thread nD τ) A.a4 fullShare X4 ∗ outX c A) ∗ (iprop(owns (c : Thread nD τ) A.a3 fullShare X3 ∗ owns (c : Thread nD τ) A.a4 fullShare X4 ∗ outX c A) -∗ wp frame (wpE (defs₀ (F := F)) Variants.none (c : Thread nD τ) none) Set.univ k K)) ⊢ wp frame (wpE (defs₀ (F := F)) Variants.none (c : Thread nD τ) none) Set.univ (hide A k) K := by
  unfold hide
  iintro ⟨⟨H3, H4, HO⟩, Hk⟩
  iapply (wp_sumH c A K X3 _ 20 _)
  isplitl [H3]; · iexact H3
  iintro %acc H3
  iapply (wp_groupsH c A K X3 X4 _ _ 20)
  isplitr [Hk]
  · isplitl [H3]; · iexact H3
    isplitl [H4]; · iexact H4
    iexact HO
  iexact Hk

/-- The embedding rows' quantization. -/
theorem wp_embed (K : PUnit.{1} → sProp 𝕄) (X2 : S2x129.Idx → Elt F .i32) (X5 : S1x2560.Idx → Elt F .f32) (k : P F) : iprop(iprop(owns (c : Thread nD τ) A.a2 fullShare X2 ∗ hold c A.a17 ∗ hold c A.a18 ∗ owns (c : Thread nD τ) A.a5 fullShare X5 ∗ outX c A) ∗ (iprop(owns (c : Thread nD τ) A.a2 fullShare X2 ∗ hold c A.a17 ∗ hold c A.a18 ∗ owns (c : Thread nD τ) A.a5 fullShare X5 ∗ outX c A) -∗ wp frame (wpE (defs₀ (F := F)) Variants.none (c : Thread nD τ) none) Set.univ k K)) ⊢ wp frame (wpE (defs₀ (F := F)) Variants.none (c : Thread nD τ) none) Set.univ (embed A k) K := by
  unfold embed
  simp only [Prog.lift, Prog.bind_op, Prog.bind_ret]
  iintro ⟨⟨H2, H17, H18, H5, HO⟩, Hk⟩
  iapply (Owns.wp_load Variants.none (c : Thread nD τ) none Set.univ) $$ H2
  iintro H2
  iapply (Owns.wp_load Variants.none (c : Thread nD τ) none Set.univ) $$ H2
  iintro H2
  iapply (wp_sumE c A K _ _ 20 _)
  isplitl [H17 H18]
  · isplitl [H17]; · iexact H17
    iexact H18
  iintro %acc ⟨H17, H18⟩
  iapply (wp_groupsE c A K X5 _ _ _ 20)
  isplitr [Hk H2]
  · isplitl [H17]; · iexact H17
    isplitl [H18]; · iexact H18
    isplitl [H5]; · iexact H5
    iexact HO
  iintro ⟨H17, H18, H5, HO⟩
  iapply Hk
  isplitl [H2]; · iexact H2
  isplitl [H17]; · iexact H17
  isplitl [H18]; · iexact H18
  isplitl [H5]; · iexact H5
  iexact HO

end Steps

/-! ## The first point -/

section First
variable (c : Dev nD) (A : Args) (q7 q8 : PosShare TreeShare)
  (f7 : Buf (Elt F) (A.a7.view.loc (c : Thread nD τ))) (f8 : Buf (Elt F) (A.a8.view.loc (c : Thread nD τ)))

/-- An owned buffer at what its elements hold. -/
theorem hold_open {cs : CoreSpace} {s : Shape} {e : EltTy} (m : Memref sig .tc cs s e) :
    (hold c m : sProp 𝕄) ⊢ iprop(∃ f, m.view.loc (c : Thread nD τ) ↦[m.view.set]{fullShare} f) := by
  unfold hold owns
  iintro ⟨%X, %f, -, H⟩
  iexists f; iexact H

/-- What the kernel addresses itself: the two tables, and its two semaphores at zero. -/
def own : sProp 𝕄 :=
  iprop(((A.a7.view.loc (c : Thread nD τ) ↦[A.a7.view.set]{q7} f7) ∗ (A.a8.view.loc (c : Thread nD τ) ↦[A.a8.view.set]{q8} f8))
    ∗ (semVal ((c : Thread nD τ), sem7 A) 0 ∗ semVal ((c : Thread nD τ), sem8 A) 0))

/-- The first point: the embedding rows brought in while the hidden state is quantized, then quantized; a tile's work. -/
theorem wp_first (K : PUnit.{1} → sProp 𝕄) (i : grid0.Coords) (h : k0_cond1 i = 1#1) (X1 : S2x129.Idx → Elt F .i32)
    (hv : ∀ t, k0_chk1 i (word i h X1 t)) (hv2 : ∀ t, k0_chk2 i (word2 i h X1 t))
    (X2 : S2x129.Idx → Elt F .i32) (X3 : S256x2560.Idx → Elt F .bf16) (X4 X5 : S1x2560.Idx → Elt F .f32)
    (X9 : S5120x256.Idx → Elt F .fp8e4m3) (X10 : S40x20.Idx → Elt F .f32) :
    iprop(iprop(owns (c : Thread nD τ) A.a1 fullShare X1 ∗ owns (c : Thread nD τ) A.a2 fullShare X2 ∗ owns (c : Thread nD τ) A.a3 fullShare X3
      ∗ owns (c : Thread nD τ) A.a4 fullShare X4 ∗ owns (c : Thread nD τ) A.a5 fullShare X5 ∗ owns (c : Thread nD τ) A.a9 fullShare X9
      ∗ owns (c : Thread nD τ) A.a10 fullShare X10 ∗ outX c A ∗ hold c A.a17 ∗ hold c A.a18 ∗ hold c A.a20
      ∗ own c A q7 q8 f7 f8 ∗ ∃ W, owes (c : Thread nD τ) 0 W)
      ∗ (iprop(owns (c : Thread nD τ) A.a1 fullShare X1 ∗ owns (c : Thread nD τ) A.a2 fullShare X2 ∗ owns (c : Thread nD τ) A.a3 fullShare X3
      ∗ owns (c : Thread nD τ) A.a4 fullShare X4 ∗ owns (c : Thread nD τ) A.a5 fullShare X5 ∗ owns (c : Thread nD τ) A.a9 fullShare X9
      ∗ owns (c : Thread nD τ) A.a10 fullShare X10 ∗ outX c A ∗ hold c A.a17 ∗ hold c A.a18 ∗ hold c A.a20
      ∗ own c A q7 q8 f7 f8 ∗ ∃ W, owes (c : Thread nD τ) 0 W) -∗ K ⟨⟩)) ⊢ wp frame (wpE (defs₀ (F := F)) Variants.none (c : Thread nD τ) none) Set.univ (first A i h) K := by
  unfold own first
  iintro ⟨⟨H1, H2, H3, H4, H5, H9, H10, HX, H17, H18, H20, ⟨⟨H7, H8⟩, HS⟩, HO⟩, Hk⟩
  ihave H17 := (hold_open c A.a17) $$ H17
  ihave H18 := (hold_open c A.a18) $$ H18
  icases H17 with ⟨%g7, H17⟩
  icases H18 with ⟨%g8, H18⟩
  iapply (wp_issue c A i h X1 hv q7 q8 f7 f8 g7 g8 fullShare) $$ [H1 H7 H8 H17 H18 HS]
  · isplitl [HS]; · iexact HS
    isplitl [H1]; · iexact H1
    isplitl [H7]; · iexact H7
    isplitl [H8]; · iexact H8
    isplitl [H17]; · iexact H17
    iexact H18
  iintro H1 Hf
  iapply (wp_hide c A K X3 X4)
  isplitl [H3 H4 HX]
  · isplitl [H3]; · iexact H3
    isplitl [H4]; · iexact H4
    iexact HX
  iintro ⟨H3, H4, HX⟩
  iapply (wp_drain c A i h X1 hv q7 q8 f7 f8 g7 g8 hv2 fullShare) $$ [H1 Hf HO]
  · isplitl [H1]; · iexact H1
    isplitl [Hf]; · iexact Hf
    iexact HO
  iintro H1 HS H7 H8 H17 H18 HO
  iapply (wp_embed c A K X2 X5)
  isplitl [H2 H5 H17 H18 HX]
  · isplitl [H2]; · iexact H2
    isplitl [H17]; · unfold hold; iexists _; iexact H17
    isplitl [H18]; · unfold hold; iexists _; iexact H18
    isplitl [H5]; · iexact H5
    iexact HX
  iintro ⟨H2, H17, H18, H5, HX⟩
  unfold outX
  icases HX with ⟨H12, H13, H19⟩
  iapply (wp_tile c A K X9 X10 i)
  isplitl [H9 H10 H19 H20]
  · isplitl [H9]; · iexact H9
    isplitl [H10]; · iexact H10
    isplitl [H19]; · iexact H19
    iexact H20
  iintro ⟨H9, H10, H19, H20⟩
  sl_step
  iapply Hk
  isplitl [H1]; · iexact H1
  isplitl [H2]; · iexact H2
  isplitl [H3]; · iexact H3
  isplitl [H4]; · iexact H4
  isplitl [H5]; · iexact H5
  isplitl [H9]; · iexact H9
  isplitl [H10]; · iexact H10
  isplitl [H12 H13 H19]
  · isplitl [H12]; · iexact H12
    isplitl [H13]; · iexact H13
    iexact H19
  isplitl [H17]; · iexact H17
  isplitl [H18]; · iexact H18
  isplitl [H20]; · iexact H20
  isplitr [HO]
  · isplitr [HS]
    · isplitl [H7]; · iexact H7
      iexact H8
    · iexact HS
  · iexact HO

end First

end Cert.FrontIdeal.Layer

end
-- ==== Proof.FrontIdeal.Words.lean ====
/- The rows the front kernel asks its tables for: of a token inside the vocabulary, the code row of its quarter and the scale row
   of its own number, both inside their tables. -/
module

public import proofs.«01_k».proof.Proof.FrontIdeal.Rows

@[expose] public section

set_option maxRecDepth 16384

noncomputable section

namespace Cert.FrontIdeal.Layer

open Idealize.ShloMosaic Idealize.ShloMosaic.TcCoe
open Cert.FrontIdeal Cert.FrontIdeal.Gen

/-- The kernel's rounded-down quarter of a nonnegative word is the quarter. -/
theorem quarter (w : BitVec 32) (hw : w.toNat < 151936) : k0_off3 w 0 = w.toNat / 4 := by
  by_cases h0 : w = 0#32
  · subst h0; decide
  · have hm : w.msb = false := by
      rw [BitVec.msb_eq_false_iff_two_mul_lt]; omega
    have h0' : w.toNat ≠ 0 := fun e => h0 (BitVec.eq_of_toNat_eq (by simpa using e))
    have hi : w.toInt = w.toNat := BitVec.toInt_eq_toNat_of_msb hm
    have e1 : Scalar.cmpi .sgt w 0#32 = 1#1 := by
      show BitVec.ofBool (BitVec.slt 0#32 w) = 1#1
      rw [BitVec.slt_eq_decide, hi]
      have : (0#32).toInt = 0 := rfl
      rw [this, decide_eq_true (by omega)]; rfl
    have e2 : Scalar.cmpi .slt w 0#32 = 0#1 := by
      show BitVec.ofBool (BitVec.slt w 0#32) = 0#1
      rw [BitVec.slt_eq_decide, hi]
      have : (0#32).toInt = 0 := rfl
      rw [this, decide_eq_false (by omega)]; rfl
    have e3 : (Scalar.divsi w 4#32).toNat = w.toNat / 4 := by
      show (IntOp.divsi .scalar w 4#32).toNat = _
      unfold IntOp.divsi
      rw [if_neg (show ¬ IntOp.SDivCorner w 4#32 by rintro (e | ⟨_, e⟩) <;> exact absurd e (by decide)), BitVec.sdiv_eq, hm]
      rfl
    have key : k0_off3 w 0 = (Scalar.select (Scalar.andi (Scalar.cmpi .ne (Scalar.subi (Scalar.extui (Scalar.cmpi .sgt w 0#32) : BitVec 32) (Scalar.extui (Scalar.cmpi .slt w 0#32) : BitVec 32)) 1#32)
        (Scalar.cmpi .ne (Scalar.remsi w 4#32) 0#32)) (Scalar.subi (Scalar.divsi w 4#32) 1#32) (Scalar.divsi w 4#32)).toNat := rfl
    rw [key, e1, e2, ← e3]
    have e4 : (Scalar.cmpi .ne (Scalar.subi (Scalar.extui (1#1) : BitVec 32) (Scalar.extui (0#1) : BitVec 32)) 1#32) = 0#1 := by decide
    rw [e4]
    have e5 : ∀ x : BitVec 1, Scalar.andi 0#1 x = 0#1 := by decide
    rw [e5]; rfl

/-- A token inside the vocabulary passes the first loop's check, -/
theorem chk1_of (i : grid0.Coords) (w : BitVec 32) (hw : w.toNat < 151936) : k0_chk1 i w := by
  refine ⟨fun _ a => ?_, fun _ a => ?_⟩
  · match a with
    | ⟨0, _⟩ => show k0_off3 w 0 + 1 ≤ 37984; rw [quarter w hw]; omega
    | ⟨1, _⟩ => exact Nat.le_of_eq rfl
  · match a with
    | ⟨0, _⟩ => show w.toNat + 1 ≤ 151936; omega
    | ⟨1, _⟩ => exact Nat.le_of_eq rfl
/-- and the second's. -/
theorem chk2_of (i : grid0.Coords) (w : BitVec 32) (hw : w.toNat < 151936) : k0_chk2 i w := chk1_of i w hw

variable {F : FTy → Type} [FloatOps F]

/-- Of token words all inside the vocabulary where the kernel reads them, every trip's passes. -/
theorem chks (i : grid0.Coords) (h : k0_cond1 i = 1#1) (I : S2x129.Idx → Elt F .i32)
    (hI : ∀ x : S2x129.Idx, (x 1).val < 128 → BitVec.toNat (I x) < 151936) :
    (∀ t, k0_chk1 i (word i h I t)) ∧ (∀ t, k0_chk2 i (word2 i h I t)) := by
  refine ⟨fun t => chk1_of i _ (hI _ ?_), fun t => chk2_of i _ (hI _ ?_)⟩
  · show k0_off1 t 1 + 1 * 0 < 128
    rw [off1_eq]; show t.val % 128 + 1 * 0 < 128; omega
  · show k0_off6 t 1 + 1 * 0 < 128
    rw [off6_eq]; show t.val % 128 + 1 * 0 < 128; omega

end Cert.FrontIdeal.Layer

end
-- ==== Proof.FrontIdeal.Point.lean ====
/- One grid point of the front kernel as a triple at the point's staging buffers, the proof data of its pipeline, and the run:
   from token numbers inside the vocabulary it ends with the argument arrays unchanged and every counter at zero. -/
module

public import proofs.«01_k».proof.Proof.FrontIdeal.Body
public import proofs.«01_k».proof.Proof.FrontIdeal.Words
public import proofs.«01_k».proof.Proof.Gen.FrontIdeal.Frame

@[expose] public section

set_option maxRecDepth 16384

noncomputable section

namespace Cert.FrontIdeal.Layer

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)
open Cert.FrontIdeal Cert.FrontIdeal.Gen

variable {F : FTy → Type} [FloatOps F]

local notation "𝕄" => MT nD τ sig Unit (Elt F) ℕ (Pipeline.UD sig nD τ) ℕ

/-! ## Which points are first and last -/

theorem cond1_iff : ∀ t : Fin grid0.N, k0_cond1 (grid0.coords t) = 1#1 ↔ t.val = 0 := by decide +kernel
theorem cond2_iff : ∀ t : Fin grid0.N, k0_cond2 (grid0.coords t) = 1#1 ↔ t.val = 9 := by decide +kernel

/-! ## One point -/

/-- The operands at a point. -/
abbrev argsAt (t : Fin cfg0.N) : Args where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := Memref.whole main_v2
  h7 := Memref.isWhole_whole _
  a8 := Memref.whole main_arg3
  h8 := Memref.isWhole_whole _
  a9 := win0_6.stage (cfg0.slots t 6)
  h9 := hstage0_6 ((cfg0.slots t 6).cast nbuf0_6)
  a10 := win0_7.stage (cfg0.slots t 7)
  h10 := hstage0_7 ((cfg0.slots t 7).cast nbuf0_7)
  a11 := win0_8.stage (cfg0.slots t 8)
  h11 := hstage0_8 ((cfg0.slots t 8).cast nbuf0_8)
  a12 := win0_9.stage (cfg0.slots t 9)
  h12 := hstage0_9 ((cfg0.slots t 9).cast nbuf0_9)
  a13 := win0_10.stage (cfg0.slots t 10)
  h13 := hstage0_10 ((cfg0.slots t 10).cast nbuf0_10)
  a14 := win0_11.stage (cfg0.slots t 11)
  h14 := hstage0_11 ((cfg0.slots t 11).cast nbuf0_11)
  a15 := win0_12.stage (cfg0.slots t 12)
  h15 := hstage0_12 ((cfg0.slots t 12).cast nbuf0_12)
  a16 := win0_13.stage (cfg0.slots t 13)
  h16 := hstage0_13 ((cfg0.slots t 13).cast nbuf0_13)
  a17 := Memref.whole cc0_scratch0
  h17 := Memref.isWhole_whole _
  a18 := Memref.whole cc0_scratch1
  h18 := Memref.isWhole_whole _
  a19 := Memref.whole cc0_scratch2
  h19 := Memref.isWhole_whole _
  a20 := Memref.whole cc0_scratch3
  h20 := Memref.isWhole_whole _
  a21 := cc0_scratch4

/-- What a point finds: the inputs' buffers at their contents, -/
def ins (c : Dev nD) (A : Args) (X1 X2 : S2x129.Idx → Elt F .i32) (X3 : S256x2560.Idx → Elt F .bf16) (X4 X5 X6 : S1x2560.Idx → Elt F .f32)
    (X9 : S5120x256.Idx → Elt F .fp8e4m3) (X10 : S40x20.Idx → Elt F .f32) : sProp 𝕄 :=
  iprop(owns (c : Thread nD τ) A.a1 fullShare X1 ∗ owns (c : Thread nD τ) A.a2 fullShare X2 ∗ owns (c : Thread nD τ) A.a3 fullShare X3 ∗ owns (c : Thread nD τ) A.a4 fullShare X4 ∗ owns (c : Thread nD τ) A.a5 fullShare X5 ∗ owns (c : Thread nD τ) A.a6 fullShare X6 ∗ owns (c : Thread nD τ) A.a9 fullShare X9 ∗ owns (c : Thread nD τ) A.a10 fullShare X10)
/-- the results' and the scratch buffers at any, -/
def outs (c : Dev nD) (A : Args) : sProp 𝕄 :=
  iprop(hold (F := F) c A.a11 ∗ hold (F := F) c A.a12 ∗ hold (F := F) c A.a13 ∗ hold (F := F) c A.a14 ∗ hold (F := F) c A.a15 ∗ hold (F := F) c A.a16 ∗ hold (F := F) c A.a17 ∗ hold (F := F) c A.a18 ∗ hold (F := F) c A.a19 ∗ hold (F := F) c A.a20)
/-- and the two tables, the transfers' semaphores and the thread's debts, none. -/
def rest (c : Dev nD) (A : Args) (q7 q8 : PosShare TreeShare) (f7 : Buf (Elt F) (A.a7.view.loc (c : Thread nD τ)))
    (f8 : Buf (Elt F) (A.a8.view.loc (c : Thread nD τ))) : sProp 𝕄 :=
  iprop(own c A q7 q8 f7 f8 ∗ ∃ W, owes (c : Thread nD τ) 0 W)

/-- A point's body hands back what it found, the inputs' buffers unchanged. -/
theorem wp_point (c : Dev nD) (t : Fin cfg0.N) (q7 q8 : PosShare TreeShare) (f7 : Buf (Elt F) ((argsAt t).a7.view.loc (c : Thread nD τ)))
    (f8 : Buf (Elt F) ((argsAt t).a8.view.loc (c : Thread nD τ))) (X1 X2 : S2x129.Idx → Elt F .i32) (X3 : S256x2560.Idx → Elt F .bf16)
    (X4 X5 X6 : S1x2560.Idx → Elt F .f32) (X9 : S5120x256.Idx → Elt F .fp8e4m3) (X10 : S40x20.Idx → Elt F .f32)
    (hI : ∀ x : S2x129.Idx, (x 1).val < 128 → BitVec.toNat (X1 x) < 151936) (K : PUnit.{1} → sProp 𝕄) :
    iprop(iprop(ins c (argsAt t) X1 X2 X3 X4 X5 X6 X9 X10 ∗ outs c (argsAt t) ∗ rest c (argsAt t) q7 q8 f7 f8)
      ∗ (iprop(ins c (argsAt t) X1 X2 X3 X4 X5 X6 X9 X10 ∗ outs c (argsAt t) ∗ rest c (argsAt t) q7 q8 f7 f8) -∗ K ⟨⟩))
      ⊢ wp frame (wpE (defs₀ (F := F)) Variants.none (c : Thread nD τ) none) Set.univ (bodyAt0 (F := F) t) K := by
  by_cases h1 : t.val = 0
  · have hc1 := (cond1_iff t).mpr h1
    have hc2 : ¬ k0_cond2 (grid0.coords t) = 1#1 := fun h => by have := (cond2_iff t).mp h; omega
    obtain ⟨hv, hv2⟩ := chks (grid0.coords t) hc1 X1 hI
    rw [show bodyAt0 (F := F) t = first (argsAt t) (grid0.coords t) hc1 from body_first (argsAt t) (grid0.coords t) hc1 hc2]
    unfold ins outs rest
    iintro ⟨⟨⟨H1, H2, H3, H4, H5, H6, H9, H10⟩, ⟨H11, H12, H13, H14, H15, H16, H17, H18, H19, H20⟩, Ho, Hw⟩, Hk⟩
    iapply (wp_first c (argsAt t) q7 q8 f7 f8 K (grid0.coords t) hc1 X1 hv hv2 X2 X3 X4 X5 X9 X10)
    unfold outX
    isplitl [H1 H2 H3 H4 H5 H9 H10 H12 H13 H19 H17 H18 H20 Ho Hw]
    · isplitl [H1]
      · iexact H1
      isplitl [H2]
      · iexact H2
      isplitl [H3]
      · iexact H3
      isplitl [H4]
      · iexact H4
      isplitl [H5]
      · iexact H5
      isplitl [H9]
      · iexact H9
      isplitl [H10]
      · iexact H10
      isplitl [H12 H13 H19]
      · isplitl [H12]
        · iexact H12
        isplitl [H13]
        · iexact H13
        iexact H19
      isplitl [H17]
      · iexact H17
      isplitl [H18]
      · iexact H18
      isplitl [H20]
      · iexact H20
      isplitl [Ho]
      · iexact Ho
      iexact Hw
    iintro ⟨H1, H2, H3, H4, H5, H9, H10, ⟨H12, H13, H19⟩, H17, H18, H20, Ho, Hw⟩
    iapply Hk
    isplitl [H1 H2 H3 H4 H5 H6 H9 H10]
    · isplitl [H1]
      · iexact H1
      isplitl [H2]
      · iexact H2
      isplitl [H3]
      · iexact H3
      isplitl [H4]
      · iexact H4
      isplitl [H5]
      · iexact H5
      isplitl [H6]
      · iexact H6
      isplitl [H9]
      · iexact H9
      iexact H10
    isplitl [H11 H12 H13 H14 H15 H16 H17 H18 H19 H20]
    · isplitl [H11]
      · iexact H11
      isplitl [H12]
      · iexact H12
      isplitl [H13]
      · iexact H13
      isplitl [H14]
      · iexact H14
      isplitl [H15]
      · iexact H15
      isplitl [H16]
      · iexact H16
      isplitl [H17]
      · iexact H17
      isplitl [H18]
      · iexact H18
      isplitl [H19]
      · iexact H19
      iexact H20
    isplitl [Ho]
    · iexact Ho
    iexact Hw
  · have hc1 : ¬ k0_cond1 (grid0.coords t) = 1#1 := fun h => h1 ((cond1_iff t).mp h)
    by_cases h2 : t.val = 9
    · have hc2 := (cond2_iff t).mpr h2
      rw [show bodyAt0 (F := F) t = tile (argsAt t) (grid0.coords t) (final (argsAt t)) from body_last (argsAt t) (grid0.coords t) hc1 hc2]
      unfold ins outs rest
      iintro ⟨⟨⟨H1, H2, H3, H4, H5, H6, H9, H10⟩, ⟨H11, H12, H13, H14, H15, H16, H17, H18, H19, H20⟩, Ho, Hw⟩, Hk⟩
      iapply (wp_tile c (argsAt t) K X9 X10 (grid0.coords t) (final (argsAt t)))
      isplitl [H9 H10 H19 H20]
      · isplitl [H9]
        · iexact H9
        isplitl [H10]
        · iexact H10
        isplitl [H19]
        · iexact H19
        iexact H20
      iintro ⟨H9, H10, H19, H20⟩
      iapply (wp_final c (argsAt t) K X6)
      unfold outY
      isplitl [H20 H11 H6 H14 H15 H16]
      · isplitl [H20]
        · iexact H20
        isplitl [H11]
        · iexact H11
        isplitl [H6]
        · iexact H6
        isplitl [H14]
        · iexact H14
        isplitl [H15]
        · iexact H15
        iexact H16
      iintro ⟨H20, H11, H6, ⟨H14, H15, H16⟩⟩
      iapply Hk
      isplitl [H1 H2 H3 H4 H5 H6 H9 H10]
      · isplitl [H1]
        · iexact H1
        isplitl [H2]
        · iexact H2
        isplitl [H3]
        · iexact H3
        isplitl [H4]
        · iexact H4
        isplitl [H5]
        · iexact H5
        isplitl [H6]
        · iexact H6
        isplitl [H9]
        · iexact H9
        iexact H10
      isplitl [H11 H12 H13 H14 H15 H16 H17 H18 H19 H20]
      · isplitl [H11]
        · iexact H11
        isplitl [H12]
        · iexact H12
        isplitl [H13]
        · iexact H13
        isplitl [H14]
        · iexact H14
        isplitl [H15]
        · iexact H15
        isplitl [H16]
        · iexact H16
        isplitl [H17]
        · iexact H17
        isplitl [H18]
        · iexact H18
        isplitl [H19]
        · iexact H19
        iexact H20
      isplitl [Ho]
      · iexact Ho
      iexact Hw
    · have hc2 : ¬ k0_cond2 (grid0.coords t) = 1#1 := fun h => h2 ((cond2_iff t).mp h)
      rw [show bodyAt0 (F := F) t = tile (argsAt t) (grid0.coords t) (pure ⟨⟩) from body_middle (argsAt t) (grid0.coords t) hc1 hc2]
      unfold ins outs rest
      iintro ⟨⟨⟨H1, H2, H3, H4, H5, H6, H9, H10⟩, ⟨H11, H12, H13, H14, H15, H16, H17, H18, H19, H20⟩, Ho, Hw⟩, Hk⟩
      iapply (wp_tile c (argsAt t) K X9 X10 (grid0.coords t) (pure ⟨⟩))
      isplitl [H9 H10 H19 H20]
      · isplitl [H9]
        · iexact H9
        isplitl [H10]
        · iexact H10
        isplitl [H19]
        · iexact H19
        iexact H20
      iintro ⟨H9, H10, H19, H20⟩
      sl_step
      iapply Hk
      isplitl [H1 H2 H3 H4 H5 H6 H9 H10]
      · isplitl [H1]
        · iexact H1
        isplitl [H2]
        · iexact H2
        isplitl [H3]
        · iexact H3
        isplitl [H4]
        · iexact H4
        isplitl [H5]
        · iexact H5
        isplitl [H6]
        · iexact H6
        isplitl [H9]
        · iexact H9
        iexact H10
      isplitl [H11 H12 H13 H14 H15 H16 H17 H18 H19 H20]
      · isplitl [H11]
        · iexact H11
        isplitl [H12]
        · iexact H12
        isplitl [H13]
        · iexact H13
        isplitl [H14]
        · iexact H14
        isplitl [H15]
        · iexact H15
        isplitl [H16]
        · iexact H16
        isplitl [H17]
        · iexact H17
        isplitl [H18]
        · iexact H18
        isplitl [H19]
        · iexact H19
        iexact H20
      isplitl [Ho]
      · iexact Ho
      iexact Hw

/-! ## The proof data -/

variable (m : (ℓ : Loc nD τ sig) → Buf (Elt F) ℓ) (ρ : Dev nD → PrngReg)

/-- The transfers' semaphores. -/
abbrev osem : Fin 2 → SemLoc sig :=
  fun | 0 => .dma ((cc0_scratch4.slice (Rect.unit (s := S2) ![0] S1.size inb_S2_S1_0)).squeeze S_ squeezes_S1_S_).sem | 1 => .dma ((cc0_scratch4.slice (Rect.unit (s := S2) ![1] S1.size inb_S2_S1_1)).squeeze S_ squeezes_S1_S_).sem

/-- The tables the body reads by itself. -/
abbrev tables : Finset (Ref sig .tc) := {main_v2, main_arg3}

theorem tables_rest : tables ⊆ Pipeline.restRefs sig spec0 := by decide

theorem osem_own : Pipeline.OwnSemFacts spec0 osem := by decide

/-- The proof data: the inputs' staging buffers at their blocks; between points the scratch buffers at any contents, the tables
    and the semaphores at zero. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => fun _ => Scalar.ofBits .bf16 0#16
    | ⟨9, _⟩ => fun _ => Scalar.ofBits .fp8e4m3 0#8
    | ⟨10, _⟩ => fun _ => Scalar.ofBits .f32 0#32
    | ⟨11, _⟩ => fun _ => Scalar.ofBits .fp8e4m3 0#8
    | ⟨12, _⟩ => fun _ => Scalar.ofBits .f32 0#32
    | ⟨13, _⟩ => fun _ => Scalar.ofBits .bf16 0#16
  Φ _ := Pipeline.ΦD osem spec0 tables (V m) c
  q w := Pipeline.shareOf spec0 w
  owed _ := 0

section
variable (c : Dev nD) (t : Fin cfg0.N)

/-! An input's staging buffer holds its block at every point. -/

theorem before_0 (d) : (dats m 0 c).before (0 : Fin 14) t d = iblk m c 0 t :=
  ((dats m 0 c).before_in_eq_fetched 0 rfl (fun _ => rfl) (fun _ _ _ => rfl) (fun t => rfl) t d).trans rfl
theorem before_1 (d) : (dats m 0 c).before (1 : Fin 14) t d = iblk m c 1 t :=
  ((dats m 0 c).before_in_eq_fetched 1 rfl (fun _ => rfl) (fun _ _ _ => rfl) (fun t => rfl) t d).trans rfl
theorem before_2 (d) : (dats m 0 c).before (2 : Fin 14) t d = iblk m c 2 t :=
  ((dats m 0 c).before_in_eq_fetched 2 rfl (fun _ => rfl) (fun _ _ _ => rfl) (fun t => rfl) t d).trans rfl
theorem before_3 (d) : (dats m 0 c).before (3 : Fin 14) t d = iblk m c 3 t :=
  ((dats m 0 c).before_in_eq_fetched 3 rfl (fun _ => rfl) (fun _ _ _ => rfl) (fun t => rfl) t d).trans rfl
theorem before_4 (d) : (dats m 0 c).before (4 : Fin 14) t d = iblk m c 4 t :=
  ((dats m 0 c).before_in_eq_fetched 4 rfl (fun _ => rfl) (fun _ _ _ => rfl) (fun t => rfl) t d).trans rfl
theorem before_5 (d) : (dats m 0 c).before (5 : Fin 14) t d = iblk m c 5 t :=
  ((dats m 0 c).before_in_eq_fetched 5 rfl (fun _ => rfl) (fun _ _ _ => rfl) (fun t => rfl) t d).trans rfl
theorem before_6 (d) : (dats m 0 c).before (6 : Fin 14) t d = iblk m c 6 t :=
  ((dats m 0 c).before_in_eq_fetched 6 rfl (fun _ => rfl) (fun _ _ _ => rfl) (fun t => rfl) t d).trans rfl
theorem before_7 (d) : (dats m 0 c).before (7 : Fin 14) t d = iblk m c 7 t :=
  ((dats m 0 c).before_in_eq_fetched 7 rfl (fun _ => rfl) (fun _ _ _ => rfl) (fun t => rfl) t d).trans rfl
end

set_option maxHeartbeats 800000 in
/-- The host operations before the region. -/
theorem hmain' (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's entry in the table at a point is the kernel's body there. -/
theorem defs₀_row (t : Fin cfg0.N) : defs₀ (F := F) .tc cfg0.body (cfg0.bodyArgs t (cfg0.slots t)) = bodyAt0 (F := F) t := by
  unfold defs₀; rw [Defs.onTc_tc]

/-- Nothing is said of the results. -/
abbrev results : Fin 14 → Bool := fun | 0 => false | 1 => false | 2 => false | 3 => false | 4 => false | 5 => false | 6 => false | 7 => false | 8 => true | 9 => true | 10 => true | 11 => true | 12 => true | 13 => true | ⟨_ + 14, h⟩ => absurd h (Nat.not_lt.2 (Nat.le_add_left _ _))

/-- What is kept between points, in the form the body takes it. -/
theorem kept_eq (c : Dev nD) (t : Fin cfg0.N) : (Pipeline.ΦD osem spec0 tables (V m) c : sProp 𝕄)
    = iprop((hold c (argsAt t).a17 ∗ hold c (argsAt t).a18 ∗ hold c (argsAt t).a19 ∗ hold c (argsAt t).a20) ∗ (∃ r, prngReg c r)
      ∗ (semVal ((c : Thread nD τ), sem7 (argsAt t)) 0 ∗ semVal ((c : Thread nD τ), sem8 (argsAt t)) 0)
      ∗ (((c : Thread nD τ).loc main_v2 ↦{fullShare} V m c main_v2) ∗ ((c : Thread nD τ).loc main_arg3 ↦{fullShare} V m c main_arg3))) := by
  rw [Pipeline.ΦD_eq, scopedRest0_eq]
  unfold hold Pipeline.ownSems0
  simp only [owns_whole]
  rw [bigSep_univ_eq_bigSepL [(0 : Fin 2), (1 : Fin 2)] (by decide) (by decide),
    bigSep_eq_bigSepL_of_eq [main_v2, main_arg3] (by decide) (by decide)]
  rfl

/-- The tables and the semaphores as the body takes them. -/
theorem own_eq (c : Dev nD) (t : Fin cfg0.N) (f7 : Buf (Elt F) ((c : Thread nD τ).loc main_v2)) (f8 : Buf (Elt F) ((c : Thread nD τ).loc main_arg3)) :
    (own c (argsAt t) fullShare fullShare f7 f8 : sProp 𝕄)
      = iprop((((c : Thread nD τ).loc main_v2 ↦{fullShare} f7) ∗ ((c : Thread nD τ).loc main_arg3 ↦{fullShare} f8))
        ∗ (semVal ((c : Thread nD τ), sem7 (argsAt t)) 0 ∗ semVal ((c : Thread nD τ), sem8 (argsAt t)) 0)) := by
  unfold own
  simp only [Memref.view_whole, View.set_whole]

/-- The body obligation, of token numbers inside the vocabulary. -/
theorem body_forget (c : Dev nD) (hI : ∀ (t : Fin cfg0.N) (x : S2x129.Idx), (x 1).val < 128 → BitVec.toNat (iblk m c 0 t x) < 151936) :
    BodyObligationLoose (dats m 0 c) (defs₀ (F := F)) Variants.none () Set.univ results := fun t => by
  rw [bigSep_W0, bigSep_W0, defs₀_row]
  rw [show (dats m 0 c).Φ t.succ = Pipeline.ΦD osem spec0 tables (V m) c from rfl,
    show (dats m 0 c).Φ t.castSucc = Pipeline.ΦD osem spec0 tables (V m) c from rfl, kept_eq m c t]
  simp only
  iintro ⟨⟨⟨H14, H15, H16, H17⟩, Hp, Hs, Ht⟩, ⟨%W, %hW, Hw⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  rw [before_0 m c t d0, before_1 m c t d1, before_2 m c t d2, before_3 m c t d3, before_4 m c t d4, before_5 m c t d5, before_6 m c t d6, before_7 m c t d7]
  iapply (wp_point c t fullShare fullShare (V m c main_v2) (V m c main_arg3) (iblk m c 0 t) (iblk m c 1 t) (iblk m c 2 t) (iblk m c 3 t)
    (iblk m c 4 t) (iblk m c 5 t) (iblk m c 6 t) (iblk m c 7 t) (hI t))
  unfold ins outs rest
  rw [own_eq c t]
  isplitl [H0 H1 H2 H3 H4 H5 H6 H7 H8 H9 H10 H11 H12 H13 H14 H15 H16 H17 Hs Ht Hw]
  · isplitl [H0 H1 H2 H3 H4 H5 H6 H7]
    · isplitl [H0]
      · iexact H0
      isplitl [H1]
      · iexact H1
      isplitl [H2]
      · iexact H2
      isplitl [H3]
      · iexact H3
      isplitl [H4]
      · iexact H4
      isplitl [H5]
      · iexact H5
      isplitl [H6]
      · iexact H6
      iexact H7
    isplitl [H8 H9 H10 H11 H12 H13 H14 H15 H16 H17]
    · isplitl [H8]
      · unfold hold; iexists _; iexact H8
      isplitl [H9]
      · unfold hold; iexists _; iexact H9
      isplitl [H10]
      · unfold hold; iexists _; iexact H10
      isplitl [H11]
      · unfold hold; iexists _; iexact H11
      isplitl [H12]
      · unfold hold; iexists _; iexact H12
      isplitl [H13]
      · unfold hold; iexists _; iexact H13
      isplitl [H14]
      · iexact H14
      isplitl [H15]
      · iexact H15
      isplitl [H16]
      · iexact H16
      iexact H17
    isplitl [Hs Ht]
    · isplitl [Ht]
      · iexact Ht
      iexact Hs
    iexists W; iexact Hw
  iintro ⟨⟨H0, H1, H2, H3, H4, H5, H6, H7⟩, ⟨H8, H9, H10, H11, H12, H13, H14, H15, H16, H17⟩, ⟨Ht, Hs⟩, ⟨%W2, Hw⟩⟩
  isplitl [H14 H15 H16 H17 Hp Hs Ht]
  · isplitl [H14 H15 H16 H17]
    · isplitl [H14]
      · iexact H14
      isplitl [H15]
      · iexact H15
      isplitl [H16]
      · iexact H16
      iexact H17
    isplitl [Hp]
    · iexact Hp
    isplitl [Hs]
    · iexact Hs
    iexact Ht
  isplitl [Hw]
  · iexists W2
    isplitr
    · ipureintro; exact Set.subset_union_of_subset_left (Set.subset_univ _) _
    iexact Hw
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · unfold hold; iexact H8
  isplitl [H9]
  · unfold hold; iexact H9
  isplitl [H10]
  · unfold hold; iexact H10
  isplitl [H11]
  · unfold hold; iexact H11
  isplitl [H12]
  · unfold hold; iexact H12
  unfold hold; iexact H13

/-! ## The run -/

/-- The token numbers a point reads are the argument's. -/
theorem iblk_ids (c : Dev nD) (t : Fin cfg0.N) : iblk m c 0 t = m ((c : Thread nD τ).loc main_arg1) := by
  rw [← V_main_arg1 m c]
  unfold iblk
  have hz : (fun a => (win0_0.index t) a * main_arg1.ty.shape.size a) = fun _ => 0 :=
    funext fun a => by fin_cases a <;> rfl
  exact Memref.read_access_unit_zero (Elt F) main_arg1 hz (fun a => by rw [congrFun hz a]; omega) (V m c main_arg1)

set_option backward.isDefEq.respectTransparency.types false in
/-- From token numbers inside the vocabulary where the kernel reads them, the argument arrays end unchanged and every counter at
    zero. -/
theorem run_frame (hI : ∀ (c : Dev nD) (x : S2x129.Idx), (x 1).val < 128 → BitVec.toNat (m ((c : Thread nD τ).loc main_arg1) x) < 151936) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  Pipeline.θ_run_frame_dma_forget_shared cfgs (dats m) (0 : Fin 1) launch₀0 osem defs₀ Variants.none
    results osem_own tables tables_rest m ρ main
    (hbody := fun c => body_forget m c fun t x hx => by rw [iblk_ids]; exact hI c x hx)
    (hq := fun _ _ _ => rfl) (howed := fun _ _ => rfl) (V := V m) (hmain := hmain' m Variants.none) (hA := fun _ _ => rfl)
    (hin := fun _ => .rfl) (hout := fun _ => .rfl)
    (Q' := _)
    (hQ' := fun r h => ⟨fun c =>
      ⟨((h.1 c).2 main_arg0 (Pipeline.mem_restRefs_of main_arg0 (by decide) (by decide))).trans (V_main_arg0 m c),
       by have := (h.1 c).1 0; rw [Pipeline.RDat.ArrAt_in _ 0 rfl] at this; exact this.trans (V_main_arg1 m c),
       ((h.1 c).2 main_arg2 (Pipeline.mem_restRefs_of main_arg2 (by decide) (by decide))).trans (V_main_arg2 m c),
       ((h.1 c).2 main_arg3 (Pipeline.mem_restRefs_of main_arg3 (by decide) (by decide))).trans (V_main_arg3 m c),
       ((h.1 c).2 main_arg4 (Pipeline.mem_restRefs_of main_arg4 (by decide) (by decide))).trans (V_main_arg4 m c),
       ((h.1 c).2 main_arg5 (Pipeline.mem_restRefs_of main_arg5 (by decide) (by decide))).trans (V_main_arg5 m c),
       ((h.1 c).2 main_arg6 (Pipeline.mem_restRefs_of main_arg6 (by decide) (by decide))).trans (V_main_arg6 m c),
       by have := (h.1 c).1 6; rw [Pipeline.RDat.ArrAt_in _ 6 rfl] at this; exact this.trans (V_main_arg7 m c),
       by have := (h.1 c).1 7; rw [Pipeline.RDat.ArrAt_in _ 7 rfl] at this; exact this.trans (V_main_arg8 m c)⟩, h.2⟩)

end Cert.FrontIdeal.Layer

end
-- ==== Proof.Quantize.lean ====
/- The layer's mathematics over the extended reals: a root-mean-square norm, a quantizer with power-of-two scales over groups
   of 128, a projection. A row is a function of a place's number. Then the quantizer's scale the other way it can be computed:
   from the number of powers of two that do not exceed the greatest magnitude's share, read off as a float's exponent field. -/
module

public import Idealize.ShloMosaic.Lib.Pointwise

@[expose] public section

set_option maxRecDepth 16384

noncomputable section

namespace Cert.Layer

open Idealize.ShloMosaic

/-! ## The specified layer -/

/-- A group's greatest magnitude over 448. -/
def share (x : Fin 128 → EReal) : EReal :=
  Finset.fold max (Ideal.ofBits .f32 0xFF800000#32) (fun k => FloatOps.absf (F := Ideal) (φ := .f32) (x k)) Finset.univ * Ideal.ofBits .f32 0x3B124925#32

/-- The powers of two a scale is taken from. -/
def power (i : Fin 252) : EReal :=
  FloatOps.exp2 (F := Ideal) (φ := .f32) (FloatOps.sitofp (F := Ideal) .f32 (IntOp.subi (BitVec.ofNat 32 i.val) 125#32))

/-- The scale at a share: the least of the powers above it, one where the share is subnormal. -/
def scaleAt (t : EReal) : EReal :=
  if t < Ideal.ofBits .f32 0x00800000#32 then 1
  else Finset.fold min (Ideal.ofBits .f32 0x7F800000#32) (fun i : Fin 252 => if t < power i then power i else Ideal.ofBits .f32 0x7F800000#32) Finset.univ

/-- A group's scale, -/
def scale (x : Fin 128 → EReal) : EReal := scaleAt (share x)

/-- its codes, -/
def code (x : Fin 128 → EReal) (k : Fin 128) : EReal :=
  min (Ideal.ofBits .f32 0x43E00000#32) (max (Ideal.ofBits .f32 0xC3E00000#32) (x k * Ideal.div 1 (scale x)))

/-- Group `g` of a row. -/
def group (v : ℕ → EReal) (g : ℕ) (k : Fin 128) : EReal := v (g * 128 + k.val)

/-- The factor a row of 2560 is normalized with. -/
def rms (v : ℕ → EReal) : EReal :=
  Ideal.rsqrt (Ideal.div (∑ j : Fin 2560, v j.val * v j.val) (Ideal.ofBits .f32 0x45200000#32) + Ideal.ofBits .f32 0x358637BD#32)

/-- A row normalized. -/
def norm (v w : ℕ → EReal) (j : ℕ) : EReal := v j * rms v * w j

/-- A row's codes, scales and what they stand for, by place. -/
def codes (v : ℕ → EReal) (j : ℕ) : EReal := code (group v (j / 128)) ⟨j % 128, Nat.mod_lt _ (by decide)⟩
def scales (v : ℕ → EReal) (g : ℕ) : EReal := scale (group v g)
def deq (v : ℕ → EReal) (j : ℕ) : EReal := codes v j * scales v (j / 128)

/-- A row of the projection's operand: the normalized hidden state, then the normalized embedding. -/
def operand (h e nh ne : ℕ → EReal) (j : ℕ) : EReal := if j < 2560 then norm h nh j else norm e ne (j - 2560)

/-- The projection of a row. -/
def proj (h e nh ne : ℕ → EReal) (W : ℕ → ℕ → EReal) (j : ℕ) : EReal := ∑ k : Fin 5120, deq (operand h e nh ne) k.val * W k.val j

/-- The projection normalized. -/
def result (h e nh ne nf : ℕ → EReal) (W : ℕ → ℕ → EReal) : ℕ → EReal := norm (proj h e nh ne W) nf

/-! ## Powers of two as floats -/

/-- The float whose exponent field is `i`. -/
def field (i : ℕ) : EReal := Ideal.ofBits .f32 (IntOp.shli .vector (BitVec.ofNat 32 i) 23#32)

theorem ofBits_f32 (b : BitVec 32) : Ideal.ofBits .f32 b = Ideal.ieee 8 23 b := rfl

/-- A positive normal float's value from its fields. -/
theorem ofBits_fields (b : BitVec 32) (e f : ℕ) (hs : BitVec.extractLsb' (8 + 23) 1 b = 0#1) (he : (BitVec.extractLsb' 23 8 b).toNat = e) (hf : (BitVec.extractLsb' 0 23 b).toNat = f)
    (h1 : 1 ≤ e) (h2 : e ≤ 254) : Ideal.ofBits .f32 b = ((((2 ^ 23 + f : ℕ) : ℝ) * (2 : ℝ) ^ ((e : ℤ) - 127 - 23) : ℝ) : EReal) := by
  rw [ofBits_f32]
  unfold Ideal.ieee
  simp only [hs, he, hf]
  rw [if_neg (by omega), if_neg (by omega)]
  refine congrArg _ ?_
  norm_num

theorem bits : ∀ i : Fin 256, BitVec.extractLsb' (8 + 23) 1 (IntOp.shli .vector (BitVec.ofNat 32 i.val) 23#32) = 0#1
    ∧ (BitVec.extractLsb' 23 8 (IntOp.shli .vector (BitVec.ofNat 32 i.val) 23#32)).toNat = i.val
    ∧ (BitVec.extractLsb' 0 23 (IntOp.shli .vector (BitVec.ofNat 32 i.val) 23#32)).toNat = 0 := by decide +kernel

theorem field_eq (i : ℕ) (h1 : 1 ≤ i) (h2 : i ≤ 254) : field i = (((2 : ℝ) ^ ((i : ℤ) - 127) : ℝ) : EReal) := by
  obtain ⟨b1, b2, b3⟩ := bits ⟨i, by omega⟩
  unfold field
  show Ideal.ieee 8 23 _ = _
  unfold Ideal.ieee
  simp only at b1 b2 b3
  simp only [b1, b2, b3]
  rw [if_neg (by omega), if_neg (by omega)]
  refine congrArg _ ?_
  rw [show ((i : ℤ) - 127) = 23 + ((i : ℤ) - 127 - 23) by ring, zpow_add₀ (by norm_num : (2 : ℝ) ≠ 0)]
  norm_num

theorem field_zero : field 0 = 0 := by
  obtain ⟨b1, b2, b3⟩ := bits ⟨0, by decide⟩
  unfold field
  rw [ofBits_f32]
  unfold Ideal.ieee
  simp only at b1 b2 b3
  simp [b1, b2, b3]

theorem field_top : field 255 = ⊤ := by
  obtain ⟨b1, b2, b3⟩ := bits ⟨255, by decide⟩
  unfold field
  rw [ofBits_f32]
  unfold Ideal.ieee
  simp only at b1 b2 b3
  simp [b1, b2, b3]

theorem const_least : Ideal.ofBits .f32 0x00800000#32 = field 1 := rfl
theorem const_top : Ideal.ofBits .f32 0x7F800000#32 = ⊤ := field_top

theorem shift : ∀ i : Fin 252, (IntOp.subi (BitVec.ofNat 32 i.val) 125#32).toInt = (i.val : ℤ) - 125 := by decide +kernel

theorem power_eq (i : Fin 252) : power i = field (i.val + 2) := by
  rw [field_eq _ (by omega) (by omega)]
  show Ideal.exp2 ((((IntOp.subi (BitVec.ofNat 32 i.val) 125#32).toInt : ℝ)) : EReal) = _
  rw [shift]
  show (((2 : ℝ) ^ ((((i.val : ℤ) - 125 : ℤ)) : ℝ) : ℝ) : EReal) = _
  rw [Real.rpow_intCast]
  congr 2
  push_cast; ring

theorem field_lt {i j : ℕ} (h : i < j) (hj : j ≤ 255) : field i < field j := by
  rcases Nat.lt_or_ge i 1 with hi | hi
  · obtain rfl : i = 0 := by omega
    rw [field_zero]
    rcases Nat.lt_or_ge j 255 with h' | h'
    · rw [field_eq j (by omega) (by omega)]
      exact EReal.coe_pos.mpr (zpow_pos (by norm_num) _)
    · obtain rfl : j = 255 := by omega
      rw [field_top]; exact EReal.zero_lt_top
  · rcases Nat.lt_or_ge j 255 with h' | h'
    · rw [field_eq j (by omega) (by omega), field_eq i (by omega) (by omega)]
      exact EReal.coe_lt_coe_iff.mpr (zpow_lt_zpow_right₀ (by norm_num) (by omega))
    · obtain rfl : j = 255 := by omega
      rw [field_top, field_eq i (by omega) (by omega)]; exact EReal.coe_lt_top _

theorem field_le {i j : ℕ} (h : i ≤ j) (hj : j ≤ 255) : field i ≤ field j := by
  rcases Nat.lt_or_ge i j with h' | h'
  · exact (field_lt h' hj).le
  · obtain rfl : i = j := by omega
    exact le_refl _

/-! ## The scale from a count -/

/-- How many of the floats with empty significands do not exceed `t`. -/
def count (t : EReal) : BitVec 32 :=
  Finset.fold IntOp.addi (0#32) (fun i : Fin 256 => if t < Ideal.ofBits .f32 (IntOp.shli .vector (BitVec.ofNat 32 i.val) 23#32) then 0#32 else 1#32) Finset.univ

theorem fold_count {n : ℕ} (p : Fin n → Prop) [DecidablePred p] (s : Finset (Fin n)) :
    Finset.fold IntOp.addi (0#32) (fun i => if p i then 0#32 else 1#32) s = BitVec.ofNat 32 (s.filter fun i => ¬ p i).card := by
  induction s using Finset.induction_on with
  | empty => rfl
  | insert a s ha ih =>
    rw [Finset.fold_insert ha, ih, Finset.filter_insert]
    by_cases h : p a
    · rw [if_pos h, if_neg (not_not.mpr h)]
      exact BitVec.zero_add _
    · rw [if_neg h, if_pos h, Finset.card_insert_of_notMem (fun h' => ha (Finset.mem_of_mem_filter _ h')), Nat.add_comm, BitVec.ofNat_add]
      rfl

theorem count_eq (t : EReal) (n : ℕ) (hn : n < 256) (h : ∀ i : ℕ, i < 256 → (t < field i ↔ n < i)) : count t = BitVec.ofNat 32 (n + 1) := by
  unfold count
  rw [fold_count]
  congr 1
  rw [show (Finset.univ.filter fun i : Fin 256 => ¬ t < Ideal.ofBits .f32 (IntOp.shli .vector (BitVec.ofNat 32 i.val) 23#32)) = Finset.Iic (⟨n, hn⟩ : Fin 256) from by
    ext i
    rw [Finset.mem_filter, Finset.mem_Iic]
    show (_ ∧ ¬ t < field i.val) ↔ _
    rw [h i.val i.isLt, Fin.le_def]
    simp]
  exact Fin.card_Iic _

/-- The exponent a count stands for. -/
def expo (c : BitVec 32) : BitVec 32 := Scalar.select (IntOp.cmpi .eq (IntOp.subi c 1#32) 0#32) (0#32) (IntOp.subi (IntOp.subi c 1#32) 126#32)

theorem expo_up : ∀ n : Fin 253, IntOp.addi (expo (BitVec.ofNat 32 (n.val + 1))) 127#32 = BitVec.ofNat 32 (if n.val = 0 then 127 else n.val + 1) := by decide +kernel
theorem expo_down : ∀ n : Fin 253, IntOp.subi (127#32) (expo (BitVec.ofNat 32 (n.val + 1))) = BitVec.ofNat 32 (if n.val = 0 then 127 else 253 - n.val) := by decide +kernel

/-- The place of a share between two powers. -/
theorem place (t : ℝ) (h0 : 0 ≤ t) (h1 : t < (2 : ℝ) ^ (126 : ℤ)) : ∃ n : ℕ, n ≤ 252 ∧ ∀ i : ℕ, i < 256 → ((t : EReal) < field i ↔ n < i) := by
  have key : ∀ n : ℕ, n ≤ 252 → field n ≤ t → (t : EReal) < field (n + 1) → ∀ i : ℕ, i < 256 → ((t : EReal) < field i ↔ n < i) := by
    intro n hn ha hb i hi
    constructor
    · intro h
      by_contra hc
      exact absurd (lt_of_lt_of_le h (field_le (show i ≤ n by omega) (by omega))) (not_lt.mpr ha)
    · intro h
      exact lt_of_lt_of_le hb (field_le (show n + 1 ≤ i by omega) (by omega))
  rcases lt_or_ge t ((2 : ℝ) ^ (-126 : ℤ)) with ht | ht
  · refine ⟨0, by omega, key 0 (by omega) (by rw [field_zero]; exact EReal.coe_nonneg.mpr h0) ?_⟩
    rw [field_eq _ (by omega) (by omega)]
    exact EReal.coe_lt_coe_iff.mpr ht
  · have hp : 0 < t := lt_of_lt_of_le (zpow_pos (by norm_num) _) ht
    obtain ⟨m, hm1, hm2⟩ := exists_mem_Ico_zpow hp (by norm_num : (1 : ℝ) < 2)
    have hlo : -126 ≤ m := by
      by_contra hc
      exact absurd (lt_of_lt_of_le hm2 ((zpow_le_zpow_iff_right₀ (by norm_num : (1 : ℝ) < 2)).mpr (show m + 1 ≤ -126 by omega))) (not_lt.mpr ht)
    have hhi : m < 126 := (zpow_lt_zpow_iff_right₀ (by norm_num : (1 : ℝ) < 2)).mp (lt_of_le_of_lt hm1 h1)
    obtain ⟨n, hn⟩ : ∃ n : ℕ, (n : ℤ) = m + 127 := ⟨(m + 127).toNat, by omega⟩
    refine ⟨n, by omega, key n (by omega) ?_ ?_⟩
    · rw [field_eq _ (by omega) (by omega), show (n : ℤ) - 127 = m by omega]
      exact EReal.coe_le_coe_iff.mpr hm1
    · rw [field_eq _ (by omega) (by omega), show ((n + 1 : ℕ) : ℤ) - 127 = m + 1 by omega]
      exact EReal.coe_lt_coe_iff.mpr hm2

/-- The specified scale at a share's place. -/
theorem scaleAt_place (t : EReal) (n : ℕ) (hn : n ≤ 252) (h : ∀ i : ℕ, i < 256 → (t < field i ↔ n < i)) :
    scaleAt t = field (if n = 0 then 127 else n + 1) := by
  unfold scaleAt
  rw [const_least, const_top]
  by_cases h0 : n = 0
  · rw [if_pos ((h 1 (by omega)).mpr (by omega)), if_pos h0, field_eq _ (by omega) (by omega)]
    norm_num
  · rw [if_neg (fun hc => by have := (h 1 (by omega)).mp hc; omega), if_neg h0]
    apply le_antisymm
    · refine Finset.fold_min_le _ |>.mpr (.inr ⟨⟨n - 1, by omega⟩, Finset.mem_univ _, ?_⟩)
      rw [power_eq]
      show (if t < field (n - 1 + 2) then field (n - 1 + 2) else ⊤) ≤ _
      rw [show n - 1 + 2 = n + 1 by omega, if_pos ((h (n + 1) (by omega)).mpr (by omega))]
    · refine Finset.le_fold_min _ |>.mpr ⟨le_top, fun i _ => ?_⟩
      rw [power_eq]
      by_cases hi : t < field (i.val + 2)
      · rw [if_pos hi]
        exact field_le (by have := (h (i.val + 2) (by omega)).mp hi; omega) (by omega)
      · rw [if_neg hi]; exact le_top

/-- The reciprocal of a power. -/
theorem div_field (i j : ℕ) (h1 : 1 ≤ i) (h2 : 1 ≤ j) (h : i + j = 254) : Ideal.div 1 (field i) = field j := by
  rw [field_eq i h1 (by omega), field_eq j h2 (by omega)]
  unfold Ideal.div
  rw [if_neg (by rw [← EReal.coe_zero]; exact fun hc => absurd (EReal.coe_eq_coe_iff.mp hc) (zpow_pos (by norm_num) _).ne'), one_mul, ← EReal.coe_inv, ← zpow_neg]
  congr 2
  omega

/-- The scale a count gives is the specified one, -/
theorem count_scale (t : ℝ) (h0 : 0 ≤ t) (h1 : t < (2 : ℝ) ^ (126 : ℤ)) :
    Ideal.ofBits .f32 (IntOp.shli .vector (IntOp.addi (expo (count t)) 127#32) 23#32) = scaleAt t
      ∧ Ideal.ofBits .f32 (IntOp.shli .vector (IntOp.subi (127#32) (expo (count t))) 23#32) = Ideal.div 1 (scaleAt t) := by
  obtain ⟨n, hn, h⟩ := place t h0 h1
  rw [count_eq t n (by omega) h, scaleAt_place t n hn h]
  have e1 := expo_up ⟨n, by omega⟩
  have e2 := expo_down ⟨n, by omega⟩
  simp only at e1 e2
  rw [e1, e2]
  refine ⟨rfl, ?_⟩
  by_cases hz : n = 0
  · rw [if_pos hz, if_pos hz]; exact (div_field 127 127 (by omega) (by omega) rfl).symm
  · rw [if_neg hz, if_neg hz]; exact (div_field (n + 1) (253 - n) (by omega) (by omega) (by omega)).symm

/-! ## A normalized group's share is small -/

/-- A magnitude. -/
abbrev mag (x : EReal) : EReal := max x (-x)

theorem mag_nonneg (x : EReal) : 0 ≤ mag x := by
  rcases le_total 0 x with h | h
  · exact le_max_of_le_left h
  · exact le_max_of_le_right (EReal.neg_nonneg.mpr h)

theorem const_bot : Ideal.ofBits .f32 0xFF800000#32 = ⊥ := by simp [Ideal.ofBits, Ideal.ieee]

theorem const_share : ∃ r : ℝ, Ideal.ofBits .f32 0x3B124925#32 = (r : EReal) ∧ 0 ≤ r ∧ r ≤ 1 := by
  refine ⟨_, ofBits_fields _ 118 1198373 (by decide) (by decide) (by decide) (by omega) (by omega), ?_, ?_⟩ <;> norm_num

/-- The share of a group of bounded magnitudes. -/
theorem share_real (x : Fin 128 → EReal) (h : ∀ k, mag (x k) ≤ (((2 : ℝ) ^ (107 : ℤ) : ℝ) : EReal)) :
    ∃ t : ℝ, share x = (t : EReal) ∧ 0 ≤ t ∧ t < (2 : ℝ) ^ (126 : ℤ) := by
  obtain ⟨r, hr, hr0, hr1⟩ := const_share
  unfold share
  rw [hr, const_bot]
  generalize hM : Finset.fold max (⊥ : EReal) (fun k => FloatOps.absf (F := Ideal) (φ := .f32) (x k)) Finset.univ = M
  have hle : M ≤ (((2 : ℝ) ^ (107 : ℤ) : ℝ) : EReal) := by
    rw [← hM]; exact (Finset.fold_max_le _).mpr ⟨bot_le, fun k _ => h k⟩
  have hge : 0 ≤ M := by
    rw [← hM]; exact (Finset.le_fold_max _).mpr (.inr ⟨0, Finset.mem_univ _, mag_nonneg _⟩)
  induction M with
  | bot => exact absurd hge (by simp)
  | top => exact absurd hle (not_le.mpr (EReal.coe_lt_top _))
  | coe a =>
    have ha : 0 ≤ a := EReal.coe_nonneg.mp hge
    have hb : a ≤ (2 : ℝ) ^ (107 : ℤ) := EReal.coe_le_coe_iff.mp hle
    refine ⟨a * r, (EReal.coe_mul a r).symm, mul_nonneg ha hr0, ?_⟩
    calc a * r ≤ (2 : ℝ) ^ (107 : ℤ) * 1 := mul_le_mul hb hr1 hr0 (by positivity)
      _ < (2 : ℝ) ^ (126 : ℤ) := by norm_num

theorem sq_nonneg' (x : EReal) : 0 ≤ x * x := by
  induction x with
  | bot => simp
  | top => simp
  | coe a => rw [← EReal.coe_mul]; exact EReal.coe_nonneg.mpr (mul_self_nonneg a)

theorem const_rows : Ideal.ofBits .f32 0x45200000#32 = ((2560 : ℝ) : EReal) := by
  rw [ofBits_fields _ 138 2097152 (by decide) (by decide) (by decide) (by omega) (by omega)]
  refine congrArg _ ?_
  norm_num
theorem const_eps : ∃ r : ℝ, Ideal.ofBits .f32 0x358637BD#32 = (r : EReal) ∧ 0 < r := by
  refine ⟨_, ofBits_fields _ 107 407485 (by decide) (by decide) (by decide) (by omega) (by omega), ?_⟩; norm_num

/-- A normalized place over weights bounded by 2^100. -/
theorem norm_bound (v w : ℕ → EReal) (hw : ∀ j, j < 2560 → mag (w j) ≤ (((2 : ℝ) ^ (100 : ℤ) : ℝ) : EReal)) (j : ℕ) (hj : j < 2560) :
    mag (norm v w j) ≤ (((2 : ℝ) ^ (107 : ℤ) : ℝ) : EReal) := by
  obtain ⟨ε, he, he0⟩ := const_eps
  unfold norm rms
  rw [he, const_rows]
  have hb := hw j hj
  have hle : v j * v j ≤ ∑ i : Fin 2560, v i.val * v i.val :=
    Finset.single_le_sum (f := fun i : Fin 2560 => v i.val * v i.val) (fun i _ => sq_nonneg' _) (Finset.mem_univ (⟨j, hj⟩ : Fin 2560))
  have hS : 0 ≤ ∑ i : Fin 2560, v i.val * v i.val := Finset.sum_nonneg fun i _ => sq_nonneg' _
  generalize (∑ i : Fin 2560, v i.val * v i.val) = S at hle hS ⊢
  generalize w j = b at hb ⊢
  generalize v j = a at hle ⊢
  have hpos : (0 : ℝ) ≤ (2 : ℝ) ^ (107 : ℤ) := by positivity
  have hd : ∀ S : EReal, Ideal.div S ((2560 : ℝ) : EReal) = S * (((2560 : ℝ)⁻¹ : ℝ) : EReal) := fun S => by
    unfold Ideal.div
    rw [if_neg (by rw [← EReal.coe_zero]; exact fun hc => absurd (EReal.coe_eq_coe_iff.mp hc) (by norm_num)), ← EReal.coe_inv]
  rw [hd]
  induction S with
  | bot => exact absurd hS (by simp)
  | top =>
    rw [EReal.top_mul_coe_of_pos (by norm_num), EReal.top_add_coe]
    show mag (a * 0 * b) ≤ _
    rw [mul_zero, zero_mul]
    show max (0 : EReal) (-0) ≤ _
    rw [neg_zero, max_self]
    exact EReal.coe_nonneg.mpr hpos
  | coe s =>
    induction a with
    | bot => exact absurd hle (by simp)
    | top => exact absurd hle (by simp)
    | coe a =>
      induction b with
      | bot => exact absurd ((le_max_right _ _).trans hb) (not_le.mpr (by rw [EReal.neg_bot]; exact EReal.coe_lt_top _))
      | top => exact absurd ((le_max_left _ _).trans hb) (not_le.mpr (EReal.coe_lt_top _))
      | coe b =>
        rw [← EReal.coe_mul] at hle
        have hs : a * a ≤ s := EReal.coe_le_coe_iff.mp hle
        have hs0 : 0 ≤ s := le_trans (mul_self_nonneg a) hs
        have hq : 0 < s * 2560⁻¹ + ε := by positivity
        rw [← EReal.coe_mul, ← EReal.coe_add]
        have hr : Ideal.rsqrt ((s * 2560⁻¹ + ε : ℝ) : EReal) = (((Real.sqrt (s * 2560⁻¹ + ε))⁻¹ : ℝ) : EReal) := by
          show (if s * 2560⁻¹ + ε < 0 then (⊥ : EReal) else if s * 2560⁻¹ + ε = 0 then ⊤ else _) = _
          rw [if_neg (not_lt.mpr hq.le), if_neg hq.ne']
        rw [hr, ← EReal.coe_mul, ← EReal.coe_mul]
        have hbb : |b| ≤ (2 : ℝ) ^ (100 : ℤ) := by
          have h1 : b ≤ (2 : ℝ) ^ (100 : ℤ) := EReal.coe_le_coe_iff.mp ((le_max_left _ _).trans hb)
          have h2 : -b ≤ (2 : ℝ) ^ (100 : ℤ) := by
            have := (le_max_right _ _).trans hb
            rw [← EReal.coe_neg] at this
            exact EReal.coe_le_coe_iff.mp this
          exact abs_le.mpr ⟨by linarith, h1⟩
        have hab : |a * (Real.sqrt (s * 2560⁻¹ + ε))⁻¹| ≤ 64 := by
          rw [abs_mul, abs_of_nonneg (inv_nonneg.mpr (Real.sqrt_nonneg _)), ← div_eq_mul_inv, div_le_iff₀ (Real.sqrt_pos.mpr hq)]
          rw [← Real.sqrt_sq_eq_abs, ← Real.sqrt_sq (show (0 : ℝ) ≤ 64 by norm_num), ← Real.sqrt_mul (by norm_num)]
          refine Real.sqrt_le_sqrt ?_
          nlinarith
        have hfin : |a * (Real.sqrt (s * 2560⁻¹ + ε))⁻¹ * b| ≤ (2 : ℝ) ^ (107 : ℤ) := by
          rw [abs_mul]
          calc _ ≤ 64 * (2 : ℝ) ^ (100 : ℤ) := mul_le_mul hab hbb (abs_nonneg _) (by norm_num)
            _ ≤ _ := by norm_num
        refine max_le ?_ ?_
        · exact EReal.coe_le_coe_iff.mpr ((le_abs_self _).trans hfin)
        · rw [← EReal.coe_neg]; exact EReal.coe_le_coe_iff.mpr ((neg_le_abs _).trans hfin)

end Cert.Layer

end
-- ==== Proof.Norms.lean ====
/- What the precondition of the front's value claim says of the tokens and of the norm weights. -/
module

public import proofs.«01_k».proof.Pre_tokens_in_vocab_and_norms_bounded
public import proofs.«01_k».proof.Proof.Targets
public import proofs.«01_k».proof.Proof.Quantize
public import Idealize.ShloMosaic.Lib.ReduceAll
public import Idealize.ShloMosaic.Lib.Affine

@[expose] public section

noncomputable section

namespace Cert.Pre_tokens_in_vocab_and_norms_bounded

open Idealize.ShloMosaic

/-- The shape facts the precondition cites. -/
theorem facts : Facts := ⟨by decide, by decide, by decide, by decide, by decide⟩

/-- The bound, a power of two. -/
theorem const_bound : Ideal.ofBits .f32 0x71800000#32 = (((2 : ℝ) ^ (100 : ℤ) : ℝ) : EReal) := by
  rw [Cert.Layer.ofBits_fields _ 227 0 (by decide) (by decide) (by decide) (by omega) (by omega)]
  refine congrArg _ ?_
  norm_num

/-- A comparison of a magnitude with the bound that is one. -/
theorem bounded_of (x : EReal) (h : Ideal.cmp .ole x (Ideal.ofBits .f32 0x71800000#32) = 1#1) : x ≤ (((2 : ℝ) ^ (100 : ℤ) : ℝ) : EReal) := by
  rw [const_bound] at h
  by_contra hx
  have e : Ideal.cmp .ole x (((2 : ℝ) ^ (100 : ℤ) : ℝ) : EReal) = 0#1 := by
    show BitVec.ofBool (decide _) = _
    rw [decide_eq_false hx]
    rfl
  rw [e] at h
  exact absurd h (by decide)

variable [Facts] (hidden : FVec Ideal S2x128x2560 .bf16) (ids : IVec S2x129 32) (E : IVec S151936x2560 8)
  (S : FVec Ideal S151936x20 .f32) (nh ne nf : FVec Ideal S2560 .f32) (W : FVec Ideal S5120x2560 .fp8e4m3) (T : FVec Ideal S40x20 .f32)
  (h : fn (F := Ideal) hidden ids E S nh ne nf W T = fun _ => 1#1)
include h

/-- Where the precondition is all ones, every token the front looks up is in the vocabulary, -/
theorem inVocab (x : S2x129.Idx) (hx : (x 1).val < 128) : (ids x).toNat < 151936 := by
  have e := congrFun h (ix2 ⟨(x 0).val, (x 0).isLt⟩ ⟨(x 1).val, hx⟩)
  have e' : IntOp.andi (IntOp.andi (IntOp.andi _ _) _) _ = 1#1 := e
  have e0 := (IntOp.andi_eq_one.1 (IntOp.andi_eq_one.1 (IntOp.andi_eq_one.1 e').1).1).1
  revert e0
  pointwise []
  exact fun e => Cert.Pre_targets_in_vocab.small _ e

/-- and the three norm weights are bounded in magnitude. -/
theorem bounded (j : S2560.Idx) : (Cert.Layer.mag (nh j) ≤ (((2 : ℝ) ^ (100 : ℤ) : ℝ) : EReal)) ∧ (Cert.Layer.mag (ne j) ≤ (((2 : ℝ) ^ (100 : ℤ) : ℝ) : EReal))
    ∧ (Cert.Layer.mag (nf j) ≤ (((2 : ℝ) ^ (100 : ℤ) : ℝ) : EReal)) := by
  have e := congrFun h (ix2 ⟨0, by decide⟩ ⟨0, by decide⟩)
  have e' : IntOp.andi (IntOp.andi (IntOp.andi _ _) _) _ = 1#1 := e
  obtain ⟨e', e6⟩ := IntOp.andi_eq_one.1 e'
  obtain ⟨e', e5⟩ := IntOp.andi_eq_one.1 e'
  obtain ⟨e', e4⟩ := IntOp.andi_eq_one.1 e'
  haveI : Subsingleton S_.Idx := ⟨fun a b => funext fun i => i.elim0⟩
  exact ⟨bounded_of _ (Host.reduce_andi_all _ _ _ _ _ e4 j), bounded_of _ (Host.reduce_andi_all _ _ _ _ _ e5 j),
    bounded_of _ (Host.reduce_andi_all _ _ _ _ _ e6 j)⟩

end Cert.Pre_tokens_in_vocab_and_norms_bounded

end
-- ==== Proof.FrontIdeal.Exact.lean ====
/- The front kernel's body with the contents of its buffers: from what the buffers a grid point reads hold, what it leaves in
   the ones it writes. A buffer filled group by group is followed as holding given contents up to the groups done. -/
module

public import proofs.«01_k».proof.Proof.FrontIdeal.Body
public import Idealize.ShloMosaic.Lib.Pointwise

@[expose] public section

set_option maxRecDepth 16384

noncomputable section

namespace Cert.FrontIdeal.Layer

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.FrontIdeal Cert.FrontIdeal.Gen

variable {F : FTy → Type} [FloatOps F]

local notation "𝕄" => MT nD τ sig Unit (Elt F) ℕ (Pipeline.UD sig nD τ) ℕ

/-! ## Buffers filled up to a place -/

section Hold
variable (c : Dev nD) {cs : CoreSpace} {s : Shape} {e : EltTy}

/-- A buffer owned, holding `T` where a place's number is below `n`. -/
def holdTo (m : Memref sig .tc cs s e) (col : s.Idx → Nat) (n : Nat) (T : s.Idx → Elt F e) : sProp 𝕄 :=
  iprop(∃ X, ⌜∀ x, col x < n → X x = T x⌝ ∗ owns (c : Thread nD τ) m fullShare X)

/-- At no place yet, whatever it holds; -/
theorem holdTo_zero (m : Memref sig .tc cs s e) (col : s.Idx → Nat) (T : s.Idx → Elt F e) : (hold c m : sProp 𝕄) ⊢ holdTo c m col 0 T := by
  unfold hold holdTo
  iintro ⟨%X, H⟩
  iexists X
  isplitr
  · ipureintro; intro x hx; exact absurd hx (Nat.not_lt_zero _)
  · iexact H

/-- at all of them, it holds `T`. -/
theorem holdTo_all (m : Memref sig .tc cs s e) (col : s.Idx → Nat) (n : Nat) (T : s.Idx → Elt F e) (h : ∀ x, col x < n) :
    (holdTo c m col n T : sProp 𝕄) ⊢ owns (c : Thread nD τ) m fullShare T := by
  unfold holdTo
  iintro ⟨%X, %hX, H⟩
  rw [show X = T from funext fun x => hX x (h x)]
  iexact H

/-- What it holds may be anything. -/
theorem owns_hold (m : Memref sig .tc cs s e) (X : s.Idx → Elt F e) : (owns (c : Thread nD τ) m fullShare X : sProp 𝕄) ⊢ hold c m := by
  unfold hold
  iintro H
  iexists X; iexact H

theorem holdTo_hold (m : Memref sig .tc cs s e) (col : s.Idx → Nat) (n : Nat) (T : s.Idx → Elt F e) : (holdTo c m col n T : sProp 𝕄) ⊢ hold c m := by
  unfold hold holdTo
  iintro ⟨%X, -, H⟩
  iexists X; iexact H

/-- A load of it whose value does not matter, -/
theorem wp_load_any {Q : PUnit → sProp 𝕄} {m : Memref sig .tc cs s e} {col : s.Idx → Nat} {n : Nat} {T : s.Idx → Elt F e} {r : Rect s} {hl : m.view.LoadsAt r}
    {k : (r.shape.Idx → Elt F e) → P F} :
    (holdTo c m col n T : sProp 𝕄) ⊢ iprop((∀ v, holdTo c m col n T -∗ wp frame (wpE (defs₀ (F := F)) Variants.none (c : Thread nD τ) none) Set.univ (k v) Q) -∗ wp frame (wpE (defs₀ (F := F)) Variants.none (c : Thread nD τ) none) Set.univ (.op (.load m r hl) k) Q) := by
  unfold holdTo
  iintro ⟨%X, %hX, H⟩ Hk
  iapply (Owns.wp_load Variants.none (c : Thread nD τ) none Set.univ (r := r)) $$ H
  iintro H
  iapply Hk $$ %_
  iexists X
  isplitr
  · ipureintro; exact hX
  · iexact H

/-- and a store that fills more of it. -/
theorem wp_store_to {Q : PUnit → sProp 𝕄} {m : Memref sig .tc cs s e} {col : s.Idx → Nat} {n : Nat} (n' : Nat) {T : s.Idx → Elt F e} {r : Rect s} {w : r.shape.Idx → Elt F e}
    {hx : (m.access r).Stores Finset.univ} {hm : Finset.univ = Finset.univ ∨ ∀ a, r.stride a = 1} {k : PUnit → P F}
    (hw : ∀ y, w y = T (r.emb y)) (hc : ∀ x, col x < n' → col x < n ∨ x ∈ r.set) :
    (holdTo c m col n T : sProp 𝕄) ⊢ iprop((holdTo c m col n' T -∗ wp frame (wpE (defs₀ (F := F)) Variants.none (c : Thread nD τ) none) Set.univ (k ⟨⟩) Q) -∗ wp frame (wpE (defs₀ (F := F)) Variants.none (c : Thread nD τ) none) Set.univ (.op (.store m r w Finset.univ hx hm) k) Q) := by
  unfold holdTo
  iintro ⟨%X, %hX, H⟩ Hk
  iapply (Owns.wp_store Variants.none (c : Thread nD τ) none Set.univ (r := r) (hx := hx) (hm := hm) (w := w)) $$ H
  iintro %Y %hY H
  iapply Hk
  iexists Y
  isplitr
  · ipureintro
    intro x hx'
    by_cases hs : x ∈ r.set
    · obtain ⟨y, rfl⟩ : ∃ y, r.emb y = x := by
        rw [← Rect.map_emb_univ] at hs
        simpa using hs
      rw [hY.1, hw]
    · rw [hY.2 x hs]
      exact hX x ((hc x hx').resolve_right hs)
  · iexact H

end Hold

/-! ## Places -/

/-- Group `g` of a buffer's rows. -/
def part20 {e : EltTy} (X : S256x2560.Idx → Elt F e) (g : Nat) : S256x128.Idx → Elt F e :=
  fun y => X (ix2 (y 0) ⟨(128 * g + (y 1).val) % 2560, Nat.mod_lt _ (by decide)⟩)
/-- Group `g` of a norm's weights. -/
def wtPart {e : EltTy} (X : S1x2560.Idx → Elt F e) (g : Nat) : S1x128.Idx → Elt F e :=
  fun y => X (ix2 0 ⟨(128 * g + (y 1).val) % 2560, Nat.mod_lt _ (by decide)⟩)
/-- Column `g` of 20 scales. -/
def colPart {e : EltTy} (X : S256x20.Idx → Elt F e) (g : Nat) : S256x1.Idx → Elt F e :=
  fun y => X (ix2 (y 0) ⟨g % 20, Nat.mod_lt _ (by decide)⟩)
/-- Group `g` of the projection. -/
def projPart {e : EltTy} (X : S10x256x256.Idx → Elt F e) (g : Nat) : S1x256x128.Idx → Elt F e :=
  fun y => X (ix3 ⟨(g / 2) % 10, Nat.mod_lt _ (by decide)⟩ (y 1) ⟨(128 * (g % 2) + (y 2).val) % 256, Nat.mod_lt _ (by decide)⟩)
/-- Block `(n, m)` of a tile of the weights. -/
def blkPart {e : EltTy} (X : S5120x256.Idx → Elt F e) (n m : Nat) : S128x128.Idx → Elt F e :=
  fun y => X (ix2 ⟨(128 * n + (y 0).val) % 5120, Nat.mod_lt _ (by decide)⟩ ⟨(128 * m + (y 1).val) % 256, Nat.mod_lt _ (by decide)⟩)
/-- The scale of a block. -/
def scalePart {e : EltTy} (i : grid0.Coords) (X : S40x20.Idx → Elt F e) (n : Nat) (r : Fin 2) : S1x1.Idx → Elt F e :=
  fun _ => X (ix2 ⟨n % 40, Nat.mod_lt _ (by decide)⟩ ⟨scaleCol i (BitVec.ofNat 32 r.val) % 20, Nat.mod_lt _ (by decide)⟩)
/-- A row of token numbers. -/
def idsPart (X : S2x129.Idx → Elt F .i32) (b : Fin 2) : S1x128.Idx → Elt F .i32 :=
  fun y => X (ix2 b ⟨(y 1).val % 129, Nat.mod_lt _ (by decide)⟩)

theorem row_emb (g : Nat) (hg : g < 20) (y : S256x128.Idx) :
    (rowRect g hg).emb y = ix2 (y 0) ⟨(128 * g + (y 1).val) % 2560, Nat.mod_lt _ (by decide)⟩ := by
  have h1 : (y 1).val < 128 := (y 1).isLt
  funext a; apply Fin.ext; fin_cases a
  · show 0 + 1 * (y 0).val = (y 0).val; omega
  · show 128 * g + 1 * (y 1).val = (128 * g + (y 1).val) % 2560; omega
theorem wt_emb (g : Nat) (hg : g < 20) (y : S1x128.Idx) :
    (wtRect g hg).emb y = ix2 0 ⟨(128 * g + (y 1).val) % 2560, Nat.mod_lt _ (by decide)⟩ := by
  have h0 : (y 0).val < 1 := (y 0).isLt
  have h1 : (y 1).val < 128 := (y 1).isLt
  funext a; apply Fin.ext; fin_cases a
  · show 0 + 1 * (y 0).val = 0; omega
  · show 128 * g + 1 * (y 1).val = (128 * g + (y 1).val) % 2560; omega
theorem col_emb (g : Nat) (hg : g < 20) (y : S256x1.Idx) :
    (colRect g hg).emb y = ix2 (y 0) ⟨g % 20, Nat.mod_lt _ (by decide)⟩ := by
  have h1 : (y 1).val < 1 := (y 1).isLt
  funext a; apply Fin.ext; fin_cases a
  · show 0 + 1 * (y 0).val = (y 0).val; omega
  · show g + 1 * (y 1).val = g % 20; omega
theorem proj_emb (g : Nat) (hg : g < 20) (y : S1x256x128.Idx) :
    (projRect g hg).emb y = ix3 ⟨(g / 2) % 10, Nat.mod_lt _ (by decide)⟩ (y 1) ⟨(128 * (g % 2) + (y 2).val) % 256, Nat.mod_lt _ (by decide)⟩ := by
  have h0 : (y 0).val < 1 := (y 0).isLt
  have h2 : (y 2).val < 128 := (y 2).isLt
  funext a; apply Fin.ext; fin_cases a
  · show g / 2 + 1 * (y 0).val = g / 2 % 10; omega
  · show 0 + 1 * (y 1).val = (y 1).val; omega
  · show 128 * (g % 2) + 1 * (y 2).val = (128 * (g % 2) + (y 2).val) % 256; omega
theorem block_emb (n m : Nat) (hn : n < 40) (hm : m < 2) (y : S128x128.Idx) :
    (blockRect n m hn hm).emb y = ix2 ⟨(128 * n + (y 0).val) % 5120, Nat.mod_lt _ (by decide)⟩ ⟨(128 * m + (y 1).val) % 256, Nat.mod_lt _ (by decide)⟩ := by
  have h0 : (y 0).val < 128 := (y 0).isLt
  have h1 : (y 1).val < 128 := (y 1).isLt
  funext a; apply Fin.ext; fin_cases a
  · show 128 * n + 1 * (y 0).val = (128 * n + (y 0).val) % 5120; omega
  · show 128 * m + 1 * (y 1).val = (128 * m + (y 1).val) % 256; omega
theorem scale_emb (i : grid0.Coords) (n : Nat) (hn : n < 40) (r : Fin 2) (y : S1x1.Idx) :
    (scaleRect i n hn r).emb y = ix2 ⟨n % 40, Nat.mod_lt _ (by decide)⟩ ⟨scaleCol i (BitVec.ofNat 32 r.val) % 20, Nat.mod_lt _ (by decide)⟩ := by
  have h0 : (y 0).val < 1 := (y 0).isLt
  have h1 : (y 1).val < 1 := (y 1).isLt
  have hs : scaleCol i (BitVec.ofNat 32 r.val) + 1 ≤ 20 := scale_inb i hn r 1
  funext a; apply Fin.ext; fin_cases a
  · show n + 1 * (y 0).val = n % 40; omega
  · show scaleCol i (BitVec.ofNat 32 r.val) + 1 * (y 1).val = scaleCol i (BitVec.ofNat 32 r.val) % 20
    rw [Nat.mod_eq_of_lt (by omega)]; omega
theorem ids_emb (b : Fin 2) (inb : ∀ a, (![b.val, 0] : Fin 2 → Nat) a + S1x128.size a ≤ S2x129.size a) (y : S1x128.Idx) :
    (Rect.unit (s := S2x129) ![b.val, 0] S1x128.size inb).emb y = ix2 b ⟨(y 1).val % 129, Nat.mod_lt _ (by decide)⟩ := by
  have h0 : (y 0).val < 1 := (y 0).isLt
  have h1 : (y 1).val < 128 := (y 1).isLt
  funext a; apply Fin.ext; fin_cases a
  · show b.val + 1 * (y 0).val = b.val; omega
  · show 0 + 1 * (y 1).val = (y 1).val % 129; omega

section Loads
variable (c : Dev nD) {cs : CoreSpace} {e : EltTy}

/-- A load of a group of rows, -/
theorem wp_load_row {Q : PUnit → sProp 𝕄} {m : Memref sig .tc cs S256x2560 e} {g : Nat} {hg : g < 20} {hl : m.view.LoadsAt (rowRect g hg).toLoadRect}
    {k : ((rowRect g hg).shape.Idx → Elt F e) → P F} {X : S256x2560.Idx → Elt F e} :
    (owns (c : Thread nD τ) m fullShare X : sProp 𝕄) ⊢ iprop((owns (c : Thread nD τ) m fullShare X -∗ wp frame (wpE (defs₀ (F := F)) Variants.none (c : Thread nD τ) none) Set.univ (k (part20 X g)) Q) -∗ wp frame (wpE (defs₀ (F := F)) Variants.none (c : Thread nD τ) none) Set.univ (.op (.load m (rowRect g hg).toLoadRect hl) k) Q) := by
  have h := Owns.wp_load (defs := defs₀ (F := F)) Variants.none (c : Thread nD τ) none Set.univ (Q := Q) (m := m) (r := (rowRect g hg)) (hl := hl) (k := k) (q := fullShare) (X := X)
  rwa [show (fun x => X (((rowRect g hg)).emb x)) = part20 X g from funext fun x => congrArg X (row_emb g hg x)] at h

/-- of a group of a norm's weights, -/
theorem wp_load_wt {Q : PUnit → sProp 𝕄} {m : Memref sig .tc cs S1x2560 e} {g : Nat} {hg : g < 20} {hl : m.view.LoadsAt (wtRect g hg).toLoadRect}
    {k : ((wtRect g hg).shape.Idx → Elt F e) → P F} {X : S1x2560.Idx → Elt F e} :
    (owns (c : Thread nD τ) m fullShare X : sProp 𝕄) ⊢ iprop((owns (c : Thread nD τ) m fullShare X -∗ wp frame (wpE (defs₀ (F := F)) Variants.none (c : Thread nD τ) none) Set.univ (k (wtPart X g)) Q) -∗ wp frame (wpE (defs₀ (F := F)) Variants.none (c : Thread nD τ) none) Set.univ (.op (.load m (wtRect g hg).toLoadRect hl) k) Q) := by
  have h := Owns.wp_load (defs := defs₀ (F := F)) Variants.none (c : Thread nD τ) none Set.univ (Q := Q) (m := m) (r := (wtRect g hg)) (hl := hl) (k := k) (q := fullShare) (X := X)
  rwa [show (fun x => X (((wtRect g hg)).emb x)) = wtPart X g from funext fun x => congrArg X (wt_emb g hg x)] at h

/-- of a column of scales, -/
theorem wp_load_col {Q : PUnit → sProp 𝕄} {m : Memref sig .tc cs S256x20 e} {g : Nat} {hg : g < 20} {hl : m.view.LoadsAt (colRect g hg).toLoadRect}
    {k : ((colRect g hg).shape.Idx → Elt F e) → P F} {X : S256x20.Idx → Elt F e} :
    (owns (c : Thread nD τ) m fullShare X : sProp 𝕄) ⊢ iprop((owns (c : Thread nD τ) m fullShare X -∗ wp frame (wpE (defs₀ (F := F)) Variants.none (c : Thread nD τ) none) Set.univ (k (colPart X g)) Q) -∗ wp frame (wpE (defs₀ (F := F)) Variants.none (c : Thread nD τ) none) Set.univ (.op (.load m (colRect g hg).toLoadRect hl) k) Q) := by
  have h := Owns.wp_load (defs := defs₀ (F := F)) Variants.none (c : Thread nD τ) none Set.univ (Q := Q) (m := m) (r := (colRect g hg)) (hl := hl) (k := k) (q := fullShare) (X := X)
  rwa [show (fun x => X (((colRect g hg)).emb x)) = colPart X g from funext fun x => congrArg X (col_emb g hg x)] at h

/-- of a group of the projection, -/
theorem wp_load_proj {Q : PUnit → sProp 𝕄} {m : Memref sig .tc cs S10x256x256 e} {g : Nat} {hg : g < 20} {hl : m.view.LoadsAt (projRect g hg).toLoadRect}
    {k : ((projRect g hg).shape.Idx → Elt F e) → P F} {X : S10x256x256.Idx → Elt F e} :
    (owns (c : Thread nD τ) m fullShare X : sProp 𝕄) ⊢ iprop((owns (c : Thread nD τ) m fullShare X -∗ wp frame (wpE (defs₀ (F := F)) Variants.none (c : Thread nD τ) none) Set.univ (k (projPart X g)) Q) -∗ wp frame (wpE (defs₀ (F := F)) Variants.none (c : Thread nD τ) none) Set.univ (.op (.load m (projRect g hg).toLoadRect hl) k) Q) := by
  have h := Owns.wp_load (defs := defs₀ (F := F)) Variants.none (c : Thread nD τ) none Set.univ (Q := Q) (m := m) (r := (projRect g hg)) (hl := hl) (k := k) (q := fullShare) (X := X)
  rwa [show (fun x => X (((projRect g hg)).emb x)) = projPart X g from funext fun x => congrArg X (proj_emb g hg x)] at h

/-- of a block of the weights, -/
theorem wp_load_block {Q : PUnit → sProp 𝕄} {m : Memref sig .tc cs S5120x256 e} {n j : Nat} {hn : n < 40} {hj : j < 2} {hl : m.view.LoadsAt (blockRect n j hn hj).toLoadRect}
    {k : ((blockRect n j hn hj).shape.Idx → Elt F e) → P F} {X : S5120x256.Idx → Elt F e} :
    (owns (c : Thread nD τ) m fullShare X : sProp 𝕄) ⊢ iprop((owns (c : Thread nD τ) m fullShare X -∗ wp frame (wpE (defs₀ (F := F)) Variants.none (c : Thread nD τ) none) Set.univ (k (blkPart X n j)) Q) -∗ wp frame (wpE (defs₀ (F := F)) Variants.none (c : Thread nD τ) none) Set.univ (.op (.load m (blockRect n j hn hj).toLoadRect hl) k) Q) := by
  have h := Owns.wp_load (defs := defs₀ (F := F)) Variants.none (c : Thread nD τ) none Set.univ (Q := Q) (m := m) (r := (blockRect n j hn hj)) (hl := hl) (k := k) (q := fullShare) (X := X)
  rwa [show (fun x => X (((blockRect n j hn hj)).emb x)) = blkPart X n j from funext fun x => congrArg X (block_emb n j hn hj x)] at h

/-- of a block's scale. -/
theorem wp_load_scale {Q : PUnit → sProp 𝕄} {m : Memref sig .tc cs S40x20 e} {i : grid0.Coords} {n : Nat} {hn : n < 40} {r : Fin 2} {hl : m.view.LoadsAt (scaleRect i n hn r).toLoadRect}
    {k : ((scaleRect i n hn r).shape.Idx → Elt F e) → P F} {X : S40x20.Idx → Elt F e} :
    (owns (c : Thread nD τ) m fullShare X : sProp 𝕄) ⊢ iprop((owns (c : Thread nD τ) m fullShare X -∗ wp frame (wpE (defs₀ (F := F)) Variants.none (c : Thread nD τ) none) Set.univ (k (scalePart i X n r)) Q) -∗ wp frame (wpE (defs₀ (F := F)) Variants.none (c : Thread nD τ) none) Set.univ (.op (.load m (scaleRect i n hn r).toLoadRect hl) k) Q) := by
  have h := Owns.wp_load (defs := defs₀ (F := F)) Variants.none (c : Thread nD τ) none Set.univ (Q := Q) (m := m) (r := (scaleRect i n hn r)) (hl := hl) (k := k) (q := fullShare) (X := X)
  rwa [show (fun x => X (((scaleRect i n hn r)).emb x)) = scalePart i X n r from funext fun x => congrArg X (scale_emb i n hn r x)] at h

end Loads

/-! ## Contents made of groups -/

/-- Rows of 5120 from their groups, -/
def spread40 {e : EltTy} (f : Nat → S256x128.Idx → Elt F e) : S256x5120.Idx → Elt F e :=
  fun x => f ((x 1).val / 128) (ix2 (x 0) ⟨(x 1).val % 128, Nat.mod_lt _ (by decide)⟩)
/-- and of 2560; -/
def spread20 {e : EltTy} (f : Nat → S256x128.Idx → Elt F e) : S256x2560.Idx → Elt F e :=
  fun x => f ((x 1).val / 128) (ix2 (x 0) ⟨(x 1).val % 128, Nat.mod_lt _ (by decide)⟩)
/-- 40 scales from their columns, -/
def column40 {e : EltTy} (f : Nat → S256x1.Idx → Elt F e) : S256x40.Idx → Elt F e := fun x => f (x 1).val (ix2 (x 0) 0)
/-- and 20. -/
def column20 {e : EltTy} (f : Nat → S256x1.Idx → Elt F e) : S256x20.Idx → Elt F e := fun x => f (x 1).val (ix2 (x 0) 0)

theorem spread40_emb {e : EltTy} (f : Nat → S256x128.Idx → Elt F e) (n : Nat) (hn : n < 40) (y : S256x128.Idx) :
    f n y = spread40 f ((xrowRect n hn).emb y) := by
  have h1 : (y 1).val < 128 := (y 1).isLt
  show _ = f ((128 * n + 1 * (y 1).val) / 128) _
  rw [show (128 * n + 1 * (y 1).val) / 128 = n by omega]
  refine congrArg (f n) (funext fun a => Fin.ext ?_)
  fin_cases a
  · show (y 0).val = 0 + 1 * (y 0).val; omega
  · show (y 1).val = (128 * n + 1 * (y 1).val) % 128; omega
theorem spread20_emb {e : EltTy} (f : Nat → S256x128.Idx → Elt F e) (n : Nat) (hn : n < 20) (y : S256x128.Idx) :
    f n y = spread20 f ((rowRect n hn).emb y) := by
  have h1 : (y 1).val < 128 := (y 1).isLt
  show _ = f ((128 * n + 1 * (y 1).val) / 128) _
  rw [show (128 * n + 1 * (y 1).val) / 128 = n by omega]
  refine congrArg (f n) (funext fun a => Fin.ext ?_)
  fin_cases a
  · show (y 0).val = 0 + 1 * (y 0).val; omega
  · show (y 1).val = (128 * n + 1 * (y 1).val) % 128; omega
theorem column40_emb {e : EltTy} (f : Nat → S256x1.Idx → Elt F e) (n : Nat) (hn : n < 40) (y : S256x1.Idx) :
    f n y = column40 f ((xcolRect n hn).emb y) := by
  have h1 : (y 1).val < 1 := (y 1).isLt
  show _ = f (n + 1 * (y 1).val) _
  rw [show n + 1 * (y 1).val = n by omega]
  refine congrArg (f n) (funext fun a => Fin.ext ?_)
  fin_cases a
  · show (y 0).val = 0 + 1 * (y 0).val; omega
  · show (y 1).val = 0; omega
theorem column20_emb {e : EltTy} (f : Nat → S256x1.Idx → Elt F e) (n : Nat) (hn : n < 20) (y : S256x1.Idx) :
    f n y = column20 f ((colRect n hn).emb y) := by
  have h1 : (y 1).val < 1 := (y 1).isLt
  show _ = f (n + 1 * (y 1).val) _
  rw [show n + 1 * (y 1).val = n by omega]
  refine congrArg (f n) (funext fun a => Fin.ext ?_)
  fin_cases a
  · show (y 0).val = 0 + 1 * (y 0).val; omega
  · show (y 1).val = 0; omega

theorem xrow_more (n : Nat) (hn : n < 40) (x : S256x5120.Idx) (h : (x 1).val < 128 * (n + 1)) : (x 1).val < 128 * n ∨ x ∈ (xrowRect n hn).set := by
  by_cases h' : (x 1).val < 128 * n
  · exact .inl h'
  · refine .inr (Rect.mem_set_unit.mpr fun a => ?_)
    fin_cases a
    · exact ⟨Nat.zero_le _, by show (x 0).val < 0 + 256; have : (x 0).val < 256 := (x 0).isLt; omega⟩
    · exact ⟨by show 128 * n ≤ (x 1).val; omega, by show (x 1).val < 128 * n + 128; omega⟩
theorem row_more (n : Nat) (hn : n < 20) (x : S256x2560.Idx) (h : (x 1).val < 128 * (n + 1)) : (x 1).val < 128 * n ∨ x ∈ (rowRect n hn).set := by
  by_cases h' : (x 1).val < 128 * n
  · exact .inl h'
  · refine .inr (Rect.mem_set_unit.mpr fun a => ?_)
    fin_cases a
    · exact ⟨Nat.zero_le _, by show (x 0).val < 0 + 256; have : (x 0).val < 256 := (x 0).isLt; omega⟩
    · exact ⟨by show 128 * n ≤ (x 1).val; omega, by show (x 1).val < 128 * n + 128; omega⟩
theorem xcol_more (n : Nat) (hn : n < 40) (x : S256x40.Idx) (h : (x 1).val < n + 1) : (x 1).val < n ∨ x ∈ (xcolRect n hn).set := by
  by_cases h' : (x 1).val < n
  · exact .inl h'
  · refine .inr (Rect.mem_set_unit.mpr fun a => ?_)
    fin_cases a
    · exact ⟨Nat.zero_le _, by show (x 0).val < 0 + 256; have : (x 0).val < 256 := (x 0).isLt; omega⟩
    · exact ⟨by show n ≤ (x 1).val; omega, by show (x 1).val < n + 1; omega⟩
theorem col_more (n : Nat) (hn : n < 20) (x : S256x20.Idx) (h : (x 1).val < n + 1) : (x 1).val < n ∨ x ∈ (colRect n hn).set := by
  by_cases h' : (x 1).val < n
  · exact .inl h'
  · refine .inr (Rect.mem_set_unit.mpr fun a => ?_)
    fin_cases a
    · exact ⟨Nat.zero_le _, by show (x 0).val < 0 + 256; have : (x 0).val < 256 := (x 0).isLt; omega⟩
    · exact ⟨by show n ≤ (x 1).val; omega, by show (x 1).val < n + 1; omega⟩

/-- The squares of the last `f` of twenty groups, summed lane by lane onto what is handed in. -/
def sumV (v : Nat → FVec F S256x128 .f32) : Nat → FVec F S256x128 .f32 → FVec F S256x128 .f32
  | 0, acc => acc
  | f + 1, acc => sumV v f (addf acc (mulf (v (19 - f)) (v (19 - f))))

/-! ## The repeated steps -/

section Steps
variable (c : Dev nD) (A : Args)

/-- The buffers the first point writes its groups to, filled with the first `n` of the groups `v`, -/
def outXto (v : Nat → FVec F S256x128 .f32) (n : Nat) : sProp 𝕄 :=
  iprop(holdTo c A.a12 (fun x => (x 1).val) (128 * n) (spread40 fun g => codesOf (v g)) ∗ holdTo c A.a13 (fun x => (x 1).val) n (column40 fun g => scaleOf (v g))
    ∗ holdTo c A.a19 (fun x => (x 1).val) (128 * n) (spread40 fun g => deqX (v g)))
/-- and the last one. -/
def outYto (v : Nat → FVec F S256x128 .f32) (n : Nat) : sProp 𝕄 :=
  iprop(holdTo c A.a14 (fun x => (x 1).val) (128 * n) (spread20 fun g => codesOf (v g)) ∗ holdTo c A.a15 (fun x => (x 1).val) n (column20 fun g => scaleOf (v g))
    ∗ holdTo c A.a16 (fun x => (x 1).val) (128 * n) (spread20 fun g => deqOf (v g)))

theorem wp_emitX_to (K : PUnit.{1} → sProp 𝕄) (v : Nat → FVec F S256x128 .f32) (n : Nat) (hn : n < 40) (x : FVec F S256x128 .f32) (hx : x = v n) (k : P F) :
    iprop(outXto c A v n ∗ (outXto c A v (n + 1) -∗ wp frame (wpE (defs₀ (F := F)) Variants.none (c : Thread nD τ) none) Set.univ k K)) ⊢ wp frame (wpE (defs₀ (F := F)) Variants.none (c : Thread nD τ) none) Set.univ (emitX A n hn x k) K := by
  subst hx
  unfold emitX outXto
  simp only [Prog.lift, Prog.bind_op, Prog.bind_ret]
  iintro ⟨⟨H12, H13, H19⟩, Hk⟩
  iapply (wp_load_any c) $$ H12
  iintro %_ H12
  iapply (wp_store_to c (128 * (n + 1)) (spread40_emb (F := F) (e := .fp8e4m3) (fun g => codesOf (v g)) n hn) (xrow_more n hn)) $$ H12
  iintro H12
  iapply (wp_load_any c) $$ H19
  iintro %_ H19
  iapply (wp_store_to c (128 * (n + 1)) (spread40_emb (F := F) (e := .bf16) (fun g => deqX (v g)) n hn) (xrow_more n hn)) $$ H19
  iintro H19
  iapply (wp_load_any c) $$ H13
  iintro %_ H13
  iapply (wp_store_to c (n + 1) (column40_emb (F := F) (e := .f32) (fun g => scaleOf (v g)) n hn) (xcol_more n hn)) $$ H13
  iintro H13
  iapply Hk
  isplitl [H12]; · iexact H12
  isplitl [H13]; · iexact H13
  iexact H19

theorem wp_emitY_to (K : PUnit.{1} → sProp 𝕄) (v : Nat → FVec F S256x128 .f32) (n : Nat) (hn : n < 20) (x : FVec F S256x128 .f32) (hx : x = v n) (k : P F) :
    iprop(outYto c A v n ∗ (outYto c A v (n + 1) -∗ wp frame (wpE (defs₀ (F := F)) Variants.none (c : Thread nD τ) none) Set.univ k K)) ⊢ wp frame (wpE (defs₀ (F := F)) Variants.none (c : Thread nD τ) none) Set.univ (emitY A n hn x k) K := by
  subst hx
  unfold emitY outYto
  simp only [Prog.lift, Prog.bind_op, Prog.bind_ret]
  iintro ⟨⟨H14, H15, H16⟩, Hk⟩
  iapply (wp_load_any c) $$ H14
  iintro %_ H14
  iapply (wp_store_to c (128 * (n + 1)) (spread20_emb (F := F) (e := .fp8e4m3) (fun g => codesOf (v g)) n hn) (row_more n hn)) $$ H14
  iintro H14
  iapply (wp_load_any c) $$ H16
  iintro %_ H16
  iapply (wp_store_to c (128 * (n + 1)) (spread20_emb (F := F) (e := .bf16) (fun g => deqOf (v g)) n hn) (row_more n hn)) $$ H16
  iintro H16
  iapply (wp_load_any c) $$ H15
  iintro %_ H15
  iapply (wp_store_to c (n + 1) (column20_emb (F := F) (e := .f32) (fun g => scaleOf (v g)) n hn) (col_more n hn)) $$ H15
  iintro H15
  iapply Hk
  isplitl [H14]; · iexact H14
  isplitl [H15]; · iexact H15
  iexact H16

theorem wp_sumH_to (K : PUnit.{1} → sProp 𝕄) (X3 : S256x2560.Idx → Elt F .bf16) (k : FVec F S256x128 .f32 → P F) (f : Nat) : ∀ acc,
    iprop(owns (c : Thread nD τ) A.a3 fullShare X3 ∗ (owns (c : Thread nD τ) A.a3 fullShare X3 -∗ wp frame (wpE (defs₀ (F := F)) Variants.none (c : Thread nD τ) none) Set.univ (k (sumV (fun g => wide (part20 X3 g)) f acc)) K)) ⊢ wp frame (wpE (defs₀ (F := F)) Variants.none (c : Thread nD τ) none) Set.univ (sumH A k f acc) K := by
  induction f with
  | zero =>
    intro acc
    iintro ⟨H, Hk⟩
    iapply Hk
    iexact H
  | succ f ih =>
    intro acc
    unfold sumH
    simp only [Prog.lift, Prog.bind_op, Prog.bind_ret]
    iintro ⟨H3, Hk⟩
    iapply (wp_load_row c) $$ H3
    iintro H3
    iapply (wp_load_row c) $$ H3
    iintro H3
    iapply (ih (addf acc (mulf (wide (part20 X3 (19 - f))) (wide (part20 X3 (19 - f))))))
    isplitr [Hk]
    · iexact H3
    · iexact Hk

theorem wp_groupsH_to (K : PUnit.{1} → sProp 𝕄) (X3 : S256x2560.Idx → Elt F .bf16) (X4 : S1x2560.Idx → Elt F .f32) (r : FVec F S256x1 .f32) (v : Nat → FVec F S256x128 .f32)
    (hv : ∀ g, g < 20 → normed (wide (part20 X3 g)) r (wtPart X4 g) = v g) (k : P F) (f : Nat) : ∀ n, n + f = 20 →
    iprop(iprop(owns (c : Thread nD τ) A.a3 fullShare X3 ∗ owns (c : Thread nD τ) A.a4 fullShare X4 ∗ outXto c A v n) ∗ (iprop(owns (c : Thread nD τ) A.a3 fullShare X3 ∗ owns (c : Thread nD τ) A.a4 fullShare X4 ∗ outXto c A v 20) -∗ wp frame (wpE (defs₀ (F := F)) Variants.none (c : Thread nD τ) none) Set.univ k K)) ⊢ wp frame (wpE (defs₀ (F := F)) Variants.none (c : Thread nD τ) none) Set.univ (groupsH A r k f) K := by
  induction f with
  | zero =>
    intro n hn
    obtain rfl : n = 20 := by omega
    iintro ⟨H, Hk⟩
    iapply Hk
    iexact H
  | succ f ih =>
    intro n hn
    obtain rfl : n = 19 - f := by omega
    unfold groupsH
    simp only [Prog.lift, Prog.bind_op, Prog.bind_ret]
    iintro ⟨⟨H3, H4, HO⟩, Hk⟩
    iapply (wp_load_row c) $$ H3
    iintro H3
    iapply (wp_load_wt c) $$ H4
    iintro H4
    iapply (wp_emitX_to c A K v (19 - f) _ (normed (wide (part20 X3 (19 - f))) r (wtPart X4 (19 - f))) (hv (19 - f) (by omega)))
    isplitl [HO]
    · iexact HO
    iintro HO
    iapply (ih (19 - f + 1) (by omega))
    isplitr [Hk]
    · isplitl [H3]; · iexact H3
      isplitl [H4]; · iexact H4
      iexact HO
    · iexact Hk

theorem wp_sumE_to (K : PUnit.{1} → sProp 𝕄) (X17 : S256x2560.Idx → Elt F .i32) (X18 : S256x20.Idx → Elt F .f32) (sh : IVec S256x128 32) (k : FVec F S256x128 .f32 → P F) (f : Nat) : ∀ acc,
    iprop(iprop(owns (c : Thread nD τ) A.a17 fullShare X17 ∗ owns (c : Thread nD τ) A.a18 fullShare X18) ∗ (iprop(owns (c : Thread nD τ) A.a17 fullShare X17 ∗ owns (c : Thread nD τ) A.a18 fullShare X18) -∗ wp frame (wpE (defs₀ (F := F)) Variants.none (c : Thread nD τ) none) Set.univ (k (sumV (fun g => k0_pay151 sh (part20 X17 g) (colPart X18 g)) f acc)) K)) ⊢ wp frame (wpE (defs₀ (F := F)) Variants.none (c : Thread nD τ) none) Set.univ (sumE A sh k f acc) K := by
  induction f with
  | zero =>
    intro acc
    iintro ⟨H, Hk⟩
    iapply Hk
    iexact H
  | succ f ih =>
    intro acc
    unfold sumE
    simp only [Prog.lift, Prog.bind_op, Prog.bind_ret]
    iintro ⟨⟨H17, H18⟩, Hk⟩
    iapply (wp_load_row c) $$ H17
    iintro H17
    iapply (wp_load_col c) $$ H18
    iintro H18
    iapply (wp_load_row c) $$ H17
    iintro H17
    iapply (wp_load_col c) $$ H18
    iintro H18
    iapply (ih (addf acc (mulf (k0_pay151 sh (part20 X17 (19 - f)) (colPart X18 (19 - f))) (k0_pay151 sh (part20 X17 (19 - f)) (colPart X18 (19 - f))))))
    isplitr [Hk]
    · isplitl [H17]; · iexact H17
      iexact H18
    · iexact Hk

theorem wp_groupsE_to (K : PUnit.{1} → sProp 𝕄) (X17 : S256x2560.Idx → Elt F .i32) (X18 : S256x20.Idx → Elt F .f32) (X5 : S1x2560.Idx → Elt F .f32) (sh : IVec S256x128 32) (r : FVec F S256x1 .f32) (v : Nat → FVec F S256x128 .f32)
    (hv : ∀ g, g < 20 → normed (k0_pay151 sh (part20 X17 g) (colPart X18 g)) r (wtPart X5 g) = v (20 + g)) (k : P F) (f : Nat) : ∀ n, n + f = 20 →
    iprop(iprop(owns (c : Thread nD τ) A.a17 fullShare X17 ∗ owns (c : Thread nD τ) A.a18 fullShare X18 ∗ owns (c : Thread nD τ) A.a5 fullShare X5 ∗ outXto c A v (20 + n)) ∗ (iprop(owns (c : Thread nD τ) A.a17 fullShare X17 ∗ owns (c : Thread nD τ) A.a18 fullShare X18 ∗ owns (c : Thread nD τ) A.a5 fullShare X5 ∗ outXto c A v 40) -∗ wp frame (wpE (defs₀ (F := F)) Variants.none (c : Thread nD τ) none) Set.univ k K)) ⊢ wp frame (wpE (defs₀ (F := F)) Variants.none (c : Thread nD τ) none) Set.univ (groupsE A sh r k f) K := by
  induction f with
  | zero =>
    intro n hn
    obtain rfl : n = 20 := by omega
    iintro ⟨H, Hk⟩
    iapply Hk
    iexact H
  | succ f ih =>
    intro n hn
    obtain rfl : n = 19 - f := by omega
    unfold groupsE
    simp only [Prog.lift, Prog.bind_op, Prog.bind_ret]
    iintro ⟨⟨H17, H18, H5, HO⟩, Hk⟩
    iapply (wp_load_row c) $$ H17
    iintro H17
    iapply (wp_load_col c) $$ H18
    iintro H18
    iapply (wp_load_wt c) $$ H5
    iintro H5
    iapply (wp_emitX_to c A K v (20 + (19 - f)) _ (normed (k0_pay151 sh (part20 X17 (19 - f)) (colPart X18 (19 - f))) r (wtPart X5 (19 - f))) (hv (19 - f) (by omega)))
    isplitl [HO]
    · iexact HO
    iintro HO
    iapply (ih (19 - f + 1) (by omega))
    isplitr [Hk]
    · isplitl [H17]; · iexact H17
      isplitl [H18]; · iexact H18
      isplitl [H5]; · iexact H5
      iexact HO
    · iexact Hk

theorem wp_sumY_to (K : PUnit.{1} → sProp 𝕄) (X20 : S10x256x256.Idx → Elt F .f32) (k : FVec F S256x128 .f32 → P F) (f : Nat) : ∀ acc,
    iprop(owns (c : Thread nD τ) A.a20 fullShare X20 ∗ (owns (c : Thread nD τ) A.a20 fullShare X20 -∗ wp frame (wpE (defs₀ (F := F)) Variants.none (c : Thread nD τ) none) Set.univ (k (sumV (fun g => flat (projPart X20 g)) f acc)) K)) ⊢ wp frame (wpE (defs₀ (F := F)) Variants.none (c : Thread nD τ) none) Set.univ (sumY A k f acc) K := by
  induction f with
  | zero =>
    intro acc
    iintro ⟨H, Hk⟩
    iapply Hk
    iexact H
  | succ f ih =>
    intro acc
    unfold sumY
    simp only [Prog.lift, Prog.bind_op, Prog.bind_ret]
    iintro ⟨H20, Hk⟩
    iapply (wp_load_proj c) $$ H20
    iintro H20
    iapply (wp_load_proj c) $$ H20
    iintro H20
    iapply (ih (addf acc (mulf (flat (projPart X20 (19 - f))) (flat (projPart X20 (19 - f))))))
    isplitr [Hk]
    · iexact H20
    · iexact Hk

/-- The projection as it is given out. -/
def given (X20 : S10x256x256.Idx → Elt F .f32) (g : Nat) : FVec F S256x128 .bf16 := truncf .bf16 (flat (projPart X20 g)) bitsLt_bf16_f32

theorem wp_groupsY_to (K : PUnit.{1} → sProp 𝕄) (X20 : S10x256x256.Idx → Elt F .f32) (X6 : S1x2560.Idx → Elt F .f32) (r : FVec F S256x1 .f32) (v : Nat → FVec F S256x128 .f32)
    (hv : ∀ g, g < 20 → normed (flat (projPart X20 g)) r (wtPart X6 g) = v g) (k : P F) (f : Nat) : ∀ n, n + f = 20 →
    iprop(iprop(owns (c : Thread nD τ) A.a20 fullShare X20 ∗ holdTo c A.a11 (fun x => (x 1).val) (128 * n) (spread20 (given X20)) ∗ owns (c : Thread nD τ) A.a6 fullShare X6 ∗ outYto c A v n)
      ∗ (iprop(owns (c : Thread nD τ) A.a20 fullShare X20 ∗ holdTo c A.a11 (fun x => (x 1).val) (128 * 20) (spread20 (given X20)) ∗ owns (c : Thread nD τ) A.a6 fullShare X6 ∗ outYto c A v 20) -∗ wp frame (wpE (defs₀ (F := F)) Variants.none (c : Thread nD τ) none) Set.univ k K)) ⊢ wp frame (wpE (defs₀ (F := F)) Variants.none (c : Thread nD τ) none) Set.univ (groupsY A r k f) K := by
  induction f with
  | zero =>
    intro n hn
    obtain rfl : n = 20 := by omega
    iintro ⟨H, Hk⟩
    iapply Hk
    iexact H
  | succ f ih =>
    intro n hn
    obtain rfl : n = 19 - f := by omega
    unfold groupsY
    simp only [Prog.lift, Prog.bind_op, Prog.bind_ret]
    iintro ⟨⟨H20, H11, H6, HO⟩, Hk⟩
    iapply (wp_load_proj c) $$ H20
    iintro H20
    iapply (wp_load_any c) $$ H11
    iintro %_ H11
    iapply (wp_store_to c (128 * (19 - f + 1)) (spread20_emb (F := F) (e := .bf16) (given X20) (19 - f) (by omega)) (row_more (19 - f) _)) $$ H11
    iintro H11
    iapply (wp_load_wt c) $$ H6
    iintro H6
    iapply (wp_emitY_to c A K v (19 - f) _ (normed (flat (projPart X20 (19 - f))) r (wtPart X6 (19 - f))) (hv (19 - f) (by omega)))
    isplitl [HO]
    · iexact HO
    iintro HO
    iapply (ih (19 - f + 1) (by omega))
    isplitr [Hk]
    · isplitl [H20]; · iexact H20
      isplitl [H11]; · iexact H11
      isplitl [H6]; · iexact H6
      iexact HO
    · iexact Hk

/-- Row `n` of blocks of a tile, dequantized. -/
def blk (i : grid0.Coords) (X9 : S5120x256.Idx → Elt F .fp8e4m3) (X10 : S40x20.Idx → Elt F .f32) (n : Nat) : FVec F S128x256 .bf16 :=
  k0_pay496 (scalePart i X10 n 0 (Shape.Idx.first (numel1_S1x1.symm ▸ Nat.one_pos))) (blkPart X9 n 0)
    (scalePart i X10 n 1 (Shape.Idx.first (numel1_S1x1.symm ▸ Nat.one_pos))) (blkPart X9 n 1)

theorem blk_length (i : grid0.Coords) (X9 : S5120x256.Idx → Elt F .fp8e4m3) (X10 : S40x20.Idx → Elt F .f32) : ((List.range 40).map (blk i X9 X10)).length + 0 = 40 := by simp

theorem wp_weights_to (K : PUnit.{1} → sProp 𝕄) (X9 : S5120x256.Idx → Elt F .fp8e4m3) (X10 : S40x20.Idx → Elt F .f32) (i : grid0.Coords) (k : (l : List (FVec F S128x256 .bf16)) → l.length + 0 = 40 → P F) (f : Nat) (hf : f ≤ 40) : ∀ l hl, l = (List.range (40 - f)).map (blk i X9 X10) →
    iprop(iprop(owns (c : Thread nD τ) A.a9 fullShare X9 ∗ owns (c : Thread nD τ) A.a10 fullShare X10) ∗ (iprop(owns (c : Thread nD τ) A.a9 fullShare X9 ∗ owns (c : Thread nD τ) A.a10 fullShare X10) -∗ wp frame (wpE (defs₀ (F := F)) Variants.none (c : Thread nD τ) none) Set.univ (k ((List.range 40).map (blk i X9 X10)) (blk_length i X9 X10)) K)) ⊢ wp frame (wpE (defs₀ (F := F)) Variants.none (c : Thread nD τ) none) Set.univ (weights A i k f hf l hl) K := by
  induction f with
  | zero =>
    intro l hl e
    subst e
    iintro ⟨H, Hk⟩
    iapply Hk
    iexact H
  | succ f ih =>
    intro l hl e
    have he : l ++ [blk i X9 X10 (39 - f)] = (List.range (40 - f)).map (blk i X9 X10) := by
      rw [e, show 40 - f = (39 - f) + 1 by omega, List.range_succ, List.map_append, show 40 - (f + 1) = 39 - f by omega]
      rfl
    have hn := ih (by omega) (l ++ [blk i X9 X10 (39 - f)]) (by simp; omega) he
    unfold weights at hn ⊢
    simp only [smemLoad, smemLoadElt, Prog.lift, Prog.bind_op, Prog.bind_ret, bind_assoc]
    iintro ⟨⟨H9, H10⟩, Hk⟩
    iapply (wp_load_scale c) $$ H10
    iintro H10
    iapply (wp_load_block c) $$ H9
    iintro H9
    iapply (wp_load_scale c) $$ H10
    iintro H10
    iapply (wp_load_block c) $$ H9
    iintro H9
    iapply hn
    isplitr [Hk]
    · isplitl [H9]; · iexact H9
      iexact H10
    · iexact Hk

/-- The dequantized weights of a tile. -/
def tileW (i : grid0.Coords) (X9 : S5120x256.Idx → Elt F .fp8e4m3) (X10 : S40x20.Idx → Elt F .f32) : FVec F S5120x256 .bf16 :=
  concatenate S5120x256 0 (((List.range 40).map (blk i X9 X10)).map fun b => (⟨S128x256, b⟩ : (s : Shape) × (s.Idx → F .bf16))) (blocks_concat _ (blk_length i X9 X10))

/-- The projection by tiles, of the tiles' weights and the operand. -/
def tiles (W : Nat → FVec F S5120x256 .bf16) (X19 : S256x5120.Idx → Elt F .bf16) : S10x256x256.Idx → Elt F .f32 :=
  fun x => k0_pay558 (W (x 0).val) X19 (ix3 0 (x 1) (x 2))

theorem tile_off : ∀ t : Fin grid0.N, k0_off51 (grid0.coords t) 0 = t.val := by decide +kernel

theorem tile_emb (t : Fin grid0.N) (W : Nat → FVec F S5120x256 .bf16) (X19 : S256x5120.Idx → Elt F .bf16) (y : S1x256x256.Idx) :
    k0_pay558 (W t.val) X19 y = tiles W X19 ((tileRect (grid0.coords t)).emb y) := by
  have h0 : (y 0).val < 1 := (y 0).isLt
  show _ = k0_pay558 (W (k0_off51 (grid0.coords t) 0 + 1 * (y 0).val)) X19 _
  rw [show k0_off51 (grid0.coords t) 0 + 1 * (y 0).val = t.val by rw [tile_off]; omega]
  refine congrArg (k0_pay558 (W t.val) X19) (funext fun a => Fin.ext ?_)
  fin_cases a
  · show (y 0).val = 0; omega
  · show (y 1).val = 0 + 1 * (y 1).val; omega
  · show (y 2).val = 0 + 1 * (y 2).val; omega

theorem tile_more (t : Fin grid0.N) (x : S10x256x256.Idx) (h : (x 0).val < t.val + 1) : (x 0).val < t.val ∨ x ∈ (tileRect (grid0.coords t)).set := by
  by_cases h' : (x 0).val < t.val
  · exact .inl h'
  · refine .inr (Rect.mem_set_unit.mpr fun a => ?_)
    have e := tile_off t
    fin_cases a
    · exact ⟨by show k0_off51 (grid0.coords t) 0 ≤ (x 0).val; omega, by show (x 0).val < k0_off51 (grid0.coords t) 0 + 1; omega⟩
    · exact ⟨Nat.zero_le _, by show (x 1).val < 0 + 256; have : (x 1).val < 256 := (x 1).isLt; omega⟩
    · exact ⟨Nat.zero_le _, by show (x 2).val < 0 + 256; have : (x 2).val < 256 := (x 2).isLt; omega⟩

/-- A tile's work: one more tile of the projection. -/
theorem wp_tile_to (K : PUnit.{1} → sProp 𝕄) (t : Fin grid0.N) (X9 : S5120x256.Idx → Elt F .fp8e4m3) (X10 : S40x20.Idx → Elt F .f32) (X19 : S256x5120.Idx → Elt F .bf16)
    (W : Nat → FVec F S5120x256 .bf16) (hW : tileW (grid0.coords t) X9 X10 = W t.val) (k : P F) :
    iprop(iprop(owns (c : Thread nD τ) A.a9 fullShare X9 ∗ owns (c : Thread nD τ) A.a10 fullShare X10 ∗ owns (c : Thread nD τ) A.a19 fullShare X19 ∗ holdTo c A.a20 (fun x => (x 0).val) t.val (tiles W X19))
      ∗ (iprop(owns (c : Thread nD τ) A.a9 fullShare X9 ∗ owns (c : Thread nD τ) A.a10 fullShare X10 ∗ owns (c : Thread nD τ) A.a19 fullShare X19 ∗ holdTo c A.a20 (fun x => (x 0).val) (t.val + 1) (tiles W X19)) -∗ wp frame (wpE (defs₀ (F := F)) Variants.none (c : Thread nD τ) none) Set.univ k K)) ⊢ wp frame (wpE (defs₀ (F := F)) Variants.none (c : Thread nD τ) none) Set.univ (tile A (grid0.coords t) k) K := by
  have hw : ∀ y : S1x256x256.Idx, k0_pay558 (tileW (grid0.coords t) X9 X10) X19 y = tiles W X19 ((tileRect (grid0.coords t)).emb y) := fun y => by
    rw [hW]; exact tile_emb t W X19 y
  unfold tile
  iintro ⟨⟨H9, H10, H19, H20⟩, Hk⟩
  iapply (wp_weights_to c A K X9 X10 (grid0.coords t) _ 40 (le_refl _) [] rfl rfl)
  isplitl [H9 H10]
  · isplitl [H9]; · iexact H9
    iexact H10
  iintro ⟨H9, H10⟩
  unfold product
  simp only [Prog.lift, Prog.bind_op, Prog.bind_ret]
  iapply (Owns.wp_load_whole Variants.none (c : Thread nD τ) none Set.univ (funext fun a => by fin_cases a <;> rfl)) $$ H19
  iintro H19
  iapply (wp_load_any c) $$ H20
  iintro %_ H20
  iapply (wp_store_to c (t.val + 1) (w := k0_pay558 (tileW (grid0.coords t) X9 X10) X19) hw (tile_more t)) $$ H20
  iintro H20
  iapply Hk
  isplitl [H9]; · iexact H9
  isplitl [H10]; · iexact H10
  isplitl [H19]; · iexact H19
  iexact H20

end Steps

/-! ## What the first point and the last one make -/

/-- The projection's operand by groups: twenty of the normalized hidden state, -/
def hiddenV (X3 : S256x2560.Idx → Elt F .bf16) (X4 : S1x2560.Idx → Elt F .f32) (g : Nat) : FVec F S256x128 .f32 :=
  normed (wide (part20 X3 g)) (factor (sumV (fun g => wide (part20 X3 g)) 20 zero)) (wtPart X4 g)
/-- twenty of the normalized embedding rows. -/
def embedV (sh : IVec S256x128 32) (X17 : S256x2560.Idx → Elt F .i32) (X18 : S256x20.Idx → Elt F .f32) (X5 : S1x2560.Idx → Elt F .f32) (g : Nat) : FVec F S256x128 .f32 :=
  normed (k0_pay151 sh (part20 X17 g) (colPart X18 g)) (factor (sumV (fun g => k0_pay151 sh (part20 X17 g) (colPart X18 g)) 20 zero)) (wtPart X5 g)
/-- Both. -/
def operandV (X2 : S2x129.Idx → Elt F .i32) (X3 : S256x2560.Idx → Elt F .bf16) (X4 X5 : S1x2560.Idx → Elt F .f32) (X17 : S256x2560.Idx → Elt F .i32) (X18 : S256x20.Idx → Elt F .f32)
    (n : Nat) : FVec F S256x128 .f32 :=
  if n < 20 then hiddenV X3 X4 n else embedV (k0_pay147 (idsPart X2 0) (idsPart X2 1)) X17 X18 X5 (n - 20)
/-- The normalized projection by groups. -/
def resultV (X20 : S10x256x256.Idx → Elt F .f32) (X6 : S1x2560.Idx → Elt F .f32) (g : Nat) : FVec F S256x128 .f32 :=
  normed (flat (projPart X20 g)) (factor (sumV (fun g => flat (projPart X20 g)) 20 zero)) (wtPart X6 g)

theorem lt_cols {a b n : Nat} (x : (⟨2, ![a, b]⟩ : Shape).Idx) (h : b = n) : (x 1).val < n := h ▸ (x 1).isLt

section Parts
variable (c : Dev nD) (A : Args)

/-- The last point's work on the projection. -/
theorem wp_final_to (K : PUnit.{1} → sProp 𝕄) (X20 : S10x256x256.Idx → Elt F .f32) (X6 : S1x2560.Idx → Elt F .f32) :
    iprop(iprop(owns (c : Thread nD τ) A.a20 fullShare X20 ∗ hold c A.a11 ∗ owns (c : Thread nD τ) A.a6 fullShare X6 ∗ outY c A)
      ∗ (iprop(owns (c : Thread nD τ) A.a20 fullShare X20 ∗ owns (c : Thread nD τ) A.a11 fullShare (spread20 (given X20)) ∗ owns (c : Thread nD τ) A.a6 fullShare X6 ∗ owns (c : Thread nD τ) A.a14 fullShare (spread20 fun g => codesOf (resultV X20 X6 g))
        ∗ owns (c : Thread nD τ) A.a15 fullShare (column20 fun g => scaleOf (resultV X20 X6 g)) ∗ owns (c : Thread nD τ) A.a16 fullShare (spread20 fun g => deqOf (resultV X20 X6 g))) -∗ K ⟨⟩)) ⊢ wp frame (wpE (defs₀ (F := F)) Variants.none (c : Thread nD τ) none) Set.univ (final A) K := by
  unfold final outY
  iintro ⟨⟨H20, H11, H6, H14, H15, H16⟩, Hk⟩
  ihave H11 := (holdTo_zero c A.a11 (fun x => (x 1).val) (spread20 (given X20))) $$ H11
  ihave H14 := (holdTo_zero c A.a14 (fun x => (x 1).val) (spread20 fun g => codesOf (resultV X20 X6 g))) $$ H14
  ihave H15 := (holdTo_zero c A.a15 (fun x => (x 1).val) (column20 fun g => scaleOf (resultV X20 X6 g))) $$ H15
  ihave H16 := (holdTo_zero c A.a16 (fun x => (x 1).val) (spread20 fun g => deqOf (resultV X20 X6 g))) $$ H16
  iapply (wp_sumY_to c A K X20 _ 20 _)
  isplitl [H20]; · iexact H20
  iintro H20
  iapply (wp_groupsY_to c A K X20 X6 _ (resultV X20 X6) (fun _ _ => rfl) _ 20 0 rfl)
  isplitr [Hk]
  · isplitl [H20]; · iexact H20
    isplitl [H11]; · iexact H11
    isplitl [H6]; · iexact H6
    unfold outYto
    isplitl [H14]; · iexact H14
    isplitl [H15]; · iexact H15
    iexact H16
  unfold outYto
  iintro ⟨H20, H11, H6, H14, H15, H16⟩
  ihave H11 := (holdTo_all c A.a11 (fun x => (x 1).val) (128 * 20) (spread20 (given X20)) (fun x => (x 1).isLt)) $$ H11
  ihave H14 := (holdTo_all c A.a14 (fun x => (x 1).val) (128 * 20) (spread20 fun g => codesOf (resultV X20 X6 g)) (fun x => (x 1).isLt)) $$ H14
  ihave H15 := (holdTo_all c A.a15 (fun x => (x 1).val) 20 (column20 fun g => scaleOf (resultV X20 X6 g)) (fun x => (x 1).isLt)) $$ H15
  ihave H16 := (holdTo_all c A.a16 (fun x => (x 1).val) (128 * 20) (spread20 fun g => deqOf (resultV X20 X6 g)) (fun x => (x 1).isLt)) $$ H16
  sl_step
  iapply Hk
  isplitl [H20]; · iexact H20
  isplitl [H11]; · iexact H11
  isplitl [H6]; · iexact H6
  isplitl [H14]; · iexact H14
  isplitl [H15]; · iexact H15
  iexact H16

/-- The hidden state's quantization. -/
theorem wp_hide_to (K : PUnit.{1} → sProp 𝕄) (X3 : S256x2560.Idx → Elt F .bf16) (X4 : S1x2560.Idx → Elt F .f32) (v : Nat → FVec F S256x128 .f32) (hv : ∀ g, g < 20 → hiddenV X3 X4 g = v g) (k : P F) :
    iprop(iprop(owns (c : Thread nD τ) A.a3 fullShare X3 ∗ owns (c : Thread nD τ) A.a4 fullShare X4 ∗ outXto c A v 0) ∗ (iprop(owns (c : Thread nD τ) A.a3 fullShare X3 ∗ owns (c : Thread nD τ) A.a4 fullShare X4 ∗ outXto c A v 20) -∗ wp frame (wpE (defs₀ (F := F)) Variants.none (c : Thread nD τ) none) Set.univ k K)) ⊢ wp frame (wpE (defs₀ (F := F)) Variants.none (c : Thread nD τ) none) Set.univ (hide A k) K := by
  unfold hide
  iintro ⟨⟨H3, H4, HO⟩, Hk⟩
  iapply (wp_sumH_to c A K X3 _ 20 _)
  isplitl [H3]; · iexact H3
  iintro H3
  iapply (wp_groupsH_to c A K X3 X4 _ v hv k 20 0 rfl)
  isplitr [Hk]
  · isplitl [H3]; · iexact H3
    isplitl [H4]; · iexact H4
    iexact HO
  iexact Hk

/-- A load of a row of token numbers. -/
theorem wp_load_ids {Q : PUnit → sProp 𝕄} {cs : CoreSpace} {m : Memref sig .tc cs S2x129 .i32} (b : Fin 2) {inb : ∀ a, (![b.val, 0] : Fin 2 → Nat) a + S1x128.size a ≤ S2x129.size a}
    {hl : m.view.LoadsAt (Rect.unit (s := S2x129) ![b.val, 0] S1x128.size inb).toLoadRect} {k : (S1x128.Idx → Elt F .i32) → P F} {X : S2x129.Idx → Elt F .i32} :
    (owns (c : Thread nD τ) m fullShare X : sProp 𝕄) ⊢ iprop((owns (c : Thread nD τ) m fullShare X -∗ wp frame (wpE (defs₀ (F := F)) Variants.none (c : Thread nD τ) none) Set.univ (k (idsPart X b)) Q) -∗ wp frame (wpE (defs₀ (F := F)) Variants.none (c : Thread nD τ) none) Set.univ (.op (.load m (Rect.unit (s := S2x129) ![b.val, 0] S1x128.size inb).toLoadRect hl) k) Q) := by
  have h := Owns.wp_load (defs := defs₀ (F := F)) Variants.none (c : Thread nD τ) none Set.univ (Q := Q) (m := m) (r := Rect.unit (s := S2x129) ![b.val, 0] S1x128.size inb) (hl := hl) (k := k) (q := fullShare) (X := X)
  rwa [show (fun x => X ((Rect.unit (s := S2x129) ![b.val, 0] S1x128.size inb).emb x)) = idsPart X b from funext fun x => congrArg X (ids_emb b inb x)] at h

/-- The embedding rows' quantization. -/
theorem wp_embed_to (K : PUnit.{1} → sProp 𝕄) (X2 : S2x129.Idx → Elt F .i32) (X17 : S256x2560.Idx → Elt F .i32) (X18 : S256x20.Idx → Elt F .f32) (X5 : S1x2560.Idx → Elt F .f32) (v : Nat → FVec F S256x128 .f32)
    (hv : ∀ g, g < 20 → embedV (k0_pay147 (idsPart X2 0) (idsPart X2 1)) X17 X18 X5 g = v (20 + g)) (k : P F) :
    iprop(iprop(owns (c : Thread nD τ) A.a2 fullShare X2 ∗ owns (c : Thread nD τ) A.a17 fullShare X17 ∗ owns (c : Thread nD τ) A.a18 fullShare X18 ∗ owns (c : Thread nD τ) A.a5 fullShare X5 ∗ outXto c A v 20) ∗ (iprop(owns (c : Thread nD τ) A.a2 fullShare X2 ∗ owns (c : Thread nD τ) A.a17 fullShare X17 ∗ owns (c : Thread nD τ) A.a18 fullShare X18 ∗ owns (c : Thread nD τ) A.a5 fullShare X5 ∗ outXto c A v 40) -∗ wp frame (wpE (defs₀ (F := F)) Variants.none (c : Thread nD τ) none) Set.univ k K)) ⊢ wp frame (wpE (defs₀ (F := F)) Variants.none (c : Thread nD τ) none) Set.univ (embed A k) K := by
  unfold embed
  simp only [Prog.lift, Prog.bind_op, Prog.bind_ret]
  iintro ⟨⟨H2, H17, H18, H5, HO⟩, Hk⟩
  iapply (wp_load_ids c 0) $$ H2
  iintro H2
  iapply (wp_load_ids c 1) $$ H2
  iintro H2
  iapply (wp_sumE_to c A K X17 X18 _ _ 20 _)
  isplitl [H17 H18]
  · isplitl [H17]; · iexact H17
    iexact H18
  iintro ⟨H17, H18⟩
  iapply (wp_groupsE_to c A K X17 X18 X5 _ _ v hv k 20 0 rfl)
  isplitr [Hk H2]
  · isplitl [H17]; · iexact H17
    isplitl [H18]; · iexact H18
    isplitl [H5]; · iexact H5
    iexact HO
  iintro ⟨H17, H18, H5, HO⟩
  iapply Hk
  isplitl [H2]; · iexact H2
  isplitl [H17]; · iexact H17
  isplitl [H18]; · iexact H18
  isplitl [H5]; · iexact H5
  iexact HO

end Parts

/-! ## The first point -/

section First
variable (c : Dev nD) (A : Args) (q7 q8 : PosShare TreeShare)
  (f7 : Buf (Elt F) (A.a7.view.loc (c : Thread nD τ))) (f8 : Buf (Elt F) (A.a8.view.loc (c : Thread nD τ)))

/-- The first point: the operand quantized, the first tile. -/
theorem wp_first_to (K : PUnit.{1} → sProp 𝕄) (t : Fin grid0.N) (ht : t.val = 0) (h : k0_cond1 (grid0.coords t) = 1#1) (X1 : S2x129.Idx → Elt F .i32)
    (hv : ∀ j, k0_chk1 (grid0.coords t) (word (grid0.coords t) h X1 j)) (hv2 : ∀ j, k0_chk2 (grid0.coords t) (word2 (grid0.coords t) h X1 j))
    (X2 : S2x129.Idx → Elt F .i32) (X3 : S256x2560.Idx → Elt F .bf16) (X4 X5 : S1x2560.Idx → Elt F .f32)
    (X9 : S5120x256.Idx → Elt F .fp8e4m3) (X10 : S40x20.Idx → Elt F .f32) (v : Nat → FVec F S256x128 .f32)
    (hV : operandV X2 X3 X4 X5 (rows7 (grid0.coords t) h X1 hv (A.a7.view.read (Elt F) f7)) (rows8 (grid0.coords t) h X1 hv (A.a8.view.read (Elt F) f8)) = v)
    (W : Nat → FVec F S5120x256 .bf16) (hW : tileW (grid0.coords t) X9 X10 = W t.val) :
    iprop(iprop(owns (c : Thread nD τ) A.a1 fullShare X1 ∗ owns (c : Thread nD τ) A.a2 fullShare X2 ∗ owns (c : Thread nD τ) A.a3 fullShare X3 ∗ owns (c : Thread nD τ) A.a4 fullShare X4 ∗ owns (c : Thread nD τ) A.a5 fullShare X5 ∗ owns (c : Thread nD τ) A.a9 fullShare X9
      ∗ owns (c : Thread nD τ) A.a10 fullShare X10 ∗ outX c A ∗ hold c A.a17 ∗ hold c A.a18 ∗ hold c A.a20
      ∗ own c A q7 q8 f7 f8 ∗ ∃ W, owes (c : Thread nD τ) 0 W)
      ∗ (iprop(owns (c : Thread nD τ) A.a1 fullShare X1 ∗ owns (c : Thread nD τ) A.a2 fullShare X2 ∗ owns (c : Thread nD τ) A.a3 fullShare X3 ∗ owns (c : Thread nD τ) A.a4 fullShare X4 ∗ owns (c : Thread nD τ) A.a5 fullShare X5 ∗ owns (c : Thread nD τ) A.a9 fullShare X9
      ∗ owns (c : Thread nD τ) A.a10 fullShare X10 ∗ (owns (c : Thread nD τ) A.a12 fullShare (spread40 fun g => codesOf (v g)) ∗ owns (c : Thread nD τ) A.a13 fullShare (column40 fun g => scaleOf (v g)) ∗ owns (c : Thread nD τ) A.a19 fullShare (spread40 fun g => deqX (v g)))
      ∗ hold c A.a17 ∗ hold c A.a18 ∗ holdTo c A.a20 (fun x => (x 0).val) (t.val + 1) (tiles W (spread40 fun g => deqX (v g)))
      ∗ own c A q7 q8 f7 f8 ∗ ∃ W, owes (c : Thread nD τ) 0 W) -∗ K ⟨⟩)) ⊢ wp frame (wpE (defs₀ (F := F)) Variants.none (c : Thread nD τ) none) Set.univ (first A (grid0.coords t) h) K := by
  unfold own first outX
  iintro ⟨⟨H1, H2, H3, H4, H5, H9, H10, ⟨H12, H13, H19⟩, H17, H18, H20, ⟨⟨H7, H8⟩, HS⟩, HO⟩, Hk⟩
  ihave H17 := (hold_open c A.a17) $$ H17
  ihave H18 := (hold_open c A.a18) $$ H18
  icases H17 with ⟨%g7, H17⟩
  icases H18 with ⟨%g8, H18⟩
  ihave H12 := (holdTo_zero c A.a12 (fun x => (x 1).val) (spread40 fun g => codesOf (v g))) $$ H12
  ihave H13 := (holdTo_zero c A.a13 (fun x => (x 1).val) (column40 fun g => scaleOf (v g))) $$ H13
  ihave H19 := (holdTo_zero c A.a19 (fun x => (x 1).val) (spread40 fun g => deqX (v g))) $$ H19
  ihave H20 := (holdTo_zero c A.a20 (fun x => (x 0).val) (tiles W (spread40 fun g => deqX (v g)))) $$ H20
  iapply (wp_issue c A (grid0.coords t) h X1 hv q7 q8 f7 f8 g7 g8 fullShare) $$ [H1 H7 H8 H17 H18 HS]
  · isplitl [HS]; · iexact HS
    isplitl [H1]; · iexact H1
    isplitl [H7]; · iexact H7
    isplitl [H8]; · iexact H8
    isplitl [H17]; · iexact H17
    iexact H18
  iintro H1 Hf
  iapply (wp_hide_to c A K X3 X4 v (fun g hg => by rw [← hV]; exact (if_pos hg).symm))
  isplitl [H3 H4 H12 H13 H19]
  · isplitl [H3]; · iexact H3
    isplitl [H4]; · iexact H4
    unfold outXto
    isplitl [H12]; · iexact H12
    isplitl [H13]; · iexact H13
    iexact H19
  iintro ⟨H3, H4, HX⟩
  iapply (wp_drain c A (grid0.coords t) h X1 hv q7 q8 f7 f8 g7 g8 hv2 fullShare) $$ [H1 Hf HO]
  · isplitl [H1]; · iexact H1
    isplitl [Hf]; · iexact Hf
    iexact HO
  iintro H1 HS H7 H8 H17 H18 HO
  iapply (wp_embed_to c A K X2 (rows7 (grid0.coords t) h X1 hv (A.a7.view.read (Elt F) f7)) (rows8 (grid0.coords t) h X1 hv (A.a8.view.read (Elt F) f8)) X5 v
    (fun g hg => by rw [← hV]; exact ((if_neg (show ¬ 20 + g < 20 by omega)).trans (by rw [Nat.add_sub_cancel_left])).symm))
  isplitl [H2 H5 H17 H18 HX]
  · isplitl [H2]; · iexact H2
    isplitl [H17]; · iexact H17
    isplitl [H18]; · iexact H18
    isplitl [H5]; · iexact H5
    iexact HX
  unfold outXto
  iintro ⟨H2, H17, H18, H5, H12, H13, H19⟩
  ihave H12 := (holdTo_all c A.a12 (fun x => (x 1).val) (128 * 40) (spread40 fun g => codesOf (v g)) (fun x => (x 1).isLt)) $$ H12
  ihave H13 := (holdTo_all c A.a13 (fun x => (x 1).val) 40 (column40 fun g => scaleOf (v g)) (fun x => (x 1).isLt)) $$ H13
  ihave H19 := (holdTo_all c A.a19 (fun x => (x 1).val) (128 * 40) (spread40 fun g => deqX (v g)) (fun x => (x 1).isLt)) $$ H19
  ihave H17 := (owns_hold c A.a17 _) $$ H17
  ihave H18 := (owns_hold c A.a18 _) $$ H18
  iapply (wp_tile_to c A K t X9 X10 (spread40 fun g => deqX (v g)) W hW)
  isplitl [H9 H10 H19 H20]
  · isplitl [H9]; · iexact H9
    isplitl [H10]; · iexact H10
    isplitl [H19]; · iexact H19
    rw [ht]; iexact H20
  iintro ⟨H9, H10, H19, H20⟩
  sl_step
  iapply Hk
  isplitl [H1]; · iexact H1
  isplitl [H2]; · iexact H2
  isplitl [H3]; · iexact H3
  isplitl [H4]; · iexact H4
  isplitl [H5]; · iexact H5
  isplitl [H9]; · iexact H9
  isplitl [H10]; · iexact H10
  isplitl [H12 H13 H19]
  · isplitl [H12]; · iexact H12
    isplitl [H13]; · iexact H13
    iexact H19
  isplitl [H17]; · iexact H17
  isplitl [H18]; · iexact H18
  isplitl [H20]; · iexact H20
  isplitl [H7 H8 HS]
  · isplitl [H7 H8]
    · isplitl [H7]; · iexact H7
      iexact H8
    · iexact HS
  iexact HO

end First

end Cert.FrontIdeal.Layer

end
-- ==== Proof.FrontIdeal.Read.lean ====
/- The front kernel's exact contents read at an index, over the extended reals: norms, quantized groups, the dequantized
   weights' tiles and the projection are the specified layer's. -/
module

public import proofs.«01_k».proof.Proof.FrontIdeal.Exact
public import proofs.«01_k».proof.Proof.Quantize
public import Idealize.ShloMosaic.Lib.Pointwise
public import Idealize.ShloMosaic.Lib.Pipeline.Value

@[expose] public section

set_option maxRecDepth 16384

noncomputable section

namespace Cert.FrontIdeal.Layer

open Idealize.ShloMosaic Idealize.ShloMosaic.TcCoe
open Cert.FrontIdeal Cert.FrontIdeal.Gen

/-! ## One group -/

/-- The exponent the kernel counts for a group. -/
theorem field_apply (x : S256x128.Idx → Elt Ideal .f32) (r : Fin 256) :
    k0_pay20 (F := Ideal) x (ix2 r 0) = Cert.Layer.expo (Cert.Layer.count (Cert.Layer.share fun k => x (ix2 r k))) := by
  pointwise [k0_pay20]
  rfl

/-- The scale it makes of it. -/
theorem scale_apply (x : S256x128.Idx → Elt Ideal .f32) (r : Fin 256) : scaleOf (F := Ideal) x (ix2 r 0)
    = Ideal.ofBits .f32 (IntOp.shli .vector (IntOp.addi (k0_pay20 (F := Ideal) x (ix2 r 0)) 127#32) 23#32) := by
  unfold scaleOf
  pointwise [k0_pay21]
  try rfl

/-- The codes. -/
theorem codes_apply (x : S256x128.Idx → Elt Ideal .f32) (r : Fin 256) (k : Fin 128) : codesOf (F := Ideal) x (ix2 r k)
    = min (Ideal.ofBits .f32 0x43E00000#32) (max (Ideal.ofBits .f32 0xC3E00000#32)
      (x (ix2 r k) * Ideal.ofBits .f32 (IntOp.shli .vector (IntOp.subi 127#32 (k0_pay20 (F := Ideal) x (ix2 r 0))) 23#32))) := by
  unfold codesOf
  pointwise [k0_pay22]
  try rfl

theorem deqX_apply (x : S256x128.Idx → Elt Ideal .f32) (r : Fin 256) (k : Fin 128) : deqX (F := Ideal) x (ix2 r k) = codesOf (F := Ideal) x (ix2 r k) * scaleOf (F := Ideal) x (ix2 r 0) := by
  pointwise [deqX, deqOf]

theorem deqOf_apply (x : S256x128.Idx → Elt Ideal .f32) (r : Fin 256) (k : Fin 128) : deqOf (F := Ideal) x (ix2 r k) = codesOf (F := Ideal) x (ix2 r k) * scaleOf (F := Ideal) x (ix2 r 0) := by
  pointwise [deqOf]

theorem normed_apply (x : S256x128.Idx → Elt Ideal .f32) (f : S256x1.Idx → Elt Ideal .f32) (w : S1x128.Idx → Elt Ideal .f32) (r : Fin 256) (k : Fin 128) :
    normed (F := Ideal) x f w (ix2 r k) = x (ix2 r k) * f (ix2 r 0) * w (ix2 0 k) := by
  pointwise [normed]

theorem factor_apply (x : S256x128.Idx → Elt Ideal .f32) (r : Fin 256) :
    factor (F := Ideal) x (ix2 r 0) = Ideal.rsqrt (Ideal.div (∑ k, x (ix2 r k)) (Ideal.ofBits .f32 0x45200000#32) + Ideal.ofBits .f32 0x358637BD#32) := by
  pointwise [factor]
  try rfl

theorem flat_apply (x : S1x256x128.Idx → Elt Ideal .f32) (r : Fin 256) (k : Fin 128) :
    flat (F := Ideal) x (ix2 r k) = x (ix3 0 r k) := by
  pointwise [flat]

theorem wide_apply (x : S256x128.Idx → Elt Ideal .bf16) (r : Fin 256) (k : Fin 128) :
    wide (F := Ideal) x (ix2 r k) = x (ix2 r k) := by
  pointwise [wide]

theorem zero_apply (r : Fin 256) (k : Fin 128) :
    zero (F := Ideal) (ix2 r k) = 0 := by
  pointwise [zero]

/-- A piece of an embedding row: the byte its token names, times the scale. -/
theorem pay151_apply (sh : S256x128.Idx → BitVec 32) (x : S256x128.Idx → BitVec 32) (s : S256x1.Idx → Elt Ideal .f32) (r : Fin 256) (k : Fin 128) :
    k0_pay151 (F := Ideal) sh x s (ix2 r k)
      = FloatOps.sitofp (F := Ideal) .f32 (IntOp.shrsi .vector (IntOp.shli .vector (x (ix2 r k)) (sh (ix2 r k))) 24#32) * s (ix2 r 0) := by
  pointwise [k0_pay151]
  try rfl

theorem pay496_apply (s0 s1 : Elt Ideal .f32) (x y : S128x128.Idx → Elt Ideal .fp8e4m3)  (r : Fin 128) (k : Fin 256) :
    k0_pay496 (F := Ideal) s0 x s1 y (ix2 r k) = if h : k.val < 128 then x (ix2 r ⟨k.val, h⟩) * s0 else y (ix2 r ⟨k.val - 128, by omega⟩) * s1 := by
  pointwise [k0_pay496]
  try rfl

theorem pay558_apply (w : S5120x256.Idx → Elt Ideal .bf16) (x : S256x5120.Idx → Elt Ideal .bf16)  (r : Fin 256) (k : Fin 256) :
    k0_pay558 (F := Ideal) w x (ix3 0 r k) = ∑ j : Fin 5120, x (ix2 r j) * w (ix2 j k) := by
  pointwise [k0_pay558]

/-! ## Norms -/

/-- A row of a full-width array, by place. -/
def rowOf (X : S256x2560.Idx → EReal) (r : Fin 256) (j : ℕ) : EReal := X (ix2 r ⟨j % 2560, Nat.mod_lt _ (by decide)⟩)
/-- A row of weights, by place. -/
def wOf (X : S1x2560.Idx → EReal) (j : ℕ) : EReal := X (ix2 0 ⟨j % 2560, Nat.mod_lt _ (by decide)⟩)

/-- The running sum of squares after the remaining groups. -/
theorem sumV_apply (v : ℕ → S256x128.Idx → Elt Ideal .f32) (r : Fin 256) (k : Fin 128) : ∀ (f : ℕ) (_ : f ≤ 20) (acc : S256x128.Idx → Elt Ideal .f32),
    sumV (F := Ideal) v f acc (ix2 r k) = acc (ix2 r k) + ∑ i ∈ Finset.range f, v (20 - f + i) (ix2 r k) * v (20 - f + i) (ix2 r k)
  | 0, _, acc => by rw [Finset.range_zero, Finset.sum_empty, add_zero]; rfl
  | f + 1, hf, acc => by
    show sumV (F := Ideal) v f _ (ix2 r k) = _
    rw [sumV_apply v r k f (by omega), Finset.sum_range_succ']
    have e0 : 20 - (f + 1) + 0 = 19 - f := by omega
    have e1 : ∀ i, 20 - (f + 1) + (i + 1) = 20 - f + i := fun i => by omega
    simp only [e0, e1]
    show (acc (ix2 r k) + v (19 - f) (ix2 r k) * v (19 - f) (ix2 r k)) + _ = _
    rw [add_assoc, add_comm (v (19 - f) (ix2 r k) * v (19 - f) (ix2 r k))]

/-- A sum over a row is a sum over its groups' places. -/
theorem sum_groups (f : ℕ → EReal) : ∑ k : Fin 128, ∑ i ∈ Finset.range 20, f (i * 128 + k.val) = ∑ j : Fin 2560, f j.val := by
  rw [Finset.sum_comm]
  have e : ∑ j : Fin (20 * 128), f j.val = ∑ p : Fin 20 × Fin 128, f (finProdFinEquiv p).val :=
    (Equiv.sum_comp finProdFinEquiv fun j : Fin (20 * 128) => f j.val).symm
  refine Eq.trans ?_ e.symm
  rw [Fintype.sum_prod_type, Finset.sum_range]
  refine Finset.sum_congr rfl fun i _ => Finset.sum_congr rfl fun k _ => ?_
  show f (i.val * 128 + k.val) = f (k.val + 128 * i.val)
  rw [Nat.mul_comm, Nat.add_comm]

/-- Groups normalized by the factor of their squares' sum are the row normalized. -/
theorem normed_sum (v : ℕ → S256x128.Idx → Elt Ideal .f32) (w : ℕ → S1x128.Idx → Elt Ideal .f32) (r : Fin 256) (X Y : ℕ → EReal)
    (hv : ∀ g (k : Fin 128), g < 20 → v g (ix2 r k) = X (g * 128 + k.val)) (hw : ∀ g (k : Fin 128), g < 20 → w g (ix2 0 k) = Y (g * 128 + k.val)) (g : ℕ) (hg : g < 20) (k : Fin 128) :
    normed (F := Ideal) (v g) (factor (sumV v 20 zero)) (w g) (ix2 r k) = Cert.Layer.norm X Y (g * 128 + k.val) := by
  rw [normed_apply, factor_apply, hv g k hg, hw g k hg]
  have e : ∑ k : Fin 128, sumV (F := Ideal) v 20 zero (ix2 r k) = ∑ j : Fin 2560, X j.val * X j.val := by
    rw [← sum_groups fun j => X j * X j]
    refine Finset.sum_congr rfl fun k _ => ?_
    rw [sumV_apply v r k 20 (le_refl _), zero_apply, zero_add]
    refine Finset.sum_congr rfl fun i hi => ?_
    rw [show 20 - 20 + i = i by omega, hv i k (Finset.mem_range.mp hi)]
  rw [e]
  rfl

theorem wtPart_apply (X : S1x2560.Idx → Elt Ideal .f32) (g : ℕ) (k : Fin 128) : wtPart (F := Ideal) X g (ix2 0 k) = wOf X (g * 128 + k.val) := by
  unfold wOf
  rw [Nat.mul_comm]
  rfl

/-- A group of the normalized hidden state. -/
theorem hiddenV_apply (X3 : S256x2560.Idx → Elt Ideal .bf16) (X4 : S1x2560.Idx → Elt Ideal .f32) (r : Fin 256) (g : ℕ) (hg : g < 20) (k : Fin 128) :
    hiddenV (F := Ideal) X3 X4 g (ix2 r k) = Cert.Layer.norm (rowOf X3 r) (wOf X4) (g * 128 + k.val) := by
  unfold hiddenV
  refine normed_sum (fun g => wide (part20 X3 g)) (fun g => wtPart X4 g) r _ _ (fun g k _ => ?_) (fun g k _ => wtPart_apply X4 g k) g hg k
  rw [wide_apply]
  unfold rowOf
  rw [Nat.mul_comm]
  rfl

/-- A group of the operand. -/
theorem operandV_apply (X2 : S2x129.Idx → Elt Ideal .i32) (X3 : S256x2560.Idx → Elt Ideal .bf16) (X4 X5 : S1x2560.Idx → Elt Ideal .f32)
    (X17 : S256x2560.Idx → Elt Ideal .i32) (X18 : S256x20.Idx → Elt Ideal .f32) (r : Fin 256) (E : ℕ → EReal)
    (hE : ∀ g (k : Fin 128), g < 20 → k0_pay151 (F := Ideal) (k0_pay147 (F := Ideal) (idsPart X2 0) (idsPart X2 1)) (part20 X17 g) (colPart X18 g) (ix2 r k) = E (g * 128 + k.val))
    (n : ℕ) (hn : n < 40) (k : Fin 128) :
    operandV (F := Ideal) X2 X3 X4 X5 X17 X18 n (ix2 r k) = Cert.Layer.operand (rowOf X3 r) E (wOf X4) (wOf X5) (n * 128 + k.val) := by
  have hk := k.isLt
  unfold operandV Cert.Layer.operand
  by_cases h : n < 20
  · rw [if_pos h, if_pos (by omega), hiddenV_apply X3 X4 r n h k]
  · rw [if_neg h, if_neg (by omega)]
    unfold embedV
    rw [show n * 128 + k.val - 2560 = (n - 20) * 128 + k.val by omega]
    exact normed_sum (fun g => k0_pay151 (F := Ideal) (k0_pay147 (F := Ideal) (idsPart X2 0) (idsPart X2 1)) (part20 X17 g) (colPart X18 g)) (fun g => wtPart X5 g) r _ _ hE (fun g k _ => wtPart_apply X5 g k) (n - 20) (by omega) k

/-! ## Quantized groups -/

/-- The greatest magnitude spoken of. -/
abbrev big : EReal := (((2 : ℝ) ^ (107 : ℤ) : ℝ) : EReal)

/-- A bounded group's codes and scale are the specified. -/
theorem quantized (v : ℕ → S256x128.Idx → Elt Ideal .f32) (X : ℕ → EReal) (r : Fin 256) (N : ℕ)
    (hv : ∀ g (k : Fin 128), g < N → v g (ix2 r k) = X (g * 128 + k.val)) (hb : ∀ j, j < N * 128 → Cert.Layer.mag (X j) ≤ big) (g : ℕ) (hg : g < N) :
    (∀ k, codesOf (F := Ideal) (v g) (ix2 r k) = Cert.Layer.code (Cert.Layer.group X g) k)
      ∧ scaleOf (F := Ideal) (v g) (ix2 r 0) = Cert.Layer.scale (Cert.Layer.group X g) := by
  have hG : (fun k => v g (ix2 r k)) = Cert.Layer.group X g := funext fun k => hv g k hg
  obtain ⟨t, ht, h0, h1⟩ := Cert.Layer.share_real (Cert.Layer.group X g) (fun k => hb _ (by have := k.isLt; nlinarith))
  obtain ⟨c1, c2⟩ := Cert.Layer.count_scale t h0 h1
  refine ⟨fun k => ?_, ?_⟩
  · rw [codes_apply, field_apply, hG, ht, c2, hv g k hg]
    unfold Cert.Layer.code Cert.Layer.scale
    rw [ht]
    rfl
  · rw [scale_apply, field_apply, hG, ht, c1]
    unfold Cert.Layer.scale
    rw [ht]

theorem spread40_apply {e : EltTy} (f : ℕ → S256x128.Idx → Elt Ideal e) (r : Fin 256) (j : Fin 5120) : spread40 (F := Ideal) f (ix2 r j) = f (j.val / 128) (ix2 r ⟨j.val % 128, Nat.mod_lt _ (by decide)⟩) := rfl
theorem spread20_apply {e : EltTy} (f : ℕ → S256x128.Idx → Elt Ideal e) (r : Fin 256) (j : Fin 2560) : spread20 (F := Ideal) f (ix2 r j) = f (j.val / 128) (ix2 r ⟨j.val % 128, Nat.mod_lt _ (by decide)⟩) := rfl
theorem column40_apply {e : EltTy} (f : ℕ → S256x1.Idx → Elt Ideal e) (r : Fin 256) (j : Fin 40) : column40 (F := Ideal) f (ix2 r j) = f j.val (ix2 r 0) := rfl
theorem column20_apply {e : EltTy} (f : ℕ → S256x1.Idx → Elt Ideal e) (r : Fin 256) (j : Fin 20) : column20 (F := Ideal) f (ix2 r j) = f j.val (ix2 r 0) := rfl

/-- The operand's codes, scales and dequantized values, -/
theorem quantized40 (v : ℕ → S256x128.Idx → Elt Ideal .f32) (X : ℕ → EReal) (r : Fin 256)
    (hv : ∀ g (k : Fin 128), g < 40 → v g (ix2 r k) = X (g * 128 + k.val)) (hb : ∀ j, j < 5120 → Cert.Layer.mag (X j) ≤ big) :
    (∀ j : Fin 5120, spread40 (F := Ideal) (e := .fp8e4m3) (fun g => codesOf (F := Ideal) (v g)) (ix2 r j) = Cert.Layer.codes X j.val)
      ∧ (∀ g : Fin 40, column40 (F := Ideal) (e := .f32) (fun g => scaleOf (F := Ideal) (v g)) (ix2 r g) = Cert.Layer.scales X g.val)
      ∧ (∀ j : Fin 5120, (spread40 (F := Ideal) (e := .bf16) (fun g => deqX (F := Ideal) (v g)) (ix2 r j) : EReal) = Cert.Layer.deq X j.val) := by
  have h := quantized v X r 40 hv hb
  refine ⟨fun j => ?_, fun g => ?_, fun j => ?_⟩
  · rw [spread40_apply, (h (j.val / 128) (by omega)).1]; rfl
  · rw [column40_apply, (h g.val g.isLt).2]; rfl
  · rw [spread40_apply, deqX_apply, (h (j.val / 128) (by omega)).1, (h (j.val / 128) (by omega)).2]; rfl

/-- and the result's. -/
theorem quantized20 (v : ℕ → S256x128.Idx → Elt Ideal .f32) (X : ℕ → EReal) (r : Fin 256)
    (hv : ∀ g (k : Fin 128), g < 20 → v g (ix2 r k) = X (g * 128 + k.val)) (hb : ∀ j, j < 2560 → Cert.Layer.mag (X j) ≤ big) :
    (∀ j : Fin 2560, spread20 (F := Ideal) (e := .fp8e4m3) (fun g => codesOf (F := Ideal) (v g)) (ix2 r j) = Cert.Layer.codes X j.val)
      ∧ (∀ g : Fin 20, column20 (F := Ideal) (e := .f32) (fun g => scaleOf (F := Ideal) (v g)) (ix2 r g) = Cert.Layer.scales X g.val)
      ∧ (∀ j : Fin 2560, (spread20 (F := Ideal) (e := .bf16) (fun g => deqOf (F := Ideal) (v g)) (ix2 r j) : EReal) = Cert.Layer.deq X j.val) := by
  have h := quantized v X r 20 hv hb
  refine ⟨fun j => ?_, fun g => ?_, fun j => ?_⟩
  · rw [spread20_apply, (h (j.val / 128) (by omega)).1]; rfl
  · rw [column20_apply, (h g.val g.isLt).2]; rfl
  · rw [spread20_apply, deqOf_apply, (h (j.val / 128) (by omega)).1, (h (j.val / 128) (by omega)).2]; rfl

/-! ## The weights and the projection -/

/-- The scale column of a tile's block. -/
theorem scaleCol_eq : ∀ (t : Fin grid0.N) (r : Fin 2), scaleCol (grid0.coords t) (BitVec.ofNat 32 r.val) = 2 * t.val + r.val := by decide +kernel

theorem blk_apply (t : Fin grid0.N) (X9 : S5120x256.Idx → Elt Ideal .fp8e4m3) (X10 : S40x20.Idx → Elt Ideal .f32) (n : ℕ) (hn : n < 40) (r : Fin 128) (k : Fin 256) :
    blk (F := Ideal) (grid0.coords t) X9 X10 n (ix2 r k)
      = X9 (ix2 ⟨(n * 128 + r.val) % 5120, Nat.mod_lt _ (by decide)⟩ k) * X10 (ix2 ⟨n % 40, Nat.mod_lt _ (by decide)⟩ ⟨(2 * t.val + k.val / 128) % 20, Nat.mod_lt _ (by decide)⟩) := by
  have hk := k.isLt
  unfold blk
  rw [pay496_apply]
  by_cases h : k.val < 128
  · rw [dif_pos h]
    unfold blkPart scalePart
    have e1 : k.val / 128 = 0 := by omega
    refine congrArg₂ (· * ·) (congrArg X9 ?_) (congrArg X10 ?_)
    · funext a; apply Fin.ext; fin_cases a
      · show (128 * n + r.val) % 5120 = (n * 128 + r.val) % 5120; rw [Nat.mul_comm]
      · show (128 * 0 + k.val) % 256 = k.val; omega
    · funext a; apply Fin.ext; fin_cases a
      · rfl
      · show scaleCol (grid0.coords t) (BitVec.ofNat 32 (0 : Fin 2).val) % 20 = (2 * t.val + k.val / 128) % 20
        rw [scaleCol_eq t 0, e1]
        rfl
  · rw [dif_neg h]
    unfold blkPart scalePart
    have e1 : k.val / 128 = 1 := by omega
    refine congrArg₂ (· * ·) (congrArg X9 ?_) (congrArg X10 ?_)
    · funext a; apply Fin.ext; fin_cases a
      · show (128 * n + r.val) % 5120 = (n * 128 + r.val) % 5120; rw [Nat.mul_comm]
      · show (128 * 1 + (k.val - 128)) % 256 = k.val; omega
    · funext a; apply Fin.ext; fin_cases a
      · rfl
      · show scaleCol (grid0.coords t) (BitVec.ofNat 32 (1 : Fin 2).val) % 20 = (2 * t.val + k.val / 128) % 20
        rw [scaleCol_eq t 1, e1]
        rfl

/-- A weight of a tile. -/
theorem tileW_apply (t : Fin grid0.N) (X9 : S5120x256.Idx → Elt Ideal .fp8e4m3) (X10 : S40x20.Idx → Elt Ideal .f32) (j : Fin 5120) (k : Fin 256) :
    tileW (F := Ideal) (grid0.coords t) X9 X10 (ix2 j k)
      = X9 (ix2 j k) * X10 (ix2 ⟨j.val / 128, by omega⟩ ⟨(2 * t.val + k.val / 128) % 20, Nat.mod_lt _ (by decide)⟩) := by
  unfold tileW
  have hl : (((List.range 40).map (blk (F := Ideal) (grid0.coords t) X9 X10)).map fun b => (⟨S128x256, b⟩ : (s : Shape) × (s.Idx → Ideal .bf16)))
      = List.ofFn fun n : Fin 40 => (⟨S128x256, blk (F := Ideal) (grid0.coords t) X9 X10 n.val⟩ : (s : Shape) × (s.Idx → Ideal .bf16)) :=
    List.ext_getElem (by rw [List.length_map, List.length_map, List.length_range, List.length_ofFn]) (fun i h1 h2 => by rw [List.getElem_ofFn, List.getElem_map, List.getElem_map, List.getElem_range])
  have hg : ∀ (xs ys : List ((s : Shape) × (s.Idx → Ideal .bf16))) (h : xs = ys) (hx : Shape.Concatenates (xs.map (·.1)) S5120x256 0) (hy : Shape.Concatenates (ys.map (·.1)) S5120x256 0),
      concatenate S5120x256 0 xs hx = concatenate S5120x256 0 ys hy := fun xs ys h hx hy => by subst h; rfl
  rw [hg _ _ hl _ (hl ▸ blocks_concat _ (blk_length (grid0.coords t) X9 X10))]
  rw [concatenate_ofFn_apply (t := S5120x256) (s₁ := S128x256) 0 (fun n : Fin 40 => blk (F := Ideal) (grid0.coords t) X9 X10 n.val) _ rfl 128 rfl (ix2 j k) ⟨j.val / 128, by omega⟩ rfl
    (ix2 ⟨j.val % 128, Nat.mod_lt _ (by decide)⟩ k) rfl (fun b hb => by fin_cases b <;> first | rfl | exact absurd rfl hb)]
  rw [blk_apply t X9 X10 (j.val / 128) (by omega)]
  refine congrArg₂ (· * ·) (congrArg X9 ?_) (congrArg X10 ?_)
  · funext a; apply Fin.ext; fin_cases a
    · show (j.val / 128 * 128 + j.val % 128) % 5120 = j.val; omega
    · rfl
  · funext a; apply Fin.ext; fin_cases a
    · show j.val / 128 % 40 = j.val / 128; omega
    · rfl

/-- A group of the projection. -/
theorem proj_apply (W : ℕ → S5120x256.Idx → Elt Ideal .bf16) (X19 : S256x5120.Idx → Elt Ideal .bf16) (r : Fin 256) (h e nh ne : ℕ → EReal) (T : ℕ → ℕ → EReal)
    (hX : ∀ j : Fin 5120, X19 (ix2 r j) = Cert.Layer.deq (Cert.Layer.operand h e nh ne) j.val)
    (hW : ∀ n (j : Fin 5120) (k : Fin 256), n < 10 → W n (ix2 j k) = T j.val (n * 256 + k.val)) (g : ℕ) (hg : g < 20) (k : Fin 128) :
    flat (F := Ideal) (projPart (tiles W X19) g) (ix2 r k) = Cert.Layer.proj h e nh ne T (g * 128 + k.val) := by
  have hk := k.isLt
  rw [flat_apply]
  show k0_pay558 (F := Ideal) (W (g / 2 % 10)) X19 (ix3 0 r ⟨(128 * (g % 2) + k.val) % 256, Nat.mod_lt _ (by decide)⟩) = _
  rw [pay558_apply]
  unfold Cert.Layer.proj
  refine Finset.sum_congr rfl fun j _ => ?_
  rw [hX, hW _ _ _ (by omega)]
  refine congrArg₂ (· * ·) rfl (congrArg (T j.val) ?_)
  show g / 2 % 10 * 256 + (128 * (g % 2) + k.val) % 256 = g * 128 + k.val
  omega

/-- A group of the normalized projection. -/
theorem resultV_apply (X20 : S10x256x256.Idx → Elt Ideal .f32) (X6 : S1x2560.Idx → Elt Ideal .f32) (r : Fin 256) (P : ℕ → EReal)
    (hP : ∀ g (k : Fin 128), g < 20 → flat (F := Ideal) (projPart X20 g) (ix2 r k) = P (g * 128 + k.val)) (g : ℕ) (hg : g < 20) (k : Fin 128) :
    resultV (F := Ideal) X20 X6 g (ix2 r k) = Cert.Layer.norm P (wOf X6) (g * 128 + k.val) := by
  unfold resultV
  exact normed_sum (fun g => flat (F := Ideal) (projPart X20 g)) (fun g => wtPart X6 g) r P _ (fun g k hg => hP g k hg) (fun g k _ => wtPart_apply X6 g k) g hg k

/-- The projection as it is given out. -/
theorem given_apply (X20 : S10x256x256.Idx → Elt Ideal .f32) (r : Fin 256) (P : ℕ → EReal)
    (hP : ∀ g (k : Fin 128), g < 20 → flat (F := Ideal) (projPart X20 g) (ix2 r k) = P (g * 128 + k.val)) (j : Fin 2560) :
    (spread20 (F := Ideal) (e := .bf16) (given X20) (ix2 r j) : EReal) = P j.val := by
  rw [spread20_apply]
  refine Eq.trans (hP (j.val / 128) ⟨j.val % 128, Nat.mod_lt _ (by decide)⟩ (by omega)) (congrArg P ?_)
  show j.val / 128 * 128 + j.val % 128 = j.val
  omega

end Cert.FrontIdeal.Layer

end
-- ==== Proof.FrontIdeal.Value.lean ====
/- The front kernel's run with its results named: between grid points the operand and the tiles computed so far are known, and
   the six result arrays end at what the first and the last point leave. -/
module

public import proofs.«01_k».proof.Proof.FrontIdeal.Point
public import proofs.«01_k».proof.Proof.FrontIdeal.Exact

@[expose] public section

set_option maxRecDepth 16384

noncomputable section

namespace Cert.FrontIdeal.Layer

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)
open Cert.FrontIdeal Cert.FrontIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the points leave -/

/-- The first and the last point. -/
abbrev t0 : Fin cfg0.N := ⟨0, by show 0 < grid0.N; decide⟩
abbrev t9 : Fin cfg0.N := ⟨9, by show 9 < grid0.N; decide⟩

/-- The token of a position. -/
def token (c : Dev nD) (r : Fin 256) : BitVec 32 :=
  iblk m c 0 t0 (ix2 ⟨r.val / 128, by omega⟩ ⟨r.val % 128, by omega⟩)

/-- The code rows the tokens name, as words, -/
def codeRows (c : Dev nD) : S256x2560.Idx → Elt F .i32 :=
  fun x => V m c main_v2 (ix2 ⟨(token m c (x 0)).toNat / 4 % 37984, Nat.mod_lt _ (by decide)⟩ (x 1))
/-- and their scale rows. -/
def scaleRows (c : Dev nD) : S256x20.Idx → Elt F .f32 :=
  fun x => V m c main_arg3 (ix2 ⟨(token m c (x 0)).toNat % 151936, Nat.mod_lt _ (by decide)⟩ (x 1))

/-- The operand's groups. -/
def vOf (c : Dev nD) : Nat → FVec F S256x128 .f32 :=
  operandV (iblk m c 1 t0) (iblk m c 2 t0) (iblk m c 3 t0) (iblk m c 4 t0) (codeRows m c) (scaleRows m c)
/-- A tile's weights. -/
def wtOf (c : Dev nD) (n : Nat) : FVec F S5120x256 .bf16 :=
  if h : n < cfg0.N then tileW (grid0.coords ⟨n, h⟩) (iblk m c 6 ⟨n, h⟩) (iblk m c 7 ⟨n, h⟩) else fun _ => Scalar.ofBits .bf16 0#16
/-- The dequantized operand, -/
def xOf (c : Dev nD) : S256x5120.Idx → Elt F .bf16 := spread40 fun g => deqX (vOf m c g)
/-- the projection by tiles. -/
def pOf (c : Dev nD) : S10x256x256.Idx → Elt F .f32 := tiles (wtOf m c) (xOf m c)

/-- The six results. -/
def res8 (c : Dev nD) : S256x2560.Idx → Elt F .bf16 := spread20 (given (pOf m c))
def res9 (c : Dev nD) : S256x5120.Idx → Elt F .fp8e4m3 := spread40 fun g => codesOf (vOf m c g)
def res10 (c : Dev nD) : S256x40.Idx → Elt F .f32 := column40 fun g => scaleOf (vOf m c g)
def res11 (c : Dev nD) : S256x2560.Idx → Elt F .fp8e4m3 := spread20 fun g => codesOf (resultV (pOf m c) (iblk m c 5 t9) g)
def res12 (c : Dev nD) : S256x20.Idx → Elt F .f32 := column20 fun g => scaleOf (resultV (pOf m c) (iblk m c 5 t9) g)
def res13 (c : Dev nD) : S256x2560.Idx → Elt F .bf16 := spread20 fun g => deqOf (resultV (pOf m c) (iblk m c 5 t9) g)

/-- The rows the transfers bring are those. -/
theorem rows7_eq (c : Dev nD) (h : k0_cond1 (grid0.coords t0) = 1#1) (hv : ∀ t, k0_chk1 (grid0.coords t0) (word (grid0.coords t0) h (iblk m c 0 t0) t))
    (hI : ∀ x : S2x129.Idx, (x 1).val < 128 → BitVec.toNat (iblk m c 0 t0 x) < 151936) :
    rows7 (grid0.coords t0) h (iblk m c 0 t0) hv (V m c main_v2) = codeRows m c := funext fun x => by
  have hx : (x 0).val < 256 := (x 0).isLt
  have hw : word (grid0.coords t0) h (iblk m c 0 t0) (tripOf (n := 0) (x 0)) = token m c (x 0) := by
    unfold word token
    refine congrArg (iblk m c 0 t0) (funext fun a => Fin.ext ?_)
    fin_cases a
    · show k0_off1 (tripOf (n := 0) (x 0)) 0 + 1 * 0 = (x 0).val / 128
      rw [off1_eq]; rfl
    · show k0_off1 (tripOf (n := 0) (x 0)) 1 + 1 * 0 = (x 0).val % 128
      rw [off1_eq]; rfl
  have ht : (token m c (x 0)).toNat < 151936 := hI _ (Nat.mod_lt _ (by decide))
  unfold rows7 codeRows
  refine congrArg (V m c main_v2) (funext fun a => Fin.ext ?_)
  fin_cases a
  · show k0_off3 (word (grid0.coords t0) h (iblk m c 0 t0) (tripOf (n := 0) (x 0))) 0 + 1 * 0 = (token m c (x 0)).toNat / 4 % 37984
    rw [hw, quarter _ ht]; omega
  · show 0 + 1 * (x 1).val = (x 1).val; omega
theorem rows8_eq (c : Dev nD) (h : k0_cond1 (grid0.coords t0) = 1#1) (hv : ∀ t, k0_chk1 (grid0.coords t0) (word (grid0.coords t0) h (iblk m c 0 t0) t))
    (hI : ∀ x : S2x129.Idx, (x 1).val < 128 → BitVec.toNat (iblk m c 0 t0 x) < 151936) :
    rows8 (grid0.coords t0) h (iblk m c 0 t0) hv (V m c main_arg3) = scaleRows m c := funext fun x => by
  have hx : (x 0).val < 256 := (x 0).isLt
  have hw : word (grid0.coords t0) h (iblk m c 0 t0) (tripOf (n := 0) (x 0)) = token m c (x 0) := by
    unfold word token
    refine congrArg (iblk m c 0 t0) (funext fun a => Fin.ext ?_)
    fin_cases a
    · show k0_off1 (tripOf (n := 0) (x 0)) 0 + 1 * 0 = (x 0).val / 128
      rw [off1_eq]; rfl
    · show k0_off1 (tripOf (n := 0) (x 0)) 1 + 1 * 0 = (x 0).val % 128
      rw [off1_eq]; rfl
  have ht : (token m c (x 0)).toNat < 151936 := hI _ (Nat.mod_lt _ (by decide))
  unfold rows8 scaleRows
  refine congrArg (V m c main_arg3) (funext fun a => Fin.ext ?_)
  fin_cases a
  · show (word (grid0.coords t0) h (iblk m c 0 t0) (tripOf (n := 0) (x 0))).toNat + 1 * 0 = (token m c (x 0)).toNat % 151936
    rw [hw]; omega
  · show 0 + 1 * (x 1).val = (x 1).val; omega

/-! ## The proof data -/

/-- What is known between two points, `n` of them done. -/
def mid (c : Dev nD) (n : Nat) : sProp 𝕄 :=
  iprop((hold c (argsAt t0).a17 ∗ hold c (argsAt t0).a18 ∗ owns (c : Thread nD τ) (argsAt t0).a19 fullShare (xOf m c) ∗ holdTo c (argsAt t0).a20 (fun x => (x 0).val) n (pOf m c)) ∗ (∃ r, prngReg c r)
      ∗ (semVal ((c : Thread nD τ), sem7 (argsAt t0)) 0 ∗ semVal ((c : Thread nD τ), sem8 (argsAt t0)) 0)
      ∗ (((c : Thread nD τ).loc main_v2 ↦{fullShare} V m c main_v2) ∗ ((c : Thread nD τ).loc main_arg3 ↦{fullShare} V m c main_arg3)))

theorem mid_eq (c : Dev nD) (n : Nat) (t : Fin cfg0.N) : (mid m c n : sProp 𝕄)
    = iprop((hold c (argsAt t).a17 ∗ hold c (argsAt t).a18 ∗ owns (c : Thread nD τ) (argsAt t).a19 fullShare (xOf m c) ∗ holdTo c (argsAt t).a20 (fun x => (x 0).val) n (pOf m c)) ∗ (∃ r, prngReg c r)
      ∗ (semVal ((c : Thread nD τ), sem7 (argsAt t)) 0 ∗ semVal ((c : Thread nD τ), sem8 (argsAt t)) 0)
      ∗ (((c : Thread nD τ).loc main_v2 ↦{fullShare} V m c main_v2) ∗ ((c : Thread nD τ).loc main_arg3 ↦{fullShare} V m c main_arg3))) := rfl

/-- The proof data: the inputs' staging buffers at their blocks, the results' at what the points leave. -/
def datV (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => res8 m c
    | ⟨9, _⟩ => res9 m c
    | ⟨10, _⟩ => res10 m c
    | ⟨11, _⟩ => res11 m c
    | ⟨12, _⟩ => res12 m c
    | ⟨13, _⟩ => res13 m c
  Φ t := if t.val = 0 then Pipeline.ΦD osem spec0 tables (V m) c else mid m c t.val
  q w := Pipeline.shareOf spec0 w
  owed _ := 0

theorem phi_zero (c : Dev nD) (t : Fin (cfg0.N + 1)) (h : t.val = 0) : (datV m 0 c).Φ t = Pipeline.ΦD osem spec0 tables (V m) c := by
  show (if t.val = 0 then _ else _) = _
  rw [if_pos h]
theorem phi_pos (c : Dev nD) (t : Fin (cfg0.N + 1)) (h : ¬ t.val = 0) : (datV m 0 c).Φ t = mid m c t.val := by
  show (if t.val = 0 then _ else _) = _
  rw [if_neg h]

/-- A buffer that holds `T` holds it up to any place. -/
theorem owns_holdTo (c : Dev nD) {cs : CoreSpace} {s : Shape} {e : EltTy} (b : Memref sig .tc cs s e) (col : s.Idx → Nat) (n : Nat) (T : s.Idx → Elt F e) :
    (owns (c : Thread nD τ) b fullShare T : sProp 𝕄) ⊢ holdTo c b col n T := by
  unfold holdTo
  iintro H
  iexists T
  isplitr
  · ipureintro; exact fun _ _ => rfl
  · iexact H

section
variable (c : Dev nD) (t : Fin cfg0.N)

/-! An input's staging buffer holds its block at every point. -/

theorem beforeV_0 (d) : (datV m 0 c).before (0 : Fin 14) t d = iblk m c 0 t :=
  ((datV m 0 c).before_in_eq_fetched 0 rfl (fun _ => rfl) (fun _ _ _ => rfl) (fun t => rfl) t d).trans rfl
theorem beforeV_1 (d) : (datV m 0 c).before (1 : Fin 14) t d = iblk m c 1 t :=
  ((datV m 0 c).before_in_eq_fetched 1 rfl (fun _ => rfl) (fun _ _ _ => rfl) (fun t => rfl) t d).trans rfl
theorem beforeV_2 (d) : (datV m 0 c).before (2 : Fin 14) t d = iblk m c 2 t :=
  ((datV m 0 c).before_in_eq_fetched 2 rfl (fun _ => rfl) (fun _ _ _ => rfl) (fun t => rfl) t d).trans rfl
theorem beforeV_3 (d) : (datV m 0 c).before (3 : Fin 14) t d = iblk m c 3 t :=
  ((datV m 0 c).before_in_eq_fetched 3 rfl (fun _ => rfl) (fun _ _ _ => rfl) (fun t => rfl) t d).trans rfl
theorem beforeV_4 (d) : (datV m 0 c).before (4 : Fin 14) t d = iblk m c 4 t :=
  ((datV m 0 c).before_in_eq_fetched 4 rfl (fun _ => rfl) (fun _ _ _ => rfl) (fun t => rfl) t d).trans rfl
theorem beforeV_5 (d) : (datV m 0 c).before (5 : Fin 14) t d = iblk m c 5 t :=
  ((datV m 0 c).before_in_eq_fetched 5 rfl (fun _ => rfl) (fun _ _ _ => rfl) (fun t => rfl) t d).trans rfl
theorem beforeV_6 (d) : (datV m 0 c).before (6 : Fin 14) t d = iblk m c 6 t :=
  ((datV m 0 c).before_in_eq_fetched 6 rfl (fun _ => rfl) (fun _ _ _ => rfl) (fun t => rfl) t d).trans rfl
theorem beforeV_7 (d) : (datV m 0 c).before (7 : Fin 14) t d = iblk m c 7 t :=
  ((datV m 0 c).before_in_eq_fetched 7 rfl (fun _ => rfl) (fun _ _ _ => rfl) (fun t => rfl) t d).trans rfl

theorem idle_first (w : Fin 14) (hw : w = 9 ∨ w = 10) : cfg0.idle w (cfg0.grid.coords t) = !decide (t.val = 0) := by
  have e : cfg0.idle w (cfg0.grid.coords t) = !(k0_cond1 (grid0.coords t) == 1#1) := by rcases hw with rfl | rfl <;> rfl
  rw [e]
  by_cases h : t.val = 0
  · rw [(cond1_iff t).mpr h]; simp [h]
  · have := fun hc => h ((cond1_iff t).mp hc)
    simp [h]; exact this
theorem idle_last (w : Fin 14) (hw : w = 8 ∨ w = 11 ∨ w = 12 ∨ w = 13) : cfg0.idle w (cfg0.grid.coords t) = !decide (t.val = 9) := by
  have e : cfg0.idle w (cfg0.grid.coords t) = !(k0_cond2 (grid0.coords t) == 1#1) := by rcases hw with rfl | rfl | rfl | rfl <;> rfl
  rw [e]
  by_cases h : t.val = 9
  · rw [(cond2_iff t).mpr h]; simp [h]
  · have := fun hc => h ((cond2_iff t).mp hc)
    simp [h]; exact this
end

/-- A result the first point leaves is still there at every later one. -/
theorem beforeV_9 (c : Dev nD) : ∀ (n : Nat) (hn : n < cfg0.N) (_ : n ≠ 0) (d), (datV m 0 c).before (9 : Fin 14) ⟨n, hn⟩ d = res9 m c
  | 0, _, h0, _ => absurd rfl h0
  | n + 1, hn, _, d => by
    have hN : n + 1 < 10 := N_0 ▸ hn
    have hf : (cfg0.win 9).flush ⟨n, Nat.lt_of_succ_lt hn⟩ = false := Bool.eq_false_iff.mpr (fun hf => by
      have := (flush0_9 ⟨n, Nat.lt_of_succ_lt hn⟩).mp hf
      have h2 : n % 10 = 9 := this
      omega)
    rw [(datV m 0 c).before_of_pos 9 ⟨n + 1, hn⟩ (Nat.succ_ne_zero n) ((cfg0.win 9).fetch_out rfl _)]
    show (if (cfg0.win 9).flush ⟨n, Nat.lt_of_succ_lt hn⟩ = true then d else (datV m 0 c).left 9 ⟨n, Nat.lt_of_succ_lt hn⟩ d) = _
    rw [if_neg (by rw [hf]; exact Bool.false_ne_true)]
    unfold Dat.left
    rw [idle_first ⟨n, Nat.lt_of_succ_lt hn⟩ 9 (by simp)]
    by_cases h : n = 0
    · subst h; rfl
    · simp only [h, decide_false, Bool.not_false]
      exact beforeV_9 c n (Nat.lt_of_succ_lt hn) h d

/-- A result the first point leaves is still there at every later one. -/
theorem beforeV_10 (c : Dev nD) : ∀ (n : Nat) (hn : n < cfg0.N) (_ : n ≠ 0) (d), (datV m 0 c).before (10 : Fin 14) ⟨n, hn⟩ d = res10 m c
  | 0, _, h0, _ => absurd rfl h0
  | n + 1, hn, _, d => by
    have hN : n + 1 < 10 := N_0 ▸ hn
    have hf : (cfg0.win 10).flush ⟨n, Nat.lt_of_succ_lt hn⟩ = false := Bool.eq_false_iff.mpr (fun hf => by
      have := (flush0_10 ⟨n, Nat.lt_of_succ_lt hn⟩).mp hf
      have h2 : n % 10 = 9 := this
      omega)
    rw [(datV m 0 c).before_of_pos 10 ⟨n + 1, hn⟩ (Nat.succ_ne_zero n) ((cfg0.win 10).fetch_out rfl _)]
    show (if (cfg0.win 10).flush ⟨n, Nat.lt_of_succ_lt hn⟩ = true then d else (datV m 0 c).left 10 ⟨n, Nat.lt_of_succ_lt hn⟩ d) = _
    rw [if_neg (by rw [hf]; exact Bool.false_ne_true)]
    unfold Dat.left
    rw [idle_first ⟨n, Nat.lt_of_succ_lt hn⟩ 10 (by simp)]
    by_cases h : n = 0
    · subst h; rfl
    · simp only [h, decide_false, Bool.not_false]
      exact beforeV_10 c n (Nat.lt_of_succ_lt hn) h d

/-! ## The body -/

/-- What the body's obligation says at a point. -/
abbrev Obl (c : Dev nD) (t : Fin cfg0.N) : Prop :=
    iprop((datV m 0 c).Φ t.castSucc ∗ (datV m 0 c).owesAt () t.castSucc
        ∗ bigSep Finset.univ fun w : Fin cfg0.W => iprop(∃ d, owns (c : Thread nD τ) ((cfg0.win w).stage (cfg0.slots t w)) fullShare ((datV m 0 c).before w t d)))
      ⊢ wp frame (wpE (defs₀ (F := F)) Variants.none (c : Thread nD τ) none) Set.univ (defs₀ (F := F) .tc cfg0.body (cfg0.bodyArgs t (cfg0.slots t))) fun _ =>
          iprop((datV m 0 c).Φ t.succ ∗ (datV m 0 c).owesAt () t.succ
            ∗ bigSep Finset.univ fun w : Fin cfg0.W =>
                  match cfg0.idle w (cfg0.grid.coords t) with
                  | true =>
                    match (cfg0.win w).flush t with
                    | false => iprop(∃ d, owns (c : Thread nD τ) ((cfg0.win w).stage (cfg0.slots t w)) fullShare ((datV m 0 c).before w t d))
                    | true => owns (c : Thread nD τ) ((cfg0.win w).stage (cfg0.slots t w)) fullShare ((datV m 0 c).after w t)
                  | false => owns (c : Thread nD τ) ((cfg0.win w).stage (cfg0.slots t w)) fullShare ((datV m 0 c).after w t))

/-- The first point. -/
theorem body_at_first (c : Dev nD) (t : Fin cfg0.N) (h : t.val = 0) (hI : ∀ (t : Fin cfg0.N) (x : S2x129.Idx), (x 1).val < 128 → BitVec.toNat (iblk m c 0 t x) < 151936) : Obl m c t := by
  have ht : t = t0 := Fin.ext h
  have hc1 := (cond1_iff t).mpr h
  have hc2 : ¬ k0_cond2 (grid0.coords t) = 1#1 := fun h => by have := (cond2_iff t).mp h; omega
  obtain ⟨hv, hv2⟩ := chks (grid0.coords t) hc1 (iblk m c 0 t) (hI t)
  have hV : operandV (iblk m c 1 t) (iblk m c 2 t) (iblk m c 3 t) (iblk m c 4 t) (rows7 (grid0.coords t) hc1 (iblk m c 0 t) hv (V m c main_v2)) (rows8 (grid0.coords t) hc1 (iblk m c 0 t) hv (V m c main_arg3)) = vOf m c := by
    subst ht
    rw [rows7_eq m c hc1 hv (hI t0), rows8_eq m c hc1 hv (hI t0)]
    rfl
  have hWt : tileW (grid0.coords t) (iblk m c 6 t) (iblk m c 7 t) = wtOf m c t.val := by
    unfold wtOf; rw [dif_pos t.isLt]
  unfold Obl
  rw [bigSep_W0, bigSep_W0, defs₀_row]
  rw [show (datV m 0 c).Φ t.succ = mid m c (t.val + 1) from phi_pos m c t.succ (Nat.succ_ne_zero _),
    show (datV m 0 c).Φ t.castSucc = Pipeline.ΦD osem spec0 tables (V m) c from phi_zero m c t.castSucc h, kept_eq m c t, mid_eq m c (t.val + 1) t]
  rw [
    show cfg0.idle 8 (cfg0.grid.coords t) = true from (idle_last t 8 (by simp)).trans (by simp [h]),
    show cfg0.idle 9 (cfg0.grid.coords t) = false from (idle_first t 9 (by simp)).trans (by simp [h]),
    show (cfg0.win 8).flush t = false from Bool.eq_false_iff.mpr (fun hf => by have h2 := (flush0_8 t).mp hf; have h3 : t.val < 10 := N_0 ▸ t.isLt; omega),
    show (cfg0.win 11).flush t = false from Bool.eq_false_iff.mpr (fun hf => by have h2 := (flush0_11 t).mp hf; have h3 : t.val < 10 := N_0 ▸ t.isLt; omega),
    show (cfg0.win 12).flush t = false from Bool.eq_false_iff.mpr (fun hf => by have h2 := (flush0_12 t).mp hf; have h3 : t.val < 10 := N_0 ▸ t.isLt; omega),
    show (cfg0.win 13).flush t = false from Bool.eq_false_iff.mpr (fun hf => by have h2 := (flush0_13 t).mp hf; have h3 : t.val < 10 := N_0 ▸ t.isLt; omega)]
  simp only
  iintro ⟨⟨⟨H17, H18, H19, H20⟩, Hp, ⟨Hs, Ht⟩⟩, ⟨%W, %hW, Hw⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  rw [beforeV_0 m c t d0, beforeV_1 m c t d1, beforeV_2 m c t d2, beforeV_3 m c t d3, beforeV_4 m c t d4, beforeV_5 m c t d5, beforeV_6 m c t d6, beforeV_7 m c t d7]
  rw [show bodyAt0 (F := F) t = first (argsAt t) (grid0.coords t) hc1 from body_first (argsAt t) (grid0.coords t) hc1 hc2]
  iapply (wp_first_to c (argsAt t) fullShare fullShare (V m c main_v2) (V m c main_arg3) _ t h hc1 (iblk m c 0 t) hv hv2 (iblk m c 1 t) (iblk m c 2 t) (iblk m c 3 t)
    (iblk m c 4 t) (iblk m c 6 t) (iblk m c 7 t) (vOf m c) hV (wtOf m c) hWt)
  unfold outX
  rw [own_eq c t]
  isplitl [H0 H1 H2 H3 H4 H6 H7 H9 H10 H17 H18 H19 H20 Hs Ht Hw]
  · isplitl [H0]; · iexact H0
    isplitl [H1]; · iexact H1
    isplitl [H2]; · iexact H2
    isplitl [H3]; · iexact H3
    isplitl [H4]; · iexact H4
    isplitl [H6]; · iexact H6
    isplitl [H7]; · iexact H7
    isplitl [H9 H10 H19]
    · isplitl [H9]; · unfold hold; iexists _; iexact H9
      isplitl [H10]; · unfold hold; iexists _; iexact H10
      iexact H19
    isplitl [H17]; · iexact H17
    isplitl [H18]; · iexact H18
    isplitl [H20]; · iexact H20
    isplitl [Hs Ht]
    · isplitl [Ht]; · iexact Ht
      iexact Hs
    iexists W; iexact Hw
  iintro ⟨H0, H1, H2, H3, H4, H6, H7, ⟨H9, H10, H19⟩, H17, H18, H20, ⟨Ht, Hs⟩, ⟨%W2, Hw⟩⟩
  isplitl [H17 H18 H19 H20 Hp Hs Ht]
  · isplitl [H17 H18 H19 H20]
    · isplitl [H17]; · iexact H17
      isplitl [H18]; · iexact H18
      isplitl [H19]; · iexact H19
      iexact H20
    isplitl [Hp]; · iexact Hp
    isplitl [Hs]; · iexact Hs
    iexact Ht
  isplitl [Hw]
  · iexists W2
    isplitr; · ipureintro; exact Set.subset_union_of_subset_left (Set.subset_univ _) _
    iexact Hw
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  isplitl [H9]; · iexact H9
  isplitl [H10]; · iexact H10
  isplitl [H11]; · iexists d11; iexact H11
  isplitl [H12]; · iexists d12; iexact H12
  iexists d13; iexact H13

/-- A point between. -/
theorem body_at_middle (c : Dev nD) (t : Fin cfg0.N) (h : ¬ t.val = 0) (h' : ¬ t.val = 9) : Obl m c t := by
  have hc1 : ¬ k0_cond1 (grid0.coords t) = 1#1 := fun hc => h ((cond1_iff t).mp hc)
  have hc2 : ¬ k0_cond2 (grid0.coords t) = 1#1 := fun hc => h' ((cond2_iff t).mp hc)
  have hWt : tileW (grid0.coords t) (iblk m c 6 t) (iblk m c 7 t) = wtOf m c t.val := by
    unfold wtOf; rw [dif_pos t.isLt]
  unfold Obl
  rw [bigSep_W0, bigSep_W0, defs₀_row]
  rw [show (datV m 0 c).Φ t.succ = mid m c (t.val + 1) from phi_pos m c t.succ (Nat.succ_ne_zero _),
    show (datV m 0 c).Φ t.castSucc = mid m c t.val from phi_pos m c t.castSucc h, mid_eq m c t.val t, mid_eq m c (t.val + 1) t]
  rw [
    show cfg0.idle 8 (cfg0.grid.coords t) = true from (idle_last t 8 (by simp)).trans (by simp [h, h']),
    show cfg0.idle 9 (cfg0.grid.coords t) = true from (idle_first t 9 (by simp)).trans (by simp [h, h']),
    show (cfg0.win 8).flush t = false from Bool.eq_false_iff.mpr (fun hf => by have h2 := (flush0_8 t).mp hf; have h3 : t.val < 10 := N_0 ▸ t.isLt; omega),
    show (cfg0.win 9).flush t = false from Bool.eq_false_iff.mpr (fun hf => by have h2 := (flush0_9 t).mp hf; have h3 : t.val < 10 := N_0 ▸ t.isLt; omega),
    show (cfg0.win 10).flush t = false from Bool.eq_false_iff.mpr (fun hf => by have h2 := (flush0_10 t).mp hf; have h3 : t.val < 10 := N_0 ▸ t.isLt; omega),
    show (cfg0.win 11).flush t = false from Bool.eq_false_iff.mpr (fun hf => by have h2 := (flush0_11 t).mp hf; have h3 : t.val < 10 := N_0 ▸ t.isLt; omega),
    show (cfg0.win 12).flush t = false from Bool.eq_false_iff.mpr (fun hf => by have h2 := (flush0_12 t).mp hf; have h3 : t.val < 10 := N_0 ▸ t.isLt; omega),
    show (cfg0.win 13).flush t = false from Bool.eq_false_iff.mpr (fun hf => by have h2 := (flush0_13 t).mp hf; have h3 : t.val < 10 := N_0 ▸ t.isLt; omega)]
  simp only
  iintro ⟨⟨⟨H17, H18, H19, H20⟩, Hp, ⟨Hs, Ht⟩⟩, ⟨%W, %hW, Hw⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  rw [beforeV_0 m c t d0, beforeV_1 m c t d1, beforeV_2 m c t d2, beforeV_3 m c t d3, beforeV_4 m c t d4, beforeV_5 m c t d5, beforeV_6 m c t d6, beforeV_7 m c t d7]
  rw [show bodyAt0 (F := F) t = tile (argsAt t) (grid0.coords t) (pure ⟨⟩) from body_middle (argsAt t) (grid0.coords t) hc1 hc2]
  iapply (wp_tile_to c (argsAt t) _ t (iblk m c 6 t) (iblk m c 7 t) (xOf m c) (wtOf m c) hWt (pure ⟨⟩))
  isplitl [H6 H7 H19 H20]
  · isplitl [H6]; · iexact H6
    isplitl [H7]; · iexact H7
    isplitl [H19]; · iexact H19
    iexact H20
  iintro ⟨H6, H7, H19, H20⟩
  sl_step
  isplitl [H17 H18 H19 H20 Hp Hs Ht]
  · isplitl [H17 H18 H19 H20]
    · isplitl [H17]; · iexact H17
      isplitl [H18]; · iexact H18
      isplitl [H19]; · iexact H19
      iexact H20
    isplitl [Hp]; · iexact Hp
    isplitl [Hs]; · iexact Hs
    iexact Ht
  isplitl [Hw]
  · iexists W
    isplitr; · ipureintro; exact Set.subset_union_of_subset_left (Set.subset_univ _) _
    iexact Hw
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  isplitl [H9]; · iexists d9; iexact H9
  isplitl [H10]; · iexists d10; iexact H10
  isplitl [H11]; · iexists d11; iexact H11
  isplitl [H12]; · iexists d12; iexact H12
  iexists d13; iexact H13

/-- The last point. -/
theorem body_at_last (c : Dev nD) (t : Fin cfg0.N) (h : t.val = 9) : Obl m c t := by
  have ht : t = t9 := Fin.ext h
  have hne : ¬ t.val = 0 := by omega
  have hc1 : ¬ k0_cond1 (grid0.coords t) = 1#1 := fun hc => hne ((cond1_iff t).mp hc)
  have hc2 := (cond2_iff t).mpr h
  have hWt : tileW (grid0.coords t) (iblk m c 6 t) (iblk m c 7 t) = wtOf m c t.val := by
    unfold wtOf; rw [dif_pos t.isLt]
  have b9 := beforeV_9 m c t.val t.isLt hne
  have b10 := beforeV_10 m c t.val t.isLt hne
  have e11 : (datV m 0 c).after (11 : Fin 14) t = spread20 fun g => codesOf (resultV (pOf m c) (iblk m c 5 t) g) := by rw [ht]; rfl
  have e12 : (datV m 0 c).after (12 : Fin 14) t = column20 fun g => scaleOf (resultV (pOf m c) (iblk m c 5 t) g) := by rw [ht]; rfl
  have e13 : (datV m 0 c).after (13 : Fin 14) t = spread20 fun g => deqOf (resultV (pOf m c) (iblk m c 5 t) g) := by rw [ht]; rfl
  have hfull : ∀ x : S10x256x256.Idx, (x 0).val < t.val + 1 := fun x => by have : (x 0).val < 10 := (x 0).isLt; omega
  unfold Obl
  rw [bigSep_W0, bigSep_W0, defs₀_row]
  rw [show (datV m 0 c).Φ t.succ = mid m c (t.val + 1) from phi_pos m c t.succ (Nat.succ_ne_zero _),
    show (datV m 0 c).Φ t.castSucc = mid m c t.val from phi_pos m c t.castSucc hne, mid_eq m c t.val t, mid_eq m c (t.val + 1) t]
  rw [
    show cfg0.idle 8 (cfg0.grid.coords t) = false from (idle_last t 8 (by simp)).trans (by simp [h]),
    show cfg0.idle 9 (cfg0.grid.coords t) = true from (idle_first t 9 (by simp)).trans (by simp [h]),
    show (cfg0.win 9).flush t = true from (flush0_9 t).mpr (by omega),
    show (cfg0.win 10).flush t = true from (flush0_10 t).mpr (by omega), e11, e12, e13]
  simp only
  iintro ⟨⟨⟨H17, H18, H19, H20⟩, Hp, ⟨Hs, Ht⟩⟩, ⟨%W, %hW, Hw⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  rw [beforeV_0 m c t d0, beforeV_1 m c t d1, beforeV_2 m c t d2, beforeV_3 m c t d3, beforeV_4 m c t d4, beforeV_5 m c t d5, beforeV_6 m c t d6, beforeV_7 m c t d7]
  rw [show (datV m 0 c).before (9 : Fin 14) t d9 = res9 m c from b9 d9, show (datV m 0 c).before (10 : Fin 14) t d10 = res10 m c from b10 d10]
  rw [show bodyAt0 (F := F) t = tile (argsAt t) (grid0.coords t) (final (argsAt t)) from body_last (argsAt t) (grid0.coords t) hc1 hc2]
  iapply (wp_tile_to c (argsAt t) _ t (iblk m c 6 t) (iblk m c 7 t) (xOf m c) (wtOf m c) hWt (final (argsAt t)))
  isplitl [H6 H7 H19 H20]
  · isplitl [H6]; · iexact H6
    isplitl [H7]; · iexact H7
    isplitl [H19]; · iexact H19
    iexact H20
  iintro ⟨H6, H7, H19, H20⟩
  ihave H20 := (show (holdTo c (argsAt t).a20 (fun x => (x 0).val) (t.val + 1) (tiles (wtOf m c) (xOf m c)) : sProp 𝕄) ⊢ owns (c : Thread nD τ) (argsAt t).a20 fullShare (pOf m c) from
    holdTo_all c (argsAt t).a20 (fun x => (x 0).val) (t.val + 1) (pOf m c) hfull) $$ H20
  iapply (wp_final_to c (argsAt t) _ (pOf m c) (iblk m c 5 t))
  unfold outY
  isplitl [H20 H8 H5 H11 H12 H13]
  · isplitl [H20]; · iexact H20
    isplitl [H8]; · unfold hold; iexists _; iexact H8
    isplitl [H5]; · iexact H5
    isplitl [H11]; · unfold hold; iexists _; iexact H11
    isplitl [H12]; · unfold hold; iexists _; iexact H12
    unfold hold; iexists _; iexact H13
  iintro ⟨H20, H8, H5, H11, H12, H13⟩
  ihave H20 := (owns_holdTo c (argsAt t).a20 (fun x => (x 0).val) (t.val + 1) (pOf m c)) $$ H20
  isplitl [H17 H18 H19 H20 Hp Hs Ht]
  · isplitl [H17 H18 H19 H20]
    · isplitl [H17]; · iexact H17
      isplitl [H18]; · iexact H18
      isplitl [H19]; · iexact H19
      iexact H20
    isplitl [Hp]; · iexact Hp
    isplitl [Hs]; · iexact Hs
    iexact Ht
  isplitl [Hw]
  · iexists W
    isplitr; · ipureintro; exact Set.subset_union_of_subset_left (Set.subset_univ _) _
    iexact Hw
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body's obligation, of token numbers inside the vocabulary. -/
theorem body_value (c : Dev nD) (hI : ∀ (t : Fin cfg0.N) (x : S2x129.Idx), (x 1).val < 128 → BitVec.toNat (iblk m c 0 t x) < 151936) :
    BodyObligationLoose (datV m 0 c) (defs₀ (F := F)) Variants.none () Set.univ := fun t => by
  by_cases h : t.val = 0
  · exact body_at_first m c t h hI
  by_cases h' : t.val = 9
  · exact body_at_last m c t h'
  · exact body_at_middle m c t h h'

/-! ## The run -/

/-- Before the first point. -/
theorem value_in (c : Dev nD) : (Pipeline.ΦD osem spec0 tables (V m) c : sProp 𝕄) ⊢ (datV m 0 c).Φ 0 := by
  rw [show (datV m 0 c).Φ 0 = Pipeline.ΦD osem spec0 tables (V m) c from phi_zero m c 0 rfl]

/-- After the last. -/
theorem value_out (c : Dev nD) : (datV m 0 c).Φ (Fin.last cfg0.N) ⊢ (Pipeline.ΦD osem spec0 tables (V m) c : sProp 𝕄) := by
  rw [show (datV m 0 c).Φ (Fin.last cfg0.N) = mid m c cfg0.N from phi_pos m c (Fin.last cfg0.N) (by show ¬ cfg0.N = 0; show ¬ grid0.N = 0; rw [N_0]; decide), kept_eq m c t0]
  unfold mid
  iintro ⟨⟨H17, H18, H19, H20⟩, Hp, Hs, Ht⟩
  ihave H19 := (owns_hold c (argsAt t0).a19 (xOf m c)) $$ H19
  ihave H20 := (holdTo_hold c (argsAt t0).a20 (fun x => (x 0).val) cfg0.N (pOf m c)) $$ H20
  isplitl [H17 H18 H19 H20]
  · isplitl [H17]; · iexact H17
    isplitl [H18]; · iexact H18
    isplitl [H19]; · iexact H19
    iexact H20
  isplitl [Hp]; · iexact Hp
  isplitl [Hs]; · iexact Hs
  iexact Ht

/-- A result array after the region. -/
theorem arrV_8 (c : Dev nD) : (datV m 0 c).arrAt (8 : Fin 14) cfg0.N = res8 m c := by
  have hw : ((cfg0.win 8).blk t9).view.read (Elt F) ((datV m 0 c).arrAt (8 : Fin 14) cfg0.N) = res8 m c := by
    rw [show cfg0.N = t9.val + 1 from N_0, (datV m 0 c).arrAt_succ (8 : Fin 14) t9, if_pos ((flush0_8 _).mpr rfl)]
    exact View.read_write_univ _ _
  have hz : (fun a => (win0_8.index t9) a * main_v7_0.ty.shape.size a) = fun _ => 0 :=
    funext fun a => by fin_cases a <;> rfl
  have hr := fun f => Memref.read_access_unit_zero (Elt F) main_v7_0 hz (fun a => by rw [congrFun hz a]; omega) f
  exact (hr _).symm.trans hw

/-- A result array after the region. -/
theorem arrV_9 (c : Dev nD) : (datV m 0 c).arrAt (9 : Fin 14) cfg0.N = res9 m c := by
  have hw : ((cfg0.win 9).blk t9).view.read (Elt F) ((datV m 0 c).arrAt (9 : Fin 14) cfg0.N) = res9 m c := by
    rw [show cfg0.N = t9.val + 1 from N_0, (datV m 0 c).arrAt_succ (9 : Fin 14) t9, if_pos ((flush0_9 _).mpr rfl)]
    exact View.read_write_univ _ _
  have hz : (fun a => (win0_9.index t9) a * main_v7_1.ty.shape.size a) = fun _ => 0 :=
    funext fun a => by fin_cases a <;> rfl
  have hr := fun f => Memref.read_access_unit_zero (Elt F) main_v7_1 hz (fun a => by rw [congrFun hz a]; omega) f
  exact (hr _).symm.trans hw

/-- A result array after the region. -/
theorem arrV_10 (c : Dev nD) : (datV m 0 c).arrAt (10 : Fin 14) cfg0.N = res10 m c := by
  have hw : ((cfg0.win 10).blk t9).view.read (Elt F) ((datV m 0 c).arrAt (10 : Fin 14) cfg0.N) = res10 m c := by
    rw [show cfg0.N = t9.val + 1 from N_0, (datV m 0 c).arrAt_succ (10 : Fin 14) t9, if_pos ((flush0_10 _).mpr rfl)]
    exact View.read_write_univ _ _
  have hz : (fun a => (win0_10.index t9) a * main_v7_2.ty.shape.size a) = fun _ => 0 :=
    funext fun a => by fin_cases a <;> rfl
  have hr := fun f => Memref.read_access_unit_zero (Elt F) main_v7_2 hz (fun a => by rw [congrFun hz a]; omega) f
  exact (hr _).symm.trans hw

/-- A result array after the region. -/
theorem arrV_11 (c : Dev nD) : (datV m 0 c).arrAt (11 : Fin 14) cfg0.N = res11 m c := by
  have hw : ((cfg0.win 11).blk t9).view.read (Elt F) ((datV m 0 c).arrAt (11 : Fin 14) cfg0.N) = res11 m c := by
    rw [show cfg0.N = t9.val + 1 from N_0, (datV m 0 c).arrAt_succ (11 : Fin 14) t9, if_pos ((flush0_11 _).mpr rfl)]
    exact View.read_write_univ _ _
  have hz : (fun a => (win0_11.index t9) a * main_v7_3.ty.shape.size a) = fun _ => 0 :=
    funext fun a => by fin_cases a <;> rfl
  have hr := fun f => Memref.read_access_unit_zero (Elt F) main_v7_3 hz (fun a => by rw [congrFun hz a]; omega) f
  exact (hr _).symm.trans hw

/-- A result array after the region. -/
theorem arrV_12 (c : Dev nD) : (datV m 0 c).arrAt (12 : Fin 14) cfg0.N = res12 m c := by
  have hw : ((cfg0.win 12).blk t9).view.read (Elt F) ((datV m 0 c).arrAt (12 : Fin 14) cfg0.N) = res12 m c := by
    rw [show cfg0.N = t9.val + 1 from N_0, (datV m 0 c).arrAt_succ (12 : Fin 14) t9, if_pos ((flush0_12 _).mpr rfl)]
    exact View.read_write_univ _ _
  have hz : (fun a => (win0_12.index t9) a * main_v7_4.ty.shape.size a) = fun _ => 0 :=
    funext fun a => by fin_cases a <;> rfl
  have hr := fun f => Memref.read_access_unit_zero (Elt F) main_v7_4 hz (fun a => by rw [congrFun hz a]; omega) f
  exact (hr _).symm.trans hw

/-- A result array after the region. -/
theorem arrV_13 (c : Dev nD) : (datV m 0 c).arrAt (13 : Fin 14) cfg0.N = res13 m c := by
  have hw : ((cfg0.win 13).blk t9).view.read (Elt F) ((datV m 0 c).arrAt (13 : Fin 14) cfg0.N) = res13 m c := by
    rw [show cfg0.N = t9.val + 1 from N_0, (datV m 0 c).arrAt_succ (13 : Fin 14) t9, if_pos ((flush0_13 _).mpr rfl)]
    exact View.read_write_univ _ _
  have hz : (fun a => (win0_13.index t9) a * main_v7_5.ty.shape.size a) = fun _ => 0 :=
    funext fun a => by fin_cases a <;> rfl
  have hr := fun f => Memref.read_access_unit_zero (Elt F) main_v7_5 hz (fun a => by rw [congrFun hz a]; omega) f
  exact (hr _).symm.trans hw

set_option backward.isDefEq.respectTransparency.types false in
/-- From token numbers inside the vocabulary where the kernel reads them, the results end as named and the argument arrays
    unchanged. -/
theorem run_value (hI : ∀ (c : Dev nD) (x : S2x129.Idx), (x 1).val < 128 → BitVec.toNat (m ((c : Thread nD τ).loc main_arg1) x) < 151936) :
    θ_run defs (onTc (τ := τ) (main (F := F))) ⟨m, fun _ => 0, ρ⟩ (fun r => ∀ c : Dev nD,
      (r.2.mem ((c.tc : Thread nD τ).loc main_v7_0) = res8 m c
      ∧ r.2.mem ((c.tc : Thread nD τ).loc main_v7_1) = res9 m c
      ∧ r.2.mem ((c.tc : Thread nD τ).loc main_v7_2) = res10 m c
      ∧ r.2.mem ((c.tc : Thread nD τ).loc main_v7_3) = res11 m c
      ∧ r.2.mem ((c.tc : Thread nD τ).loc main_v7_4) = res12 m c
      ∧ r.2.mem ((c.tc : Thread nD τ).loc main_v7_5) = res13 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_frame_dma_shared cfgs (datV m) (0 : Fin 1) launch₀0 osem defs₀ Variants.none
    osem_own tables tables_rest m ρ main
    (hbody := fun c => body_value m c fun t x hx => by rw [iblk_ids]; exact hI c x hx)
    (hq := fun _ _ _ => rfl) (howed := fun _ _ => rfl) (V := V m) (hmain := hmain' m Variants.none) (hA := fun _ _ => rfl)
    (hin := fun c => value_in m c) (hout := fun c => value_out m c)
    (Q' := _)
    (hQ' := fun r h c =>
      ⟨⟨((h.1 c).1 8).trans (arrV_8 m c), ((h.1 c).1 9).trans (arrV_9 m c), ((h.1 c).1 10).trans (arrV_10 m c), ((h.1 c).1 11).trans (arrV_11 m c), ((h.1 c).1 12).trans (arrV_12 m c), ((h.1 c).1 13).trans (arrV_13 m c)⟩,
       ((h.1 c).2 main_arg0 (Pipeline.mem_restRefs_of main_arg0 (by decide) (by decide))).trans (V_main_arg0 m c),
       ((h.1 c).1 0).trans (((datV m 0 c).arrAt_in 0 rfl _).trans (V_main_arg1 m c)),
       ((h.1 c).2 main_arg2 (Pipeline.mem_restRefs_of main_arg2 (by decide) (by decide))).trans (V_main_arg2 m c),
       ((h.1 c).2 main_arg3 (Pipeline.mem_restRefs_of main_arg3 (by decide) (by decide))).trans (V_main_arg3 m c),
       ((h.1 c).2 main_arg4 (Pipeline.mem_restRefs_of main_arg4 (by decide) (by decide))).trans (V_main_arg4 m c),
       ((h.1 c).2 main_arg5 (Pipeline.mem_restRefs_of main_arg5 (by decide) (by decide))).trans (V_main_arg5 m c),
       ((h.1 c).2 main_arg6 (Pipeline.mem_restRefs_of main_arg6 (by decide) (by decide))).trans (V_main_arg6 m c),
       ((h.1 c).1 6).trans (((datV m 0 c).arrAt_in 6 rfl _).trans (V_main_arg7 m c)),
       ((h.1 c).1 7).trans (((datV m 0 c).arrAt_in 7 rfl _).trans (V_main_arg8 m c))⟩)

end Cert.FrontIdeal.Layer

end
-- ==== Proof.FrontSpec.lean ====
/- The six results of the layer as arrays, of the arguments' contents, over the extended reals. -/
module

public import proofs.«01_k».proof.Proof.Quantize

@[expose] public section

noncomputable section

namespace Cert.Layer

open Idealize.ShloMosaic

variable (H : (⟨3, ![2, 128, 2560]⟩ : Shape).Idx → EReal) (ids : (⟨2, ![2, 129]⟩ : Shape).Idx → BitVec 32)
  (C : (⟨2, ![151936, 2560]⟩ : Shape).Idx → BitVec 8) (S : (⟨2, ![151936, 20]⟩ : Shape).Idx → EReal)
  (nh ne nf : (⟨1, ![2560]⟩ : Shape).Idx → EReal)
  (W : (⟨2, ![5120, 2560]⟩ : Shape).Idx → EReal) (T : (⟨2, ![40, 20]⟩ : Shape).Idx → EReal)

/-- The token of a position. -/
def tok (r : Fin 256) : BitVec 32 := ids (ix2 ⟨r.val / 128, by omega⟩ ⟨r.val % 128, by omega⟩)

/-- Its row of the vocabulary. -/
def row (r : Fin 256) : Fin 151936 := ⟨(tok ids r).toNat % 151936, Nat.mod_lt _ (by decide)⟩

/-- Every token a position reads names a vocabulary entry. -/
def InVocab : Prop := ∀ r : Fin 256, (tok ids r).toNat < 151936

/-- A position's hidden state, -/
def hid (r : Fin 256) (j : ℕ) : EReal :=
  H (ix3 ⟨r.val / 128, by omega⟩ ⟨r.val % 128, by omega⟩ ⟨j % 2560, Nat.mod_lt _ (by decide)⟩)
/-- its embedding: each code times the scale of its 128, -/
def emb (r : Fin 256) (j : ℕ) : EReal :=
  FloatOps.sitofp (F := Ideal) .f32 (C (ix2 (row ids r) ⟨j % 2560, Nat.mod_lt _ (by decide)⟩))
    * S (ix2 (row ids r) ⟨j % 2560 / 128, by have := Nat.mod_lt j (show 0 < 2560 by decide); omega⟩)
/-- the weights of a normalization, by place, -/
def wts (v : (⟨1, ![2560]⟩ : Shape).Idx → EReal) (j : ℕ) : EReal := v (ix1 ⟨j % 2560, Nat.mod_lt _ (by decide)⟩)
/-- the projection's weights: each code times the scale of its 128 × 128 block. -/
def mat (k j : ℕ) : EReal :=
  W (ix2 ⟨k % 5120, Nat.mod_lt _ (by decide)⟩ ⟨j % 2560, Nat.mod_lt _ (by decide)⟩)
    * T (ix2 ⟨k % 5120 / 128, by have := Nat.mod_lt k (show 0 < 5120 by decide); omega⟩ ⟨j % 2560 / 128, by have := Nat.mod_lt j (show 0 < 2560 by decide); omega⟩)

/-- A position's operand, -/
def opd (r : Fin 256) : ℕ → EReal := operand (hid H r) (emb ids C S r) (wts nh) (wts ne)
/-- its projection, -/
def prj (r : Fin 256) : ℕ → EReal := proj (hid H r) (emb ids C S r) (wts nh) (wts ne) (mat W T)
/-- and its result. -/
def res (r : Fin 256) : ℕ → EReal := norm (prj H ids C S nh ne W T r) (wts nf)

/-- The projection's array, -/
def out1 : (⟨2, ![256, 2560]⟩ : Shape).Idx → EReal := fun x => prj H ids C S nh ne W T (x 0) (x 1).val
/-- the operand's codes -/
def out2 : (⟨2, ![256, 5120]⟩ : Shape).Idx → EReal := fun x => codes (opd H ids C S nh ne (x 0)) (x 1).val
/-- and scales, -/
def out3 : (⟨2, ![256, 40]⟩ : Shape).Idx → EReal := fun x => scales (opd H ids C S nh ne (x 0)) (x 1).val
/-- the result's codes, -/
def out4 : (⟨2, ![256, 2560]⟩ : Shape).Idx → EReal := fun x => codes (res H ids C S nh ne nf W T (x 0)) (x 1).val
/-- scales, -/
def out5 : (⟨2, ![256, 20]⟩ : Shape).Idx → EReal := fun x => scales (res H ids C S nh ne nf W T (x 0)) (x 1).val
/-- and what they stand for. -/
def out6 : (⟨2, ![256, 2560]⟩ : Shape).Idx → EReal := fun x => deq (res H ids C S nh ne nf W T (x 0)) (x 1).val

/-- The weights repeat past the last column. -/
theorem mat_mod (k j : ℕ) : mat W T k (j % 2560) = mat W T k j := by
  unfold mat
  simp only [Nat.mod_mod]

/-- The operand's magnitudes are bounded by 2^107 where the weights of its normalizations are by 2^100, -/
theorem opd_bound (hh : ∀ j : Fin 2560, mag (nh (ix1 j)) ≤ (((2 : ℝ) ^ (100 : ℤ) : ℝ) : EReal)) (he : ∀ j : Fin 2560, mag (ne (ix1 j)) ≤ (((2 : ℝ) ^ (100 : ℤ) : ℝ) : EReal))
    (r : Fin 256) (j : ℕ) (hj : j < 5120) : mag (opd H ids C S nh ne r j) ≤ (((2 : ℝ) ^ (107 : ℤ) : ℝ) : EReal) := by
  unfold opd operand
  by_cases h : j < 2560
  · rw [if_pos h]; exact norm_bound _ _ (fun j _ => hh _) j h
  · rw [if_neg h]; exact norm_bound _ _ (fun j _ => he _) (j - 2560) (by omega)
/-- and so are the result's. -/
theorem res_bound (hf : ∀ j : Fin 2560, mag (nf (ix1 j)) ≤ (((2 : ℝ) ^ (100 : ℤ) : ℝ) : EReal))
    (r : Fin 256) (j : ℕ) (hj : j < 2560) : mag (res H ids C S nh ne nf W T r j) ≤ (((2 : ℝ) ^ (107 : ℤ) : ℝ) : EReal) :=
  norm_bound _ _ (fun j _ => hf _) j hj

end Cert.Layer

end
-- ==== Proof.FrontIdeal.Host.lean ====
/- What the front kernel leaves in its results, over the extended reals: the specified layer. -/
module

public import proofs.«01_k».proof.Proof.FrontIdeal.Read
public import proofs.«01_k».proof.Proof.FrontIdeal.Value
public import proofs.«01_k».proof.Proof.FrontSpec
public import Idealize.ShloMosaic.Lib.BitcastConvert
public import Idealize.ShloMosaic.Lib.StableHlo.ReadAt
public import Idealize.ShloMosaic.Lib.Pipeline.ValueKit.Geometry
public import Idealize.ShloMosaic.Lib.StableHlo.RunRead

@[expose] public section

set_option maxRecDepth 16384

noncomputable section

namespace Cert.FrontIdeal.Layer

open Idealize.ShloMosaic Idealize.ShloMosaic.TcCoe Idealize.ShloMosaic.Pipeline
open Idealize.SL Idealize.SL.Sem
open Cert.FrontIdeal Cert.FrontIdeal.Gen

/-! ## The table's words -/

/-- Four rows' codes to a word. -/
def words (C : S151936x2560.Idx → BitVec 8) : S37984x2560.Idx → BitVec 32 :=
  Host.bitcastConvertWiden S37984x2560 32 (transpose S37984x2560x4 [0, 2, 1] (shapeCast S37984x4x2560 C shapeCasts_S151936x2560_S37984x4x2560) transposes_S37984x4x2560_S37984x2560x4_0_2_1)
    splits_S37984x2560_w32_S37984x2560x4_w8

theorem arranged_apply (C : S151936x2560.Idx → BitVec 8) (a : Fin 37984) (j : Fin 2560) (q : Fin 4) :
    transpose S37984x2560x4 [0, 2, 1] (shapeCast S37984x4x2560 C shapeCasts_S151936x2560_S37984x4x2560) transposes_S37984x4x2560_S37984x2560x4_0_2_1 (ix3 a j q)
      = C (ix2 ⟨a.val * 4 + q.val, by omega⟩ j) := by
  pointwise []
  try rfl

/-- A bit of a word is a bit of the code of its byte's row. -/
theorem words_bit (C : S151936x2560.Idx → BitVec 8) (a : Fin 37984) (j : Fin 2560) (q : ℕ) (hq : q < 32) :
    (words C (ix2 a j)).getLsbD q = (C (ix2 ⟨a.val * 4 + q / 8, by omega⟩ j)).getLsbD (q % 8) := by
  unfold words
  rw [Host.bitcastConvertWiden_getLsbD _ _ _ _ _ q hq]
  refine congrArg (fun b : BitVec 8 => b.getLsbD (q % 8)) (Eq.trans (congrArg _ ?_) (arranged_apply C a j ⟨q / 8, by omega⟩))
  funext d
  fin_cases d <;> rfl

/-! ## A code out of its word -/

/-- The byte at a place of a word, moved to the top and brought down with its sign, is the code there. -/
theorem byte_code (w : BitVec 32) (b : BitVec 8) (n : ℕ) (hn : n < 4) (h : ∀ i, i < 8 → w.getLsbD (8 * n + i) = b.getLsbD i) :
    FloatOps.sitofp (F := Ideal) .f32 (IntOp.shrsi .vector (IntOp.shli .vector w (BitVec.ofNat 32 ((3 - n) * 8))) 24#32) = FloatOps.sitofp (F := Ideal) .f32 b := by
  have hx : IntOp.shrsi .vector (IntOp.shli .vector w (BitVec.ofNat 32 ((3 - n) * 8))) 24#32 = b.signExtend 32 := by
    have e1 : IntOp.shli .vector w (BitVec.ofNat 32 ((3 - n) * 8)) = w <<< ((3 - n) * 8) := by
      obtain rfl | rfl | rfl | rfl : n = 0 ∨ n = 1 ∨ n = 2 ∨ n = 3 := by omega
      all_goals rfl
    have e2 : ∀ v : BitVec 32, IntOp.shrsi .vector v 24#32 = v.sshiftRight 24 := fun v => rfl
    rw [e1, e2]
    apply BitVec.eq_of_getLsbD_eq
    intro i hi
    rw [BitVec.getLsbD_sshiftRight, BitVec.getLsbD_signExtend]
    by_cases h8 : i < 8
    · rw [if_pos (by omega)]
      simp only [BitVec.getLsbD_shiftLeft, h8, hi, if_true]
      rw [← h i h8]
      have : 24 + i - (3 - n) * 8 = 8 * n + i := by omega
      rw [this]
      have e1 : ¬ (24 + i < (3 - n) * 8) := by omega
      have e2 : 24 + i < 32 := by omega
      simp [e1, e2]
      try exact fun _ => hi
    · rw [if_neg (by omega)]
      have hm : (w <<< ((3 - n) * 8)).msb = b.msb := by
        rw [BitVec.msb_eq_getLsbD_last, BitVec.msb_eq_getLsbD_last]
        simp only [BitVec.getLsbD_shiftLeft]
        rw [← h 7 (by omega)]
        have : 32 - 1 - (3 - n) * 8 = 8 * n + 7 := by omega
        rw [this]
        have e1 : ¬ (32 - 1 < (3 - n) * 8) := by omega
        simp [e1]
        try omega
      rw [hm]
      simp [hi, h8]
  rw [hx]
  show (((b.signExtend 32).toInt : ℝ) : EReal) = ((b.toInt : ℝ) : EReal)
  rw [BitVec.toInt_signExtend_of_le (by omega)]

/-- The shift a token's word calls for, as the kernel computes it, -/
def shiftOf (W : BitVec 32) : BitVec 32 :=
  IntOp.muli (IntOp.subi 3#32 (Scalar.select (IntOp.andi (IntOp.xori (IntOp.cmpi .slt (IntOp.remsi .vector W (Scalar.select (Scalar.cmpi .eq 4#32 0#32) 1#32 4#32)) 0#32)
    (Scalar.cmpi .slt (Scalar.select (Scalar.cmpi .eq 4#32 0#32) 1#32 4#32) 0#32)) (IntOp.cmpi .ne (IntOp.remsi .vector W (Scalar.select (Scalar.cmpi .eq 4#32 0#32) 1#32 4#32)) 0#32))
    (IntOp.addi (IntOp.remsi .vector W (Scalar.select (Scalar.cmpi .eq 4#32 0#32) 1#32 4#32)) (Scalar.select (Scalar.cmpi .eq 4#32 0#32) 1#32 4#32))
    (IntOp.remsi .vector W (Scalar.select (Scalar.cmpi .eq 4#32 0#32) 1#32 4#32)))) 8#32

/-- and what it is. -/
theorem shiftOf_eq (w : BitVec 32) (hw : w.toNat < 151936) : shiftOf w = BitVec.ofNat 32 ((3 - w.toNat % 4) * 8) := by
  have hr : IntOp.remsi .vector w (Scalar.select (Scalar.cmpi .eq 4#32 0#32) 1#32 4#32) = BitVec.ofNat 32 (w.toNat % 4) := by
    rw [show Scalar.select (Scalar.cmpi .eq 4#32 0#32) 1#32 4#32 = 4#32 from rfl]
    unfold IntOp.remsi
    rw [if_neg (by rintro (h | ⟨_, h⟩) <;> exact absurd h (by decide)), BitVec.srem_eq]
    have h1 : w.msb = false := by rw [BitVec.msb_eq_false_iff_two_mul_lt]; omega
    rw [h1, show (4#32 : BitVec 32).msb = false from rfl]
    apply BitVec.eq_of_toNat_eq
    rw [BitVec.toNat_umod]
    show w.toNat % 4 = (BitVec.ofNat 32 (w.toNat % 4)).toNat
    rw [BitVec.toNat_ofNat]
    omega
  unfold shiftOf
  rw [hr]
  have hn : w.toNat % 4 < 4 := Nat.mod_lt _ (by decide)
  generalize w.toNat % 4 = n at hn
  obtain rfl | rfl | rfl | rfl : n = 0 ∨ n = 1 ∨ n = 2 ∨ n = 3 := by omega
  all_goals rfl

/-- How far a token's byte is moved. -/
theorem shift_apply (x y : S1x128.Idx → BitVec 32) (r : Fin 256) (k : Fin 128) (w : BitVec 32) (hw : w.toNat < 151936)
    (hx : (if h : r.val < 128 then x (ix2 0 ⟨r.val, h⟩) else y (ix2 0 ⟨r.val - 128, by omega⟩)) = w) :
    k0_pay147 (F := Ideal) x y (ix2 r k) = BitVec.ofNat 32 ((3 - w.toNat % 4) * 8) := by
  have e : k0_pay147 (F := Ideal) x y (ix2 r k) = shiftOf w := by
    rw [← hx]
    unfold shiftOf
    pointwise [k0_pay147]
    try rfl
  rw [e, shiftOf_eq w hw]

/-! ## The host line -/

section
variable (X : Valuation τ sig (Elt Ideal))

theorem after_words : StableHlo.after hostOps0 X (Proc.devRef .tc main_v2) = words (X (Proc.devRef .tc main_arg2)) := by
  after_reads_simp; rfl
theorem after_hidden : StableHlo.after hostOps0 X (Proc.devRef .tc main_v3) = shapeCast S256x2560 (X (Proc.devRef .tc main_arg0)) shapeCasts_S2x128x2560_S256x2560 := by
  after_reads_simp; rfl
theorem after_nh : StableHlo.after hostOps0 X (Proc.devRef .tc main_v4) = shapeCast S1x2560 (X (Proc.devRef .tc main_arg4)) shapeCasts_S2560_S1x2560 := by
  after_reads_simp; rfl
theorem after_ne : StableHlo.after hostOps0 X (Proc.devRef .tc main_v5) = shapeCast S1x2560 (X (Proc.devRef .tc main_arg5)) shapeCasts_S2560_S1x2560 := by
  after_reads_simp; rfl
theorem after_nf : StableHlo.after hostOps0 X (Proc.devRef .tc main_v6) = shapeCast S1x2560 (X (Proc.devRef .tc main_arg6)) shapeCasts_S2560_S1x2560 := by
  after_reads_simp; rfl
end

theorem rowOf_hidden (H : S2x128x2560.Idx → EReal) (r : Fin 256) : rowOf (shapeCast S256x2560 H shapeCasts_S2x128x2560_S256x2560) r = Cert.Layer.hid H r := by
  funext j
  unfold rowOf Cert.Layer.hid
  pointwise []
  try rfl
theorem wOf_weights (v : S2560.Idx → EReal) : wOf (shapeCast S1x2560 v shapeCasts_S2560_S1x2560) = Cert.Layer.wts v := by
  funext j
  unfold wOf Cert.Layer.wts
  pointwise []
  try rfl

/-! ## The windows -/

variable (m : (ℓ : Loc nD τ sig) → Buf (Elt Ideal) ℓ) (ρ : Dev nD → PrngReg)
theorem iblk_1 (c : Dev nD) (t : Fin cfg0.N) : iblk m c 1 t = V m c main_arg1 := by
  unfold iblk
  have hz : (fun a => (win0_1.index t) a * main_arg1.ty.shape.size a) = fun _ => 0 := funext fun a => by fin_cases a <;> rfl
  exact Memref.read_access_unit_zero (Elt Ideal) main_arg1 hz (fun a => by rw [congrFun hz a]; omega) (V m c main_arg1)
theorem iblk_2 (c : Dev nD) (t : Fin cfg0.N) : iblk m c 2 t = V m c main_v3 := by
  unfold iblk
  have hz : (fun a => (win0_2.index t) a * main_v3.ty.shape.size a) = fun _ => 0 := funext fun a => by fin_cases a <;> rfl
  exact Memref.read_access_unit_zero (Elt Ideal) main_v3 hz (fun a => by rw [congrFun hz a]; omega) (V m c main_v3)
theorem iblk_3 (c : Dev nD) (t : Fin cfg0.N) : iblk m c 3 t = V m c main_v4 := by
  unfold iblk
  have hz : (fun a => (win0_3.index t) a * main_v4.ty.shape.size a) = fun _ => 0 := funext fun a => by fin_cases a <;> rfl
  exact Memref.read_access_unit_zero (Elt Ideal) main_v4 hz (fun a => by rw [congrFun hz a]; omega) (V m c main_v4)
theorem iblk_4 (c : Dev nD) (t : Fin cfg0.N) : iblk m c 4 t = V m c main_v5 := by
  unfold iblk
  have hz : (fun a => (win0_4.index t) a * main_v5.ty.shape.size a) = fun _ => 0 := funext fun a => by fin_cases a <;> rfl
  exact Memref.read_access_unit_zero (Elt Ideal) main_v5 hz (fun a => by rw [congrFun hz a]; omega) (V m c main_v5)
theorem iblk_5 (c : Dev nD) (t : Fin cfg0.N) : iblk m c 5 t = V m c main_v6 := by
  unfold iblk
  have hz : (fun a => (win0_5.index t) a * main_v6.ty.shape.size a) = fun _ => 0 := funext fun a => by fin_cases a <;> rfl
  exact Memref.read_access_unit_zero (Elt Ideal) main_v6 hz (fun a => by rw [congrFun hz a]; omega) (V m c main_v6)
theorem iblk_7 (c : Dev nD) (t : Fin cfg0.N) : iblk m c 7 t = V m c main_arg8 := by
  unfold iblk
  have hz : (fun a => (win0_7.index t) a * main_arg8.ty.shape.size a) = fun _ => 0 := funext fun a => by fin_cases a <;> rfl
  exact Memref.read_access_unit_zero (Elt Ideal) main_arg8 hz (fun a => by rw [congrFun hz a]; omega) (V m c main_arg8)

theorem index6 : ∀ t : Fin grid0.N, cc0_transform_8 (grid0.coords t) = ![0, t.val] := by decide +kernel

/-- A place of a tile's block of weights. -/
theorem iblk_6 (c : Dev nD) (t : Fin cfg0.N) (j : Fin 5120) (k : Fin 256) :
    iblk m c 6 t (ix2 j k) = V m c main_arg7 (ix2 j ⟨t.val * 256 + k.val, by have h : t.val < 10 := N_0 ▸ t.isLt; omega⟩) := by
  unfold iblk
  refine congrArg (V m c main_arg7) ?_
  funext a; apply Fin.ext
  have e : win0_6.index t = ![0, t.val] := index6 t
  fin_cases a
  · blk_simp [e]; rfl
  · blk_simp [e]; rfl

section
variable (c : Dev nD)

/-- The arguments' contents. -/
abbrev argH : S2x128x2560.Idx → EReal := m ((c : Thread nD τ).loc main_arg0)
abbrev argI : S2x129.Idx → BitVec 32 := m ((c : Thread nD τ).loc main_arg1)
abbrev argC : S151936x2560.Idx → BitVec 8 := m ((c : Thread nD τ).loc main_arg2)
abbrev argS : S151936x20.Idx → EReal := m ((c : Thread nD τ).loc main_arg3)
abbrev argNh : S2560.Idx → EReal := m ((c : Thread nD τ).loc main_arg4)
abbrev argNe : S2560.Idx → EReal := m ((c : Thread nD τ).loc main_arg5)
abbrev argNf : S2560.Idx → EReal := m ((c : Thread nD τ).loc main_arg6)
abbrev argW : S5120x2560.Idx → EReal := m ((c : Thread nD τ).loc main_arg7)
abbrev argT : S40x20.Idx → EReal := m ((c : Thread nD τ).loc main_arg8)

theorem row_hidden (r : Fin 256) : rowOf (iblk m c 2 t0) r = Cert.Layer.hid (argH m c) r := by
  rw [iblk_2]
  exact (congrArg (fun X => rowOf X r) (after_hidden fun b => m (c, b))).trans (rowOf_hidden _ r)
theorem weights_hidden : wOf (iblk m c 3 t0) = Cert.Layer.wts (argNh m c) := by
  rw [iblk_3]
  exact (congrArg wOf (after_nh fun b => m (c, b))).trans (wOf_weights _)
theorem weights_embedding : wOf (iblk m c 4 t0) = Cert.Layer.wts (argNe m c) := by
  rw [iblk_4]
  exact (congrArg wOf (after_ne fun b => m (c, b))).trans (wOf_weights _)
theorem weights_result : wOf (iblk m c 5 t9) = Cert.Layer.wts (argNf m c) := by
  rw [iblk_5]
  exact (congrArg wOf (after_nf fun b => m (c, b))).trans (wOf_weights _)

theorem token_eq (r : Fin 256) : token m c r = Cert.Layer.tok (argI m c) r := by
  unfold token
  rw [iblk_ids]
  rfl

theorem ids_eq : iblk m c 1 t0 = argI m c := by
  rw [iblk_1, V_main_arg1]

/-- A word the transfers bring. -/
theorem codeRows_apply (r : Fin 256) (j : Fin 2560) :
    codeRows m c (ix2 r j) = words (argC m c) (ix2 ⟨(Cert.Layer.tok (argI m c) r).toNat / 4 % 37984, Nat.mod_lt _ (by decide)⟩ j) := by
  unfold codeRows
  refine (congrFun (after_words fun b => m (c, b)) _).trans (congrArg (fun a => words (argC m c) (ix2 a j)) (Fin.ext ?_))
  show (token m c r).toNat / 4 % 37984 = _
  rw [token_eq]
/-- A scale they bring. -/
theorem scaleRows_apply (r : Fin 256) (g : Fin 20) : scaleRows m c (ix2 r g) = argS m c (ix2 (Cert.Layer.row (argI m c) r) g) := by
  unfold scaleRows
  rw [V_main_arg3]
  refine congrArg (fun a => argS m c (ix2 a g)) (Fin.ext ?_)
  show (token m c r).toNat % 151936 = (Cert.Layer.tok (argI m c) r).toNat % 151936
  rw [token_eq]

/-- The embedding, group by group. -/
theorem embedding (hI : Cert.Layer.InVocab (argI m c)) (r : Fin 256) (g : ℕ) (k : Fin 128) (hg : g < 20) :
    k0_pay151 (F := Ideal) (k0_pay147 (F := Ideal) (idsPart (F := Ideal) (argI m c) 0) (idsPart (F := Ideal) (argI m c) 1)) (part20 (F := Ideal) (e := .i32) (codeRows m c) g) (colPart (F := Ideal) (e := .f32) (scaleRows m c) g) (ix2 r k)
      = Cert.Layer.emb (argI m c) (argC m c) (argS m c) r (g * 128 + k.val) := by
  have hk := k.isLt
  have hr := r.isLt
  have ht := hI r
  rw [pay151_apply, shift_apply _ _ r k (Cert.Layer.tok (argI m c) r) ht ?_]
  · unfold Cert.Layer.emb
    have hj : (g * 128 + k.val) % 2560 = (128 * g + k.val) % 2560 := by rw [Nat.mul_comm]
    have h1 : part20 (F := Ideal) (e := .i32) (codeRows m c) g (ix2 r k) = words (argC m c) (ix2 ⟨(Cert.Layer.tok (argI m c) r).toNat / 4 % 37984, Nat.mod_lt _ (by decide)⟩ ⟨(g * 128 + k.val) % 2560, Nat.mod_lt _ (by decide)⟩) := by
      refine Eq.trans ?_ (codeRows_apply m c r ⟨(g * 128 + k.val) % 2560, Nat.mod_lt _ (by decide)⟩)
      exact congrArg (fun j => codeRows m c (ix2 r j)) (Fin.ext hj.symm)
    have h2 : colPart (F := Ideal) (e := .f32) (scaleRows m c) g (ix2 r 0) = argS m c (ix2 (Cert.Layer.row (argI m c) r) ⟨(g * 128 + k.val) % 2560 / 128, by omega⟩) := by
      refine Eq.trans ?_ (scaleRows_apply m c r ⟨(g * 128 + k.val) % 2560 / 128, by omega⟩)
      refine congrArg (fun j => scaleRows m c (ix2 r j)) (Fin.ext ?_)
      show g % 20 = (g * 128 + k.val) % 2560 / 128
      omega
    rw [h2]
    refine congrArg (fun a : EReal => a * argS m c (ix2 (Cert.Layer.row (argI m c) r) ⟨(g * 128 + k.val) % 2560 / 128, by omega⟩)) ?_
    refine byte_code _ (argC m c (ix2 (Cert.Layer.row (argI m c) r) ⟨(g * 128 + k.val) % 2560, Nat.mod_lt _ (by decide)⟩)) _ (Nat.mod_lt _ (by decide)) fun i hi => ?_
    rw [h1, words_bit _ _ _ _ (by omega)]
    have e1 : (8 * ((Cert.Layer.tok (argI m c) r).toNat % 4) + i) % 8 = i := by omega
    rw [e1]
    refine congrArg (fun a => (argC m c (ix2 a ⟨(g * 128 + k.val) % 2560, Nat.mod_lt _ (by decide)⟩)).getLsbD i) (Fin.ext ?_)
    show (Cert.Layer.tok (argI m c) r).toNat / 4 % 37984 * 4 + (8 * ((Cert.Layer.tok (argI m c) r).toNat % 4) + i) / 8 = (Cert.Layer.tok (argI m c) r).toNat % 151936
    omega
  · unfold Cert.Layer.tok
    by_cases h : r.val < 128
    · rw [dif_pos h]
      refine congrArg₂ (fun a b => argI m c (ix2 a b)) (Fin.ext ?_) (Fin.ext ?_)
      · show 0 = r.val / 128; omega
      · show r.val % 129 = r.val % 128; omega
    · rw [dif_neg h]
      refine congrArg₂ (fun a b => argI m c (ix2 a b)) (Fin.ext ?_) (Fin.ext ?_)
      · show 1 = r.val / 128; omega
      · show (r.val - 128) % 129 = r.val % 128; omega

/-- The operand, group by group. -/
theorem vOf_apply (hI : Cert.Layer.InVocab (argI m c)) (r : Fin 256) (n : ℕ) (k : Fin 128) (hn : n < 40) :
    vOf m c n (ix2 r k) = Cert.Layer.opd (argH m c) (argI m c) (argC m c) (argS m c) (argNh m c) (argNe m c) r (n * 128 + k.val) := by
  unfold vOf Cert.Layer.opd
  rw [ids_eq]
  refine (operandV_apply (argI m c) (iblk m c 2 t0) (iblk m c 3 t0) (iblk m c 4 t0) (codeRows m c) (scaleRows m c) r _ (fun g k hg => embedding m c hI r g k hg) n hn k).trans ?_
  rw [row_hidden, weights_hidden, weights_embedding]

/-- The tiles' weights. -/
theorem wtOf_apply (n : ℕ) (j : Fin 5120) (k : Fin 256) (hn : n < 10) : wtOf m c n (ix2 j k) = Cert.Layer.mat (argW m c) (argT m c) j.val (n * 256 + k.val) := by
  have hk := k.isLt
  have hN : n < cfg0.N := by show n < grid0.N; rw [N_0]; exact hn
  unfold wtOf
  rw [dif_pos hN]
  refine (tileW_apply ⟨n, hN⟩ (iblk m c 6 ⟨n, hN⟩) (iblk m c 7 ⟨n, hN⟩) j k).trans ?_
  rw [iblk_6, iblk_7, V_main_arg7, V_main_arg8]
  unfold Cert.Layer.mat
  refine congrArg₂ (fun a b : EReal => a * b) (congrArg₂ (fun a b => argW m c (ix2 a b)) (Fin.ext ?_) (Fin.ext ?_)) (congrArg₂ (fun a b => argT m c (ix2 a b)) (Fin.ext ?_) (Fin.ext ?_))
  · exact (Nat.mod_eq_of_lt j.isLt).symm
  · show n * 256 + k.val = (n * 256 + k.val) % 2560; omega
  · exact congrArg (· / 128) (Nat.mod_eq_of_lt j.isLt).symm
  · show (2 * n + k.val / 128) % 20 = (n * 256 + k.val) % 2560 / 128; omega

/-! ## The results -/

/-- Every weight of the normalizations is bounded. -/
def Bounded (v : S2560.Idx → EReal) : Prop := ∀ j : Fin 2560, Cert.Layer.mag (v (ix1 j)) ≤ (((2 : ℝ) ^ (100 : ℤ) : ℝ) : EReal)

variable (hI : Cert.Layer.InVocab (argI m c)) (hh : Bounded (argNh m c)) (he : Bounded (argNe m c)) (hf : Bounded (argNf m c))
include hI hh he

theorem operand_results (r : Fin 256) :
    (∀ j : Fin 5120, spread40 (F := Ideal) (e := .fp8e4m3) (fun g => codesOf (F := Ideal) (vOf m c g)) (ix2 r j) = Cert.Layer.codes (Cert.Layer.opd (argH m c) (argI m c) (argC m c) (argS m c) (argNh m c) (argNe m c) r) j.val)
      ∧ (∀ g : Fin 40, column40 (F := Ideal) (e := .f32) (fun g => scaleOf (F := Ideal) (vOf m c g)) (ix2 r g) = Cert.Layer.scales (Cert.Layer.opd (argH m c) (argI m c) (argC m c) (argS m c) (argNh m c) (argNe m c) r) g.val)
      ∧ (∀ j : Fin 5120, (spread40 (F := Ideal) (e := .bf16) (fun g => deqX (F := Ideal) (vOf m c g)) (ix2 r j) : EReal) = Cert.Layer.deq (Cert.Layer.opd (argH m c) (argI m c) (argC m c) (argS m c) (argNh m c) (argNe m c) r) j.val) :=
  quantized40 (vOf m c) (Cert.Layer.opd (argH m c) (argI m c) (argC m c) (argS m c) (argNh m c) (argNe m c) r) r (fun g k hg => vOf_apply m c hI r g k hg)
    (fun j hj => Cert.Layer.opd_bound _ _ _ _ _ _ hh he r j hj)

theorem pOf_apply (r : Fin 256) (g : ℕ) (k : Fin 128) (hg : g < 20) :
    flat (F := Ideal) (projPart (pOf m c) g) (ix2 r k) = Cert.Layer.prj (argH m c) (argI m c) (argC m c) (argS m c) (argNh m c) (argNe m c) (argW m c) (argT m c) r (g * 128 + k.val) := by
  unfold pOf Cert.Layer.prj
  exact proj_apply (wtOf m c) (xOf m c) r _ _ _ _ _ (operand_results m c hI hh he r).2.2 (fun n j k hn => wtOf_apply m c n j k hn) g hg k

theorem res8_eq : res8 m c = Cert.Layer.out1 (argH m c) (argI m c) (argC m c) (argS m c) (argNh m c) (argNe m c) (argW m c) (argT m c) := by
  funext x
  obtain ⟨r, j, rfl⟩ : ∃ (r : Fin 256) (j : Fin 2560), x = ix2 r j := ⟨x 0, x 1, eq_ix2 x⟩
  exact given_apply (pOf m c) r _ (fun g k hg => pOf_apply m c hI hh he r g k hg) j
theorem res9_eq : res9 m c = Cert.Layer.out2 (argH m c) (argI m c) (argC m c) (argS m c) (argNh m c) (argNe m c) := by
  funext x
  obtain ⟨r, j, rfl⟩ : ∃ (r : Fin 256) (j : Fin 5120), x = ix2 r j := ⟨x 0, x 1, eq_ix2 x⟩
  exact (operand_results m c hI hh he r).1 j
theorem res10_eq : res10 m c = Cert.Layer.out3 (argH m c) (argI m c) (argC m c) (argS m c) (argNh m c) (argNe m c) := by
  funext x
  obtain ⟨r, j, rfl⟩ : ∃ (r : Fin 256) (j : Fin 40), x = ix2 r j := ⟨x 0, x 1, eq_ix2 x⟩
  exact (operand_results m c hI hh he r).2.1 j

include hf

theorem result_results (r : Fin 256) :
    (∀ j : Fin 2560, spread20 (F := Ideal) (e := .fp8e4m3) (fun g => codesOf (F := Ideal) (resultV (F := Ideal) (pOf m c) (iblk m c 5 t9) g)) (ix2 r j) = Cert.Layer.codes (Cert.Layer.res (argH m c) (argI m c) (argC m c) (argS m c) (argNh m c) (argNe m c) (argNf m c) (argW m c) (argT m c) r) j.val)
      ∧ (∀ g : Fin 20, column20 (F := Ideal) (e := .f32) (fun g => scaleOf (F := Ideal) (resultV (F := Ideal) (pOf m c) (iblk m c 5 t9) g)) (ix2 r g) = Cert.Layer.scales (Cert.Layer.res (argH m c) (argI m c) (argC m c) (argS m c) (argNh m c) (argNe m c) (argNf m c) (argW m c) (argT m c) r) g.val)
      ∧ (∀ j : Fin 2560, (spread20 (F := Ideal) (e := .bf16) (fun g => deqOf (F := Ideal) (resultV (F := Ideal) (pOf m c) (iblk m c 5 t9) g)) (ix2 r j) : EReal) = Cert.Layer.deq (Cert.Layer.res (argH m c) (argI m c) (argC m c) (argS m c) (argNh m c) (argNe m c) (argNf m c) (argW m c) (argT m c) r) j.val) :=
  quantized20 (resultV (F := Ideal) (pOf m c) (iblk m c 5 t9)) (Cert.Layer.res (argH m c) (argI m c) (argC m c) (argS m c) (argNh m c) (argNe m c) (argNf m c) (argW m c) (argT m c) r) r
    (fun g k hg => (resultV_apply (pOf m c) (iblk m c 5 t9) r _ (fun g k hg => pOf_apply m c hI hh he r g k hg) g hg k).trans
      (by rw [weights_result]; rfl))
    (fun j hj => Cert.Layer.res_bound _ _ _ _ _ _ _ _ _ hf r j hj)

theorem res11_eq : res11 m c = Cert.Layer.out4 (argH m c) (argI m c) (argC m c) (argS m c) (argNh m c) (argNe m c) (argNf m c) (argW m c) (argT m c) := by
  funext x
  obtain ⟨r, j, rfl⟩ : ∃ (r : Fin 256) (j : Fin 2560), x = ix2 r j := ⟨x 0, x 1, eq_ix2 x⟩
  exact (result_results m c hI hh he hf r).1 j
theorem res12_eq : res12 m c = Cert.Layer.out5 (argH m c) (argI m c) (argC m c) (argS m c) (argNh m c) (argNe m c) (argNf m c) (argW m c) (argT m c) := by
  funext x
  obtain ⟨r, j, rfl⟩ : ∃ (r : Fin 256) (j : Fin 20), x = ix2 r j := ⟨x 0, x 1, eq_ix2 x⟩
  exact (result_results m c hI hh he hf r).2.1 j
theorem res13_eq : res13 m c = Cert.Layer.out6 (argH m c) (argI m c) (argC m c) (argS m c) (argNh m c) (argNe m c) (argNf m c) (argW m c) (argT m c) := by
  funext x
  obtain ⟨r, j, rfl⟩ : ∃ (r : Fin 256) (j : Fin 2560), x = ix2 r j := ⟨x 0, x 1, eq_ix2 x⟩
  exact (result_results m c hI hh he hf r).2.2 j
end

end Cert.FrontIdeal.Layer

end
-- ==== Proof.FrontReferenceIdeal.Read.lean ====
/- The reference's body read at an index, over the extended reals: it computes the specified layer. -/
module

public import proofs.«01_k».proof.Proof.Gen.FrontReferenceIdeal.Frame
public import proofs.«01_k».proof.Proof.Quantize
public import Idealize.ShloMosaic.Lib.Pointwise

@[expose] public section

set_option maxRecDepth 16384

noncomputable section

namespace Cert.FrontReferenceIdeal.Val

open Idealize.ShloMosaic Idealize.ShloMosaic.TcCoe
open Cert.FrontReferenceIdeal Cert.FrontReferenceIdeal.Gen

/-! ## The operand -/

/-- Rows normalized. -/
def normed (v : S256x2560.Idx → Elt Ideal .f32) (w : S1x2560.Idx → Elt Ideal .f32) : S256x2560.Idx → Elt Ideal .f32 :=
  mulf (F := Ideal) (φ := .f32) (mulf (F := Ideal) (φ := .f32) v (broadcastTo S256x2560 (rsqrt (F := Ideal) (φ := .f32) (addf (F := Ideal) (φ := .f32) (divf (F := Ideal) (φ := .f32)
    (shapeCast S256x1 (multiReduction (F := Ideal) (φ := .f32) .add [1] S256 (mulf (F := Ideal) (φ := .f32) v v) 0x00000000#32 reduces_S256x2560_S256 (.inl rfl) rfl) shapeCasts_S256_S256x1)
    (broadcast S256x1 (Scalar.ofBits .f32 0x45200000#32))) (broadcast S256x1 (Scalar.ofBits .f32 0x358637BD#32)))) broadcasts_S256x1_S256x2560))
    (broadcastTo S256x2560 (shapeCast S1x2560 w shapeCasts_S1x2560_S1x2560) broadcasts_S1x2560_S256x2560)

/-- The embedding rows dequantized. -/
def rows (v0 : S256x2560.Idx → Elt Ideal .i8) (v4 : S256x20.Idx → Elt Ideal .f32) : S256x2560.Idx → Elt Ideal .f32 :=
  shapeCast S256x2560 (mulf (F := Ideal) (φ := .f32) (shapeCast S256x20x128 (sitofp (F := Ideal) .f32 (shapeCast S256x2560 v0 shapeCasts_S256x2560_S256x2560)) shapeCasts_S256x2560_S256x20x128)
    (broadcastTo S256x20x128 (shapeCast S256x20x1 (shapeCast S256x20 v4 shapeCasts_S256x20_S256x20) shapeCasts_S256x20_S256x20x1) broadcasts_S256x20x1_S256x20x128)) shapeCasts_S256x20x128_S256x2560

/-- Two rows side by side, in groups. -/
def joined (a b : S256x2560.Idx → Elt Ideal .f32) : S256x40x128.Idx → Elt Ideal .f32 :=
  shapeCast S256x40x128 (concatenate S256x5120 1 [⟨S256x2560, a⟩, ⟨S256x2560, b⟩] concatenates_S256x2560_S256x2560_S256x5120_d1) shapeCasts_S256x5120_S256x40x128

theorem pay6_eq (v0 : S256x2560.Idx → Elt Ideal .i8) (v4 : S256x20.Idx → Elt Ideal .f32) (v10 : S256x2560.Idx → Elt Ideal .bf16) (v13 v27 : S1x2560.Idx → Elt Ideal .f32) :
    k0_pay6 (F := Ideal) v0 v4 v10 v13 v27 = joined (normed (extf (F := Ideal) .f32 (shapeCast S256x2560 v10 shapeCasts_S256x2560_S256x2560) bitsLt_bf16_f32) v13) (normed (rows v0 v4) v27) := rfl

theorem normed_apply (v : S256x2560.Idx → Elt Ideal .f32) (w : S1x2560.Idx → Elt Ideal .f32) (r : Fin 256) (k : Fin 2560) :
    normed v w (ix2 r k) = v (ix2 r k) * Ideal.rsqrt (Ideal.div (∑ j : Fin 2560, v (ix2 r j) * v (ix2 r j)) (Ideal.ofBits .f32 0x45200000#32) + Ideal.ofBits .f32 0x358637BD#32) * w (ix2 0 k) := by
  pointwise [normed]
  try rfl

theorem rows_apply (v0 : S256x2560.Idx → Elt Ideal .i8) (v4 : S256x20.Idx → Elt Ideal .f32) (r : Fin 256) (k : Fin 2560) :
    rows v0 v4 (ix2 r k) = FloatOps.sitofp (F := Ideal) .f32 (v0 (ix2 r k)) * v4 (ix2 r ⟨k.val / 128, by omega⟩) := by
  have hk : (⟨k.val / 128 * 128 + k.val % 128, by omega⟩ : Fin 2560) = k := Fin.ext (by show k.val / 128 * 128 + k.val % 128 = k.val; omega)
  pointwise [rows]
  try rfl

theorem cast_apply (v : S256x2560.Idx → Elt Ideal .bf16) (r : Fin 256) (k : Fin 2560) :
    (extf (F := Ideal) .f32 (shapeCast S256x2560 v shapeCasts_S256x2560_S256x2560) bitsLt_bf16_f32 : S256x2560.Idx → Elt Ideal .f32) (ix2 r k) = v (ix2 r k) := by
  pointwise []
  try rfl

theorem joined_apply (a b : S256x2560.Idx → Elt Ideal .f32) (r : Fin 256) (g : Fin 40) (k : Fin 128) :
    joined a b (ix3 r g k) = if h : g.val * 128 + k.val < 2560 then a (ix2 r ⟨g.val * 128 + k.val, h⟩) else b (ix2 r ⟨g.val * 128 + k.val - 2560, by omega⟩) := by
  pointwise [joined]
  try rfl

/-- A row of an array, by place. -/
def rowOf (X : S256x2560.Idx → EReal) (r : Fin 256) (j : ℕ) : EReal := X (ix2 r ⟨j % 2560, Nat.mod_lt _ (by decide)⟩)
def wOf (X : S1x2560.Idx → EReal) (j : ℕ) : EReal := X (ix2 0 ⟨j % 2560, Nat.mod_lt _ (by decide)⟩)

theorem rowOf_val (X : S256x2560.Idx → EReal) (r : Fin 256) (j : ℕ) (h : j < 2560) : rowOf X r j = X (ix2 r ⟨j, h⟩) := by
  unfold rowOf
  exact congrArg (fun j => X (ix2 r j)) (Fin.ext (Nat.mod_eq_of_lt h))
theorem wOf_val (X : S1x2560.Idx → EReal) (j : ℕ) (h : j < 2560) : wOf X j = X (ix2 0 ⟨j, h⟩) := by
  unfold wOf
  exact congrArg (fun j => X (ix2 0 j)) (Fin.ext (Nat.mod_eq_of_lt h))

theorem normed_norm (v : S256x2560.Idx → Elt Ideal .f32) (w : S1x2560.Idx → Elt Ideal .f32) (r : Fin 256) (k : Fin 2560) :
    normed v w (ix2 r k) = Cert.Layer.norm (rowOf v r) (wOf w) k.val := by
  rw [normed_apply]
  unfold Cert.Layer.norm Cert.Layer.rms
  rw [rowOf_val v r k.val k.isLt, wOf_val w k.val k.isLt]
  simp only [fun j : Fin 2560 => rowOf_val v r j.val j.isLt]

/-- The operand in groups. -/
theorem pay6_apply (v0 : S256x2560.Idx → Elt Ideal .i8) (v4 : S256x20.Idx → Elt Ideal .f32) (v10 : S256x2560.Idx → Elt Ideal .bf16) (v13 v27 : S1x2560.Idx → Elt Ideal .f32) (r : Fin 256) (g : Fin 40) (k : Fin 128) :
    k0_pay6 (F := Ideal) v0 v4 v10 v13 v27 (ix3 r g k)
      = Cert.Layer.operand (rowOf v10 r) (rowOf (rows v0 v4) r) (wOf v13) (wOf v27) (g.val * 128 + k.val) := by
  rw [pay6_eq, joined_apply]
  unfold Cert.Layer.operand
  by_cases h : g.val * 128 + k.val < 2560
  · rw [dif_pos h, if_pos h, normed_norm]
    refine congrArg (fun f => Cert.Layer.norm f _ _) ?_
    funext j
    exact cast_apply v10 r _
  · rw [dif_neg h, if_neg h, normed_norm]

/-! ## The quantizer -/

theorem pay7_apply (v0 : S256x2560.Idx → Elt Ideal .i8) (v4 : S256x20.Idx → Elt Ideal .f32) (v10 : S256x2560.Idx → Elt Ideal .bf16) (v13 v27 : S1x2560.Idx → Elt Ideal .f32) (x : S256x40x128.Idx) :
    k0_pay7 (F := Ideal) v0 v4 v10 v13 v27 x = FloatOps.absf (F := Ideal) (φ := .f32) (k0_pay6 (F := Ideal) v0 v4 v10 v13 v27 x) := rfl

theorem pay8_apply (v : S256x40x128.Idx → Elt Ideal .f32) (r : Fin 256) (g : Fin 40) :
    k0_pay8 (F := Ideal) v (ix3 r g 0) = Cert.Layer.scaleAt (Finset.fold max (Ideal.ofBits .f32 0xFF800000#32) (fun k : Fin 128 => v (ix3 r g k)) Finset.univ * Ideal.ofBits .f32 0x3B124925#32) := by
  pointwise [k0_pay8]
  rfl

theorem pay10_apply (v w : S256x40x128.Idx → Elt Ideal .f32) (r : Fin 256) (j : Fin 5120) :
    k0_pay10 (F := Ideal) v w (ix2 r j) = min (Ideal.ofBits .f32 0x43E00000#32) (max (Ideal.ofBits .f32 0xC3E00000#32)
      (v (ix3 r ⟨j.val / 128, by omega⟩ ⟨j.val % 128, by omega⟩) * Ideal.div 1 (k0_pay8 (F := Ideal) w (ix3 r ⟨j.val / 128, by omega⟩ 0)))) := by
  pointwise [k0_pay10, k0_pay9]
  try rfl

theorem pay11_apply (v : S256x40x128.Idx → Elt Ideal .f32) (r : Fin 256) (g : Fin 40) :
    k0_pay11 (F := Ideal) v (ix2 r g) = k0_pay8 (F := Ideal) v (ix3 r g 0) := by
  pointwise [k0_pay11]
  try rfl

theorem pay12_apply (v w : S256x40x128.Idx → Elt Ideal .f32) (r : Fin 256) (j : Fin 5120) :
    k0_pay12 (F := Ideal) v w (ix2 r j) = k0_pay10 (F := Ideal) v w (ix2 r j) * k0_pay8 (F := Ideal) w (ix3 r ⟨j.val / 128, by omega⟩ 0) := by
  rw [pay10_apply]
  pointwise [k0_pay12, k0_pay9]
  try rfl

/-- The operand's codes, scales and dequantized values. -/
theorem quantized40 (v w : S256x40x128.Idx → Elt Ideal .f32) (r : Fin 256) (X : ℕ → EReal) (hv : ∀ (g : Fin 40) (k : Fin 128), v (ix3 r g k) = X (g.val * 128 + k.val))
    (hw : ∀ (g : Fin 40) (k : Fin 128), w (ix3 r g k) = FloatOps.absf (F := Ideal) (φ := .f32) (v (ix3 r g k))) :
    (∀ j : Fin 5120, k0_pay10 (F := Ideal) v w (ix2 r j) = Cert.Layer.codes X j.val)
      ∧ (∀ g : Fin 40, k0_pay11 (F := Ideal) w (ix2 r g) = Cert.Layer.scales X g.val)
      ∧ (∀ j : Fin 5120, k0_pay12 (F := Ideal) v w (ix2 r j) = Cert.Layer.deq X j.val) := by
  have h8 : ∀ g : Fin 40, k0_pay8 (F := Ideal) w (ix3 r g 0) = Cert.Layer.scales X g.val := fun g => by
    rw [pay8_apply]
    simp only [hw, hv]
    rfl
  have h10 : ∀ j : Fin 5120, k0_pay10 (F := Ideal) v w (ix2 r j) = Cert.Layer.codes X j.val := fun j => by
    rw [pay10_apply, h8, hv]
    rfl
  refine ⟨h10, fun g => by rw [pay11_apply, h8], fun j => ?_⟩
  rw [pay12_apply, h10, h8]
  rfl

/-! ## The projection -/

theorem pay14_apply (x : S256x5120.Idx → Elt Ideal .bf16) (w : S5120x2560.Idx → Elt Ideal .bf16) (s : S40x20.Idx → Elt Ideal .f32) (r : Fin 256) (j : Fin 2560) :
    k0_pay14 (F := Ideal) x w s (ix2 r j) = ∑ k : Fin 5120, x (ix2 r k) * (w (ix2 k j) * s (ix2 ⟨k.val / 128, by omega⟩ ⟨j.val / 128, by omega⟩)) := by
  have hk : ∀ k : Fin 5120, (⟨k.val / 128 * 128 + k.val % 128, by omega⟩ : Fin 5120) = k := fun k => Fin.ext (by show k.val / 128 * 128 + k.val % 128 = k.val; omega)
  have hj : (⟨j.val / 128 * 128 + j.val % 128, by omega⟩ : Fin 2560) = j := Fin.ext (by show j.val / 128 * 128 + j.val % 128 = j.val; omega)
  pointwise [k0_pay14]
  try rfl

theorem pay15_eq (x : S256x5120.Idx → Elt Ideal .bf16) (w : S5120x2560.Idx → Elt Ideal .bf16) (s : S40x20.Idx → Elt Ideal .f32) (r : Fin 256) (j : Fin 2560) :
    k0_pay15 (F := Ideal) x w s (ix2 r j) = k0_pay14 (F := Ideal) x w s (ix2 r j) := by
  pointwise [k0_pay15]
  try rfl

theorem pay16_apply (x : S256x5120.Idx → Elt Ideal .bf16) (w : S5120x2560.Idx → Elt Ideal .bf16) (s : S40x20.Idx → Elt Ideal .f32) (nf : S1x2560.Idx → Elt Ideal .f32) (r : Fin 256) (g : Fin 20) (k : Fin 128) :
    k0_pay16 (F := Ideal) x w s nf (ix3 r g k) = Cert.Layer.norm (rowOf (k0_pay14 (F := Ideal) x w s) r) (wOf nf) (g.val * 128 + k.val) := by
  unfold Cert.Layer.norm Cert.Layer.rms
  rw [rowOf_val _ r (g.val * 128 + k.val) (by omega), wOf_val _ (g.val * 128 + k.val) (by omega)]
  simp only [fun j : Fin 2560 => rowOf_val (k0_pay14 (F := Ideal) x w s) r j.val j.isLt]
  pointwise [k0_pay16]
  try rfl

theorem pay17_apply (x : S256x5120.Idx → Elt Ideal .bf16) (w : S5120x2560.Idx → Elt Ideal .bf16) (s : S40x20.Idx → Elt Ideal .f32) (nf : S1x2560.Idx → Elt Ideal .f32) (r : Fin 256) (g : Fin 20) :
    k0_pay17 (F := Ideal) x w s nf (ix3 r g 0) = Cert.Layer.share (fun k => k0_pay16 (F := Ideal) x w s nf (ix3 r g k)) := by
  pointwise [k0_pay17]
  rfl

theorem pay18_apply (x : S256x5120.Idx → Elt Ideal .bf16) (w : S5120x2560.Idx → Elt Ideal .bf16) (s : S40x20.Idx → Elt Ideal .f32) (nf : S1x2560.Idx → Elt Ideal .f32) (r : Fin 256) (g : Fin 20) :
    k0_pay18 (F := Ideal) x w s nf (ix3 r g 0) = Finset.fold min (Ideal.ofBits .f32 0x7F800000#32) (fun i : Fin 252 => if k0_pay17 (F := Ideal) x w s nf (ix3 r g 0) < Cert.Layer.power i then Cert.Layer.power i else Ideal.ofBits .f32 0x7F800000#32) Finset.univ := by
  pointwise [k0_pay18]
  rfl

theorem pay1_apply (a b : S256x20x1.Idx → Elt Ideal .f32) (r : Fin 256) (g : Fin 20) :
    k0_pay1 (F := Ideal) a b (ix3 r g 0) = if a (ix3 r g 0) < Ideal.ofBits .f32 0x00800000#32 then 1 else b (ix3 r g 0) := by
  pointwise [k0_pay1]
  try rfl

theorem pay3_apply (v : S256x20x128.Idx → Elt Ideal .f32) (a b : S256x20x1.Idx → Elt Ideal .f32) (r : Fin 256) (j : Fin 2560) :
    k0_pay3 (F := Ideal) v a b (ix2 r j) = min (Ideal.ofBits .f32 0x43E00000#32) (max (Ideal.ofBits .f32 0xC3E00000#32)
      (v (ix3 r ⟨j.val / 128, by omega⟩ ⟨j.val % 128, by omega⟩) * Ideal.div 1 (k0_pay1 (F := Ideal) a b (ix3 r ⟨j.val / 128, by omega⟩ 0)))) := by
  pointwise [k0_pay3, k0_pay2]
  try rfl

theorem pay4_apply (a b : S256x20x1.Idx → Elt Ideal .f32) (r : Fin 256) (g : Fin 20) :
    k0_pay4 (F := Ideal) a b (ix2 r g) = k0_pay1 (F := Ideal) a b (ix3 r g 0) := by
  pointwise [k0_pay4]
  try rfl

theorem pay5_apply (v : S256x20x128.Idx → Elt Ideal .f32) (a b : S256x20x1.Idx → Elt Ideal .f32) (r : Fin 256) (j : Fin 2560) :
    k0_pay5 (F := Ideal) v a b (ix2 r j) = k0_pay3 (F := Ideal) v a b (ix2 r j) * k0_pay1 (F := Ideal) a b (ix3 r ⟨j.val / 128, by omega⟩ 0) := by
  rw [pay3_apply]
  pointwise [k0_pay5, k0_pay2]
  try rfl

/-- The result's codes, scales and dequantized values. -/
theorem quantized20 (x : S256x5120.Idx → Elt Ideal .bf16) (w : S5120x2560.Idx → Elt Ideal .bf16) (s : S40x20.Idx → Elt Ideal .f32) (nf : S1x2560.Idx → Elt Ideal .f32) (r : Fin 256) :
    (∀ j : Fin 2560, k0_pay3 (F := Ideal) (k0_pay16 (F := Ideal) x w s nf) (k0_pay17 (F := Ideal) x w s nf) (k0_pay18 (F := Ideal) x w s nf) (ix2 r j) = Cert.Layer.codes (Cert.Layer.norm (rowOf (k0_pay14 (F := Ideal) x w s) r) (wOf nf)) j.val)
      ∧ (∀ g : Fin 20, k0_pay4 (F := Ideal) (k0_pay17 (F := Ideal) x w s nf) (k0_pay18 (F := Ideal) x w s nf) (ix2 r g) = Cert.Layer.scales (Cert.Layer.norm (rowOf (k0_pay14 (F := Ideal) x w s) r) (wOf nf)) g.val)
      ∧ (∀ j : Fin 2560, k0_pay5 (F := Ideal) (k0_pay16 (F := Ideal) x w s nf) (k0_pay17 (F := Ideal) x w s nf) (k0_pay18 (F := Ideal) x w s nf) (ix2 r j) = Cert.Layer.deq (Cert.Layer.norm (rowOf (k0_pay14 (F := Ideal) x w s) r) (wOf nf)) j.val) := by
  have h1 : ∀ g : Fin 20, k0_pay1 (F := Ideal) (k0_pay17 (F := Ideal) x w s nf) (k0_pay18 (F := Ideal) x w s nf) (ix3 r g 0) = Cert.Layer.scales (Cert.Layer.norm (rowOf (k0_pay14 (F := Ideal) x w s) r) (wOf nf)) g.val := fun g => by
    rw [pay1_apply, pay18_apply, pay17_apply]
    simp only [pay16_apply]
    rfl
  have h3 : ∀ j : Fin 2560, k0_pay3 (F := Ideal) (k0_pay16 (F := Ideal) x w s nf) (k0_pay17 (F := Ideal) x w s nf) (k0_pay18 (F := Ideal) x w s nf) (ix2 r j) = Cert.Layer.codes (Cert.Layer.norm (rowOf (k0_pay14 (F := Ideal) x w s) r) (wOf nf)) j.val := fun j => by
    rw [pay3_apply, h1, pay16_apply]
    rfl
  refine ⟨h3, fun g => by rw [pay4_apply, h1], fun j => ?_⟩
  rw [pay5_apply, h3, h1]
  rfl

/-- The projection. -/
theorem proj_apply (x : S256x5120.Idx → Elt Ideal .bf16) (w : S5120x2560.Idx → Elt Ideal .bf16) (s : S40x20.Idx → Elt Ideal .f32) (r : Fin 256) (h e nh ne : ℕ → EReal) (T : ℕ → ℕ → EReal)
    (hx : ∀ j : Fin 5120, x (ix2 r j) = Cert.Layer.deq (Cert.Layer.operand h e nh ne) j.val)
    (hT : ∀ (k : Fin 5120) (j : Fin 2560), w (ix2 k j) * s (ix2 ⟨k.val / 128, by omega⟩ ⟨j.val / 128, by omega⟩) = T k.val j.val) (j : Fin 2560) :
    k0_pay14 (F := Ideal) x w s (ix2 r j) = Cert.Layer.proj h e nh ne T j.val := by
  rw [pay14_apply]
  unfold Cert.Layer.proj
  simp only [hx, hT]

end Cert.FrontReferenceIdeal.Val

end
-- ==== Proof.FrontReferenceIdeal.Value.lean ====
/- What the reference leaves in its results, over the extended reals: the specified layer. -/
module

public import proofs.«01_k».proof.Proof.FrontReferenceIdeal.Read
public import proofs.«01_k».proof.Proof.FrontSpec
public import Idealize.ShloMosaic.Lib.StableHlo.ReadAt
public import Idealize.ShloMosaic.Lib.StableHlo.RunRead
public import Idealize.ShloMosaic.Lib.Routing.Ops
public import Idealize.ShloMosaic.Lib.Pipeline.ValueKit.Geometry

@[expose] public section

set_option maxRecDepth 16384

noncomputable section

namespace Cert.FrontReferenceIdeal.Val

open Idealize.ShloMosaic Idealize.ShloMosaic.TcCoe Idealize.ShloMosaic.Pipeline
open Idealize.SL Idealize.SL.Sem
open Cert.FrontReferenceIdeal Cert.FrontReferenceIdeal.Gen

/-! ## The host line -/

/-- The tokens, flattened. -/
def tokens (ids : S2x129.Idx → BitVec 32) : S256.Idx → BitVec 32 :=
  shapeCast S256 (extractStridedSlice S2x128 ![0, 0] ids slices_S2x129_S2x128_0_0) shapeCasts_S2x128_S256

/-- The row each position takes of the table, a negative one counted from the end. -/
def rowsAt (t : S256.Idx → BitVec 32) : S256x1.Idx → BitVec 32 :=
  broadcastInDim S256x1 ![0] bcast_S256_S256x1_0
    (select (cmpi .slt t (broadcastInDim S256 ![] bcast_S_S256 (constantI S_ 32 0#32)))
      (addi t (broadcastInDim S256 ![] bcast_S_S256 (constantI S_ 32 151936#32))) t)

theorem tokens_apply (ids : S2x129.Idx → BitVec 32) (n : Fin 256) : tokens ids (ix1 n) = Cert.Layer.tok ids n := by
  unfold Cert.Layer.tok
  pointwise [tokens]
  try rfl

/-- A token in the vocabulary is not negative: its row is itself. -/
theorem rowsAt_apply (t : S256.Idx → BitVec 32) (n : Fin 256) (h : (t (ix1 n)).toNat < 151936) : rowsAt t (ix2 n 0) = t (ix1 n) := by
  pointwise [rowsAt]
  have hs : IntOp.cmpi CmpIPredicate.slt (t (ix1 n)) 0#32 = 0#1 := by
    generalize t (ix1 n) = w at h
    show BitVec.ofBool (BitVec.slt w 0#32) = 0#1
    have : BitVec.slt w 0#32 = false := by
      rw [BitVec.slt_eq_decide, decide_eq_false_iff_not, BitVec.toInt_eq_toNat_of_lt (by omega)]
      simp
    rw [this]; rfl
  rw [hs, ValueIdx.select_zero]

theorem rowsAt_tokens (ids : S2x129.Idx → BitVec 32) (h : Cert.Layer.InVocab ids) (n : Fin 256) : rowsAt (tokens ids) (ix2 n 0) = Cert.Layer.tok ids n := by
  rw [rowsAt_apply _ _ (by rw [tokens_apply]; exact h n), tokens_apply]

/-- The code rows at the tokens, -/
theorem codes_at (C : S151936x2560.Idx → BitVec 8) (ids : S2x129.Idx → BitVec 32) (h : Cert.Layer.InVocab ids) (n : Fin 256) (k : Fin 2560) :
    Host.gather gather_S151936x2560_S256x1_S256x2560_1_0_n_n_0_1_12560 C (rowsAt (tokens ids)) (ix2 n k) = C (ix2 (Cert.Layer.row ids n) k) := by
  have hr : (rowsAt (tokens ids) (ix2 n 0)).toNat < 151936 := by rw [rowsAt_tokens ids h]; exact h n
  refine (Routing.gather_row gather_S151936x2560_S256x1_S256x2560_1_0_n_n_0_1_12560 rfl rfl rfl rfl rfl C (rowsAt (tokens ids)) n k ⟨(rowsAt (tokens ids) (ix2 n 0)).toNat, hr⟩
    (by rw [BitVec.ofNat_toNat, BitVec.setWidth_eq]; rfl) (by decide)).trans (congrArg (fun i => C (ix2 i k)) (Fin.ext ?_))
  show (rowsAt (tokens ids) (ix2 n 0)).toNat = (Cert.Layer.tok ids n).toNat % 151936
  rw [rowsAt_tokens ids h, Nat.mod_eq_of_lt (h n)]
/-- and the scale rows. -/
theorem scales_at (S : S151936x20.Idx → EReal) (ids : S2x129.Idx → BitVec 32) (h : Cert.Layer.InVocab ids) (n : Fin 256) (k : Fin 20) :
    Host.gather gather_S151936x20_S256x1_S256x20_1_0_n_n_0_1_120 S (rowsAt (tokens ids)) (ix2 n k) = S (ix2 (Cert.Layer.row ids n) k) := by
  have hr : (rowsAt (tokens ids) (ix2 n 0)).toNat < 151936 := by rw [rowsAt_tokens ids h]; exact h n
  refine (Routing.gather_row gather_S151936x20_S256x1_S256x20_1_0_n_n_0_1_120 rfl rfl rfl rfl rfl S (rowsAt (tokens ids)) n k ⟨(rowsAt (tokens ids) (ix2 n 0)).toNat, hr⟩
    (by rw [BitVec.ofNat_toNat, BitVec.setWidth_eq]; rfl) (by decide)).trans (congrArg (fun i => S (ix2 i k)) (Fin.ext ?_))
  show (rowsAt (tokens ids) (ix2 n 0)).toNat = (Cert.Layer.tok ids n).toNat % 151936
  rw [rowsAt_tokens ids h, Nat.mod_eq_of_lt (h n)]

/-! The buffers the host line writes for the region. -/

section
variable (X : Valuation τ sig (Elt Ideal))

theorem after_hidden : StableHlo.after hostOps0 X (Proc.devRef .tc main_v2) = shapeCast S256x2560 (X (Proc.devRef .tc main_arg0)) shapeCasts_S2x128x2560_S256x2560 := by
  after_reads_simp; rfl
theorem after_codes : StableHlo.after hostOps0 X (Proc.devRef .tc main_v9)
    = Host.gather gather_S151936x2560_S256x1_S256x2560_1_0_n_n_0_1_12560 (X (Proc.devRef .tc main_arg2)) (rowsAt (tokens (X (Proc.devRef .tc main_arg1)))) := by
  after_reads_simp; rfl
theorem after_scales : StableHlo.after hostOps0 X (Proc.devRef .tc main_v16)
    = Host.gather gather_S151936x20_S256x1_S256x20_1_0_n_n_0_1_120 (X (Proc.devRef .tc main_arg3)) (rowsAt (tokens (X (Proc.devRef .tc main_arg1)))) := by
  after_reads_simp; rfl
theorem after_nh : StableHlo.after hostOps0 X (Proc.devRef .tc main_v17) = shapeCast S1x2560 (X (Proc.devRef .tc main_arg4)) shapeCasts_S2560_S1x2560 := by
  after_reads_simp; rfl
theorem after_ne : StableHlo.after hostOps0 X (Proc.devRef .tc main_v18) = shapeCast S1x2560 (X (Proc.devRef .tc main_arg5)) shapeCasts_S2560_S1x2560 := by
  after_reads_simp; rfl
theorem after_nf : StableHlo.after hostOps0 X (Proc.devRef .tc main_v19) = shapeCast S1x2560 (X (Proc.devRef .tc main_arg6)) shapeCasts_S2560_S1x2560 := by
  after_reads_simp; rfl
end

theorem rowOf_hidden (H : S2x128x2560.Idx → EReal) (r : Fin 256) : rowOf (shapeCast S256x2560 H shapeCasts_S2x128x2560_S256x2560) r = Cert.Layer.hid H r := by
  funext j
  unfold rowOf Cert.Layer.hid
  pointwise []
  try rfl
theorem wOf_weights (v : S2560.Idx → EReal) : wOf (shapeCast S1x2560 v shapeCasts_S2560_S1x2560) = Cert.Layer.wts v := by
  funext j
  unfold wOf Cert.Layer.wts
  pointwise []
  try rfl

/-! ## The body's results -/

section
variable (a0 : S256x2560.Idx → Elt Ideal .bf16) (a1 : S256x2560.Idx → Elt Ideal .i8) (a2 : S256x20.Idx → Elt Ideal .f32) (a3 a4 a5 : S1x2560.Idx → Elt Ideal .f32) (a6 : S5120x2560.Idx → Elt Ideal .fp8e4m3) (a7 : S40x20.Idx → Elt Ideal .f32)

theorem zeros : (![0, 0] : Fin 2 → Nat) = fun _ => 0 := funext fun a => by fin_cases a <;> rfl

/-- The operand in groups, dequantized, -/
def body6 : S256x40x128.Idx → Elt Ideal .f32 := k0_pay6 (F := Ideal) a1 a2 a0 a3 a4
def body7 : S256x40x128.Idx → Elt Ideal .f32 := k0_pay7 (F := Ideal) a1 a2 a0 a3 a4
def bodyX : S256x5120.Idx → Elt Ideal .bf16 := k0_pay12 (F := Ideal) (body6 a0 a1 a2 a3 a4) (body7 a0 a1 a2 a3 a4)

theorem out_8 : out0_8 (F := Ideal) a0 a1 a2 a3 a4 a5 a6 a7 = k0_pay15 (F := Ideal) (bodyX a0 a1 a2 a3 a4) (k0_pay13 (F := Ideal) a6) a7 := by
  unfold out0_8 k0_pay22 k0_pay21 k0_pay20 k0_pay19
  rw [View.canon_cons_unit_zero zeros]
  repeat rw [View.ld_unit_zero zeros]
  unfold bodyX body6 body7
  rfl
theorem out_9 : out0_9 (F := Ideal) a0 a1 a2 a3 a4 a5 a6 a7 = k0_pay10 (F := Ideal) (body6 a0 a1 a2 a3 a4) (body7 a0 a1 a2 a3 a4) := by
  unfold out0_9 k0_pay20 k0_pay19
  rw [View.canon_cons_unit_zero zeros]
  repeat rw [View.ld_unit_zero zeros]
  unfold body6 body7
  rfl
theorem out_10 : out0_10 (F := Ideal) a0 a1 a2 a3 a4 a5 a6 a7 = k0_pay11 (F := Ideal) (body7 a0 a1 a2 a3 a4) := by
  unfold out0_10 k0_pay20
  rw [View.canon_cons_unit_zero zeros]
  repeat rw [View.ld_unit_zero zeros]
  unfold body7
  rfl
theorem out_11 : out0_11 (F := Ideal) a0 a1 a2 a3 a4 a5 a6 a7 = k0_pay3 (F := Ideal) (k0_pay16 (F := Ideal) (bodyX a0 a1 a2 a3 a4) (k0_pay13 (F := Ideal) a6) a7 a5) (k0_pay17 (F := Ideal) (bodyX a0 a1 a2 a3 a4) (k0_pay13 (F := Ideal) a6) a7 a5) (k0_pay18 (F := Ideal) (bodyX a0 a1 a2 a3 a4) (k0_pay13 (F := Ideal) a6) a7 a5) := by
  unfold out0_11 k0_pay25 k0_pay24 k0_pay23 k0_pay22 k0_pay21 k0_pay20 k0_pay19
  rw [View.canon_cons_unit_zero zeros]
  repeat rw [View.ld_unit_zero zeros]
  unfold bodyX body6 body7
  rfl
theorem out_12 : out0_12 (F := Ideal) a0 a1 a2 a3 a4 a5 a6 a7 = k0_pay4 (F := Ideal) (k0_pay17 (F := Ideal) (bodyX a0 a1 a2 a3 a4) (k0_pay13 (F := Ideal) a6) a7 a5) (k0_pay18 (F := Ideal) (bodyX a0 a1 a2 a3 a4) (k0_pay13 (F := Ideal) a6) a7 a5) := by
  unfold out0_12 k0_pay25 k0_pay24 k0_pay22 k0_pay21 k0_pay20 k0_pay19
  rw [View.canon_cons_unit_zero zeros]
  repeat rw [View.ld_unit_zero zeros]
  unfold bodyX body6 body7
  rfl
theorem out_13 : out0_13 (F := Ideal) a0 a1 a2 a3 a4 a5 a6 a7 = k0_pay5 (F := Ideal) (k0_pay16 (F := Ideal) (bodyX a0 a1 a2 a3 a4) (k0_pay13 (F := Ideal) a6) a7 a5) (k0_pay17 (F := Ideal) (bodyX a0 a1 a2 a3 a4) (k0_pay13 (F := Ideal) a6) a7 a5) (k0_pay18 (F := Ideal) (bodyX a0 a1 a2 a3 a4) (k0_pay13 (F := Ideal) a6) a7 a5) := by
  unfold out0_13 k0_pay25 k0_pay24 k0_pay23 k0_pay22 k0_pay21 k0_pay20 k0_pay19
  rw [View.canon_cons_unit_zero zeros]
  repeat rw [View.ld_unit_zero zeros]
  unfold bodyX body6 body7
  rfl

theorem pay13_apply (x : S5120x2560.Idx) : k0_pay13 (F := Ideal) a6 x = a6 x := by
  obtain ⟨k, j, rfl⟩ : ∃ (k : Fin 5120) (j : Fin 2560), x = ix2 k j := ⟨x 0, x 1, eq_ix2 x⟩
  pointwise [k0_pay13]
  try rfl

variable (r : Fin 256) (h e nh ne nf : ℕ → EReal) (T : ℕ → ℕ → EReal)

/-- The operand's results, -/
theorem operand_results (e0 : rowOf a0 r = h) (e1 : rowOf (rows a1 a2) r = e) (e3 : wOf a3 = nh) (e4 : wOf a4 = ne) :
    (∀ j : Fin 5120, out0_9 (F := Ideal) a0 a1 a2 a3 a4 a5 a6 a7 (ix2 r j) = Cert.Layer.codes (Cert.Layer.operand h e nh ne) j.val)
      ∧ (∀ g : Fin 40, out0_10 (F := Ideal) a0 a1 a2 a3 a4 a5 a6 a7 (ix2 r g) = Cert.Layer.scales (Cert.Layer.operand h e nh ne) g.val)
      ∧ (∀ j : Fin 5120, bodyX a0 a1 a2 a3 a4 (ix2 r j) = Cert.Layer.deq (Cert.Layer.operand h e nh ne) j.val) := by
  rw [out_9, out_10]
  subst e0 e1 e3 e4
  exact quantized40 (body6 a0 a1 a2 a3 a4) (body7 a0 a1 a2 a3 a4) r (Cert.Layer.operand (rowOf a0 r) (rowOf (rows a1 a2) r) (wOf a3) (wOf a4))
    (fun g k => pay6_apply a1 a2 a0 a3 a4 r g k) (fun g k => pay7_apply a1 a2 a0 a3 a4 _)

/-- the projection -/
theorem projection_results (e0 : rowOf a0 r = h) (e1 : rowOf (rows a1 a2) r = e) (e3 : wOf a3 = nh) (e4 : wOf a4 = ne)
    (hT : ∀ (k : Fin 5120) (j : Fin 2560), a6 (ix2 k j) * a7 (ix2 ⟨k.val / 128, by omega⟩ ⟨j.val / 128, by omega⟩) = T k.val j.val) (j : Fin 2560) :
    k0_pay14 (F := Ideal) (bodyX a0 a1 a2 a3 a4) (k0_pay13 (F := Ideal) a6) a7 (ix2 r j) = Cert.Layer.proj h e nh ne T j.val :=
  proj_apply (bodyX a0 a1 a2 a3 a4) (k0_pay13 (F := Ideal) a6) a7 r h e nh ne T (operand_results a0 a1 a2 a3 a4 a3 a6 a7 r h e nh ne e0 e1 e3 e4).2.2
    (fun k j => by rw [pay13_apply]; exact hT k j) j

/-- and the result's. -/
theorem result_results (e0 : rowOf a0 r = h) (e1 : rowOf (rows a1 a2) r = e) (e3 : wOf a3 = nh) (e4 : wOf a4 = ne) (e5 : wOf a5 = nf)
    (hT : ∀ (k : Fin 5120) (j : Fin 2560), a6 (ix2 k j) * a7 (ix2 ⟨k.val / 128, by omega⟩ ⟨j.val / 128, by omega⟩) = T k.val j.val) (hm : ∀ k j, T k (j % 2560) = T k j) :
    (∀ j : Fin 2560, out0_11 (F := Ideal) a0 a1 a2 a3 a4 a5 a6 a7 (ix2 r j) = Cert.Layer.codes (Cert.Layer.norm (Cert.Layer.proj h e nh ne T) nf) j.val)
      ∧ (∀ g : Fin 20, out0_12 (F := Ideal) a0 a1 a2 a3 a4 a5 a6 a7 (ix2 r g) = Cert.Layer.scales (Cert.Layer.norm (Cert.Layer.proj h e nh ne T) nf) g.val)
      ∧ (∀ j : Fin 2560, out0_13 (F := Ideal) a0 a1 a2 a3 a4 a5 a6 a7 (ix2 r j) = Cert.Layer.deq (Cert.Layer.norm (Cert.Layer.proj h e nh ne T) nf) j.val) := by
  have hp : rowOf (k0_pay14 (F := Ideal) (bodyX a0 a1 a2 a3 a4) (k0_pay13 (F := Ideal) a6) a7) r = Cert.Layer.proj h e nh ne T := funext fun j => by
    unfold rowOf
    rw [projection_results a0 a1 a2 a3 a4 a6 a7 r h e nh ne T e0 e1 e3 e4 hT]
    unfold Cert.Layer.proj
    simp only [hm]
  rw [out_11, out_12, out_13]
  have := quantized20 (bodyX a0 a1 a2 a3 a4) (k0_pay13 (F := Ideal) a6) a7 a5 r
  rw [hp, e5] at this
  exact this
end

/-! ## The run -/

variable (m : (ℓ : Loc nD τ sig) → Buf (Elt Ideal) ℓ) (ρ : Dev nD → PrngReg)

theorem iblk_0 (c : Dev nD) (t : Fin cfg0.N) : iblk m c 0 t = V m c main_v2 := by
  have hz : (fun a => (win0_0.index t) a * main_v2.ty.shape.size a) = fun _ => 0 := funext fun a => Nat.zero_mul _
  exact Memref.read_access_unit_zero (Elt Ideal) main_v2 hz (fun a => by rw [congrFun hz a]; omega) _
theorem iblk_1 (c : Dev nD) (t : Fin cfg0.N) : iblk m c 1 t = V m c main_v9 := by
  have hz : (fun a => (win0_1.index t) a * main_v9.ty.shape.size a) = fun _ => 0 := funext fun a => Nat.zero_mul _
  exact Memref.read_access_unit_zero (Elt Ideal) main_v9 hz (fun a => by rw [congrFun hz a]; omega) _
theorem iblk_2 (c : Dev nD) (t : Fin cfg0.N) : iblk m c 2 t = V m c main_v16 := by
  have hz : (fun a => (win0_2.index t) a * main_v16.ty.shape.size a) = fun _ => 0 := funext fun a => Nat.zero_mul _
  exact Memref.read_access_unit_zero (Elt Ideal) main_v16 hz (fun a => by rw [congrFun hz a]; omega) _
theorem iblk_3 (c : Dev nD) (t : Fin cfg0.N) : iblk m c 3 t = V m c main_v17 := by
  have hz : (fun a => (win0_3.index t) a * main_v17.ty.shape.size a) = fun _ => 0 := funext fun a => Nat.zero_mul _
  exact Memref.read_access_unit_zero (Elt Ideal) main_v17 hz (fun a => by rw [congrFun hz a]; omega) _
theorem iblk_4 (c : Dev nD) (t : Fin cfg0.N) : iblk m c 4 t = V m c main_v18 := by
  have hz : (fun a => (win0_4.index t) a * main_v18.ty.shape.size a) = fun _ => 0 := funext fun a => Nat.zero_mul _
  exact Memref.read_access_unit_zero (Elt Ideal) main_v18 hz (fun a => by rw [congrFun hz a]; omega) _
theorem iblk_5 (c : Dev nD) (t : Fin cfg0.N) : iblk m c 5 t = V m c main_v19 := by
  have hz : (fun a => (win0_5.index t) a * main_v19.ty.shape.size a) = fun _ => 0 := funext fun a => Nat.zero_mul _
  exact Memref.read_access_unit_zero (Elt Ideal) main_v19 hz (fun a => by rw [congrFun hz a]; omega) _
theorem iblk_6 (c : Dev nD) (t : Fin cfg0.N) : iblk m c 6 t = V m c main_arg7 := by
  have hz : (fun a => (win0_6.index t) a * main_arg7.ty.shape.size a) = fun _ => 0 := funext fun a => Nat.zero_mul _
  exact Memref.read_access_unit_zero (Elt Ideal) main_arg7 hz (fun a => by rw [congrFun hz a]; omega) _
theorem iblk_7 (c : Dev nD) (t : Fin cfg0.N) : iblk m c 7 t = V m c main_arg8 := by
  have hz : (fun a => (win0_7.index t) a * main_arg8.ty.shape.size a) = fun _ => 0 := funext fun a => Nat.zero_mul _
  exact Memref.read_access_unit_zero (Elt Ideal) main_arg8 hz (fun a => by rw [congrFun hz a]; omega) _

/-- The region's one point. -/
abbrev t0 : Fin cfg0.N := ⟨0, by show 0 < grid0.N; decide⟩

section
variable (c : Dev nD)

/-- The arguments' contents. -/
abbrev argH : S2x128x2560.Idx → EReal := m ((c : Thread nD τ).loc main_arg0)
abbrev argI : S2x129.Idx → BitVec 32 := m ((c : Thread nD τ).loc main_arg1)
abbrev argC : S151936x2560.Idx → BitVec 8 := m ((c : Thread nD τ).loc main_arg2)
abbrev argS : S151936x20.Idx → EReal := m ((c : Thread nD τ).loc main_arg3)
abbrev argNh : S2560.Idx → EReal := m ((c : Thread nD τ).loc main_arg4)
abbrev argNe : S2560.Idx → EReal := m ((c : Thread nD τ).loc main_arg5)
abbrev argNf : S2560.Idx → EReal := m ((c : Thread nD τ).loc main_arg6)
abbrev argW : S5120x2560.Idx → EReal := m ((c : Thread nD τ).loc main_arg7)
abbrev argT : S40x20.Idx → EReal := m ((c : Thread nD τ).loc main_arg8)

theorem row_hidden (r : Fin 256) : rowOf (iblk m c 0 t0) r = Cert.Layer.hid (argH m c) r := by
  rw [iblk_0]
  exact (congrArg (fun X => rowOf X r) (after_hidden fun b => m (c, b))).trans (rowOf_hidden _ r)
theorem row_embedding (hI : Cert.Layer.InVocab (argI m c)) (r : Fin 256) : rowOf (rows (iblk m c 1 t0) (iblk m c 2 t0)) r = Cert.Layer.emb (argI m c) (argC m c) (argS m c) r := by
  rw [iblk_1, iblk_2]
  funext j
  unfold rowOf Cert.Layer.emb
  rw [rows_apply]
  have h1 : V m c main_v9 (ix2 r ⟨j % 2560, Nat.mod_lt _ (by decide)⟩) = argC m c (ix2 (Cert.Layer.row (argI m c) r) ⟨j % 2560, Nat.mod_lt _ (by decide)⟩) :=
    (congrFun (after_codes fun b => m (c, b)) _).trans (codes_at _ _ hI r _)
  have h2 : V m c main_v16 (ix2 r ⟨j % 2560 / 128, by have := Nat.mod_lt j (show 0 < 2560 by decide); omega⟩) = argS m c (ix2 (Cert.Layer.row (argI m c) r) ⟨j % 2560 / 128, by have := Nat.mod_lt j (show 0 < 2560 by decide); omega⟩) :=
    (congrFun (after_scales fun b => m (c, b)) _).trans (scales_at _ _ hI r _)
  exact congrArg₂ (fun (a : BitVec 8) (b : EReal) => FloatOps.sitofp (F := Ideal) .f32 a * b) h1 h2
theorem weights_hidden : wOf (iblk m c 3 t0) = Cert.Layer.wts (argNh m c) := by
  rw [iblk_3]
  exact (congrArg wOf (after_nh fun b => m (c, b))).trans (wOf_weights _)
theorem weights_embedding : wOf (iblk m c 4 t0) = Cert.Layer.wts (argNe m c) := by
  rw [iblk_4]
  exact (congrArg wOf (after_ne fun b => m (c, b))).trans (wOf_weights _)
theorem weights_result : wOf (iblk m c 5 t0) = Cert.Layer.wts (argNf m c) := by
  rw [iblk_5]
  exact (congrArg wOf (after_nf fun b => m (c, b))).trans (wOf_weights _)
theorem weights_projection (k : Fin 5120) (j : Fin 2560) :
    HMul.hMul (α := EReal) (β := EReal) (γ := EReal) (iblk m c 6 t0 (ix2 k j)) (iblk m c 7 t0 (ix2 ⟨k.val / 128, by omega⟩ ⟨j.val / 128, by omega⟩)) = Cert.Layer.mat (argW m c) (argT m c) k.val j.val := by
  rw [iblk_6, iblk_7, V_main_arg7, V_main_arg8]
  unfold Cert.Layer.mat
  refine congrArg₂ (· * ·) (congrArg₂ (fun a b => argW m c (ix2 a b)) (Fin.ext ?_) (Fin.ext ?_)) (congrArg₂ (fun a b => argT m c (ix2 a b)) (Fin.ext ?_) (Fin.ext ?_))
  · exact (Nat.mod_eq_of_lt k.isLt).symm
  · exact (Nat.mod_eq_of_lt j.isLt).symm
  · exact congrArg (· / 128) (Nat.mod_eq_of_lt k.isLt).symm
  · exact congrArg (· / 128) (Nat.mod_eq_of_lt j.isLt).symm
end

/-- A result array after the region. -/
theorem arr_8 (c : Dev nD) (hI : Cert.Layer.InVocab (argI m c)) : (dats m 0 c).arrAt (8 : Fin 14) cfg0.N = Cert.Layer.out1 (argH m c) (argI m c) (argC m c) (argS m c) (argNh m c) (argNe m c) (argW m c) (argT m c) := by
  have hlt : 0 < cfg0.N := by show 0 < grid0.N; decide
  have hw : ((cfg0.win 8).blk t0).view.read (Elt Ideal) ((dats m 0 c).arrAt (8 : Fin 14) cfg0.N) = out0_8 (F := Ideal) (iblk m c 0 t0) (iblk m c 1 t0) (iblk m c 2 t0) (iblk m c 3 t0) (iblk m c 4 t0) (iblk m c 5 t0) (iblk m c 6 t0) (iblk m c 7 t0) := by
    rw [show cfg0.N = t0.val + 1 from rfl, (dats m 0 c).arrAt_succ (8 : Fin 14) t0, if_pos (flush0_8 _)]
    refine (View.read_write_univ _ _).trans ?_
    show (dats m 0 c).after 8 t0 = _
    rw [after0_8]
  have hz : (fun a => (win0_8.index t0) a * main_v20_0.ty.shape.size a) = fun _ => 0 := funext fun a => Nat.zero_mul _
  have hr := fun f => Memref.read_access_unit_zero (Elt Ideal) main_v20_0 hz (fun a => by rw [congrFun hz a]; omega) f
  refine ((hr _).symm.trans hw).trans (funext fun x => ?_)
  obtain ⟨r, j, rfl⟩ : ∃ (r : Fin 256) (j : Fin 2560), x = ix2 r j := ⟨x 0, x 1, eq_ix2 x⟩
  rw [out_8, pay15_eq]
  exact projection_results (iblk m c 0 t0) (iblk m c 1 t0) (iblk m c 2 t0) (iblk m c 3 t0) (iblk m c 4 t0) (iblk m c 6 t0) (iblk m c 7 t0) r _ _ _ _ _ (row_hidden m c r) (row_embedding m c hI r) (weights_hidden m c) (weights_embedding m c) (weights_projection m c) j

/-- A result array after the region. -/
theorem arr_9 (c : Dev nD) (hI : Cert.Layer.InVocab (argI m c)) : (dats m 0 c).arrAt (9 : Fin 14) cfg0.N = Cert.Layer.out2 (argH m c) (argI m c) (argC m c) (argS m c) (argNh m c) (argNe m c) := by
  have hlt : 0 < cfg0.N := by show 0 < grid0.N; decide
  have hw : ((cfg0.win 9).blk t0).view.read (Elt Ideal) ((dats m 0 c).arrAt (9 : Fin 14) cfg0.N) = out0_9 (F := Ideal) (iblk m c 0 t0) (iblk m c 1 t0) (iblk m c 2 t0) (iblk m c 3 t0) (iblk m c 4 t0) (iblk m c 5 t0) (iblk m c 6 t0) (iblk m c 7 t0) := by
    rw [show cfg0.N = t0.val + 1 from rfl, (dats m 0 c).arrAt_succ (9 : Fin 14) t0, if_pos (flush0_9 _)]
    refine (View.read_write_univ _ _).trans ?_
    show (dats m 0 c).after 9 t0 = _
    rw [after0_9]
  have hz : (fun a => (win0_9.index t0) a * main_v20_1.ty.shape.size a) = fun _ => 0 := funext fun a => Nat.zero_mul _
  have hr := fun f => Memref.read_access_unit_zero (Elt Ideal) main_v20_1 hz (fun a => by rw [congrFun hz a]; omega) f
  refine ((hr _).symm.trans hw).trans (funext fun x => ?_)
  obtain ⟨r, j, rfl⟩ : ∃ (r : Fin 256) (j : Fin 5120), x = ix2 r j := ⟨x 0, x 1, eq_ix2 x⟩
  exact (operand_results (iblk m c 0 t0) (iblk m c 1 t0) (iblk m c 2 t0) (iblk m c 3 t0) (iblk m c 4 t0) (iblk m c 5 t0) (iblk m c 6 t0) (iblk m c 7 t0) r _ _ _ _ (row_hidden m c r) (row_embedding m c hI r) (weights_hidden m c) (weights_embedding m c)).1 j

/-- A result array after the region. -/
theorem arr_10 (c : Dev nD) (hI : Cert.Layer.InVocab (argI m c)) : (dats m 0 c).arrAt (10 : Fin 14) cfg0.N = Cert.Layer.out3 (argH m c) (argI m c) (argC m c) (argS m c) (argNh m c) (argNe m c) := by
  have hlt : 0 < cfg0.N := by show 0 < grid0.N; decide
  have hw : ((cfg0.win 10).blk t0).view.read (Elt Ideal) ((dats m 0 c).arrAt (10 : Fin 14) cfg0.N) = out0_10 (F := Ideal) (iblk m c 0 t0) (iblk m c 1 t0) (iblk m c 2 t0) (iblk m c 3 t0) (iblk m c 4 t0) (iblk m c 5 t0) (iblk m c 6 t0) (iblk m c 7 t0) := by
    rw [show cfg0.N = t0.val + 1 from rfl, (dats m 0 c).arrAt_succ (10 : Fin 14) t0, if_pos (flush0_10 _)]
    refine (View.read_write_univ _ _).trans ?_
    show (dats m 0 c).after 10 t0 = _
    rw [after0_10]
  have hz : (fun a => (win0_10.index t0) a * main_v20_2.ty.shape.size a) = fun _ => 0 := funext fun a => Nat.zero_mul _
  have hr := fun f => Memref.read_access_unit_zero (Elt Ideal) main_v20_2 hz (fun a => by rw [congrFun hz a]; omega) f
  refine ((hr _).symm.trans hw).trans (funext fun x => ?_)
  obtain ⟨r, j, rfl⟩ : ∃ (r : Fin 256) (j : Fin 40), x = ix2 r j := ⟨x 0, x 1, eq_ix2 x⟩
  exact (operand_results (iblk m c 0 t0) (iblk m c 1 t0) (iblk m c 2 t0) (iblk m c 3 t0) (iblk m c 4 t0) (iblk m c 5 t0) (iblk m c 6 t0) (iblk m c 7 t0) r _ _ _ _ (row_hidden m c r) (row_embedding m c hI r) (weights_hidden m c) (weights_embedding m c)).2.1 j

/-- A result array after the region. -/
theorem arr_11 (c : Dev nD) (hI : Cert.Layer.InVocab (argI m c)) : (dats m 0 c).arrAt (11 : Fin 14) cfg0.N = Cert.Layer.out4 (argH m c) (argI m c) (argC m c) (argS m c) (argNh m c) (argNe m c) (argNf m c) (argW m c) (argT m c) := by
  have hlt : 0 < cfg0.N := by show 0 < grid0.N; decide
  have hw : ((cfg0.win 11).blk t0).view.read (Elt Ideal) ((dats m 0 c).arrAt (11 : Fin 14) cfg0.N) = out0_11 (F := Ideal) (iblk m c 0 t0) (iblk m c 1 t0) (iblk m c 2 t0) (iblk m c 3 t0) (iblk m c 4 t0) (iblk m c 5 t0) (iblk m c 6 t0) (iblk m c 7 t0) := by
    rw [show cfg0.N = t0.val + 1 from rfl, (dats m 0 c).arrAt_succ (11 : Fin 14) t0, if_pos (flush0_11 _)]
    refine (View.read_write_univ _ _).trans ?_
    show (dats m 0 c).after 11 t0 = _
    rw [after0_11]
  have hz : (fun a => (win0_11.index t0) a * main_v20_3.ty.shape.size a) = fun _ => 0 := funext fun a => Nat.zero_mul _
  have hr := fun f => Memref.read_access_unit_zero (Elt Ideal) main_v20_3 hz (fun a => by rw [congrFun hz a]; omega) f
  refine ((hr _).symm.trans hw).trans (funext fun x => ?_)
  obtain ⟨r, j, rfl⟩ : ∃ (r : Fin 256) (j : Fin 2560), x = ix2 r j := ⟨x 0, x 1, eq_ix2 x⟩
  exact (result_results (iblk m c 0 t0) (iblk m c 1 t0) (iblk m c 2 t0) (iblk m c 3 t0) (iblk m c 4 t0) (iblk m c 5 t0) (iblk m c 6 t0) (iblk m c 7 t0) r _ _ _ _ _ _ (row_hidden m c r) (row_embedding m c hI r) (weights_hidden m c) (weights_embedding m c) (weights_result m c) (weights_projection m c) (Cert.Layer.mat_mod _ _)).1 j

/-- A result array after the region. -/
theorem arr_12 (c : Dev nD) (hI : Cert.Layer.InVocab (argI m c)) : (dats m 0 c).arrAt (12 : Fin 14) cfg0.N = Cert.Layer.out5 (argH m c) (argI m c) (argC m c) (argS m c) (argNh m c) (argNe m c) (argNf m c) (argW m c) (argT m c) := by
  have hlt : 0 < cfg0.N := by show 0 < grid0.N; decide
  have hw : ((cfg0.win 12).blk t0).view.read (Elt Ideal) ((dats m 0 c).arrAt (12 : Fin 14) cfg0.N) = out0_12 (F := Ideal) (iblk m c 0 t0) (iblk m c 1 t0) (iblk m c 2 t0) (iblk m c 3 t0) (iblk m c 4 t0) (iblk m c 5 t0) (iblk m c 6 t0) (iblk m c 7 t0) := by
    rw [show cfg0.N = t0.val + 1 from rfl, (dats m 0 c).arrAt_succ (12 : Fin 14) t0, if_pos (flush0_12 _)]
    refine (View.read_write_univ _ _).trans ?_
    show (dats m 0 c).after 12 t0 = _
    rw [after0_12]
  have hz : (fun a => (win0_12.index t0) a * main_v20_4.ty.shape.size a) = fun _ => 0 := funext fun a => Nat.zero_mul _
  have hr := fun f => Memref.read_access_unit_zero (Elt Ideal) main_v20_4 hz (fun a => by rw [congrFun hz a]; omega) f
  refine ((hr _).symm.trans hw).trans (funext fun x => ?_)
  obtain ⟨r, j, rfl⟩ : ∃ (r : Fin 256) (j : Fin 20), x = ix2 r j := ⟨x 0, x 1, eq_ix2 x⟩
  exact (result_results (iblk m c 0 t0) (iblk m c 1 t0) (iblk m c 2 t0) (iblk m c 3 t0) (iblk m c 4 t0) (iblk m c 5 t0) (iblk m c 6 t0) (iblk m c 7 t0) r _ _ _ _ _ _ (row_hidden m c r) (row_embedding m c hI r) (weights_hidden m c) (weights_embedding m c) (weights_result m c) (weights_projection m c) (Cert.Layer.mat_mod _ _)).2.1 j

/-- A result array after the region. -/
theorem arr_13 (c : Dev nD) (hI : Cert.Layer.InVocab (argI m c)) : (dats m 0 c).arrAt (13 : Fin 14) cfg0.N = Cert.Layer.out6 (argH m c) (argI m c) (argC m c) (argS m c) (argNh m c) (argNe m c) (argNf m c) (argW m c) (argT m c) := by
  have hlt : 0 < cfg0.N := by show 0 < grid0.N; decide
  have hw : ((cfg0.win 13).blk t0).view.read (Elt Ideal) ((dats m 0 c).arrAt (13 : Fin 14) cfg0.N) = out0_13 (F := Ideal) (iblk m c 0 t0) (iblk m c 1 t0) (iblk m c 2 t0) (iblk m c 3 t0) (iblk m c 4 t0) (iblk m c 5 t0) (iblk m c 6 t0) (iblk m c 7 t0) := by
    rw [show cfg0.N = t0.val + 1 from rfl, (dats m 0 c).arrAt_succ (13 : Fin 14) t0, if_pos (flush0_13 _)]
    refine (View.read_write_univ _ _).trans ?_
    show (dats m 0 c).after 13 t0 = _
    rw [after0_13]
  have hz : (fun a => (win0_13.index t0) a * main_v20_5.ty.shape.size a) = fun _ => 0 := funext fun a => Nat.zero_mul _
  have hr := fun f => Memref.read_access_unit_zero (Elt Ideal) main_v20_5 hz (fun a => by rw [congrFun hz a]; omega) f
  refine ((hr _).symm.trans hw).trans (funext fun x => ?_)
  obtain ⟨r, j, rfl⟩ : ∃ (r : Fin 256) (j : Fin 2560), x = ix2 r j := ⟨x 0, x 1, eq_ix2 x⟩
  exact (result_results (iblk m c 0 t0) (iblk m c 1 t0) (iblk m c 2 t0) (iblk m c 3 t0) (iblk m c 4 t0) (iblk m c 5 t0) (iblk m c 6 t0) (iblk m c 7 t0) r _ _ _ _ _ _ (row_hidden m c r) (row_embedding m c hI r) (weights_hidden m c) (weights_embedding m c) (weights_result m c) (weights_projection m c) (Cert.Layer.mat_mod _ _)).2.2 j

/-- THE REFERENCE'S RUN: from tokens in the vocabulary, every run ends with the specified layer in the results and the
    arguments as they were. -/
theorem run_layer (hI : ∀ c : Dev nD, Cert.Layer.InVocab (argI m c)) :
    θ_run defs (onTc (τ := τ) (main (F := Ideal))) ⟨m, fun _ => 0, ρ⟩ (fun r => ∀ c : Dev nD,
      (r.2.mem ((c.tc : Thread nD τ).loc main_v20_0) = Cert.Layer.out1 (argH m c) (argI m c) (argC m c) (argS m c) (argNh m c) (argNe m c) (argW m c) (argT m c)
      ∧ r.2.mem ((c.tc : Thread nD τ).loc main_v20_1) = Cert.Layer.out2 (argH m c) (argI m c) (argC m c) (argS m c) (argNh m c) (argNe m c)
      ∧ r.2.mem ((c.tc : Thread nD τ).loc main_v20_2) = Cert.Layer.out3 (argH m c) (argI m c) (argC m c) (argS m c) (argNh m c) (argNe m c)
      ∧ r.2.mem ((c.tc : Thread nD τ).loc main_v20_3) = Cert.Layer.out4 (argH m c) (argI m c) (argC m c) (argS m c) (argNh m c) (argNe m c) (argNf m c) (argW m c) (argT m c)
      ∧ r.2.mem ((c.tc : Thread nD τ).loc main_v20_4) = Cert.Layer.out5 (argH m c) (argI m c) (argC m c) (argS m c) (argNh m c) (argNe m c) (argNf m c) (argW m c) (argT m c)
      ∧ r.2.mem ((c.tc : Thread nD τ).loc main_v20_5) = Cert.Layer.out6 (argH m c) (argI m c) (argC m c) (argS m c) (argNh m c) (argNe m c) (argNf m c) (argW m c) (argT m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h' c => ⟨⟨((h'.1 c).1 8).trans (arr_8 m c (hI c)), ((h'.1 c).1 9).trans (arr_9 m c (hI c)), ((h'.1 c).1 10).trans (arr_10 m c (hI c)), ((h'.1 c).1 11).trans (arr_11 m c (hI c)), ((h'.1 c).1 12).trans (arr_12 m c (hI c)), ((h'.1 c).1 13).trans (arr_13 m c (hI c))⟩, h'.2 c⟩)
    (θ_run_and (run_main m ρ) (unchanged m ρ))

end Cert.FrontReferenceIdeal.Val

end
-- ==== Proof.lean ====
module

public import proofs.«01_k».proof.Defs
public import proofs.«01_k».proof.Proof.Kernel.Point
public import proofs.«01_k».proof.Proof.KernelIdeal.Value
public import proofs.«01_k».proof.Proof.ReferenceIdeal.Value
public import proofs.«01_k».proof.Proof.Targets
public import proofs.«01_k».proof.Proof.Tokens
public import proofs.«01_k».proof.Proof.Front.Point
public import proofs.«01_k».proof.Proof.FrontIdeal.Point
public import proofs.«01_k».proof.Proof.Gen.Front.Loops
public import proofs.«01_k».proof.Proof.Gen.FrontIdeal.Loops
public import proofs.«01_k».proof.Proof.Gen.FrontReferenceIdeal.Frame
public import proofs.«01_k».proof.Proof.Norms
public import proofs.«01_k».proof.Proof.FrontIdeal.Host
public import proofs.«01_k».proof.Proof.FrontReferenceIdeal.Value

@[expose] public section

noncomputable section

namespace Cert.Proof

open Idealize.ShloMosaic Idealize.SL.Sem

/-- Both programs end with the specified loss of their arguments, so with equal results. -/
theorem algebraic : Cert.algebraic_KernelIdeal_ReferenceIdeal_pre_targets_in_vocab (hKernelIdeal := Cert.KernelIdeal.Gen.facts)
    (hReferenceIdeal := Cert.ReferenceIdeal.Gen.facts) (hPre_targets_in_vocab := Cert.Pre_targets_in_vocab.facts) := by
  intro m g m' g' hpre hargs
  have h : ∀ c : Dev Cert.KernelIdeal.nD, Cert.Loss.InVocab (Cert.KernelIdeal.Head.argIds m c) := fun c =>
    @Cert.Pre_targets_in_vocab.inVocab Cert.Pre_targets_in_vocab.facts _ _ _ _ (hpre c)
  have h' : ∀ c : Dev Cert.ReferenceIdeal.nD, Cert.Loss.InVocab (m' ((c.tc : Thread Cert.ReferenceIdeal.nD Cert.ReferenceIdeal.τ).loc Cert.ReferenceIdeal.main_arg0)) :=
    fun c => by rw [(hargs c).1]; exact h c
  refine ⟨fun c => Cert.Loss.result (Cert.KernelIdeal.Head.argIds m c) (Cert.KernelIdeal.Head.argY m c) (Cert.KernelIdeal.Head.argC m c)
    (Cert.KernelIdeal.Head.argS m c) (h c), Cert.KernelIdeal.Head.run_loss m g h,
    (θ_run _ _ _).mono (fun r hr c => ⟨(hr c).1.trans ?_, (hr c).2⟩) (Cert.ReferenceIdeal.Val.run_loss m' g' h')⟩
  congr 1
  · exact (hargs c).1
  · exact (hargs c).2.1
  · exact (hargs c).2.2.1
  · exact (hargs c).2.2.2

/-- The front runs to its end with its arguments unchanged, over any floats, -/
theorem front_frame : Cert.quiescent_Front (hFront := Cert.Front.Gen.facts) (hPre_tokens_in_vocab := Cert.Pre_tokens_in_vocab.facts) :=
  fun m ρ h => Cert.Front.Layer.run_frame m ρ fun c => @Cert.Pre_tokens_in_vocab.inVocab Cert.Pre_tokens_in_vocab.facts _ _ _ _ _ _ _ _ _ _ _ (h c)
/-- and over the extended reals. -/
theorem frontIdeal_frame : Cert.quiescent_FrontIdeal (hFrontIdeal := Cert.FrontIdeal.Gen.facts) (hPre_tokens_in_vocab := Cert.Pre_tokens_in_vocab.facts) :=
  fun m ρ h => Cert.FrontIdeal.Layer.run_frame m ρ fun c => @Cert.Pre_tokens_in_vocab.inVocab Cert.Pre_tokens_in_vocab.facts _ _ _ _ _ _ _ _ _ _ _ (h c)

/-- The front's tokens are in the vocabulary where its longer precondition holds, -/
theorem front_tokens (m : (ℓ : Loc Cert.FrontIdeal.nD Cert.FrontIdeal.τ Cert.FrontIdeal.sig) → Buf (Elt Ideal) ℓ)
    (hpre : Cert.Pre_FrontIdeal_tokens_in_vocab_and_norms_bounded (hPre_tokens_in_vocab_and_norms_bounded := Cert.Pre_tokens_in_vocab_and_norms_bounded.facts) m)
    (c : Dev Cert.FrontIdeal.nD) (x : Cert.FrontIdeal.S2x129.Idx) (hx : (x 1).val < 128) : BitVec.toNat (Cert.FrontIdeal.Layer.argI m c x) < 151936 :=
  @Cert.Pre_tokens_in_vocab_and_norms_bounded.inVocab Cert.Pre_tokens_in_vocab_and_norms_bounded.facts _ _ _ _ _ _ _ _ _ (hpre c) x hx

/-- and its norm weights are bounded. -/
theorem front_norms (m : (ℓ : Loc Cert.FrontIdeal.nD Cert.FrontIdeal.τ Cert.FrontIdeal.sig) → Buf (Elt Ideal) ℓ)
    (hpre : Cert.Pre_FrontIdeal_tokens_in_vocab_and_norms_bounded (hPre_tokens_in_vocab_and_norms_bounded := Cert.Pre_tokens_in_vocab_and_norms_bounded.facts) m)
    (c : Dev Cert.FrontIdeal.nD) : Cert.FrontIdeal.Layer.Bounded (Cert.FrontIdeal.Layer.argNh m c) ∧ Cert.FrontIdeal.Layer.Bounded (Cert.FrontIdeal.Layer.argNe m c)
      ∧ Cert.FrontIdeal.Layer.Bounded (Cert.FrontIdeal.Layer.argNf m c) :=
  have b := @Cert.Pre_tokens_in_vocab_and_norms_bounded.bounded Cert.Pre_tokens_in_vocab_and_norms_bounded.facts _ _ _ _ _ _ _ _ _ (hpre c)
  ⟨fun j => (b (ix1 j)).1, fun j => (b (ix1 j)).2.1, fun j => (b (ix1 j)).2.2⟩

/-- With the longer precondition the front runs to its end with its arguments unchanged. -/
theorem frontIdeal_frame_bounded : Cert.quiescent_FrontIdeal_pre_tokens_in_vocab_and_norms_bounded (hFrontIdeal := Cert.FrontIdeal.Gen.facts)
    (hPre_tokens_in_vocab_and_norms_bounded := Cert.Pre_tokens_in_vocab_and_norms_bounded.facts) :=
  fun m ρ h => Cert.FrontIdeal.Layer.run_frame m ρ fun c x hx => front_tokens m h c x hx

/-- Both programs of the front end with the specified layer of their arguments, so with equal results. -/
theorem algebraic_front : Cert.algebraic_FrontIdeal_FrontReferenceIdeal_pre_tokens_in_vocab_and_norms_bounded (hFrontIdeal := Cert.FrontIdeal.Gen.facts)
    (hFrontReferenceIdeal := Cert.FrontReferenceIdeal.Gen.facts) (hPre_tokens_in_vocab_and_norms_bounded := Cert.Pre_tokens_in_vocab_and_norms_bounded.facts) := by
  intro m g m' g' hpre hargs
  have ht := front_tokens m hpre
  have h : ∀ c : Dev Cert.FrontIdeal.nD, Cert.Layer.InVocab (Cert.FrontIdeal.Layer.argI m c) :=
    fun c r => ht c _ (Nat.mod_lt _ (by decide))
  have eargH : ∀ c, Cert.FrontReferenceIdeal.Val.argH m' c = Cert.FrontIdeal.Layer.argH m c := fun c => (hargs c).1
  have eargI : ∀ c, Cert.FrontReferenceIdeal.Val.argI m' c = Cert.FrontIdeal.Layer.argI m c := fun c => (hargs c).2.1
  have eargC : ∀ c, Cert.FrontReferenceIdeal.Val.argC m' c = Cert.FrontIdeal.Layer.argC m c := fun c => (hargs c).2.2.1
  have eargS : ∀ c, Cert.FrontReferenceIdeal.Val.argS m' c = Cert.FrontIdeal.Layer.argS m c := fun c => (hargs c).2.2.2.1
  have eargNh : ∀ c, Cert.FrontReferenceIdeal.Val.argNh m' c = Cert.FrontIdeal.Layer.argNh m c := fun c => (hargs c).2.2.2.2.1
  have eargNe : ∀ c, Cert.FrontReferenceIdeal.Val.argNe m' c = Cert.FrontIdeal.Layer.argNe m c := fun c => (hargs c).2.2.2.2.2.1
  have eargNf : ∀ c, Cert.FrontReferenceIdeal.Val.argNf m' c = Cert.FrontIdeal.Layer.argNf m c := fun c => (hargs c).2.2.2.2.2.2.1
  have eargW : ∀ c, Cert.FrontReferenceIdeal.Val.argW m' c = Cert.FrontIdeal.Layer.argW m c := fun c => (hargs c).2.2.2.2.2.2.2.1
  have eargT : ∀ c, Cert.FrontReferenceIdeal.Val.argT m' c = Cert.FrontIdeal.Layer.argT m c := fun c => (hargs c).2.2.2.2.2.2.2.2
  have h' : ∀ c : Dev Cert.FrontReferenceIdeal.nD, Cert.Layer.InVocab (Cert.FrontReferenceIdeal.Val.argI m' c) := fun c => by
    rw [eargI]; exact h c
  refine ⟨fun c => Cert.Layer.out1 (Cert.FrontIdeal.Layer.argH m c) (Cert.FrontIdeal.Layer.argI m c) (Cert.FrontIdeal.Layer.argC m c) (Cert.FrontIdeal.Layer.argS m c) (Cert.FrontIdeal.Layer.argNh m c) (Cert.FrontIdeal.Layer.argNe m c) (Cert.FrontIdeal.Layer.argW m c) (Cert.FrontIdeal.Layer.argT m c),
    fun c => Cert.Layer.out2 (Cert.FrontIdeal.Layer.argH m c) (Cert.FrontIdeal.Layer.argI m c) (Cert.FrontIdeal.Layer.argC m c) (Cert.FrontIdeal.Layer.argS m c) (Cert.FrontIdeal.Layer.argNh m c) (Cert.FrontIdeal.Layer.argNe m c),
    fun c => Cert.Layer.out3 (Cert.FrontIdeal.Layer.argH m c) (Cert.FrontIdeal.Layer.argI m c) (Cert.FrontIdeal.Layer.argC m c) (Cert.FrontIdeal.Layer.argS m c) (Cert.FrontIdeal.Layer.argNh m c) (Cert.FrontIdeal.Layer.argNe m c),
    fun c => Cert.Layer.out4 (Cert.FrontIdeal.Layer.argH m c) (Cert.FrontIdeal.Layer.argI m c) (Cert.FrontIdeal.Layer.argC m c) (Cert.FrontIdeal.Layer.argS m c) (Cert.FrontIdeal.Layer.argNh m c) (Cert.FrontIdeal.Layer.argNe m c) (Cert.FrontIdeal.Layer.argNf m c) (Cert.FrontIdeal.Layer.argW m c) (Cert.FrontIdeal.Layer.argT m c),
    fun c => Cert.Layer.out5 (Cert.FrontIdeal.Layer.argH m c) (Cert.FrontIdeal.Layer.argI m c) (Cert.FrontIdeal.Layer.argC m c) (Cert.FrontIdeal.Layer.argS m c) (Cert.FrontIdeal.Layer.argNh m c) (Cert.FrontIdeal.Layer.argNe m c) (Cert.FrontIdeal.Layer.argNf m c) (Cert.FrontIdeal.Layer.argW m c) (Cert.FrontIdeal.Layer.argT m c),
    fun c => Cert.Layer.out6 (Cert.FrontIdeal.Layer.argH m c) (Cert.FrontIdeal.Layer.argI m c) (Cert.FrontIdeal.Layer.argC m c) (Cert.FrontIdeal.Layer.argS m c) (Cert.FrontIdeal.Layer.argNh m c) (Cert.FrontIdeal.Layer.argNe m c) (Cert.FrontIdeal.Layer.argNf m c) (Cert.FrontIdeal.Layer.argW m c) (Cert.FrontIdeal.Layer.argT m c),
    (θ_run _ _ _).mono (fun r hr c => ?_) (Cert.FrontIdeal.Layer.run_value m g ht),
    (θ_run _ _ _).mono (fun r hr c => ?_) (Cert.FrontReferenceIdeal.Val.run_layer m' g' h')⟩
  · obtain ⟨hh, he, hf⟩ := front_norms m hpre c
    obtain ⟨⟨r0, r1, r2, r3, r4, r5⟩, rest⟩ := hr c
    exact ⟨r0.trans (Cert.FrontIdeal.Layer.res8_eq m c (h c) hh he), r1.trans (Cert.FrontIdeal.Layer.res9_eq m c (h c) hh he),
      r2.trans (Cert.FrontIdeal.Layer.res10_eq m c (h c) hh he), r3.trans (Cert.FrontIdeal.Layer.res11_eq m c (h c) hh he hf),
      r4.trans (Cert.FrontIdeal.Layer.res12_eq m c (h c) hh he hf), r5.trans (Cert.FrontIdeal.Layer.res13_eq m c (h c) hh he hf), rest⟩
  · obtain ⟨⟨r0, r1, r2, r3, r4, r5⟩, rest⟩ := hr c
    refine ⟨r0.trans ?_, r1.trans ?_, r2.trans ?_, r3.trans ?_, r4.trans ?_, r5.trans ?_, rest⟩
    · rw [eargH, eargI, eargC, eargS, eargNh, eargNe, eargW, eargT]
    · rw [eargH, eargI, eargC, eargS, eargNh, eargNe]
    · rw [eargH, eargI, eargC, eargS, eargNh, eargNe]
    · rw [eargH, eargI, eargC, eargS, eargNh, eargNe, eargNf, eargW, eargT]
    · rw [eargH, eargI, eargC, eargS, eargNh, eargNe, eargNf, eargW, eargT]
    · rw [eargH, eargI, eargC, eargS, eargNh, eargNe, eargNf, eargW, eargT]

/-- The claim: each program runs to its end with its arguments unchanged and its counters at zero, each idealization is the
    program's own text, and over the extended reals kernel and reference of the head end with equal losses, kernel and
    reference of the front with equal results. -/
theorem claim : Cert.Claim := ⟨Cert.Kernel.Gen.facts, Cert.KernelIdeal.Gen.facts, Cert.ReferenceIdeal.Gen.facts,
  Cert.Front.Gen.facts, Cert.FrontIdeal.Gen.facts, Cert.FrontReferenceIdeal.Gen.facts, Cert.Pre_targets_in_vocab.facts,
  Cert.Pre_tokens_in_vocab.facts, Cert.Pre_tokens_in_vocab_and_norms_bounded.facts,
  fun m ρ _ => Cert.Kernel.Head.run_frame m ρ,
  fun m ρ _ => Cert.KernelIdeal.Head.run_frame m ρ, fun m ρ _ => Cert.KernelIdeal.Head.run_frame m ρ,
  fun m ρ _ => Cert.ReferenceIdeal.Gen.frame m ρ, fun m ρ _ => Cert.ReferenceIdeal.Gen.frame m ρ,
  front_frame, frontIdeal_frame, frontIdeal_frame_bounded,
  fun m ρ _ => Cert.FrontReferenceIdeal.Gen.frame m ρ, fun m ρ _ => Cert.FrontReferenceIdeal.Gen.frame m ρ,
  trivial, algebraic, trivial, algebraic_front⟩

end Cert.Proof

end
